-- ==== Defs.lean ====
def Pre_WinKernel (m : (ℓ : Loc Cert.WinKernel.nD Cert.WinKernel.τ Cert.WinKernel.sig) → Buf (Elt Bits) ℓ) : Prop :=
  True

def Pre_WinKernelIdeal (m : (ℓ : Loc Cert.WinKernelIdeal.nD Cert.WinKernelIdeal.τ Cert.WinKernelIdeal.sig) → Buf (Elt Ideal) ℓ) : Prop :=
  True

def Pre_WinKernelIdeal_win_finite [hPre_win_finite : Cert.Pre_win_finite.Facts] (m : (ℓ : Loc Cert.WinKernelIdeal.nD Cert.WinKernelIdeal.τ Cert.WinKernelIdeal.sig) → Buf (Elt Ideal) ℓ) : Prop :=
  ∀ c : Dev Cert.WinKernelIdeal.nD,
    (Cert.Pre_win_finite.fn (F := Ideal) (m ((c.tc : Thread Cert.WinKernelIdeal.nD Cert.WinKernelIdeal.τ).loc Cert.WinKernelIdeal.main_arg0)) (m ((c.tc : Thread Cert.WinKernelIdeal.nD Cert.WinKernelIdeal.τ).loc Cert.WinKernelIdeal.main_arg1)) (m ((c.tc : Thread Cert.WinKernelIdeal.nD Cert.WinKernelIdeal.τ).loc Cert.WinKernelIdeal.main_arg2))) = (fun _ => 1#1)

def Pre_WinReferenceIdeal (m : (ℓ : Loc Cert.WinReferenceIdeal.nD Cert.WinReferenceIdeal.τ Cert.WinReferenceIdeal.sig) → Buf (Elt Ideal) ℓ) : Prop :=
  True

def Pre_WinReferenceIdeal_win_finite [hPre_win_finite : Cert.Pre_win_finite.Facts] (m : (ℓ : Loc Cert.WinReferenceIdeal.nD Cert.WinReferenceIdeal.τ Cert.WinReferenceIdeal.sig) → Buf (Elt Ideal) ℓ) : Prop :=
  ∀ c : Dev Cert.WinReferenceIdeal.nD,
    (Cert.Pre_win_finite.fn (F := Ideal) (m ((c.tc : Thread Cert.WinReferenceIdeal.nD Cert.WinReferenceIdeal.τ).loc Cert.WinReferenceIdeal.main_arg0)) (m ((c.tc : Thread Cert.WinReferenceIdeal.nD Cert.WinReferenceIdeal.τ).loc Cert.WinReferenceIdeal.main_arg1)) (m ((c.tc : Thread Cert.WinReferenceIdeal.nD Cert.WinReferenceIdeal.τ).loc Cert.WinReferenceIdeal.main_arg2))) = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_FfnSampleKernel (m : (ℓ : Loc Cert.FfnSampleKernel.nD Cert.FfnSampleKernel.τ Cert.FfnSampleKernel.sig) → Buf (Elt Bits) ℓ) : Prop :=
  True

def Pre_FfnSampleKernelIdeal (m : (ℓ : Loc Cert.FfnSampleKernelIdeal.nD Cert.FfnSampleKernelIdeal.τ Cert.FfnSampleKernelIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_NaKernel (m : (ℓ : Loc Cert.NaKernel.nD Cert.NaKernel.τ Cert.NaKernel.sig) → Buf (Elt Bits) ℓ) : Prop :=
  True

def Pre_NaKernelIdeal (m : (ℓ : Loc Cert.NaKernelIdeal.nD Cert.NaKernelIdeal.τ Cert.NaKernelIdeal.sig) → Buf (Elt Ideal) ℓ) : Prop :=
  True

def Pre_NaKernelIdeal_na_finite [hPre_na_finite : Cert.Pre_na_finite.Facts] (m : (ℓ : Loc Cert.NaKernelIdeal.nD Cert.NaKernelIdeal.τ Cert.NaKernelIdeal.sig) → Buf (Elt Ideal) ℓ) : Prop :=
  ∀ c : Dev Cert.NaKernelIdeal.nD,
    (Cert.Pre_na_finite.fn (F := Ideal) (m ((c.tc : Thread Cert.NaKernelIdeal.nD Cert.NaKernelIdeal.τ).loc Cert.NaKernelIdeal.main_arg0)) (m ((c.tc : Thread Cert.NaKernelIdeal.nD Cert.NaKernelIdeal.τ).loc Cert.NaKernelIdeal.main_arg1)) (m ((c.tc : Thread Cert.NaKernelIdeal.nD Cert.NaKernelIdeal.τ).loc Cert.NaKernelIdeal.main_arg2)) (m ((c.tc : Thread Cert.NaKernelIdeal.nD Cert.NaKernelIdeal.τ).loc Cert.NaKernelIdeal.main_arg3)) (m ((c.tc : Thread Cert.NaKernelIdeal.nD Cert.NaKernelIdeal.τ).loc Cert.NaKernelIdeal.main_arg4))) = (fun _ => 1#1)

def Pre_NaReferenceIdeal (m : (ℓ : Loc Cert.NaReferenceIdeal.nD Cert.NaReferenceIdeal.τ Cert.NaReferenceIdeal.sig) → Buf (Elt Ideal) ℓ) : Prop :=
  True

def Pre_NaReferenceIdeal_na_finite [hPre_na_finite : Cert.Pre_na_finite.Facts] (m : (ℓ : Loc Cert.NaReferenceIdeal.nD Cert.NaReferenceIdeal.τ Cert.NaReferenceIdeal.sig) → Buf (Elt Ideal) ℓ) : Prop :=
  ∀ c : Dev Cert.NaReferenceIdeal.nD,
    (Cert.Pre_na_finite.fn (F := Ideal) (m ((c.tc : Thread Cert.NaReferenceIdeal.nD Cert.NaReferenceIdeal.τ).loc Cert.NaReferenceIdeal.main_arg0)) (m ((c.tc : Thread Cert.NaReferenceIdeal.nD Cert.NaReferenceIdeal.τ).loc Cert.NaReferenceIdeal.main_arg1)) (m ((c.tc : Thread Cert.NaReferenceIdeal.nD Cert.NaReferenceIdeal.τ).loc Cert.NaReferenceIdeal.main_arg2)) (m ((c.tc : Thread Cert.NaReferenceIdeal.nD Cert.NaReferenceIdeal.τ).loc Cert.NaReferenceIdeal.main_arg3)) (m ((c.tc : Thread Cert.NaReferenceIdeal.nD Cert.NaReferenceIdeal.τ).loc Cert.NaReferenceIdeal.main_arg4))) = (fun _ => 1#1)

def quiescent_WinKernel [hWinKernel : Cert.WinKernel.Facts] : Prop :=
  ∀ (m : (ℓ : Loc Cert.WinKernel.nD Cert.WinKernel.τ Cert.WinKernel.sig) → Buf (Elt Bits) ℓ) (g : Dev Cert.WinKernel.nD → PrngReg), Pre_WinKernel m →
    θ_run (Cert.WinKernel.defs (F := Bits)) (onTc (τ := Cert.WinKernel.τ) (Cert.WinKernel.main (F := Bits))) ⟨m, fun _ => 0, g⟩ (fun r => (∀ c : Dev Cert.WinKernel.nD,
      r.2.mem ((c.tc : Thread Cert.WinKernel.nD Cert.WinKernel.τ).loc Cert.WinKernel.main_arg0) = m ((c.tc : Thread Cert.WinKernel.nD Cert.WinKernel.τ).loc Cert.WinKernel.main_arg0)
      ∧ r.2.mem ((c.tc : Thread Cert.WinKernel.nD Cert.WinKernel.τ).loc Cert.WinKernel.main_arg1) = m ((c.tc : Thread Cert.WinKernel.nD Cert.WinKernel.τ).loc Cert.WinKernel.main_arg1)
      ∧ r.2.mem ((c.tc : Thread Cert.WinKernel.nD Cert.WinKernel.τ).loc Cert.WinKernel.main_arg2) = m ((c.tc : Thread Cert.WinKernel.nD Cert.WinKernel.τ).loc Cert.WinKernel.main_arg2))
      ∧ r.2.sem = fun _ => 0)

def quiescent_WinKernelIdeal [hWinKernelIdeal : Cert.WinKernelIdeal.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ r.2.sem = fun _ => 0)

def quiescent_WinKernelIdeal_pre_win_finite [hWinKernelIdeal : Cert.WinKernelIdeal.Facts] [hPre_win_finite : Cert.Pre_win_finite.Facts] : Prop :=
  ∀ (m : (ℓ : Loc Cert.WinKernelIdeal.nD Cert.WinKernelIdeal.τ Cert.WinKernelIdeal.sig) → Buf (Elt Ideal) ℓ) (g : Dev Cert.WinKernelIdeal.nD → PrngReg), Pre_WinKernelIdeal_win_finite m →
    θ_run (Cert.WinKernelIdeal.defs (F := Ideal)) (onTc (τ := Cert.WinKernelIdeal.τ) (Cert.WinKernelIdeal.main (F := Ideal))) ⟨m, fun _ => 0, g⟩ (fun r => (∀ c : Dev Cert.WinKernelIdeal.nD,
      r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
      ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
      ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2))
      ∧ r.2.sem = fun _ => 0)

def quiescent_WinReferenceIdeal_pre_win_finite [hWinReferenceIdeal : Cert.WinReferenceIdeal.Facts] [hPre_win_finite : Cert.Pre_win_finite.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal_win_finite m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_FfnSampleKernel [hFfnSampleKernel : Cert.FfnSampleKernel.Facts] : Prop :=
  ∀ (m : (ℓ : Loc Cert.FfnSampleKernel.nD Cert.FfnSampleKernel.τ Cert.FfnSampleKernel.sig) → Buf (Elt Bits) ℓ) (g : Dev Cert.FfnSampleKernel.nD → PrngReg), Pre_FfnSampleKernel m →
    θ_run (Cert.FfnSampleKernel.defs (F := Bits)) (onTc (τ := Cert.FfnSampleKernel.τ) (Cert.FfnSampleKernel.main (F := Bits))) ⟨m, fun _ => 0, g⟩ (fun r => (∀ c : Dev Cert.FfnSampleKernel.nD,
      r.2.mem ((c.tc : Thread Cert.FfnSampleKernel.nD Cert.FfnSampleKernel.τ).loc Cert.FfnSampleKernel.main_arg0) = m ((c.tc : Thread Cert.FfnSampleKernel.nD Cert.FfnSampleKernel.τ).loc Cert.FfnSampleKernel.main_arg0)
      ∧ r.2.mem ((c.tc : Thread Cert.FfnSampleKernel.nD Cert.FfnSampleKernel.τ).loc Cert.FfnSampleKernel.main_arg1) = m ((c.tc : Thread Cert.FfnSampleKernel.nD Cert.FfnSampleKernel.τ).loc Cert.FfnSampleKernel.main_arg1)
      ∧ r.2.mem ((c.tc : Thread Cert.FfnSampleKernel.nD Cert.FfnSampleKernel.τ).loc Cert.FfnSampleKernel.main_arg2) = m ((c.tc : Thread Cert.FfnSampleKernel.nD Cert.FfnSampleKernel.τ).loc Cert.FfnSampleKernel.main_arg2)
      ∧ r.2.mem ((c.tc : Thread Cert.FfnSampleKernel.nD Cert.FfnSampleKernel.τ).loc Cert.FfnSampleKernel.main_arg3) = m ((c.tc : Thread Cert.FfnSampleKernel.nD Cert.FfnSampleKernel.τ).loc Cert.FfnSampleKernel.main_arg3)
      ∧ r.2.mem ((c.tc : Thread Cert.FfnSampleKernel.nD Cert.FfnSampleKernel.τ).loc Cert.FfnSampleKernel.main_arg4) = m ((c.tc : Thread Cert.FfnSampleKernel.nD Cert.FfnSampleKernel.τ).loc Cert.FfnSampleKernel.main_arg4)
      ∧ r.2.mem ((c.tc : Thread Cert.FfnSampleKernel.nD Cert.FfnSampleKernel.τ).loc Cert.FfnSampleKernel.main_arg5) = m ((c.tc : Thread Cert.FfnSampleKernel.nD Cert.FfnSampleKernel.τ).loc Cert.FfnSampleKernel.main_arg5)
      ∧ r.2.mem ((c.tc : Thread Cert.FfnSampleKernel.nD Cert.FfnSampleKernel.τ).loc Cert.FfnSampleKernel.main_arg6) = m ((c.tc : Thread Cert.FfnSampleKernel.nD Cert.FfnSampleKernel.τ).loc Cert.FfnSampleKernel.main_arg6))
      ∧ r.2.sem = fun _ => 0)

def quiescent_FfnSampleKernelIdeal [hFfnSampleKernelIdeal : Cert.FfnSampleKernelIdeal.Facts] : Prop :=
  ∀ (m : (ℓ : Loc Cert.FfnSampleKernelIdeal.nD Cert.FfnSampleKernelIdeal.τ Cert.FfnSampleKernelIdeal.sig) → Buf (Elt Ideal) ℓ) (g : Dev Cert.FfnSampleKernelIdeal.nD → PrngReg), Pre_FfnSampleKernelIdeal m →
    θ_run (Cert.FfnSampleKernelIdeal.defs (F := Ideal)) (onTc (τ := Cert.FfnSampleKernelIdeal.τ) (Cert.FfnSampleKernelIdeal.main (F := Ideal))) ⟨m, fun _ => 0, g⟩ (fun r => (∀ c : Dev Cert.FfnSampleKernelIdeal.nD,
      r.2.mem ((c.tc : Thread Cert.FfnSampleKernelIdeal.nD Cert.FfnSampleKernelIdeal.τ).loc Cert.FfnSampleKernelIdeal.main_arg0) = m ((c.tc : Thread Cert.FfnSampleKernelIdeal.nD Cert.FfnSampleKernelIdeal.τ).loc Cert.FfnSampleKernelIdeal.main_arg0)
      ∧ r.2.mem ((c.tc : Thread Cert.FfnSampleKernelIdeal.nD Cert.FfnSampleKernelIdeal.τ).loc Cert.FfnSampleKernelIdeal.main_arg1) = m ((c.tc : Thread Cert.FfnSampleKernelIdeal.nD Cert.FfnSampleKernelIdeal.τ).loc Cert.FfnSampleKernelIdeal.main_arg1)
      ∧ r.2.mem ((c.tc : Thread Cert.FfnSampleKernelIdeal.nD Cert.FfnSampleKernelIdeal.τ).loc Cert.FfnSampleKernelIdeal.main_arg2) = m ((c.tc : Thread Cert.FfnSampleKernelIdeal.nD Cert.FfnSampleKernelIdeal.τ).loc Cert.FfnSampleKernelIdeal.main_arg2)
      ∧ r.2.mem ((c.tc : Thread Cert.FfnSampleKernelIdeal.nD Cert.FfnSampleKernelIdeal.τ).loc Cert.FfnSampleKernelIdeal.main_arg3) = m ((c.tc : Thread Cert.FfnSampleKernelIdeal.nD Cert.FfnSampleKernelIdeal.τ).loc Cert.FfnSampleKernelIdeal.main_arg3)
      ∧ r.2.mem ((c.tc : Thread Cert.FfnSampleKernelIdeal.nD Cert.FfnSampleKernelIdeal.τ).loc Cert.FfnSampleKernelIdeal.main_arg4) = m ((c.tc : Thread Cert.FfnSampleKernelIdeal.nD Cert.FfnSampleKernelIdeal.τ).loc Cert.FfnSampleKernelIdeal.main_arg4)
      ∧ r.2.mem ((c.tc : Thread Cert.FfnSampleKernelIdeal.nD Cert.FfnSampleKernelIdeal.τ).loc Cert.FfnSampleKernelIdeal.main_arg5) = m ((c.tc : Thread Cert.FfnSampleKernelIdeal.nD Cert.FfnSampleKernelIdeal.τ).loc Cert.FfnSampleKernelIdeal.main_arg5)
      ∧ r.2.mem ((c.tc : Thread Cert.FfnSampleKernelIdeal.nD Cert.FfnSampleKernelIdeal.τ).loc Cert.FfnSampleKernelIdeal.main_arg6) = m ((c.tc : Thread Cert.FfnSampleKernelIdeal.nD Cert.FfnSampleKernelIdeal.τ).loc Cert.FfnSampleKernelIdeal.main_arg6))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6))
      ∧ r.2.sem = fun _ => 0)

def quiescent_NaKernel [hNaKernel : Cert.NaKernel.Facts] : Prop :=
  ∀ (m : (ℓ : Loc Cert.NaKernel.nD Cert.NaKernel.τ Cert.NaKernel.sig) → Buf (Elt Bits) ℓ) (g : Dev Cert.NaKernel.nD → PrngReg), Pre_NaKernel m →
    θ_run (Cert.NaKernel.defs (F := Bits)) (onTc (τ := Cert.NaKernel.τ) (Cert.NaKernel.main (F := Bits))) ⟨m, fun _ => 0, g⟩ (fun r => (∀ c : Dev Cert.NaKernel.nD,
      r.2.mem ((c.tc : Thread Cert.NaKernel.nD Cert.NaKernel.τ).loc Cert.NaKernel.main_arg0) = m ((c.tc : Thread Cert.NaKernel.nD Cert.NaKernel.τ).loc Cert.NaKernel.main_arg0)
      ∧ r.2.mem ((c.tc : Thread Cert.NaKernel.nD Cert.NaKernel.τ).loc Cert.NaKernel.main_arg1) = m ((c.tc : Thread Cert.NaKernel.nD Cert.NaKernel.τ).loc Cert.NaKernel.main_arg1)
      ∧ r.2.mem ((c.tc : Thread Cert.NaKernel.nD Cert.NaKernel.τ).loc Cert.NaKernel.main_arg2) = m ((c.tc : Thread Cert.NaKernel.nD Cert.NaKernel.τ).loc Cert.NaKernel.main_arg2)
      ∧ r.2.mem ((c.tc : Thread Cert.NaKernel.nD Cert.NaKernel.τ).loc Cert.NaKernel.main_arg3) = m ((c.tc : Thread Cert.NaKernel.nD Cert.NaKernel.τ).loc Cert.NaKernel.main_arg3)
      ∧ r.2.mem ((c.tc : Thread Cert.NaKernel.nD Cert.NaKernel.τ).loc Cert.NaKernel.main_arg4) = m ((c.tc : Thread Cert.NaKernel.nD Cert.NaKernel.τ).loc Cert.NaKernel.main_arg4))
      ∧ r.2.sem = fun _ => 0)

def quiescent_NaKernelIdeal [hNaKernelIdeal : Cert.NaKernelIdeal.Facts] : Prop :=
  ∀ (m : (ℓ : Loc Cert.NaKernelIdeal.nD Cert.NaKernelIdeal.τ Cert.NaKernelIdeal.sig) → Buf (Elt Ideal) ℓ) (g : Dev Cert.NaKernelIdeal.nD → PrngReg), Pre_NaKernelIdeal m →
    θ_run (Cert.NaKernelIdeal.defs (F := Ideal)) (onTc (τ := Cert.NaKernelIdeal.τ) (Cert.NaKernelIdeal.main (F := Ideal))) ⟨m, fun _ => 0, g⟩ (fun r => (∀ c : Dev Cert.NaKernelIdeal.nD,
      r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
      ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1)
      ∧ r.2.mem ((c.tc : Thread Cert.NaKernelIdeal.nD Cert.NaKernelIdeal.τ).loc Cert.NaKernelIdeal.main_arg2) = m ((c.tc : Thread Cert.NaKernelIdeal.nD Cert.NaKernelIdeal.τ).loc Cert.NaKernelIdeal.main_arg2)
      ∧ r.2.mem ((c.tc : Thread Cert.NaKernelIdeal.nD Cert.NaKernelIdeal.τ).loc Cert.NaKernelIdeal.main_arg3) = m ((c.tc : Thread Cert.NaKernelIdeal.nD Cert.NaKernelIdeal.τ).loc Cert.NaKernelIdeal.main_arg3)
      ∧ r.2.mem ((c.tc : Thread Cert.NaKernelIdeal.nD Cert.NaKernelIdeal.τ).loc Cert.NaKernelIdeal.main_arg4) = m ((c.tc : Thread Cert.NaKernelIdeal.nD Cert.NaKernelIdeal.τ).loc Cert.NaKernelIdeal.main_arg4))
      ∧ r.2.sem = fun _ => 0)

def quiescent_NaKernelIdeal_pre_na_finite [hNaKernelIdeal : Cert.NaKernelIdeal.Facts] [hPre_na_finite : Cert.Pre_na_finite.Facts] : Prop :=
  ∀ (m : (ℓ : Loc Cert.NaKernelIdeal.nD Cert.NaKernelIdeal.τ Cert.NaKernelIdeal.sig) → Buf (Elt Ideal) ℓ) (g : Dev Cert.NaKernelIdeal.nD → PrngReg), Pre_NaKernelIdeal_na_finite m →
    θ_run (Cert.NaKernelIdeal.defs (F := Ideal)) (onTc (τ := Cert.NaKernelIdeal.τ) (Cert.NaKernelIdeal.main (F := Ideal))) ⟨m, fun _ => 0, g⟩ (fun r => (∀ c : Dev Cert.NaKernelIdeal.nD,
      r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
      ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1)
      ∧ r.2.mem ((c.tc : Thread Cert.NaKernelIdeal.nD Cert.NaKernelIdeal.τ).loc Cert.NaKernelIdeal.main_arg2) = m ((c.tc : Thread Cert.NaKernelIdeal.nD Cert.NaKernelIdeal.τ).loc Cert.NaKernelIdeal.main_arg2)
      ∧ r.2.mem ((c.tc : Thread Cert.NaKernelIdeal.nD Cert.NaKernelIdeal.τ).loc Cert.NaKernelIdeal.main_arg3) = m ((c.tc : Thread Cert.NaKernelIdeal.nD Cert.NaKernelIdeal.τ).loc Cert.NaKernelIdeal.main_arg3)
      ∧ r.2.mem ((c.tc : Thread Cert.NaKernelIdeal.nD Cert.NaKernelIdeal.τ).loc Cert.NaKernelIdeal.main_arg4) = m ((c.tc : Thread Cert.NaKernelIdeal.nD Cert.NaKernelIdeal.τ).loc Cert.NaKernelIdeal.main_arg4))
      ∧ r.2.sem = fun _ => 0)

def quiescent_NaReferenceIdeal [hNaReferenceIdeal : Cert.NaReferenceIdeal.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1)
      ∧ r.2.mem ((c.tc : Thread Cert.NaReferenceIdeal.nD Cert.NaReferenceIdeal.τ).loc Cert.NaReferenceIdeal.main_arg2) = m ((c.tc : Thread Cert.NaReferenceIdeal.nD Cert.NaReferenceIdeal.τ).loc Cert.NaReferenceIdeal.main_arg2)
      ∧ r.2.mem ((c.tc : Thread Cert.NaReferenceIdeal.nD Cert.NaReferenceIdeal.τ).loc Cert.NaReferenceIdeal.main_arg3) = m ((c.tc : Thread Cert.NaReferenceIdeal.nD Cert.NaReferenceIdeal.τ).loc Cert.NaReferenceIdeal.main_arg3)
      ∧ r.2.mem ((c.tc : Thread Cert.NaReferenceIdeal.nD Cert.NaReferenceIdeal.τ).loc Cert.NaReferenceIdeal.main_arg4) = m ((c.tc : Thread Cert.NaReferenceIdeal.nD Cert.NaReferenceIdeal.τ).loc Cert.NaReferenceIdeal.main_arg4))
      ∧ r.2.sem = fun _ => 0)

def quiescent_NaReferenceIdeal_pre_na_finite [hNaReferenceIdeal : Cert.NaReferenceIdeal.Facts] [hPre_na_finite : Cert.Pre_na_finite.Facts] : Prop :=
  ∀ (m : (ℓ : Loc Cert.NaReferenceIdeal.nD Cert.NaReferenceIdeal.τ Cert.NaReferenceIdeal.sig) → Buf (Elt Ideal) ℓ) (g : Dev Cert.NaReferenceIdeal.nD → PrngReg), Pre_NaReferenceIdeal_na_finite m →
    θ_run (Cert.NaReferenceIdeal.defs (F := Ideal)) (onTc (τ := Cert.NaReferenceIdeal.τ) (Cert.NaReferenceIdeal.main (F := Ideal))) ⟨m, fun _ => 0, g⟩ (fun r => (∀ c : Dev Cert.NaReferenceIdeal.nD,
      r.2.mem ((c.tc : Thread Cert.NaReferenceIdeal.nD Cert.NaReferenceIdeal.τ).loc Cert.NaReferenceIdeal.main_arg0) = m ((c.tc : Thread Cert.NaReferenceIdeal.nD Cert.NaReferenceIdeal.τ).loc Cert.NaReferenceIdeal.main_arg0)
      ∧ r.2.mem ((c.tc : Thread Cert.NaReferenceIdeal.nD Cert.NaReferenceIdeal.τ).loc Cert.NaReferenceIdeal.main_arg1) = m ((c.tc : Thread Cert.NaReferenceIdeal.nD Cert.NaReferenceIdeal.τ).loc Cert.NaReferenceIdeal.main_arg1)
      ∧ r.2.mem ((c.tc : Thread Cert.NaReferenceIdeal.nD Cert.NaReferenceIdeal.τ).loc Cert.NaReferenceIdeal.main_arg2) = m ((c.tc : Thread Cert.NaReferenceIdeal.nD Cert.NaReferenceIdeal.τ).loc Cert.NaReferenceIdeal.main_arg2)
      ∧ r.2.mem ((c.tc : Thread Cert.NaReferenceIdeal.nD Cert.NaReferenceIdeal.τ).loc Cert.NaReferenceIdeal.main_arg3) = m ((c.tc : Thread Cert.NaReferenceIdeal.nD Cert.NaReferenceIdeal.τ).loc Cert.NaReferenceIdeal.main_arg3)
      ∧ r.2.mem ((c.tc : Thread Cert.NaReferenceIdeal.nD Cert.NaReferenceIdeal.τ).loc Cert.NaReferenceIdeal.main_arg4) = m ((c.tc : Thread Cert.NaReferenceIdeal.nD Cert.NaReferenceIdeal.τ).loc Cert.NaReferenceIdeal.main_arg4))
      ∧ r.2.sem = fun _ => 0)

def preserves_WinKernel_WinKernelIdeal : Prop :=
  True

def algebraic_WinKernelIdeal_WinReferenceIdeal_pre_win_finite [hWinKernelIdeal : Cert.WinKernelIdeal.Facts] [hWinReferenceIdeal : Cert.WinReferenceIdeal.Facts] [hPre_win_finite : Cert.Pre_win_finite.Facts] : Prop :=
  ∀ (m : (ℓ : Loc Cert.WinKernelIdeal.nD Cert.WinKernelIdeal.τ Cert.WinKernelIdeal.sig) → Buf (Elt Ideal) ℓ) (g : Dev Cert.WinKernelIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinKernelIdeal_win_finite m →
    (∀ c : Dev Cert.WinKernelIdeal.nD,
      m' ((c.tc : Thread Cert.WinReferenceIdeal.nD Cert.WinReferenceIdeal.τ).loc Cert.WinReferenceIdeal.main_arg0) = m ((c.tc : Thread Cert.WinKernelIdeal.nD Cert.WinKernelIdeal.τ).loc Cert.WinKernelIdeal.main_arg0)
      ∧ m' ((c.tc : Thread Cert.WinReferenceIdeal.nD Cert.WinReferenceIdeal.τ).loc Cert.WinReferenceIdeal.main_arg1) = m ((c.tc : Thread Cert.WinKernelIdeal.nD Cert.WinKernelIdeal.τ).loc Cert.WinKernelIdeal.main_arg1)
      ∧ m' ((c.tc : Thread Cert.WinReferenceIdeal.nD Cert.WinReferenceIdeal.τ).loc Cert.WinReferenceIdeal.main_arg2) = m ((c.tc : Thread Cert.WinKernelIdeal.nD Cert.WinKernelIdeal.τ).loc Cert.WinKernelIdeal.main_arg2)) →
    ∃ (v0 : (c : Dev Cert.WinKernelIdeal.nD) → Buf (Elt Ideal) ((c.tc : Thread Cert.WinKernelIdeal.nD Cert.WinKernelIdeal.τ).loc Cert.WinKernelIdeal.main_v0)),
      θ_run (Cert.WinKernelIdeal.defs (F := Ideal)) (onTc (τ := Cert.WinKernelIdeal.τ) (Cert.WinKernelIdeal.main (F := Ideal))) ⟨m, fun _ => 0, g⟩ (fun r => ∀ c : Dev Cert.WinKernelIdeal.nD,
          r.2.mem ((c.tc : Thread Cert.WinKernelIdeal.nD Cert.WinKernelIdeal.τ).loc Cert.WinKernelIdeal.main_v0) = v0 c
          ∧ r.2.mem ((c.tc : Thread Cert.WinKernelIdeal.nD Cert.WinKernelIdeal.τ).loc Cert.WinKernelIdeal.main_arg0) = m ((c.tc : Thread Cert.WinKernelIdeal.nD Cert.WinKernelIdeal.τ).loc Cert.WinKernelIdeal.main_arg0)
          ∧ r.2.mem ((c.tc : Thread Cert.WinKernelIdeal.nD Cert.WinKernelIdeal.τ).loc Cert.WinKernelIdeal.main_arg1) = m ((c.tc : Thread Cert.WinKernelIdeal.nD Cert.WinKernelIdeal.τ).loc Cert.WinKernelIdeal.main_arg1)
          ∧ r.2.mem ((c.tc : Thread Cert.WinKernelIdeal.nD Cert.WinKernelIdeal.τ).loc Cert.WinKernelIdeal.main_arg2) = m ((c.tc : Thread Cert.WinKernelIdeal.nD Cert.WinKernelIdeal.τ).loc Cert.WinKernelIdeal.main_arg2))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v53) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)
      ∧ m' ((c.tc : Thread Cert.OutReferenceIdeal.nD Cert.OutReferenceIdeal.τ).loc Cert.OutReferenceIdeal.main_arg4) = m ((c.tc : Thread Cert.OutKernelIdeal.nD Cert.OutKernelIdeal.τ).loc Cert.OutKernelIdeal.main_arg4)
      ∧ m' ((c.tc : Thread Cert.OutReferenceIdeal.nD Cert.OutReferenceIdeal.τ).loc Cert.OutReferenceIdeal.main_arg5) = m ((c.tc : Thread Cert.OutKernelIdeal.nD Cert.OutKernelIdeal.τ).loc Cert.OutKernelIdeal.main_arg5)) →
    ∃ (v0 : (c : Dev Cert.OutKernelIdeal.nD) → Buf (Elt Ideal) ((c.tc : Thread Cert.OutKernelIdeal.nD Cert.OutKernelIdeal.τ).loc Cert.OutKernelIdeal.main_v5)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v5) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
          ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
          ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v21) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v14)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v14) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v70) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v46_0)) (v1 : (c : Dev Cert.InKernelIdeal.nD) → Buf (Elt Ideal) ((c.tc : Thread Cert.InKernelIdeal.nD Cert.InKernelIdeal.τ).loc Cert.InKernelIdeal.main_v46_1)) (v2 : (c : Dev Cert.InKernelIdeal.nD) → Buf (Elt Ideal) ((c.tc : Thread Cert.InKernelIdeal.nD Cert.InKernelIdeal.τ).loc Cert.InKernelIdeal.main_v46_2)) (v3 : (c : Dev Cert.InKernelIdeal.nD) → Buf (Elt Ideal) ((c.tc : Thread Cert.InKernelIdeal.nD Cert.InKernelIdeal.τ).loc Cert.InKernelIdeal.main_v46_3)) (v4 : (c : Dev Cert.InKernelIdeal.nD) → Buf (Elt Ideal) ((c.tc : Thread Cert.InKernelIdeal.nD Cert.InKernelIdeal.τ).loc Cert.InKernelIdeal.main_v46_4)) (v5 : (c : Dev Cert.InKernelIdeal.nD) → Buf (Elt Ideal) ((c.tc : Thread Cert.InKernelIdeal.nD Cert.InKernelIdeal.τ).loc Cert.InKernelIdeal.main_v46_5)) (v6 : (c : Dev Cert.InKernelIdeal.nD) → Buf (Elt Ideal) ((c.tc : Thread Cert.InKernelIdeal.nD Cert.InKernelIdeal.τ).loc Cert.InKernelIdeal.main_v46_6)) (v7 : (c : Dev Cert.InKernelIdeal.nD) → Buf (Elt Ideal) ((c.tc : Thread Cert.InKernelIdeal.nD Cert.InKernelIdeal.τ).loc Cert.InKernelIdeal.main_v46_7)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v46_0) = v0 c
          ∧ r.2.mem ((c.tc : Thread Cert.InKernelIdeal.nD Cert.InKernelIdeal.τ).loc Cert.InKernelIdeal.main_v46_1) = v1 c
          ∧ r.2.mem ((c.tc : Thread Cert.InKernelIdeal.nD Cert.InKernelIdeal.τ).loc Cert.InKernelIdeal.main_v46_2) = v2 c
          ∧ r.2.mem ((c.tc : Thread Cert.InKernelIdeal.nD Cert.InKernelIdeal.τ).loc Cert.InKernelIdeal.main_v46_3) = v3 c
          ∧ r.2.mem ((c.tc : Thread Cert.InKernelIdeal.nD Cert.InKernelIdeal.τ).loc Cert.InKernelIdeal.main_v46_4) = v4 c
          ∧ r.2.mem ((c.tc : Thread Cert.InKernelIdeal.nD Cert.InKernelIdeal.τ).loc Cert.InKernelIdeal.main_v46_5) = v5 c
          ∧ r.2.mem ((c.tc : Thread Cert.InKernelIdeal.nD Cert.InKernelIdeal.τ).loc Cert.InKernelIdeal.main_v46_6) = v6 c
          ∧ r.2.mem ((c.tc : Thread Cert.InKernelIdeal.nD Cert.InKernelIdeal.τ).loc Cert.InKernelIdeal.main_v46_7) = v7 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v62) = v0 c
          ∧ r.2.mem ((c.tc : Thread Cert.InReferenceIdeal.nD Cert.InReferenceIdeal.τ).loc Cert.InReferenceIdeal.main_v63) = v1 c
          ∧ r.2.mem ((c.tc : Thread Cert.InReferenceIdeal.nD Cert.InReferenceIdeal.τ).loc Cert.InReferenceIdeal.main_v28) = v2 c
          ∧ r.2.mem ((c.tc : Thread Cert.InReferenceIdeal.nD Cert.InReferenceIdeal.τ).loc Cert.InReferenceIdeal.main_v98) = v3 c
          ∧ r.2.mem ((c.tc : Thread Cert.InReferenceIdeal.nD Cert.InReferenceIdeal.τ).loc Cert.InReferenceIdeal.main_v99) = v4 c
          ∧ r.2.mem ((c.tc : Thread Cert.InReferenceIdeal.nD Cert.InReferenceIdeal.τ).loc Cert.InReferenceIdeal.main_v102) = v5 c
          ∧ r.2.mem ((c.tc : Thread Cert.InReferenceIdeal.nD Cert.InReferenceIdeal.τ).loc Cert.InReferenceIdeal.main_v103) = v6 c
          ∧ r.2.mem ((c.tc : Thread Cert.InReferenceIdeal.nD Cert.InReferenceIdeal.τ).loc Cert.InReferenceIdeal.main_v104) = v7 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_FfnSampleKernel_FfnSampleKernelIdeal : Prop :=
  True

def algebraic_FfnSampleKernelIdeal_FfnSampleReferenceIdeal [hFfnSampleKernelIdeal : Cert.FfnSampleKernelIdeal.Facts] [hFfnSampleReferenceIdeal : Cert.FfnSampleReferenceIdeal.Facts] : Prop :=
  ∀ (m : (ℓ : Loc Cert.FfnSampleKernelIdeal.nD Cert.FfnSampleKernelIdeal.τ Cert.FfnSampleKernelIdeal.sig) → Buf (Elt Ideal) ℓ) (g : Dev Cert.FfnSampleKernelIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleKernelIdeal m →
    (∀ c : Dev Cert.FfnSampleKernelIdeal.nD,
      m' ((c.tc : Thread Cert.FfnSampleReferenceIdeal.nD Cert.FfnSampleReferenceIdeal.τ).loc Cert.FfnSampleReferenceIdeal.main_arg0) = m ((c.tc : Thread Cert.FfnSampleKernelIdeal.nD Cert.FfnSampleKernelIdeal.τ).loc Cert.FfnSampleKernelIdeal.main_arg0)
      ∧ m' ((c.tc : Thread Cert.FfnSampleReferenceIdeal.nD Cert.FfnSampleReferenceIdeal.τ).loc Cert.FfnSampleReferenceIdeal.main_arg1) = m ((c.tc : Thread Cert.FfnSampleKernelIdeal.nD Cert.FfnSampleKernelIdeal.τ).loc Cert.FfnSampleKernelIdeal.main_arg1)
      ∧ m' ((c.tc : Thread Cert.FfnSampleReferenceIdeal.nD Cert.FfnSampleReferenceIdeal.τ).loc Cert.FfnSampleReferenceIdeal.main_arg2) = m ((c.tc : Thread Cert.FfnSampleKernelIdeal.nD Cert.FfnSampleKernelIdeal.τ).loc Cert.FfnSampleKernelIdeal.main_arg2)
      ∧ m' ((c.tc : Thread Cert.FfnSampleReferenceIdeal.nD Cert.FfnSampleReferenceIdeal.τ).loc Cert.FfnSampleReferenceIdeal.main_arg3) = m ((c.tc : Thread Cert.FfnSampleKernelIdeal.nD Cert.FfnSampleKernelIdeal.τ).loc Cert.FfnSampleKernelIdeal.main_arg3)
      ∧ m' ((c.tc : Thread Cert.FfnSampleReferenceIdeal.nD Cert.FfnSampleReferenceIdeal.τ).loc Cert.FfnSampleReferenceIdeal.main_arg4) = m ((c.tc : Thread Cert.FfnSampleKernelIdeal.nD Cert.FfnSampleKernelIdeal.τ).loc Cert.FfnSampleKernelIdeal.main_arg4)
      ∧ m' ((c.tc : Thread Cert.FfnSampleReferenceIdeal.nD Cert.FfnSampleReferenceIdeal.τ).loc Cert.FfnSampleReferenceIdeal.main_arg5) = m ((c.tc : Thread Cert.FfnSampleKernelIdeal.nD Cert.FfnSampleKernelIdeal.τ).loc Cert.FfnSampleKernelIdeal.main_arg5)
      ∧ m' ((c.tc : Thread Cert.FfnSampleReferenceIdeal.nD Cert.FfnSampleReferenceIdeal.τ).loc Cert.FfnSampleReferenceIdeal.main_arg6) = m ((c.tc : Thread Cert.FfnSampleKernelIdeal.nD Cert.FfnSampleKernelIdeal.τ).loc Cert.FfnSampleKernelIdeal.main_arg6)) →
    ∃ (v0 : (c : Dev Cert.FfnSampleKernelIdeal.nD) → Buf (Elt Ideal) ((c.tc : Thread Cert.FfnSampleKernelIdeal.nD Cert.FfnSampleKernelIdeal.τ).loc Cert.FfnSampleKernelIdeal.main_v14)),
      θ_run (Cert.FfnSampleKernelIdeal.defs (F := Ideal)) (onTc (τ := Cert.FfnSampleKernelIdeal.τ) (Cert.FfnSampleKernelIdeal.main (F := Ideal))) ⟨m, fun _ => 0, g⟩ (fun r => ∀ c : Dev Cert.FfnSampleKernelIdeal.nD,
          r.2.mem ((c.tc : Thread Cert.FfnSampleKernelIdeal.nD Cert.FfnSampleKernelIdeal.τ).loc Cert.FfnSampleKernelIdeal.main_v14) = v0 c
          ∧ r.2.mem ((c.tc : Thread Cert.FfnSampleKernelIdeal.nD Cert.FfnSampleKernelIdeal.τ).loc Cert.FfnSampleKernelIdeal.main_arg0) = m ((c.tc : Thread Cert.FfnSampleKernelIdeal.nD Cert.FfnSampleKernelIdeal.τ).loc Cert.FfnSampleKernelIdeal.main_arg0)
          ∧ r.2.mem ((c.tc : Thread Cert.FfnSampleKernelIdeal.nD Cert.FfnSampleKernelIdeal.τ).loc Cert.FfnSampleKernelIdeal.main_arg1) = m ((c.tc : Thread Cert.FfnSampleKernelIdeal.nD Cert.FfnSampleKernelIdeal.τ).loc Cert.FfnSampleKernelIdeal.main_arg1)
          ∧ r.2.mem ((c.tc : Thread Cert.FfnSampleKernelIdeal.nD Cert.FfnSampleKernelIdeal.τ).loc Cert.FfnSampleKernelIdeal.main_arg2) = m ((c.tc : Thread Cert.FfnSampleKernelIdeal.nD Cert.FfnSampleKernelIdeal.τ).loc Cert.FfnSampleKernelIdeal.main_arg2)
          ∧ r.2.mem ((c.tc : Thread Cert.FfnSampleKernelIdeal.nD Cert.FfnSampleKernelIdeal.τ).loc Cert.FfnSampleKernelIdeal.main_arg3) = m ((c.tc : Thread Cert.FfnSampleKernelIdeal.nD Cert.FfnSampleKernelIdeal.τ).loc Cert.FfnSampleKernelIdeal.main_arg3)
          ∧ r.2.mem ((c.tc : Thread Cert.FfnSampleKernelIdeal.nD Cert.FfnSampleKernelIdeal.τ).loc Cert.FfnSampleKernelIdeal.main_arg4) = m ((c.tc : Thread Cert.FfnSampleKernelIdeal.nD Cert.FfnSampleKernelIdeal.τ).loc Cert.FfnSampleKernelIdeal.main_arg4)
          ∧ r.2.mem ((c.tc : Thread Cert.FfnSampleKernelIdeal.nD Cert.FfnSampleKernelIdeal.τ).loc Cert.FfnSampleKernelIdeal.main_arg5) = m ((c.tc : Thread Cert.FfnSampleKernelIdeal.nD Cert.FfnSampleKernelIdeal.τ).loc Cert.FfnSampleKernelIdeal.main_arg5)
          ∧ r.2.mem ((c.tc : Thread Cert.FfnSampleKernelIdeal.nD Cert.FfnSampleKernelIdeal.τ).loc Cert.FfnSampleKernelIdeal.main_arg6) = m ((c.tc : Thread Cert.FfnSampleKernelIdeal.nD Cert.FfnSampleKernelIdeal.τ).loc Cert.FfnSampleKernelIdeal.main_arg6))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v70) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6))

def preserves_NaKernel_NaKernelIdeal : Prop :=
  True

def algebraic_NaKernelIdeal_NaReferenceIdeal_pre_na_finite [hNaKernelIdeal : Cert.NaKernelIdeal.Facts] [hNaReferenceIdeal : Cert.NaReferenceIdeal.Facts] [hPre_na_finite : Cert.Pre_na_finite.Facts] : Prop :=
  ∀ (m : (ℓ : Loc Cert.NaKernelIdeal.nD Cert.NaKernelIdeal.τ Cert.NaKernelIdeal.sig) → Buf (Elt Ideal) ℓ) (g : Dev Cert.NaKernelIdeal.nD → PrngReg)
    (m' : (ℓ : Loc Cert.NaReferenceIdeal.nD Cert.NaReferenceIdeal.τ Cert.NaReferenceIdeal.sig) → Buf (Elt Ideal) ℓ) (g' : Dev Cert.NaReferenceIdeal.nD → PrngReg), Pre_NaKernelIdeal_na_finite m →
    (∀ c : Dev Cert.NaKernelIdeal.nD,
      m' ((c.tc : Thread Cert.NaReferenceIdeal.nD Cert.NaReferenceIdeal.τ).loc Cert.NaReferenceIdeal.main_arg0) = m ((c.tc : Thread Cert.NaKernelIdeal.nD Cert.NaKernelIdeal.τ).loc Cert.NaKernelIdeal.main_arg0)
      ∧ m' ((c.tc : Thread Cert.NaReferenceIdeal.nD Cert.NaReferenceIdeal.τ).loc Cert.NaReferenceIdeal.main_arg1) = m ((c.tc : Thread Cert.NaKernelIdeal.nD Cert.NaKernelIdeal.τ).loc Cert.NaKernelIdeal.main_arg1)
      ∧ m' ((c.tc : Thread Cert.NaReferenceIdeal.nD Cert.NaReferenceIdeal.τ).loc Cert.NaReferenceIdeal.main_arg2) = m ((c.tc : Thread Cert.NaKernelIdeal.nD Cert.NaKernelIdeal.τ).loc Cert.NaKernelIdeal.main_arg2)
      ∧ m' ((c.tc : Thread Cert.NaReferenceIdeal.nD Cert.NaReferenceIdeal.τ).loc Cert.NaReferenceIdeal.main_arg3) = m ((c.tc : Thread Cert.NaKernelIdeal.nD Cert.NaKernelIdeal.τ).loc Cert.NaKernelIdeal.main_arg3)
      ∧ m' ((c.tc : Thread Cert.NaReferenceIdeal.nD Cert.NaReferenceIdeal.τ).loc Cert.NaReferenceIdeal.main_arg4) = m ((c.tc : Thread Cert.NaKernelIdeal.nD Cert.NaKernelIdeal.τ).loc Cert.NaKernelIdeal.main_arg4)) →
    ∃ (v0 : (c : Dev Cert.NaKernelIdeal.nD) → Buf (Elt Ideal) ((c.tc : Thread Cert.NaKernelIdeal.nD Cert.NaKernelIdeal.τ).loc Cert.NaKernelIdeal.main_v10)),
      θ_run (Cert.NaKernelIdeal.defs (F := Ideal)) (onTc (τ := Cert.NaKernelIdeal.τ) (Cert.NaKernelIdeal.main (F := Ideal))) ⟨m, fun _ => 0, g⟩ (fun r => ∀ c : Dev Cert.NaKernelIdeal.nD,
          r.2.mem ((c.tc : Thread Cert.NaKernelIdeal.nD Cert.NaKernelIdeal.τ).loc Cert.NaKernelIdeal.main_v10) = v0 c
          ∧ r.2.mem ((c.tc : Thread Cert.NaKernelIdeal.nD Cert.NaKernelIdeal.τ).loc Cert.NaKernelIdeal.main_arg0) = m ((c.tc : Thread Cert.NaKernelIdeal.nD Cert.NaKernelIdeal.τ).loc Cert.NaKernelIdeal.main_arg0)
          ∧ r.2.mem ((c.tc : Thread Cert.NaKernelIdeal.nD Cert.NaKernelIdeal.τ).loc Cert.NaKernelIdeal.main_arg1) = m ((c.tc : Thread Cert.NaKernelIdeal.nD Cert.NaKernelIdeal.τ).loc Cert.NaKernelIdeal.main_arg1)
          ∧ r.2.mem ((c.tc : Thread Cert.NaKernelIdeal.nD Cert.NaKernelIdeal.τ).loc Cert.NaKernelIdeal.main_arg2) = m ((c.tc : Thread Cert.NaKernelIdeal.nD Cert.NaKernelIdeal.τ).loc Cert.NaKernelIdeal.main_arg2)
          ∧ r.2.mem ((c.tc : Thread Cert.NaKernelIdeal.nD Cert.NaKernelIdeal.τ).loc Cert.NaKernelIdeal.main_arg3) = m ((c.tc : Thread Cert.NaKernelIdeal.nD Cert.NaKernelIdeal.τ).loc Cert.NaKernelIdeal.main_arg3)
          ∧ r.2.mem ((c.tc : Thread Cert.NaKernelIdeal.nD Cert.NaKernelIdeal.τ).loc Cert.NaKernelIdeal.main_arg4) = m ((c.tc : Thread Cert.NaKernelIdeal.nD Cert.NaKernelIdeal.τ).loc Cert.NaKernelIdeal.main_arg4))
      ∧ θ_run (Cert.NaReferenceIdeal.defs (F := Ideal)) (onTc (τ := Cert.NaReferenceIdeal.τ) (Cert.NaReferenceIdeal.main (F := Ideal))) ⟨m', fun _ => 0, g'⟩ (fun r => ∀ c : Dev Cert.NaReferenceIdeal.nD,
          r.2.mem ((c.tc : Thread Cert.NaReferenceIdeal.nD Cert.NaReferenceIdeal.τ).loc Cert.NaReferenceIdeal.main_v138) = v0 c
          ∧ r.2.mem ((c.tc : Thread Cert.NaReferenceIdeal.nD Cert.NaReferenceIdeal.τ).loc Cert.NaReferenceIdeal.main_arg0) = m' ((c.tc : Thread Cert.NaReferenceIdeal.nD Cert.NaReferenceIdeal.τ).loc Cert.NaReferenceIdeal.main_arg0)
          ∧ r.2.mem ((c.tc : Thread Cert.NaReferenceIdeal.nD Cert.NaReferenceIdeal.τ).loc Cert.NaReferenceIdeal.main_arg1) = m' ((c.tc : Thread Cert.NaReferenceIdeal.nD Cert.NaReferenceIdeal.τ).loc Cert.NaReferenceIdeal.main_arg1)
          ∧ r.2.mem ((c.tc : Thread Cert.NaReferenceIdeal.nD Cert.NaReferenceIdeal.τ).loc Cert.NaReferenceIdeal.main_arg2) = m' ((c.tc : Thread Cert.NaReferenceIdeal.nD Cert.NaReferenceIdeal.τ).loc Cert.NaReferenceIdeal.main_arg2)
          ∧ r.2.mem ((c.tc : Thread Cert.NaReferenceIdeal.nD Cert.NaReferenceIdeal.τ).loc Cert.NaReferenceIdeal.main_arg3) = m' ((c.tc : Thread Cert.NaReferenceIdeal.nD Cert.NaReferenceIdeal.τ).loc Cert.NaReferenceIdeal.main_arg3)
          ∧ r.2.mem ((c.tc : Thread Cert.NaReferenceIdeal.nD Cert.NaReferenceIdeal.τ).loc Cert.NaReferenceIdeal.main_arg4) = m' ((c.tc : Thread Cert.NaReferenceIdeal.nD Cert.NaReferenceIdeal.τ).loc Cert.NaReferenceIdeal.main_arg4))

def Claim : Prop :=
  ∃ (hWinKernel : Cert.WinKernel.Facts) (hWinKernelIdeal : Cert.WinKernelIdeal.Facts) (hWinReferenceIdeal : Cert.WinReferenceIdeal.Facts) (hOutKernel : Cert.OutKernel.Facts) (hOutKernelIdeal : Cert.OutKernelIdeal.Facts) (hOutReferenceIdeal : Cert.OutReferenceIdeal.Facts) (hFfnKernel : Cert.FfnKernel.Facts) (hFfnKernelIdeal : Cert.FfnKernelIdeal.Facts) (hFfnReferenceIdeal : Cert.FfnReferenceIdeal.Facts) (hInKernel : Cert.InKernel.Facts) (hInKernelIdeal : Cert.InKernelIdeal.Facts) (hInReferenceIdeal : Cert.InReferenceIdeal.Facts) (hFfnSampleKernel : Cert.FfnSampleKernel.Facts) (hFfnSampleKernelIdeal : Cert.FfnSampleKernelIdeal.Facts) (hFfnSampleReferenceIdeal : Cert.FfnSampleReferenceIdeal.Facts) (hNaKernel : Cert.NaKernel.Facts) (hNaKernelIdeal : Cert.NaKernelIdeal.Facts) (hNaReferenceIdeal : Cert.NaReferenceIdeal.Facts) (hPre_win_finite : Cert.Pre_win_finite.Facts) (hPre_na_finite : Cert.Pre_na_finite.Facts),
    quiescent_WinKernel (hWinKernel := hWinKernel)
    ∧ quiescent_WinKernelIdeal (hWinKernelIdeal := hWinKernelIdeal)
    ∧ quiescent_WinKernelIdeal_pre_win_finite (hWinKernelIdeal := hWinKernelIdeal) (hPre_win_finite := hPre_win_finite)
    ∧ quiescent_WinReferenceIdeal (hWinReferenceIdeal := hWinReferenceIdeal)
    ∧ quiescent_WinReferenceIdeal_pre_win_finite (hWinReferenceIdeal := hWinReferenceIdeal) (hPre_win_finite := hPre_win_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_FfnSampleKernel (hFfnSampleKernel := hFfnSampleKernel)
    ∧ quiescent_FfnSampleKernelIdeal (hFfnSampleKernelIdeal := hFfnSampleKernelIdeal)
    ∧ quiescent_FfnSampleReferenceIdeal (hFfnSampleReferenceIdeal := hFfnSampleReferenceIdeal)
    ∧ quiescent_NaKernel (hNaKernel := hNaKernel)
    ∧ quiescent_NaKernelIdeal (hNaKernelIdeal := hNaKernelIdeal)
    ∧ quiescent_NaKernelIdeal_pre_na_finite (hNaKernelIdeal := hNaKernelIdeal) (hPre_na_finite := hPre_na_finite)
    ∧ quiescent_NaReferenceIdeal (hNaReferenceIdeal := hNaReferenceIdeal)
    ∧ quiescent_NaReferenceIdeal_pre_na_finite (hNaReferenceIdeal := hNaReferenceIdeal) (hPre_na_finite := hPre_na_finite)
    ∧ preserves_WinKernel_WinKernelIdeal
    ∧ algebraic_WinKernelIdeal_WinReferenceIdeal_pre_win_finite (hWinKernelIdeal := hWinKernelIdeal) (hWinReferenceIdeal := hWinReferenceIdeal) (hPre_win_finite := hPre_win_finite)
    ∧ preserves_OutKernel_OutKernelIdeal
    ∧ algebraic_OutKernelIdeal_OutReferenceIdeal (hOutKernelIdeal := hOutKernelIdeal) (hOutReferenceIdeal := hOutReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_InKernel_InKernelIdeal
    ∧ algebraic_InKernelIdeal_InReferenceIdeal (hInKernelIdeal := hInKernelIdeal) (hInReferenceIdeal := hInReferenceIdeal)
    ∧ preserves_FfnSampleKernel_FfnSampleKernelIdeal
    ∧ algebraic_FfnSampleKernelIdeal_FfnSampleReferenceIdeal (hFfnSampleKernelIdeal := hFfnSampleKernelIdeal) (hFfnSampleReferenceIdeal := hFfnSampleReferenceIdeal)
    ∧ preserves_NaKernel_NaKernelIdeal
    ∧ algebraic_NaKernelIdeal_NaReferenceIdeal_pre_na_finite (hNaKernelIdeal := hNaKernelIdeal) (hNaReferenceIdeal := hNaReferenceIdeal) (hPre_na_finite := hPre_na_finite)
-- ==== Pre_na_finite.lean ====
abbrev S8x4224x512 : Shape := ⟨3, ![8, 4224, 512]⟩
abbrev S8x15x31 : Shape := ⟨3, ![8, 15, 31]⟩
abbrev S8x16 : Shape := ⟨2, ![8, 16]⟩
abbrev S_ : Shape := ⟨0, ![]⟩

class Facts : Prop where
  bitsLt_bf16_f32 : FTy.bits .bf16 < FTy.bits .f32
  bcast_S_S8x4224x512 : S_.BroadcastsInDim S8x4224x512 (![] : Fin 0 → Fin S8x4224x512.rank)
  reducesTo_S8x4224x512_S_d0_1_2 : S8x4224x512.ReducesTo [0, 1, 2] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_
  bcast_S_S8x16 : S_.BroadcastsInDim S8x16 (![] : Fin 0 → Fin S8x16.rank)
  reducesTo_S8x16_S_d0_1 : S8x16.ReducesTo [0, 1] S_

variable [Facts]

def fn_part1 {F : FTy → Type} [FloatOps F] (main_v15 : IVec S_ 1) (main_v16 : FVec F S8x16 .f32) (main_cst_4 : FVec F S_ .f32) : IVec S_ 1 :=
  let main_v17 : FVec F S8x16 .f32 := broadcastInDim S8x16 ![] bcast_S_S8x16 main_cst_4
  let main_v18 : IVec S8x16 1 := cmpf .olt main_v16 main_v17
  let main_c_5 : IVec S_ 1 := constantI S_ 1 1#1
  let main_v19 : IVec S_ 1 := (fun x v => Host.reduce IntOp.andi x v reducesTo_S8x16_S_d0_1 h_S_) main_v18 main_c_5
  let main_v20 : IVec S_ 1 := andi main_v15 main_v19
  main_v20

def fn {F : FTy → Type} [FloatOps F] (main_arg0 : FVec F S8x4224x512 .bf16) (main_arg1 : FVec F S8x4224x512 .bf16) (main_arg2 : FVec F S8x4224x512 .bf16) (main_arg3 : FVec F S8x15x31 .f32) (main_arg4 : FVec F S8x16 .f32) : IVec S_ 1 :=
  let main_v0 : FVec F S8x4224x512 .f32 := (extf .f32 · bitsLt_bf16_f32) main_arg0
  let main_v1 : FVec F S8x4224x512 .f32 := Host.absf main_v0
  let main_cst : FVec F S_ .f32 := constant S_ .f32 0x7F800000#32
  let main_v2 : FVec F S8x4224x512 .f32 := broadcastInDim S8x4224x512 ![] bcast_S_S8x4224x512 main_cst
  let main_v3 : IVec S8x4224x512 1 := cmpf .olt main_v1 main_v2
  let main_c : IVec S_ 1 := constantI S_ 1 1#1
  let main_v4 : IVec S_ 1 := (fun x v => Host.reduce IntOp.andi x v reducesTo_S8x4224x512_S_d0_1_2 h_S_) main_v3 main_c
  let main_v5 : FVec F S8x4224x512 .f32 := (extf .f32 · bitsLt_bf16_f32) main_arg1
  let main_v6 : FVec F S8x4224x512 .f32 := Host.absf main_v5
  let main_cst_0 : FVec F S_ .f32 := constant S_ .f32 0x7F800000#32
  let main_v7 : FVec F S8x4224x512 .f32 := broadcastInDim S8x4224x512 ![] bcast_S_S8x4224x512 main_cst_0
  let main_v8 : IVec S8x4224x512 1 := cmpf .olt main_v6 main_v7
  let main_c_1 : IVec S_ 1 := constantI S_ 1 1#1
  let main_v9 : IVec S_ 1 := (fun x v => Host.reduce IntOp.andi x v reducesTo_S8x4224x512_S_d0_1_2 h_S_) main_v8 main_c_1
  let main_v10 : IVec S_ 1 := andi main_v4 main_v9
  let main_v11 : FVec F S8x15x31 .f32 := Host.absf main_arg3
  let main_cst_2 : FVec F S_ .f32 := constant S_ .f32 0x7F800000#32
  let main_v12 : FVec F S8x15x31 .f32 := broadcastInDim S8x15x31 ![] bcast_S_S8x15x31 main_cst_2
  let main_v13 : IVec S8x15x31 1 := cmpf .olt main_v11 main_v12
  let main_c_3 : IVec S_ 1 := constantI S_ 1 1#1
  let main_v14 : IVec S_ 1 := (fun x v => Host.reduce IntOp.andi x v reducesTo_S8x15x31_S_d0_1_2 h_S_) main_v13 main_c_3
  let main_v15 : IVec S_ 1 := andi main_v10 main_v14
  let main_v16 : FVec F S8x16 .f32 := Host.absf main_arg4
  let main_cst_4 : FVec F S_ .f32 := constant S_ .f32 0x7F800000#32
  fn_part1 (F := F) main_v15 main_v16 main_cst_4
-- ==== Pre_win_finite.lean ====
abbrev S8x4224x512 : Shape := ⟨3, ![8, 4224, 512]⟩
abbrev S8x4224x256 : Shape := ⟨3, ![8, 4224, 256]⟩
abbrev S8 : Shape := ⟨1, ![8]⟩
abbrev S8x4224x128 : Shape := ⟨3, ![8, 4224, 128]⟩
abbrev S_ : Shape := ⟨0, ![]⟩

class Facts : Prop where
  slices_S8x4224x256_S8x4224x128_0_0_0 : S8x4224x256.Slices ![0, 0, 0] S8x4224x128
  bitsLt_bf16_f32 : FTy.bits .bf16 < FTy.bits .f32
  bcast_S_S8x4224x512 : S_.BroadcastsInDim S8x4224x512 (![] : Fin 0 → Fin S8x4224x512.rank)
  reducesTo_S8x4224x512_S_d0_1_2 : S8x4224x512.ReducesTo [0, 1, 2] S_
  h_S_ : 0 < S_.numel
  bcast_S_S8x4224x128 : S_.BroadcastsInDim S8x4224x128 (![] : Fin 0 → Fin S8x4224x128.rank)
  reducesTo_S8x4224x128_S_d0_1_2 : S8x4224x128.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S8x4224x512 .bf16) (main_arg1 : FVec F S8x4224x256 .bf16) (main_arg2 : FVec F S8 .f32) : IVec S_ 1 :=
  let main_v0 : FVec F S8x4224x128 .bf16 := (extractStridedSlice S8x4224x128 ![0, 0, 0] · slices_S8x4224x256_S8x4224x128_0_0_0) main_arg1
  let main_v1 : FVec F S8x4224x128 .f32 := (extf .f32 · bitsLt_bf16_f32) main_v0
  let main_v2 : FVec F S8x4224x512 .f32 := (extf .f32 · bitsLt_bf16_f32) main_arg0
  let main_v3 : FVec F S8x4224x512 .f32 := Host.absf main_v2
  let main_cst : FVec F S_ .f32 := constant S_ .f32 0x7F800000#32
  let main_v4 : FVec F S8x4224x512 .f32 := broadcastInDim S8x4224x512 ![] bcast_S_S8x4224x512 main_cst
  let main_v5 : IVec S8x4224x512 1 := cmpf .olt main_v3 main_v4
  let main_c : IVec S_ 1 := constantI S_ 1 1#1
  let main_v6 : IVec S_ 1 := (fun x v => Host.reduce IntOp.andi x v reducesTo_S8x4224x512_S_d0_1_2 h_S_) main_v5 main_c
  let main_v7 : FVec F S8x4224x128 .f32 := Host.absf main_v1
  let main_cst_0 : FVec F S_ .f32 := constant S_ .f32 0x7F800000#32
  let main_v8 : FVec F S8x4224x128 .f32 := broadcastInDim S8x4224x128 ![] bcast_S_S8x4224x128 main_cst_0
  let main_v9 : IVec S8x4224x128 1 := cmpf .olt main_v7 main_v8
  let main_c_1 : IVec S_ 1 := constantI S_ 1 1#1
  let main_v10 : IVec S_ 1 := (fun x v => Host.reduce IntOp.andi x v reducesTo_S8x4224x128_S_d0_1_2 h_S_) main_v9 main_c_1
  let main_v11 : IVec S_ 1 := andi main_v6 main_v10
  let main_v12 : FVec F S8 .f32 := Host.absf main_arg2
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  let main_c_3 : IVec S_ 1 := constantI S_ 1 1#1
  let main_v15 : IVec S_ 1 := (fun x v => Host.reduce IntOp.andi x v reducesTo_S8_S_d0 h_S_) main_v14 main_c_3
  let main_v16 : IVec S_ 1 := andi main_v11 main_v15
  main_v16
-- ==== WinKernel.lean ====
abbrev S8x4224x512 : Shape := ⟨3, ![8, 4224, 512]⟩
abbrev S8x4224x256 : Shape := ⟨3, ![8, 4224, 256]⟩
abbrev S8 : Shape := ⟨1, ![8]⟩
abbrev S1x128x512 : Shape := ⟨3, ![1, 128, 512]⟩
abbrev S1x128x256 : Shape := ⟨3, ![1, 128, 256]⟩
abbrev S128x128 : Shape := ⟨2, ![128, 128]⟩
abbrev S1x128x64 : Shape := ⟨3, ![1, 128, 64]⟩
abbrev S128x64 : Shape := ⟨2, ![128, 64]⟩
abbrev S1x16x64 : Shape := ⟨3, ![1, 16, 64]⟩
abbrev S16x64 : Shape := ⟨2, ![16, 64]⟩
abbrev S128x16 : Shape := ⟨2, ![128, 16]⟩
abbrev S1 : Shape := ⟨1, ![1]⟩
abbrev S128 : Shape := ⟨1, ![128]⟩
abbrev S128x1 : Shape := ⟨2, ![128, 1]⟩
abbrev S128x512 : Shape := ⟨2, ![128, 512]⟩

abbrev nBuf : Space → Nat
  | .hbm => 4
  | .vmem => 12
  | .smem => 1
  | _ => 0

abbrev bufTy : (tb : Table) → Fin (tcTables nBuf tb) → BufTy
  | .hbm, ⟨0, _⟩ => ⟨S8x4224x512, .bf16⟩
  | .hbm, ⟨1, _⟩ => ⟨S8x4224x256, .bf16⟩
  | .hbm, ⟨2, _⟩ => ⟨S8, .f32⟩
  | .hbm, ⟨3, _⟩ => ⟨S8x4224x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x256, .bf16⟩
  | .local _ .vmem, ⟨3, _⟩ => ⟨S1x128x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x128x512, .bf16⟩
  | .local _ .vmem, ⟨11, _⟩ => ⟨S1x128x512, .bf16⟩
  | .local _ .smem, ⟨0, _⟩ => ⟨S8, .f32⟩
  | _, _ => ⟨S8x4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.minsi v0 c32_i32
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .smem S8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WinReferenceIdeal.lean ====
abbrev S8x4224x512 : Shape := ⟨3, ![8, 4224, 512]⟩
abbrev S8x4224x256 : Shape := ⟨3, ![8, 4224, 256]⟩
abbrev S8 : Shape := ⟨1, ![8]⟩
abbrev S8x4224x2x4x64 : Shape := ⟨5, ![8, 4224, 2, 4, 64]⟩
abbrev S8x4224x2x2x64 : Shape := ⟨5, ![8, 4224, 2, 2, 64]⟩
abbrev S8x4224x1x2x64 : Shape := ⟨5, ![8, 4224, 1, 2, 64]⟩
abbrev S8x4224x2x64 : Shape := ⟨4, ![8, 4224, 2, 64]⟩
abbrev S8x2x4224x4224x4 : Shape := ⟨5, ![8, 2, 4224, 4224, 4]⟩
abbrev S8x2x4x4224x4224 : Shape := ⟨5, ![8, 2, 4, 4224, 4224]⟩
abbrev S4224 : Shape := ⟨1, ![4224]⟩
abbrev S_ : Shape := ⟨0, ![]⟩
abbrev S4224x1 : Shape := ⟨2, ![4224, 1]⟩
abbrev S1x4224 : Shape := ⟨2, ![1, 4224]⟩
abbrev S4224x4224 : Shape := ⟨2, ![4224, 4224]⟩
abbrev S1x1x1x4224x4224 : Shape := ⟨5, ![1, 1, 1, 4224, 4224]⟩
abbrev S2x4 : Shape := ⟨2, ![2, 4]⟩
abbrev S1x2x4x1x1 : Shape := ⟨5, ![1, 2, 4, 1, 1]⟩
abbrev S8x2x4x4224x1 : Shape := ⟨5, ![8, 2, 4, 4224, 1]⟩
abbrev S8x2x4x4224x4225 : Shape := ⟨5, ![8, 2, 4, 4224, 4225]⟩
abbrev S8x2x4x4224 : Shape := ⟨4, ![8, 2, 4, 4224]⟩
abbrev S8x2x64x4x4224 : Shape := ⟨5, ![8, 2, 64, 4, 4224]⟩

abbrev nBuf : Space → Nat
  | .hbm => 69
  | .vmem => 0
  | .smem => 0
  | _ => 0

abbrev bufTy : (tb : Table) → Fin (tcTables nBuf tb) → BufTy
  | .hbm, ⟨0, _⟩ => ⟨S8x4224x512, .bf16⟩
  | .hbm, ⟨1, _⟩ => ⟨S8x4224x256, .bf16⟩
  | .hbm, ⟨2, _⟩ => ⟨S8, .f32⟩
  | .hbm, ⟨3, _⟩ => ⟨S8x4224x512, .f32⟩
  | .hbm, ⟨4, _⟩ => ⟨S8x4224x2x4x64, .f32⟩
  | .hbm, ⟨5, _⟩ => ⟨S8x4224x256, .f32⟩
  | .hbm, ⟨6, _⟩ => ⟨S8x4224x2x2x64, .f32⟩
  | .hbm, ⟨7, _⟩ => ⟨S8x4224x1x2x64, .f32⟩
  | .hbm, ⟨8, _⟩ => ⟨S8x4224x2x64, .f32⟩
  | .hbm, ⟨9, _⟩ => ⟨S8x4224x1x2x64, .f32⟩
  | .hbm, ⟨10, _⟩ => ⟨S8x4224x2x64, .f32⟩
  | .hbm, ⟨11, _⟩ => ⟨S8x2x4224x4224x4, .f32⟩
  | .hbm, ⟨12, _⟩ => ⟨S8x2x4x4224x4224, .f32⟩
  | .hbm, ⟨13, _⟩ => ⟨S4224, .i32⟩
  | .hbm, ⟨14, _⟩ => ⟨S_, .i32⟩
  | .hbm, ⟨15, _⟩ => ⟨S4224, .i32⟩
  | .hbm, ⟨16, _⟩ => ⟨S4224, .i32⟩
  | .hbm, ⟨17, _⟩ => ⟨S4224x1, .i32⟩
  | .hbm, ⟨18, _⟩ => ⟨S1x4224, .i32⟩
  | .hbm, ⟨19, _⟩ => ⟨S4224x4224, .i32⟩
  | .hbm, ⟨20, _⟩ => ⟨S4224x4224, .i32⟩
  | .hbm, ⟨21, _⟩ => ⟨S4224x4224, .i32⟩
  | .hbm, ⟨22, _⟩ => ⟨S4224x4224, .i32⟩
  | .hbm, ⟨23, _⟩ => ⟨S_, .i32⟩
  | .hbm, ⟨24, _⟩ => ⟨S4224x4224, .i32⟩
  | .hbm, ⟨25, _⟩ => ⟨S4224x4224, .i1⟩
  | .hbm, ⟨26, _⟩ => ⟨S_, .i32⟩
  | .hbm, ⟨27, _⟩ => ⟨S1x4224, .i32⟩
  | .hbm, ⟨28, _⟩ => ⟨S1x4224, .i1⟩
  | .hbm, ⟨29, _⟩ => ⟨S4224x4224, .i1⟩
  | .hbm, ⟨30, _⟩ => ⟨S4224x4224, .i1⟩
  | .hbm, ⟨31, _⟩ => ⟨S_, .i32⟩
  | .hbm, ⟨32, _⟩ => ⟨S1x4224, .i32⟩
  | .hbm, ⟨33, _⟩ => ⟨S1x4224, .i1⟩
  | .hbm, ⟨34, _⟩ => ⟨S_, .i32⟩
  | .hbm, ⟨35, _⟩ => ⟨S1x4224, .i32⟩
  | .hbm, ⟨36, _⟩ => ⟨S1x4224, .i1⟩
  | .hbm, ⟨37, _⟩ => ⟨S1x4224, .i1⟩
  | .hbm, ⟨38, _⟩ => ⟨S4224x4224, .i1⟩
  | .hbm, ⟨39, _⟩ => ⟨S4224x4224, .i1⟩
  | .hbm, ⟨40, _⟩ => ⟨S1x1x1x4224x4224, .i1⟩
  | .hbm, ⟨41, _⟩ => ⟨S_, .f32⟩
  | .hbm, ⟨42, _⟩ => ⟨S_, .f32⟩
  | .hbm, ⟨43, _⟩ => ⟨S8x2x4x4224x4224, .i1⟩
  | .hbm, ⟨44, _⟩ => ⟨S8x2x4x4224x4224, .f32⟩
  | .hbm, ⟨45, _⟩ => ⟨S8x2x4x4224x4224, .f32⟩
  | .hbm, ⟨46, _⟩ => ⟨S2x4, .f32⟩
  | .hbm, ⟨47, _⟩ => ⟨S1x2x4x1x1, .f32⟩
  | .hbm, ⟨48, _⟩ => ⟨S8x2x4x4224x1, .f32⟩
  | .hbm, ⟨49, _⟩ => ⟨S8x2x4x4224x4225, .f32⟩
  | .hbm, ⟨50, _⟩ => ⟨S_, .f32⟩
  | .hbm, ⟨51, _⟩ => ⟨S8x2x4x4224, .f32⟩
  | .hbm, ⟨52, _⟩ => ⟨S_, .f32⟩
  | .hbm, ⟨53, _⟩ => ⟨S8x2x4x4224, .f32⟩
  | .hbm, ⟨54, _⟩ => ⟨S8x2x4x4224, .f32⟩
  | .hbm, ⟨55, _⟩ => ⟨S8x2x4x4224x1, .f32⟩
  | .hbm, ⟨56, _⟩ => ⟨S8x2x4x4224x4225, .f32⟩
  | .hbm, ⟨57, _⟩ => ⟨S8x2x4x4224x4225, .f32⟩
  | .hbm, ⟨58, _⟩ => ⟨S8x2x4x4224x4225, .f32⟩
  | .hbm, ⟨59, _⟩ => ⟨S_, .f32⟩
  | .hbm, ⟨60, _⟩ => ⟨S8x2x4x4224, .f32⟩
  | .hbm, ⟨61, _⟩ => ⟨S8x2x4x4224x1, .f32⟩
  | .hbm, ⟨62, _⟩ => ⟨S8x2x4x4224x4225, .f32⟩
  | .hbm, ⟨63, _⟩ => ⟨S8x2x4x4224x4225, .f32⟩
  | .hbm, ⟨64, _⟩ => ⟨S8x2x4x4224x4224, .f32⟩
  | .hbm, ⟨65, _⟩ => ⟨S8x2x64x4x4224, .f32⟩
  | .hbm, ⟨66, _⟩ => ⟨S8x4224x2x4x64, .f32⟩
  | .hbm, ⟨67, _⟩ => ⟨S8x4224x512, .f32⟩
  | .hbm, ⟨68, _⟩ => ⟨S8x4224x512, .bf16⟩
  | _, _ => ⟨S8x4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== OutKernel.lean ====
abbrev S8x4224x1024 : Shape := ⟨3, ![8, 4224, 1024]⟩
abbrev S8x4224x512 : Shape := ⟨3, ![8, 4224, 512]⟩
abbrev S2048x1024 : Shape := ⟨2, ![2048, 1024]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩
abbrev S1x384x1024 : Shape := ⟨3, ![1, 384, 1024]⟩
abbrev S1x384x512 : Shape := ⟨3, ![1, 384, 512]⟩
abbrev S384x1024 : Shape := ⟨2, ![384, 1024]⟩
abbrev S384x512 : Shape := ⟨2, ![384, 512]⟩
abbrev S384 : Shape := ⟨1, ![384]⟩
abbrev S384x1 : Shape := ⟨2, ![384, 1]⟩

abbrev nBuf : Space → Nat
  | .hbm => 12
  | .vmem => 14
  | .smem => 0
  | _ => 0

abbrev bufTy : (tb : Table) → Fin (tcTables nBuf tb) → BufTy
  | .hbm, ⟨0, _⟩ => ⟨S8x4224x1024, .f32⟩
  | .hbm, ⟨1, _⟩ => ⟨S8x4224x1024, .bf16⟩
  | .hbm, ⟨2, _⟩ => ⟨S8x4224x512, .bf16⟩
  | .hbm, ⟨3, _⟩ => ⟨S8x4224x512, .bf16⟩
  | .hbm, ⟨4, _⟩ => ⟨S2048x1024, .f32⟩
  | .hbm, ⟨5, _⟩ => ⟨S1024, .f32⟩
  | .hbm, ⟨6, _⟩ => ⟨S2048x1024, .bf16⟩
  | .hbm, ⟨7, _⟩ => ⟨S1024x1024, .bf16⟩
  | .hbm, ⟨8, _⟩ => ⟨S512x1024, .bf16⟩
  | .hbm, ⟨9, _⟩ => ⟨S512x1024, .bf16⟩
  | .hbm, ⟨10, _⟩ => ⟨S1x1024, .f32⟩
  | .hbm, ⟨11, _⟩ => ⟨S8x4224x1024, .f32⟩
  | .local _ .vmem, ⟨0, _⟩ => ⟨S1x384x1024, .f32⟩
  | .local _ .vmem, ⟨1, _⟩ => ⟨S1x384x1024, .f32⟩
  | .local _ .vmem, ⟨2, _⟩ => ⟨S1x384x1024, .bf16⟩
  | .local _ .vmem, ⟨3, _⟩ => ⟨S1x384x1024, .bf16⟩
  | .local _ .vmem, ⟨4, _⟩ => ⟨S1x384x512, .bf16⟩
  | .local _ .vmem, ⟨5, _⟩ => ⟨S1x384x512, .bf16⟩
  | .local _ .vmem, ⟨6, _⟩ => ⟨S1x384x512, .bf16⟩
  | .local _ .vmem, ⟨7, _⟩ => ⟨S1x384x512, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x384x1024, .f32⟩
  | .local _ .vmem, ⟨13, _⟩ => ⟨S1x384x1024, .f32⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x384x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutReferenceIdeal.lean ====
abbrev S8x4224x1024 : Shape := ⟨3, ![8, 4224, 1024]⟩
abbrev S8x4224x512 : Shape := ⟨3, ![8, 4224, 512]⟩
abbrev S2048x1024 : Shape := ⟨2, ![2048, 1024]⟩
abbrev S1024 : Shape := ⟨1, ![1024]⟩
abbrev S8x4224x2048 : Shape := ⟨3, ![8, 4224, 2048]⟩
abbrev S_ : Shape := ⟨0, ![]⟩
abbrev S8x4224 : Shape := ⟨2, ![8, 4224]⟩
abbrev S8x4224x1 : Shape := ⟨3, ![8, 4224, 1]⟩
abbrev S1x1x1024 : Shape := ⟨3, ![1, 1, 1024]⟩
abbrev S4224 : Shape := ⟨1, ![4224]⟩
abbrev S1x4224x1 : Shape := ⟨3, ![1, 4224, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S8x4224x1024, .bf16⟩
  | .hbm, ⟨2, _⟩ => ⟨S8x4224x512, .bf16⟩
  | .hbm, ⟨3, _⟩ => ⟨S8x4224x512, .bf16⟩
  | .hbm, ⟨4, _⟩ => ⟨S2048x1024, .f32⟩
  | .hbm, ⟨5, _⟩ => ⟨S1024, .f32⟩
  | .hbm, ⟨6, _⟩ => ⟨S8x4224x2048, .bf16⟩
  | .hbm, ⟨7, _⟩ => ⟨S8x4224x2048, .f32⟩
  | .hbm, ⟨8, _⟩ => ⟨S8x4224x1024, .f32⟩
  | .hbm, ⟨9, _⟩ => ⟨S8x4224x1024, .f32⟩
  | .hbm, ⟨10, _⟩ => ⟨S_, .f32⟩
  | .hbm, ⟨11, _⟩ => ⟨S8x4224, .f32⟩
  | .hbm, ⟨12, _⟩ => ⟨S8x4224x1, .f32⟩
  | .hbm, ⟨13, _⟩ => ⟨S_, .f32⟩
  | .hbm, ⟨14, _⟩ => ⟨S8x4224x1, .f32⟩
  | .hbm, ⟨15, _⟩ => ⟨S8x4224x1, .f32⟩
  | .hbm, ⟨16, _⟩ => ⟨S_, .f32⟩
  | .hbm, ⟨17, _⟩ => ⟨S8x4224x1, .f32⟩
  | .hbm, ⟨18, _⟩ => ⟨S8x4224x1, .f32⟩
  | .hbm, ⟨19, _⟩ => ⟨S8x4224x1, .f32⟩
  | .hbm, ⟨20, _⟩ => ⟨S8x4224x1024, .f32⟩
  | .hbm, ⟨21, _⟩ => ⟨S8x4224x1024, .f32⟩
  | .hbm, ⟨22, _⟩ => ⟨S1x1x1024, .f32⟩
  | .hbm, ⟨23, _⟩ => ⟨S8x4224x1024, .f32⟩
  | .hbm, ⟨24, _⟩ => ⟨S8x4224x1024, .f32⟩
  | .hbm, ⟨25, _⟩ => ⟨S8x4224x1024, .f32⟩
  | .hbm, ⟨26, _⟩ => ⟨S4224, .i32⟩
  | .hbm, ⟨27, _⟩ => ⟨S_, .i32⟩
  | .hbm, ⟨28, _⟩ => ⟨S4224, .i32⟩
  | .hbm, ⟨29, _⟩ => ⟨S4224, .i1⟩
  | .hbm, ⟨30, _⟩ => ⟨S1x4224x1, .i1⟩
  | .hbm, ⟨31, _⟩ => ⟨S_, .f32⟩
  | .hbm, ⟨32, _⟩ => ⟨S_, .f32⟩
  | .hbm, ⟨33, _⟩ => ⟨S8x4224x1024, .i1⟩
  | .hbm, ⟨34, _⟩ => ⟨S8x4224x1024, .f32⟩
  | .hbm, ⟨35, _⟩ => ⟨S8x4224x1024, .f32⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== FfnKernel.lean ====
abbrev S8x4112x1024 : Shape := ⟨3, ![8, 4112, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x112x1024 : Shape := ⟨3, ![8, 112, 1024]⟩
abbrev S8x4224x1024 : Shape := ⟨3, ![8, 4224, 1024]⟩
abbrev S1x1024 : Shape := ⟨2, ![1, 1024]⟩
abbrev S1024x22x256 : Shape := ⟨3, ![1024, 22, 256]⟩
abbrev S22x1024x256 : Shape := ⟨3, ![22, 1024, 256]⟩
abbrev S3x22x256 : Shape := ⟨3, ![3, 22, 256]⟩
abbrev S22x3x256 : Shape := ⟨3, ![22, 3, 256]⟩
abbrev S1x5632 : Shape := ⟨2, ![1, 5632]⟩
abbrev S1x22x256 : Shape := ⟨3, ![1, 22, 256]⟩
abbrev S22x1x256 : Shape := ⟨3, ![22, 1, 256]⟩
abbrev S11x256x1024 : Shape := ⟨3, ![11, 256, 1024]⟩
abbrev S1x384x1024 : Shape := ⟨3, ![1, 384, 1024]⟩
abbrev S1x8x1024 : Shape := ⟨3, ![1, 8, 1024]⟩
abbrev S400x256 : Shape := ⟨2, ![400, 256]⟩
abbrev S384x1024 : Shape := ⟨2, ![384, 1024]⟩
abbrev S8x1024 : Shape := ⟨2, ![8, 1024]⟩
abbrev S8 : Shape := ⟨1, ![8]⟩
abbrev S8x1 : Shape := ⟨2, ![8, 1]⟩
abbrev S384 : Shape := ⟨1, ![384]⟩
abbrev S384x1 : Shape := ⟨2, ![384, 1]⟩
abbrev S400x1024 : Shape := ⟨2, ![400, 1024]⟩
abbrev S1x1024x256 : Shape := ⟨3, ![1, 1024, 256]⟩
abbrev S1024x256 : Shape := ⟨2, ![1024, 256]⟩
abbrev S8x256 : Shape := ⟨2, ![8, 256]⟩
abbrev S384x256 : Shape := ⟨2, ![384, 256]⟩
abbrev S1x1x256 : Shape := ⟨3, ![1, 1, 256]⟩
abbrev S1x256 : Shape := ⟨2, ![1, 256]⟩
abbrev S1x256x1024 : Shape := ⟨3, ![1, 256, 1024]⟩
abbrev S256x1024 : Shape := ⟨2, ![256, 1024]⟩

abbrev nBuf : Space → Nat
  | .hbm => 23
  | .vmem => 17
  | .smem => 0
  | _ => 0

abbrev bufTy : (tb : Table) → Fin (tcTables nBuf tb) → BufTy
  | .hbm, ⟨0, _⟩ => ⟨S8x4112x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S_, .f32⟩
  | .hbm, ⟨8, _⟩ => ⟨S8x112x1024, .f32⟩
  | .hbm, ⟨9, _⟩ => ⟨S8x4224x1024, .f32⟩
  | .hbm, ⟨10, _⟩ => ⟨S1x1024, .f32⟩
  | .hbm, ⟨11, _⟩ => ⟨S1024x5632, .bf16⟩
  | .hbm, ⟨12, _⟩ => ⟨S1024x22x256, .bf16⟩
  | .hbm, ⟨13, _⟩ => ⟨S22x1024x256, .bf16⟩
  | .hbm, ⟨14, _⟩ => ⟨S3x22x256, .f32⟩
  | .hbm, ⟨15, _⟩ => ⟨S22x3x256, .f32⟩
  | .hbm, ⟨16, _⟩ => ⟨S1x5632, .f32⟩
  | .hbm, ⟨17, _⟩ => ⟨S1x22x256, .f32⟩
  | .hbm, ⟨18, _⟩ => ⟨S22x1x256, .f32⟩
  | .hbm, ⟨19, _⟩ => ⟨S2816x1024, .bf16⟩
  | .hbm, ⟨20, _⟩ => ⟨S11x256x1024, .bf16⟩
  | .hbm, ⟨21, _⟩ => ⟨S1x1024, .f32⟩
  | .hbm, ⟨22, _⟩ => ⟨S8x4224x1024, .f32⟩
  | .local _ .vmem, ⟨0, _⟩ => ⟨S1x384x1024, .f32⟩
  | .local _ .vmem, ⟨1, _⟩ => ⟨S1x384x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S22x1024x256, .bf16⟩
  | .local _ .vmem, ⟨8, _⟩ => ⟨S22x3x256, .f32⟩
  | .local _ .vmem, ⟨9, _⟩ => ⟨S22x1x256, .f32⟩
  | .local _ .vmem, ⟨10, _⟩ => ⟨S11x256x1024, .bf16⟩
  | .local _ .vmem, ⟨11, _⟩ => ⟨S1x1024, .f32⟩
  | .local _ .vmem, ⟨12, _⟩ => ⟨S1x384x1024, .f32⟩
  | .local _ .vmem, ⟨13, _⟩ => ⟨S1x384x1024, .f32⟩
  | .local _ .vmem, ⟨14, _⟩ => ⟨S400x256, .f32⟩
  | .local _ .vmem, ⟨15, _⟩ => ⟨S400x256, .f32⟩
  | .local _ .vmem, ⟨16, _⟩ => ⟨S384x1024, .f32⟩
  | _, _ => ⟨S8x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 11], ![false, false]⟩

@[reducible] def k0_t1_loop : Scf.Loop 32 :=
  let c0_i32 : BitVec 32 := 0#32
  let c11_i32 : BitVec 32 := 11#32
  let v52 : BitVec 32 := Scalar.addi c0_i32 c11_i32
  let c1_i32 : BitVec 32 := 1#32
  ⟨c0_i32, v52, c1_i32⟩
def k0_off1 (k0_t1 : Fin k0_t1_loop.trips) : Fin 3 → Nat :=
  let c0_i32 : BitVec 32 := 0#32
  let c1_i32 : BitVec 32 := 1#32
  let arg15 : BitVec 32 := Scf.iv c0_i32 c1_i32 k0_t1
  let v84 : Index := Scalar.indexCast arg15
  let c0_38 : Index := 0#32
  let c0_39 : Index := 0#32
  ![v84.toNat, 0, 0]
def k0_off2 (k0_t1 : Fin k0_t1_loop.trips) : Fin 3 → Nat :=
  let c0_i32 : BitVec 32 := 0#32
  let c1_i32 : BitVec 32 := 1#32
  let arg15 : BitVec 32 := Scf.iv c0_i32 c1_i32 k0_t1
  let v98 : Index := Scalar.indexCast arg15
  let c0_45 : Index := 0#32
  let c0_46 : Index := 0#32
  ![v98.toNat, 0, 0]
def k0_off3 (k0_t1 : Fin k0_t1_loop.trips) : Fin 3 → Nat :=
  let c0_i32 : BitVec 32 := 0#32
  let c1_i32 : BitVec 32 := 1#32
  let arg15 : BitVec 32 := Scf.iv c0_i32 c1_i32 k0_t1
  let v103 : Index := Scalar.indexCast arg15
  let c0_47 : Index := 0#32
  let c0_48 : Index := 0#32
  ![v103.toNat, 0, 0]
def k0_off4 (k0_t1 : Fin k0_t1_loop.trips) : Fin 3 → Nat :=
  let c0_i32 : BitVec 32 := 0#32
  let c1_i32 : BitVec 32 := 1#32
  let arg15 : BitVec 32 := Scf.iv c0_i32 c1_i32 k0_t1
  let v109 : Index := Scalar.indexCast arg15
  let c1 : Index := 1#32
  let c0_50 : Index := 0#32
  ![v109.toNat, 1, 0]
def k0_off5 (k0_t1 : Fin k0_t1_loop.trips) : Fin 3 → Nat :=
  let c0_i32 : BitVec 32 := 0#32
  let c1_i32 : BitVec 32 := 1#32
  let arg15 : BitVec 32 := Scf.iv c0_i32 c1_i32 k0_t1
  let v116 : Index := Scalar.indexCast arg15
  let c2 : Index := 2#32
  let c0_52 : Index := 0#32
  ![v116.toNat, 2, 0]
def k0_off6 (k0_t1 : Fin k0_t1_loop.trips) : Fin 3 → Nat :=
  let c11_i32_53 : BitVec 32 := 11#32
  let c0_i32 : BitVec 32 := 0#32
  let c1_i32 : BitVec 32 := 1#32
  let arg15 : BitVec 32 := Scf.iv c0_i32 c1_i32 k0_t1
  let v122 : BitVec 32 := Scalar.addi c11_i32_53 arg15
  let v123 : Index := Scalar.indexCast v122
  let c0_54 : Index := 0#32
  let c0_55 : Index := 0#32
  ![v123.toNat, 0, 0]
def k0_off7 (k0_t1 : Fin k0_t1_loop.trips) : Fin 3 → Nat :=
  let c11_i32_57 : BitVec 32 := 11#32
  let c0_i32 : BitVec 32 := 0#32
  let c1_i32 : BitVec 32 := 1#32
  let arg15 : BitVec 32 := Scf.iv c0_i32 c1_i32 k0_t1
  let v127 : BitVec 32 := Scalar.addi c11_i32_57 arg15
  let v138 : Index := Scalar.indexCast v127
  let c0_64 : Index := 0#32
  let c0_65 : Index := 0#32
  ![v138.toNat, 0, 0]
def k0_off8 (k0_t1 : Fin k0_t1_loop.trips) : Fin 3 → Nat :=
  let c11_i32_57 : BitVec 32 := 11#32
  let c0_i32 : BitVec 32 := 0#32
  let c1_i32 : BitVec 32 := 1#32
  let arg15 : BitVec 32 := Scf.iv c0_i32 c1_i32 k0_t1
  let v127 : BitVec 32 := Scalar.addi c11_i32_57 arg15
  let v143 : Index := Scalar.indexCast v127
  let c0_66 : Index := 0#32
  let c0_67 : Index := 0#32
  ![v143.toNat, 0, 0]
def k0_off9 (k0_t1 : Fin k0_t1_loop.trips) : Fin 3 → Nat :=
  let c11_i32_57 : BitVec 32 := 11#32
  let c0_i32 : BitVec 32 := 0#32
  let c1_i32 : BitVec 32 := 1#32
  let arg15 : BitVec 32 := Scf.iv c0_i32 c1_i32 k0_t1
  let v127 : BitVec 32 := Scalar.addi c11_i32_57 arg15
  let v149 : Index := Scalar.indexCast v127
  let c1_70 : Index := 1#32
  let c0_71 : Index := 0#32
  ![v149.toNat, 1, 0]
def k0_off10 (k0_t1 : Fin k0_t1_loop.trips) : Fin 3 → Nat :=
  let c11_i32_57 : BitVec 32 := 11#32
  let c0_i32 : BitVec 32 := 0#32
  let c1_i32 : BitVec 32 := 1#32
  let arg15 : BitVec 32 := Scf.iv c0_i32 c1_i32 k0_t1
  let v127 : BitVec 32 := Scalar.addi c11_i32_57 arg15
  let v156 : Index := Scalar.indexCast v127
  let c2_74 : Index := 2#32
  let c0_75 : Index := 0#32
  ![v156.toNat, 2, 0]
def k0_off11 (k0_t1 : Fin k0_t1_loop.trips) : Fin 3 → Nat :=
  let c0_i32 : BitVec 32 := 0#32
  let c1_i32 : BitVec 32 := 1#32
  let arg15 : BitVec 32 := Scf.iv c0_i32 c1_i32 k0_t1
  let v178 : Index := Scalar.indexCast arg15
  let c0_82 : Index := 0#32
  let c0_83 : Index := 0#32
  ![v178.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c527_i32 : BitVec 32 := 527#32
  let v2 : BitVec 32 := Scalar.minsi v1 c527_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S22x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S22x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S22x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S8x4112x1024 : Shape := ⟨3, ![8, 4112, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4112 : Shape := ⟨2, ![8, 4112]⟩
abbrev S8x4112x1 : Shape := ⟨3, ![8, 4112, 1]⟩
abbrev S1x1x1024 : Shape := ⟨3, ![1, 1, 1024]⟩
abbrev S8x4112x5632 : Shape := ⟨3, ![8, 4112, 5632]⟩
abbrev S8x4114x5632 : Shape := ⟨3, ![8, 4114, 5632]⟩
abbrev S1x5632 : Shape := ⟨2, ![1, 5632]⟩
abbrev S1x1x5632 : Shape := ⟨3, ![1, 1, 5632]⟩
abbrev S8x4112x2816 : Shape := ⟨3, ![8, 4112, 2816]⟩
abbrev S8x112x1024 : Shape := ⟨3, ![8, 112, 1024]⟩
abbrev S8x4224x1024 : Shape := ⟨3, ![8, 4224, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8x4112x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x4112x1024, .f32⟩
  | .hbm, ⟨8, _⟩ => ⟨S_, .f32⟩
  | .hbm, ⟨9, _⟩ => ⟨S8x4112, .f32⟩
  | .hbm, ⟨10, _⟩ => ⟨S8x4112x1, .f32⟩
  | .hbm, ⟨11, _⟩ => ⟨S_, .f32⟩
  | .hbm, ⟨12, _⟩ => ⟨S8x4112x1, .f32⟩
  | .hbm, ⟨13, _⟩ => ⟨S8x4112x1, .f32⟩
  | .hbm, ⟨14, _⟩ => ⟨S_, .f32⟩
  | .hbm, ⟨15, _⟩ => ⟨S8x4112x1, .f32⟩
  | .hbm, ⟨16, _⟩ => ⟨S8x4112x1, .f32⟩
  | .hbm, ⟨17, _⟩ => ⟨S8x4112x1, .f32⟩
  | .hbm, ⟨18, _⟩ => ⟨S8x4112x1024, .f32⟩
  | .hbm, ⟨19, _⟩ => ⟨S8x4112x1024, .f32⟩
  | .hbm, ⟨20, _⟩ => ⟨S1x1x1024, .f32⟩
  | .hbm, ⟨21, _⟩ => ⟨S8x4112x1024, .f32⟩
  | .hbm, ⟨22, _⟩ => ⟨S8x4112x1024, .f32⟩
  | .hbm, ⟨23, _⟩ => ⟨S8x4112x5632, .f32⟩
  | .hbm, ⟨24, _⟩ => ⟨S_, .i32⟩
  | .hbm, ⟨25, _⟩ => ⟨S_, .f32⟩
  | .hbm, ⟨26, _⟩ => ⟨S8x4114x5632, .f32⟩
  | .hbm, ⟨27, _⟩ => ⟨S8x4112x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S8x4112x5632, .f32⟩
  | .hbm, ⟨32, _⟩ => ⟨S8x4112x5632, .f32⟩
  | .hbm, ⟨33, _⟩ => ⟨S1x1x5632, .f32⟩
  | .hbm, ⟨34, _⟩ => ⟨S8x4112x5632, .f32⟩
  | .hbm, ⟨35, _⟩ => ⟨S8x4112x5632, .f32⟩
  | .hbm, ⟨36, _⟩ => ⟨S8x4112x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S8x4112x5632, .f32⟩
  | .hbm, ⟨41, _⟩ => ⟨S8x4112x5632, .f32⟩
  | .hbm, ⟨42, _⟩ => ⟨S8x4112x5632, .f32⟩
  | .hbm, ⟨43, _⟩ => ⟨S8x4112x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S8x4112x5632, .f32⟩
  | .hbm, ⟨48, _⟩ => ⟨S8x4112x5632, .f32⟩
  | .hbm, ⟨49, _⟩ => ⟨S8x4112x5632, .f32⟩
  | .hbm, ⟨50, _⟩ => ⟨S8x4112x2816, .f32⟩
  | .hbm, ⟨51, _⟩ => ⟨S8x4112x2816, .f32⟩
  | .hbm, ⟨52, _⟩ => ⟨S8x4112x2816, .f32⟩
  | .hbm, ⟨53, _⟩ => ⟨S8x4112x2816, .f32⟩
  | .hbm, ⟨54, _⟩ => ⟨S_, .f32⟩
  | .hbm, ⟨55, _⟩ => ⟨S8x4112x2816, .f32⟩
  | .hbm, ⟨56, _⟩ => ⟨S8x4112x2816, .f32⟩
  | .hbm, ⟨57, _⟩ => ⟨S8x4112x2816, .f32⟩
  | .hbm, ⟨58, _⟩ => ⟨S_, .f32⟩
  | .hbm, ⟨59, _⟩ => ⟨S8x4112x2816, .f32⟩
  | .hbm, ⟨60, _⟩ => ⟨S8x4112x2816, .f32⟩
  | .hbm, ⟨61, _⟩ => ⟨S8x4112x2816, .f32⟩
  | .hbm, ⟨62, _⟩ => ⟨S_, .f32⟩
  | .hbm, ⟨63, _⟩ => ⟨S8x4112x2816, .f32⟩
  | .hbm, ⟨64, _⟩ => ⟨S8x4112x2816, .f32⟩
  | .hbm, ⟨65, _⟩ => ⟨S_, .f32⟩
  | .hbm, ⟨66, _⟩ => ⟨S8x4112x2816, .f32⟩
  | .hbm, ⟨67, _⟩ => ⟨S8x4112x2816, .f32⟩
  | .hbm, ⟨68, _⟩ => ⟨S8x4112x2816, .f32⟩
  | .hbm, ⟨69, _⟩ => ⟨S8x4112x2816, .f32⟩
  | .hbm, ⟨70, _⟩ => ⟨S8x4112x1024, .f32⟩
  | .hbm, ⟨71, _⟩ => ⟨S8x4112x1024, .f32⟩
  | .hbm, ⟨72, _⟩ => ⟨S_, .f32⟩
  | .hbm, ⟨73, _⟩ => ⟨S8x4112, .f32⟩
  | .hbm, ⟨74, _⟩ => ⟨S8x4112x1, .f32⟩
  | .hbm, ⟨75, _⟩ => ⟨S_, .f32⟩
  | .hbm, ⟨76, _⟩ => ⟨S8x4112x1, .f32⟩
  | .hbm, ⟨77, _⟩ => ⟨S8x4112x1, .f32⟩
  | .hbm, ⟨78, _⟩ => ⟨S_, .f32⟩
  | .hbm, ⟨79, _⟩ => ⟨S8x4112x1, .f32⟩
  | .hbm, ⟨80, _⟩ => ⟨S8x4112x1, .f32⟩
  | .hbm, ⟨81, _⟩ => ⟨S8x4112x1, .f32⟩
  | .hbm, ⟨82, _⟩ => ⟨S8x4112x1024, .f32⟩
  | .hbm, ⟨83, _⟩ => ⟨S8x4112x1024, .f32⟩
  | .hbm, ⟨84, _⟩ => ⟨S1x1x1024, .f32⟩
  | .hbm, ⟨85, _⟩ => ⟨S8x4112x1024, .f32⟩
  | .hbm, ⟨86, _⟩ => ⟨S8x4112x1024, .f32⟩
  | .hbm, ⟨87, _⟩ => ⟨S8x4112x1024, .f32⟩
  | .hbm, ⟨88, _⟩ => ⟨S_, .f32⟩
  | .hbm, ⟨89, _⟩ => ⟨S8x112x1024, .f32⟩
  | .hbm, ⟨90, _⟩ => ⟨S8x4224x1024, .f32⟩
  | _, _ => ⟨S8x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== InKernel.lean ====
abbrev S8x4224x1024 : Shape := ⟨3, ![8, 4224, 1024]⟩
abbrev S1024 : Shape := ⟨1, ![1024]⟩
abbrev S1024x4896 : Shape := ⟨2, ![1024, 4896]⟩
abbrev S1024x1024 : Shape := ⟨2, ![1024, 1024]⟩
abbrev S1024x1536 : Shape := ⟨2, ![1024, 1536]⟩
abbrev S1024x32 : Shape := ⟨2, ![1024, 32]⟩
abbrev S1024x512 : Shape := ⟨2, ![1024, 512]⟩
abbrev S1024x256 : Shape := ⟨2, ![1024, 256]⟩
abbrev S_ : Shape := ⟨0, ![]⟩
abbrev S1024x128 : Shape := ⟨2, ![1024, 128]⟩
abbrev S1x1024 : Shape := ⟨2, ![1, 1024]⟩
abbrev S4224 : Shape := ⟨1, ![4224]⟩
abbrev S8 : Shape := ⟨1, ![8]⟩
abbrev S4224x1 : Shape := ⟨2, ![4224, 1]⟩
abbrev S1x8 : Shape := ⟨2, ![1, 8]⟩
abbrev S4224x8 : Shape := ⟨2, ![4224, 8]⟩
abbrev S4224x48 : Shape := ⟨2, ![4224, 48]⟩
abbrev S4224x64 : Shape := ⟨2, ![4224, 64]⟩
abbrev S1x4224x1x64 : Shape := ⟨4, ![1, 4224, 1, 64]⟩
abbrev S1x4224x2x64 : Shape := ⟨4, ![1, 4224, 2, 64]⟩
abbrev S4224x128 : Shape := ⟨2, ![4224, 128]⟩
abbrev S8x4224x1536 : Shape := ⟨3, ![8, 4224, 1536]⟩
abbrev S8x4224x128 : Shape := ⟨3, ![8, 4224, 128]⟩
abbrev S8x4224x512 : Shape := ⟨3, ![8, 4224, 512]⟩
abbrev S8x4224x256 : Shape := ⟨3, ![8, 4224, 256]⟩
abbrev S1x384x1024 : Shape := ⟨3, ![1, 384, 1024]⟩
abbrev S384x128 : Shape := ⟨2, ![384, 128]⟩
abbrev S1x384x1536 : Shape := ⟨3, ![1, 384, 1536]⟩
abbrev S1x384x128 : Shape := ⟨3, ![1, 384, 128]⟩
abbrev S1x384x512 : Shape := ⟨3, ![1, 384, 512]⟩
abbrev S1x384x256 : Shape := ⟨3, ![1, 384, 256]⟩
abbrev S384x1024 : Shape := ⟨2, ![384, 1024]⟩
abbrev S384 : Shape := ⟨1, ![384]⟩
abbrev S384x1 : Shape := ⟨2, ![384, 1]⟩
abbrev S384x1536 : Shape := ⟨2, ![384, 1536]⟩
abbrev S384x512 : Shape := ⟨2, ![384, 512]⟩
abbrev S384x256 : Shape := ⟨2, ![384, 256]⟩

abbrev nBuf : Space → Nat
  | .hbm => 66
  | .vmem => 33
  | .smem => 0
  | _ => 0

abbrev bufTy : (tb : Table) → Fin (tcTables nBuf tb) → BufTy
  | .hbm, ⟨0, _⟩ => ⟨S8x4224x1024, .f32⟩
  | .hbm, ⟨1, _⟩ => ⟨S1024, .f32⟩
  | .hbm, ⟨2, _⟩ => ⟨S1024x4896, .f32⟩
  | .hbm, ⟨3, _⟩ => ⟨S1024x4896, .bf16⟩
  | .hbm, ⟨4, _⟩ => ⟨S1024x1024, .bf16⟩
  | .hbm, ⟨5, _⟩ => ⟨S1024x1536, .bf16⟩
  | .hbm, ⟨6, _⟩ => ⟨S1024x32, .bf16⟩
  | .hbm, ⟨7, _⟩ => ⟨S1024x512, .bf16⟩
  | .hbm, ⟨8, _⟩ => ⟨S1024x256, .bf16⟩
  | .hbm, ⟨9, _⟩ => ⟨S1024x512, .bf16⟩
  | .hbm, ⟨10, _⟩ => ⟨S1024x512, .bf16⟩
  | .hbm, ⟨11, _⟩ => ⟨S1024x512, .bf16⟩
  | .hbm, ⟨12, _⟩ => ⟨S_, .i32⟩
  | .hbm, ⟨13, _⟩ => ⟨S_, .bf16⟩
  | .hbm, ⟨14, _⟩ => ⟨S1024x128, .bf16⟩
  | .hbm, ⟨15, _⟩ => ⟨S1x1024, .f32⟩
  | .hbm, ⟨16, _⟩ => ⟨S4224, .i32⟩
  | .hbm, ⟨17, _⟩ => ⟨S_, .i32⟩
  | .hbm, ⟨18, _⟩ => ⟨S4224, .i32⟩
  | .hbm, ⟨19, _⟩ => ⟨S4224, .i32⟩
  | .hbm, ⟨20, _⟩ => ⟨S_, .i32⟩
  | .hbm, ⟨21, _⟩ => ⟨S4224, .i32⟩
  | .hbm, ⟨22, _⟩ => ⟨S4224, .i32⟩
  | .hbm, ⟨23, _⟩ => ⟨S4224, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S4224x1, .f32⟩
  | .hbm, ⟨33, _⟩ => ⟨S1x8, .f32⟩
  | .hbm, ⟨34, _⟩ => ⟨S4224x8, .f32⟩
  | .hbm, ⟨35, _⟩ => ⟨S4224x8, .f32⟩
  | .hbm, ⟨36, _⟩ => ⟨S4224x8, .f32⟩
  | .hbm, ⟨37, _⟩ => ⟨S4224x8, .f32⟩
  | .hbm, ⟨38, _⟩ => ⟨S4224x8, .f32⟩
  | .hbm, ⟨39, _⟩ => ⟨S_, .f32⟩
  | .hbm, ⟨40, _⟩ => ⟨S4224x8, .f32⟩
  | .hbm, ⟨41, _⟩ => ⟨S_, .f32⟩
  | .hbm, ⟨42, _⟩ => ⟨S4224x48, .f32⟩
  | .hbm, ⟨43, _⟩ => ⟨S_, .f32⟩
  | .hbm, ⟨44, _⟩ => ⟨S4224x48, .f32⟩
  | .hbm, ⟨45, _⟩ => ⟨S4224x64, .f32⟩
  | .hbm, ⟨46, _⟩ => ⟨S4224x8, .f32⟩
  | .hbm, ⟨47, _⟩ => ⟨S4224x64, .f32⟩
  | .hbm, ⟨48, _⟩ => ⟨S4224x64, .f32⟩
  | .hbm, ⟨49, _⟩ => ⟨S1x4224x1x64, .f32⟩
  | .hbm, ⟨50, _⟩ => ⟨S1x4224x2x64, .f32⟩
  | .hbm, ⟨51, _⟩ => ⟨S4224x128, .f32⟩
  | .hbm, ⟨52, _⟩ => ⟨S1x4224x1x64, .f32⟩
  | .hbm, ⟨53, _⟩ => ⟨S1x4224x2x64, .f32⟩
  | .hbm, ⟨54, _⟩ => ⟨S4224x128, .f32⟩
  | .hbm, ⟨55, _⟩ => ⟨S1x4224x1x64, .f32⟩
  | .hbm, ⟨56, _⟩ => ⟨S1x4224x2x64, .f32⟩
  | .hbm, ⟨57, _⟩ => ⟨S4224x128, .f32⟩
  | .hbm, ⟨58, _⟩ => ⟨S8x4224x1024, .bf16⟩
  | .hbm, ⟨59, _⟩ => ⟨S8x4224x1536, .bf16⟩
  | .hbm, ⟨60, _⟩ => ⟨S8x4224x128, .f32⟩
  | .hbm, ⟨61, _⟩ => ⟨S8x4224x512, .bf16⟩
  | .hbm, ⟨62, _⟩ => ⟨S8x4224x256, .bf16⟩
  | .hbm, ⟨63, _⟩ => ⟨S8x4224x512, .bf16⟩
  | .hbm, ⟨64, _⟩ => ⟨S8x4224x512, .bf16⟩
  | .hbm, ⟨65, _⟩ => ⟨S8x4224x512, .bf16⟩
  | .local _ .vmem, ⟨0, _⟩ => ⟨S1x384x1024, .f32⟩
  | .local _ .vmem, ⟨1, _⟩ => ⟨S1x384x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1536, .bf16⟩
  | .local _ .vmem, ⟨5, _⟩ => ⟨S1024x128, .bf16⟩
  | .local _ .vmem, ⟨6, _⟩ => ⟨S1024x512, .bf16⟩
  | .local _ .vmem, ⟨7, _⟩ => ⟨S1024x256, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S384x128, .f32⟩
  | .local _ .vmem, ⟨12, _⟩ => ⟨S384x128, .f32⟩
  | .local _ .vmem, ⟨13, _⟩ => ⟨S384x128, .f32⟩
  | .local _ .vmem, ⟨14, _⟩ => ⟨S384x128, .f32⟩
  | .local _ .vmem, ⟨15, _⟩ => ⟨S384x128, .f32⟩
  | .local _ .vmem, ⟨16, _⟩ => ⟨S384x128, .f32⟩
  | .local _ .vmem, ⟨17, _⟩ => ⟨S1x384x1024, .bf16⟩
  | .local _ .vmem, ⟨18, _⟩ => ⟨S1x384x1024, .bf16⟩
  | .local _ .vmem, ⟨19, _⟩ => ⟨S1x384x1536, .bf16⟩
  | .local _ .vmem, ⟨20, _⟩ => ⟨S1x384x1536, .bf16⟩
  | .local _ .vmem, ⟨21, _⟩ => ⟨S1x384x128, .f32⟩
  | .local _ .vmem, ⟨22, _⟩ => ⟨S1x384x128, .f32⟩
  | .local _ .vmem, ⟨23, _⟩ => ⟨S1x384x512, .bf16⟩
  | .local _ .vmem, ⟨24, _⟩ => ⟨S1x384x512, .bf16⟩
  | .local _ .vmem, ⟨25, _⟩ => ⟨S1x384x256, .bf16⟩
  | .local _ .vmem, ⟨26, _⟩ => ⟨S1x384x256, .bf16⟩
  | .local _ .vmem, ⟨27, _⟩ => ⟨S1x384x512, .bf16⟩
  | .local _ .vmem, ⟨28, _⟩ => ⟨S1x384x512, .bf16⟩
  | .local _ .vmem, ⟨29, _⟩ => ⟨S1x384x512, .bf16⟩
  | .local _ .vmem, ⟨30, _⟩ => ⟨S1x384x512, .bf16⟩
  | .local _ .vmem, ⟨31, _⟩ => ⟨S1x384x512, .bf16⟩
  | .local _ .vmem, ⟨32, _⟩ => ⟨S1x384x512, .bf16⟩
  | _, _ => ⟨S8x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev main_v46_3 : Ref sig .tc := ⟨.hbm, 61, rfl⟩
abbrev main_v46_4 : Ref sig .tc := ⟨.hbm, 62, rfl⟩
abbrev main_v46_5 : Ref sig .tc := ⟨.hbm, 63, rfl⟩
abbrev main_v46_6 : Ref sig .tc := ⟨.hbm, 64, rfl⟩
abbrev main_v46_7 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![8, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S384x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S384x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x384x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x384x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x384x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x384x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x384x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x384x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x384x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x384x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== InReferenceIdeal.lean ====
abbrev S8x4224x1024 : Shape := ⟨3, ![8, 4224, 1024]⟩
abbrev S1024 : Shape := ⟨1, ![1024]⟩
abbrev S1024x4896 : Shape := ⟨2, ![1024, 4896]⟩
abbrev S_ : Shape := ⟨0, ![]⟩
abbrev S8x4224 : Shape := ⟨2, ![8, 4224]⟩
abbrev S8x4224x1 : Shape := ⟨3, ![8, 4224, 1]⟩
abbrev S1x1x1024 : Shape := ⟨3, ![1, 1, 1024]⟩
abbrev S8x4224x4896 : Shape := ⟨3, ![8, 4224, 4896]⟩
abbrev S8x4224x1536 : Shape := ⟨3, ![8, 4224, 1536]⟩
abbrev S8x4224x32 : Shape := ⟨3, ![8, 4224, 32]⟩
abbrev S8x4224x512 : Shape := ⟨3, ![8, 4224, 512]⟩
abbrev S8x4224x128 : Shape := ⟨3, ![8, 4224, 128]⟩
abbrev S4224 : Shape := ⟨1, ![4224]⟩
abbrev S8 : Shape := ⟨1, ![8]⟩
abbrev S4224x1 : Shape := ⟨2, ![4224, 1]⟩
abbrev S1x8 : Shape := ⟨2, ![1, 8]⟩
abbrev S4224x8 : Shape := ⟨2, ![4224, 8]⟩
abbrev S1x4224x1x8 : Shape := ⟨4, ![1, 4224, 1, 8]⟩
abbrev S8x4224x2x64 : Shape := ⟨4, ![8, 4224, 2, 64]⟩
abbrev S8x4224x2x8 : Shape := ⟨4, ![8, 4224, 2, 8]⟩
abbrev S8x4224x2x48 : Shape := ⟨4, ![8, 4224, 2, 48]⟩
abbrev S8x4224x256 : Shape := ⟨3, ![8, 4224, 256]⟩
abbrev S8x4224x8x64 : Shape := ⟨4, ![8, 4224, 8, 64]⟩
abbrev S8x4224x8x8 : Shape := ⟨4, ![8, 4224, 8, 8]⟩
abbrev S8x4224x8x48 : Shape := ⟨4, ![8, 4224, 8, 48]⟩

abbrev nBuf : Space → Nat
  | .hbm => 121
  | .vmem => 0
  | .smem => 0
  | _ => 0

abbrev bufTy : (tb : Table) → Fin (tcTables nBuf tb) → BufTy
  | .hbm, ⟨0, _⟩ => ⟨S8x4224x1024, .f32⟩
  | .hbm, ⟨1, _⟩ => ⟨S1024, .f32⟩
  | .hbm, ⟨2, _⟩ => ⟨S1024x4896, .f32⟩
  | .hbm, ⟨3, _⟩ => ⟨S8x4224x1024, .f32⟩
  | .hbm, ⟨4, _⟩ => ⟨S_, .f32⟩
  | .hbm, ⟨5, _⟩ => ⟨S8x4224, .f32⟩
  | .hbm, ⟨6, _⟩ => ⟨S8x4224x1, .f32⟩
  | .hbm, ⟨7, _⟩ => ⟨S_, .f32⟩
  | .hbm, ⟨8, _⟩ => ⟨S8x4224x1, .f32⟩
  | .hbm, ⟨9, _⟩ => ⟨S8x4224x1, .f32⟩
  | .hbm, ⟨10, _⟩ => ⟨S_, .f32⟩
  | .hbm, ⟨11, _⟩ => ⟨S8x4224x1, .f32⟩
  | .hbm, ⟨12, _⟩ => ⟨S8x4224x1, .f32⟩
  | .hbm, ⟨13, _⟩ => ⟨S8x4224x1, .f32⟩
  | .hbm, ⟨14, _⟩ => ⟨S8x4224x1024, .f32⟩
  | .hbm, ⟨15, _⟩ => ⟨S8x4224x1024, .f32⟩
  | .hbm, ⟨16, _⟩ => ⟨S1x1x1024, .f32⟩
  | .hbm, ⟨17, _⟩ => ⟨S8x4224x1024, .f32⟩
  | .hbm, ⟨18, _⟩ => ⟨S8x4224x1024, .f32⟩
  | .hbm, ⟨19, _⟩ => ⟨S8x4224x4896, .f32⟩
  | .hbm, ⟨20, _⟩ => ⟨S8x4224x1024, .f32⟩
  | .hbm, ⟨21, _⟩ => ⟨S8x4224x1536, .f32⟩
  | .hbm, ⟨22, _⟩ => ⟨S8x4224x32, .f32⟩
  | .hbm, ⟨23, _⟩ => ⟨S8x4224x512, .f32⟩
  | .hbm, ⟨24, _⟩ => ⟨S8x4224x128, .f32⟩
  | .hbm, ⟨25, _⟩ => ⟨S8x4224x128, .f32⟩
  | .hbm, ⟨26, _⟩ => ⟨S8x4224x512, .f32⟩
  | .hbm, ⟨27, _⟩ => ⟨S8x4224x512, .f32⟩
  | .hbm, ⟨28, _⟩ => ⟨S8x4224x512, .f32⟩
  | .hbm, ⟨29, _⟩ => ⟨S4224, .i32⟩
  | .hbm, ⟨30, _⟩ => ⟨S_, .i32⟩
  | .hbm, ⟨31, _⟩ => ⟨S4224, .i32⟩
  | .hbm, ⟨32, _⟩ => ⟨S4224, .i32⟩
  | .hbm, ⟨33, _⟩ => ⟨S_, .i32⟩
  | .hbm, ⟨34, _⟩ => ⟨S4224, .i32⟩
  | .hbm, ⟨35, _⟩ => ⟨S4224, .i32⟩
  | .hbm, ⟨36, _⟩ => ⟨S_, .i32⟩
  | .hbm, ⟨37, _⟩ => ⟨S_, .f32⟩
  | .hbm, ⟨38, _⟩ => ⟨S8x4224x128, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S4224, .f32⟩
  | .hbm, ⟨48, _⟩ => ⟨S4224x1, .f32⟩
  | .hbm, ⟨49, _⟩ => ⟨S1x8, .f32⟩
  | .hbm, ⟨50, _⟩ => ⟨S4224x8, .f32⟩
  | .hbm, ⟨51, _⟩ => ⟨S4224x8, .f32⟩
  | .hbm, ⟨52, _⟩ => ⟨S4224x8, .f32⟩
  | .hbm, ⟨53, _⟩ => ⟨S4224x8, .f32⟩
  | .hbm, ⟨54, _⟩ => ⟨S1x4224x1x8, .f32⟩
  | .hbm, ⟨55, _⟩ => ⟨S4224x8, .f32⟩
  | .hbm, ⟨56, _⟩ => ⟨S1x4224x1x8, .f32⟩
  | .hbm, ⟨57, _⟩ => ⟨S8x4224x2x64, .f32⟩
  | .hbm, ⟨58, _⟩ => ⟨S8x4224x2x8, .f32⟩
  | .hbm, ⟨59, _⟩ => ⟨S8x4224x2x8, .f32⟩
  | .hbm, ⟨60, _⟩ => ⟨S8x4224x2x8, .f32⟩
  | .hbm, ⟨61, _⟩ => ⟨S8x4224x2x8, .f32⟩
  | .hbm, ⟨62, _⟩ => ⟨S8x4224x2x8, .f32⟩
  | .hbm, ⟨63, _⟩ => ⟨S8x4224x2x8, .f32⟩
  | .hbm, ⟨64, _⟩ => ⟨S8x4224x2x8, .f32⟩
  | .hbm, ⟨65, _⟩ => ⟨S8x4224x2x8, .f32⟩
  | .hbm, ⟨66, _⟩ => ⟨S8x4224x2x8, .f32⟩
  | .hbm, ⟨67, _⟩ => ⟨S8x4224x2x8, .f32⟩
  | .hbm, ⟨68, _⟩ => ⟨S8x4224x2x8, .f32⟩
  | .hbm, ⟨69, _⟩ => ⟨S8x4224x2x8, .f32⟩
  | .hbm, ⟨70, _⟩ => ⟨S8x4224x2x48, .f32⟩
  | .hbm, ⟨71, _⟩ => ⟨S8x4224x2x64, .f32⟩
  | .hbm, ⟨72, _⟩ => ⟨S8x4224x128, .f32⟩
  | .hbm, ⟨73, _⟩ => ⟨S8x4224x256, .f32⟩
  | .hbm, ⟨74, _⟩ => ⟨S8x4224x1024, .bf16⟩
  | .hbm, ⟨75, _⟩ => ⟨S8x4224x1536, .bf16⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S_, .f32⟩
  | .hbm, ⟨82, _⟩ => ⟨S8, .f32⟩
  | .hbm, ⟨83, _⟩ => ⟨S8, .f32⟩
  | .hbm, ⟨84, _⟩ => ⟨S4224, .f32⟩
  | .hbm, ⟨85, _⟩ => ⟨S4224x1, .f32⟩
  | .hbm, ⟨86, _⟩ => ⟨S1x8, .f32⟩
  | .hbm, ⟨87, _⟩ => ⟨S4224x8, .f32⟩
  | .hbm, ⟨88, _⟩ => ⟨S4224x8, .f32⟩
  | .hbm, ⟨89, _⟩ => ⟨S4224x8, .f32⟩
  | .hbm, ⟨90, _⟩ => ⟨S4224x8, .f32⟩
  | .hbm, ⟨91, _⟩ => ⟨S1x4224x1x8, .f32⟩
  | .hbm, ⟨92, _⟩ => ⟨S4224x8, .f32⟩
  | .hbm, ⟨93, _⟩ => ⟨S1x4224x1x8, .f32⟩
  | .hbm, ⟨94, _⟩ => ⟨S8x4224x8x64, .f32⟩
  | .hbm, ⟨95, _⟩ => ⟨S8x4224x8x8, .f32⟩
  | .hbm, ⟨96, _⟩ => ⟨S8x4224x8x8, .f32⟩
  | .hbm, ⟨97, _⟩ => ⟨S8x4224x8x8, .f32⟩
  | .hbm, ⟨98, _⟩ => ⟨S8x4224x8x8, .f32⟩
  | .hbm, ⟨99, _⟩ => ⟨S8x4224x8x8, .f32⟩
  | .hbm, ⟨100, _⟩ => ⟨S8x4224x8x8, .f32⟩
  | .hbm, ⟨101, _⟩ => ⟨S8x4224x8x8, .f32⟩
  | .hbm, ⟨102, _⟩ => ⟨S8x4224x8x8, .f32⟩
  | .hbm, ⟨103, _⟩ => ⟨S8x4224x8x8, .f32⟩
  | .hbm, ⟨104, _⟩ => ⟨S8x4224x8x8, .f32⟩
  | .hbm, ⟨105, _⟩ => ⟨S8x4224x8x8, .f32⟩
  | .hbm, ⟨106, _⟩ => ⟨S8x4224x8x8, .f32⟩
  | .hbm, ⟨107, _⟩ => ⟨S8x4224x8x48, .f32⟩
  | .hbm, ⟨108, _⟩ => ⟨S8x4224x8x64, .f32⟩
  | .hbm, ⟨109, _⟩ => ⟨S8x4224x512, .f32⟩
  | .hbm, ⟨110, _⟩ => ⟨S_, .f32⟩
  | .hbm, ⟨111, _⟩ => ⟨S8x4224x512, .f32⟩
  | .hbm, ⟨112, _⟩ => ⟨S8x4224x512, .f32⟩
  | .hbm, ⟨113, _⟩ => ⟨S8x4224x512, .bf16⟩
  | .hbm, ⟨114, _⟩ => ⟨S8x4224x256, .bf16⟩
  | .hbm, ⟨115, _⟩ => ⟨S_, .f32⟩
  | .hbm, ⟨116, _⟩ => ⟨S8x4224x512, .f32⟩
  | .hbm, ⟨117, _⟩ => ⟨S8x4224x512, .f32⟩
  | .hbm, ⟨118, _⟩ => ⟨S8x4224x512, .bf16⟩
  | .hbm, ⟨119, _⟩ => ⟨S8x4224x512, .bf16⟩
  | .hbm, ⟨120, _⟩ => ⟨S8x4224x512, .bf16⟩
  | _, _ => ⟨S8x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_call0_v0 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_6 : Ref sig .tc := ⟨.hbm, 78, rfl⟩
abbrev main_v66 : Ref sig .tc := ⟨.hbm, 79, rfl⟩
abbrev main_v67 : Ref sig .tc := ⟨.hbm, 80, rfl⟩
abbrev main_cst_7 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_cst_8 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_cst_9 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩

abbrev nD : Nat := 1
abbrev τ : Topo := Topo.v7x

variable {F : FTy → Type} [FloatOps F]
-- ==== FfnSampleKernel.lean ====
abbrev S2x16400x1024 : Shape := ⟨3, ![2, 16400, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x112x1024 : Shape := ⟨3, ![2, 112, 1024]⟩
abbrev S2x16512x1024 : Shape := ⟨3, ![2, 16512, 1024]⟩
abbrev S1x1024 : Shape := ⟨2, ![1, 1024]⟩
abbrev S1024x22x256 : Shape := ⟨3, ![1024, 22, 256]⟩
abbrev S22x1024x256 : Shape := ⟨3, ![22, 1024, 256]⟩
abbrev S3x22x256 : Shape := ⟨3, ![3, 22, 256]⟩
abbrev S22x3x256 : Shape := ⟨3, ![22, 3, 256]⟩
abbrev S1x5632 : Shape := ⟨2, ![1, 5632]⟩
abbrev S1x22x256 : Shape := ⟨3, ![1, 22, 256]⟩
abbrev S22x1x256 : Shape := ⟨3, ![22, 1, 256]⟩
abbrev S11x256x1024 : Shape := ⟨3, ![11, 256, 1024]⟩
abbrev S1x384x1024 : Shape := ⟨3, ![1, 384, 1024]⟩
abbrev S1x8x1024 : Shape := ⟨3, ![1, 8, 1024]⟩
abbrev S400x256 : Shape := ⟨2, ![400, 256]⟩
abbrev S384x1024 : Shape := ⟨2, ![384, 1024]⟩
abbrev S8x1024 : Shape := ⟨2, ![8, 1024]⟩
abbrev S8 : Shape := ⟨1, ![8]⟩
abbrev S8x1 : Shape := ⟨2, ![8, 1]⟩
abbrev S384 : Shape := ⟨1, ![384]⟩
abbrev S384x1 : Shape := ⟨2, ![384, 1]⟩
abbrev S400x1024 : Shape := ⟨2, ![400, 1024]⟩
abbrev S1x1024x256 : Shape := ⟨3, ![1, 1024, 256]⟩
abbrev S1024x256 : Shape := ⟨2, ![1024, 256]⟩
abbrev S8x256 : Shape := ⟨2, ![8, 256]⟩
abbrev S384x256 : Shape := ⟨2, ![384, 256]⟩
abbrev S1x1x256 : Shape := ⟨3, ![1, 1, 256]⟩
abbrev S1x256 : Shape := ⟨2, ![1, 256]⟩
abbrev S1x256x1024 : Shape := ⟨3, ![1, 256, 1024]⟩
abbrev S256x1024 : Shape := ⟨2, ![256, 1024]⟩

abbrev nBuf : Space → Nat
  | .hbm => 23
  | .vmem => 17
  | .smem => 0
  | _ => 0

abbrev bufTy : (tb : Table) → Fin (tcTables nBuf tb) → BufTy
  | .hbm, ⟨0, _⟩ => ⟨S2x16400x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S_, .f32⟩
  | .hbm, ⟨8, _⟩ => ⟨S2x112x1024, .f32⟩
  | .hbm, ⟨9, _⟩ => ⟨S2x16512x1024, .f32⟩
  | .hbm, ⟨10, _⟩ => ⟨S1x1024, .f32⟩
  | .hbm, ⟨11, _⟩ => ⟨S1024x5632, .bf16⟩
  | .hbm, ⟨12, _⟩ => ⟨S1024x22x256, .bf16⟩
  | .hbm, ⟨13, _⟩ => ⟨S22x1024x256, .bf16⟩
  | .hbm, ⟨14, _⟩ => ⟨S3x22x256, .f32⟩
  | .hbm, ⟨15, _⟩ => ⟨S22x3x256, .f32⟩
  | .hbm, ⟨16, _⟩ => ⟨S1x5632, .f32⟩
  | .hbm, ⟨17, _⟩ => ⟨S1x22x256, .f32⟩
  | .hbm, ⟨18, _⟩ => ⟨S22x1x256, .f32⟩
  | .hbm, ⟨19, _⟩ => ⟨S2816x1024, .bf16⟩
  | .hbm, ⟨20, _⟩ => ⟨S11x256x1024, .bf16⟩
  | .hbm, ⟨21, _⟩ => ⟨S1x1024, .f32⟩
  | .hbm, ⟨22, _⟩ => ⟨S2x16512x1024, .f32⟩
  | .local _ .vmem, ⟨0, _⟩ => ⟨S1x384x1024, .f32⟩
  | .local _ .vmem, ⟨1, _⟩ => ⟨S1x384x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S22x1024x256, .bf16⟩
  | .local _ .vmem, ⟨8, _⟩ => ⟨S22x3x256, .f32⟩
  | .local _ .vmem, ⟨9, _⟩ => ⟨S22x1x256, .f32⟩
  | .local _ .vmem, ⟨10, _⟩ => ⟨S11x256x1024, .bf16⟩
  | .local _ .vmem, ⟨11, _⟩ => ⟨S1x1024, .f32⟩
  | .local _ .vmem, ⟨12, _⟩ => ⟨S1x384x1024, .f32⟩
  | .local _ .vmem, ⟨13, _⟩ => ⟨S1x384x1024, .f32⟩
  | .local _ .vmem, ⟨14, _⟩ => ⟨S400x256, .f32⟩
  | .local _ .vmem, ⟨15, _⟩ => ⟨S400x256, .f32⟩
  | .local _ .vmem, ⟨16, _⟩ => ⟨S384x1024, .f32⟩
  | _, _ => ⟨S2x16400x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 43], ![false, false]⟩

@[reducible] def k0_t1_loop : Scf.Loop 32 :=
  let c0_i32 : BitVec 32 := 0#32
  let c11_i32 : BitVec 32 := 11#32
  let v52 : BitVec 32 := Scalar.addi c0_i32 c11_i32
  let c1_i32 : BitVec 32 := 1#32
  ⟨c0_i32, v52, c1_i32⟩
def k0_off1 (k0_t1 : Fin k0_t1_loop.trips) : Fin 3 → Nat :=
  let c0_i32 : BitVec 32 := 0#32
  let c1_i32 : BitVec 32 := 1#32
  let arg15 : BitVec 32 := Scf.iv c0_i32 c1_i32 k0_t1
  let v84 : Index := Scalar.indexCast arg15
  let c0_38 : Index := 0#32
  let c0_39 : Index := 0#32
  ![v84.toNat, 0, 0]
def k0_off2 (k0_t1 : Fin k0_t1_loop.trips) : Fin 3 → Nat :=
  let c0_i32 : BitVec 32 := 0#32
  let c1_i32 : BitVec 32 := 1#32
  let arg15 : BitVec 32 := Scf.iv c0_i32 c1_i32 k0_t1
  let v98 : Index := Scalar.indexCast arg15
  let c0_45 : Index := 0#32
  let c0_46 : Index := 0#32
  ![v98.toNat, 0, 0]
def k0_off3 (k0_t1 : Fin k0_t1_loop.trips) : Fin 3 → Nat :=
  let c0_i32 : BitVec 32 := 0#32
  let c1_i32 : BitVec 32 := 1#32
  let arg15 : BitVec 32 := Scf.iv c0_i32 c1_i32 k0_t1
  let v103 : Index := Scalar.indexCast arg15
  let c0_47 : Index := 0#32
  let c0_48 : Index := 0#32
  ![v103.toNat, 0, 0]
def k0_off4 (k0_t1 : Fin k0_t1_loop.trips) : Fin 3 → Nat :=
  let c0_i32 : BitVec 32 := 0#32
  let c1_i32 : BitVec 32 := 1#32
  let arg15 : BitVec 32 := Scf.iv c0_i32 c1_i32 k0_t1
  let v109 : Index := Scalar.indexCast arg15
  let c1 : Index := 1#32
  let c0_50 : Index := 0#32
  ![v109.toNat, 1, 0]
def k0_off5 (k0_t1 : Fin k0_t1_loop.trips) : Fin 3 → Nat :=
  let c0_i32 : BitVec 32 := 0#32
  let c1_i32 : BitVec 32 := 1#32
  let arg15 : BitVec 32 := Scf.iv c0_i32 c1_i32 k0_t1
  let v116 : Index := Scalar.indexCast arg15
  let c2 : Index := 2#32
  let c0_52 : Index := 0#32
  ![v116.toNat, 2, 0]
def k0_off6 (k0_t1 : Fin k0_t1_loop.trips) : Fin 3 → Nat :=
  let c11_i32_53 : BitVec 32 := 11#32
  let c0_i32 : BitVec 32 := 0#32
  let c1_i32 : BitVec 32 := 1#32
  let arg15 : BitVec 32 := Scf.iv c0_i32 c1_i32 k0_t1
  let v122 : BitVec 32 := Scalar.addi c11_i32_53 arg15
  let v123 : Index := Scalar.indexCast v122
  let c0_54 : Index := 0#32
  let c0_55 : Index := 0#32
  ![v123.toNat, 0, 0]
def k0_off7 (k0_t1 : Fin k0_t1_loop.trips) : Fin 3 → Nat :=
  let c11_i32_57 : BitVec 32 := 11#32
  let c0_i32 : BitVec 32 := 0#32
  let c1_i32 : BitVec 32 := 1#32
  let arg15 : BitVec 32 := Scf.iv c0_i32 c1_i32 k0_t1
  let v127 : BitVec 32 := Scalar.addi c11_i32_57 arg15
  let v138 : Index := Scalar.indexCast v127
  let c0_64 : Index := 0#32
  let c0_65 : Index := 0#32
  ![v138.toNat, 0, 0]
def k0_off8 (k0_t1 : Fin k0_t1_loop.trips) : Fin 3 → Nat :=
  let c11_i32_57 : BitVec 32 := 11#32
  let c0_i32 : BitVec 32 := 0#32
  let c1_i32 : BitVec 32 := 1#32
  let arg15 : BitVec 32 := Scf.iv c0_i32 c1_i32 k0_t1
  let v127 : BitVec 32 := Scalar.addi c11_i32_57 arg15
  let v143 : Index := Scalar.indexCast v127
  let c0_66 : Index := 0#32
  let c0_67 : Index := 0#32
  ![v143.toNat, 0, 0]
def k0_off9 (k0_t1 : Fin k0_t1_loop.trips) : Fin 3 → Nat :=
  let c11_i32_57 : BitVec 32 := 11#32
  let c0_i32 : BitVec 32 := 0#32
  let c1_i32 : BitVec 32 := 1#32
  let arg15 : BitVec 32 := Scf.iv c0_i32 c1_i32 k0_t1
  let v127 : BitVec 32 := Scalar.addi c11_i32_57 arg15
  let v149 : Index := Scalar.indexCast v127
  let c1_70 : Index := 1#32
  let c0_71 : Index := 0#32
  ![v149.toNat, 1, 0]
def k0_off10 (k0_t1 : Fin k0_t1_loop.trips) : Fin 3 → Nat :=
  let c11_i32_57 : BitVec 32 := 11#32
  let c0_i32 : BitVec 32 := 0#32
  let c1_i32 : BitVec 32 := 1#32
  let arg15 : BitVec 32 := Scf.iv c0_i32 c1_i32 k0_t1
  let v127 : BitVec 32 := Scalar.addi c11_i32_57 arg15
  let v156 : Index := Scalar.indexCast v127
  let c2_74 : Index := 2#32
  let c0_75 : Index := 0#32
  ![v156.toNat, 2, 0]
def k0_off11 (k0_t1 : Fin k0_t1_loop.trips) : Fin 3 → Nat :=
  let c0_i32 : BitVec 32 := 0#32
  let c1_i32 : BitVec 32 := 1#32
  let arg15 : BitVec 32 := Scf.iv c0_i32 c1_i32 k0_t1
  let v178 : Index := Scalar.indexCast arg15
  let c0_82 : Index := 0#32
  let c0_83 : Index := 0#32
  ![v178.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.muli arg1 c48_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c48_i32 : BitVec 32 := 48#32
  let v1 : BitVec 32 := Scalar.muli v0 c48_i32
  let c2063_i32 : BitVec 32 := 2063#32
  let v2 : BitVec 32 := Scalar.minsi v1 c2063_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S22x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S22x3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S22x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S11x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnSampleReferenceIdeal.lean ====
abbrev S2x16400x1024 : Shape := ⟨3, ![2, 16400, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S2x16400 : Shape := ⟨2, ![2, 16400]⟩
abbrev S2x16400x1 : Shape := ⟨3, ![2, 16400, 1]⟩
abbrev S1x1x1024 : Shape := ⟨3, ![1, 1, 1024]⟩
abbrev S2x16400x5632 : Shape := ⟨3, ![2, 16400, 5632]⟩
abbrev S2x16402x5632 : Shape := ⟨3, ![2, 16402, 5632]⟩
abbrev S1x5632 : Shape := ⟨2, ![1, 5632]⟩
abbrev S1x1x5632 : Shape := ⟨3, ![1, 1, 5632]⟩
abbrev S2x16400x2816 : Shape := ⟨3, ![2, 16400, 2816]⟩
abbrev S2x112x1024 : Shape := ⟨3, ![2, 112, 1024]⟩
abbrev S2x16512x1024 : Shape := ⟨3, ![2, 16512, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2x16400x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S2x16400x1024, .f32⟩
  | .hbm, ⟨8, _⟩ => ⟨S_, .f32⟩
  | .hbm, ⟨9, _⟩ => ⟨S2x16400, .f32⟩
  | .hbm, ⟨10, _⟩ => ⟨S2x16400x1, .f32⟩
  | .hbm, ⟨11, _⟩ => ⟨S_, .f32⟩
  | .hbm, ⟨12, _⟩ => ⟨S2x16400x1, .f32⟩
  | .hbm, ⟨13, _⟩ => ⟨S2x16400x1, .f32⟩
  | .hbm, ⟨14, _⟩ => ⟨S_, .f32⟩
  | .hbm, ⟨15, _⟩ => ⟨S2x16400x1, .f32⟩
  | .hbm, ⟨16, _⟩ => ⟨S2x16400x1, .f32⟩
  | .hbm, ⟨17, _⟩ => ⟨S2x16400x1, .f32⟩
  | .hbm, ⟨18, _⟩ => ⟨S2x16400x1024, .f32⟩
  | .hbm, ⟨19, _⟩ => ⟨S2x16400x1024, .f32⟩
  | .hbm, ⟨20, _⟩ => ⟨S1x1x1024, .f32⟩
  | .hbm, ⟨21, _⟩ => ⟨S2x16400x1024, .f32⟩
  | .hbm, ⟨22, _⟩ => ⟨S2x16400x1024, .f32⟩
  | .hbm, ⟨23, _⟩ => ⟨S2x16400x5632, .f32⟩
  | .hbm, ⟨24, _⟩ => ⟨S_, .i32⟩
  | .hbm, ⟨25, _⟩ => ⟨S_, .f32⟩
  | .hbm, ⟨26, _⟩ => ⟨S2x16402x5632, .f32⟩
  | .hbm, ⟨27, _⟩ => ⟨S2x16400x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S2x16400x5632, .f32⟩
  | .hbm, ⟨32, _⟩ => ⟨S2x16400x5632, .f32⟩
  | .hbm, ⟨33, _⟩ => ⟨S1x1x5632, .f32⟩
  | .hbm, ⟨34, _⟩ => ⟨S2x16400x5632, .f32⟩
  | .hbm, ⟨35, _⟩ => ⟨S2x16400x5632, .f32⟩
  | .hbm, ⟨36, _⟩ => ⟨S2x16400x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S2x16400x5632, .f32⟩
  | .hbm, ⟨41, _⟩ => ⟨S2x16400x5632, .f32⟩
  | .hbm, ⟨42, _⟩ => ⟨S2x16400x5632, .f32⟩
  | .hbm, ⟨43, _⟩ => ⟨S2x16400x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S2x16400x5632, .f32⟩
  | .hbm, ⟨48, _⟩ => ⟨S2x16400x5632, .f32⟩
  | .hbm, ⟨49, _⟩ => ⟨S2x16400x5632, .f32⟩
  | .hbm, ⟨50, _⟩ => ⟨S2x16400x2816, .f32⟩
  | .hbm, ⟨51, _⟩ => ⟨S2x16400x2816, .f32⟩
  | .hbm, ⟨52, _⟩ => ⟨S2x16400x2816, .f32⟩
  | .hbm, ⟨53, _⟩ => ⟨S2x16400x2816, .f32⟩
  | .hbm, ⟨54, _⟩ => ⟨S_, .f32⟩
  | .hbm, ⟨55, _⟩ => ⟨S2x16400x2816, .f32⟩
  | .hbm, ⟨56, _⟩ => ⟨S2x16400x2816, .f32⟩
  | .hbm, ⟨57, _⟩ => ⟨S2x16400x2816, .f32⟩
  | .hbm, ⟨58, _⟩ => ⟨S_, .f32⟩
  | .hbm, ⟨59, _⟩ => ⟨S2x16400x2816, .f32⟩
  | .hbm, ⟨60, _⟩ => ⟨S2x16400x2816, .f32⟩
  | .hbm, ⟨61, _⟩ => ⟨S2x16400x2816, .f32⟩
  | .hbm, ⟨62, _⟩ => ⟨S_, .f32⟩
  | .hbm, ⟨63, _⟩ => ⟨S2x16400x2816, .f32⟩
  | .hbm, ⟨64, _⟩ => ⟨S2x16400x2816, .f32⟩
  | .hbm, ⟨65, _⟩ => ⟨S_, .f32⟩
  | .hbm, ⟨66, _⟩ => ⟨S2x16400x2816, .f32⟩
  | .hbm, ⟨67, _⟩ => ⟨S2x16400x2816, .f32⟩
  | .hbm, ⟨68, _⟩ => ⟨S2x16400x2816, .f32⟩
  | .hbm, ⟨69, _⟩ => ⟨S2x16400x2816, .f32⟩
  | .hbm, ⟨70, _⟩ => ⟨S2x16400x1024, .f32⟩
  | .hbm, ⟨71, _⟩ => ⟨S2x16400x1024, .f32⟩
  | .hbm, ⟨72, _⟩ => ⟨S_, .f32⟩
  | .hbm, ⟨73, _⟩ => ⟨S2x16400, .f32⟩
  | .hbm, ⟨74, _⟩ => ⟨S2x16400x1, .f32⟩
  | .hbm, ⟨75, _⟩ => ⟨S_, .f32⟩
  | .hbm, ⟨76, _⟩ => ⟨S2x16400x1, .f32⟩
  | .hbm, ⟨77, _⟩ => ⟨S2x16400x1, .f32⟩
  | .hbm, ⟨78, _⟩ => ⟨S_, .f32⟩
  | .hbm, ⟨79, _⟩ => ⟨S2x16400x1, .f32⟩
  | .hbm, ⟨80, _⟩ => ⟨S2x16400x1, .f32⟩
  | .hbm, ⟨81, _⟩ => ⟨S2x16400x1, .f32⟩
  | .hbm, ⟨82, _⟩ => ⟨S2x16400x1024, .f32⟩
  | .hbm, ⟨83, _⟩ => ⟨S2x16400x1024, .f32⟩
  | .hbm, ⟨84, _⟩ => ⟨S1x1x1024, .f32⟩
  | .hbm, ⟨85, _⟩ => ⟨S2x16400x1024, .f32⟩
  | .hbm, ⟨86, _⟩ => ⟨S2x16400x1024, .f32⟩
  | .hbm, ⟨87, _⟩ => ⟨S2x16400x1024, .f32⟩
  | .hbm, ⟨88, _⟩ => ⟨S_, .f32⟩
  | .hbm, ⟨89, _⟩ => ⟨S2x112x1024, .f32⟩
  | .hbm, ⟨90, _⟩ => ⟨S2x16512x1024, .f32⟩
  | _, _ => ⟨S2x16400x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_2 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_3 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_4 : Ref sig .tc := ⟨.hbm, 62, rfl⟩
abbrev main_v48 : Ref sig .tc := ⟨.hbm, 63, rfl⟩
abbrev main_v49 : Ref sig .tc := ⟨.hbm, 64, rfl⟩
abbrev main_cst_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_6 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_cst_8 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== NaKernel.lean ====
abbrev S8x4224x512 : Shape := ⟨3, ![8, 4224, 512]⟩
abbrev S8x15x31 : Shape := ⟨3, ![8, 15, 31]⟩
abbrev S8x16 : Shape := ⟨2, ![8, 16]⟩
abbrev S64x64 : Shape := ⟨2, ![64, 64]⟩
abbrev S1x1x64x64 : Shape := ⟨4, ![1, 1, 64, 64]⟩
abbrev S_ : Shape := ⟨0, ![]⟩
abbrev S64x64x1 : Shape := ⟨3, ![64, 64, 1]⟩
abbrev S8x15x64x64 : Shape := ⟨4, ![8, 15, 64, 64]⟩
abbrev S8x14x64x64 : Shape := ⟨4, ![8, 14, 64, 64]⟩
abbrev S8x14x64x128 : Shape := ⟨4, ![8, 14, 64, 128]⟩
abbrev S1x128x512 : Shape := ⟨3, ![1, 128, 512]⟩
abbrev S1x4224x512 : Shape := ⟨3, ![1, 4224, 512]⟩
abbrev S1x16x64 : Shape := ⟨3, ![1, 16, 64]⟩
abbrev S16x64 : Shape := ⟨2, ![16, 64]⟩
abbrev S1x512x64 : Shape := ⟨3, ![1, 512, 64]⟩
abbrev S512x64 : Shape := ⟨2, ![512, 64]⟩
abbrev S16x512 : Shape := ⟨2, ![16, 512]⟩
abbrev S1x1x64x128 : Shape := ⟨4, ![1, 1, 64, 128]⟩
abbrev S64x128 : Shape := ⟨2, ![64, 128]⟩
abbrev S1x128 : Shape := ⟨2, ![1, 128]⟩
abbrev S16x128 : Shape := ⟨2, ![16, 128]⟩
abbrev S16x16 : Shape := ⟨2, ![16, 16]⟩
abbrev S1x16 : Shape := ⟨2, ![1, 16]⟩
abbrev S128x64 : Shape := ⟨2, ![128, 64]⟩
abbrev S16 : Shape := ⟨1, ![16]⟩
abbrev S16x1 : Shape := ⟨2, ![16, 1]⟩
abbrev S112x512 : Shape := ⟨2, ![112, 512]⟩
abbrev S1x112x512 : Shape := ⟨3, ![1, 112, 512]⟩
abbrev S1x16x512 : Shape := ⟨3, ![1, 16, 512]⟩
abbrev S1x64x64 : Shape := ⟨3, ![1, 64, 64]⟩
abbrev S64x512 : Shape := ⟨2, ![64, 512]⟩
abbrev S64x16 : Shape := ⟨2, ![64, 16]⟩
abbrev S64 : Shape := ⟨1, ![64]⟩
abbrev S64x1 : Shape := ⟨2, ![64, 1]⟩
abbrev S1x64x512 : Shape := ⟨3, ![1, 64, 512]⟩

abbrev nBuf : Space → Nat
  | .hbm => 24
  | .vmem => 8
  | .smem => 0
  | _ => 0

abbrev bufTy : (tb : Table) → Fin (tcTables nBuf tb) → BufTy
  | .hbm, ⟨0, _⟩ => ⟨S8x4224x512, .bf16⟩
  | .hbm, ⟨1, _⟩ => ⟨S8x4224x512, .bf16⟩
  | .hbm, ⟨2, _⟩ => ⟨S8x4224x512, .bf16⟩
  | .hbm, ⟨3, _⟩ => ⟨S8x15x31, .f32⟩
  | .hbm, ⟨4, _⟩ => ⟨S8x16, .f32⟩
  | .hbm, ⟨5, _⟩ => ⟨S64x64, .i1⟩
  | .hbm, ⟨6, _⟩ => ⟨S64x64, .i32⟩
  | .hbm, ⟨7, _⟩ => ⟨S64x64, .i1⟩
  | .hbm, ⟨8, _⟩ => ⟨S1x1x64x64, .i1⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S64x64, .i32⟩
  | .hbm, ⟨13, _⟩ => ⟨S64x64x1, .i32⟩
  | .hbm, ⟨14, _⟩ => ⟨S8x15x64x64, .f32⟩
  | .hbm, ⟨15, _⟩ => ⟨S_, .f32⟩
  | .hbm, ⟨16, _⟩ => ⟨S_, .f32⟩
  | .hbm, ⟨17, _⟩ => ⟨S8x15x64x64, .i1⟩
  | .hbm, ⟨18, _⟩ => ⟨S8x15x64x64, .f32⟩
  | .hbm, ⟨19, _⟩ => ⟨S8x15x64x64, .f32⟩
  | .hbm, ⟨20, _⟩ => ⟨S8x14x64x64, .f32⟩
  | .hbm, ⟨21, _⟩ => ⟨S8x14x64x64, .f32⟩
  | .hbm, ⟨22, _⟩ => ⟨S8x14x64x128, .f32⟩
  | .hbm, ⟨23, _⟩ => ⟨S8x4224x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x4224x512, .bf16⟩
  | .local _ .vmem, ⟨3, _⟩ => ⟨S1x4224x512, .bf16⟩
  | .local _ .vmem, ⟨4, _⟩ => ⟨S8x14x64x128, .f32⟩
  | .local _ .vmem, ⟨5, _⟩ => ⟨S8x16, .f32⟩
  | .local _ .vmem, ⟨6, _⟩ => ⟨S1x128x512, .bf16⟩
  | .local _ .vmem, ⟨7, _⟩ => ⟨S1x128x512, .bf16⟩
  | _, _ => ⟨S8x4224x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_c_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![8, 33], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let c128_i32 : BitVec 32 := 128#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let c0_i32_3 : BitVec 32 := 0#32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32 : BitVec 32 := 64#32
  let v12 : BitVec 32 := Scalar.muli v11 c64_i32
  let v13 : BitVec 32 := Scalar.addi c128_i32 v12
  v13
def k0_off1 (i : grid0.Coords) (c0_i32_3 : BitVec 32) : Fin 3 → Nat :=
  let c0_7 : Index := 0#32
  let c128_i32 : BitVec 32 := 128#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32 : BitVec 32 := 64#32
  let v12 : BitVec 32 := Scalar.muli v11 c64_i32
  let v13 : BitVec 32 := Scalar.addi c128_i32 v12
  let v14 : BitVec 32 := v13
  let v18 : Index := Scalar.indexCast v14
  let c0_8 : Index := 0#32
  ![0, v18.toNat, 0]
def k0_off2 (i : grid0.Coords) (c0_i32_3 : BitVec 32) (c0_i32_16 : BitVec 32) : Fin 4 → Nat :=
  let c0_17 : Index := 0#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let v17 : BitVec 32 := Scalar.subi v11 v8
  let c7_i32 : BitVec 32 := 7#32
  let v29 : BitVec 32 := Scalar.addi v17 c7_i32
  let v30 : BitVec 32 := Scalar.addi v29 c0_i32_16
  let v31 : Index := Scalar.indexCast v30
  let c0_18 : Index := 0#32
  let c0_19 : Index := 0#32
  ![0, v31.toNat, 0, 0]
def k0_off3 (i : grid0.Coords) (c0_i32_3 : BitVec 32) : Fin 3 → Nat :=
  let c0_54 : Index := 0#32
  let c128_i32 : BitVec 32 := 128#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32 : BitVec 32 := 64#32
  let v12 : BitVec 32 := Scalar.muli v11 c64_i32
  let v13 : BitVec 32 := Scalar.addi c128_i32 v12
  let v14 : BitVec 32 := v13
  let v127 : Index := Scalar.indexCast v14
  let c64_55 : Index := 64#32
  ![0, v127.toNat, 64]
def k0_off4 (i : grid0.Coords) (c0_i32_3 : BitVec 32) (c0_i32_66 : BitVec 32) : Fin 4 → Nat :=
  let c1 : Index := 1#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let v126 : BitVec 32 := Scalar.subi v11 v8
  let c7_i32_65 : BitVec 32 := 7#32
  let v138 : BitVec 32 := Scalar.addi v126 c7_i32_65
  let v139 : BitVec 32 := Scalar.addi v138 c0_i32_66
  let v140 : Index := Scalar.indexCast v139
  let c0_67 : Index := 0#32
  let c0_68 : Index := 0#32
  ![1, v140.toNat, 0, 0]
def k0_off5 (i : grid0.Coords) (c0_i32_3 : BitVec 32) : Fin 3 → Nat :=
  let c0_104 : Index := 0#32
  let c128_i32 : BitVec 32 := 128#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32 : BitVec 32 := 64#32
  let v12 : BitVec 32 := Scalar.muli v11 c64_i32
  let v13 : BitVec 32 := Scalar.addi c128_i32 v12
  let v14 : BitVec 32 := v13
  let v236 : Index := Scalar.indexCast v14
  let c128_105 : Index := 128#32
  ![0, v236.toNat, 128]
def k0_off6 (i : grid0.Coords) (c0_i32_3 : BitVec 32) (c0_i32_116 : BitVec 32) : Fin 4 → Nat :=
  let c2 : Index := 2#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let v235 : BitVec 32 := Scalar.subi v11 v8
  let c7_i32_115 : BitVec 32 := 7#32
  let v247 : BitVec 32 := Scalar.addi v235 c7_i32_115
  let v248 : BitVec 32 := Scalar.addi v247 c0_i32_116
  let v249 : Index := Scalar.indexCast v248
  let c0_117 : Index := 0#32
  let c0_118 : Index := 0#32
  ![2, v249.toNat, 0, 0]
def k0_off7 (i : grid0.Coords) (c0_i32_3 : BitVec 32) : Fin 3 → Nat :=
  let c0_154 : Index := 0#32
  let c128_i32 : BitVec 32 := 128#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32 : BitVec 32 := 64#32
  let v12 : BitVec 32 := Scalar.muli v11 c64_i32
  let v13 : BitVec 32 := Scalar.addi c128_i32 v12
  let v14 : BitVec 32 := v13
  let v345 : Index := Scalar.indexCast v14
  let c192_155 : Index := 192#32
  ![0, v345.toNat, 192]
def k0_off8 (i : grid0.Coords) (c0_i32_3 : BitVec 32) (c0_i32_166 : BitVec 32) : Fin 4 → Nat :=
  let c3 : Index := 3#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let v344 : BitVec 32 := Scalar.subi v11 v8
  let c7_i32_165 : BitVec 32 := 7#32
  let v356 : BitVec 32 := Scalar.addi v344 c7_i32_165
  let v357 : BitVec 32 := Scalar.addi v356 c0_i32_166
  let v358 : Index := Scalar.indexCast v357
  let c0_167 : Index := 0#32
  let c0_168 : Index := 0#32
  ![3, v358.toNat, 0, 0]
def k0_off9 (i : grid0.Coords) (c0_i32_3 : BitVec 32) : Fin 3 → Nat :=
  let c0_204 : Index := 0#32
  let c128_i32 : BitVec 32 := 128#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32 : BitVec 32 := 64#32
  let v12 : BitVec 32 := Scalar.muli v11 c64_i32
  let v13 : BitVec 32 := Scalar.addi c128_i32 v12
  let v14 : BitVec 32 := v13
  let v454 : Index := Scalar.indexCast v14
  let c256_205 : Index := 256#32
  ![0, v454.toNat, 256]
def k0_off10 (i : grid0.Coords) (c0_i32_3 : BitVec 32) (c0_i32_216 : BitVec 32) : Fin 4 → Nat :=
  let c4 : Index := 4#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let v453 : BitVec 32 := Scalar.subi v11 v8
  let c7_i32_215 : BitVec 32 := 7#32
  let v465 : BitVec 32 := Scalar.addi v453 c7_i32_215
  let v466 : BitVec 32 := Scalar.addi v465 c0_i32_216
  let v467 : Index := Scalar.indexCast v466
  let c0_217 : Index := 0#32
  let c0_218 : Index := 0#32
  ![4, v467.toNat, 0, 0]
def k0_off11 (i : grid0.Coords) (c0_i32_3 : BitVec 32) : Fin 3 → Nat :=
  let c0_254 : Index := 0#32
  let c128_i32 : BitVec 32 := 128#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32 : BitVec 32 := 64#32
  let v12 : BitVec 32 := Scalar.muli v11 c64_i32
  let v13 : BitVec 32 := Scalar.addi c128_i32 v12
  let v14 : BitVec 32 := v13
  let v563 : Index := Scalar.indexCast v14
  let c320_255 : Index := 320#32
  ![0, v563.toNat, 320]
def k0_off12 (i : grid0.Coords) (c0_i32_3 : BitVec 32) (c0_i32_266 : BitVec 32) : Fin 4 → Nat :=
  let c5 : Index := 5#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let v562 : BitVec 32 := Scalar.subi v11 v8
  let c7_i32_265 : BitVec 32 := 7#32
  let v574 : BitVec 32 := Scalar.addi v562 c7_i32_265
  let v575 : BitVec 32 := Scalar.addi v574 c0_i32_266
  let v576 : Index := Scalar.indexCast v575
  let c0_267 : Index := 0#32
  let c0_268 : Index := 0#32
  ![5, v576.toNat, 0, 0]
def k0_off13 (i : grid0.Coords) (c0_i32_3 : BitVec 32) : Fin 3 → Nat :=
  let c0_304 : Index := 0#32
  let c128_i32 : BitVec 32 := 128#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32 : BitVec 32 := 64#32
  let v12 : BitVec 32 := Scalar.muli v11 c64_i32
  let v13 : BitVec 32 := Scalar.addi c128_i32 v12
  let v14 : BitVec 32 := v13
  let v672 : Index := Scalar.indexCast v14
  let c384_305 : Index := 384#32
  ![0, v672.toNat, 384]
def k0_off14 (i : grid0.Coords) (c0_i32_3 : BitVec 32) (c0_i32_316 : BitVec 32) : Fin 4 → Nat :=
  let c6 : Index := 6#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let v671 : BitVec 32 := Scalar.subi v11 v8
  let c7_i32_315 : BitVec 32 := 7#32
  let v683 : BitVec 32 := Scalar.addi v671 c7_i32_315
  let v684 : BitVec 32 := Scalar.addi v683 c0_i32_316
  let v685 : Index := Scalar.indexCast v684
  let c0_317 : Index := 0#32
  let c0_318 : Index := 0#32
  ![6, v685.toNat, 0, 0]
def k0_off15 (i : grid0.Coords) (c0_i32_3 : BitVec 32) : Fin 3 → Nat :=
  let c0_354 : Index := 0#32
  let c128_i32 : BitVec 32 := 128#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let c64_i32 : BitVec 32 := 64#32
  let v12 : BitVec 32 := Scalar.muli v11 c64_i32
  let v13 : BitVec 32 := Scalar.addi c128_i32 v12
  let v14 : BitVec 32 := v13
  let v781 : Index := Scalar.indexCast v14
  let c448_355 : Index := 448#32
  ![0, v781.toNat, 448]
def k0_off16 (i : grid0.Coords) (c0_i32_3 : BitVec 32) (c0_i32_366 : BitVec 32) : Fin 4 → Nat :=
  let c7 : Index := 7#32
  let c56_i32 : BitVec 32 := 56#32
  let c0_i32_4 : BitVec 32 := 0#32
  let arg1 : BitVec 32 := BitVec.ofNat 32 (i 1).val
  let c1_i32 : BitVec 32 := 1#32
  let v6 : BitVec 32 := Scalar.subi arg1 c1_i32
  let c2_i32 : BitVec 32 := 2#32
  let v7 : BitVec 32 := Scalar.muli v6 c2_i32
  let v8 : BitVec 32 := Scalar.addi v7 c0_i32_3
  let c4_i32 : BitVec 32 := 4#32
  let v9 : BitVec 32 := Scalar.subi v8 c4_i32
  let v10 : BitVec 32 := Scalar.maxsi c0_i32_4 v9
  let v11 : BitVec 32 := Scalar.minsi c56_i32 v10
  let v780 : BitVec 32 := Scalar.subi v11 v8
  let c7_i32_365 : BitVec 32 := 7#32
  let v792 : BitVec 32 := Scalar.addi v780 c7_i32_365
  let v793 : BitVec 32 := Scalar.addi v792 c0_i32_366
  let v794 : Index := Scalar.indexCast v793
  let c0_367 : Index := 0#32
  let c0_368 : Index := 0#32
  ![7, v794.toNat, 0, 0]
def k0_mult2 (i : grid0.Coords) : BitVec 32 :=
  let c128_i32_412 : BitVec 32 := 128#32
  let c56_i32_410 : BitVec 32 := 56#32
  let c0_i32_409 : BitVec 32 := 0#32
  let arg1 : BitVec 32 := BitVec.ofNat 32 (i 1).val
  let c1_i32_405 : BitVec 32 := 1#32
  let v892 : BitVec 32 := Scalar.subi arg1 c1_i32_405
  let c2_i32_406 : BitVec 32 := 2#32
  let v893 : BitVec 32 := Scalar.muli v892 c2_i32_406
  let c1_i32_407 : BitVec 32 := 1#32
  let v894 : BitVec 32 := Scalar.addi v893 c1_i32_407
  let c4_i32_408 : BitVec 32 := 4#32
  let v895 : BitVec 32 := Scalar.subi v894 c4_i32_408
  let v896 : BitVec 32 := Scalar.maxsi c0_i32_409 v895
  let v897 : BitVec 32 := Scalar.minsi c56_i32_410 v896
  let c64_i32_411 : BitVec 32 := 64#32
  let v898 : BitVec 32 := Scalar.muli v897 c64_i32_411
  let v899 : BitVec 32 := Scalar.addi c128_i32_412 v898
  v899
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4224x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x4224x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x14x64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NaReferenceIdeal.lean ====
abbrev S8x4224x512 : Shape := ⟨3, ![8, 4224, 512]⟩
abbrev S8x15x31 : Shape := ⟨3, ![8, 15, 31]⟩
abbrev S8x16 : Shape := ⟨2, ![8, 16]⟩
abbrev S64x64 : Shape := ⟨2, ![64, 64]⟩
abbrev S1x1x64x64 : Shape := ⟨4, ![1, 1, 64, 64]⟩
abbrev S_ : Shape := ⟨0, ![]⟩
abbrev S64x64x1 : Shape := ⟨3, ![64, 64, 1]⟩
abbrev S8x15x64x64 : Shape := ⟨4, ![8, 15, 64, 64]⟩
abbrev S64 : Shape := ⟨1, ![64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S8x16x512 : Shape := ⟨3, ![8, 16, 512]⟩
abbrev S8x16x8x64 : Shape := ⟨4, ![8, 16, 8, 64]⟩
abbrev S8x4096x512 : Shape := ⟨3, ![8, 4096, 512]⟩
abbrev S8x4096x8x64 : Shape := ⟨4, ![8, 4096, 8, 64]⟩
abbrev S8x64x64x8x64 : Shape := ⟨5, ![8, 64, 64, 8, 64]⟩
abbrev S64x8x1 : Shape := ⟨3, ![64, 8, 1]⟩
abbrev S8x64x8x64x8x64 : Shape := ⟨6, ![8, 64, 8, 64, 8, 64]⟩
abbrev S8x8x64x64x8x64 : Shape := ⟨6, ![8, 8, 64, 64, 8, 64]⟩
abbrev S8x64x8x64x64 : Shape := ⟨5, ![8, 64, 8, 64, 64]⟩
abbrev S1x8x64x64x8x64 : Shape := ⟨6, ![1, 8, 64, 64, 8, 64]⟩
abbrev S8x8x64x64x16 : Shape := ⟨5, ![8, 8, 64, 64, 16]⟩
abbrev S1x8x1x1x16 : Shape := ⟨5, ![1, 8, 1, 1, 16]⟩
abbrev S8x8x64x64x512 : Shape := ⟨5, ![8, 8, 64, 64, 512]⟩
abbrev S8x8x64x64x528 : Shape := ⟨5, ![8, 8, 64, 64, 528]⟩
abbrev S8x8x64x64 : Shape := ⟨4, ![8, 8, 64, 64]⟩
abbrev S8x8x64x64x1 : Shape := ⟨5, ![8, 8, 64, 64, 1]⟩
abbrev S8x64x512x8x64 : Shape := ⟨5, ![8, 64, 512, 8, 64]⟩
abbrev S8x8x64x64x64 : Shape := ⟨5, ![8, 8, 64, 64, 64]⟩
abbrev S8x512x512 : Shape := ⟨3, ![8, 512, 512]⟩
abbrev S8x512x8x64 : Shape := ⟨4, ![8, 512, 8, 64]⟩
abbrev S8x8x1x64 : Shape := ⟨4, ![8, 8, 1, 64]⟩
abbrev S8x8x64 : Shape := ⟨3, ![8, 8, 64]⟩
abbrev S8x512 : Shape := ⟨2, ![8, 512]⟩
abbrev S8x8x16x512 : Shape := ⟨4, ![8, 8, 16, 512]⟩
abbrev S1x8x1x512 : Shape := ⟨4, ![1, 8, 1, 512]⟩
abbrev S8x8x16x16 : Shape := ⟨4, ![8, 8, 16, 16]⟩
abbrev S1x8x1x16 : Shape := ⟨4, ![1, 8, 1, 16]⟩
abbrev S8x8x16x528 : Shape := ⟨4, ![8, 8, 16, 528]⟩
abbrev S8x8x16 : Shape := ⟨3, ![8, 8, 16]⟩
abbrev S8x8x16x1 : Shape := ⟨4, ![8, 8, 16, 1]⟩
abbrev S8x8x64x16 : Shape := ⟨4, ![8, 8, 64, 16]⟩
abbrev S8x112x512 : Shape := ⟨3, ![8, 112, 512]⟩

abbrev nBuf : Space → Nat
  | .hbm => 175
  | .vmem => 0
  | .smem => 0
  | _ => 0

abbrev hbmTy0_0 (i : Nat) : BufTy := match i % 128 with
  | 0 => ⟨S8x4224x512, .bf16⟩
  | 1 => ⟨S8x4224x512, .bf16⟩
  | 2 => ⟨S8x4224x512, .bf16⟩
  | 3 => ⟨S8x15x31, .f32⟩
  | 4 => ⟨S8x16, .f32⟩
  | 5 => ⟨S64x64, .i1⟩
  | 6 => ⟨S64x64, .i32⟩
  | 7 => ⟨S64x64, .i1⟩
  | 8 => ⟨S1x1x64x64, .i1⟩
  | 9 => ⟨S_, .i32⟩
  | 10 => ⟨S64x64, .i32⟩
  | 11 => ⟨S64x64, .i32⟩
  | 12 => ⟨S64x64, .i32⟩
  | 13 => ⟨S64x64x1, .i32⟩
  | 14 => ⟨S8x15x64x64, .f32⟩
  | 15 => ⟨S_, .f32⟩
  | 16 => ⟨S_, .f32⟩
  | 17 => ⟨S8x15x64x64, .i1⟩
  | 18 => ⟨S8x15x64x64, .f32⟩
  | 19 => ⟨S8x15x64x64, .f32⟩
  | 20 => ⟨S64, .i32⟩
  | 21 => ⟨S_, .i32⟩
  | 22 => ⟨S64, .i32⟩
  | 23 => ⟨S64, .i32⟩
  | 24 => ⟨S_, .i32⟩
  | 25 => ⟨S_, .i32⟩
  | 26 => ⟨S_, .i32⟩
  | 27 => ⟨S64, .i32⟩
  | 28 => ⟨S64, .i32⟩
  | 29 => ⟨S_, .i32⟩
  | 30 => ⟨S64, .i32⟩
  | 31 => ⟨S64, .i32⟩
  | 32 => ⟨S64x1, .i32⟩
  | 33 => ⟨S8, .i32⟩
  | 34 => ⟨S1x8, .i32⟩
  | 35 => ⟨S64x8, .i32⟩
  | 36 => ⟨S64x8, .i32⟩
  | 37 => ⟨S64x8, .i32⟩
  | 38 => ⟨S64, .i32⟩
  | 39 => ⟨S64x1, .i32⟩
  | 40 => ⟨S64x8, .i32⟩
  | 41 => ⟨S64x8, .i32⟩
  | 42 => ⟨S_, .i32⟩
  | 43 => ⟨S64x8, .i32⟩
  | 44 => ⟨S64x8, .i32⟩
  | 45 => ⟨S_, .i32⟩
  | 46 => ⟨S64x8, .i32⟩
  | 47 => ⟨S64x8, .i32⟩
  | 48 => ⟨S8x16x512, .bf16⟩
  | 49 => ⟨S8x16x512, .f32⟩
  | 50 => ⟨S8x16x8x64, .f32⟩
  | 51 => ⟨S8x16x512, .bf16⟩
  | 52 => ⟨S8x16x512, .f32⟩
  | 53 => ⟨S8x16x8x64, .f32⟩
  | 54 => ⟨S8x16x512, .bf16⟩
  | 55 => ⟨S8x16x512, .f32⟩
  | 56 => ⟨S8x16x8x64, .f32⟩
  | 57 => ⟨S8x4096x512, .bf16⟩
  | 58 => ⟨S8x4096x512, .f32⟩
  | 59 => ⟨S8x4096x8x64, .f32⟩
  | 60 => ⟨S8x64x64x8x64, .f32⟩
  | 61 => ⟨S8x4096x512, .bf16⟩
  | 62 => ⟨S8x4096x512, .f32⟩
  | 63 => ⟨S8x4096x8x64, .f32⟩
  | 64 => ⟨S8x64x64x8x64, .f32⟩
  | 65 => ⟨S8x4096x512, .bf16⟩
  | 66 => ⟨S8x4096x512, .f32⟩
  | 67 => ⟨S8x4096x8x64, .f32⟩
  | 68 => ⟨S8x64x64x8x64, .f32⟩
  | 69 => ⟨S_, .i32⟩
  | 70 => ⟨S64x8, .i32⟩
  | 71 => ⟨S64x8, .i1⟩
  | 72 => ⟨S_, .i32⟩
  | 73 => ⟨S64x8, .i32⟩
  | 74 => ⟨S64x8, .i32⟩
  | 75 => ⟨S64x8, .i32⟩
  | 76 => ⟨S64x8x1, .i32⟩
  | 77 => ⟨S8x64x8x64x8x64, .f32⟩
  | 78 => ⟨S_, .i32⟩
  | 79 => ⟨S64x8, .i32⟩
  | 80 => ⟨S64x8, .i1⟩
  | 81 => ⟨S_, .i32⟩
  | 82 => ⟨S64x8, .i32⟩
  | 83 => ⟨S64x8, .i32⟩
  | 84 => ⟨S64x8, .i32⟩
  | 85 => ⟨S64x8x1, .i32⟩
  | 86 => ⟨S8x64x8x64x8x64, .f32⟩
  | 87 => ⟨S8x8x64x64x8x64, .f32⟩
  | 88 => ⟨S_, .i32⟩
  | 89 => ⟨S64x8, .i32⟩
  | 90 => ⟨S64x8, .i1⟩
  | 91 => ⟨S_, .i32⟩
  | 92 => ⟨S64x8, .i32⟩
  | 93 => ⟨S64x8, .i32⟩
  | 94 => ⟨S64x8, .i32⟩
  | 95 => ⟨S64x8x1, .i32⟩
  | 96 => ⟨S8x64x8x64x64, .f32⟩
  | 97 => ⟨S8x64x64x8x64, .f32⟩
  | 98 => ⟨S1x8x64x64x8x64, .f32⟩
  | 99 => ⟨S8x8x64x64x8x64, .f32⟩
  | 100 => ⟨S8x8x64x64x8x64, .f32⟩
  | 101 => ⟨S8x8x64x64x16, .f32⟩
  | 102 => ⟨S1x8x1x1x16, .f32⟩
  | 103 => ⟨S8x8x64x64x16, .f32⟩
  | 104 => ⟨S8x8x64x64x16, .f32⟩
  | 105 => ⟨S8x8x64x64x512, .f32⟩
  | 106 => ⟨S8x8x64x64x528, .f32⟩
  | 107 => ⟨S_, .f32⟩
  | 108 => ⟨S8x8x64x64, .f32⟩
  | 109 => ⟨S_, .f32⟩
  | 110 => ⟨S8x8x64x64, .f32⟩
  | 111 => ⟨S8x8x64x64, .f32⟩
  | 112 => ⟨S8x8x64x64x1, .f32⟩
  | 113 => ⟨S8x8x64x64x528, .f32⟩
  | 114 => ⟨S8x8x64x64x528, .f32⟩
  | 115 => ⟨S8x8x64x64x528, .f32⟩
  | 116 => ⟨S_, .f32⟩
  | 117 => ⟨S8x8x64x64, .f32⟩
  | 118 => ⟨S8x8x64x64x1, .f32⟩
  | 119 => ⟨S8x8x64x64x528, .f32⟩
  | 120 => ⟨S8x8x64x64x528, .f32⟩
  | 121 => ⟨S8x64x512x8x64, .f32⟩
  | 122 => ⟨S8x8x64x64x512, .f32⟩
  | 123 => ⟨S8x64x8x64x64, .f32⟩
  | 124 => ⟨S8x64x64x8x64, .f32⟩
  | 125 => ⟨S8x8x64x64x16, .f32⟩
  | 126 => ⟨S8x8x64x64x64, .f32⟩
  | 127 => ⟨S8x64x64x8x64, .f32⟩
  | _ => ⟨S8x4224x512, .bf16⟩

abbrev hbmTy0_1 (i : Nat) : BufTy := match i % 128 with
  | 0 => ⟨S8x64x64x8x64, .f32⟩
  | 1 => ⟨S8x512x512, .bf16⟩
  | 2 => ⟨S8x512x512, .f32⟩
  | 3 => ⟨S8x512x8x64, .f32⟩
  | 4 => ⟨S8x512x512, .bf16⟩
  | 5 => ⟨S8x512x512, .f32⟩
  | 6 => ⟨S8x512x8x64, .f32⟩
  | 7 => ⟨S8x8x1x64, .f32⟩
  | 8 => ⟨S8x8x64, .f32⟩
  | 9 => ⟨S8x512, .f32⟩
  | 10 => ⟨S8x8x16x512, .f32⟩
  | 11 => ⟨S1x8x1x512, .f32⟩
  | 12 => ⟨S8x8x16x512, .f32⟩
  | 13 => ⟨S8x8x16x512, .f32⟩
  | 14 => ⟨S8x8x16x16, .f32⟩
  | 15 => ⟨S1x8x1x16, .f32⟩
  | 16 => ⟨S8x8x16x16, .f32⟩
  | 17 => ⟨S8x8x16x16, .f32⟩
  | 18 => ⟨S8x8x16x528, .f32⟩
  | 19 => ⟨S_, .f32⟩
  | 20 => ⟨S8x8x16, .f32⟩
  | 21 => ⟨S_, .f32⟩
  | 22 => ⟨S8x8x16, .f32⟩
  | 23 => ⟨S8x8x16, .f32⟩
  | 24 => ⟨S8x8x16x1, .f32⟩
  | 25 => ⟨S8x8x16x528, .f32⟩
  | 26 => ⟨S8x8x16x528, .f32⟩
  | 27 => ⟨S8x8x16x528, .f32⟩
  | 28 => ⟨S_, .f32⟩
  | 29 => ⟨S8x8x16, .f32⟩
  | 30 => ⟨S8x8x16x1, .f32⟩
  | 31 => ⟨S8x8x16x528, .f32⟩
  | 32 => ⟨S8x8x16x528, .f32⟩
  | 33 => ⟨S8x8x16x512, .f32⟩
  | 34 => ⟨S8x8x64x16, .f32⟩
  | 35 => ⟨S8x16x8x64, .f32⟩
  | 36 => ⟨S8x8x16x16, .f32⟩
  | 37 => ⟨S8x8x64x16, .f32⟩
  | 38 => ⟨S8x16x8x64, .f32⟩
  | 39 => ⟨S8x16x8x64, .f32⟩
  | 40 => ⟨S_, .bf16⟩
  | 41 => ⟨S8x112x512, .bf16⟩
  | 42 => ⟨S8x16x512, .f32⟩
  | 43 => ⟨S8x16x512, .bf16⟩
  | 44 => ⟨S8x4096x512, .f32⟩
  | 45 => ⟨S8x4096x512, .bf16⟩
  | 46 => ⟨S8x4224x512, .bf16⟩
  | _ => ⟨S8x4224x512, .bf16⟩

abbrev hbmTy (i : Nat) : BufTy := match i / 128 with
  | 0 => hbmTy0_0 i
  | 1 => hbmTy0_1 i
  | _ => ⟨S8x4224x512, .bf16⟩

abbrev bufTy : (tb : Table) → Fin (tcTables nBuf tb) → BufTy
  | .hbm, ⟨i, _⟩ => hbmTy i
  | _, _ => ⟨S8x4224x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_c_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_c_5 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_6 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_c_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_17 : Ref sig .tc := ⟨.hbm, 147, rfl⟩
abbrev main_v115 : Ref sig .tc := ⟨.hbm, 148, rfl⟩
abbrev main_cst_18 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_19 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_20 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩

abbrev nD : Nat := 1
abbrev τ : Topo := Topo.v7x

variable {F : FTy → Type} [FloatOps F]
-- ==== Proof.WinMath.lean ====
module

public import Idealize.ShloMosaic.Lib.Pointwise
public import Idealize.ShloMosaic.Lib.Pipeline.ValueKit
public import Idealize.ShloMosaic.Lib.Tactic

@[expose] public section

noncomputable section

namespace Cert.WinMath

open Idealize.ShloMosaic

/-- Query row `i` attends to key row `k` of the padded sequence: within the window and past the meta rows, or a meta
    row. -/
def ok (i k : ℕ) : Prop := (i ≤ k + 128 ∧ k ≤ i + 128 ∧ 128 ≤ k) ∨ (112 ≤ k ∧ k < 128)

instance (i k : ℕ) : Decidable (ok i k) := by unfold ok; infer_instance

/-- Key row `x` of the block before block `n`. -/
def kp (n : Fin 33) (x : Fin 128) : Fin 4224 := ⟨(n.val - 1) * 128 + x.val, by omega⟩
/-- Key row `x` of block `n`. -/
def kc (n : Fin 33) (x : Fin 128) : Fin 4224 := ⟨n.val * 128 + x.val, by omega⟩
/-- Key row `x` of the block after block `n`. -/
def kn (n : Fin 33) (x : Fin 128) : Fin 4224 := ⟨min (n.val + 1) 32 * 128 + x.val, by omega⟩
/-- Meta key `x`. -/
def km (x : Fin 16) : Fin 4224 := ⟨112 + x.val, by omega⟩

/-- A sum over all key rows of a function that vanishes off the attended rows is the sum over the three blocks around
    the query's block and the meta rows. -/
theorem sum_blocks {M : Type} [AddCommMonoid M] (n : Fin 33) (r : Fin 128) (f : Fin 4224 → M)
    (h0 : ∀ k, ¬ ok (n.val * 128 + r.val) k.val → f k = 0) :
    ∑ k, f k = (((∑ x, if r.val ≤ x.val ∧ 2 ≤ n.val then f (kp n x) else 0)
      + ∑ x, if 1 ≤ n.val then f (kc n x) else 0)
      + ∑ x, if x.val ≤ r.val ∧ n.val + 1 ≤ 32 then f (kn n x) else 0) + ∑ x, f (km x) := by
  have hs : ∑ k, f k = ∑ j : Fin 33, ∑ x : Fin 128, f (kc j x) :=
    (Fin.sum_mul_add_fin 33 128 f (by decide)).symm
  have hm : ∑ x : Fin 128, f (kc 0 x) = ∑ x : Fin 16, f (km x) := by
    have := Fin.sum_univ_add (a := 112) (b := 16) (fun x : Fin (112 + 16) => f (kc 0 x))
    refine this.trans ?_
    rw [Finset.sum_eq_zero, zero_add]
    · refine Finset.sum_congr rfl fun x _ => congrArg f (Fin.ext ?_)
      simp [kc, km]
    · intro x _
      apply h0
      simp only [ok, kc, Fin.val_castAdd, Fin.val_zero]
      omega
  have hj : ∀ j : Fin 33, ∑ x : Fin 128, f (kc j x) =
      (((if j.val + 1 = n.val ∧ 2 ≤ n.val then (∑ x, if r.val ≤ x.val ∧ 2 ≤ n.val then f (kp n x) else 0) else 0)
      + (if j.val = n.val then (∑ x, if 1 ≤ n.val then f (kc n x) else 0) else 0))
      + (if j.val = n.val + 1 then ∑ x, if x.val ≤ r.val ∧ n.val + 1 ≤ 32 then f (kn n x) else 0 else 0))
      + (if j.val = 0 then ∑ x, f (km x) else 0) := by
    intro j
    by_cases hj0 : j.val = 0
    · obtain rfl : j = 0 := Fin.ext hj0
      rw [hm, if_neg (by simp; omega), if_neg (c := (0 : Fin 33).val = n.val + 1) (by simp), if_pos (c := (0 : Fin 33).val = 0) rfl]
      by_cases hn : (0 : Fin 33).val = n.val
      · rw [if_pos hn]
        have : ¬ 1 ≤ n.val := by simp at hn; omega
        simp [this]
      · rw [if_neg hn]; simp
    · rw [if_neg (c := j.val = 0) hj0, add_zero]
      by_cases h1 : j.val + 1 = n.val
      · rw [if_pos (by omega), if_neg (by omega), if_neg (by omega), add_zero, add_zero]
        refine Finset.sum_congr rfl fun x _ => ?_
        by_cases hx : r.val ≤ x.val
        · rw [if_pos (by omega)]; exact congrArg f (Fin.ext (by simp only [kc, kp]; omega))
        · rw [if_neg (by omega)]; apply h0; simp only [ok, kc]; omega
      · by_cases h2 : j.val = n.val
        · rw [if_neg (by omega), if_pos h2, if_neg (by omega), add_zero, zero_add]
          refine Finset.sum_congr rfl fun x _ => ?_
          rw [if_pos (by omega)]; exact congrArg f (Fin.ext (by simp only [kc]; omega))
        · by_cases h3 : j.val = n.val + 1
          · rw [if_neg (by omega), if_neg h2, if_pos h3, zero_add, zero_add]
            refine Finset.sum_congr rfl fun x _ => ?_
            by_cases hx : x.val ≤ r.val
            · rw [if_pos (by omega)]; exact congrArg f (Fin.ext (by simp only [kc, kn]; omega))
            · rw [if_neg (by omega)]; apply h0; simp only [ok, kc]; omega
          · rw [if_neg (by omega), if_neg h2, if_neg h3]
            simp only [add_zero]
            refine Finset.sum_eq_zero fun x _ => h0 _ ?_
            simp only [ok, kc]; omega
  have one : ∀ (p : Fin 33 → Prop) [DecidablePred p] (a : Fin 33) (X : M), (∀ j, p j → j = a) → (¬ p a → X = 0) →
      ∑ j, (if p j then X else 0) = X := by
    intro p _ a X h h'
    rw [Finset.sum_eq_single a (fun j _ hja => if_neg fun hp => hja (h j hp)) (fun ha => absurd (Finset.mem_univ a) ha)]
    by_cases hp : p a
    · rw [if_pos hp]
    · rw [if_neg hp, h' hp]
  rw [hs, Finset.sum_congr rfl fun j _ => hj j, Finset.sum_add_distrib, Finset.sum_add_distrib,
    Finset.sum_add_distrib]
  rw [one (fun j : Fin 33 => j.val + 1 = n.val ∧ 2 ≤ n.val) ⟨n.val - 1, by omega⟩ _ (fun j hj => Fin.ext (by simp only; omega))
      (fun hp => Finset.sum_eq_zero fun x _ => if_neg (by simp only at hp; omega)),
    one (fun j : Fin 33 => j.val = n.val) n _ (fun j hj => Fin.ext hj) (fun hp => absurd rfl hp),
    one (fun j : Fin 33 => j.val = n.val + 1) ⟨min (n.val + 1) 32, by omega⟩ _ (fun j hj => Fin.ext (by simp only; omega))
      (fun hp => Finset.sum_eq_zero fun x _ => if_neg (by simp only at hp; omega)),
    one (fun j : Fin 33 => j.val = 0) 0 _ (fun j hj => Fin.ext hj) (fun hp => absurd rfl hp)]

/-- The same for the largest value. -/
theorem sup_blocks (n : Fin 33) (r : Fin 128) (s : Fin 4224 → EReal)
    (h0 : ∀ k, ¬ ok (n.val * 128 + r.val) k.val → s k = ⊥) :
    Finset.univ.sup s = max (max (max (Finset.univ.sup fun x => if r.val ≤ x.val ∧ 2 ≤ n.val then s (kp n x) else ⊥)
      (Finset.univ.sup fun x => if 1 ≤ n.val then s (kc n x) else ⊥))
      (Finset.univ.sup fun x => if x.val ≤ r.val ∧ n.val + 1 ≤ 32 then s (kn n x) else ⊥))
      (Finset.univ.sup fun x => s (km x)) := by
  apply le_antisymm
  · refine Finset.sup_le fun k _ => ?_
    by_cases hk : ok (n.val * 128 + r.val) k.val
    · have hk' := hk
      unfold ok at hk'
      by_cases hm : k.val < 128
      · refine le_max_of_le_right ?_
        have e : km ⟨k.val - 112, by omega⟩ = k := Fin.ext (by simp only [km]; omega)
        exact e ▸ Finset.le_sup (f := fun x => s (km x)) (Finset.mem_univ (⟨k.val - 112, by omega⟩ : Fin 16))
      · refine le_max_of_le_left ?_
        have hx : k.val % 128 < 128 := by omega
        by_cases h1 : k.val / 128 + 1 = n.val
        · refine le_max_of_le_left (le_max_of_le_left ?_)
          have e : kp n ⟨k.val % 128, hx⟩ = k := Fin.ext (by simp only [kp]; omega)
          have := Finset.le_sup (f := fun x : Fin 128 => if r.val ≤ x.val ∧ 2 ≤ n.val then s (kp n x) else ⊥)
            (Finset.mem_univ ⟨k.val % 128, hx⟩)
          simp only [e] at this
          rwa [if_pos (by omega)] at this
        · by_cases h2 : k.val / 128 = n.val
          · refine le_max_of_le_left (le_max_of_le_right ?_)
            have e : kc n ⟨k.val % 128, hx⟩ = k := Fin.ext (by simp only [kc]; omega)
            have := Finset.le_sup (f := fun x : Fin 128 => if 1 ≤ n.val then s (kc n x) else ⊥)
              (Finset.mem_univ ⟨k.val % 128, hx⟩)
            simp only [e] at this
            rwa [if_pos (by omega)] at this
          · refine le_max_of_le_right ?_
            have e : kn n ⟨k.val % 128, hx⟩ = k := Fin.ext (by simp only [kn]; omega)
            have := Finset.le_sup (f := fun x : Fin 128 => if x.val ≤ r.val ∧ n.val + 1 ≤ 32 then s (kn n x) else ⊥)
              (Finset.mem_univ ⟨k.val % 128, hx⟩)
            simp only [e] at this
            rwa [if_pos (by omega)] at this
    · rw [h0 k hk]; exact bot_le
  · have hle : ∀ k, s k ≤ Finset.univ.sup s := fun k => Finset.le_sup (Finset.mem_univ k)
    refine max_le (max_le (max_le ?_ ?_) ?_) ?_ <;> refine Finset.sup_le fun x _ => ?_
    · split_ifs
      exacts [hle _, bot_le]
    · split_ifs
      exacts [hle _, bot_le]
    · split_ifs
      exacts [hle _, bot_le]
    · exact hle _

/-- A finite nonnegative factor distributes over a sum of extended reals. -/
theorem sum_mul_const {ι : Type} (s : Finset ι) (f : ι → EReal) (c : EReal) (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, ← ih, mul_comm, EReal.left_distrib_of_nonneg_of_ne_top h0 ht,
      mul_comm c, mul_comm c]

/-- The exponential of a number below plus infinity less a real one is a nonnegative real number. -/
theorem exp_sub_real (x : EReal) (hx : x ≠ ⊤) (μ : ℝ) : ∃ y : ℝ, 0 ≤ y ∧ Ideal.exp (x - μ) = y := by
  induction x with
  | bot => exact ⟨0, le_rfl, by rw [EReal.bot_sub, Ideal.exp_bot]; simp⟩
  | top => exact absurd rfl hx
  | coe x => exact ⟨Real.exp (x - μ), (Real.exp_pos _).le, by rw [← EReal.coe_sub, Ideal.exp_coe]⟩

/-- A sum of real numbers is one. -/
theorem sum_coe {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A number between the two infinities is real. -/
theorem exists_real {x : EReal} (hb : x ≠ ⊥) (ht : x ≠ ⊤) : ∃ y : ℝ, x = y :=
  ⟨x.toReal, (EReal.coe_toReal ht hb).symm⟩

/-- The softmax of a row with a sink: weighted values over the weights' sum is the sum of normalised weights times
    values, when no score is plus infinity and the sink is real. -/
theorem softmax_row {ι : Type} [Fintype ι] (s v : ι → EReal) (t : ℝ) (hs : ∀ k, s k ≠ ⊤) :
    Ideal.div (∑ k, Ideal.exp (s k - max (Finset.univ.sup s) t) * v k)
        ((∑ k, Ideal.exp (s k - max (Finset.univ.sup s) t)) + Ideal.exp (t - max (Finset.univ.sup s) t))
      = ∑ k, v k * Ideal.div (Ideal.exp (s k - max (Finset.univ.sup s) t))
        ((∑ k, Ideal.exp (s k - max (Finset.univ.sup s) t)) + Ideal.exp (t - max (Finset.univ.sup s) t)) := by
  have hlt : Finset.univ.sup s < ⊤ := (Finset.sup_lt_iff bot_lt_top).2 fun k _ => lt_top_iff_ne_top.2 (hs k)
  obtain ⟨μ, hμ⟩ : ∃ μ : ℝ, max (Finset.univ.sup s) (t : EReal) = μ :=
    exists_real (ne_bot_of_le_ne_bot (EReal.coe_ne_bot t) (le_max_right _ _))
      (max_lt hlt (EReal.coe_lt_top t)).ne
  rw [hμ]
  choose g hg0 hg using fun k => exp_sub_real (s k) (hs k) μ
  simp only [hg]
  rw [← EReal.coe_sub, Ideal.exp_coe, sum_coe, ← EReal.coe_add]
  have hD : 0 < ∑ k, g k + Real.exp (t - μ) :=
    add_pos_of_nonneg_of_pos (Finset.sum_nonneg fun k _ => hg0 k) (Real.exp_pos _)
  generalize ∑ k, g k + Real.exp (t - μ) = D at hD
  have hne : ((D : ℝ) : EReal) ≠ 0 := by simpa using hD.ne'
  simp only [Ideal.div, if_neg hne]
  rw [sum_mul_const _ _ _ (EReal.inv_nonneg_of_nonneg (EReal.coe_nonneg.2 hD.le)) (by rw [← EReal.coe_inv]; exact EReal.coe_ne_top _)]
  exact Finset.sum_congr rfl fun k _ => by rw [mul_comm (↑(g k) : EReal) (v k), mul_assoc]

/-- The kernel's row, computed from the three blocks of keys around the query's and the meta keys, is the softmax over
    all key rows with the sink. `T` are the scores before masking. -/
theorem row_eq (n : Fin 33) (r : Fin 128) (T v : Fin 4224 → EReal) (t : ℝ) (hT : ∀ k, T k ≠ ⊤)
    (sp sc sn : Fin 128 → EReal) (sm : Fin 16 → EReal) (mx : EReal)
    (hp : ∀ x, sp x = if r.val ≤ x.val ∧ 2 ≤ n.val then T (kp n x) else ⊥)
    (hc : ∀ x, sc x = if 1 ≤ n.val then T (kc n x) else ⊥)
    (hn : ∀ x, sn x = if x.val ≤ r.val ∧ n.val + 1 ≤ 32 then T (kn n x) else ⊥)
    (hm : ∀ x, sm x = T (km x))
    (hmx : mx = max (max (max (max (Finset.univ.sup sp) (Finset.univ.sup sc)) (Finset.univ.sup sn)) (Finset.univ.sup sm)) t)
    (s : Fin 4224 → EReal) (hs : ∀ k, s k = if ok (n.val * 128 + r.val) k.val then T k else ⊥) :
    Ideal.div ((((∑ x, Ideal.exp (sp x - mx) * v (kp n x)) + ∑ x, Ideal.exp (sc x - mx) * v (kc n x))
        + ∑ x, Ideal.exp (sn x - mx) * v (kn n x)) + ∑ x, Ideal.exp (sm x - mx) * v (km x))
      (((((∑ x, Ideal.exp (sp x - mx)) + ∑ x, Ideal.exp (sc x - mx)) + ∑ x, Ideal.exp (sn x - mx))
        + ∑ x, Ideal.exp (sm x - mx)) + Ideal.exp (t - mx))
    = ∑ k, v k * Ideal.div (Ideal.exp (s k - max (Finset.univ.sup s) t))
        ((∑ k, Ideal.exp (s k - max (Finset.univ.sup s) t)) + Ideal.exp (t - max (Finset.univ.sup s) t)) := by
  have okp : ∀ x : Fin 128, r.val ≤ x.val ∧ 2 ≤ n.val → s (kp n x) = T (kp n x) := fun x h => by
    rw [hs, if_pos]; simp only [ok, kp]; omega
  have okc : ∀ x : Fin 128, 1 ≤ n.val → s (kc n x) = T (kc n x) := fun x h => by
    rw [hs, if_pos]; simp only [ok, kc]; omega
  have okn : ∀ x : Fin 128, x.val ≤ r.val ∧ n.val + 1 ≤ 32 → s (kn n x) = T (kn n x) := fun x h => by
    rw [hs, if_pos]; simp only [ok, kn]; omega
  have okm : ∀ x : Fin 16, s (km x) = T (km x) := fun x => by
    rw [hs, if_pos]; simp only [ok, km]; omega
  have hp' : ∀ x, sp x = if r.val ≤ x.val ∧ 2 ≤ n.val then s (kp n x) else ⊥ := fun x => by
    rw [hp]; split_ifs with h
    exacts [(okp x h).symm, rfl]
  have hc' : ∀ x, sc x = if 1 ≤ n.val then s (kc n x) else ⊥ := fun x => by
    rw [hc]; split_ifs with h
    exacts [(okc x h).symm, rfl]
  have hn' : ∀ x, sn x = if x.val ≤ r.val ∧ n.val + 1 ≤ 32 then s (kn n x) else ⊥ := fun x => by
    rw [hn]; split_ifs with h
    exacts [(okn x h).symm, rfl]
  have hm' : ∀ x, sm x = s (km x) := fun x => by rw [hm, okm]
  have hbot : ∀ k, ¬ ok (n.val * 128 + r.val) k.val → s k = ⊥ := fun k h => by rw [hs, if_neg h]
  have hst : ∀ k, s k ≠ ⊤ := fun k => by
    rw [hs]; split_ifs
    exacts [hT k, bot_ne_top]
  rw [← softmax_row s v t hst]
  have hmx' : mx = max (Finset.univ.sup s) t := by
    rw [hmx, sup_blocks n r s hbot, funext hp', funext hc', funext hn', funext hm']
  rw [← hmx']
  rw [sum_blocks n r (fun k => Ideal.exp (s k - mx) * v k) (fun k h => by rw [hbot k h, EReal.bot_sub, Ideal.exp_bot, zero_mul]),
    sum_blocks n r (fun k => Ideal.exp (s k - mx)) (fun k h => by rw [hbot k h, EReal.bot_sub, Ideal.exp_bot])]
  have e2 : ∀ (c : Prop) [Decidable c] (a : EReal), Ideal.exp ((if c then a else ⊥) - mx)
      = if c then Ideal.exp (a - mx) else 0 := fun c _ a => by
    split_ifs
    exacts [rfl, by rw [EReal.bot_sub, Ideal.exp_bot]]
  simp only [hp', hc', hn', hm', e2, ite_mul, zero_mul]

/-- The sum of products of real numbers is not plus infinity. -/
theorem dot_ne_top {ι : Type} [Fintype ι] (a b : ι → EReal) (ha : ∀ k, ∃ y : ℝ, a k = y) (hb : ∀ k, ∃ y : ℝ, b k = y) :
    ∑ k, a k * b k ≠ ⊤ := by
  choose f hf using ha
  choose g hg using hb
  simp only [hf, hg, ← EReal.coe_mul]
  rw [sum_coe]
  exact EReal.coe_ne_top _

/-- The largest element from a start at minus infinity is the supremum. -/
theorem fold_max {ι : Type} (u : Finset ι) (f : ι → EReal) : Finset.fold max ⊥ f u = u.sup f := rfl

/-- The f32 pattern `0xFF800000` is minus infinity. -/
theorem ofBits_neg_inf : Ideal.ofBits .f32 0xFF800000#32 = ⊥ := by simp [Ideal.ofBits, Ideal.ieee]

/-- A small number as a 32-bit word is that number. -/
theorem toInt_nat (a : ℕ) (h : a < 100000) : (BitVec.ofNat 32 a).toInt = a := by
  rw [BitVec.toInt_ofNat', Int.bmod_def]; omega

/-- Comparing two small numbers as words. -/
theorem sge_nat (a b : ℕ) (ha : a < 100000) (hb : b < 100000) :
    IntOp.cmpi .sge (BitVec.ofNat 32 a) (BitVec.ofNat 32 b) = if b ≤ a then 1#1 else 0#1 := by
  have h : IntOp.cmpi .sge (BitVec.ofNat 32 a) (BitVec.ofNat 32 b) = BitVec.ofBool (decide ((BitVec.ofNat 32 b).toInt ≤ (BitVec.ofNat 32 a).toInt)) := by
    simp [IntOp.cmpi, BitVec.sle]
  rw [h, toInt_nat a ha, toInt_nat b hb]
  by_cases hh : b ≤ a <;> simp [hh]

/-- Comparing two small numbers as words, the other way. -/
theorem sle_nat (a b : ℕ) (ha : a < 100000) (hb : b < 100000) :
    IntOp.cmpi .sle (BitVec.ofNat 32 a) (BitVec.ofNat 32 b) = if a ≤ b then 1#1 else 0#1 := by
  have h : IntOp.cmpi .sle (BitVec.ofNat 32 a) (BitVec.ofNat 32 b) = BitVec.ofBool (decide ((BitVec.ofNat 32 a).toInt ≤ (BitVec.ofNat 32 b).toInt)) := by
    simp [IntOp.cmpi, BitVec.sle]
  rw [h, toInt_nat a ha, toInt_nat b hb]
  by_cases hh : a ≤ b <;> simp [hh]

end Cert.WinMath
end
-- ==== Proof.WinHead.lean ====
module

public import proofs.«01_k».proof.Proof.Gen.WinKernelIdeal.Value
public import proofs.«01_k».proof.Proof.WinMath
public import Idealize.ShloMosaic.Lib.Pointwise
public import Idealize.ShloMosaic.Lib.Pipeline.ValueKit
public import Idealize.ShloMosaic.Lib.Tactic

@[expose] public section

set_option maxRecDepth 16384

noncomputable section

namespace Cert.WinKernelIdeal.Head

open Cert.WinKernelIdeal Cert.WinKernelIdeal.Gen Idealize.ShloMosaic Idealize.ShloMosaic.TcCoe Idealize.SL.Sem

/-- The scores of a head's 128 queries against one block of 128 keys. -/
def dots (q k : FVec Ideal S128x64 .bf16) : FVec Ideal S128x128 .f32 :=
  matmul dot_S128x64_S128x64_S128x128_1_1_0_0_n_n none q k (constant S128x128 .f32 0x00000000#32)

/-- The block where every score is minus infinity. -/
def negInf : FVec Ideal S128x128 .f32 := broadcast S128x128 (Scalar.ofBits .f32 0xFF800000#32)

/-- The scores of a head's 128 queries against the 16 meta keys. -/
def dotsM (q : FVec Ideal S128x64 .bf16) (k : FVec Ideal S16x64 .bf16) : FVec Ideal S128x16 .f32 :=
  matmul dot_S128x64_S16x64_S128x16_1_1_0_0_n_n none q k (constant S128x16 .f32 0x00000000#32)

/-- The largest score of each row of a block of 128 keys. -/
def top (s : FVec Ideal S128x128 .f32) : FVec Ideal S128x1 .f32 :=
  shapeCast S128x1 (multiReduction .maximumf [1] S128 s 0xFF800000#32 reduces_S128x128_S128 (.inl rfl) rfl)
    shapeCasts_S128_S128x1

/-- The largest score of each row over four blocks and the sink. -/
def peak (sp sc sn : FVec Ideal S128x128 .f32) (sm : FVec Ideal S128x16 .f32) (sk : Elt Ideal .f32) :
    FVec Ideal S128x1 .f32 :=
  maximumf (maximumf (maximumf (maximumf (top sp) (top sc)) (top sn))
    (shapeCast S128x1 (multiReduction .maximumf [1] S128 sm 0xFF800000#32 reduces_S128x16_S128 (.inl rfl) rfl)
      shapeCasts_S128_S128x1)) (broadcast S128x1 sk)

/-- The exponentials of a block of scores after the row's maximum is taken away. -/
def weigh (s : FVec Ideal S128x128 .f32) (mx : FVec Ideal S128x1 .f32) : FVec Ideal S128x128 .f32 :=
  exp (subf s (broadcastTo S128x128 mx broadcasts_S128x1_S128x128))

/-- The same for the meta keys. -/
def weighM (s : FVec Ideal S128x16 .f32) (mx : FVec Ideal S128x1 .f32) : FVec Ideal S128x16 .f32 :=
  exp (subf s (broadcastTo S128x16 mx broadcasts_S128x1_S128x16))

/-- The sum of each row of a block of weights. -/
def total (p : FVec Ideal S128x128 .f32) : FVec Ideal S128x1 .f32 :=
  shapeCast S128x1 (multiReduction .add [1] S128 p 0x00000000#32 reduces_S128x128_S128 (.inl rfl) rfl)
    shapeCasts_S128_S128x1

/-- A block of weights times the values of its keys. -/
def mix (p : FVec Ideal S128x128 .f32) (v : FVec Ideal S128x64 .bf16) : FVec Ideal S128x64 .f32 :=
  matmul dot_S128x128_S128x64_S128x64_1_0_0_1_n_n none (truncf .bf16 p bitsLt_bf16_f32) v
    (constant S128x64 .f32 0x00000000#32)

/-- The weighted values of a row divided by the row's weights, from the scores of the four blocks. -/
def soft (sp sc sn : FVec Ideal S128x128 .f32) (sm : FVec Ideal S128x16 .f32)
    (vp vc vn : FVec Ideal S128x64 .bf16) (vm : FVec Ideal S16x64 .bf16) (sk : Elt Ideal .f32)
    (mx : FVec Ideal S128x1 .f32) : FVec Ideal S128x64 .f32 :=
  divf
    (addf (addf (addf (mix (weigh sp mx) vp) (mix (weigh sc mx) vc)) (mix (weigh sn mx) vn))
      (matmul dot_S128x16_S16x64_S128x64_1_0_0_1_n_n none (truncf .bf16 (weighM sm mx) bitsLt_bf16_f32) vm
        (constant S128x64 .f32 0x00000000#32)))
    (broadcastTo S128x64
      (addf (addf (addf (addf (total (weigh sp mx)) (total (weigh sc mx))) (total (weigh sn mx)))
        (shapeCast S128x1
          (multiReduction .add [1] S128 (weighM sm mx) 0x00000000#32 reduces_S128x16_S128 (.inl rfl) rfl)
          shapeCasts_S128_S128x1))
        (exp (subf (broadcast S128x1 sk) mx)))
      broadcasts_S128x1_S128x64)

/-- One head's output on one block of 128 queries, as the kernel computes it: masked scores against the previous, the
    own and the next block of keys and against the meta keys, and their softmax with the sink. -/
def headOut (m5 : IVec S128x128 1) (b6 : BitVec 1) (m11 : IVec S128x128 1)
    (kp kc kn : FVec Ideal S128x64 .bf16) (km : FVec Ideal S16x64 .bf16)
    (vp vc vn : FVec Ideal S128x64 .bf16) (vm : FVec Ideal S16x64 .bf16)
    (q : FVec Ideal S128x64 .bf16) (sk : Elt Ideal .f32) : FVec Ideal S128x64 .f32 :=
  soft (select m5 (dots q kp) negInf) (Scalar.select b6 (dots q kc) negInf) (select m11 (dots q kn) negInf) (dotsM q km)
    vp vc vn vm sk
    (peak (select m5 (dots q kp) negInf) (Scalar.select b6 (dots q kc) negInf) (select m11 (dots q kn) negInf)
      (dotsM q km) sk)

theorem dots_ix (q k : FVec Ideal S128x64 .bf16) (r s : Fin 128) :
    dots q k (ix2 r s) = ∑ d : Fin 64, q (ix2 r d) * k (ix2 s d) := by
  pointwise [dots]

theorem dotsM_ix (q : FVec Ideal S128x64 .bf16) (k : FVec Ideal S16x64 .bf16) (r : Fin 128) (s : Fin 16) :
    dotsM q k (ix2 r s) = ∑ d : Fin 64, q (ix2 r d) * k (ix2 s d) := by
  pointwise [dotsM]

theorem soft_ix (sp sc sn : FVec Ideal S128x128 .f32) (sm : FVec Ideal S128x16 .f32)
    (vp vc vn : FVec Ideal S128x64 .bf16) (vm : FVec Ideal S16x64 .bf16) (sk : Elt Ideal .f32)
    (mx : FVec Ideal S128x1 .f32) (r : Fin 128) (d : Fin 64) :
    soft sp sc sn sm vp vc vn vm sk mx (ix2 r d) = Ideal.div
      (∑ x, Ideal.exp (sp (ix2 r x) - mx (ix2 r 0)) * vp (ix2 x d) +
            ∑ x, Ideal.exp (sc (ix2 r x) - mx (ix2 r 0)) * vc (ix2 x d) +
          ∑ x, Ideal.exp (sn (ix2 r x) - mx (ix2 r 0)) * vn (ix2 x d) +
        ∑ x, Ideal.exp (sm (ix2 r x) - mx (ix2 r 0)) * vm (ix2 x d))
      (∑ x, Ideal.exp (sp (ix2 r x) - mx (ix2 r 0)) + ∑ x, Ideal.exp (sc (ix2 r x) - mx (ix2 r 0)) +
            ∑ x, Ideal.exp (sn (ix2 r x) - mx (ix2 r 0)) +
          ∑ x, Ideal.exp (sm (ix2 r x) - mx (ix2 r 0)) +
        Ideal.exp (sk - mx (ix2 r 0))) := by
  pointwise [soft, mix, total, weigh, weighM]

theorem peak_ix (sp sc sn : FVec Ideal S128x128 .f32) (sm : FVec Ideal S128x16 .f32) (sk : Elt Ideal .f32) (r : Fin 128) :
    peak sp sc sn sm sk (ix2 r 0) = max (max (max (max (Finset.univ.sup fun x => sp (ix2 r x))
      (Finset.univ.sup fun x => sc (ix2 r x))) (Finset.univ.sup fun x => sn (ix2 r x)))
      (Finset.univ.sup fun x => sm (ix2 r x))) sk := by
  pointwise [peak, top]
  simp only [WinMath.ofBits_neg_inf, WinMath.fold_max]

theorem selp_ix (m5 : IVec S128x128 1) (a : FVec Ideal S128x128 .f32) (r x : Fin 128) (p : Prop) [Decidable p]
    (hm : m5 (ix2 r x) = if p then 1#1 else 0#1) (s : EReal) (hs : a (ix2 r x) = s) :
    select m5 a negInf (ix2 r x) = if p then s else ⊥ := by
  pointwise [negInf]
  rw [hm, hs, WinMath.ofBits_neg_inf]
  split_ifs <;> rfl

theorem selc_ix (b6 : BitVec 1) (a : FVec Ideal S128x128 .f32) (r x : Fin 128) (p : Prop) [Decidable p]
    (hm : b6 = if p then 1#1 else 0#1) (s : EReal) (hs : a (ix2 r x) = s) :
    Scalar.select b6 a negInf (ix2 r x) = if p then s else ⊥ := by
  have e : (negInf (ix2 r x) : EReal) = ⊥ := by
    pointwise [negInf]
    exact WinMath.ofBits_neg_inf
  rw [hm, ← hs, ← e]
  split_ifs <;> rfl

/-- One head's output at row `r` and column `d` of query block `n`, when the blocks of keys and values it is given are
    those of an array of 4224 rows: the reference's softmax over all rows. -/
theorem headOut_ix (n : Fin 33) (m5 : IVec S128x128 1) (b6 : BitVec 1) (m11 : IVec S128x128 1)
    (kp kc kn : FVec Ideal S128x64 .bf16) (km : FVec Ideal S16x64 .bf16)
    (vp vc vn : FVec Ideal S128x64 .bf16) (vm : FVec Ideal S16x64 .bf16)
    (q : FVec Ideal S128x64 .bf16) (sk : Elt Ideal .f32) (r : Fin 128) (d : Fin 64)
    (h5 : ∀ x, m5 (ix2 r x) = if r.val ≤ x.val ∧ 2 ≤ n.val then 1#1 else 0#1)
    (h6 : b6 = if 1 ≤ n.val then 1#1 else 0#1)
    (h11 : ∀ x, m11 (ix2 r x) = if x.val ≤ r.val ∧ n.val + 1 ≤ 32 then 1#1 else 0#1)
    (K V : Fin 4224 → Fin 64 → EReal) (Q : Fin 64 → EReal) (t : ℝ)
    (hQ : ∀ e, q (ix2 r e) = Q e) (ht : sk = (t : EReal))
    (hkp : ∀ x e, kp (ix2 x e) = K (WinMath.kp n x) e) (hkc : ∀ x e, kc (ix2 x e) = K (WinMath.kc n x) e)
    (hkn : ∀ x e, kn (ix2 x e) = K (WinMath.kn n x) e) (hkm : ∀ x e, km (ix2 x e) = K (WinMath.km x) e)
    (hvp : ∀ x e, vp (ix2 x e) = V (WinMath.kp n x) e) (hvc : ∀ x e, vc (ix2 x e) = V (WinMath.kc n x) e)
    (hvn : ∀ x e, vn (ix2 x e) = V (WinMath.kn n x) e) (hvm : ∀ x e, vm (ix2 x e) = V (WinMath.km x) e)
    (hKr : ∀ k e, ∃ y : ℝ, K k e = y) (hQr : ∀ e, ∃ y : ℝ, Q e = y)
    (s : Fin 4224 → EReal)
    (hs : ∀ k : Fin 4224, s k = if WinMath.ok (n.val * 128 + r.val) k.val then ∑ e, K k e * Q e else ⊥) :
    headOut m5 b6 m11 kp kc kn km vp vc vn vm q sk (ix2 r d)
      = ∑ k, V k d * Ideal.div (Ideal.exp (s k - max (Finset.univ.sup s) t))
        ((∑ k, Ideal.exp (s k - max (Finset.univ.sup s) t)) + Ideal.exp (t - max (Finset.univ.sup s) t)) := by
  unfold headOut
  rw [soft_ix]
  simp only [hvp, hvc, hvn, hvm]
  subst ht
  refine WinMath.row_eq n r (fun k => ∑ e, K k e * Q e) (fun k => V k d) t
    (fun k => WinMath.dot_ne_top _ _ (fun e => hKr k e) hQr) _ _ _ _ _
    (fun x => selp_ix _ _ _ _ _ (h5 x) _ ?_) (fun x => selc_ix _ _ _ _ _ h6 _ ?_)
    (fun x => selp_ix _ _ _ _ _ (h11 x) _ ?_) (fun x => ?_) (peak_ix _ _ _ _ _ _) s hs
  · rw [dots_ix]; exact Finset.sum_congr rfl fun e _ => by rw [hQ, hkp, mul_comm]
  · rw [dots_ix]; exact Finset.sum_congr rfl fun e _ => by rw [hQ, hkc, mul_comm]
  · rw [dots_ix]; exact Finset.sum_congr rfl fun e _ => by rw [hQ, hkn, mul_comm]
  · rw [dotsM_ix]; exact Finset.sum_congr rfl fun e _ => by rw [hQ, hkm, mul_comm]

end Cert.WinKernelIdeal.Head
end
-- ==== Proof.WinBlock.lean ====
module

public import proofs.«01_k».proof.Proof.Gen.WinKernelIdeal.Value
public import proofs.«01_k».proof.Proof.WinHead
public import Idealize.ShloMosaic.Lib.Pointwise
public import Idealize.ShloMosaic.Lib.Pipeline.ValueKit
public import Idealize.ShloMosaic.Lib.Tactic

@[expose] public section

set_option maxRecDepth 16384

noncomputable section

namespace Cert.WinKernelIdeal.Block

open Cert.WinKernelIdeal Cert.WinKernelIdeal.Gen Cert.WinKernelIdeal.Head Idealize.ShloMosaic Idealize.ShloMosaic.TcCoe Idealize.SL.Sem
open Idealize.ShloMosaic.Pipeline (Dat)
open Facts

variable (m : (ℓ : Loc nD τ sig) → Buf (Elt Ideal) ℓ)

/-- 64 columns of a block of queries, from column `o`. -/
def qCols (X : Vec Ideal S1x128x512 .bf16) (o : ℕ)
    (h : ∀ a, (![0, 0, o] : Fin 3 → Nat) a + S1x128x64.size a ≤ S1x128x512.size a) : FVec Ideal S128x64 .bf16 :=
  shapeCast S128x64 (View.ld X (Rect.unit (s := S1x128x512) ![0, 0, o] S1x128x64.size h)) shapeCasts_S1x128x64_S128x64

/-- 64 columns of a block of keys and values, from column `o`. -/
def kvCols (X : Vec Ideal S1x128x256 .bf16) (o : ℕ)
    (h : ∀ a, (![0, 0, o] : Fin 3 → Nat) a + S1x128x64.size a ≤ S1x128x256.size a) : FVec Ideal S128x64 .bf16 :=
  shapeCast S128x64 (View.ld X (Rect.unit (s := S1x128x256) ![0, 0, o] S1x128x64.size h)) shapeCasts_S1x128x64_S128x64

/-- 64 columns of the meta rows of the first block of keys and values, from column `o`. -/
def kvMeta (X : Vec Ideal S1x128x256 .bf16) (o : ℕ)
    (h : ∀ a, (![0, 112, o] : Fin 3 → Nat) a + S1x16x64.size a ≤ S1x128x256.size a) : FVec Ideal S16x64 .bf16 :=
  shapeCast S16x64 (View.ld X (Rect.unit (s := S1x128x256) ![0, 112, o] S1x16x64.size h)) shapeCasts_S1x16x64_S16x64

theorem cast128_ix (X : FVec Ideal S1x128x64 .bf16) (r : Fin 128) (d : Fin 64) :
    shapeCast S128x64 X shapeCasts_S1x128x64_S128x64 (ix2 r d) = X (ix3 0 r d) := by
  pointwise

theorem cast16_ix (X : FVec Ideal S1x16x64 .bf16) (r : Fin 16) (d : Fin 64) :
    shapeCast S16x64 X shapeCasts_S1x16x64_S16x64 (ix2 r d) = X (ix3 0 r d) := by
  pointwise

theorem qCols_ix (X : Vec Ideal S1x128x512 .bf16) (o : ℕ) (h) (r : Fin 128) (d : Fin 64) (l : Fin 512) (hl : l.val = o + d.val) :
    qCols X o h (ix2 r d) = X (ix3 0 r l) := by
  unfold qCols
  rw [cast128_ix]
  refine congrArg X (funext fun a => Fin.ext ?_)
  match a with
  | ⟨0, _⟩ => rfl
  | ⟨1, _⟩ => exact (Nat.zero_add _).trans (Nat.one_mul _)
  | ⟨2, _⟩ => exact (congrArg (o + ·) (Nat.one_mul _)).trans hl.symm

theorem kvCols_ix (X : Vec Ideal S1x128x256 .bf16) (o : ℕ) (h) (r : Fin 128) (d : Fin 64) (l : Fin 256) (hl : l.val = o + d.val) :
    kvCols X o h (ix2 r d) = X (ix3 0 r l) := by
  unfold kvCols
  rw [cast128_ix]
  refine congrArg X (funext fun a => Fin.ext ?_)
  match a with
  | ⟨0, _⟩ => rfl
  | ⟨1, _⟩ => exact (Nat.zero_add _).trans (Nat.one_mul _)
  | ⟨2, _⟩ => exact (congrArg (o + ·) (Nat.one_mul _)).trans hl.symm

theorem kvMeta_ix (X : Vec Ideal S1x128x256 .bf16) (o : ℕ) (h) (r : Fin 16) (d : Fin 64) (l : Fin 256) (hl : l.val = o + d.val) :
    kvMeta X o h (ix2 r d) = X (ix3 0 ⟨112 + r.val, by omega⟩ l) := by
  unfold kvMeta
  rw [cast16_ix]
  refine congrArg X (funext fun a => Fin.ext ?_)
  match a with
  | ⟨0, _⟩ => rfl
  | ⟨1, _⟩ => exact congrArg (112 + ·) (Nat.one_mul _)
  | ⟨2, _⟩ => exact (congrArg (o + ·) (Nat.one_mul _)).trans hl.symm

/-- Eight heads' outputs side by side are one block. -/
theorem cat8_ix (a0 a1 a2 a3 a4 a5 a6 a7 : FVec Ideal S128x64 .f32) (r : Fin 128) (l : Fin 512) :
    shapeCast S1x128x512 (truncf .bf16 (concatenate S128x512 1 [⟨S128x64, a0⟩, ⟨S128x64, a1⟩, ⟨S128x64, a2⟩, ⟨S128x64, a3⟩, ⟨S128x64, a4⟩, ⟨S128x64, a5⟩, ⟨S128x64, a6⟩, ⟨S128x64, a7⟩] concatenates_S128x64_S128x64_S128x64_S128x64_S128x64_S128x64_S128x64_S128x64_S128x512_d1) bitsLt_bf16_f32) shapeCasts_S128x512_S1x128x512 (ix3 0 r l)
      = (if h : l.val < 64 then a0 (ix2 r ⟨l.val, h⟩) else if h : l.val - 64 < 64 then a1 (ix2 r ⟨l.val - 64, h⟩)
        else if h : l.val - 64 - 64 < 64 then a2 (ix2 r ⟨l.val - 64 - 64, h⟩)
        else if h : l.val - 64 - 64 - 64 < 64 then a3 (ix2 r ⟨l.val - 64 - 64 - 64, h⟩)
        else if h : l.val - 64 - 64 - 64 - 64 < 64 then a4 (ix2 r ⟨l.val - 64 - 64 - 64 - 64, h⟩)
        else if h : l.val - 64 - 64 - 64 - 64 - 64 < 64 then a5 (ix2 r ⟨l.val - 64 - 64 - 64 - 64 - 64, h⟩)
        else if h : l.val - 64 - 64 - 64 - 64 - 64 - 64 < 64 then a6 (ix2 r ⟨l.val - 64 - 64 - 64 - 64 - 64 - 64, h⟩)
        else a7 (ix2 r ⟨l.val - 64 - 64 - 64 - 64 - 64 - 64 - 64, by omega⟩)) := by
  pointwise

/-- The block the kernel writes at a point: eight heads side by side. -/
theorem out_eq (c : Dev nD) (t : Fin cfg0.N) :
    outsAt0 m c t = shapeCast S1x128x512 (truncf .bf16 (concatenate S128x512 1 [
      ⟨S128x64, headOut (k0_pay3 (grid0.coords t)) (Scalar.cmpi .sge (BitVec.ofNat 32 (grid0.coords t 1).val) 1#32) (k0_pay4 (grid0.coords t))
        (kvCols (iblk m c 1 t) 0 inb_S1x128x256_S1x128x64_0_0_0) (kvCols (iblk m c 2 t) 0 inb_S1x128x256_S1x128x64_0_0_0)
        (kvCols (iblk m c 3 t) 0 inb_S1x128x256_S1x128x64_0_0_0) (kvMeta (iblk m c 4 t) 0 inb_S1x128x256_S1x16x64_0_112_0)
        (kvCols (iblk m c 1 t) 128 inb_S1x128x256_S1x128x64_0_0_128) (kvCols (iblk m c 2 t) 128 inb_S1x128x256_S1x128x64_0_0_128)
        (kvCols (iblk m c 3 t) 128 inb_S1x128x256_S1x128x64_0_0_128) (kvMeta (iblk m c 4 t) 128 inb_S1x128x256_S1x16x64_0_112_128)
        (qCols (iblk m c 0 t) 0 inb_S1x128x512_S1x128x64_0_0_0) (View.ld (iblk m c 5 t) (Rect.unit (s := S8) ![0] S1.size inb_S8_S1_0) (Shape.Idx.first (s := S1) (by decide)))⟩,
      ⟨S128x64, headOut (k0_pay3 (grid0.coords t)) (Scalar.cmpi .sge (BitVec.ofNat 32 (grid0.coords t 1).val) 1#32) (k0_pay4 (grid0.coords t))
        (kvCols (iblk m c 1 t) 0 inb_S1x128x256_S1x128x64_0_0_0) (kvCols (iblk m c 2 t) 0 inb_S1x128x256_S1x128x64_0_0_0)
        (kvCols (iblk m c 3 t) 0 inb_S1x128x256_S1x128x64_0_0_0) (kvMeta (iblk m c 4 t) 0 inb_S1x128x256_S1x16x64_0_112_0)
        (kvCols (iblk m c 1 t) 128 inb_S1x128x256_S1x128x64_0_0_128) (kvCols (iblk m c 2 t) 128 inb_S1x128x256_S1x128x64_0_0_128)
        (kvCols (iblk m c 3 t) 128 inb_S1x128x256_S1x128x64_0_0_128) (kvMeta (iblk m c 4 t) 128 inb_S1x128x256_S1x16x64_0_112_128)
        (qCols (iblk m c 0 t) 64 inb_S1x128x512_S1x128x64_0_0_64) (View.ld (iblk m c 5 t) (Rect.unit (s := S8) ![1] S1.size inb_S8_S1_1) (Shape.Idx.first (s := S1) (by decide)))⟩,
      ⟨S128x64, headOut (k0_pay3 (grid0.coords t)) (Scalar.cmpi .sge (BitVec.ofNat 32 (grid0.coords t 1).val) 1#32) (k0_pay4 (grid0.coords t))
        (kvCols (iblk m c 1 t) 0 inb_S1x128x256_S1x128x64_0_0_0) (kvCols (iblk m c 2 t) 0 inb_S1x128x256_S1x128x64_0_0_0)
        (kvCols (iblk m c 3 t) 0 inb_S1x128x256_S1x128x64_0_0_0) (kvMeta (iblk m c 4 t) 0 inb_S1x128x256_S1x16x64_0_112_0)
        (kvCols (iblk m c 1 t) 128 inb_S1x128x256_S1x128x64_0_0_128) (kvCols (iblk m c 2 t) 128 inb_S1x128x256_S1x128x64_0_0_128)
        (kvCols (iblk m c 3 t) 128 inb_S1x128x256_S1x128x64_0_0_128) (kvMeta (iblk m c 4 t) 128 inb_S1x128x256_S1x16x64_0_112_128)
        (qCols (iblk m c 0 t) 128 inb_S1x128x512_S1x128x64_0_0_128) (View.ld (iblk m c 5 t) (Rect.unit (s := S8) ![2] S1.size inb_S8_S1_2) (Shape.Idx.first (s := S1) (by decide)))⟩,
      ⟨S128x64, headOut (k0_pay3 (grid0.coords t)) (Scalar.cmpi .sge (BitVec.ofNat 32 (grid0.coords t 1).val) 1#32) (k0_pay4 (grid0.coords t))
        (kvCols (iblk m c 1 t) 0 inb_S1x128x256_S1x128x64_0_0_0) (kvCols (iblk m c 2 t) 0 inb_S1x128x256_S1x128x64_0_0_0)
        (kvCols (iblk m c 3 t) 0 inb_S1x128x256_S1x128x64_0_0_0) (kvMeta (iblk m c 4 t) 0 inb_S1x128x256_S1x16x64_0_112_0)
        (kvCols (iblk m c 1 t) 128 inb_S1x128x256_S1x128x64_0_0_128) (kvCols (iblk m c 2 t) 128 inb_S1x128x256_S1x128x64_0_0_128)
        (kvCols (iblk m c 3 t) 128 inb_S1x128x256_S1x128x64_0_0_128) (kvMeta (iblk m c 4 t) 128 inb_S1x128x256_S1x16x64_0_112_128)
        (qCols (iblk m c 0 t) 192 inb_S1x128x512_S1x128x64_0_0_192) (View.ld (iblk m c 5 t) (Rect.unit (s := S8) ![3] S1.size inb_S8_S1_3) (Shape.Idx.first (s := S1) (by decide)))⟩,
      ⟨S128x64, headOut (k0_pay3 (grid0.coords t)) (Scalar.cmpi .sge (BitVec.ofNat 32 (grid0.coords t 1).val) 1#32) (k0_pay4 (grid0.coords t))
        (kvCols (iblk m c 1 t) 64 inb_S1x128x256_S1x128x64_0_0_64) (kvCols (iblk m c 2 t) 64 inb_S1x128x256_S1x128x64_0_0_64)
        (kvCols (iblk m c 3 t) 64 inb_S1x128x256_S1x128x64_0_0_64) (kvMeta (iblk m c 4 t) 64 inb_S1x128x256_S1x16x64_0_112_64)
        (kvCols (iblk m c 1 t) 192 inb_S1x128x256_S1x128x64_0_0_192) (kvCols (iblk m c 2 t) 192 inb_S1x128x256_S1x128x64_0_0_192)
        (kvCols (iblk m c 3 t) 192 inb_S1x128x256_S1x128x64_0_0_192) (kvMeta (iblk m c 4 t) 192 inb_S1x128x256_S1x16x64_0_112_192)
        (qCols (iblk m c 0 t) 256 inb_S1x128x512_S1x128x64_0_0_256) (View.ld (iblk m c 5 t) (Rect.unit (s := S8) ![4] S1.size inb_S8_S1_4) (Shape.Idx.first (s := S1) (by decide)))⟩,
      ⟨S128x64, headOut (k0_pay3 (grid0.coords t)) (Scalar.cmpi .sge (BitVec.ofNat 32 (grid0.coords t 1).val) 1#32) (k0_pay4 (grid0.coords t))
        (kvCols (iblk m c 1 t) 64 inb_S1x128x256_S1x128x64_0_0_64) (kvCols (iblk m c 2 t) 64 inb_S1x128x256_S1x128x64_0_0_64)
        (kvCols (iblk m c 3 t) 64 inb_S1x128x256_S1x128x64_0_0_64) (kvMeta (iblk m c 4 t) 64 inb_S1x128x256_S1x16x64_0_112_64)
        (kvCols (iblk m c 1 t) 192 inb_S1x128x256_S1x128x64_0_0_192) (kvCols (iblk m c 2 t) 192 inb_S1x128x256_S1x128x64_0_0_192)
        (kvCols (iblk m c 3 t) 192 inb_S1x128x256_S1x128x64_0_0_192) (kvMeta (iblk m c 4 t) 192 inb_S1x128x256_S1x16x64_0_112_192)
        (qCols (iblk m c 0 t) 320 inb_S1x128x512_S1x128x64_0_0_320) (View.ld (iblk m c 5 t) (Rect.unit (s := S8) ![5] S1.size inb_S8_S1_5) (Shape.Idx.first (s := S1) (by decide)))⟩,
      ⟨S128x64, headOut (k0_pay3 (grid0.coords t)) (Scalar.cmpi .sge (BitVec.ofNat 32 (grid0.coords t 1).val) 1#32) (k0_pay4 (grid0.coords t))
        (kvCols (iblk m c 1 t) 64 inb_S1x128x256_S1x128x64_0_0_64) (kvCols (iblk m c 2 t) 64 inb_S1x128x256_S1x128x64_0_0_64)
        (kvCols (iblk m c 3 t) 64 inb_S1x128x256_S1x128x64_0_0_64) (kvMeta (iblk m c 4 t) 64 inb_S1x128x256_S1x16x64_0_112_64)
        (kvCols (iblk m c 1 t) 192 inb_S1x128x256_S1x128x64_0_0_192) (kvCols (iblk m c 2 t) 192 inb_S1x128x256_S1x128x64_0_0_192)
        (kvCols (iblk m c 3 t) 192 inb_S1x128x256_S1x128x64_0_0_192) (kvMeta (iblk m c 4 t) 192 inb_S1x128x256_S1x16x64_0_112_192)
        (qCols (iblk m c 0 t) 384 inb_S1x128x512_S1x128x64_0_0_384) (View.ld (iblk m c 5 t) (Rect.unit (s := S8) ![6] S1.size inb_S8_S1_6) (Shape.Idx.first (s := S1) (by decide)))⟩,
      ⟨S128x64, headOut (k0_pay3 (grid0.coords t)) (Scalar.cmpi .sge (BitVec.ofNat 32 (grid0.coords t 1).val) 1#32) (k0_pay4 (grid0.coords t))
        (kvCols (iblk m c 1 t) 64 inb_S1x128x256_S1x128x64_0_0_64) (kvCols (iblk m c 2 t) 64 inb_S1x128x256_S1x128x64_0_0_64)
        (kvCols (iblk m c 3 t) 64 inb_S1x128x256_S1x128x64_0_0_64) (kvMeta (iblk m c 4 t) 64 inb_S1x128x256_S1x16x64_0_112_64)
        (kvCols (iblk m c 1 t) 192 inb_S1x128x256_S1x128x64_0_0_192) (kvCols (iblk m c 2 t) 192 inb_S1x128x256_S1x128x64_0_0_192)
        (kvCols (iblk m c 3 t) 192 inb_S1x128x256_S1x128x64_0_0_192) (kvMeta (iblk m c 4 t) 192 inb_S1x128x256_S1x16x64_0_112_192)
        (qCols (iblk m c 0 t) 448 inb_S1x128x512_S1x128x64_0_0_448) (View.ld (iblk m c 5 t) (Rect.unit (s := S8) ![7] S1.size inb_S8_S1_7) (Shape.Idx.first (s := S1) (by decide)))⟩] concatenates_S128x64_S128x64_S128x64_S128x64_S128x64_S128x64_S128x64_S128x64_S128x512_d1) bitsLt_bf16_f32) shapeCasts_S128x512_S1x128x512 := by
  funext y
  unfold outsAt0
  frame_out
  rfl

end Cert.WinKernelIdeal.Block
end
-- ==== Proof.WinValue.lean ====
module

public import proofs.«01_k».proof.Proof.Gen.WinKernelIdeal.Value
public import proofs.«01_k».proof.Proof.WinBlock
public import Idealize.ShloMosaic.Lib.Pointwise
public import Idealize.ShloMosaic.Lib.Pipeline.ValueKit
public import Idealize.ShloMosaic.Lib.Pipeline.Covers
public import Idealize.ShloMosaic.Lib.Tactic

@[expose] public section

set_option maxRecDepth 16384

noncomputable section

namespace Cert.WinKernelIdeal.Value2

open Cert.WinKernelIdeal Cert.WinKernelIdeal.Gen Cert.WinKernelIdeal.Head Cert.WinKernelIdeal.Block Idealize.ShloMosaic Idealize.ShloMosaic.TcCoe Idealize.SL.Sem
open Idealize.ShloMosaic.Pipeline (Dat)
open Facts WinMath

variable (m : (ℓ : Loc nD τ sig) → Buf (Elt Ideal) ℓ)

/-- The two grid coordinates of a point: the batch and the row block. -/
theorem coords_facts : ∀ t : Fin cfg0.N, (grid0.coords t 0).val = t.val / 33 ∧ (grid0.coords t 1).val = t.val % 33 := by
  decide +kernel

/-- Which block of its array each window reads or writes at a point. -/
theorem index_facts : ∀ t : Fin cfg0.N,
    ((cfg0.win 0).index t 0 = t.val / 33 ∧ (cfg0.win 0).index t 1 = t.val % 33 ∧ (cfg0.win 0).index t 2 = 0)
    ∧ ((cfg0.win 1).index t 0 = t.val / 33 ∧ (cfg0.win 1).index t 1 = t.val % 33 - 1 ∧ (cfg0.win 1).index t 2 = 0)
    ∧ ((cfg0.win 2).index t 0 = t.val / 33 ∧ (cfg0.win 2).index t 1 = t.val % 33 ∧ (cfg0.win 2).index t 2 = 0)
    ∧ ((cfg0.win 3).index t 0 = t.val / 33 ∧ (cfg0.win 3).index t 1 = min (t.val % 33 + 1) 32 ∧ (cfg0.win 3).index t 2 = 0)
    ∧ ((cfg0.win 4).index t 0 = t.val / 33 ∧ (cfg0.win 4).index t 1 = 0 ∧ (cfg0.win 4).index t 2 = 0)
    ∧ (cfg0.win 5).index t 0 = 0
    ∧ ((cfg0.win 6).index t 0 = t.val / 33 ∧ (cfg0.win 6).index t 1 = t.val % 33 ∧ (cfg0.win 6).index t 2 = 0) := by
  decide +kernel

/-- The number of grid points. -/
theorem N_eq : cfg0.N = 264 := by decide

/-- The block of the queries at a point, by element. -/
theorem iblk0 (c : Dev nD) (t : Fin cfg0.N) (r : Fin 128) (l : Fin 512) (i : S8x4224x512.Idx)
    (h0 : (i 0).val = t.val / 33) (h1 : (i 1).val = t.val % 33 * 128 + r.val) (h2 : (i 2).val = l.val) :
    iblk m c 0 t (ix3 0 r l) = m ((c : Thread nD τ).loc main_arg0) i := by
  obtain ⟨f0, f1, f2⟩ := (index_facts t).1
  blk_simp [iblk]
  show V m c main_arg0 _ = _
  unfold V
  refine congrArg (m ((c : Thread nD τ).loc main_arg0)) (funext fun a => Fin.ext ?_)
  refine (Pipeline.Window.rect_emb_val (cfg0.win 0) t (ix3 0 r l) a).trans ?_
  match a with
  | ⟨0, _⟩ => show (cfg0.win 0).index t 0 * 1 + 0 = (i 0).val; rw [f0, h0]; omega
  | ⟨1, _⟩ => show (cfg0.win 0).index t 1 * 128 + r.val = (i 1).val; rw [f1, h1]
  | ⟨2, _⟩ => show (cfg0.win 0).index t 2 * 512 + l.val = (i 2).val; rw [f2, h2]; omega

/-- The block of the previous key block at a point, by element. -/
theorem iblk1 (c : Dev nD) (t : Fin cfg0.N) (r : Fin 128) (l : Fin 256) (i : S8x4224x256.Idx)
    (h0 : (i 0).val = t.val / 33) (h1 : (i 1).val = (t.val % 33 - 1) * 128 + r.val) (h2 : (i 2).val = l.val) :
    iblk m c 1 t (ix3 0 r l) = m ((c : Thread nD τ).loc main_arg1) i := by
  obtain ⟨f0, f1, f2⟩ := (index_facts t).2.1
  blk_simp [iblk]
  show V m c main_arg1 _ = _
  unfold V
  refine congrArg (m ((c : Thread nD τ).loc main_arg1)) (funext fun a => Fin.ext ?_)
  refine (Pipeline.Window.rect_emb_val (cfg0.win 1) t (ix3 0 r l) a).trans ?_
  match a with
  | ⟨0, _⟩ => show (cfg0.win 1).index t 0 * 1 + 0 = (i 0).val; rw [f0, h0]; omega
  | ⟨1, _⟩ => show (cfg0.win 1).index t 1 * 128 + r.val = (i 1).val; rw [f1, h1]
  | ⟨2, _⟩ => show (cfg0.win 1).index t 2 * 256 + l.val = (i 2).val; rw [f2, h2]; omega

/-- The block of the current key block at a point, by element. -/
theorem iblk2 (c : Dev nD) (t : Fin cfg0.N) (r : Fin 128) (l : Fin 256) (i : S8x4224x256.Idx)
    (h0 : (i 0).val = t.val / 33) (h1 : (i 1).val = t.val % 33 * 128 + r.val) (h2 : (i 2).val = l.val) :
    iblk m c 2 t (ix3 0 r l) = m ((c : Thread nD τ).loc main_arg1) i := by
  obtain ⟨f0, f1, f2⟩ := (index_facts t).2.2.1
  blk_simp [iblk]
  show V m c main_arg1 _ = _
  unfold V
  refine congrArg (m ((c : Thread nD τ).loc main_arg1)) (funext fun a => Fin.ext ?_)
  refine (Pipeline.Window.rect_emb_val (cfg0.win 2) t (ix3 0 r l) a).trans ?_
  match a with
  | ⟨0, _⟩ => show (cfg0.win 2).index t 0 * 1 + 0 = (i 0).val; rw [f0, h0]; omega
  | ⟨1, _⟩ => show (cfg0.win 2).index t 1 * 128 + r.val = (i 1).val; rw [f1, h1]
  | ⟨2, _⟩ => show (cfg0.win 2).index t 2 * 256 + l.val = (i 2).val; rw [f2, h2]; omega

/-- The block of the next key block at a point, by element. -/
theorem iblk3 (c : Dev nD) (t : Fin cfg0.N) (r : Fin 128) (l : Fin 256) (i : S8x4224x256.Idx)
    (h0 : (i 0).val = t.val / 33) (h1 : (i 1).val = min (t.val % 33 + 1) 32 * 128 + r.val) (h2 : (i 2).val = l.val) :
    iblk m c 3 t (ix3 0 r l) = m ((c : Thread nD τ).loc main_arg1) i := by
  obtain ⟨f0, f1, f2⟩ := (index_facts t).2.2.2.1
  blk_simp [iblk]
  show V m c main_arg1 _ = _
  unfold V
  refine congrArg (m ((c : Thread nD τ).loc main_arg1)) (funext fun a => Fin.ext ?_)
  refine (Pipeline.Window.rect_emb_val (cfg0.win 3) t (ix3 0 r l) a).trans ?_
  match a with
  | ⟨0, _⟩ => show (cfg0.win 3).index t 0 * 1 + 0 = (i 0).val; rw [f0, h0]; omega
  | ⟨1, _⟩ => show (cfg0.win 3).index t 1 * 128 + r.val = (i 1).val; rw [f1, h1]
  | ⟨2, _⟩ => show (cfg0.win 3).index t 2 * 256 + l.val = (i 2).val; rw [f2, h2]; omega

/-- The block of the first key block at a point, by element. -/
theorem iblk4 (c : Dev nD) (t : Fin cfg0.N) (r : Fin 128) (l : Fin 256) (i : S8x4224x256.Idx)
    (h0 : (i 0).val = t.val / 33) (h1 : (i 1).val = 0 * 128 + r.val) (h2 : (i 2).val = l.val) :
    iblk m c 4 t (ix3 0 r l) = m ((c : Thread nD τ).loc main_arg1) i := by
  obtain ⟨f0, f1, f2⟩ := (index_facts t).2.2.2.2.1
  blk_simp [iblk]
  show V m c main_arg1 _ = _
  unfold V
  refine congrArg (m ((c : Thread nD τ).loc main_arg1)) (funext fun a => Fin.ext ?_)
  refine (Pipeline.Window.rect_emb_val (cfg0.win 4) t (ix3 0 r l) a).trans ?_
  match a with
  | ⟨0, _⟩ => show (cfg0.win 4).index t 0 * 1 + 0 = (i 0).val; rw [f0, h0]; omega
  | ⟨1, _⟩ => show (cfg0.win 4).index t 1 * 128 + r.val = (i 1).val; rw [f1, h1]
  | ⟨2, _⟩ => show (cfg0.win 4).index t 2 * 256 + l.val = (i 2).val; rw [f2, h2]; omega

/-- The sink logits at a point, by head. -/
theorem iblk5 (c : Dev nD) (t : Fin cfg0.N) (r : Fin 8) :
    iblk m c 5 t (ix1 r) = m ((c : Thread nD τ).loc main_arg2) (ix1 r) := by
  have f0 := (index_facts t).2.2.2.2.2.1
  blk_simp [iblk]
  show V m c main_arg2 _ = _
  unfold V
  refine congrArg (m ((c : Thread nD τ).loc main_arg2)) (funext fun a => Fin.ext ?_)
  refine (Pipeline.Window.rect_emb_val (cfg0.win 5) t (ix1 r) a).trans ?_
  match a with
  | ⟨0, _⟩ => show (cfg0.win 5).index t 0 * 8 + r.val = r.val; rw [f0]; omega

/-- The mask over the previous block, by element. -/
theorem mask_prev (t : Fin cfg0.N) (r x : Fin 128) :
    k0_pay3 (grid0.coords t) (ix2 r x) = if r.val ≤ x.val ∧ 2 ≤ t.val % 33 then 1#1 else 0#1 := by
  obtain ⟨_, h⟩ := coords_facts t
  have e : k0_pay3 (grid0.coords t) (ix2 r x) = IntOp.andi (IntOp.cmpi .sge (BitVec.ofNat 32 x.val) (BitVec.ofNat 32 r.val)) (IntOp.cmpi .sge (BitVec.ofNat 32 (grid0.coords t 1).val) (BitVec.ofNat 32 2)) := by
    pointwise [k0_pay3]
    rfl
  rw [e, h, sge_nat _ _ (by omega) (by omega), sge_nat _ _ (by omega) (by omega)]
  by_cases h1 : r.val ≤ x.val <;> by_cases h2 : 2 ≤ t.val % 33 <;> simp [h1, h2, IntOp.andi]

/-- The mask over the current block: no row of the first block is a real one. -/
theorem mask_cur (t : Fin cfg0.N) :
    Scalar.cmpi .sge (BitVec.ofNat 32 (grid0.coords t 1).val) 1#32 = if 1 ≤ t.val % 33 then 1#1 else 0#1 := by
  obtain ⟨_, h⟩ := coords_facts t
  rw [h]
  exact sge_nat _ 1 (by omega) (by omega)

/-- The mask over the next block, by element. -/
theorem mask_next (t : Fin cfg0.N) (r x : Fin 128) :
    k0_pay4 (grid0.coords t) (ix2 r x) = if x.val ≤ r.val ∧ t.val % 33 + 1 ≤ 32 then 1#1 else 0#1 := by
  obtain ⟨_, h⟩ := coords_facts t
  have e : k0_pay4 (grid0.coords t) (ix2 r x) = IntOp.andi (IntOp.cmpi .sle (BitVec.ofNat 32 x.val) (BitVec.ofNat 32 r.val)) (IntOp.cmpi .sle (IntOp.addi (BitVec.ofNat 32 (grid0.coords t 1).val) 1#32) (BitVec.ofNat 32 32)) := by
    pointwise [k0_pay4]
    rfl
  have a : IntOp.addi (BitVec.ofNat 32 (t.val % 33)) 1#32 = BitVec.ofNat 32 (t.val % 33 + 1) := by
    rw [BitVec.ofNat_add]; rfl
  rw [e, h, a, sle_nat _ _ (by omega) (by omega), sle_nat _ _ (by omega) (by omega)]
  by_cases h1 : x.val ≤ r.val <;> by_cases h2 : t.val % 33 + 1 ≤ 32 <;> simp [h1, h2, IntOp.andi]

end Cert.WinKernelIdeal.Value2
end
-- ==== Proof.WinRef.lean ====
module

public import proofs.«01_k».proof.Proof.Gen.WinReferenceIdeal.Run
public import proofs.«01_k».proof.Proof.WinMath
public import Idealize.ShloMosaic.Lib.Pointwise
public import Idealize.ShloMosaic.Lib.Tactic

@[expose] public section

set_option maxRecDepth 16384

noncomputable section

namespace Cert.WinReferenceIdeal.Row

open Cert.WinReferenceIdeal Idealize.ShloMosaic Idealize.ShloMosaic.TcCoe Idealize.SL.Sem
open Cert.WinReferenceIdeal.Facts Cert.WinReferenceIdeal.Gen

variable (q : FVec Ideal S8x4224x512 .bf16) (kv : FVec Ideal S8x4224x256 .bf16) (sink : FVec Ideal S8 .f32)

/-- Which key rows each query row attends to. -/
def okMask : IVec S1x1x1x4224x4224 1 :=
  (broadcastInDim S1x1x1x4224x4224 ![3, 4] bcast_S4224x4224_S1x1x1x4224x4224_3_4 (ori (andi (cmpi .sle (absi (subi (broadcastInDim S4224x4224 ![0, 1] bcast_S4224x1_S4224x4224_0_1 (broadcastInDim S4224x1 ![0] bcast_S4224_S4224x1_0 (subi (iotaInDim S4224 32 0) (broadcastInDim S4224 ![] bcast_S_S4224 (constantI S_ 32 112#32))))) (broadcastInDim S4224x4224 ![0, 1] bcast_S1x4224_S4224x4224_0_1 (broadcastInDim S1x4224 ![1] bcast_S4224_S1x4224_1 (subi (iotaInDim S4224 32 0) (broadcastInDim S4224 ![] bcast_S_S4224 (constantI S_ 32 112#32))))))) (broadcastInDim S4224x4224 ![] bcast_S_S4224x4224 (constantI S_ 32 128#32))) (broadcastInDim S4224x4224 ![0, 1] bcast_S1x4224_S4224x4224_0_1 (cmpi .sge (broadcastInDim S1x4224 ![1] bcast_S4224_S1x4224_1 (subi (iotaInDim S4224 32 0) (broadcastInDim S4224 ![] bcast_S_S4224 (constantI S_ 32 112#32)))) (broadcastInDim S1x4224 ![] bcast_S_S1x4224 (constantI S_ 32 16#32))))) (broadcastInDim S4224x4224 ![0, 1] bcast_S1x4224_S4224x4224_0_1 (andi (cmpi .sge (broadcastInDim S1x4224 ![1] bcast_S4224_S1x4224_1 (subi (iotaInDim S4224 32 0) (broadcastInDim S4224 ![] bcast_S_S4224 (constantI S_ 32 112#32)))) (broadcastInDim S1x4224 ![] bcast_S_S1x4224 (constantI S_ 32 0#32))) (cmpi .slt (broadcastInDim S1x4224 ![1] bcast_S4224_S1x4224_1 (subi (iotaInDim S4224 32 0) (broadcastInDim S4224 ![] bcast_S_S4224 (constantI S_ 32 112#32)))) (broadcastInDim S1x4224 ![] bcast_S_S1x4224 (constantI S_ 32 16#32)))))))

/-- The scores of all queries against all keys. -/
def scores : FVec Ideal S8x2x4x4224x4224 .f32 :=
  (transpose S8x2x4x4224x4224 [0, 1, 4, 3, 2] (Host.dotGeneral dot_S8x4224x2x64_S8x4224x2x4x64_S8x2x4224x4224x4_3_4_1_13_02_02 none (shapeCast S8x4224x2x64 (extractStridedSlice S8x4224x1x2x64 ![0, 0, 0, 0, 0] (shapeCast S8x4224x2x2x64 (extf .f32 kv bitsLt_bf16_f32) shapeCasts_S8x4224x256_S8x4224x2x2x64) slices_S8x4224x2x2x64_S8x4224x1x2x64_0_0_0_0_0) shapeCasts_S8x4224x1x2x64_S8x4224x2x64) (shapeCast S8x4224x2x4x64 (extf .f32 q bitsLt_bf16_f32) shapeCasts_S8x4224x512_S8x4224x2x4x64)) transposes_S8x2x4224x4224x4_S8x2x4x4224x4224_0_1_4_3_2)

/-- The masked scores with the sink as a last column. -/
def cat : FVec Ideal S8x2x4x4224x4225 .f32 :=
  (concatenate S8x2x4x4224x4225 4 [⟨S8x2x4x4224x4224, (select (broadcastInDim S8x2x4x4224x4224 ![0, 1, 2, 3, 4] bcast_S1x1x1x4224x4224_S8x2x4x4224x4224_0_1_2_3_4 okMask) (scores q kv) (broadcastInDim S8x2x4x4224x4224 ![] bcast_S_S8x2x4x4224x4224 (id (constant S_ .f32 0xFF800000#32))))⟩, ⟨S8x2x4x4224x1, (broadcastInDim S8x2x4x4224x1 ![0, 1, 2, 3, 4] bcast_S1x2x4x1x1_S8x2x4x4224x1_0_1_2_3_4 (broadcastInDim S1x2x4x1x1 ![1, 2] bcast_S2x4_S1x2x4x1x1_1_2 (shapeCast S2x4 sink shapeCasts_S8_S2x4)))⟩] concatenates_S8x2x4x4224x4224_S8x2x4x4224x1_S8x2x4x4224x4225_d4)

/-- Each row's largest score. -/
def mx (s : FVec Ideal S8x2x4x4224x4225 .f32) : FVec Ideal S8x2x4x4224 .f32 :=
  (maximumf (broadcastInDim S8x2x4x4224 ![] bcast_S_S8x2x4x4224 (constant S_ .f32 0xFF800000#32)) (Host.reduce FloatOps.maximumf s (constant S_ .f32 0xFF800000#32) reducesTo_S8x2x4x4224x4225_S8x2x4x4224_d4 h_S_))

/-- The exponentials of the scores less the row's maximum. -/
def wts (s : FVec Ideal S8x2x4x4224x4225 .f32) (u : FVec Ideal S8x2x4x4224 .f32) : FVec Ideal S8x2x4x4224x4225 .f32 :=
  (Host.exp (subf s (broadcastInDim S8x2x4x4224x4225 ![0, 1, 2, 3, 4] bcast_S8x2x4x4224x1_S8x2x4x4224x4225_0_1_2_3_4 (broadcastInDim S8x2x4x4224x1 ![0, 1, 2, 3] bcast_S8x2x4x4224_S8x2x4x4224x1_0_1_2_3 u))))

/-- The softmax from its weights. -/
def probs (w : FVec Ideal S8x2x4x4224x4225 .f32) : FVec Ideal S8x2x4x4224x4225 .f32 :=
  (Host.divf w (broadcastInDim S8x2x4x4224x4225 ![0, 1, 2, 3, 4] bcast_S8x2x4x4224x1_S8x2x4x4224x4225_0_1_2_3_4 (broadcastInDim S8x2x4x4224x1 ![0, 1, 2, 3] bcast_S8x2x4x4224_S8x2x4x4224x1_0_1_2_3 (Host.reduceAdd w (constant S_ .f32 0x00000000#32) reducesTo_S8x2x4x4224x4225_S8x2x4x4224_d4 h_S_))))

/-- The values weighted by the softmax. -/
def comb (p : FVec Ideal S8x2x4x4224x4225 .f32) : FVec Ideal S8x4224x512 .bf16 :=
  truncf .bf16 (shapeCast S8x4224x512 (transpose S8x4224x2x4x64 [0, 4, 1, 3, 2] (Host.dotGeneral dot_S8x4224x2x64_S8x2x4x4224x4224_S8x2x64x4x4224_1_4_3_23_02_01 none (shapeCast S8x4224x2x64 (extractStridedSlice S8x4224x1x2x64 ![0, 0, 1, 0, 0] (shapeCast S8x4224x2x2x64 (extf .f32 kv bitsLt_bf16_f32) shapeCasts_S8x4224x256_S8x4224x2x2x64) slices_S8x4224x2x2x64_S8x4224x1x2x64_0_0_1_0_0) shapeCasts_S8x4224x1x2x64_S8x4224x2x64) (extractStridedSlice S8x2x4x4224x4224 ![0, 0, 0, 0, 0] p slices_S8x2x4x4224x4225_S8x2x4x4224x4224_0_0_0_0_0)) transposes_S8x2x64x4x4224_S8x4224x2x4x64_0_4_1_3_2) shapeCasts_S8x4224x2x4x64_S8x4224x512) bitsLt_bf16_f32

/-- The reference's result. -/
def out : FVec Ideal S8x4224x512 .bf16 :=
  comb kv (probs (wts (cat q kv sink) (mx (cat q kv sink))))

/-- A maximum over the last of five axes from minus infinity, against a floor of minus infinity. -/
theorem hostMax_last {n0 n1 n2 n3 n4 : ℕ} {u : Shape} (s : FVec Ideal ⟨5, ![n0, n1, n2, n3, n4]⟩ .f32) (c : FVec Ideal u .f32)
    (hc : ∀ j, c j = (⊥ : EReal)) (w : FVec Ideal ⟨4, ![n0, n1, n2, n3]⟩ .f32) (hw : ∀ j, w j = (⊥ : EReal))
    (h : (⟨5, ![n0, n1, n2, n3, n4]⟩ : Shape).ReducesTo [4] ⟨4, ![n0, n1, n2, n3]⟩) (hu : 0 < u.numel)
    (a : Fin n0) (b : Fin n1) (d : Fin n2) (e : Fin n3) :
    maximumf w (Host.reduce FloatOps.maximumf s c h hu) (ix4 a b d e)
      = max ⊥ (Finset.univ.sup fun k : Fin n4 => s (ix5 a b d e k)) := by
  rw [← WinMath.fold_max]
  refine congrArg₂ max (hw _) ?_
  rw [Host.reduce_eq_fold, Shape.ReducesTo.fold_fiber_r5_a4, hc]
  rfl

/-- The constant minus infinity. -/
theorem negc (j : S_.Idx) : (constant S_ .f32 0xFF800000#32 : FVec Ideal S_ .f32) j = (⊥ : EReal) := by
  unfold constant
  exact WinMath.ofBits_neg_inf

theorem bot_sup_eq' (x : EReal) : max ⊥ x = x := bot_sup_eq x

/-- The reference's mask words are the condition on rows. -/
theorem mask_word (i k : ℕ) (hi : i < 4224) (hk : k < 4224) :
    IntOp.ori
      (IntOp.andi
        (IntOp.cmpi CmpIPredicate.sle
          (IntOp.absi (IntOp.subi (IntOp.subi (BitVec.ofNat 32 i) 112#32) (IntOp.subi (BitVec.ofNat 32 k) 112#32)))
          128#32)
        (IntOp.cmpi CmpIPredicate.sge (IntOp.subi (BitVec.ofNat 32 k) 112#32) 16#32))
      (IntOp.andi (IntOp.cmpi CmpIPredicate.sge (IntOp.subi (BitVec.ofNat 32 k) 112#32) 0#32)
        (IntOp.cmpi CmpIPredicate.slt (IntOp.subi (BitVec.ofNat 32 k) 112#32) 16#32))
    = if WinMath.ok i k then 1#1 else 0#1 := by
  have bm : ∀ x : ℤ, -100000 ≤ x → x ≤ 100000 → x.bmod (2 ^ 32) = x := fun x h h' => by
    rw [Int.bmod_def, show ((2 ^ 32 : ℕ) : ℤ) = 4294967296 by norm_num]
    split_ifs <;> omega
  have en : ∀ x : ℕ, x < 4224 → (BitVec.ofNat 32 x).toInt = x := fun x h => by
    have e : (BitVec.ofNat 32 x).toInt = (x : ℤ).bmod (2 ^ 32) := BitVec.toInt_ofNat' ..
    rw [e, bm _ (by omega) (by omega)]
  have es : ∀ x : ℕ, x < 4224 → (IntOp.subi (BitVec.ofNat 32 x) 112#32).toInt = (x : ℤ) - 112 := fun x h => by
    unfold IntOp.subi
    rw [BitVec.toInt_sub, en x h, en 112 (by omega), bm _ (by omega) (by omega)]; rfl
  have ek := es k hk
  have ed : (IntOp.subi (IntOp.subi (BitVec.ofNat 32 i) 112#32) (IntOp.subi (BitVec.ofNat 32 k) 112#32)).toInt
      = (i : ℤ) - k := by
    have ei := es i hi
    generalize IntOp.subi (BitVec.ofNat 32 i) 112#32 = a at *
    generalize IntOp.subi (BitVec.ofNat 32 k) 112#32 = b at *
    unfold IntOp.subi
    rw [BitVec.toInt_sub, ei, ek, bm _ (by omega) (by omega)]
    omega
  generalize IntOp.subi (IntOp.subi (BitVec.ofNat 32 i) 112#32) (IntOp.subi (BitVec.ofNat 32 k) 112#32) = d at *
  generalize IntOp.subi (BitVec.ofNat 32 k) 112#32 = b at *
  have ea : (IntOp.absi d).toInt = |(i : ℤ) - k| := by
    unfold IntOp.absi
    rw [BitVec.msb_eq_toInt, ed]
    split_ifs with h
    · rw [BitVec.toInt_neg, ed, bm _ (by omega) (by omega)]; simp at h; rw [abs_of_neg (by omega)]
    · rw [ed]; simp at h; rw [abs_of_nonneg (by omega)]
  have c1 : IntOp.cmpi CmpIPredicate.sle (IntOp.absi d) 128#32 = BitVec.ofBool (decide (|(i : ℤ) - k| ≤ 128)) := by
    rw [← ea]; rfl
  have c2 : IntOp.cmpi CmpIPredicate.sge b 16#32 = BitVec.ofBool (decide ((16 : ℤ) ≤ k - 112)) := by rw [← ek]; rfl
  have c3 : IntOp.cmpi CmpIPredicate.sge b 0#32 = BitVec.ofBool (decide ((0 : ℤ) ≤ k - 112)) := by rw [← ek]; rfl
  have c4 : IntOp.cmpi CmpIPredicate.slt b 16#32 = BitVec.ofBool (decide ((k : ℤ) - 112 < 16)) := by rw [← ek]; rfl
  rw [c1, c2, c3, c4]
  unfold IntOp.ori IntOp.andi
  by_cases h1 : |(i : ℤ) - k| ≤ 128 <;> by_cases h2 : (16 : ℤ) ≤ k - 112 <;> by_cases h3 : (0 : ℤ) ≤ k - 112 <;>
    by_cases h4 : (k : ℤ) - 112 < 16 <;> simp only [h1, h2, h3, h4, decide_true, decide_false] <;>
    rw [abs_le] at h1 <;> (first | rw [if_pos (by unfold WinMath.ok; omega)]; rfl | rw [if_neg (by unfold WinMath.ok; omega)]; rfl)

theorem res_eq (m : (ℓ : Loc nD τ sig) → Buf (Elt Ideal) ℓ) (c : Dev nD) :
    Value.res_main_v53 m c = out (m ((c.tc : Thread nD τ).loc main_arg0)) (m ((c.tc : Thread nD τ).loc main_arg1))
      (m ((c.tc : Thread nD τ).loc main_arg2)) := by
  with_unfolding_all rfl

theorem okMask_ix (i k : Fin 4224) : okMask (ix5 0 0 0 i k) = if WinMath.ok i.val k.val then 1#1 else 0#1 := by
  have e : okMask (ix5 0 0 0 i k) = IntOp.ori
      (IntOp.andi
        (IntOp.cmpi CmpIPredicate.sle
          (IntOp.absi (IntOp.subi (IntOp.subi (BitVec.ofNat 32 i.val) 112#32) (IntOp.subi (BitVec.ofNat 32 k.val) 112#32)))
          128#32)
        (IntOp.cmpi CmpIPredicate.sge (IntOp.subi (BitVec.ofNat 32 k.val) 112#32) 16#32))
      (IntOp.andi (IntOp.cmpi CmpIPredicate.sge (IntOp.subi (BitVec.ofNat 32 k.val) 112#32) 0#32)
        (IntOp.cmpi CmpIPredicate.slt (IntOp.subi (BitVec.ofNat 32 k.val) 112#32) 16#32)) := by
    pointwise [okMask]
  rw [e]
  exact mask_word i.val k.val i.isLt k.isLt

theorem scores_ix (b : Fin 8) (g : Fin 2) (r : Fin 4) (i k : Fin 4224) :
    scores q kv (ix5 b g r i k) = ∑ x : Fin 64, kv (ix3 b k ⟨g.val * 64 + x.val, by omega⟩)
      * q (ix3 b i ⟨g.val * 256 + r.val * 64 + x.val, by omega⟩) := by
  pointwise [scores]

theorem cat_ix (b : Fin 8) (g : Fin 2) (r : Fin 4) (i : Fin 4224) (k : Fin 4225) :
    cat q kv sink (ix5 b g r i k) = (if h : k.val < 4224 then
        if WinMath.ok i.val k.val then scores q kv (ix5 b g r i ⟨k.val, h⟩) else ⊥
      else sink (ix1 ⟨g.val * 4 + r.val, by omega⟩)) := by
  pointwise [cat]
  split_ifs with h h'
  · rw [okMask_ix, if_pos h']; rfl
  · rw [okMask_ix, if_neg h']; exact WinMath.ofBits_neg_inf
  · rfl

theorem mx_ix (s : FVec Ideal S8x2x4x4224x4225 .f32) (b : Fin 8) (g : Fin 2) (r : Fin 4) (i : Fin 4224) :
    mx s (ix4 b g r i) = max ⊥ (Finset.univ.sup fun k : Fin 4225 => s (ix5 b g r i k)) := by
  unfold mx
  exact hostMax_last s _ negc _ (fun j => negc _) _ _ b g r i

theorem wts_ix (b : Fin 8) (g : Fin 2) (r : Fin 4) (i : Fin 4224) (k : Fin 4225) (s : FVec Ideal S8x2x4x4224x4225 .f32)
    (u : FVec Ideal S8x2x4x4224 .f32) :
    wts s u (ix5 b g r i k) = Ideal.exp (s (ix5 b g r i k) - u (ix4 b g r i)) := by
  pointwise [wts]

theorem probs_ix (w : FVec Ideal S8x2x4x4224x4225 .f32) (b : Fin 8) (g : Fin 2) (r : Fin 4) (i : Fin 4224) (k : Fin 4225) :
    probs w (ix5 b g r i k) = Ideal.div (w (ix5 b g r i k)) (∑ x, w (ix5 b g r i x)) := by
  pointwise [probs]

theorem comb_ix (p : FVec Ideal S8x2x4x4224x4225 .f32) (b : Fin 8) (i : Fin 4224) (l : Fin 512) :
    comb kv p (ix3 b i l) = ∑ x : Fin 4224, kv (ix3 b x ⟨128 + l.val / 256 * 64 + l.val % 64, by omega⟩) *
      p (ix5 b ⟨l.val / 256, by omega⟩ ⟨l.val / 64 % 4, by omega⟩ i ⟨x.val, by omega⟩) := by
  pointwise [comb]

/-- The reference at batch entry `b`, query row `i`, column `l`, over a row `s` of masked scores. -/
theorem out_ix (b : Fin 8) (i : Fin 4224) (l : Fin 512) (s : Fin 4224 → EReal)
    (hs : ∀ k : Fin 4224, s k = if WinMath.ok i.val k.val then
      scores q kv (ix5 b ⟨l.val / 256, by omega⟩ ⟨l.val / 64 % 4, by omega⟩ i k) else ⊥)
    (t : EReal) (ht : sink (ix1 ⟨l.val / 64, by omega⟩) = t) :
    out q kv sink (ix3 b i l) =
      ∑ k : Fin 4224, kv (ix3 b k ⟨128 + l.val / 256 * 64 + l.val % 64, by omega⟩) *
        Ideal.div (Ideal.exp (s k - max (Finset.univ.sup s) t))
        ((∑ k, Ideal.exp (s k - max (Finset.univ.sup s) t)) + Ideal.exp (t - max (Finset.univ.sup s) t)) := by
  have hc : ∀ k : Fin 4225, cat q kv sink (ix5 b ⟨l.val / 256, by omega⟩ ⟨l.val / 64 % 4, by omega⟩ i k)
      = (Fin.snoc (α := fun _ => EReal) s t : Fin 4225 → EReal) k := by
    intro k
    rw [cat_ix]
    refine Fin.lastCases ?_ (fun j => ?_) k
    · rw [dif_neg (by simp), Fin.snoc_last, ← ht]
      exact congrArg sink (congrArg ix1 (Fin.ext (by simp only; omega)))
    · rw [dif_pos (by simp), Fin.snoc_castSucc, hs]; rfl
  have hsup : mx (cat q kv sink) (ix4 b ⟨l.val / 256, by omega⟩ ⟨l.val / 64 % 4, by omega⟩ i)
      = max (Finset.univ.sup s) t := by
    rw [mx_ix, bot_sup_eq' , funext hc]
    apply le_antisymm
    · refine Finset.sup_le fun k _ => ?_
      refine Fin.lastCases ?_ (fun j => ?_) k
      · rw [Fin.snoc_last]; exact le_max_right _ _
      · rw [Fin.snoc_castSucc]; exact le_max_of_le_left (Finset.le_sup (Finset.mem_univ j))
    · refine max_le (Finset.sup_le fun j _ => ?_) ?_
      · have := Finset.le_sup (f := (Fin.snoc (α := fun _ => EReal) s t : Fin 4225 → EReal)) (Finset.mem_univ j.castSucc)
        rwa [Fin.snoc_castSucc] at this
      · have := Finset.le_sup (f := (Fin.snoc (α := fun _ => EReal) s t : Fin 4225 → EReal)) (Finset.mem_univ (Fin.last 4224))
        rwa [Fin.snoc_last] at this
  unfold out
  rw [comb_ix]
  refine Finset.sum_congr rfl fun k _ => ?_
  rw [probs_ix]
  simp only [wts_ix, hsup, hc]
  rw [Fin.sum_univ_castSucc]
  simp only [Fin.snoc_castSucc, Fin.snoc_last]
  have := Fin.snoc_castSucc (α := fun _ => EReal) (p := s) (x := t) k
  rw [show (⟨k.val, by omega⟩ : Fin 4225) = k.castSucc from rfl, this]

end Cert.WinReferenceIdeal.Row

end
-- ==== Proof.WinOut.lean ====
module

public import proofs.«01_k».proof.Proof.WinValue
public import proofs.«01_k».proof.Proof.WinHead
public import proofs.«01_k».proof.Proof.WinRef

@[expose] public section

set_option maxRecDepth 16384

noncomputable section

namespace Cert.WinKernelIdeal.Value2

open Cert.WinKernelIdeal Cert.WinKernelIdeal.Gen Cert.WinKernelIdeal.Head Cert.WinKernelIdeal.Block Idealize.ShloMosaic Idealize.ShloMosaic.TcCoe Idealize.SL.Sem
open Idealize.ShloMosaic.Pipeline (Dat)
open Facts

variable (m : (ℓ : Loc nD τ sig) → Buf (Elt Ideal) ℓ)

/-- The queries, the keys and values, and the sink logits a launch starts from. -/
abbrev qA (c : Dev nD) : S8x4224x512.Idx → EReal := m ((c : Thread nD τ).loc main_arg0)
abbrev kvA (c : Dev nD) : S8x4224x256.Idx → EReal := m ((c : Thread nD τ).loc main_arg1)
abbrev sinkA (c : Dev nD) : S8.Idx → EReal := m ((c : Thread nD τ).loc main_arg2)

/-- The reference's attention of what a launch starts from. -/
abbrev goal [Cert.WinReferenceIdeal.Facts] (c : Dev nD) : S8x4224x512.Idx → EReal :=
  Cert.WinReferenceIdeal.Row.out (qA m c) (kvA m c) (sinkA m c)

variable [Cert.WinReferenceIdeal.Facts]

/-- One head of one block is the reference's attention at that head, row by row. -/
theorem head_at (c : Dev nD) (t : Fin cfg0.N) (hq : ∀ i, ∃ y : ℝ, qA m c i = y)
    (hk : ∀ (b : Fin 8) (k : Fin 4224) (l : Fin 256), l.val < 128 → ∃ y : ℝ, kvA m c (ix3 b k l) = y)
    (hsk : ∀ j, ∃ y : ℝ, sinkA m c j = y)
    (r : Fin 128) (l : Fin 512) (d : Fin 64) (ko vo qo : ℕ) (h1 h2 h3 h4 h5)
    (sk : EReal) (hsv : sk = sinkA m c (ix1 ⟨l.val / 64, by omega⟩))
    (hl : l.val = qo + d.val) (hqo : qo = 64 * (l.val / 64)) (hko : ko = 64 * (l.val / 256)) (hvo : vo = 128 + 64 * (l.val / 256))
    (b : Fin 8) (i : Fin 4224) (hb : b.val = t.val / 33) (hi : i.val = t.val % 33 * 128 + r.val) :
    headOut (k0_pay3 (grid0.coords t)) (Scalar.cmpi .sge (BitVec.ofNat 32 (grid0.coords t 1).val) 1#32) (k0_pay4 (grid0.coords t))
        (kvCols (iblk m c 1 t) ko h1) (kvCols (iblk m c 2 t) ko h1) (kvCols (iblk m c 3 t) ko h1) (kvMeta (iblk m c 4 t) ko h2)
        (kvCols (iblk m c 1 t) vo h3) (kvCols (iblk m c 2 t) vo h3) (kvCols (iblk m c 3 t) vo h3) (kvMeta (iblk m c 4 t) vo h4)
        (qCols (iblk m c 0 t) qo h5) sk (ix2 r d)
      = goal m c (ix3 b i l) := by
  have ht : t.val < 264 := N_eq ▸ t.isLt
  obtain ⟨s0, hs0⟩ := hsk (ix1 ⟨l.val / 64, by omega⟩)
  rw [goal, Cert.WinReferenceIdeal.Row.out_ix (qA m c) (kvA m c) (sinkA m c) b i l _ (fun k => rfl) _ hs0]
  rw [headOut_ix ⟨t.val % 33, by omega⟩ _ _ _ _ _ _ _ _ _ _ _ _ sk r d (fun x => mask_prev t r x) (mask_cur t) (fun x => mask_next t r x)
    (fun k e => kvA m c (ix3 b k ⟨l.val / 256 * 64 + e.val, by omega⟩))
    (fun k e => kvA m c (ix3 b k ⟨128 + l.val / 256 * 64 + e.val, by omega⟩))
    (fun e => qA m c (ix3 b i ⟨l.val / 256 * 256 + l.val / 64 % 4 * 64 + e.val, by omega⟩)) s0 ?q (hsv.trans hs0)
    ?ka ?kb ?kc ?kd ?ke ?kf ?kg ?kh (fun k e => hk _ _ _ (by simp only; omega)) (fun e => hq _) _ (fun k => rfl)]
  case q =>
    exact fun e => (qCols_ix _ _ _ _ _ ⟨l.val / 256 * 256 + l.val / 64 % 4 * 64 + e.val, by omega⟩ (by simp only; omega)).trans
      (iblk0 m c t r _ (ix3 b i ⟨l.val / 256 * 256 + l.val / 64 % 4 * 64 + e.val, by omega⟩) hb hi rfl)
  case ka =>
    exact fun x e => (kvCols_ix _ _ _ _ _ ⟨l.val / 256 * 64 + e.val, by omega⟩ (by simp only; omega)).trans
      (iblk1 m c t x _ (ix3 b (WinMath.kp _ x) ⟨l.val / 256 * 64 + e.val, by omega⟩) hb rfl rfl)
  case kb =>
    exact fun x e => (kvCols_ix _ _ _ _ _ ⟨l.val / 256 * 64 + e.val, by omega⟩ (by simp only; omega)).trans
      (iblk2 m c t x _ (ix3 b (WinMath.kc _ x) ⟨l.val / 256 * 64 + e.val, by omega⟩) hb rfl rfl)
  case kc =>
    exact fun x e => (kvCols_ix _ _ _ _ _ ⟨l.val / 256 * 64 + e.val, by omega⟩ (by simp only; omega)).trans
      (iblk3 m c t x _ (ix3 b (WinMath.kn _ x) ⟨l.val / 256 * 64 + e.val, by omega⟩) hb rfl rfl)
  case kd =>
    exact fun x e => (kvMeta_ix _ _ _ _ _ ⟨l.val / 256 * 64 + e.val, by omega⟩ (by simp only; omega)).trans
      (iblk4 m c t _ _ (ix3 b (WinMath.km x) ⟨l.val / 256 * 64 + e.val, by omega⟩) hb (by simp [WinMath.km]) rfl)
  case ke =>
    exact fun x e => (kvCols_ix _ _ _ _ _ ⟨128 + l.val / 256 * 64 + e.val, by omega⟩ (by simp only; omega)).trans
      (iblk1 m c t x _ (ix3 b (WinMath.kp _ x) ⟨128 + l.val / 256 * 64 + e.val, by omega⟩) hb rfl rfl)
  case kf =>
    exact fun x e => (kvCols_ix _ _ _ _ _ ⟨128 + l.val / 256 * 64 + e.val, by omega⟩ (by simp only; omega)).trans
      (iblk2 m c t x _ (ix3 b (WinMath.kc _ x) ⟨128 + l.val / 256 * 64 + e.val, by omega⟩) hb rfl rfl)
  case kg =>
    exact fun x e => (kvCols_ix _ _ _ _ _ ⟨128 + l.val / 256 * 64 + e.val, by omega⟩ (by simp only; omega)).trans
      (iblk3 m c t x _ (ix3 b (WinMath.kn _ x) ⟨128 + l.val / 256 * 64 + e.val, by omega⟩) hb rfl rfl)
  case kh =>
    exact fun x e => (kvMeta_ix _ _ _ _ _ ⟨128 + l.val / 256 * 64 + e.val, by omega⟩ (by simp only; omega)).trans
      (iblk4 m c t _ _ (ix3 b (WinMath.km x) ⟨128 + l.val / 256 * 64 + e.val, by omega⟩) hb (by simp [WinMath.km]) rfl)
  have hd : l.val % 64 = d.val := by omega
  have e1 : ∀ k : Fin 4224, (if WinMath.ok i.val k.val then
        Cert.WinReferenceIdeal.Row.scores (qA m c) (kvA m c) (ix5 b ⟨l.val / 256, by omega⟩ ⟨l.val / 64 % 4, by omega⟩ i k) else ⊥)
      = if WinMath.ok (t.val % 33 * 128 + r.val) k.val then
        ∑ e : Fin 64, kvA m c (ix3 b k ⟨l.val / 256 * 64 + e.val, by omega⟩) * qA m c (ix3 b i ⟨l.val / 256 * 256 + l.val / 64 % 4 * 64 + e.val, by omega⟩) else ⊥ := by
    intro k
    rw [Cert.WinReferenceIdeal.Row.scores_ix, hi]
  simp only [e1]
  refine Finset.sum_congr rfl fun k _ => ?_
  have e2 : (⟨128 + l.val / 256 * 64 + d.val, by omega⟩ : Fin 256) = ⟨128 + l.val / 256 * 64 + l.val % 64, by omega⟩ := Fin.ext (by simp only; omega)
  rw [e2]

/-- The sink logit the kernel reads for a head. -/
theorem sink_at (c : Dev nD) (t : Fin cfg0.N) (o : ℕ) (h : ∀ a, (![o] : Fin 1 → Nat) a + S1.size a ≤ S8.size a) (j : Fin 8) (hj : o = j.val) :
    View.ld (iblk m c 5 t) (Rect.unit (s := S8) ![o] S1.size h) (Shape.Idx.first (s := S1) (by decide)) = sinkA m c (ix1 j) := by
  refine Eq.trans ?_ (iblk5 m c t j)
  refine congrArg (iblk m c 5 t) (funext fun a => Fin.ext ?_)
  match a with
  | ⟨0, _⟩ => subst hj; rfl

/-- The block written at a point is the reference's attention there. -/
theorem out_at (c : Dev nD) (t : Fin cfg0.N) (hq : ∀ i, ∃ y : ℝ, qA m c i = y)
    (hk : ∀ (b : Fin 8) (k : Fin 4224) (l : Fin 256), l.val < 128 → ∃ y : ℝ, kvA m c (ix3 b k l) = y)
    (hsk : ∀ j, ∃ y : ℝ, sinkA m c j = y) (r : Fin 128) (l : Fin 512)
    (b : Fin 8) (i : Fin 4224) (hb : b.val = t.val / 33) (hi : i.val = t.val % 33 * 128 + r.val) :
    outsAt0 m c t (ix3 0 r l) = goal m c (ix3 b i l) := by
  rw [out_eq, cat8_ix]
  have hl := l.isLt
  repeat' split
  all_goals
    refine head_at m c t hq hk hsk r l _ _ _ _ _ _ _ _ _ _ (sink_at m c t _ _ _ ?_) ?_ ?_ ?_ ?_ b i hb hi
  all_goals ((try simp only); omega)

/-- The array the call writes, when every point has been run, is the reference's attention of the arguments. -/
theorem final (c : Dev nD) (hq : ∀ i, ∃ y : ℝ, qA m c i = y)
    (hk : ∀ (b : Fin 8) (k : Fin 4224) (l : Fin 256), l.val < 128 → ∃ y : ℝ, kvA m c (ix3 b k l) = y)
    (hsk : ∀ j, ∃ y : ℝ, sinkA m c j = y) :
    (dats m 0 c).arrAt 6 cfg0.N = goal m c := by
  refine (dats m 0 c).arrAt_eq_of_covers 6 _ ((cfg0.win 6).covers_of_indexMap_surj rfl (by decide) fun β => ?_) fun t hf y => ?_
  · have b0 : (β ⟨0, by decide⟩).val < 8 := lt_of_lt_of_eq (β ⟨0, by decide⟩).isLt (by decide : (cfg0.win 6).nblk ⟨0, by decide⟩ = 8)
    have b1 : (β ⟨1, by decide⟩).val < 33 := lt_of_lt_of_eq (β ⟨1, by decide⟩).isLt (by decide : (cfg0.win 6).nblk ⟨1, by decide⟩ = 33)
    have b2 : (β ⟨2, by decide⟩).val < 1 := lt_of_lt_of_eq (β ⟨2, by decide⟩).isLt (by decide : (cfg0.win 6).nblk ⟨2, by decide⟩ = 1)
    have hn : (β ⟨0, by decide⟩).val * 33 + (β ⟨1, by decide⟩).val < cfg0.N := by rw [N_eq]; omega
    obtain ⟨f0, f1, f2⟩ := (index_facts ⟨_, hn⟩).2.2.2.2.2.2
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_6]
    have ht : t.val < 264 := N_eq ▸ t.isLt
    obtain ⟨f0, f1, f2⟩ := (index_facts t).2.2.2.2.2.2
    idx_vars y
    obtain rfl : y0 = 0 := Subsingleton.elim _ _
    have e : ((View.whole main_v0).slice (win0_6.rect t)).emb (ix3 0 y1 y2)
        = ix3 (⟨t.val / 33, by omega⟩ : Fin 8) (⟨t.val % 33 * 128 + y1.val, by omega⟩ : Fin 4224) y2 := by
      refine funext fun a => Fin.ext ?_
      refine (Pipeline.Window.rect_emb_val (cfg0.win 6) t (ix3 0 y1 y2) a).trans ?_
      match a with
      | ⟨0, _⟩ => show (cfg0.win 6).index t 0 * 1 + 0 = t.val / 33; rw [show (cfg0.win 6).index t 0 = _ from f0]; omega
      | ⟨1, _⟩ => show (cfg0.win 6).index t 1 * 128 + y1.val = t.val % 33 * 128 + y1.val; rw [show (cfg0.win 6).index t 1 = _ from f1]
      | ⟨2, _⟩ => show (cfg0.win 6).index t 2 * 512 + y2.val = y2.val; rw [show (cfg0.win 6).index t 2 = _ from f2]; omega
    rw [e]
    exact out_at m c t hq hk hsk y1 y2 _ _ rfl rfl

end Cert.WinKernelIdeal.Value2
end
-- ==== Proof.WinClaim.lean ====
module

public import proofs.«01_k».proof.Proof.WinOut
public import proofs.«01_k».proof.Proof.Gen.WinKernel.Frame
public import proofs.«01_k».proof.Defs
public import Idealize.ShloMosaic.Lib.ReduceAll
public import Idealize.ShloMosaic.Lib.Affine

@[expose] public section

set_option maxRecDepth 16384

noncomputable section

namespace Cert.Proof.WinClaims

open Idealize.ShloMosaic Idealize.ShloMosaic.TcCoe Idealize.SL.Sem

section Decode

open Cert.Pre_win_finite Cert.Pre_win_finite.Facts

/-- A number whose size is below positive infinity is a real number. -/
theorem real_of_lt (x : EReal)
    (h : Ideal.cmp .olt (max x (-x)) (Ideal.ofBits .f32 0x7F800000#32) = 1#1) : ∃ y : ℝ, x = y := by
  have ht : (Ideal.ofBits .f32 0x7F800000#32 : EReal) = ⊤ := by simp [Ideal.ofBits, Ideal.ieee]
  rw [ht] at h
  unfold Ideal.cmp at h
  induction x using EReal.rec with
  | bot => simp at h
  | top => simp at h
  | coe r => exact ⟨r, rfl⟩

variable [Cert.Pre_win_finite.Facts]

/-- The precondition says that the queries, the keys and the sink logits are real numbers. -/
theorem decode (q : FVec Ideal S8x4224x512 .bf16) (kv : FVec Ideal S8x4224x256 .bf16) (sink : FVec Ideal S8 .f32) (j)
    (h : Cert.Pre_win_finite.fn (F := Ideal) q kv sink j = 1#1) :
    (∀ i, ∃ y : ℝ, q i = y) ∧ (∀ (b : Fin 8) (k : Fin 4224) (l : Fin 256), l.val < 128 → ∃ y : ℝ, kv (ix3 b k l) = y)
      ∧ ∀ i, ∃ y : ℝ, sink i = y := by
  haveI : Subsingleton S_.Idx := ⟨fun a b => funext fun i => i.elim0⟩
  dsimp only [Cert.Pre_win_finite.fn] at h
  obtain ⟨h, h3⟩ := IntOp.andi_eq_one.1 h
  obtain ⟨h1, h2⟩ := IntOp.andi_eq_one.1 h
  refine ⟨fun i => real_of_lt _ ?_, fun b k l hl => real_of_lt _ ?_, fun i => real_of_lt _ ?_⟩
  · exact Host.reduce_andi_all _ _ _ _ _ h1 i
  · have := Host.reduce_andi_all _ _ _ _ _ h2 (ix3 b k ⟨l.val, hl⟩)
    have e : extractStridedSlice S8x4224x128 ![0, 0, 0] kv slices_S8x4224x256_S8x4224x128_0_0_0 (ix3 b k ⟨l.val, hl⟩) = kv (ix3 b k l) := by
      pointwise
    rw [← e]
    exact this
  · exact Host.reduce_andi_all _ _ _ _ _ h3 i

end Decode

/-- The kernel's frame over bit values. -/
theorem frame_bits [Cert.WinKernel.Facts] : Cert.quiescent_WinKernel := fun m ρ _ => Cert.WinKernel.Gen.frame m ρ

/-- The kernel's frame over the extended reals. -/
theorem frame_ideal [Cert.WinKernelIdeal.Facts] : Cert.quiescent_WinKernelIdeal := fun m ρ _ => Cert.WinKernelIdeal.Gen.frame m ρ

variable [Cert.Pre_win_finite.Facts] [Cert.WinKernelIdeal.Facts] [Cert.WinReferenceIdeal.Facts]

/-- The kernel's frame where the precondition holds. -/
theorem frame_pre : Cert.quiescent_WinKernelIdeal_pre_win_finite := fun m ρ _ => Cert.WinKernelIdeal.Gen.frame m ρ

/-- The reference ends, and leaves its arguments and every semaphore as it should. -/
theorem frame_ref : Cert.quiescent_WinReferenceIdeal := fun m ρ _ =>
  (θ_run Cert.WinReferenceIdeal.defs _ _).mono (fun r h => ⟨fun c => (h c).2,
      Idealize.ShloMosaic.sem_eq_zero_of_no_sems (by decide) r.2⟩)
    (Cert.WinReferenceIdeal.Value.run (F := Ideal) m ρ)

/-- The same where the precondition holds. -/
theorem frame_ref_pre : Cert.quiescent_WinReferenceIdeal_pre_win_finite := fun m ρ _ => frame_ref m ρ trivial

/-- Over the extended reals the windowed attention kernel and the plain windowed attention end with equal arrays,
    wherever the queries, the keys and the sink logits are real numbers. -/
theorem algebraic : Cert.algebraic_WinKernelIdeal_WinReferenceIdeal_pre_win_finite := by
  intro m ρ m' ρ' hpre hagree
  refine ⟨fun c => Cert.WinKernelIdeal.Value2.goal m c, ?_, ?_⟩
  · refine (θ_run Cert.WinKernelIdeal.defs _ _).mono (fun _ h c => ?_) (Cert.WinKernelIdeal.Value.run_blocks (F := Ideal) m ρ)
    obtain ⟨hq, hk, hs⟩ := decode _ _ _ _ (congrFun (hpre c) (fun a => a.elim0))
    exact ⟨(h c).1.trans (Cert.WinKernelIdeal.Value2.final m c hq hk hs), (h c).2⟩
  · refine (θ_run Cert.WinReferenceIdeal.defs _ _).mono (fun _ h c => ?_) (Cert.WinReferenceIdeal.Value.run (F := Ideal) m' ρ')
    refine ⟨(h c).1.trans ?_, (h c).2⟩
    rw [Cert.WinReferenceIdeal.Row.res_eq]
    obtain ⟨a0, a1, a2⟩ := hagree c
    rw [a0, a1, a2]

end Cert.Proof.WinClaims

end
-- ==== Proof.Rows.lean ====
module

public import Idealize.ShloMosaic.Lib.Pointwise
public import Idealize.ShloMosaic.Lib.Pipeline.ValueKit
public import Idealize.ShloMosaic.Lib.Tactic
public import proofs.«01_k».proof.Proof.WinMath

@[expose] public section

noncomputable section

namespace Cert.Rows

open Idealize.ShloMosaic

/-- The factor a row of 1024 numbers is normalised by: one over the root of its mean square plus the small constant. -/
def rs (f : Fin 1024 → EReal) : EReal :=
  Ideal.rsqrt (Ideal.div (∑ x, f x * f x) (Ideal.ofBits .f32 1149239296#32) + Ideal.ofBits .f32 897988541#32)

/-- The zero pattern is zero. -/
theorem ofBits_zero : (Ideal.ofBits .f32 0#32 : EReal) = 0 := by simp [Ideal.ofBits, Ideal.ieee]

/-- A select over a decided bit. -/
theorem select_if (p : Prop) [Decidable p] (a b : EReal) :
    Scalar.select (if p then 1#1 else 0#1) a b = if p then a else b := by
  by_cases h : p <;> simp [h, Scalar.select]

/-- A sum over 2048 terms in three runs, of 1024, 512 and 512 terms. -/
theorem sum_three (f : Fin 2048 → EReal) :
    ∑ x, f x = (∑ x : Fin 1024, f ⟨x.val, by omega⟩ + ∑ x : Fin 512, f ⟨1024 + x.val, by omega⟩)
      + ∑ x : Fin 512, f ⟨1536 + x.val, by omega⟩ := by
  rw [Fin.sum_univ_add (a := 1536) (b := 512) f, Fin.sum_univ_add (a := 1024) (b := 512)]
  rfl

end Cert.Rows
end
-- ==== Proof.OutRef.lean ====
module

public import proofs.«01_k».proof.Proof.Gen.OutReferenceIdeal.Run
public import proofs.«01_k».proof.Proof.Rows
public import Idealize.ShloMosaic.Lib.Pointwise
public import Idealize.ShloMosaic.Lib.Tactic

@[expose] public section

set_option maxRecDepth 16384

noncomputable section

namespace Cert.OutReferenceIdeal.Row

open Cert.OutReferenceIdeal Idealize.ShloMosaic Idealize.ShloMosaic.TcCoe Idealize.SL.Sem
open Cert.OutReferenceIdeal.Facts Cert.OutReferenceIdeal.Gen

/-- The three mixers' outputs side by side, times the output weights. -/
def mix (ys : FVec Ideal S8x4224x1024 .bf16) (yw yn : FVec Ideal S8x4224x512 .bf16) (w : FVec Ideal S2048x1024 .f32) :
    FVec Ideal S8x4224x1024 .f32 :=
  Host.dotGeneral dot_S8x4224x2048_S2048x1024_S8x4224x1024_2_0_01_1_n_n none (extf .f32 ((concatenate S8x4224x2048 2 [⟨S8x4224x1024, ys⟩, ⟨S8x4224x512, yw⟩, ⟨S8x4224x512, yn⟩] concatenates_S8x4224x1024_S8x4224x512_S8x4224x512_S8x4224x2048_d2 : FVec Ideal S8x4224x2048 .bf16)) bitsLt_bf16_f32) w

/-- The residual of the normalised rows of `x`, with the padding rows at zero. -/
def fin (h x : FVec Ideal S8x4224x1024 .f32) (nw : FVec Ideal S1024 .f32) : FVec Ideal S8x4224x1024 .f32 :=
  select (broadcastInDim S8x4224x1024 ![0, 1, 2] bcast_S1x4224x1_S8x4224x1024_0_1_2 (broadcastInDim S1x4224x1 ![1] bcast_S4224_S1x4224x1_1 (cmpi .sge (iotaInDim S4224 32 0) (broadcastInDim S4224 ![] bcast_S_S4224 (constantI S_ 32 112#32))))) (addf h (mulf (mulf x (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf x x) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x358637BD#32)))))) (broadcastInDim S8x4224x1024 ![0, 1, 2] bcast_S1x1x1024_S8x4224x1024_0_1_2 (broadcastInDim S1x1x1024 ![2] bcast_S1024_S1x1x1024_2 nw)))) (broadcastInDim S8x4224x1024 ![] bcast_S_S8x4224x1024 (id (constant S_ .f32 0x00000000#32)))

/-- The product, by element: a sum over the three mixers' outputs. -/
theorem mix_ix (ys : FVec Ideal S8x4224x1024 .bf16) (yw yn : FVec Ideal S8x4224x512 .bf16) (w : FVec Ideal S2048x1024 .f32)
    (b : Fin 8) (i : Fin 4224) (l : Fin 1024) :
    mix ys yw yn w (ix3 b i l) = ∑ x : Fin 1024, ys (ix3 b i x) * w (ix2 ⟨x.val, by omega⟩ l)
      + ∑ x : Fin 512, yw (ix3 b i x) * w (ix2 ⟨1024 + x.val, by omega⟩ l)
      + ∑ x : Fin 512, yn (ix3 b i x) * w (ix2 ⟨1536 + x.val, by omega⟩ l) := by
  have e : mix ys yw yn w (ix3 b i l) = ∑ x : Fin 2048,
      (if h : x.val < 1024 then ys (ix3 b i ⟨x.val, h⟩)
        else if h : x.val - 1024 < 512 then yw (ix3 b i ⟨x.val - 1024, h⟩) else yn (ix3 b i ⟨x.val - 1024 - 512, by omega⟩)) *
        w (ix2 x l) := by
    pointwise [mix]
  rw [e, Rows.sum_three]
  refine congrArg₂ (· + ·) (congrArg₂ (· + ·) (Finset.sum_congr rfl fun x _ => ?_) (Finset.sum_congr rfl fun x _ => ?_)) (Finset.sum_congr rfl fun x _ => ?_)
  · rw [dif_pos x.isLt]
  · rw [dif_neg (by simp only; omega), dif_pos (by simp only; omega)]
    exact congrArg (· * _) (congrArg yw (congrArg (ix3 b i) (Fin.ext (by simp only; omega))))
  · rw [dif_neg (by simp only; omega), dif_neg (by simp only; omega)]
    exact congrArg (· * _) (congrArg yn (congrArg (ix3 b i) (Fin.ext (by simp only; omega))))

/-- The residual, by element. -/
theorem fin_ix (h x : FVec Ideal S8x4224x1024 .f32) (nw : FVec Ideal S1024 .f32)
    (b : Fin 8) (i : Fin 4224) (l : Fin 1024) :
    fin h x nw (ix3 b i l) = if 112 ≤ i.val then
      h (ix3 b i l) + x (ix3 b i l) * Rows.rs (fun y => x (ix3 b i y)) * nw (ix1 l) else 0 := by
  have e : fin h x nw (ix3 b i l) = Scalar.select (IntOp.cmpi CmpIPredicate.sge (BitVec.ofNat 32 i.val) 112#32)
      (h (ix3 b i l) + x (ix3 b i l) * Rows.rs (fun y => x (ix3 b i y)) * nw (ix1 l))
      (id (constant (F := Ideal) S_ FTy.f32 0#32) ix0) := by
    unfold Rows.rs
    pointwise [fin]
  rw [e, WinMath.sge_nat _ 112 (by omega) (by omega), Rows.select_if]
  refine if_congr Iff.rfl rfl ?_
  exact Rows.ofBits_zero

end Cert.OutReferenceIdeal.Row
end
-- ==== Proof.OutValue.lean ====
module

public import proofs.«01_k».proof.Proof.Gen.OutKernelIdeal.Value
public import proofs.«01_k».proof.Proof.Rows
public import Idealize.ShloMosaic.Lib.Pipeline.Covers
public import proofs.«01_k».proof.Proof.OutRef

@[expose] public section

set_option maxRecDepth 16384

noncomputable section

namespace Cert.OutKernelIdeal.Value2

open Cert.OutKernelIdeal Cert.OutKernelIdeal.Gen Idealize.ShloMosaic Idealize.ShloMosaic.TcCoe Idealize.SL.Sem
open Idealize.ShloMosaic.Pipeline (Dat)
open Facts

variable (m : (ℓ : Loc nD τ sig) → Buf (Elt Ideal) ℓ)

/-- Which block of its array each window reads or writes at a point. -/
theorem index_facts : ∀ t : Fin cfg0.N,
    ((cfg0.win 0).index t 0 = t.val / 11 ∧ (cfg0.win 0).index t 1 = t.val % 11 ∧ (cfg0.win 0).index t 2 = 0)
    ∧ ((cfg0.win 1).index t 0 = t.val / 11 ∧ (cfg0.win 1).index t 1 = t.val % 11 ∧ (cfg0.win 1).index t 2 = 0)
    ∧ ((cfg0.win 2).index t 0 = t.val / 11 ∧ (cfg0.win 2).index t 1 = t.val % 11 ∧ (cfg0.win 2).index t 2 = 0)
    ∧ ((cfg0.win 3).index t 0 = t.val / 11 ∧ (cfg0.win 3).index t 1 = t.val % 11 ∧ (cfg0.win 3).index t 2 = 0)
    ∧ ((cfg0.win 4).index t 0 = 0 ∧ (cfg0.win 4).index t 1 = 0)
    ∧ ((cfg0.win 5).index t 0 = 0 ∧ (cfg0.win 5).index t 1 = 0)
    ∧ ((cfg0.win 6).index t 0 = 0 ∧ (cfg0.win 6).index t 1 = 0)
    ∧ ((cfg0.win 7).index t 0 = 0 ∧ (cfg0.win 7).index t 1 = 0)
    ∧ ((cfg0.win 8).index t 0 = t.val / 11 ∧ (cfg0.win 8).index t 1 = t.val % 11 ∧ (cfg0.win 8).index t 2 = 0) := by
  decide +kernel

/-- The second grid coordinate of a point: the row block. -/
theorem coords_facts : ∀ t : Fin cfg0.N, (grid0.coords t 1).val = t.val % 11 := by
  decide +kernel

/-- The number of grid points. -/
theorem N_eq : cfg0.N = 88 := by decide

/-- The block of the residual at a point, by element. -/
theorem iblk0 (c : Dev nD) (t : Fin cfg0.N) (y : Fin 384) (z : Fin 1024) (i : S8x4224x1024.Idx)
    (h0 : (i 0).val = t.val / 11) (h1 : (i 1).val = (t.val % 11) * 384 + y.val) (h2 : (i 2).val = z.val) :
    iblk m c 0 t (ix3 0 y z) = V m c main_arg0 i := by
  obtain ⟨f0, f1, f2⟩ := (index_facts t).1
  blk_simp [iblk]
  show V m c main_arg0 _ = _
  refine congrArg (V m c main_arg0) (funext fun a => Fin.ext ?_)
  refine (Pipeline.Window.rect_emb_val (cfg0.win 0) t (ix3 0 y z) a).trans ?_
  match a with
  | ⟨0, _⟩ => show (cfg0.win 0).index t 0 * 1 + 0 = (i 0).val; rw [f0, h0]; try omega
  | ⟨1, _⟩ => show (cfg0.win 0).index t 1 * 384 + y.val = (i 1).val; rw [f1, h1]; try omega
  | ⟨2, _⟩ => show (cfg0.win 0).index t 2 * 1024 + z.val = (i 2).val; rw [f2, h2]; try omega

/-- The block of the first mixer's output at a point, by element. -/
theorem iblk1 (c : Dev nD) (t : Fin cfg0.N) (y : Fin 384) (z : Fin 1024) (i : S8x4224x1024.Idx)
    (h0 : (i 0).val = t.val / 11) (h1 : (i 1).val = (t.val % 11) * 384 + y.val) (h2 : (i 2).val = z.val) :
    iblk m c 1 t (ix3 0 y z) = V m c main_arg1 i := by
  obtain ⟨f0, f1, f2⟩ := (index_facts t).2.1
  blk_simp [iblk]
  show V m c main_arg1 _ = _
  refine congrArg (V m c main_arg1) (funext fun a => Fin.ext ?_)
  refine (Pipeline.Window.rect_emb_val (cfg0.win 1) t (ix3 0 y z) a).trans ?_
  match a with
  | ⟨0, _⟩ => show (cfg0.win 1).index t 0 * 1 + 0 = (i 0).val; rw [f0, h0]; try omega
  | ⟨1, _⟩ => show (cfg0.win 1).index t 1 * 384 + y.val = (i 1).val; rw [f1, h1]; try omega
  | ⟨2, _⟩ => show (cfg0.win 1).index t 2 * 1024 + z.val = (i 2).val; rw [f2, h2]; try omega

/-- The block of the second mixer's output at a point, by element. -/
theorem iblk2 (c : Dev nD) (t : Fin cfg0.N) (y : Fin 384) (z : Fin 512) (i : S8x4224x512.Idx)
    (h0 : (i 0).val = t.val / 11) (h1 : (i 1).val = (t.val % 11) * 384 + y.val) (h2 : (i 2).val = z.val) :
    iblk m c 2 t (ix3 0 y z) = V m c main_arg2 i := by
  obtain ⟨f0, f1, f2⟩ := (index_facts t).2.2.1
  blk_simp [iblk]
  show V m c main_arg2 _ = _
  refine congrArg (V m c main_arg2) (funext fun a => Fin.ext ?_)
  refine (Pipeline.Window.rect_emb_val (cfg0.win 2) t (ix3 0 y z) a).trans ?_
  match a with
  | ⟨0, _⟩ => show (cfg0.win 2).index t 0 * 1 + 0 = (i 0).val; rw [f0, h0]; try omega
  | ⟨1, _⟩ => show (cfg0.win 2).index t 1 * 384 + y.val = (i 1).val; rw [f1, h1]; try omega
  | ⟨2, _⟩ => show (cfg0.win 2).index t 2 * 512 + z.val = (i 2).val; rw [f2, h2]; try omega

/-- The block of the third mixer's output at a point, by element. -/
theorem iblk3 (c : Dev nD) (t : Fin cfg0.N) (y : Fin 384) (z : Fin 512) (i : S8x4224x512.Idx)
    (h0 : (i 0).val = t.val / 11) (h1 : (i 1).val = (t.val % 11) * 384 + y.val) (h2 : (i 2).val = z.val) :
    iblk m c 3 t (ix3 0 y z) = V m c main_arg3 i := by
  obtain ⟨f0, f1, f2⟩ := (index_facts t).2.2.2.1
  blk_simp [iblk]
  show V m c main_arg3 _ = _
  refine congrArg (V m c main_arg3) (funext fun a => Fin.ext ?_)
  refine (Pipeline.Window.rect_emb_val (cfg0.win 3) t (ix3 0 y z) a).trans ?_
  match a with
  | ⟨0, _⟩ => show (cfg0.win 3).index t 0 * 1 + 0 = (i 0).val; rw [f0, h0]; try omega
  | ⟨1, _⟩ => show (cfg0.win 3).index t 1 * 384 + y.val = (i 1).val; rw [f1, h1]; try omega
  | ⟨2, _⟩ => show (cfg0.win 3).index t 2 * 512 + z.val = (i 2).val; rw [f2, h2]; try omega

/-- The block of a window that is its whole array. -/
theorem iblk4 (c : Dev nD) (t : Fin cfg0.N) (x : Fin 1024) (y : Fin 1024) (i : S1024x1024.Idx)
    (h0 : (i 0).val = x.val) (h1 : (i 1).val = y.val) :
    iblk m c 4 t (ix2 x y) = V m c main_v1 i := by
  obtain ⟨f0, f1⟩ := (index_facts t).2.2.2.2.1
  blk_simp [iblk]
  show V m c main_v1 _ = _
  refine congrArg (V m c main_v1) (funext fun a => Fin.ext ?_)
  refine (Pipeline.Window.rect_emb_val (cfg0.win 4) t (ix2 x y) a).trans ?_
  match a with
  | ⟨0, _⟩ => show (cfg0.win 4).index t 0 * 1024 + x.val = (i 0).val; rw [f0, h0]; try omega
  | ⟨1, _⟩ => show (cfg0.win 4).index t 1 * 1024 + y.val = (i 1).val; rw [f1, h1]; try omega

/-- The block of a window that is its whole array. -/
theorem iblk5 (c : Dev nD) (t : Fin cfg0.N) (x : Fin 512) (y : Fin 1024) (i : S512x1024.Idx)
    (h0 : (i 0).val = x.val) (h1 : (i 1).val = y.val) :
    iblk m c 5 t (ix2 x y) = V m c main_v2 i := by
  obtain ⟨f0, f1⟩ := (index_facts t).2.2.2.2.2.1
  blk_simp [iblk]
  show V m c main_v2 _ = _
  refine congrArg (V m c main_v2) (funext fun a => Fin.ext ?_)
  refine (Pipeline.Window.rect_emb_val (cfg0.win 5) t (ix2 x y) a).trans ?_
  match a with
  | ⟨0, _⟩ => show (cfg0.win 5).index t 0 * 512 + x.val = (i 0).val; rw [f0, h0]; try omega
  | ⟨1, _⟩ => show (cfg0.win 5).index t 1 * 1024 + y.val = (i 1).val; rw [f1, h1]; try omega

/-- The block of a window that is its whole array. -/
theorem iblk6 (c : Dev nD) (t : Fin cfg0.N) (x : Fin 512) (y : Fin 1024) (i : S512x1024.Idx)
    (h0 : (i 0).val = x.val) (h1 : (i 1).val = y.val) :
    iblk m c 6 t (ix2 x y) = V m c main_v3 i := by
  obtain ⟨f0, f1⟩ := (index_facts t).2.2.2.2.2.2.1
  blk_simp [iblk]
  show V m c main_v3 _ = _
  refine congrArg (V m c main_v3) (funext fun a => Fin.ext ?_)
  refine (Pipeline.Window.rect_emb_val (cfg0.win 6) t (ix2 x y) a).trans ?_
  match a with
  | ⟨0, _⟩ => show (cfg0.win 6).index t 0 * 512 + x.val = (i 0).val; rw [f0, h0]; try omega
  | ⟨1, _⟩ => show (cfg0.win 6).index t 1 * 1024 + y.val = (i 1).val; rw [f1, h1]; try omega

/-- The block of a window that is its whole array. -/
theorem iblk7 (c : Dev nD) (t : Fin cfg0.N) (y : Fin 1024) (i : S1x1024.Idx)
    (h0 : (i 0).val = 0) (h1 : (i 1).val = y.val) :
    iblk m c 7 t (ix2 0 y) = V m c main_v4 i := by
  obtain ⟨f0, f1⟩ := (index_facts t).2.2.2.2.2.2.2.1
  blk_simp [iblk]
  show V m c main_v4 _ = _
  refine congrArg (V m c main_v4) (funext fun a => Fin.ext ?_)
  refine (Pipeline.Window.rect_emb_val (cfg0.win 7) t (ix2 0 y) a).trans ?_
  match a with
  | ⟨0, _⟩ => show (cfg0.win 7).index t 0 * 1 + 0 = (i 0).val; rw [f0, h0]; try omega
  | ⟨1, _⟩ => show (cfg0.win 7).index t 1 * 1024 + y.val = (i 1).val; rw [f1, h1]; try omega

/-- The output weights the region finds, by element. -/
theorem V_v1 (c : Dev nD) (x : Fin 1024) (y : Fin 1024) :
    V m c main_v1 (ix2 x y) = m ((c : Thread nD τ).loc main_arg4) (ix2 (⟨x.val, by omega⟩ : Fin 2048) y) := by
  have e : (V m c main_v1 : FVec Ideal S1024x1024 .bf16) = extractStridedSlice S1024x1024 ![0, 0] (truncf (F := Ideal) (φ := .f32) .bf16 (m ((c : Thread nD τ).loc main_arg4)) bitsLt_bf16_f32) slices_S2048x1024_S1024x1024_0_0 := by
    unfold V
    simp only [hostOps0]
    after_results <;> rfl
  rw [e]
  pointwise

/-- The output weights the region finds, by element. -/
theorem V_v2 (c : Dev nD) (x : Fin 512) (y : Fin 1024) :
    V m c main_v2 (ix2 x y) = m ((c : Thread nD τ).loc main_arg4) (ix2 (⟨1024 + x.val, by omega⟩ : Fin 2048) y) := by
  have e : (V m c main_v2 : FVec Ideal S512x1024 .bf16) = extractStridedSlice S512x1024 ![1024, 0] (truncf (F := Ideal) (φ := .f32) .bf16 (m ((c : Thread nD τ).loc main_arg4)) bitsLt_bf16_f32) slices_S2048x1024_S512x1024_1024_0 := by
    unfold V
    simp only [hostOps0]
    after_results <;> rfl
  rw [e]
  pointwise

/-- The output weights the region finds, by element. -/
theorem V_v3 (c : Dev nD) (x : Fin 512) (y : Fin 1024) :
    V m c main_v3 (ix2 x y) = m ((c : Thread nD τ).loc main_arg4) (ix2 (⟨1536 + x.val, by omega⟩ : Fin 2048) y) := by
  have e : (V m c main_v3 : FVec Ideal S512x1024 .bf16) = extractStridedSlice S512x1024 ![1536, 0] (truncf (F := Ideal) (φ := .f32) .bf16 (m ((c : Thread nD τ).loc main_arg4)) bitsLt_bf16_f32) slices_S2048x1024_S512x1024_1536_0 := by
    unfold V
    simp only [hostOps0]
    after_results <;> rfl
  rw [e]
  pointwise

/-- The normalisation weights the region finds, by element. -/
theorem V_v4 (c : Dev nD) (y : Fin 1024) :
    V m c main_v4 (ix2 0 y) = m ((c : Thread nD τ).loc main_arg5) (ix1 y) := by
  have e : (V m c main_v4 : FVec Ideal S1x1024 .f32) = shapeCast S1x1024 (m ((c : Thread nD τ).loc main_arg5) : FVec Ideal S1024 .f32) shapeCasts_S1024_S1x1024 := by
    unfold V
    simp only [hostOps0]
    after_results <;> rfl
  rw [e]
  pointwise

/-- A row of the product with the output weights, from the three blocks. -/
def mixRow (v0 : Vec Ideal S1x384x1024 .bf16) (v2 : Vec Ideal S1024x1024 .bf16) (v5 : Vec Ideal S1x384x512 .bf16)
    (v7 : Vec Ideal S512x1024 .bf16) (v11 : Vec Ideal S1x384x512 .bf16) (v13 : Vec Ideal S512x1024 .bf16) (r : Fin 384) (l : Fin 1024) : EReal :=
  ∑ x, v0 (ix3 0 r x) * v2 (ix2 x l) + ∑ x, v5 (ix3 0 r x) * v7 (ix2 x l) + ∑ x, v11 (ix3 0 r x) * v13 (ix2 x l)

theorem pay3_ix (v0 : Vec Ideal S1x384x1024 .bf16) (v2 : Vec Ideal S1024x1024 .bf16) (v5 : Vec Ideal S1x384x512 .bf16)
    (v7 : Vec Ideal S512x1024 .bf16) (v11 : Vec Ideal S1x384x512 .bf16) (v13 : Vec Ideal S512x1024 .bf16) (r : Fin 384) (l : Fin 1024) :
    k0_pay3 v0 v2 v5 v7 v11 v13 (ix2 r l) = mixRow v0 v2 v5 v7 v11 v13 r l * Rows.rs (mixRow v0 v2 v5 v7 v11 v13 r) := by
  unfold Rows.rs mixRow
  pointwise [k0_pay3]

/-- The block written at a point, by element. -/
theorem out_ix (t : Fin cfg0.N) (x0 x1 x2 x3 x4 x5 x6 x7) (r : Fin 384) (l : Fin 1024) :
    out0_8 (F := Ideal) (grid0.coords t) x0 x1 x2 x3 x4 x5 x6 x7 (ix3 0 r l)
      = if 112 ≤ t.val % 11 * 384 + r.val then
          x0 (ix3 0 r l) + mixRow x1 x4 x2 x5 x3 x6 r l * Rows.rs (mixRow x1 x4 x2 x5 x3 x6 r) * x7 (ix2 0 l) else 0 := by
  have e : out0_8 (F := Ideal) (grid0.coords t) x0 x1 x2 x3 x4 x5 x6 x7 (ix3 0 r l) = Scalar.select
      (IntOp.cmpi CmpIPredicate.sge (IntOp.addi (Scalar.muli (BitVec.ofNat 32 (grid0.coords t 1).val) 384#32) (BitVec.ofNat 32 r.val))
        112#32) (x0 (ix3 0 r l) + k0_pay3 x1 x4 x2 x5 x3 x6 (ix2 r l) * x7 (ix2 0 l)) 0 := by
    unfold out0_8
    frame_out
    pointwise [k0_pay1, k0_pay2, k0_pay4]
  have w : IntOp.addi (Scalar.muli (BitVec.ofNat 32 (t.val % 11)) 384#32) (BitVec.ofNat 32 r.val) = BitVec.ofNat 32 (t.val % 11 * 384 + r.val) := by
    rw [BitVec.ofNat_add, BitVec.ofNat_mul]; rfl
  rw [e, coords_facts, w, WinMath.sge_nat _ 112 (by omega) (by omega), pay3_ix, Rows.select_if]

variable [Cert.OutReferenceIdeal.Facts]

/-- The reference's array of what a launch starts from. -/
abbrev goal (c : Dev nD) : S8x4224x1024.Idx → EReal :=
  Cert.OutReferenceIdeal.Row.fin (m ((c : Thread nD τ).loc main_arg0))
    (Cert.OutReferenceIdeal.Row.mix (m ((c : Thread nD τ).loc main_arg1)) (m ((c : Thread nD τ).loc main_arg2)) (m ((c : Thread nD τ).loc main_arg3)) (m ((c : Thread nD τ).loc main_arg4)))
    (m ((c : Thread nD τ).loc main_arg5))

/-- The block written at a point is the reference's array there. -/
theorem out_at (c : Dev nD) (t : Fin cfg0.N) (r : Fin 384) (l : Fin 1024) (b : Fin 8) (i : Fin 4224)
    (hb : b.val = t.val / 11) (hi : i.val = t.val % 11 * 384 + r.val) :
    out0_8 (F := Ideal) (grid0.coords t) (iblk m c 0 t) (iblk m c 1 t) (iblk m c 2 t) (iblk m c 3 t) (iblk m c 4 t) (iblk m c 5 t) (iblk m c 6 t) (iblk m c 7 t) (ix3 0 r l)
      = goal m c (ix3 b i l) := by
  rw [out_ix, goal, Cert.OutReferenceIdeal.Row.fin_ix, hi]
  have hm : ∀ y, mixRow (iblk m c 1 t) (iblk m c 4 t) (iblk m c 2 t) (iblk m c 5 t) (iblk m c 3 t) (iblk m c 6 t) r y
      = Cert.OutReferenceIdeal.Row.mix (m ((c : Thread nD τ).loc main_arg1)) (m ((c : Thread nD τ).loc main_arg2)) (m ((c : Thread nD τ).loc main_arg3)) (m ((c : Thread nD τ).loc main_arg4)) (ix3 b i y) := by
    intro y
    rw [Cert.OutReferenceIdeal.Row.mix_ix]
    unfold mixRow
    refine congrArg₂ (· + ·) (congrArg₂ (· + ·) (Finset.sum_congr rfl fun x _ => ?_) (Finset.sum_congr rfl fun x _ => ?_)) (Finset.sum_congr rfl fun x _ => ?_)
    · rw [iblk1 m c t r x (ix3 b i x) hb hi rfl, V_main_arg1, iblk4 m c t x y (ix2 x y) rfl rfl, V_v1]
    · rw [iblk2 m c t r x (ix3 b i x) hb hi rfl, V_main_arg2, iblk5 m c t x y (ix2 x y) rfl rfl, V_v2]
    · rw [iblk3 m c t r x (ix3 b i x) hb hi rfl, V_main_arg3, iblk6 m c t x y (ix2 x y) rfl rfl, V_v3]
  rw [hm l, show (mixRow (iblk m c 1 t) (iblk m c 4 t) (iblk m c 2 t) (iblk m c 5 t) (iblk m c 3 t) (iblk m c 6 t) r) = _ from funext hm,
    iblk0 m c t r l (ix3 b i l) hb hi rfl, V_main_arg0, iblk7 m c t l (ix2 0 l) rfl rfl, V_v4]

/-- The array the call writes, when every point has been run, is the reference's array of the arguments. -/
theorem final (c : Dev nD) : (dats m 0 c).arrAt 8 cfg0.N = goal m c := by
  refine (dats m 0 c).arrAt_eq_of_covers 8 _ ((cfg0.win 8).covers_of_indexMap_surj rfl (by decide) fun β => ?_) fun t hf y => ?_
  · have b0 : (β ⟨0, by decide⟩).val < 8 := lt_of_lt_of_eq (β ⟨0, by decide⟩).isLt (by decide : (cfg0.win 8).nblk ⟨0, by decide⟩ = 8)
    have b1 : (β ⟨1, by decide⟩).val < 11 := lt_of_lt_of_eq (β ⟨1, by decide⟩).isLt (by decide : (cfg0.win 8).nblk ⟨1, by decide⟩ = 11)
    have b2 : (β ⟨2, by decide⟩).val < 1 := lt_of_lt_of_eq (β ⟨2, by decide⟩).isLt (by decide : (cfg0.win 8).nblk ⟨2, by decide⟩ = 1)
    have hn : (β ⟨0, by decide⟩).val * 11 + (β ⟨1, by decide⟩).val < cfg0.N := by rw [N_eq]; omega
    obtain ⟨f0, f1, f2⟩ := (index_facts ⟨_, hn⟩).2.2.2.2.2.2.2.2
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_8]
    have ht : t.val < 88 := N_eq ▸ t.isLt
    obtain ⟨f0, f1, f2⟩ := (index_facts t).2.2.2.2.2.2.2.2
    idx_vars y
    obtain rfl : y0 = 0 := Subsingleton.elim _ _
    have e : ((View.whole main_v5).slice (win0_8.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 8) t (ix3 0 y1 y2) a).trans ?_
      match a with
      | ⟨0, _⟩ => show (cfg0.win 8).index t 0 * 1 + 0 = t.val / 11; rw [show (cfg0.win 8).index t 0 = _ from f0]; omega
      | ⟨1, _⟩ => show (cfg0.win 8).index t 1 * 384 + y1.val = t.val % 11 * 384 + y1.val; rw [show (cfg0.win 8).index t 1 = _ from f1]
      | ⟨2, _⟩ => show (cfg0.win 8).index t 2 * 1024 + y2.val = y2.val; rw [show (cfg0.win 8).index t 2 = _ from f2]; omega
    rw [e]
    exact out_at m c t y1 y2 _ _ rfl rfl

end Cert.OutKernelIdeal.Value2
end
-- ==== Proof.OutClaim.lean ====
module

public import proofs.«01_k».proof.Proof.OutValue
public import proofs.«01_k».proof.Proof.Gen.OutKernel.Frame
public import proofs.«01_k».proof.Defs

@[expose] public section

set_option maxRecDepth 16384

noncomputable section

namespace Cert.Proof.OutClaims

open Idealize.ShloMosaic Idealize.ShloMosaic.TcCoe Idealize.SL.Sem

/-- The kernel's frame over bit values. -/
theorem frame_bits [Cert.OutKernel.Facts] : Cert.quiescent_OutKernel := fun m ρ _ => Cert.OutKernel.Gen.frame m ρ

/-- The kernel's frame over the extended reals. -/
theorem frame_ideal [Cert.OutKernelIdeal.Facts] : Cert.quiescent_OutKernelIdeal := fun m ρ _ => Cert.OutKernelIdeal.Gen.frame m ρ

variable [Cert.OutKernelIdeal.Facts] [Cert.OutReferenceIdeal.Facts]

/-- The reference ends, and leaves its arguments and every semaphore as it should. -/
theorem frame_ref : Cert.quiescent_OutReferenceIdeal := fun m ρ _ =>
  (θ_run Cert.OutReferenceIdeal.defs _ _).mono (fun r h => ⟨fun c => (h c).2,
      Idealize.ShloMosaic.sem_eq_zero_of_no_sems (by decide) r.2⟩)
    (Cert.OutReferenceIdeal.Value.run (F := Ideal) m ρ)

/-- Over the extended reals the output projection kernel and the plain output projection end with equal arrays. -/
theorem algebraic : Cert.algebraic_OutKernelIdeal_OutReferenceIdeal := by
  intro m ρ m' ρ' _ hagree
  refine ⟨fun c => Cert.OutKernelIdeal.Value2.goal m c, ?_, ?_⟩
  · refine (θ_run Cert.OutKernelIdeal.defs _ _).mono (fun _ h c => ?_) (Cert.OutKernelIdeal.Value.run_blocks (F := Ideal) m ρ)
    exact ⟨(h c).1.trans (Cert.OutKernelIdeal.Value2.final m c), (h c).2⟩
  · refine (θ_run Cert.OutReferenceIdeal.defs _ _).mono (fun _ h c => ?_) (Cert.OutReferenceIdeal.Value.run (F := Ideal) m' ρ')
    refine ⟨(h c).1.trans ?_, (h c).2⟩
    obtain ⟨a0, a1, a2, a3, a4, a5⟩ := hagree c
    rw [a0, a1, a2, a3, a4, a5]
    rfl

end Cert.Proof.OutClaims

end
-- ==== Proof.FfnIdealBody.lean ====
module

public import proofs.«01_k».proof.Proof.Gen.FfnKernelIdeal.Skeleton
public import proofs.«01_k».proof.Proof.Gen.FfnKernelIdeal.Frame
public import Idealize.ShloMosaic.Lib.Exec
public import Idealize.ShloMosaic.Lib.Pipeline.Value

@[expose] public section

set_option maxRecDepth 16384
set_option maxHeartbeats 4000000

noncomputable section

namespace Cert.FfnKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Facts Cert.FfnKernelIdeal.Gen

variable {F : FTy → Type} [FloatOps F]

/-- The resource algebra of the runs. -/
local notation "𝕄" => MT nD τ sig Unit (Elt F) ℕ (UR sig nD τ) ℕ

/-- What the gate's scratch holds in a trip: the products of all 400 rows with the chunk's columns, the last 8 rows
    scaled by the tail's factor. -/
def gtile (f : FVec F S400x1024 .bf16) (tl : F .f32) (w : Vec F S1x1024x256 .bf16) : S400x256.Idx → Elt F .f32 :=
  View.canon (Val := Elt F) (s := S400x256) (e := .f32)
    [⟨Rect.unit (s := S400x256) ![392, 0] S8x256.size inb_S400x256_S8x256_392_0, k0_pay4 f tl w⟩,
     ⟨Rect.unit (s := S400x256) ![0, 0] S400x256.size inb_S400x256_S400x256_0_0, k0_pay3 f w⟩]

/-- What the up half's scratch holds in a trip. -/
def utile (f : FVec F S400x1024 .bf16) (tl : F .f32) (w : Vec F S1x1024x256 .bf16) : S400x256.Idx → Elt F .f32 :=
  View.canon (Val := Elt F) (s := S400x256) (e := .f32)
    [⟨Rect.unit (s := S400x256) ![392, 0] S8x256.size inb_S400x256_S8x256_392_0, k0_pay10 f tl w⟩,
     ⟨Rect.unit (s := S400x256) ![0, 0] S400x256.size inb_S400x256_S400x256_0_0, k0_pay9 f w⟩]

/-- ONE TRIP on the accumulator: chunk `k` of the gate and of the up half, each through its three tap convolution, the
    gated products times the chunk's rows of the down matrix, added to what the accumulator held. -/
def step (f : FVec F S400x1024 .bf16) (tl : F .f32) (W6 : Vec F S22x1024x256 .bf16) (W7 : Vec F S22x3x256 .f32) (W8 : Vec F S22x1x256 .f32) (W9 : Vec F S11x256x1024 .bf16) (k : Fin k0_t1_loop.trips) (a : Vec F S384x1024 .f32) : Vec F S384x1024 .f32 :=
  k0_pay21
    (k0_pay7 (k0_pay5 (View.ld (Val := Elt F) (gtile f tl (View.ld (Val := Elt F) W6 (Rect.unit (s := S22x1024x256) (k0_off1 k) S1x1024x256.size (k0_off1_inb k)))) (Rect.unit (s := S400x256) ![7, 0] S384x256.size inb_S400x256_S384x256_7_0)) (View.ld (Val := Elt F) W7 (Rect.unit (s := S22x3x256) (k0_off2 k) S1x1x256.size (k0_off2_inb k))) (View.ld (Val := Elt F) W8 (Rect.unit (s := S22x1x256) (k0_off3 k) S1x1x256.size (k0_off3_inb k)))
        (View.ld (Val := Elt F) (gtile f tl (View.ld (Val := Elt F) W6 (Rect.unit (s := S22x1024x256) (k0_off1 k) S1x1024x256.size (k0_off1_inb k)))) (Rect.unit (s := S400x256) ![8, 0] S384x256.size inb_S400x256_S384x256_8_0)) (View.ld (Val := Elt F) W7 (Rect.unit (s := S22x3x256) (k0_off4 k) S1x1x256.size (k0_off4_inb k))))
      (View.ld (Val := Elt F) (gtile f tl (View.ld (Val := Elt F) W6 (Rect.unit (s := S22x1024x256) (k0_off1 k) S1x1024x256.size (k0_off1_inb k)))) (Rect.unit (s := S400x256) ![9, 0] S384x256.size inb_S400x256_S384x256_9_0)) (k0_pay6 (View.ld (Val := Elt F) W7 (Rect.unit (s := S22x3x256) (k0_off5 k) S1x1x256.size (k0_off5_inb k)))))
    (k0_pay11 (View.ld (Val := Elt F) (utile f tl (View.ld (Val := Elt F) W6 (Rect.unit (s := S22x1024x256) (k0_off6 k) S1x1024x256.size (k0_off6_inb k)))) (Rect.unit (s := S400x256) ![7, 0] S384x256.size inb_S400x256_S384x256_7_0)) (View.ld (Val := Elt F) W7 (Rect.unit (s := S22x3x256) (k0_off7 k) S1x1x256.size (k0_off7_inb k))) (View.ld (Val := Elt F) W8 (Rect.unit (s := S22x1x256) (k0_off8 k) S1x1x256.size (k0_off8_inb k)))
        (View.ld (Val := Elt F) (utile f tl (View.ld (Val := Elt F) W6 (Rect.unit (s := S22x1024x256) (k0_off6 k) S1x1024x256.size (k0_off6_inb k)))) (Rect.unit (s := S400x256) ![8, 0] S384x256.size inb_S400x256_S384x256_8_0)) (View.ld (Val := Elt F) W7 (Rect.unit (s := S22x3x256) (k0_off9 k) S1x1x256.size (k0_off9_inb k))))
    (View.ld (Val := Elt F) (utile f tl (View.ld (Val := Elt F) W6 (Rect.unit (s := S22x1024x256) (k0_off6 k) S1x1024x256.size (k0_off6_inb k)))) (Rect.unit (s := S400x256) ![9, 0] S384x256.size inb_S400x256_S384x256_9_0))
    (View.ld (Val := Elt F) W7 (Rect.unit (s := S22x3x256) (k0_off10 k) S1x1x256.size (k0_off10_inb k))) a (View.ld (Val := Elt F) W9 (Rect.unit (s := S11x256x1024) (k0_off11 k) S1x256x1024.size (k0_off11_inb k)))

/-- The accumulator before trip `k`, from `a` before the first. -/
def accAt (f : FVec F S400x1024 .bf16) (tl : F .f32) (W6 : Vec F S22x1024x256 .bf16) (W7 : Vec F S22x3x256 .f32) (W8 : Vec F S22x1x256 .f32) (W9 : Vec F S11x256x1024 .bf16) (a : Vec F S384x1024 .f32) : ℕ → Vec F S384x1024 .f32
  | 0 => a
  | k + 1 => if h : k < k0_t1_loop.trips then step f tl W6 W7 W8 W9 ⟨k, h⟩ (accAt f tl W6 W7 W8 W9 a k) else accAt f tl W6 W7 W8 W9 a k

/-- Trip `k` is one step. -/
theorem accAt_succ (f : FVec F S400x1024 .bf16) (tl : F .f32) (W6 : Vec F S22x1024x256 .bf16) (W7 : Vec F S22x3x256 .f32) (W8 : Vec F S22x1x256 .f32) (W9 : Vec F S11x256x1024 .bf16) (a : Vec F S384x1024 .f32) (k : Fin k0_t1_loop.trips) :
    accAt f tl W6 W7 W8 W9 a (k.val + 1) = step f tl W6 W7 W8 W9 k (accAt f tl W6 W7 W8 W9 a k.val) := by
  rw [accAt.eq_2]; exact dif_pos k.isLt

/-- What a trip reads and writes: the weights at their contents, the two scratch buffers at some, the accumulator. -/
abbrev Res (c : Dev nD) (arg6 : Memref sig .tc .vmem S22x1024x256 .bf16) (arg7 : Memref sig .tc .vmem S22x3x256 .f32) (arg8 : Memref sig .tc .vmem S22x1x256 .f32) (arg9 : Memref sig .tc .vmem S11x256x1024 .bf16) (arg12 : Memref sig .tc .vmem S400x256 .f32) (arg13 : Memref sig .tc .vmem S400x256 .f32) (arg14 : Memref sig .tc .vmem S384x1024 .f32) (X6 : BufTy.Contents (Elt F) arg6.view.ty) (X7 : BufTy.Contents (Elt F) arg7.view.ty) (X8 : BufTy.Contents (Elt F) arg8.view.ty) (X9 : BufTy.Contents (Elt F) arg9.view.ty) (P : Vec F S384x1024 .f32) : sProp 𝕄 :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
    ∗ (∃ f, arg12.view.loc (c : Thread nD τ) ↦[arg12.view.set]{fullShare} f) ∗ (∃ f, arg13.view.loc (c : Thread nD τ) ↦[arg13.view.set]{fullShare} f)
    ∗ (∃ f, (arg14.view.loc (c : Thread nD τ) ↦[arg14.view.set]{fullShare} f) ∗ ⌜arg14.view.read (Elt F) f = P⌝))

/-- A load of what stores cover reads them. -/
theorem rc {S : Shape} {e : EltTy} (v : View sig .tc .vmem S e) (L : List (View.Piece (Elt F) S e)) (r : Rect S) :
    v.readCov L r.toLoadRect = View.ld (View.canon L) r := View.readCov_eq_canon' v L r.toLoadRect

/-- One store of the whole leaves what was stored. -/
theorem read_whole {S : Shape} {e : EltTy} (v : View sig .tc .vmem S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_cons_self, View.mem_set_unit_zero h inb y⟩)).trans
    (View.canon_cons_unit_zero h inb w [])

/-- A trip takes the accumulator one step on. -/
theorem trip (c : Dev nD) (i : grid0.Coords) (arg2 : Memref sig .tc .vmem S1x384x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x3x256 .f32) (harg7 : arg7.IsWhole) (arg8 : Memref sig .tc .vmem S22x1x256 .f32) (harg8 : arg8.IsWhole) (arg9 : Memref sig .tc .vmem S11x256x1024 .bf16) (harg9 : arg9.IsWhole) (arg10 : Memref sig .tc .vmem S1x1024 .f32) (harg10 : arg10.IsWhole) (arg11 : Memref sig .tc .vmem S1x384x1024 .f32) (harg11 : arg11.IsWhole) (arg12 : Memref sig .tc .vmem S400x256 .f32) (harg12 : arg12.IsWhole) (arg13 : Memref sig .tc .vmem S400x256 .f32) (harg13 : arg13.IsWhole) (arg14 : Memref sig .tc .vmem S384x1024 .f32) (harg14 : arg14.IsWhole) (arg1 : BitVec 32) (v1 : FVec F S1x1024 .f32) (v15 : FVec F S8x1024 .f32) (v29 : FVec F S384x1024 .f32) (v31 : FVec F S8x1024 .f32) (v36 : FVec F S8x1 .f32) (v37 : FVec F S8x1 .f32) (X6 : BufTy.Contents (Elt F) arg6.view.ty) (X7 : BufTy.Contents (Elt F) arg7.view.ty) (X8 : BufTy.Contents (Elt F) arg8.view.ty) (X9 : BufTy.Contents (Elt F) arg9.view.ty) (E : Set ℕ) (k : Fin k0_t1_loop.trips) (a : Vec F S384x1024 .f32) :
      Res (F := F) c arg6 arg7 arg8 arg9 arg12 arg13 arg14 X6 X7 X8 X9 a
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg1 v1 v15 v29 v31 v36 v37 k PUnit.unit)
          (fun _ => Res (F := F) c arg6 arg7 arg8 arg9 arg12 arg13 arg14 X6 X7 X8 X9
            (step (k0_pay18 v1 v15 v29 v31 v36 v37) (k0_pay19 (F := F) arg1) (arg6.view.read (Elt F) X6) (arg7.view.read (Elt F) X7) (arg8.view.read (Elt F) X8) (arg9.view.read (Elt F) X9) k a)) := by
  have hk : k.val < 11 := Nat.lt_of_lt_of_le k.isLt k0_t1_abs.2.1
  unfold k0_t1_body
  iintro ⟨H6, H7, H8, H9, ⟨%f12, H12⟩, ⟨%f13, H13⟩, ⟨%f14, H14, %h14⟩⟩
  sl_exec
  sl_step
  isplitl [H6]; · iexact H6
  isplitl [H7]; · iexact H7
  isplitl [H8]; · iexact H8
  isplitl [H9]; · iexact H9
  isplitl [H12]; · iexists _; iexact H12
  isplitl [H13]; · iexists _; iexact H13
  iexists _
  isplitl [H14]; · iexact H14
  ipureintro
  have h0 : (![0, 0] : Fin 2 → ℕ) = fun _ => 0 := by funext i; fin_cases i <;> rfl
  refine (read_whole arg14.view f14 h0 inb_S384x1024_S384x1024_0_0 _).trans ?_
  subst h14
  sl_unfold_words
  simp only [rc, View.readAt_eq_ld]
  unfold step gtile utile
  exact congrArg (fun z => k0_pay21 _ _ _ _ z _) (View.ld_unit_zero (S := S384x1024) h0 inb_S384x1024_S384x1024_0_0 _)

set_option warn.classDefReducibility false in
/-- THE LOOP BY ITS INVARIANT: before trip `k` the accumulator holds `accAt … k` of what it held at entry. -/
@[sl_loop] def loopInv (c : Dev nD) (E : Set ℕ) (i : grid0.Coords) (arg2 : Memref sig .tc .vmem S1x384x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x3x256 .f32) (harg7 : arg7.IsWhole) (arg8 : Memref sig .tc .vmem S22x1x256 .f32) (harg8 : arg8.IsWhole) (arg9 : Memref sig .tc .vmem S11x256x1024 .bf16) (harg9 : arg9.IsWhole) (arg10 : Memref sig .tc .vmem S1x1024 .f32) (harg10 : arg10.IsWhole) (arg11 : Memref sig .tc .vmem S1x384x1024 .f32) (harg11 : arg11.IsWhole) (arg12 : Memref sig .tc .vmem S400x256 .f32) (harg12 : arg12.IsWhole) (arg13 : Memref sig .tc .vmem S400x256 .f32) (harg13 : arg13.IsWhole) (arg14 : Memref sig .tc .vmem S384x1024 .f32) (harg14 : arg14.IsWhole) (arg1 : BitVec 32) (v1 : FVec F S1x1024 .f32) (v15 : FVec F S8x1024 .f32) (v29 : FVec F S384x1024 .f32) (v31 : FVec F S8x1024 .f32) (v36 : FVec F S8x1 .f32) (v37 : FVec F S8x1 .f32) (X6 : BufTy.Contents (Elt F) arg6.view.ty) (X7 : BufTy.Contents (Elt F) arg7.view.ty) (X8 : BufTy.Contents (Elt F) arg8.view.ty) (X9 : BufTy.Contents (Elt F) arg9.view.ty) (G14 : BufTy.Contents (Elt F) arg14.view.ty) :
    Idealize.ShloMosaic.LoopInv (M := 𝕄) Idealize.ShloMosaic.frame (wpE defs₀ Variants.none (c : Thread nD τ) none) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg1 v1 v15 v29 v31 v36 v37) where
  inv k _ := Res (F := F) c arg6 arg7 arg8 arg9 arg12 arg13 arg14 X6 X7 X8 X9
    (accAt (k0_pay18 v1 v15 v29 v31 v36 v37) (k0_pay19 (F := F) arg1) (arg6.view.read (Elt F) X6) (arg7.view.read (Elt F) X7) (arg8.view.read (Elt F) X8) (arg9.view.read (Elt F) X9) (arg14.view.read (Elt F) G14) k)
  step k acc := by
    rw [accAt_succ]
    exact trip c i arg2 harg2 arg3 harg3 arg4 harg4 arg5 harg5 arg6 harg6 arg7 harg7 arg8 harg8 arg9 harg9 arg10 harg10 arg11 harg11 arg12 harg12 arg13 harg13 arg14 harg14 arg1 v1 v15 v29 v31 v36 v37 X6 X7 X8 X9 E k _

end Cert.FfnKernelIdeal.Body

end
-- ==== Proof.FfnIdealKernel.lean ====
module

public import proofs.«01_k».proof.Proof.FfnIdealBody
public import Idealize.ShloMosaic.Lib.Exec

@[expose] public section

set_option maxRecDepth 16384
set_option maxHeartbeats 4000000

noncomputable section

namespace Cert.FfnKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Facts Cert.FfnKernelIdeal.Gen

variable {F : FTy → Type} [FloatOps F]

/-- The resource algebra of the runs. -/
local notation "𝕄" => MT nD τ sig Unit (Elt F) ℕ (UR sig nD τ) ℕ

/-- The accumulator after the loop at grid point `i`, from the blocks. -/
def accEnd (i : grid0.Coords) (x0 : Vec F S1x384x1024 .f32) (x1 : Vec F S1x8x1024 .f32) (x2 : Vec F S1x8x1024 .f32) (x3 : Vec F S1x1024 .f32) (x4 : Vec F S22x1024x256 .bf16) (x5 : Vec F S22x3x256 .f32) (x6 : Vec F S22x1x256 .f32) (x7 : Vec F S11x256x1024 .bf16) (x8 : Vec F S1x1024 .f32) : Vec F S384x1024 .f32 :=
  accAt (k0_pay18 (k0_pay12 x3) (k0_pay13 x3 x1) (k0_pay14 x3 x0) (k0_pay15 x2) (k0_pay16 x2) (k0_pay17 (F := F)))
    (k0_pay19 (F := F) (BitVec.ofNat 32 (i 1).val)) x4 x5 x6 x7 (k0_pay20 (F := F)) k0_t1_loop.trips

/-- What the body leaves in the output's buffer at grid point `i`, from the blocks. -/
def out9 (i : grid0.Coords) (x0 : Vec F S1x384x1024 .f32) (x1 : Vec F S1x8x1024 .f32) (x2 : Vec F S1x8x1024 .f32) (x3 : Vec F S1x1024 .f32) (x4 : Vec F S22x1024x256 .bf16) (x5 : Vec F S22x3x256 .f32) (x6 : Vec F S22x1x256 .f32) (x7 : Vec F S11x256x1024 .bf16) (x8 : Vec F S1x1024 .f32) : Vec F S1x384x1024 .f32 :=
  k0_pay1 (k0_pay22 x0 (accEnd i x0 x1 x2 x3 x4 x5 x6 x7 x8) x8) (k0_pay23 (BitVec.ofNat 32 (i 1).val))

/-- A load of a whole buffer through its own box reads the buffer. -/
theorem rw0 {S : Shape} {e : EltTy} (v : View sig .tc .vmem S e) (f : v.ty.Contents (Elt F)) {off : Fin S.rank → Nat}
    (h : off = fun _ => 0) (inb : ∀ a, off a + S.size a ≤ S.size a) :
    v.readAt (Elt F) (Rect.unit off S.size inb).toLoadRect f = v.read (Elt F) f := View.ld_unit_zero h inb _

/-- The body on its buffers: the inputs keep their blocks, the output's buffer ends at `out9`. -/
theorem sound_kernel (c : Dev nD) (E : Set ℕ) (i : grid0.Coords) (arg2 : Memref sig .tc .vmem S1x384x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x3x256 .f32) (harg7 : arg7.IsWhole) (arg8 : Memref sig .tc .vmem S22x1x256 .f32) (harg8 : arg8.IsWhole) (arg9 : Memref sig .tc .vmem S11x256x1024 .bf16) (harg9 : arg9.IsWhole) (arg10 : Memref sig .tc .vmem S1x1024 .f32) (harg10 : arg10.IsWhole) (arg11 : Memref sig .tc .vmem S1x384x1024 .f32) (harg11 : arg11.IsWhole) (arg12 : Memref sig .tc .vmem S400x256 .f32) (harg12 : arg12.IsWhole) (arg13 : Memref sig .tc .vmem S400x256 .f32) (harg13 : arg13.IsWhole) (arg14 : Memref sig .tc .vmem S384x1024 .f32) (harg14 : arg14.IsWhole)
    (x0 : Vec F S1x384x1024 .f32) (x1 : Vec F S1x8x1024 .f32) (x2 : Vec F S1x8x1024 .f32) (x3 : Vec F S1x1024 .f32) (x4 : Vec F S22x1024x256 .bf16) (x5 : Vec F S22x3x256 .f32) (x6 : Vec F S22x1x256 .f32) (x7 : Vec F S11x256x1024 .bf16) (x8 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out9 i x0 x1 x2 x3 x4 x5 x6 x7 x8) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K := by
  simp only [cc0_ffn_eq_skeleton]; unfold cc0_ffn_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    have h3 : (![0, 0, 0] : Fin 3 → ℕ) = fun _ => 0 := by funext a; fin_cases a <;> rfl
    have h2 : (![0, 0] : Fin 2 → ℕ) = fun _ => 0 := by funext a; fin_cases a <;> rfl
    refine (read_whole (S := S1x384x1024) arg11.view f9 h3 inb_S1x384x1024_S1x384x1024_0_0_0 _).trans ?_
    have ht : Scf.trips k0_t1_loop.lb k0_t1_loop.ub k0_t1_loop.st = k0_t1_loop.trips := rfl
    rw [ht] at hL7
    have hz : View.read (Elt F) arg14.view (arg14.view.writes (Elt F) arg14.view.junk sound_kernel.sl.H12_1) = k0_pay20 (F := F) :=
      read_whole (S := S384x1024) arg14.view _ h2 inb_S384x1024_S384x1024_0_0 _
    rw [hz] at hL7
    have e3 := rw0 (S := S1x1024) arg5.view f3 h2 inb_S1x1024_S1x1024_0_0
    have e1 := rw0 (S := S1x8x1024) arg3.view f1 h3 inb_S1x8x1024_S1x8x1024_0_0_0
    have e0 := rw0 (S := S1x384x1024) arg2.view f0 h3 inb_S1x384x1024_S1x384x1024_0_0_0
    have e2 := rw0 (S := S1x8x1024) arg4.view f2 h3 inb_S1x8x1024_S1x8x1024_0_0_0
    have e8 := rw0 (S := S1x1024) arg10.view f8 h2 inb_S1x1024_S1x1024_0_0
    have e14 := (rw0 (S := S384x1024) arg14.view fL2 h2 inb_S384x1024_S384x1024_0_0).trans hL7
    unfold out9 accEnd
    rw [← e3, ← e1, ← e0, ← e2, ← e8]
    exact congrArg (fun z => k0_pay1 (k0_pay22 _ z _) _) e14
  isplitl [H10]
  · iexists _; iexists _; isplitr
    swap; · iexact H10
    ipureintro; rfl
  isplitl [H11]
  · iexists _; iexists _; isplitr
    swap; · iexact H11
    ipureintro; rfl
  · iexists _; iexists _; isplitr
    swap; · iexact H12
    ipureintro; rfl

end Cert.FfnKernelIdeal.Body

end
-- ==== Proof.FfnIdealFrame.lean ====
module

public import proofs.«01_k».proof.Proof.FfnIdealKernel
public import Idealize.ShloMosaic.Lib.Exec
public import Idealize.ShloMosaic.Lib.Claim

@[expose] public section

set_option maxRecDepth 16384
set_option maxHeartbeats 4000000

noncomputable section

namespace Cert.FfnKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Facts Cert.FfnKernelIdeal.Gen

open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The resource algebra of the runs. -/
local notation "𝕄" => MT nD τ sig Unit (Elt F) ℕ (UR sig nD τ) ℕ

/-- The proof data: the arrays as the region finds them, each input's buffer at its block after the body, the output's at
    `out9` of the blocks; windows of one array each hold their share of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (grid0.coords t) (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := Pipeline.shareOf spec0 w
  owed _ := 0

/-- The arrays are the region's. -/
theorem A_eq (c : Dev nD) (w : Fin cfg0.W) : (dats m 0 c).A w = V m c (Pipeline.arrRef spec0 w) := by
  dsimp only [dats]

/-- What the body leaves in window 0. -/
theorem after_0 (c : Dev nD) (t : Fin cfg0.N) : (dats m 0 c).after 0 t = iblk m c 0 t := by dsimp only [dats]
/-- What the body finds in window 0. -/
theorem before_0 (c : Dev nD) (t : Fin cfg0.N) (d) : (dats m 0 c).before 0 t d = iblk m c 0 t :=
  before0_0_of m (dats m 0 c) (A_eq m c 0) (after_0 m c) t d
/-- What the body leaves in window 1. -/
theorem after_1 (c : Dev nD) (t : Fin cfg0.N) : (dats m 0 c).after 1 t = iblk m c 1 t := by dsimp only [dats]
/-- What the body finds in window 1. -/
theorem before_1 (c : Dev nD) (t : Fin cfg0.N) (d) : (dats m 0 c).before 1 t d = iblk m c 1 t :=
  before0_1_of m (dats m 0 c) (A_eq m c 1) (after_1 m c) t d
/-- What the body leaves in window 2. -/
theorem after_2 (c : Dev nD) (t : Fin cfg0.N) : (dats m 0 c).after 2 t = iblk m c 2 t := by dsimp only [dats]
/-- What the body finds in window 2. -/
theorem before_2 (c : Dev nD) (t : Fin cfg0.N) (d) : (dats m 0 c).before 2 t d = iblk m c 2 t :=
  before0_2_of m (dats m 0 c) (A_eq m c 2) (after_2 m c) t d
/-- What the body leaves in window 3. -/
theorem after_3 (c : Dev nD) (t : Fin cfg0.N) : (dats m 0 c).after 3 t = iblk m c 3 t := by dsimp only [dats]
/-- What the body finds in window 3. -/
theorem before_3 (c : Dev nD) (t : Fin cfg0.N) (d) : (dats m 0 c).before 3 t d = iblk m c 3 t :=
  before0_3_of m (dats m 0 c) (A_eq m c 3) (after_3 m c) t d
/-- What the body leaves in window 4. -/
theorem after_4 (c : Dev nD) (t : Fin cfg0.N) : (dats m 0 c).after 4 t = iblk m c 4 t := by dsimp only [dats]
/-- What the body finds in window 4. -/
theorem before_4 (c : Dev nD) (t : Fin cfg0.N) (d) : (dats m 0 c).before 4 t d = iblk m c 4 t :=
  before0_4_of m (dats m 0 c) (A_eq m c 4) (after_4 m c) t d
/-- What the body leaves in window 5. -/
theorem after_5 (c : Dev nD) (t : Fin cfg0.N) : (dats m 0 c).after 5 t = iblk m c 5 t := by dsimp only [dats]
/-- What the body finds in window 5. -/
theorem before_5 (c : Dev nD) (t : Fin cfg0.N) (d) : (dats m 0 c).before 5 t d = iblk m c 5 t :=
  before0_5_of m (dats m 0 c) (A_eq m c 5) (after_5 m c) t d
/-- What the body leaves in window 6. -/
theorem after_6 (c : Dev nD) (t : Fin cfg0.N) : (dats m 0 c).after 6 t = iblk m c 6 t := by dsimp only [dats]
/-- What the body finds in window 6. -/
theorem before_6 (c : Dev nD) (t : Fin cfg0.N) (d) : (dats m 0 c).before 6 t d = iblk m c 6 t :=
  before0_6_of m (dats m 0 c) (A_eq m c 6) (after_6 m c) t d
/-- What the body leaves in window 7. -/
theorem after_7 (c : Dev nD) (t : Fin cfg0.N) : (dats m 0 c).after 7 t = iblk m c 7 t := by dsimp only [dats]
/-- What the body finds in window 7. -/
theorem before_7 (c : Dev nD) (t : Fin cfg0.N) (d) : (dats m 0 c).before 7 t d = iblk m c 7 t :=
  before0_7_of m (dats m 0 c) (A_eq m c 7) (after_7 m c) t d
/-- What the body leaves in window 8. -/
theorem after_8 (c : Dev nD) (t : Fin cfg0.N) : (dats m 0 c).after 8 t = iblk m c 8 t := by dsimp only [dats]
/-- What the body finds in window 8. -/
theorem before_8 (c : Dev nD) (t : Fin cfg0.N) (d) : (dats m 0 c).before 8 t d = iblk m c 8 t :=
  before0_8_of m (dats m 0 c) (A_eq m c 8) (after_8 m c) t d
/-- What the body leaves in the output's window. -/
theorem after_9 (c : Dev nD) (t : Fin cfg0.N) : (dats m 0 c).after 9 t = out9 (grid0.coords t) (iblk m c 0 t) (iblk m c 1 t) (iblk m c 2 t) (iblk m c 3 t) (iblk m c 4 t) (iblk m c 5 t) (iblk m c 6 t) (iblk m c 7 t) (iblk m c 8 t) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9]
  unfold Pipeline.ΦA
  rw [scopedRest0_eq]
  iintro ⟨⟨⟨⟨%s0, S0⟩, ⟨%s1, S1⟩, ⟨%s2, S2⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexists s0; rw [owns_whole]; iexact S0
  isplitl [S1]; · iexists s1; rw [owns_whole]; iexact S1
  isplitl [S2]; · iexists s2; rw [owns_whole]; iexact S2
  iintro ⟨H0, H1, H2, H3, H4, H5, H6, H7, H8, H9, ⟨%r0, S0⟩, ⟨%r1, S1⟩, ⟨%r2, S2⟩⟩
  isplitl [S0 S1 S2 HP]
  · isplitl [S0 S1 S2]
    · isplitl [S0]; · iexists r0; rw [owns_whole]; exact .rfl
      isplitl [S1]; · iexists r1; rw [owns_whole]; exact .rfl
      iexists r2; rw [owns_whole]; exact .rfl
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the run ends, the arguments unchanged and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FfnKernelIdeal.Body

end
-- ==== Proof.FfnRef.lean ====
module

public import proofs.«01_k».proof.Proof.Gen.FfnReferenceIdeal.Run
public import proofs.«01_k».proof.Proof.Rows
public import Idealize.ShloMosaic.Lib.Pointwise
public import Idealize.ShloMosaic.Lib.Tactic

@[expose] public section

set_option maxRecDepth 16384

noncomputable section

namespace Cert.FfnReferenceIdeal.Row

open Cert.FfnReferenceIdeal Idealize.ShloMosaic Idealize.ShloMosaic.TcCoe Idealize.SL.Sem
open Cert.FfnReferenceIdeal.Facts Cert.FfnReferenceIdeal.Gen

/-- The gate's curve at a number: the tanh form of the Gaussian error unit. -/
def gl (g : EReal) : EReal :=
  g * (Ideal.ofBits .f32 0x3F000000#32 * (Ideal.ofBits .f32 0x3F800000#32 + Ideal.tanh (Ideal.ofBits .f32 0x3F4C422A#32 * (g + Ideal.ofBits .f32 0x3D372713#32 * (g * g * g)))))

/-- The normalised rows. -/
def nrm (h : FVec Ideal S8x4112x1024 .f32) (nw : FVec Ideal S1024 .f32) : FVec Ideal S8x4112x1024 .f32 :=
  mulf (mulf h (broadcastInDim S8x4112x1024 ![0, 1, 2] bcast_S8x4112x1_S8x4112x1024_0_1_2 (Host.rsqrt (addf (Host.divf (broadcastInDim S8x4112x1 ![0, 1] bcast_S8x4112_S8x4112x1_0_1 (Host.reduceAdd (mulf h h) (constant S_ .f32 0x00000000#32) reducesTo_S8x4112x1024_S8x4112_d2 h_S_)) (broadcastInDim S8x4112x1 ![] bcast_S_S8x4112x1 (constant S_ .f32 0x44800000#32))) (broadcastInDim S8x4112x1 ![] bcast_S_S8x4112x1 (constant S_ .f32 0x358637BD#32)))))) (broadcastInDim S8x4112x1024 ![0, 1, 2] bcast_S1x1x1024_S8x4112x1024_0_1_2 (broadcastInDim S1x1x1024 ![2] bcast_S1024_S1x1x1024_2 nw))

/-- The normalised rows times the first weights. -/
def up (n : FVec Ideal S8x4112x1024 .f32) (w : FVec Ideal S1024x5632 .f32) : FVec Ideal S8x4112x5632 .f32 :=
  Host.dotGeneral dot_S8x4112x1024_S1024x5632_S8x4112x5632_2_0_01_1_n_n none n w

/-- One zero row before and one after. -/
def pd (u : FVec Ideal S8x4112x5632 .f32) : FVec Ideal S8x4114x5632 .f32 :=
  pad S8x4114x5632 ![0, 1, 0] ![0, 1, 0] ![0, 0, 0] u (sitofp .f32 (constantI S_ 32 0#32)) pads_S8x4112x5632_S8x4114x5632_000_110_000 h_S_

/-- The convolution over three rows. -/
def cv (p : FVec Ideal S8x4114x5632 .f32) (cw : FVec Ideal S3x5632 .f32) (cb : FVec Ideal S5632 .f32) : FVec Ideal S8x4112x5632 .f32 :=
  addf (addf (addf (mulf (extractStridedSlice S8x4112x5632 ![0, 0, 0] p slices_S8x4114x5632_S8x4112x5632_0_0_0) (broadcastInDim S8x4112x5632 ![0, 1, 2] bcast_S1x1x5632_S8x4112x5632_0_1_2 (broadcastInDim S1x1x5632 ![2] bcast_S5632_S1x1x5632_2 (shapeCast _ (extractStridedSlice S1x5632 ![0, 0] cw slices_S3x5632_S1x5632_0_0) shapeCasts_S1x5632_S5632)))) (broadcastInDim S8x4112x5632 ![0, 1, 2] bcast_S1x1x5632_S8x4112x5632_0_1_2 (broadcastInDim S1x1x5632 ![2] bcast_S5632_S1x1x5632_2 cb))) (mulf (extractStridedSlice S8x4112x5632 ![0, 1, 0] p slices_S8x4114x5632_S8x4112x5632_0_1_0) (broadcastInDim S8x4112x5632 ![0, 1, 2] bcast_S1x1x5632_S8x4112x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S8x4112x5632 ![0, 2, 0] p slices_S8x4114x5632_S8x4112x5632_0_2_0) (broadcastInDim S8x4112x5632 ![0, 1, 2] bcast_S1x1x5632_S8x4112x5632_0_1_2 (broadcastInDim S1x1x5632 ![2] bcast_S5632_S1x1x5632_2 (shapeCast _ (extractStridedSlice S1x5632 ![2, 0] cw slices_S3x5632_S1x5632_2_0) shapeCasts_S1x5632_S5632))))

/-- The curve of the gate half times the other half. -/
def act (q : FVec Ideal S8x4112x5632 .f32) : FVec Ideal S8x4112x2816 .f32 :=
  mulf (mulf (extractStridedSlice S8x4112x2816 ![0, 0, 0] q slices_S8x4112x5632_S8x4112x2816_0_0_0) (mulf (broadcastInDim S8x4112x2816 ![] bcast_S_S8x4112x2816 (constant S_ .f32 0x3F000000#32)) (addf (broadcastInDim S8x4112x2816 ![] bcast_S_S8x4112x2816 (constant S_ .f32 0x3F800000#32)) (Host.tanh (mulf (broadcastInDim S8x4112x2816 ![] bcast_S_S8x4112x2816 (constant S_ .f32 0x3F4C422A#32)) (addf (extractStridedSlice S8x4112x2816 ![0, 0, 0] q slices_S8x4112x5632_S8x4112x2816_0_0_0) (mulf (broadcastInDim S8x4112x2816 ![] bcast_S_S8x4112x2816 (constant S_ .f32 0x3D372713#32)) (mulf (mulf (extractStridedSlice S8x4112x2816 ![0, 0, 0] q slices_S8x4112x5632_S8x4112x2816_0_0_0) (extractStridedSlice S8x4112x2816 ![0, 0, 0] q slices_S8x4112x5632_S8x4112x2816_0_0_0)) (extractStridedSlice S8x4112x2816 ![0, 0, 0] q slices_S8x4112x5632_S8x4112x2816_0_0_0))))))))) (extractStridedSlice S8x4112x2816 ![0, 0, 2816] q slices_S8x4112x5632_S8x4112x2816_0_0_2816)

/-- The product with the second weights. -/
def dn (a : FVec Ideal S8x4112x2816 .f32) (w : FVec Ideal S2816x1024 .f32) : FVec Ideal S8x4112x1024 .f32 :=
  Host.dotGeneral dot_S8x4112x2816_S2816x1024_S8x4112x1024_2_0_01_1_n_n none a w

/-- The residual of the normalised rows, behind 112 zero rows. -/
def fin (h d : FVec Ideal S8x4112x1024 .f32) (nw : FVec Ideal S1024 .f32) : FVec Ideal S8x4224x1024 .f32 :=
  concatenate S8x4224x1024 1 [⟨S8x112x1024, (broadcastInDim S8x112x1024 ![] bcast_S_S8x112x1024 (constant S_ .f32 0x00000000#32))⟩, ⟨S8x4112x1024, (addf h (mulf (mulf d (broadcastInDim S8x4112x1024 ![0, 1, 2] bcast_S8x4112x1_S8x4112x1024_0_1_2 (Host.rsqrt (addf (Host.divf (broadcastInDim S8x4112x1 ![0, 1] bcast_S8x4112_S8x4112x1_0_1 (Host.reduceAdd (mulf d d) (constant S_ .f32 0x00000000#32) reducesTo_S8x4112x1024_S8x4112_d2 h_S_)) (broadcastInDim S8x4112x1 ![] bcast_S_S8x4112x1 (constant S_ .f32 0x44800000#32))) (broadcastInDim S8x4112x1 ![] bcast_S_S8x4112x1 (constant S_ .f32 0x358637BD#32)))))) (broadcastInDim S8x4112x1024 ![0, 1, 2] bcast_S1x1x1024_S8x4112x1024_0_1_2 (broadcastInDim S1x1x1024 ![2] bcast_S1024_S1x1x1024_2 nw))))⟩] concatenates_S8x112x1024_S8x4112x1024_S8x4224x1024_d1

theorem nrm_ix (h : FVec Ideal S8x4112x1024 .f32) (nw : FVec Ideal S1024 .f32) (b : Fin 8) (t : Fin 4112) (x : Fin 1024) :
    nrm h nw (ix3 b t x) = h (ix3 b t x) * Rows.rs (fun y => h (ix3 b t y)) * nw (ix1 x) := by
  unfold Rows.rs
  pointwise [nrm]

theorem up_ix (n : FVec Ideal S8x4112x1024 .f32) (w : FVec Ideal S1024x5632 .f32) (b : Fin 8) (t : Fin 4112) (j : Fin 5632) :
    up n w (ix3 b t j) = ∑ x : Fin 1024, n (ix3 b t x) * w (ix2 x j) := by
  pointwise [up]

theorem pd_ix (u : FVec Ideal S8x4112x5632 .f32) (b : Fin 8) (t : Fin 4114) (j : Fin 5632) :
    pd u (ix3 b t j) = if h : 1 ≤ t.val ∧ t.val - 1 < 4112 then u (ix3 b ⟨t.val - 1, h.2⟩ j) else 0 := by
  have e : (FloatOps.sitofp (F := Ideal) FTy.f32 0#32 : EReal) = 0 := by
    show (((0#32 : BitVec 32).toInt : ℝ) : EReal) = 0
    simp
  pointwise [pd]
  rw [e]

theorem cv_ix (p : FVec Ideal S8x4114x5632 .f32) (cw : FVec Ideal S3x5632 .f32) (cb : FVec Ideal S5632 .f32) (b : Fin 8) (t : Fin 4112) (j : Fin 5632) :
    cv p cw cb (ix3 b t j) = p (ix3 b ⟨t.val, by omega⟩ j) * cw (ix2 0 j) + cb (ix1 j)
      + p (ix3 b ⟨1 + t.val, by omega⟩ j) * cw (ix2 1 j) + p (ix3 b ⟨2 + t.val, by omega⟩ j) * cw (ix2 2 j) := by
  pointwise [cv]

theorem act_ix (q : FVec Ideal S8x4112x5632 .f32) (b : Fin 8) (t : Fin 4112) (j : Fin 2816) :
    act q (ix3 b t j) = gl (q (ix3 b t ⟨j.val, by omega⟩)) * q (ix3 b t ⟨2816 + j.val, by omega⟩) := by
  unfold gl
  pointwise [act]

theorem dn_ix (a : FVec Ideal S8x4112x2816 .f32) (w : FVec Ideal S2816x1024 .f32) (b : Fin 8) (t : Fin 4112) (l : Fin 1024) :
    dn a w (ix3 b t l) = ∑ j : Fin 2816, a (ix3 b t j) * w (ix2 j l) := by
  pointwise [dn]

theorem fin_ix (h d : FVec Ideal S8x4112x1024 .f32) (nw : FVec Ideal S1024 .f32) (b : Fin 8) (i : Fin 4224) (l : Fin 1024) :
    fin h d nw (ix3 b i l) = if hi : 112 ≤ i.val then
      h (ix3 b ⟨i.val - 112, by omega⟩ l) + d (ix3 b ⟨i.val - 112, by omega⟩ l) * Rows.rs (fun y => d (ix3 b ⟨i.val - 112, by omega⟩ y)) * nw (ix1 l) else 0 := by
  unfold Rows.rs
  pointwise [fin]
  by_cases hi : i.val < 112
  · rw [dif_pos hi, dif_neg (by omega)]
  · rw [dif_neg hi, dif_pos (by omega)]

/-- The reference's result is the residual of the blocks above. -/
theorem res_eq (m : (ℓ : Loc nD τ sig) → Buf (Elt Ideal) ℓ) (c : Dev nD) :
    Cert.FfnReferenceIdeal.Value.res_main_v70 m c
      = fin (m ((c : Thread nD τ).loc main_arg0)) (dn (act (cv (pd (up (nrm (m ((c : Thread nD τ).loc main_arg0)) (m ((c : Thread nD τ).loc main_arg1)))
          (m ((c : Thread nD τ).loc main_arg2)))) (m ((c : Thread nD τ).loc main_arg3)) (m ((c : Thread nD τ).loc main_arg4)))) (m ((c : Thread nD τ).loc main_arg5)))
        (m ((c : Thread nD τ).loc main_arg6)) := rfl

end Cert.FfnReferenceIdeal.Row
end
-- ==== Proof.FfnTrip.lean ====
module

public import proofs.«01_k».proof.Proof.FfnIdealBody
public import proofs.«01_k».proof.Proof.FfnIdealKernel
public import proofs.«01_k».proof.Proof.Rows
public import proofs.«01_k».proof.Proof.WinMath
public import proofs.«01_k».proof.Proof.FfnRef
public import Idealize.ShloMosaic.Lib.Pointwise
public import Idealize.ShloMosaic.Lib.Tactic

@[expose] public section

set_option maxRecDepth 16384

noncomputable section

namespace Cert.FfnKernelIdeal.Body

open Cert.FfnKernelIdeal Cert.FfnKernelIdeal.Gen Idealize.ShloMosaic Idealize.ShloMosaic.TcCoe Idealize.SL.Sem
open Facts
open Cert.FfnReferenceIdeal.Row (gl)

/-- The loop runs once for each of the 11 chunks. -/
theorem trips_eq : k0_t1_loop.trips = 11 := by decide +kernel

/-- Where the loads of a trip start. -/
theorem offs : ∀ k : Fin k0_t1_loop.trips,
    (k0_off1 k = ![k.val, 0, 0] ∧ k0_off2 k = ![k.val, 0, 0] ∧ k0_off3 k = ![k.val, 0, 0] ∧ k0_off4 k = ![k.val, 1, 0] ∧ k0_off5 k = ![k.val, 2, 0])
    ∧ (k0_off6 k = ![11 + k.val, 0, 0] ∧ k0_off7 k = ![11 + k.val, 0, 0] ∧ k0_off8 k = ![11 + k.val, 0, 0] ∧ k0_off9 k = ![11 + k.val, 1, 0] ∧ k0_off10 k = ![11 + k.val, 2, 0])
    ∧ k0_off11 k = ![k.val, 0, 0] := by
  decide +kernel

theorem ld1 (W : Vec Ideal S22x1024x256 .bf16) (k : Fin k0_t1_loop.trips) (i : Fin 22) (hi : i.val = k.val) (y : Fin 1024) (z : Fin 256) :
    View.ld (Val := Elt Ideal) W (Rect.unit (s := S22x1024x256) (k0_off1 k) S1x1024x256.size (k0_off1_inb k)) (ix3 0 y z) = W (ix3 i y z) := by
  have h : k0_off1 k = ![k.val, 0, 0] := (offs k).1.1
  refine congrArg W (funext fun a => Fin.ext ?_)
  match a with
  | ⟨0, _⟩ => show k0_off1 k 0 + 1 * 0 = i.val; rw [h, hi]; rfl
  | ⟨1, _⟩ => show k0_off1 k 1 + 1 * y.val = y.val; rw [h]; show 0 + 1 * _ = _; omega
  | ⟨2, _⟩ => show k0_off1 k 2 + 1 * z.val = z.val; rw [h]; show 0 + 1 * _ = _; omega

theorem ld2 (W : Vec Ideal S22x3x256 .f32) (k : Fin k0_t1_loop.trips) (i : Fin 22) (hi : i.val = k.val) (z : Fin 256) :
    View.ld (Val := Elt Ideal) W (Rect.unit (s := S22x3x256) (k0_off2 k) S1x1x256.size (k0_off2_inb k)) (ix3 0 0 z) = W (ix3 i 0 z) := by
  have h : k0_off2 k = ![k.val, 0, 0] := (offs k).1.2.1
  refine congrArg W (funext fun a => Fin.ext ?_)
  match a with
  | ⟨0, _⟩ => show k0_off2 k 0 + 1 * 0 = i.val; rw [h, hi]; rfl
  | ⟨1, _⟩ => show k0_off2 k 1 + 1 * 0 = 0; rw [h]; show 0 + 1 * _ = _; omega
  | ⟨2, _⟩ => show k0_off2 k 2 + 1 * z.val = z.val; rw [h]; show 0 + 1 * _ = _; omega

theorem ld3 (W : Vec Ideal S22x1x256 .f32) (k : Fin k0_t1_loop.trips) (i : Fin 22) (hi : i.val = k.val) (z : Fin 256) :
    View.ld (Val := Elt Ideal) W (Rect.unit (s := S22x1x256) (k0_off3 k) S1x1x256.size (k0_off3_inb k)) (ix3 0 0 z) = W (ix3 i 0 z) := by
  have h : k0_off3 k = ![k.val, 0, 0] := (offs k).1.2.2.1
  refine congrArg W (funext fun a => Fin.ext ?_)
  match a with
  | ⟨0, _⟩ => show k0_off3 k 0 + 1 * 0 = i.val; rw [h, hi]; rfl
  | ⟨1, _⟩ => show k0_off3 k 1 + 1 * 0 = 0; rw [h]; show 0 + 1 * _ = _; omega
  | ⟨2, _⟩ => show k0_off3 k 2 + 1 * z.val = z.val; rw [h]; show 0 + 1 * _ = _; omega

theorem ld4 (W : Vec Ideal S22x3x256 .f32) (k : Fin k0_t1_loop.trips) (i : Fin 22) (hi : i.val = k.val) (z : Fin 256) :
    View.ld (Val := Elt Ideal) W (Rect.unit (s := S22x3x256) (k0_off4 k) S1x1x256.size (k0_off4_inb k)) (ix3 0 0 z) = W (ix3 i 1 z) := by
  have h : k0_off4 k = ![k.val, 1, 0] := (offs k).1.2.2.2.1
  refine congrArg W (funext fun a => Fin.ext ?_)
  match a with
  | ⟨0, _⟩ => show k0_off4 k 0 + 1 * 0 = i.val; rw [h, hi]; rfl
  | ⟨1, _⟩ => show k0_off4 k 1 + 1 * 0 = 1; rw [h]; show 1 + 1 * _ = _; omega
  | ⟨2, _⟩ => show k0_off4 k 2 + 1 * z.val = z.val; rw [h]; show 0 + 1 * _ = _; omega

theorem ld5 (W : Vec Ideal S22x3x256 .f32) (k : Fin k0_t1_loop.trips) (i : Fin 22) (hi : i.val = k.val) (z : Fin 256) :
    View.ld (Val := Elt Ideal) W (Rect.unit (s := S22x3x256) (k0_off5 k) S1x1x256.size (k0_off5_inb k)) (ix3 0 0 z) = W (ix3 i 2 z) := by
  have h : k0_off5 k = ![k.val, 2, 0] := (offs k).1.2.2.2.2
  refine congrArg W (funext fun a => Fin.ext ?_)
  match a with
  | ⟨0, _⟩ => show k0_off5 k 0 + 1 * 0 = i.val; rw [h, hi]; rfl
  | ⟨1, _⟩ => show k0_off5 k 1 + 1 * 0 = 2; rw [h]; show 2 + 1 * _ = _; omega
  | ⟨2, _⟩ => show k0_off5 k 2 + 1 * z.val = z.val; rw [h]; show 0 + 1 * _ = _; omega

theorem ld6 (W : Vec Ideal S22x1024x256 .bf16) (k : Fin k0_t1_loop.trips) (i : Fin 22) (hi : i.val = 11 + k.val) (y : Fin 1024) (z : Fin 256) :
    View.ld (Val := Elt Ideal) W (Rect.unit (s := S22x1024x256) (k0_off6 k) S1x1024x256.size (k0_off6_inb k)) (ix3 0 y z) = W (ix3 i y z) := by
  have h : k0_off6 k = ![11 + k.val, 0, 0] := (offs k).2.1.1
  refine congrArg W (funext fun a => Fin.ext ?_)
  match a with
  | ⟨0, _⟩ => show k0_off6 k 0 + 1 * 0 = i.val; rw [h, hi]; rfl
  | ⟨1, _⟩ => show k0_off6 k 1 + 1 * y.val = y.val; rw [h]; show 0 + 1 * _ = _; omega
  | ⟨2, _⟩ => show k0_off6 k 2 + 1 * z.val = z.val; rw [h]; show 0 + 1 * _ = _; omega

theorem ld7 (W : Vec Ideal S22x3x256 .f32) (k : Fin k0_t1_loop.trips) (i : Fin 22) (hi : i.val = 11 + k.val) (z : Fin 256) :
    View.ld (Val := Elt Ideal) W (Rect.unit (s := S22x3x256) (k0_off7 k) S1x1x256.size (k0_off7_inb k)) (ix3 0 0 z) = W (ix3 i 0 z) := by
  have h : k0_off7 k = ![11 + k.val, 0, 0] := (offs k).2.1.2.1
  refine congrArg W (funext fun a => Fin.ext ?_)
  match a with
  | ⟨0, _⟩ => show k0_off7 k 0 + 1 * 0 = i.val; rw [h, hi]; rfl
  | ⟨1, _⟩ => show k0_off7 k 1 + 1 * 0 = 0; rw [h]; show 0 + 1 * _ = _; omega
  | ⟨2, _⟩ => show k0_off7 k 2 + 1 * z.val = z.val; rw [h]; show 0 + 1 * _ = _; omega

theorem ld8 (W : Vec Ideal S22x1x256 .f32) (k : Fin k0_t1_loop.trips) (i : Fin 22) (hi : i.val = 11 + k.val) (z : Fin 256) :
    View.ld (Val := Elt Ideal) W (Rect.unit (s := S22x1x256) (k0_off8 k) S1x1x256.size (k0_off8_inb k)) (ix3 0 0 z) = W (ix3 i 0 z) := by
  have h : k0_off8 k = ![11 + k.val, 0, 0] := (offs k).2.1.2.2.1
  refine congrArg W (funext fun a => Fin.ext ?_)
  match a with
  | ⟨0, _⟩ => show k0_off8 k 0 + 1 * 0 = i.val; rw [h, hi]; rfl
  | ⟨1, _⟩ => show k0_off8 k 1 + 1 * 0 = 0; rw [h]; show 0 + 1 * _ = _; omega
  | ⟨2, _⟩ => show k0_off8 k 2 + 1 * z.val = z.val; rw [h]; show 0 + 1 * _ = _; omega

theorem ld9 (W : Vec Ideal S22x3x256 .f32) (k : Fin k0_t1_loop.trips) (i : Fin 22) (hi : i.val = 11 + k.val) (z : Fin 256) :
    View.ld (Val := Elt Ideal) W (Rect.unit (s := S22x3x256) (k0_off9 k) S1x1x256.size (k0_off9_inb k)) (ix3 0 0 z) = W (ix3 i 1 z) := by
  have h : k0_off9 k = ![11 + k.val, 1, 0] := (offs k).2.1.2.2.2.1
  refine congrArg W (funext fun a => Fin.ext ?_)
  match a with
  | ⟨0, _⟩ => show k0_off9 k 0 + 1 * 0 = i.val; rw [h, hi]; rfl
  | ⟨1, _⟩ => show k0_off9 k 1 + 1 * 0 = 1; rw [h]; show 1 + 1 * _ = _; omega
  | ⟨2, _⟩ => show k0_off9 k 2 + 1 * z.val = z.val; rw [h]; show 0 + 1 * _ = _; omega

theorem ld10 (W : Vec Ideal S22x3x256 .f32) (k : Fin k0_t1_loop.trips) (i : Fin 22) (hi : i.val = 11 + k.val) (z : Fin 256) :
    View.ld (Val := Elt Ideal) W (Rect.unit (s := S22x3x256) (k0_off10 k) S1x1x256.size (k0_off10_inb k)) (ix3 0 0 z) = W (ix3 i 2 z) := by
  have h : k0_off10 k = ![11 + k.val, 2, 0] := (offs k).2.1.2.2.2.2
  refine congrArg W (funext fun a => Fin.ext ?_)
  match a with
  | ⟨0, _⟩ => show k0_off10 k 0 + 1 * 0 = i.val; rw [h, hi]; rfl
  | ⟨1, _⟩ => show k0_off10 k 1 + 1 * 0 = 2; rw [h]; show 2 + 1 * _ = _; omega
  | ⟨2, _⟩ => show k0_off10 k 2 + 1 * z.val = z.val; rw [h]; show 0 + 1 * _ = _; omega

theorem ld11 (W : Vec Ideal S11x256x1024 .bf16) (k : Fin k0_t1_loop.trips) (i : Fin 11) (hi : i.val = k.val) (y : Fin 256) (z : Fin 1024) :
    View.ld (Val := Elt Ideal) W (Rect.unit (s := S11x256x1024) (k0_off11 k) S1x256x1024.size (k0_off11_inb k)) (ix3 0 y z) = W (ix3 i y z) := by
  have h : k0_off11 k = ![k.val, 0, 0] := (offs k).2.2
  refine congrArg W (funext fun a => Fin.ext ?_)
  match a with
  | ⟨0, _⟩ => show k0_off11 k 0 + 1 * 0 = i.val; rw [h, hi]; rfl
  | ⟨1, _⟩ => show k0_off11 k 1 + 1 * y.val = y.val; rw [h]; show 0 + 1 * _ = _; omega
  | ⟨2, _⟩ => show k0_off11 k 2 + 1 * z.val = z.val; rw [h]; show 0 + 1 * _ = _; omega

/-- The 384 rows of a scratch buffer from row 7. -/
theorem row7 (X : Vec Ideal S400x256 .f32) (r : Fin 384) (s : Fin 400) (hs : s.val = r.val + 7) (j : Fin 256) :
    View.ld (Val := Elt Ideal) X (Rect.unit (s := S400x256) ![7, 0] S384x256.size inb_S400x256_S384x256_7_0) (ix2 r j) = X (ix2 s j) := by
  refine congrArg X (funext fun a => Fin.ext ?_)
  match a with
  | ⟨0, _⟩ => show 7 + 1 * r.val = s.val; omega
  | ⟨1, _⟩ => show 0 + 1 * j.val = j.val; omega

/-- The 384 rows of a scratch buffer from row 8. -/
theorem row8 (X : Vec Ideal S400x256 .f32) (r : Fin 384) (s : Fin 400) (hs : s.val = r.val + 8) (j : Fin 256) :
    View.ld (Val := Elt Ideal) X (Rect.unit (s := S400x256) ![8, 0] S384x256.size inb_S400x256_S384x256_8_0) (ix2 r j) = X (ix2 s j) := by
  refine congrArg X (funext fun a => Fin.ext ?_)
  match a with
  | ⟨0, _⟩ => show 8 + 1 * r.val = s.val; omega
  | ⟨1, _⟩ => show 0 + 1 * j.val = j.val; omega

/-- The 384 rows of a scratch buffer from row 9. -/
theorem row9 (X : Vec Ideal S400x256 .f32) (r : Fin 384) (s : Fin 400) (hs : s.val = r.val + 9) (j : Fin 256) :
    View.ld (Val := Elt Ideal) X (Rect.unit (s := S400x256) ![9, 0] S384x256.size inb_S400x256_S384x256_9_0) (ix2 r j) = X (ix2 s j) := by
  refine congrArg X (funext fun a => Fin.ext ?_)
  match a with
  | ⟨0, _⟩ => show 9 + 1 * r.val = s.val; omega
  | ⟨1, _⟩ => show 0 + 1 * j.val = j.val; omega

/-- A scratch buffer stored whole and then in its last 8 rows: there it holds the second store. -/
theorem two_last (p : Vec Ideal S8x256 .f32) (w : Vec Ideal S400x256 .f32) (q : Fin 8) (j : Fin 256) :
    View.canon (Val := Elt Ideal) (s := S400x256) (e := .f32)
      [⟨Rect.unit (s := S400x256) ![392, 0] S8x256.size inb_S400x256_S8x256_392_0, p⟩,
       ⟨Rect.unit (s := S400x256) ![0, 0] S400x256.size inb_S400x256_S400x256_0_0, w⟩]
      ((Rect.unit (s := S400x256) ![392, 0] S8x256.size inb_S400x256_S8x256_392_0).emb (ix2 q j)) = p (ix2 q j) :=
  View.canon_cons_emb (Val := Elt Ideal) (s := S400x256) (e := .f32) (Rect.unit (s := S400x256) ![392, 0] S8x256.size inb_S400x256_S8x256_392_0) p
    [⟨Rect.unit (s := S400x256) ![0, 0] S400x256.size inb_S400x256_S400x256_0_0, w⟩] (ix2 q j)

/-- In the rows before, it holds the first. -/
theorem two_first (p : Vec Ideal S8x256 .f32) (w : Vec Ideal S400x256 .f32) (s : Fin 400) (h : ¬ 392 ≤ s.val) (j : Fin 256) :
    View.canon (Val := Elt Ideal) (s := S400x256) (e := .f32)
      [⟨Rect.unit (s := S400x256) ![392, 0] S8x256.size inb_S400x256_S8x256_392_0, p⟩,
       ⟨Rect.unit (s := S400x256) ![0, 0] S400x256.size inb_S400x256_S400x256_0_0, w⟩] (ix2 s j) = w (ix2 s j) := by
  have hn : (ix2 s j : S400x256.Idx) ∉ (Rect.unit (s := S400x256) ![392, 0] S8x256.size inb_S400x256_S8x256_392_0).set :=
    fun hm => h ((Rect.mem_set_unit.1 hm) 0).1
  have h0 : (![0, 0] : Fin 2 → ℕ) = fun _ => 0 := by funext i; fin_cases i <;> rfl
  refine (View.canon_cons_of_not_mem (Val := Elt Ideal) (s := S400x256) (e := .f32)
    ⟨Rect.unit (s := S400x256) ![392, 0] S8x256.size inb_S400x256_S8x256_392_0, p⟩
    [⟨Rect.unit (s := S400x256) ![0, 0] S400x256.size inb_S400x256_S400x256_0_0, w⟩] hn).trans ?_
  exact congrFun (View.canon_cons_unit_zero (Val := Elt Ideal) (S := S400x256) (e := .f32) h0 inb_S400x256_S400x256_0_0 w []) (ix2 s j)

/-- What a scratch buffer holds at a row and a column of a chunk. -/
def tileS (f : FVec Ideal S400x1024 .bf16) (tl : EReal) (w : Fin 1024 → EReal) (s : Fin 400) : EReal :=
  if 392 ≤ s.val then (∑ x : Fin 1024, f (ix2 s x) * w x) * tl else ∑ x : Fin 1024, f (ix2 s x) * w x

/-- The scratch buffer, by element. -/
theorem gtile_ix (f : FVec Ideal S400x1024 .bf16) (tl : EReal) (w : Vec Ideal S1x1024x256 .bf16) (s : Fin 400) (j : Fin 256) :
    gtile (F := Ideal) f tl w (ix2 s j) = tileS f tl (fun x => w (ix3 0 x j)) s := by
  have hp : ∀ s' : Fin 400, k0_pay3 (F := Ideal) f w (ix2 s' j) = ∑ x : Fin 1024, f (ix2 s' x) * w (ix3 0 x j) := by
    intro s'
    pointwise [k0_pay3, k0_pay2]
  unfold gtile tileS
  by_cases h : 392 ≤ s.val
  · rw [if_pos h]
    have e : (ix2 s j : S400x256.Idx) = (Rect.unit (s := S400x256) ![392, 0] S8x256.size inb_S400x256_S8x256_392_0).emb
        (ix2 (⟨s.val - 392, by omega⟩ : Fin 8) j) := by
      refine funext fun a => Fin.ext ?_
      match a with
      | ⟨0, _⟩ => show s.val = 392 + 1 * (s.val - 392); omega
      | ⟨1, _⟩ => show j.val = 0 + 1 * j.val; omega
    have hl : ∀ q : Fin 8, k0_pay4 (F := Ideal) f tl w (ix2 q j) = (∑ x : Fin 1024, f (ix2 (⟨392 + q.val, by omega⟩ : Fin 400) x) * w (ix3 0 x j)) * tl := by
      intro q
      pointwise [k0_pay4, k0_pay2]
    have hs : (⟨392 + (s.val - 392), by omega⟩ : Fin 400) = s := Fin.ext (by simp only; omega)
    refine (congrArg _ e).trans ((two_last _ _ _ j).trans ((hl _).trans ?_))
    rw [hs]
  · rw [if_neg h]
    exact (two_first _ _ s h j).trans (hp s)

/-- The scratch buffer, by element. -/
theorem utile_ix (f : FVec Ideal S400x1024 .bf16) (tl : EReal) (w : Vec Ideal S1x1024x256 .bf16) (s : Fin 400) (j : Fin 256) :
    utile (F := Ideal) f tl w (ix2 s j) = tileS f tl (fun x => w (ix3 0 x j)) s := by
  have hp : ∀ s' : Fin 400, k0_pay9 (F := Ideal) f w (ix2 s' j) = ∑ x : Fin 1024, f (ix2 s' x) * w (ix3 0 x j) := by
    intro s'
    pointwise [k0_pay9, k0_pay8]
  unfold utile tileS
  by_cases h : 392 ≤ s.val
  · rw [if_pos h]
    have e : (ix2 s j : S400x256.Idx) = (Rect.unit (s := S400x256) ![392, 0] S8x256.size inb_S400x256_S8x256_392_0).emb
        (ix2 (⟨s.val - 392, by omega⟩ : Fin 8) j) := by
      refine funext fun a => Fin.ext ?_
      match a with
      | ⟨0, _⟩ => show s.val = 392 + 1 * (s.val - 392); omega
      | ⟨1, _⟩ => show j.val = 0 + 1 * j.val; omega
    have hl : ∀ q : Fin 8, k0_pay10 (F := Ideal) f tl w (ix2 q j) = (∑ x : Fin 1024, f (ix2 (⟨392 + q.val, by omega⟩ : Fin 400) x) * w (ix3 0 x j)) * tl := by
      intro q
      pointwise [k0_pay10, k0_pay8]
    have hs : (⟨392 + (s.val - 392), by omega⟩ : Fin 400) = s := Fin.ext (by simp only; omega)
    refine (congrArg _ e).trans ((two_last _ _ _ j).trans ((hl _).trans ?_))
    rw [hs]
  · rw [if_neg h]
    exact (two_first _ _ s h j).trans (hp s)

/-- A chunk's column through the three taps, at an output row. -/
def cvS (f : FVec Ideal S400x1024 .bf16) (tl : EReal) (W6 : Vec Ideal S22x1024x256 .bf16) (W7 : Vec Ideal S22x3x256 .f32) (W8 : Vec Ideal S22x1x256 .f32)
    (c : Fin 22) (r : Fin 384) (j : Fin 256) : EReal :=
  tileS f tl (fun x => W6 (ix3 c x j)) ⟨r.val + 7, by omega⟩ * W7 (ix3 c 0 j) + W8 (ix3 c 0 j)
    + tileS f tl (fun x => W6 (ix3 c x j)) ⟨r.val + 8, by omega⟩ * W7 (ix3 c 1 j)
    + tileS f tl (fun x => W6 (ix3 c x j)) ⟨r.val + 9, by omega⟩ * W7 (ix3 c 2 j)

theorem pay21_ix (g u r9 : FVec Ideal S384x256 .f32) (w : Vec Ideal S1x1x256 .f32) (a : Vec Ideal S384x1024 .f32) (wd : Vec Ideal S1x256x1024 .bf16)
    (r : Fin 384) (l : Fin 1024) :
    k0_pay21 (F := Ideal) g u r9 w a wd (ix2 r l) = a (ix2 r l)
      + ∑ j : Fin 256, gl (g (ix2 r j)) * (u (ix2 r j) + r9 (ix2 r j) * w (ix3 0 0 j)) * wd (ix3 0 j l) := by
  have hg : ∀ j, gl (g (ix2 r j)) = g (ix2 r j) * (Ideal.ofBits .f32 0x3F000000#32 * (Ideal.ofBits .f32 0x3F800000#32 + Ideal.tanh (Ideal.ofBits .f32 0x3F4C422A#32 * (g (ix2 r j) + Ideal.ofBits .f32 0x3D372713#32 * (g (ix2 r j) * (g (ix2 r j) * g (ix2 r j))))))) := by
    intro j
    unfold gl
    rw [mul_comm (g (ix2 r j) * g (ix2 r j)) (g (ix2 r j))]
  simp only [hg]
  pointwise [k0_pay21]

/-- One trip, by element. -/
theorem step_ix (f : FVec Ideal S400x1024 .bf16) (tl : EReal) (W6 : Vec Ideal S22x1024x256 .bf16) (W7 : Vec Ideal S22x3x256 .f32) (W8 : Vec Ideal S22x1x256 .f32) (W9 : Vec Ideal S11x256x1024 .bf16)
    (k : Fin k0_t1_loop.trips) (k' : Fin 11) (hk : k.val = k'.val) (a : Vec Ideal S384x1024 .f32) (r : Fin 384) (l : Fin 1024) :
    step (F := Ideal) f tl W6 W7 W8 W9 k a (ix2 r l) = a (ix2 r l)
      + ∑ j : Fin 256, gl (cvS f tl W6 W7 W8 ⟨k'.val, by omega⟩ r j) * cvS f tl W6 W7 W8 ⟨11 + k'.val, by omega⟩ r j * W9 (ix3 k' j l) := by
  have h5 : ∀ (a7 : Vec Ideal S384x256 .f32) (w0 b0 : Vec Ideal S1x1x256 .f32) (a8 : Vec Ideal S384x256 .f32) (w1 : Vec Ideal S1x1x256 .f32) (a9 : Vec Ideal S384x256 .f32) (w2 : Vec Ideal S1x1x256 .f32) (j : Fin 256),
      k0_pay7 (F := Ideal) (k0_pay5 a7 w0 b0 a8 w1) a9 (k0_pay6 w2) (ix2 r j)
        = a7 (ix2 r j) * w0 (ix3 0 0 j) + b0 (ix3 0 0 j) + a8 (ix2 r j) * w1 (ix3 0 0 j) + a9 (ix2 r j) * w2 (ix3 0 0 j) := by
    intros; pointwise [k0_pay7, k0_pay5, k0_pay6]
  have h11 : ∀ (a7 : Vec Ideal S384x256 .f32) (w0 b0 : Vec Ideal S1x1x256 .f32) (a8 : Vec Ideal S384x256 .f32) (w1 : Vec Ideal S1x1x256 .f32) (j : Fin 256),
      k0_pay11 (F := Ideal) a7 w0 b0 a8 w1 (ix2 r j)
        = a7 (ix2 r j) * w0 (ix3 0 0 j) + b0 (ix3 0 0 j) + a8 (ix2 r j) * w1 (ix3 0 0 j) := by
    intros; pointwise [k0_pay11]
  unfold step
  rw [pay21_ix]
  refine congrArg (_ + ·) (Finset.sum_congr rfl fun j _ => ?_)
  rw [h5, h11, ld11 W9 k k' hk.symm]
  rw [row7 _ r ⟨r.val + 7, by omega⟩ rfl, row8 _ r ⟨r.val + 8, by omega⟩ rfl, row9 _ r ⟨r.val + 9, by omega⟩ rfl,
    row7 _ r ⟨r.val + 7, by omega⟩ rfl, row8 _ r ⟨r.val + 8, by omega⟩ rfl, row9 _ r ⟨r.val + 9, by omega⟩ rfl]
  simp only [gtile_ix, utile_ix]
  have e0 : (⟨k'.val, by omega⟩ : Fin 22).val = k.val := hk.symm
  have e1 : (⟨11 + k'.val, by omega⟩ : Fin 22).val = 11 + k.val := by simp only [hk]
  simp only [ld1 W6 k _ e0, ld2 W7 k _ e0, ld3 W8 k _ e0, ld4 W7 k _ e0, ld5 W7 k _ e0, ld6 W6 k _ e1, ld7 W7 k _ e1, ld8 W8 k _ e1, ld9 W7 k _ e1, ld10 W7 k _ e1]
  rfl

/-- The accumulator before trip `k` of an array that starts at `a`, by element: a sum over the chunks so far. -/
theorem accAt_ix (f : FVec Ideal S400x1024 .bf16) (tl : EReal) (W6 : Vec Ideal S22x1024x256 .bf16) (W7 : Vec Ideal S22x3x256 .f32) (W8 : Vec Ideal S22x1x256 .f32) (W9 : Vec Ideal S11x256x1024 .bf16)
    (a : Vec Ideal S384x1024 .f32) (r : Fin 384) (l : Fin 1024) : ∀ k : ℕ, k ≤ 11 →
    accAt (F := Ideal) f tl W6 W7 W8 W9 a k (ix2 r l) = a (ix2 r l)
      + ∑ c ∈ Finset.range k, (fun c => if h : c < 11 then ∑ j : Fin 256, gl (cvS f tl W6 W7 W8 ⟨c, by omega⟩ r j) * cvS f tl W6 W7 W8 ⟨11 + c, by omega⟩ r j * W9 (ix3 ⟨c, h⟩ j l) else 0) c := by
  intro k
  induction k with
  | zero => intro _; rw [Finset.range_zero, Finset.sum_empty, add_zero]; rfl
  | succ k ih =>
    intro hk
    have hk' : k < k0_t1_loop.trips := by rw [trips_eq]; omega
    rw [accAt_succ f tl W6 W7 W8 W9 a ⟨k, hk'⟩, step_ix f tl W6 W7 W8 W9 ⟨k, hk'⟩ ⟨k, by omega⟩ rfl, ih (by omega),
      Finset.sum_range_succ, add_assoc]
    refine congrArg (_ + ·) (congrArg (_ + ·) ?_)
    show _ = dite (k < 11) _ _
    rw [dif_pos (show k < 11 by omega)]

/-- A sum over 2816 columns, chunk by chunk. -/
theorem sum_chunks (f : Fin 2816 → EReal) :
    ∑ c : Fin 11, ∑ j : Fin 256, f ⟨c.val * 256 + j.val, by omega⟩ = ∑ x, f x := by
  rw [← (finProdFinEquiv (m := 11) (n := 256)).sum_comp (fun x => f x), Fintype.sum_prod_type]
  refine Finset.sum_congr rfl fun c _ => Finset.sum_congr rfl fun j _ => congrArg f (Fin.ext ?_)
  show c.val * 256 + j.val = j.val + 256 * c.val
  omega

/-- The accumulator after the last trip, from zero, by element. -/
theorem accAll_ix (f : FVec Ideal S400x1024 .bf16) (tl : EReal) (W6 : Vec Ideal S22x1024x256 .bf16) (W7 : Vec Ideal S22x3x256 .f32) (W8 : Vec Ideal S22x1x256 .f32) (W9 : Vec Ideal S11x256x1024 .bf16)
    (r : Fin 384) (l : Fin 1024) :
    accAt (F := Ideal) f tl W6 W7 W8 W9 (k0_pay20 (F := Ideal)) k0_t1_loop.trips (ix2 r l)
      = ∑ c : Fin 11, ∑ j : Fin 256, gl (cvS f tl W6 W7 W8 ⟨c.val, by omega⟩ r j) * cvS f tl W6 W7 W8 ⟨11 + c.val, by omega⟩ r j * W9 (ix3 c j l) := by
  have h0 : k0_pay20 (F := Ideal) (ix2 r l) = 0 := by
    have e : k0_pay20 (F := Ideal) (ix2 r l) = Ideal.ofBits .f32 0#32 := by pointwise [k0_pay20]
    rw [e, Rows.ofBits_zero]
  rw [trips_eq, accAt_ix f tl W6 W7 W8 W9 _ r l 11 (le_refl _), h0, zero_add, Finset.sum_range]
  exact Finset.sum_congr rfl fun c _ => dif_pos c.isLt

/-- The 400 normalised rows of a point, by element. -/
theorem rows_ix (x0 : Vec Ideal S1x384x1024 .f32) (x1 x2 : Vec Ideal S1x8x1024 .f32) (x3 : Vec Ideal S1x1024 .f32) (s : Fin 400) (x : Fin 1024) :
    k0_pay18 (F := Ideal) (k0_pay12 x3) (k0_pay13 x3 x1) (k0_pay14 x3 x0) (k0_pay15 x2) (k0_pay16 x2) (k0_pay17 (F := Ideal)) (ix2 s x)
      = if h : s.val < 8 then x1 (ix3 0 ⟨s.val, h⟩ x) * Rows.rs (fun y => x1 (ix3 0 ⟨s.val, h⟩ y)) * x3 (ix2 0 x)
        else if h : s.val - 8 < 384 then x0 (ix3 0 ⟨s.val - 8, h⟩ x) * Rows.rs (fun y => x0 (ix3 0 ⟨s.val - 8, h⟩ y)) * x3 (ix2 0 x)
        else x2 (ix3 0 ⟨s.val - 8 - 384, by omega⟩ x) * Rows.rs (fun y => x2 (ix3 0 ⟨s.val - 8 - 384, by omega⟩ y)) * x3 (ix2 0 x) := by
  unfold Rows.rs
  pointwise [k0_pay18, k0_pay12, k0_pay13, k0_pay14, k0_pay15, k0_pay16, k0_pay17]

/-- The tail's factor is one before the last row block and zero at it. -/
theorem tail_ix (n : ℕ) (hn : n < 11) :
    k0_pay19 (F := Ideal) (BitVec.ofNat 32 n) = if n < 10 then Ideal.ofBits .f32 0x3F800000#32 else 0 := by
  have h : Scalar.cmpi CmpIPredicate.slt (BitVec.ofNat 32 n) 10#32 = if n < 10 then 1#1 else 0#1 := by
    interval_cases n <;> rfl
  show Scalar.select (Scalar.cmpi CmpIPredicate.slt (BitVec.ofNat 32 n) 10#32) (Ideal.ofBits .f32 0x3F800000#32) (Ideal.ofBits .f32 0#32) = _
  rw [h, Rows.select_if, Rows.ofBits_zero]

/-- The block written at a point, by element, from the accumulator. -/
theorem out9_ix (i : grid0.Coords) (n : ℕ) (hn : n < 11) (hi : (i 1).val = n) (x0 x1 x2 x3 x4 x5 x6 x7 x8) (r : Fin 384) (l : Fin 1024) :
    out9 (F := Ideal) i x0 x1 x2 x3 x4 x5 x6 x7 x8 (ix3 0 r l)
      = if 112 ≤ n * 384 + r.val then
          x0 (ix3 0 r l) + accEnd (F := Ideal) i x0 x1 x2 x3 x4 x5 x6 x7 x8 (ix2 r l)
            * Rows.rs (fun y => accEnd (F := Ideal) i x0 x1 x2 x3 x4 x5 x6 x7 x8 (ix2 r y)) * x8 (ix2 0 l) else 0 := by
  unfold out9
  generalize accEnd (F := Ideal) i x0 x1 x2 x3 x4 x5 x6 x7 x8 = a
  have e : k0_pay1 (F := Ideal) (k0_pay22 x0 a x8) (k0_pay23 (BitVec.ofNat 32 (i 1).val)) (ix3 0 r l) = Scalar.select
      (IntOp.cmpi CmpIPredicate.sge (IntOp.addi (Scalar.muli (BitVec.ofNat 32 (i 1).val) 384#32) (BitVec.ofNat 32 r.val))
        112#32) (x0 (ix3 0 r l) + a (ix2 r l) * Rows.rs (fun y => a (ix2 r y)) * x8 (ix2 0 l)) 0 := by
    unfold Rows.rs
    pointwise [k0_pay1, k0_pay22, k0_pay23]
  have w : IntOp.addi (Scalar.muli (BitVec.ofNat 32 n) 384#32) (BitVec.ofNat 32 r.val) = BitVec.ofNat 32 (n * 384 + r.val) := by
    rw [BitVec.ofNat_add, BitVec.ofNat_mul]; rfl
  rw [e, hi, w, WinMath.sge_nat _ 112 (by omega) (by omega), Rows.select_if]

end Cert.FfnKernelIdeal.Body
end
-- ==== Proof.FfnValue.lean ====
module

public import proofs.«01_k».proof.Proof.FfnIdealFrame
public import proofs.«01_k».proof.Proof.FfnTrip
public import Idealize.ShloMosaic.Lib.Pipeline.Covers

@[expose] public section

set_option maxRecDepth 16384

noncomputable section

namespace Cert.FfnKernelIdeal.Value2

open Cert.FfnKernelIdeal Cert.FfnKernelIdeal.Gen Idealize.ShloMosaic Idealize.ShloMosaic.TcCoe Idealize.SL.Sem
open Idealize.ShloMosaic.Pipeline (Dat)
open Facts Cert.FfnKernelIdeal.Body
open Cert.FfnReferenceIdeal.Row (gl nrm up pd cv act dn fin nrm_ix up_ix pd_ix cv_ix act_ix dn_ix fin_ix)

variable (m : (ℓ : Loc nD τ sig) → Buf (Elt Ideal) ℓ)

/-- Which block of its array each window reads or writes at a point. -/
theorem index_facts : ∀ t : Fin cfg0.N,
    ((cfg0.win 0).index t 0 = t.val / 11 ∧ (cfg0.win 0).index t 1 = t.val % 11 ∧ (cfg0.win 0).index t 2 = 0)
    ∧ ((cfg0.win 1).index t 0 = t.val / 11 ∧ (cfg0.win 1).index t 1 = 48 * (t.val % 11) - 1 ∧ (cfg0.win 1).index t 2 = 0)
    ∧ ((cfg0.win 2).index t 0 = t.val / 11 ∧ (cfg0.win 2).index t 1 = min (48 * (t.val % 11) + 48) 527 ∧ (cfg0.win 2).index t 2 = 0)
    ∧ ((cfg0.win 3).index t 0 = 0 ∧ (cfg0.win 3).index t 1 = 0)
    ∧ ((cfg0.win 4).index t 0 = 0 ∧ (cfg0.win 4).index t 1 = 0 ∧ (cfg0.win 4).index t 2 = 0)
    ∧ ((cfg0.win 5).index t 0 = 0 ∧ (cfg0.win 5).index t 1 = 0 ∧ (cfg0.win 5).index t 2 = 0)
    ∧ ((cfg0.win 6).index t 0 = 0 ∧ (cfg0.win 6).index t 1 = 0 ∧ (cfg0.win 6).index t 2 = 0)
    ∧ ((cfg0.win 7).index t 0 = 0 ∧ (cfg0.win 7).index t 1 = 0 ∧ (cfg0.win 7).index t 2 = 0)
    ∧ ((cfg0.win 8).index t 0 = 0 ∧ (cfg0.win 8).index t 1 = 0)
    ∧ ((cfg0.win 9).index t 0 = t.val / 11 ∧ (cfg0.win 9).index t 1 = t.val % 11 ∧ (cfg0.win 9).index t 2 = 0) := by
  decide +kernel

/-- The second grid coordinate of a point: the row block. -/
theorem coords_facts : ∀ t : Fin cfg0.N, (grid0.coords t 1).val = t.val % 11 := by
  decide +kernel

/-- The number of grid points. -/
theorem N_eq : cfg0.N = 88 := by decide

/-- A block of the padded residual at a point, by element. -/
theorem iblk0 (c : Dev nD) (t : Fin cfg0.N) (y : Fin 384) (z : Fin 1024) (i : S8x4224x1024.Idx)
    (h0 : (i 0).val = t.val / 11) (h1 : (i 1).val = (t.val % 11) * 384 + y.val) (h2 : (i 2).val = z.val) :
    iblk m c 0 t (ix3 0 y z) = V m c main_v1 i := by
  obtain ⟨f0, f1, f2⟩ := (index_facts t).1
  blk_simp [iblk]
  show V m c main_v1 _ = _
  refine congrArg (V m c main_v1) (funext fun a => Fin.ext ?_)
  refine (Pipeline.Window.rect_emb_val (cfg0.win 0) t (ix3 0 y z) a).trans ?_
  match a with
  | ⟨0, _⟩ => show (cfg0.win 0).index t 0 * 1 + 0 = (i 0).val; rw [f0, h0]; try omega
  | ⟨1, _⟩ => show (cfg0.win 0).index t 1 * 384 + y.val = (i 1).val; rw [f1, h1]; try omega
  | ⟨2, _⟩ => show (cfg0.win 0).index t 2 * 1024 + z.val = (i 2).val; rw [f2, h2]; try omega

/-- A block of the padded residual at a point, by element. -/
theorem iblk1 (c : Dev nD) (t : Fin cfg0.N) (y : Fin 8) (z : Fin 1024) (i : S8x4224x1024.Idx)
    (h0 : (i 0).val = t.val / 11) (h1 : (i 1).val = (48 * (t.val % 11) - 1) * 8 + y.val) (h2 : (i 2).val = z.val) :
    iblk m c 1 t (ix3 0 y z) = V m c main_v1 i := by
  obtain ⟨f0, f1, f2⟩ := (index_facts t).2.1
  blk_simp [iblk]
  show V m c main_v1 _ = _
  refine congrArg (V m c main_v1) (funext fun a => Fin.ext ?_)
  refine (Pipeline.Window.rect_emb_val (cfg0.win 1) t (ix3 0 y z) a).trans ?_
  match a with
  | ⟨0, _⟩ => show (cfg0.win 1).index t 0 * 1 + 0 = (i 0).val; rw [f0, h0]; try omega
  | ⟨1, _⟩ => show (cfg0.win 1).index t 1 * 8 + y.val = (i 1).val; rw [f1, h1]; try omega
  | ⟨2, _⟩ => show (cfg0.win 1).index t 2 * 1024 + z.val = (i 2).val; rw [f2, h2]; try omega

/-- A block of the padded residual at a point, by element. -/
theorem iblk2 (c : Dev nD) (t : Fin cfg0.N) (y : Fin 8) (z : Fin 1024) (i : S8x4224x1024.Idx)
    (h0 : (i 0).val = t.val / 11) (h1 : (i 1).val = (min (48 * (t.val % 11) + 48) 527) * 8 + y.val) (h2 : (i 2).val = z.val) :
    iblk m c 2 t (ix3 0 y z) = V m c main_v1 i := by
  obtain ⟨f0, f1, f2⟩ := (index_facts t).2.2.1
  blk_simp [iblk]
  show V m c main_v1 _ = _
  refine congrArg (V m c main_v1) (funext fun a => Fin.ext ?_)
  refine (Pipeline.Window.rect_emb_val (cfg0.win 2) t (ix3 0 y z) a).trans ?_
  match a with
  | ⟨0, _⟩ => show (cfg0.win 2).index t 0 * 1 + 0 = (i 0).val; rw [f0, h0]; try omega
  | ⟨1, _⟩ => show (cfg0.win 2).index t 1 * 8 + y.val = (i 1).val; rw [f1, h1]; try omega
  | ⟨2, _⟩ => show (cfg0.win 2).index t 2 * 1024 + z.val = (i 2).val; rw [f2, h2]; try omega

/-- The block of a window that is its whole array. -/
theorem iblk3 (c : Dev nD) (t : Fin cfg0.N) (y : Fin 1024) (i : S1x1024.Idx)
    (h0 : (i 0).val = 0) (h1 : (i 1).val = y.val) :
    iblk m c 3 t (ix2 0 y) = V m c main_v2 i := by
  obtain ⟨f0, f1⟩ := (index_facts t).2.2.2.1
  blk_simp [iblk]
  show V m c main_v2 _ = _
  refine congrArg (V m c main_v2) (funext fun a => Fin.ext ?_)
  refine (Pipeline.Window.rect_emb_val (cfg0.win 3) t (ix2 0 y) a).trans ?_
  match a with
  | ⟨0, _⟩ => show (cfg0.win 3).index t 0 * 1 + 0 = (i 0).val; rw [f0, h0]; try omega
  | ⟨1, _⟩ => show (cfg0.win 3).index t 1 * 1024 + y.val = (i 1).val; rw [f1, h1]; try omega

/-- The block of a window that is its whole array. -/
theorem iblk4 (c : Dev nD) (t : Fin cfg0.N) (x : Fin 22) (y : Fin 1024) (z : Fin 256) (i : S22x1024x256.Idx)
    (h0 : (i 0).val = x.val) (h1 : (i 1).val = y.val) (h2 : (i 2).val = z.val) :
    iblk m c 4 t (ix3 x y z) = V m c main_v5 i := by
  obtain ⟨f0, f1, f2⟩ := (index_facts t).2.2.2.2.1
  blk_simp [iblk]
  show V m c main_v5 _ = _
  refine congrArg (V m c main_v5) (funext fun a => Fin.ext ?_)
  refine (Pipeline.Window.rect_emb_val (cfg0.win 4) t (ix3 x y z) a).trans ?_
  match a with
  | ⟨0, _⟩ => show (cfg0.win 4).index t 0 * 22 + x.val = (i 0).val; rw [f0, h0]; try omega
  | ⟨1, _⟩ => show (cfg0.win 4).index t 1 * 1024 + y.val = (i 1).val; rw [f1, h1]; try omega
  | ⟨2, _⟩ => show (cfg0.win 4).index t 2 * 256 + z.val = (i 2).val; rw [f2, h2]; try omega

/-- The block of a window that is its whole array. -/
theorem iblk5 (c : Dev nD) (t : Fin cfg0.N) (x : Fin 22) (y : Fin 3) (z : Fin 256) (i : S22x3x256.Idx)
    (h0 : (i 0).val = x.val) (h1 : (i 1).val = y.val) (h2 : (i 2).val = z.val) :
    iblk m c 5 t (ix3 x y z) = V m c main_v7 i := by
  obtain ⟨f0, f1, f2⟩ := (index_facts t).2.2.2.2.2.1
  blk_simp [iblk]
  show V m c main_v7 _ = _
  refine congrArg (V m c main_v7) (funext fun a => Fin.ext ?_)
  refine (Pipeline.Window.rect_emb_val (cfg0.win 5) t (ix3 x y z) a).trans ?_
  match a with
  | ⟨0, _⟩ => show (cfg0.win 5).index t 0 * 22 + x.val = (i 0).val; rw [f0, h0]; try omega
  | ⟨1, _⟩ => show (cfg0.win 5).index t 1 * 3 + y.val = (i 1).val; rw [f1, h1]; try omega
  | ⟨2, _⟩ => show (cfg0.win 5).index t 2 * 256 + z.val = (i 2).val; rw [f2, h2]; try omega

/-- The block of a window that is its whole array. -/
theorem iblk6 (c : Dev nD) (t : Fin cfg0.N) (x : Fin 22) (z : Fin 256) (i : S22x1x256.Idx)
    (h0 : (i 0).val = x.val) (h1 : (i 1).val = 0) (h2 : (i 2).val = z.val) :
    iblk m c 6 t (ix3 x 0 z) = V m c main_v10 i := by
  obtain ⟨f0, f1, f2⟩ := (index_facts t).2.2.2.2.2.2.1
  blk_simp [iblk]
  show V m c main_v10 _ = _
  refine congrArg (V m c main_v10) (funext fun a => Fin.ext ?_)
  refine (Pipeline.Window.rect_emb_val (cfg0.win 6) t (ix3 x 0 z) a).trans ?_
  match a with
  | ⟨0, _⟩ => show (cfg0.win 6).index t 0 * 22 + x.val = (i 0).val; rw [f0, h0]; try omega
  | ⟨1, _⟩ => show (cfg0.win 6).index t 1 * 1 + 0 = (i 1).val; rw [f1, h1]; try omega
  | ⟨2, _⟩ => show (cfg0.win 6).index t 2 * 256 + z.val = (i 2).val; rw [f2, h2]; try omega

/-- The block of a window that is its whole array. -/
theorem iblk7 (c : Dev nD) (t : Fin cfg0.N) (x : Fin 11) (y : Fin 256) (z : Fin 1024) (i : S11x256x1024.Idx)
    (h0 : (i 0).val = x.val) (h1 : (i 1).val = y.val) (h2 : (i 2).val = z.val) :
    iblk m c 7 t (ix3 x y z) = V m c main_v12 i := by
  obtain ⟨f0, f1, f2⟩ := (index_facts t).2.2.2.2.2.2.2.1
  blk_simp [iblk]
  show V m c main_v12 _ = _
  refine congrArg (V m c main_v12) (funext fun a => Fin.ext ?_)
  refine (Pipeline.Window.rect_emb_val (cfg0.win 7) t (ix3 x y z) a).trans ?_
  match a with
  | ⟨0, _⟩ => show (cfg0.win 7).index t 0 * 11 + x.val = (i 0).val; rw [f0, h0]; try omega
  | ⟨1, _⟩ => show (cfg0.win 7).index t 1 * 256 + y.val = (i 1).val; rw [f1, h1]; try omega
  | ⟨2, _⟩ => show (cfg0.win 7).index t 2 * 1024 + z.val = (i 2).val; rw [f2, h2]; try omega

/-- The block of a window that is its whole array. -/
theorem iblk8 (c : Dev nD) (t : Fin cfg0.N) (y : Fin 1024) (i : S1x1024.Idx)
    (h0 : (i 0).val = 0) (h1 : (i 1).val = y.val) :
    iblk m c 8 t (ix2 0 y) = V m c main_v13 i := by
  obtain ⟨f0, f1⟩ := (index_facts t).2.2.2.2.2.2.2.2.1
  blk_simp [iblk]
  show V m c main_v13 _ = _
  refine congrArg (V m c main_v13) (funext fun a => Fin.ext ?_)
  refine (Pipeline.Window.rect_emb_val (cfg0.win 8) t (ix2 0 y) a).trans ?_
  match a with
  | ⟨0, _⟩ => show (cfg0.win 8).index t 0 * 1 + 0 = (i 0).val; rw [f0, h0]; try omega
  | ⟨1, _⟩ => show (cfg0.win 8).index t 1 * 1024 + y.val = (i 1).val; rw [f1, h1]; try omega

/-- The padded residual the region finds, by element. -/
theorem V_v1 (c : Dev nD) (b : Fin 8) (i : Fin 4224) (x : Fin 1024) :
    V m c main_v1 (ix3 b i x) = if h : i.val < 112 then (0 : EReal) else m ((c : Thread nD τ).loc main_arg0) (ix3 b ⟨i.val - 112, by omega⟩ x) := by
  have e : (V m c main_v1 : FVec Ideal S8x4224x1024 .f32) = concatenate S8x4224x1024 1 [⟨S8x112x1024, broadcastInDim S8x112x1024 ![] bcast_S_S8x112x1024 (constant (F := Ideal) S_ .f32 0x00000000#32)⟩, ⟨S8x4112x1024, (m ((c : Thread nD τ).loc main_arg0) : FVec Ideal S8x4112x1024 .f32)⟩] concatenates_S8x112x1024_S8x4112x1024_S8x4224x1024_d1 := by
    unfold V
    simp only [hostOps0]
    after_results <;> rfl
  rw [e]
  pointwise

/-- The first normalisation weights the region finds, by element. -/
theorem V_v2 (c : Dev nD) (y : Fin 1024) :
    V m c main_v2 (ix2 0 y) = m ((c : Thread nD τ).loc main_arg1) (ix1 y) := by
  have e : (V m c main_v2 : FVec Ideal S1x1024 .f32) = shapeCast S1x1024 (m ((c : Thread nD τ).loc main_arg1) : FVec Ideal S1024 .f32) shapeCasts_S1024_S1x1024 := by
    unfold V
    simp only [hostOps0]
    after_results <;> rfl
  rw [e]
  pointwise

/-- The second normalisation weights the region finds, by element. -/
theorem V_v13 (c : Dev nD) (y : Fin 1024) :
    V m c main_v13 (ix2 0 y) = m ((c : Thread nD τ).loc main_arg6) (ix1 y) := by
  have e : (V m c main_v13 : FVec Ideal S1x1024 .f32) = shapeCast S1x1024 (m ((c : Thread nD τ).loc main_arg6) : FVec Ideal S1024 .f32) shapeCasts_S1024_S1x1024 := by
    unfold V
    simp only [hostOps0]
    after_results <;> rfl
  rw [e]
  pointwise

/-- The first weights the region finds, by element. -/
theorem V_v5 (c : Dev nD) (q : Fin 22) (x : Fin 1024) (j : Fin 256) :
    V m c main_v5 (ix3 q x j) = m ((c : Thread nD τ).loc main_arg2) (ix2 x (⟨q.val * 256 + j.val, by omega⟩ : Fin 5632)) := by
  have e : (V m c main_v5 : FVec Ideal S22x1024x256 .bf16) = transpose S22x1024x256 [1, 0, 2] (shapeCast S1024x22x256 (truncf (F := Ideal) (φ := .f32) .bf16 (m ((c : Thread nD τ).loc main_arg2)) bitsLt_bf16_f32) shapeCasts_S1024x5632_S1024x22x256) transposes_S1024x22x256_S22x1024x256_1_0_2 := by
    unfold V
    simp only [hostOps0]
    after_results <;> rfl
  rw [e]
  pointwise

/-- The taps the region finds, by element. -/
theorem V_v7 (c : Dev nD) (q : Fin 22) (x : Fin 3) (j : Fin 256) :
    V m c main_v7 (ix3 q x j) = m ((c : Thread nD τ).loc main_arg3) (ix2 x (⟨q.val * 256 + j.val, by omega⟩ : Fin 5632)) := by
  have e : (V m c main_v7 : FVec Ideal S22x3x256 .f32) = transpose S22x3x256 [1, 0, 2] (shapeCast S3x22x256 (m ((c : Thread nD τ).loc main_arg3) : FVec Ideal S3x5632 .f32) shapeCasts_S3x5632_S3x22x256) transposes_S3x22x256_S22x3x256_1_0_2 := by
    unfold V
    simp only [hostOps0]
    after_results <;> rfl
  rw [e]
  pointwise

/-- The convolution's bias the region finds, by element. -/
theorem V_v10 (c : Dev nD) (q : Fin 22) (j : Fin 256) :
    V m c main_v10 (ix3 q 0 j) = m ((c : Thread nD τ).loc main_arg4) (ix1 (⟨q.val * 256 + j.val, by omega⟩ : Fin 5632)) := by
  have e : (V m c main_v10 : FVec Ideal S22x1x256 .f32) = transpose S22x1x256 [1, 0, 2] (shapeCast S1x22x256 (shapeCast S1x5632 (m ((c : Thread nD τ).loc main_arg4) : FVec Ideal S5632 .f32) shapeCasts_S5632_S1x5632) shapeCasts_S1x5632_S1x22x256) transposes_S1x22x256_S22x1x256_1_0_2 := by
    unfold V
    simp only [hostOps0]
    after_results <;> rfl
  rw [e]
  refine (transpose_apply _ _ _ (ix3 q 0 j) (ix3 0 q j) ?_).trans ((shapeCast_apply _ _ (ix3 0 q j) (ix2 0 (⟨q.val * 256 + j.val, by omega⟩ : Fin 5632)) ?_).trans
    (shapeCast_apply _ _ (ix2 0 (⟨q.val * 256 + j.val, by omega⟩ : Fin 5632)) (ix1 (⟨q.val * 256 + j.val, by omega⟩ : Fin 5632)) ?_))
  · intro b
    fin_cases b <;> rfl
  · rw [Shape.rowMajor_val_two, Shape.rowMajor_val_three]
    show 0 * 5632 + (q.val * 256 + j.val) = (0 * 22 + q.val) * 256 + j.val
    omega
  · rw [Shape.rowMajor_val_two, Shape.rowMajor_val_one]
    show q.val * 256 + j.val = 0 * 5632 + (q.val * 256 + j.val)
    omega

/-- The second weights the region finds, by element. -/
theorem V_v12 (c : Dev nD) (q : Fin 11) (j : Fin 256) (l : Fin 1024) :
    V m c main_v12 (ix3 q j l) = m ((c : Thread nD τ).loc main_arg5) (ix2 (⟨q.val * 256 + j.val, by omega⟩ : Fin 2816) l) := by
  have e : (V m c main_v12 : FVec Ideal S11x256x1024 .bf16) = shapeCast S11x256x1024 (truncf (F := Ideal) (φ := .f32) .bf16 (m ((c : Thread nD τ).loc main_arg5)) bitsLt_bf16_f32) shapeCasts_S2816x1024_S11x256x1024 := by
    unfold V
    simp only [hostOps0]
    after_results <;> rfl
  rw [e]
  refine (shapeCast_apply _ _ (ix3 q j l) (ix2 (⟨q.val * 256 + j.val, by omega⟩ : Fin 2816) l) ?_).trans rfl
  rw [Shape.rowMajor_val_two, Shape.rowMajor_val_three]
  rfl

/-- The 400 normalised rows of a point. -/
abbrev rowsAt (c : Dev nD) (t : Fin cfg0.N) : FVec Ideal S400x1024 .bf16 :=
  k0_pay18 (F := Ideal) (k0_pay12 (iblk m c 3 t)) (k0_pay13 (iblk m c 3 t) (iblk m c 1 t)) (k0_pay14 (iblk m c 3 t) (iblk m c 0 t)) (k0_pay15 (iblk m c 2 t)) (k0_pay16 (iblk m c 2 t)) (k0_pay17 (F := Ideal))

/-- A row of a point is a row of the padded residual, normalised. -/
theorem rows_at (c : Dev nD) (t : Fin cfg0.N) (s : Fin 400) (b : Fin 8) (g : Fin 4224)
    (hb : b.val = t.val / 11) (hg : g.val + 8 = 384 * (t.val % 11) + s.val) (f nw : Fin 1024 → EReal)
    (hf : ∀ y, V m c main_v1 (ix3 b g y) = f y) (hnw : ∀ y, (m ((c : Thread nD τ).loc main_arg1)) (ix1 y) = nw y) (x : Fin 1024) :
    rowsAt m c t (ix2 s x) = f x * Rows.rs f * nw x := by
  have hn : iblk m c 3 t (ix2 0 x) = nw x := by
    rw [iblk3 m c t x (ix2 0 x) rfl (by show x.val = _; omega), V_v2, hnw]
  refine (rows_ix _ _ _ _ s x).trans ?_
  have hg4 := g.isLt
  by_cases h : s.val < 8
  · rw [dif_pos h, hn]
    have e : ∀ y, iblk m c 1 t (ix3 0 ⟨s.val, h⟩ y) = f y := fun y =>
      (iblk1 m c t ⟨s.val, h⟩ y (ix3 b g y) hb (by show g.val = (48 * (t.val % 11) - 1) * 8 + s.val; omega) rfl).trans (hf y)
    simp only [e]
  · rw [dif_neg h]
    by_cases h' : s.val - 8 < 384
    · rw [dif_pos h', hn]
      have e : ∀ y, iblk m c 0 t (ix3 0 ⟨s.val - 8, h'⟩ y) = f y := fun y =>
        (iblk0 m c t ⟨s.val - 8, h'⟩ y (ix3 b g y) hb (by show g.val = t.val % 11 * 384 + (s.val - 8); omega) rfl).trans (hf y)
      simp only [e]
    · rw [dif_neg h', hn]
      have e : ∀ y, iblk m c 2 t (ix3 0 ⟨s.val - 8 - 384, by omega⟩ y) = f y := fun y =>
        (iblk2 m c t ⟨s.val - 8 - 384, by omega⟩ y (ix3 b g y) hb (by show g.val = min (48 * (t.val % 11) + 48) 527 * 8 + (s.val - 8 - 384); omega) rfl).trans (hf y)
      simp only [e]

variable [Cert.FfnReferenceIdeal.Facts]

/-- The reference's padded products of what a launch starts from. -/
abbrev prods (c : Dev nD) : FVec Ideal Cert.FfnReferenceIdeal.S8x4114x5632 .f32 := pd (up (nrm (m ((c : Thread nD τ).loc main_arg0)) (m ((c : Thread nD τ).loc main_arg1))) (m ((c : Thread nD τ).loc main_arg2)))

/-- A scratch buffer of a point holds the reference's padded products. -/
theorem tile_at (c : Dev nD) (t : Fin cfg0.N) (s : Fin 400) (b : Fin 8) (u : Fin 4114) (q : Fin 22) (j : Fin 256)
    (hb : b.val = t.val / 11) (hu : u.val + 119 = 384 * (t.val % 11) + s.val) :
    tileS (rowsAt m c t) (k0_pay19 (F := Ideal) (BitVec.ofNat 32 (grid0.coords t 1).val)) (fun x => iblk m c 4 t (ix3 q x j)) s
      = prods m c (ix3 b u ⟨q.val * 256 + j.val, by omega⟩) := by
  have hw : ∀ x, iblk m c 4 t (ix3 q x j) = (m ((c : Thread nD τ).loc main_arg2)) (ix2 x (⟨q.val * 256 + j.val, by omega⟩ : Fin 5632)) := by
    intro x
    rw [iblk4 m c t q x j (ix3 q x j) (by show q.val = _; omega) (by show x.val = _; omega) (by show j.val = _; omega), V_v5]
  have hone : (Ideal.ofBits .f32 0x3F800000#32 : EReal) = 1 := by
    simp [Ideal.ofBits, Ideal.ieee]
    rw [← EReal.coe_mul]
    norm_num
  rw [prods, pd_ix, coords_facts, tail_ix _ (by omega : t.val % 11 < 11)]
  unfold tileS
  have hu4 := u.isLt
  have hs4 := s.isLt
  by_cases h0 : u.val = 0
  · rw [dif_neg (by omega)]
    have hz : ∑ x : Fin 1024, rowsAt m c t (ix2 s x) * iblk m c 4 t (ix3 q x j) = 0 := by
      refine Finset.sum_eq_zero fun x _ => ?_
      rw [rows_at m c t s b ⟨111, by omega⟩ hb (by show 111 + 8 = _; omega) (fun _ => 0) (fun y => (m ((c : Thread nD τ).loc main_arg1)) (ix1 y)) (fun y => by rw [V_v1, dif_pos (by show 111 < 112; omega)]) (fun _ => rfl) x, zero_mul, zero_mul, zero_mul]
    rw [hz, zero_mul, ite_self]
  · by_cases h1 : u.val = 4113
    · rw [dif_neg (by omega), if_pos (by omega), if_neg (by omega), mul_zero]
    · have hu2 : 1 ≤ u.val ∧ u.val - 1 < 4112 := by omega
      rw [dif_pos hu2, up_ix]
      have hz : ∑ x : Fin 1024, rowsAt m c t (ix2 s x) * iblk m c 4 t (ix3 q x j)
          = ∑ x : Fin 1024, nrm (m ((c : Thread nD τ).loc main_arg0)) (m ((c : Thread nD τ).loc main_arg1)) (ix3 b ⟨u.val - 1, hu2.2⟩ x) * (m ((c : Thread nD τ).loc main_arg2)) (ix2 x (⟨q.val * 256 + j.val, by omega⟩ : Fin 5632)) := by
        refine Finset.sum_congr rfl fun x _ => ?_
        have hv : ∀ y, V m c main_v1 (ix3 b (⟨u.val + 111, by omega⟩ : Fin 4224) y) = (m ((c : Thread nD τ).loc main_arg0)) (ix3 b ⟨u.val - 1, hu2.2⟩ y) := by
          intro y
          rw [V_v1, dif_neg (by simp only; omega)]
          exact congrArg _ (congrArg (fun z => ix3 b z y) (Fin.ext (by simp only; omega)))
        rw [rows_at m c t s b ⟨u.val + 111, by omega⟩ hb (by show u.val + 111 + 8 = _; omega) (fun y => (m ((c : Thread nD τ).loc main_arg0)) (ix3 b ⟨u.val - 1, hu2.2⟩ y)) (fun y => (m ((c : Thread nD τ).loc main_arg1)) (ix1 y)) hv (fun _ => rfl) x, hw, nrm_ix]
      rw [hz]
      by_cases hs : 392 ≤ s.val
      · rw [if_pos hs, if_pos (by omega), hone, mul_one]
      · rw [if_neg hs]

/-- The reference's convolution of what a launch starts from. -/
abbrev convs (c : Dev nD) : FVec Ideal Cert.FfnReferenceIdeal.S8x4112x5632 .f32 := cv (prods m c) (m ((c : Thread nD τ).loc main_arg3)) (m ((c : Thread nD τ).loc main_arg4))

/-- A chunk's column through the taps is the reference's convolution. -/
theorem conv_at (c : Dev nD) (t : Fin cfg0.N) (r : Fin 384) (b : Fin 8) (i : Fin 4112) (q : Fin 22) (j : Fin 256)
    (hb : b.val = t.val / 11) (hi : i.val + 112 = 384 * (t.val % 11) + r.val) :
    cvS (rowsAt m c t) (k0_pay19 (F := Ideal) (BitVec.ofNat 32 (grid0.coords t 1).val)) (iblk m c 4 t) (iblk m c 5 t) (iblk m c 6 t) q r j
      = convs m c (ix3 b i ⟨q.val * 256 + j.val, by omega⟩) := by
  have hc : ∀ d : Fin 3, iblk m c 5 t (ix3 q d j) = (m ((c : Thread nD τ).loc main_arg3)) (ix2 d (⟨q.val * 256 + j.val, by omega⟩ : Fin 5632)) := by
    intro d
    rw [iblk5 m c t q d j (ix3 q d j) (by show q.val = _; omega) (by show d.val = _; omega) (by show j.val = _; omega), V_v7]
  have hd : iblk m c 6 t (ix3 q 0 j) = (m ((c : Thread nD τ).loc main_arg4)) (ix1 (⟨q.val * 256 + j.val, by omega⟩ : Fin 5632)) := by
    rw [iblk6 m c t q j (ix3 q 0 j) (by show q.val = _; omega) rfl (by show j.val = _; omega), V_v10]
  unfold cvS
  rw [convs, cv_ix, hc, hc, hc, hd,
    tile_at m c t ⟨r.val + 7, by omega⟩ b ⟨i.val, by omega⟩ q j hb (by simp only; omega),
    tile_at m c t ⟨r.val + 8, by omega⟩ b ⟨1 + i.val, by omega⟩ q j hb (by simp only; omega),
    tile_at m c t ⟨r.val + 9, by omega⟩ b ⟨2 + i.val, by omega⟩ q j hb (by simp only; omega)]

/-- The reference's product with the second weights, of what a launch starts from. -/
abbrev downs (c : Dev nD) : FVec Ideal Cert.FfnReferenceIdeal.S8x4112x1024 .f32 := dn (act (convs m c)) (m ((c : Thread nD τ).loc main_arg5))

/-- The accumulator of a point after the last chunk is the reference's product with the second weights. -/
theorem acc_at (c : Dev nD) (t : Fin cfg0.N) (r : Fin 384) (b : Fin 8) (i : Fin 4112) (l : Fin 1024)
    (hb : b.val = t.val / 11) (hi : i.val + 112 = 384 * (t.val % 11) + r.val) :
    accEnd (F := Ideal) (grid0.coords t) (iblk m c 0 t) (iblk m c 1 t) (iblk m c 2 t) (iblk m c 3 t) (iblk m c 4 t) (iblk m c 5 t) (iblk m c 6 t) (iblk m c 7 t) (iblk m c 8 t) (ix2 r l)
      = downs m c (ix3 b i l) := by
  refine (accAll_ix (rowsAt m c t) _ _ _ _ _ r l).trans ?_
  rw [downs, dn_ix, ← sum_chunks]
  refine Finset.sum_congr rfl fun q _ => Finset.sum_congr rfl fun j _ => ?_
  have hw : iblk m c 7 t (ix3 q j l) = (m ((c : Thread nD τ).loc main_arg5)) (ix2 (⟨q.val * 256 + j.val, by omega⟩ : Fin 2816) l) := by
    rw [iblk7 m c t q j l (ix3 q j l) (by show q.val = _; omega) (by show j.val = _; omega) (by show l.val = _; omega), V_v12]
  have e : (⟨(11 + q.val) * 256 + j.val, by omega⟩ : Fin 5632) = ⟨2816 + (q.val * 256 + j.val), by omega⟩ := Fin.ext (by simp only; omega)
  rw [hw, act_ix, conv_at m c t r b i ⟨q.val, by omega⟩ j hb hi, conv_at m c t r b i ⟨11 + q.val, by omega⟩ j hb hi]
  simp only [e]

/-- The reference's array of what a launch starts from. -/
abbrev goal (c : Dev nD) : S8x4224x1024.Idx → EReal := fin (m ((c : Thread nD τ).loc main_arg0)) (downs m c) (m ((c : Thread nD τ).loc main_arg6))

/-- The block written at a point is the reference's array there. -/
theorem out_at (c : Dev nD) (t : Fin cfg0.N) (r : Fin 384) (l : Fin 1024) (b : Fin 8) (i : Fin 4224)
    (hb : b.val = t.val / 11) (hi : i.val = t.val % 11 * 384 + r.val) :
    out9 (F := Ideal) (grid0.coords t) (iblk m c 0 t) (iblk m c 1 t) (iblk m c 2 t) (iblk m c 3 t) (iblk m c 4 t) (iblk m c 5 t) (iblk m c 6 t) (iblk m c 7 t) (iblk m c 8 t) (ix3 0 r l)
      = goal m c (ix3 b i l) := by
  rw [out9_ix (grid0.coords t) (t.val % 11) (by omega) (coords_facts t), goal, fin_ix]
  by_cases h : 112 ≤ i.val
  · rw [if_pos (by omega), dif_pos h]
    have ha : ∀ y, accEnd (F := Ideal) (grid0.coords t) (iblk m c 0 t) (iblk m c 1 t) (iblk m c 2 t) (iblk m c 3 t) (iblk m c 4 t) (iblk m c 5 t) (iblk m c 6 t) (iblk m c 7 t) (iblk m c 8 t) (ix2 r y)
        = downs m c (ix3 b ⟨i.val - 112, by omega⟩ y) := fun y => acc_at m c t r b ⟨i.val - 112, by omega⟩ y hb (by simp only; omega)
    simp only [ha]
    rw [iblk0 m c t r l (ix3 b i l) hb hi rfl, V_v1, dif_neg (by omega), iblk8 m c t l (ix2 0 l) rfl (by show l.val = _; omega), V_v13]
  · rw [if_neg (by omega), dif_neg h]

/-- The array the call writes, when every point has been run, is the reference's array of the arguments. -/
theorem final (c : Dev nD) : (dats m 0 c).arrAt 9 cfg0.N = goal m c := by
  refine (dats m 0 c).arrAt_eq_of_covers 9 _ ((cfg0.win 9).covers_of_indexMap_surj rfl (by decide) fun β => ?_) fun t hf y => ?_
  · have b0 : (β ⟨0, by decide⟩).val < 8 := lt_of_lt_of_eq (β ⟨0, by decide⟩).isLt (by decide : (cfg0.win 9).nblk ⟨0, by decide⟩ = 8)
    have b1 : (β ⟨1, by decide⟩).val < 11 := lt_of_lt_of_eq (β ⟨1, by decide⟩).isLt (by decide : (cfg0.win 9).nblk ⟨1, by decide⟩ = 11)
    have b2 : (β ⟨2, by decide⟩).val < 1 := lt_of_lt_of_eq (β ⟨2, by decide⟩).isLt (by decide : (cfg0.win 9).nblk ⟨2, by decide⟩ = 1)
    have hn : (β ⟨0, by decide⟩).val * 11 + (β ⟨1, by decide⟩).val < cfg0.N := by rw [N_eq]; omega
    obtain ⟨f0, f1, f2⟩ := (index_facts ⟨_, hn⟩).2.2.2.2.2.2.2.2.2
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after_9]
    have ht : t.val < 88 := N_eq ▸ t.isLt
    obtain ⟨f0, f1, f2⟩ := (index_facts t).2.2.2.2.2.2.2.2.2
    idx_vars y
    obtain rfl : y0 = 0 := Subsingleton.elim _ _
    have e : ((View.whole main_v14).slice (win0_9.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 9) t (ix3 0 y1 y2) a).trans ?_
      match a with
      | ⟨0, _⟩ => show (cfg0.win 9).index t 0 * 1 + 0 = t.val / 11; rw [show (cfg0.win 9).index t 0 = _ from f0]; omega
      | ⟨1, _⟩ => show (cfg0.win 9).index t 1 * 384 + y1.val = t.val % 11 * 384 + y1.val; rw [show (cfg0.win 9).index t 1 = _ from f1]
      | ⟨2, _⟩ => show (cfg0.win 9).index t 2 * 1024 + y2.val = y2.val; rw [show (cfg0.win 9).index t 2 = _ from f2]; omega
    rw [e]
    exact out_at m c t y1 y2 _ _ rfl rfl

end Cert.FfnKernelIdeal.Value2
end
-- ==== Proof.FfnClaim.lean ====
module

public import proofs.«01_k».proof.Proof.FfnValue
public import proofs.«01_k».proof.Proof.FfnBitsFrame
public import proofs.«01_k».proof.Defs

@[expose] public section

set_option maxRecDepth 16384

noncomputable section

namespace Cert.Proof.FfnClaims

open Idealize.ShloMosaic Idealize.ShloMosaic.TcCoe Idealize.SL.Sem

/-- The kernel's frame over bit values. -/
theorem frame_bits [Cert.FfnKernel.Facts] : Cert.quiescent_FfnKernel := fun m ρ _ => Cert.FfnKernel.Body.frame_all m ρ

/-- The kernel's frame over the extended reals. -/
theorem frame_ideal [Cert.FfnKernelIdeal.Facts] : Cert.quiescent_FfnKernelIdeal := fun m ρ _ => Cert.FfnKernelIdeal.Body.frame_all m ρ

variable [Cert.FfnKernelIdeal.Facts] [Cert.FfnReferenceIdeal.Facts]

/-- The reference ends, and leaves its arguments and every semaphore as it should. -/
theorem frame_ref : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- Over the extended reals the feed-forward kernel and the plain feed-forward half end with equal arrays. -/
theorem algebraic : Cert.algebraic_FfnKernelIdeal_FfnReferenceIdeal := by
  intro m ρ m' ρ' _ hagree
  refine ⟨fun c => Cert.FfnKernelIdeal.Value2.goal m c, ?_, ?_⟩
  · refine (θ_run Cert.FfnKernelIdeal.defs _ _).mono (fun r h c => ?_)
      (θ_run_and (Cert.FfnKernelIdeal.Body.unchanged m ρ) (Cert.FfnKernelIdeal.Body.run_main m ρ))
    exact ⟨((h.2 c).1 9).trans (Cert.FfnKernelIdeal.Value2.final m c), h.1 c⟩
  · refine (θ_run Cert.FfnReferenceIdeal.defs _ _).mono (fun _ h c => ?_) (Cert.FfnReferenceIdeal.Value.run (F := Ideal) m' ρ')
    refine ⟨(h c).1.trans ?_, (h c).2⟩
    rw [Cert.FfnReferenceIdeal.Row.res_eq]
    obtain ⟨a0, a1, a2, a3, a4, a5, a6⟩ := hagree c
    rw [a0, a1, a2, a3, a4, a5, a6]

end Cert.Proof.FfnClaims

end
-- ==== Proof.InRef.lean ====
module

public import proofs.«01_k».proof.Proof.Gen.InReferenceIdeal.Run
public import proofs.«01_k».proof.Proof.Rows
public import Idealize.ShloMosaic.Lib.Pointwise
public import Idealize.ShloMosaic.Lib.Tactic

@[expose] public section

set_option maxRecDepth 16384

noncomputable section

namespace Cert.InReferenceIdeal.Row

open Cert.InReferenceIdeal Idealize.ShloMosaic Idealize.ShloMosaic.TcCoe Idealize.SL.Sem
open Cert.InReferenceIdeal.Facts Cert.InReferenceIdeal.Gen

/-- The normalised rows. -/
def nrm (h : FVec Ideal S8x4224x1024 .f32) (nw : FVec Ideal S1024 .f32) : FVec Ideal S8x4224x1024 .f32 :=
  mulf (mulf h (broadcastInDim S8x4224x1024 ![0, 1, 2] bcast_S8x4224x1_S8x4224x1024_0_1_2 (Host.rsqrt (addf (Host.divf (broadcastInDim S8x4224x1 ![0, 1] bcast_S8x4224_S8x4224x1_0_1 (Host.reduceAdd (mulf h h) (constant S_ .f32 0x00000000#32) reducesTo_S8x4224x1024_S8x4224_d2 h_S_)) (broadcastInDim S8x4224x1 ![] bcast_S_S8x4224x1 (constant S_ .f32 0x44800000#32))) (broadcastInDim S8x4224x1 ![] bcast_S_S8x4224x1 (constant S_ .f32 0x358637BD#32)))))) (broadcastInDim S8x4224x1024 ![0, 1, 2] bcast_S1x1x1024_S8x4224x1024_0_1_2 (broadcastInDim S1x1x1024 ![2] bcast_S1024_S1x1x1024_2 nw))

/-- The normalised rows times the input weights. -/
def prj (n : FVec Ideal S8x4224x1024 .f32) (w : FVec Ideal S1024x4896 .f32) : FVec Ideal S8x4224x4896 .f32 :=
  Host.dotGeneral dot_S8x4224x1024_S1024x4896_S8x4224x4896_2_0_01_1_n_n none n w

/-- The rotary angles of the positions. -/
def ang : FVec Ideal S4224x8 .f32 :=
  mulf (broadcastInDim S4224x8 ![0, 1] bcast_S4224x1_S4224x8_0_1 (broadcastInDim S4224x1 ![0] bcast_S4224_S4224x1_0 (sitofp .f32 (maxsi (subi (iotaInDim S4224 32 0) (broadcastInDim S4224 ![] bcast_S_S4224 (constantI S_ 32 112#32))) (broadcastInDim S4224 ![] bcast_S_S4224 (constantI S_ 32 0#32)))))) (broadcastInDim S4224x8 ![0, 1] bcast_S1x8_S4224x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32))))))

/-- The first 16 entries of every head turned by the angles, the others as they are; for 8 heads. -/
def ropeQ (x : FVec Ideal S8x4224x8x64 .f32) : FVec Ideal S8x4224x8x64 .f32 :=
  (concatenate S8x4224x8x64 3 [⟨S8x4224x8x8, ((subf (mulf (extractStridedSlice S8x4224x8x8 ![0, 0, 0, 0] x slices_S8x4224x8x64_S8x4224x8x8_0_0_0_0) (broadcastInDim S8x4224x8x8 ![0, 1, 2, 3] bcast_S1x4224x1x8_S8x4224x8x8_0_1_2_3 (broadcastInDim S1x4224x1x8 ![1, 3] bcast_S4224x8_S1x4224x1x8_1_3 (Host.cos ang)))) (mulf (extractStridedSlice S8x4224x8x8 ![0, 0, 0, 8] x slices_S8x4224x8x64_S8x4224x8x8_0_0_0_8) (broadcastInDim S8x4224x8x8 ![0, 1, 2, 3] bcast_S1x4224x1x8_S8x4224x8x8_0_1_2_3 (broadcastInDim S1x4224x1x8 ![1, 3] bcast_S4224x8_S1x4224x1x8_1_3 (Host.sin ang))))) : (⟨S8x4224x8x8, .f32⟩ : BufTy).Contents (Elt Ideal))⟩, ⟨S8x4224x8x8, ((addf (mulf (extractStridedSlice S8x4224x8x8 ![0, 0, 0, 8] x slices_S8x4224x8x64_S8x4224x8x8_0_0_0_8) (broadcastInDim S8x4224x8x8 ![0, 1, 2, 3] bcast_S1x4224x1x8_S8x4224x8x8_0_1_2_3 (broadcastInDim S1x4224x1x8 ![1, 3] bcast_S4224x8_S1x4224x1x8_1_3 (Host.cos ang)))) (mulf (extractStridedSlice S8x4224x8x8 ![0, 0, 0, 0] x slices_S8x4224x8x64_S8x4224x8x8_0_0_0_0) (broadcastInDim S8x4224x8x8 ![0, 1, 2, 3] bcast_S1x4224x1x8_S8x4224x8x8_0_1_2_3 (broadcastInDim S1x4224x1x8 ![1, 3] bcast_S4224x8_S1x4224x1x8_1_3 (Host.sin ang))))) : (⟨S8x4224x8x8, .f32⟩ : BufTy).Contents (Elt Ideal))⟩, ⟨S8x4224x8x48, ((extractStridedSlice S8x4224x8x48 ![0, 0, 0, 16] x slices_S8x4224x8x64_S8x4224x8x48_0_0_0_16) : (⟨S8x4224x8x48, .f32⟩ : BufTy).Contents (Elt Ideal))⟩] concatenates_S8x4224x8x8_S8x4224x8x8_S8x4224x8x48_S8x4224x8x64_d3 : (⟨S8x4224x8x64, .f32⟩ : BufTy).Contents (Elt Ideal))

/-- The first 16 entries of every head turned by the angles, the others as they are; for 2 heads. -/
def ropeK (x : FVec Ideal S8x4224x2x64 .f32) : FVec Ideal S8x4224x2x64 .f32 :=
  (concatenate S8x4224x2x64 3 [⟨S8x4224x2x8, ((subf (mulf (extractStridedSlice S8x4224x2x8 ![0, 0, 0, 0] x slices_S8x4224x2x64_S8x4224x2x8_0_0_0_0) (broadcastInDim S8x4224x2x8 ![0, 1, 2, 3] bcast_S1x4224x1x8_S8x4224x2x8_0_1_2_3 (broadcastInDim S1x4224x1x8 ![1, 3] bcast_S4224x8_S1x4224x1x8_1_3 (Host.cos ang)))) (mulf (extractStridedSlice S8x4224x2x8 ![0, 0, 0, 8] x slices_S8x4224x2x64_S8x4224x2x8_0_0_0_8) (broadcastInDim S8x4224x2x8 ![0, 1, 2, 3] bcast_S1x4224x1x8_S8x4224x2x8_0_1_2_3 (broadcastInDim S1x4224x1x8 ![1, 3] bcast_S4224x8_S1x4224x1x8_1_3 (Host.sin ang))))) : (⟨S8x4224x2x8, .f32⟩ : BufTy).Contents (Elt Ideal))⟩, ⟨S8x4224x2x8, ((addf (mulf (extractStridedSlice S8x4224x2x8 ![0, 0, 0, 8] x slices_S8x4224x2x64_S8x4224x2x8_0_0_0_8) (broadcastInDim S8x4224x2x8 ![0, 1, 2, 3] bcast_S1x4224x1x8_S8x4224x2x8_0_1_2_3 (broadcastInDim S1x4224x1x8 ![1, 3] bcast_S4224x8_S1x4224x1x8_1_3 (Host.cos ang)))) (mulf (extractStridedSlice S8x4224x2x8 ![0, 0, 0, 0] x slices_S8x4224x2x64_S8x4224x2x8_0_0_0_0) (broadcastInDim S8x4224x2x8 ![0, 1, 2, 3] bcast_S1x4224x1x8_S8x4224x2x8_0_1_2_3 (broadcastInDim S1x4224x1x8 ![1, 3] bcast_S4224x8_S1x4224x1x8_1_3 (Host.sin ang))))) : (⟨S8x4224x2x8, .f32⟩ : BufTy).Contents (Elt Ideal))⟩, ⟨S8x4224x2x48, ((extractStridedSlice S8x4224x2x48 ![0, 0, 0, 16] x slices_S8x4224x2x64_S8x4224x2x48_0_0_0_16) : (⟨S8x4224x2x48, .f32⟩ : BufTy).Contents (Elt Ideal))⟩] concatenates_S8x4224x2x8_S8x4224x2x8_S8x4224x2x48_S8x4224x2x64_d3 : (⟨S8x4224x2x64, .f32⟩ : BufTy).Contents (Elt Ideal))

/-- The gate, from the projected rows. -/
def zR (u : FVec Ideal S8x4224x4896 .f32) : FVec Ideal S8x4224x1024 .bf16 :=
  truncf .bf16 (extractStridedSlice S8x4224x1024 ![0, 0, 0] u slices_S8x4224x4896_S8x4224x1024_0_0_0) bitsLt_bf16_f32

/-- The scan input, from the projected rows. -/
def xbcR (u : FVec Ideal S8x4224x4896 .f32) : FVec Ideal S8x4224x1536 .bf16 :=
  truncf .bf16 (extractStridedSlice S8x4224x1536 ![0, 0, 1024] u slices_S8x4224x4896_S8x4224x1536_0_0_1024) bitsLt_bf16_f32

/-- The step sizes, padded with zeros to 128 lanes, from the projected rows. -/
def dtR (u : FVec Ideal S8x4224x4896 .f32) : FVec Ideal S8x4224x128 .f32 :=
  pad S8x4224x128 ![0, 0, 0] ![0, 0, 96] ![0, 0, 0] (extractStridedSlice S8x4224x32 ![0, 0, 2560] u slices_S8x4224x4896_S8x4224x32_0_0_2560) (sitofp .f32 (constantI S_ 32 0#32)) pads_S8x4224x32_S8x4224x128_000_000_0960 h_S_

/-- The turned and scaled window queries, from the projected rows. -/
def qR (u : FVec Ideal S8x4224x4896 .f32) : FVec Ideal S8x4224x512 .bf16 :=
  truncf .bf16 (mulf (shapeCast _ ((ropeQ (shapeCast _ (extractStridedSlice S8x4224x512 ![0, 0, 2592] u slices_S8x4224x4896_S8x4224x512_0_0_2592) shapeCasts_S8x4224x512_S8x4224x8x64))) shapeCasts_S8x4224x8x64_S8x4224x512) (broadcastInDim S8x4224x512 ![] bcast_S_S8x4224x512 (constant S_ .f32 0x3E000000#32))) bitsLt_bf16_f32

/-- The turned window keys and the window values, from the projected rows. -/
def kvR (u : FVec Ideal S8x4224x4896 .f32) : FVec Ideal S8x4224x256 .bf16 :=
  truncf .bf16 (concatenate S8x4224x256 2 [⟨S8x4224x128, (shapeCast _ ((ropeK (shapeCast _ (extractStridedSlice S8x4224x128 ![0, 0, 3104] u slices_S8x4224x4896_S8x4224x128_0_0_3104) shapeCasts_S8x4224x128_S8x4224x2x64))) shapeCasts_S8x4224x2x64_S8x4224x128)⟩, ⟨S8x4224x128, (extractStridedSlice S8x4224x128 ![0, 0, 3232] u slices_S8x4224x4896_S8x4224x128_0_0_3232)⟩] concatenates_S8x4224x128_S8x4224x128_S8x4224x256_d2) bitsLt_bf16_f32

/-- The scaled neighbourhood queries, from the projected rows. -/
def nqR (u : FVec Ideal S8x4224x4896 .f32) : FVec Ideal S8x4224x512 .bf16 :=
  truncf .bf16 (mulf (extractStridedSlice S8x4224x512 ![0, 0, 3360] u slices_S8x4224x4896_S8x4224x512_0_0_3360) (broadcastInDim S8x4224x512 ![] bcast_S_S8x4224x512 (constant S_ .f32 0x3E000000#32))) bitsLt_bf16_f32

/-- The neighbourhood keys, from the projected rows. -/
def nkR (u : FVec Ideal S8x4224x4896 .f32) : FVec Ideal S8x4224x512 .bf16 :=
  truncf .bf16 (extractStridedSlice S8x4224x512 ![0, 0, 3872] u slices_S8x4224x4896_S8x4224x512_0_0_3872) bitsLt_bf16_f32

/-- The neighbourhood values, from the projected rows. -/
def nvR (u : FVec Ideal S8x4224x4896 .f32) : FVec Ideal S8x4224x512 .bf16 :=
  truncf .bf16 (extractStridedSlice S8x4224x512 ![0, 0, 4384] u slices_S8x4224x4896_S8x4224x512_0_0_4384) bitsLt_bf16_f32

/-- The normalised rows, by element. -/
theorem nrm_ix (h : FVec Ideal S8x4224x1024 .f32) (nw : FVec Ideal S1024 .f32) (b : Fin 8) (i : Fin 4224) (x : Fin 1024) :
    nrm h nw (ix3 b i x) = h (ix3 b i x) * Rows.rs (fun y => h (ix3 b i y)) * nw (ix1 x) := by
  unfold Rows.rs
  pointwise [nrm]

/-- The projected rows, by element. -/
theorem prj_ix (n : FVec Ideal S8x4224x1024 .f32) (w : FVec Ideal S1024x4896 .f32) (b : Fin 8) (i : Fin 4224) (l : Fin 4896) :
    prj n w (ix3 b i l) = ∑ x, n (ix3 b i x) * w (ix2 x l) := by
  pointwise [prj]

/-- The gate, by element. -/
theorem zR_ix (u : FVec Ideal S8x4224x4896 .f32) (b : Fin 8) (i : Fin 4224) (l : Fin 1024) :
    zR u (ix3 b i l) = u (ix3 b i (⟨l.val, by omega⟩ : Fin 4896)) := by
  pointwise [zR]

/-- The scan input, by element. -/
theorem xbcR_ix (u : FVec Ideal S8x4224x4896 .f32) (b : Fin 8) (i : Fin 4224) (l : Fin 1536) :
    xbcR u (ix3 b i l) = u (ix3 b i (⟨1024 + l.val, by omega⟩ : Fin 4896)) := by
  pointwise [xbcR]

/-- The neighbourhood keys, by element. -/
theorem nkR_ix (u : FVec Ideal S8x4224x4896 .f32) (b : Fin 8) (i : Fin 4224) (l : Fin 512) :
    nkR u (ix3 b i l) = u (ix3 b i (⟨3872 + l.val, by omega⟩ : Fin 4896)) := by
  pointwise [nkR]

/-- The neighbourhood values, by element. -/
theorem nvR_ix (u : FVec Ideal S8x4224x4896 .f32) (b : Fin 8) (i : Fin 4224) (l : Fin 512) :
    nvR u (ix3 b i l) = u (ix3 b i (⟨4384 + l.val, by omega⟩ : Fin 4896)) := by
  pointwise [nvR]

/-- The scaled neighbourhood queries, by element. -/
theorem nqR_ix (u : FVec Ideal S8x4224x4896 .f32) (b : Fin 8) (i : Fin 4224) (l : Fin 512) :
    nqR u (ix3 b i l) = u (ix3 b i (⟨3360 + l.val, by omega⟩ : Fin 4896)) * Ideal.ofBits .f32 0x3E000000#32 := by
  pointwise [nqR]

/-- The padded step sizes, by element. -/
theorem dtR_ix (u : FVec Ideal S8x4224x4896 .f32) (b : Fin 8) (i : Fin 4224) (l : Fin 128) :
    dtR u (ix3 b i l) = if h : l.val < 32 then u (ix3 b i (⟨2560 + l.val, by omega⟩ : Fin 4896)) else 0 := by
  have e : dtR u (ix3 b i l) = if h : l.val < 32 then u (ix3 b i (⟨2560 + l.val, by omega⟩ : Fin 4896)) else FloatOps.sitofp (F := Ideal) .f32 0#32 := by
    pointwise [dtR]
  have z : (FloatOps.sitofp (F := Ideal) .f32 0#32 : EReal) = 0 := by
    show (((0#32).toInt : ℝ) : EReal) = 0
    simp
  rw [e]
  by_cases h : l.val < 32
  · rw [dif_pos h, dif_pos h]
  · rw [dif_neg h, dif_neg h]
    exact z

/-- One head's entries turned: `c` and `s` are the cosines and the sines of its row. -/
def turn (f : Fin 64 → EReal) (c s : Fin 8 → EReal) (d : Fin 64) : EReal :=
  if h : d.val < 8 then f d * c ⟨d.val, h⟩ - f ⟨8 + d.val, by omega⟩ * s ⟨d.val, h⟩
  else if h' : d.val - 8 < 8 then f ⟨8 + (d.val - 8), by omega⟩ * c ⟨d.val - 8, h'⟩ + f ⟨d.val - 8, by omega⟩ * s ⟨d.val - 8, h'⟩
  else f ⟨16 + (d.val - 8 - 8), by omega⟩

/-- The turned heads, by element. -/
theorem ropeQ_ix (x : FVec Ideal S8x4224x8x64 .f32) (b : Fin 8) (i : Fin 4224) (g : Fin 8) (d : Fin 64) :
    ropeQ x (ix4 b i g d) = turn (fun e => x (ix4 b i g e)) (fun e => Ideal.cos (ang (ix2 i e))) (fun e => Ideal.sin (ang (ix2 i e))) d := by
  unfold turn
  pointwise [ropeQ]

/-- The turned heads, by element. -/
theorem ropeK_ix (x : FVec Ideal S8x4224x2x64 .f32) (b : Fin 8) (i : Fin 4224) (g : Fin 2) (d : Fin 64) :
    ropeK x (ix4 b i g d) = turn (fun e => x (ix4 b i g e)) (fun e => Ideal.cos (ang (ix2 i e))) (fun e => Ideal.sin (ang (ix2 i e))) d := by
  unfold turn
  pointwise [ropeK]

/-- A row of heads as one run of lanes, by element; for 8 heads. -/
theorem flatQ_ix (x : FVec Ideal S8x4224x8x64 .f32) (b : Fin 8) (i : Fin 4224) (l : Fin 512) :
    shapeCast S8x4224x512 x shapeCasts_S8x4224x8x64_S8x4224x512 (ix3 b i l)
      = x (ix4 b i (⟨l.val / 64, by omega⟩ : Fin 8) (⟨l.val % 64, by omega⟩ : Fin 64)) := by
  refine shapeCast_apply _ _ (ix3 b i l) (ix4 b i (⟨l.val / 64, by omega⟩ : Fin 8) (⟨l.val % 64, by omega⟩ : Fin 64)) ?_
  rw [Shape.rowMajor_val_three, Shape.rowMajor_val_four]
  show ((b.val * 4224 + i.val) * 8 + l.val / 64) * 64 + l.val % 64 = (b.val * 4224 + i.val) * 512 + l.val
  omega

/-- A row of heads as one run of lanes, by element; for 2 heads. -/
theorem flatK_ix (x : FVec Ideal S8x4224x2x64 .f32) (b : Fin 8) (i : Fin 4224) (l : Fin 128) :
    shapeCast S8x4224x128 x shapeCasts_S8x4224x2x64_S8x4224x128 (ix3 b i l)
      = x (ix4 b i (⟨l.val / 64, by omega⟩ : Fin 2) (⟨l.val % 64, by omega⟩ : Fin 64)) := by
  refine shapeCast_apply _ _ (ix3 b i l) (ix4 b i (⟨l.val / 64, by omega⟩ : Fin 2) (⟨l.val % 64, by omega⟩ : Fin 64)) ?_
  rw [Shape.rowMajor_val_three, Shape.rowMajor_val_four]
  show ((b.val * 4224 + i.val) * 2 + l.val / 64) * 64 + l.val % 64 = (b.val * 4224 + i.val) * 128 + l.val
  omega

/-- A run of lanes of the projected rows as heads, by element; for 8 heads. -/
theorem headQ_ix (u : FVec Ideal S8x4224x4896 .f32) (b : Fin 8) (i : Fin 4224) (g : Fin 8) (d : Fin 64) :
    shapeCast S8x4224x8x64 (extractStridedSlice S8x4224x512 ![0, 0, 2592] u slices_S8x4224x4896_S8x4224x512_0_0_2592) shapeCasts_S8x4224x512_S8x4224x8x64 (ix4 b i g d)
      = u (ix3 b i (⟨2592 + (g.val * 64 + d.val), by omega⟩ : Fin 4896)) := by
  refine (shapeCast_apply _ _ (ix4 b i g d) (ix3 b i (⟨g.val * 64 + d.val, by omega⟩ : Fin 512)) ?_).trans ?_
  · rw [Shape.rowMajor_val_three, Shape.rowMajor_val_four]
    show (b.val * 4224 + i.val) * 512 + (g.val * 64 + d.val) = ((b.val * 4224 + i.val) * 8 + g.val) * 64 + d.val
    omega
  · pointwise

/-- A run of lanes of the projected rows as heads, by element; for 2 heads. -/
theorem headK_ix (u : FVec Ideal S8x4224x4896 .f32) (b : Fin 8) (i : Fin 4224) (g : Fin 2) (d : Fin 64) :
    shapeCast S8x4224x2x64 (extractStridedSlice S8x4224x128 ![0, 0, 3104] u slices_S8x4224x4896_S8x4224x128_0_0_3104) shapeCasts_S8x4224x128_S8x4224x2x64 (ix4 b i g d)
      = u (ix3 b i (⟨3104 + (g.val * 64 + d.val), by omega⟩ : Fin 4896)) := by
  refine (shapeCast_apply _ _ (ix4 b i g d) (ix3 b i (⟨g.val * 64 + d.val, by omega⟩ : Fin 128)) ?_).trans ?_
  · rw [Shape.rowMajor_val_three, Shape.rowMajor_val_four]
    show (b.val * 4224 + i.val) * 128 + (g.val * 64 + d.val) = ((b.val * 4224 + i.val) * 2 + g.val) * 64 + d.val
    omega
  · pointwise

/-- The turned and scaled window queries, by element. -/
theorem qR_ix (u : FVec Ideal S8x4224x4896 .f32) (b : Fin 8) (i : Fin 4224) (l : Fin 512) :
    qR u (ix3 b i l) = turn (fun e => u (ix3 b i (⟨2592 + (l.val / 64 * 64 + e.val), by omega⟩ : Fin 4896))) (fun e => Ideal.cos (ang (ix2 i e)))
      (fun e => Ideal.sin (ang (ix2 i e))) (⟨l.val % 64, by omega⟩ : Fin 64) * Ideal.ofBits .f32 0x3E000000#32 := by
  refine congrArg (· * Ideal.ofBits .f32 0x3E000000#32) ?_
  refine (flatQ_ix _ b i l).trans ((ropeQ_ix _ b i _ _).trans ?_)
  simp only [headQ_ix]

/-- The turned window keys, by element. -/
theorem kvR_lo (u : FVec Ideal S8x4224x4896 .f32) (b : Fin 8) (i : Fin 4224) (l : Fin 256) (h : l.val < 128) :
    kvR u (ix3 b i l) = turn (fun e => u (ix3 b i (⟨3104 + (l.val / 64 * 64 + e.val), by omega⟩ : Fin 4896))) (fun e => Ideal.cos (ang (ix2 i e)))
      (fun e => Ideal.sin (ang (ix2 i e))) (⟨l.val % 64, by omega⟩ : Fin 64) := by
  have e : ∀ (x y : FVec Ideal S8x4224x128 .f32),
      concatenate S8x4224x256 2 [⟨S8x4224x128, x⟩, ⟨S8x4224x128, y⟩] concatenates_S8x4224x128_S8x4224x128_S8x4224x256_d2 (ix3 b i l)
        = x (ix3 b i (⟨l.val, h⟩ : Fin 128)) := by
    intro x y
    have e' : concatenate S8x4224x256 2 [⟨S8x4224x128, x⟩, ⟨S8x4224x128, y⟩] concatenates_S8x4224x128_S8x4224x128_S8x4224x256_d2 (ix3 b i l)
        = if h : l.val < 128 then x (ix3 b i (⟨l.val, h⟩ : Fin 128)) else y (ix3 b i (⟨l.val - 128, by omega⟩ : Fin 128)) := by
      pointwise
    rw [e', dif_pos h]
  refine (e _ _).trans ((flatK_ix _ b i _).trans ((ropeK_ix _ b i _ _).trans ?_))
  simp only [headK_ix]

/-- The window values, by element. -/
theorem kvR_hi (u : FVec Ideal S8x4224x4896 .f32) (b : Fin 8) (i : Fin 4224) (l : Fin 256) (h : ¬ l.val < 128) :
    kvR u (ix3 b i l) = u (ix3 b i (⟨3104 + l.val, by omega⟩ : Fin 4896)) := by
  have e : ∀ (x y : FVec Ideal S8x4224x128 .f32),
      concatenate S8x4224x256 2 [⟨S8x4224x128, x⟩, ⟨S8x4224x128, y⟩] concatenates_S8x4224x128_S8x4224x128_S8x4224x256_d2 (ix3 b i l)
        = y (ix3 b i (⟨l.val - 128, by omega⟩ : Fin 128)) := by
    intro x y
    have e' : concatenate S8x4224x256 2 [⟨S8x4224x128, x⟩, ⟨S8x4224x128, y⟩] concatenates_S8x4224x128_S8x4224x128_S8x4224x256_d2 (ix3 b i l)
        = if h : l.val < 128 then x (ix3 b i (⟨l.val, h⟩ : Fin 128)) else y (ix3 b i (⟨l.val - 128, by omega⟩ : Fin 128)) := by
      pointwise
    rw [e', dif_neg h]
  refine (e _ _).trans ?_
  have e2 : ∀ k : Fin 128, extractStridedSlice S8x4224x128 ![0, 0, 3232] u slices_S8x4224x4896_S8x4224x128_0_0_3232 (ix3 b i k)
      = u (ix3 b i (⟨3232 + k.val, by omega⟩ : Fin 4896)) := by
    intro k
    pointwise
  rw [e2]
  exact congrArg u (congrArg (ix3 b i) (Fin.ext (by simp only; omega)))

/-- The projected rows of what a launch of the reference starts from. -/
abbrev pr (m : (ℓ : Loc nD τ sig) → Buf (Elt Ideal) ℓ) (c : Dev nD) : FVec Ideal S8x4224x4896 .f32 :=
  prj (nrm (m ((c.tc : Thread nD τ).loc main_arg0)) (m ((c.tc : Thread nD τ).loc main_arg1))) (m ((c.tc : Thread nD τ).loc main_arg2))

/-- The reference's queries are the turned and scaled queries of the projected rows. -/
theorem q_eq (m : (ℓ : Loc nD τ sig) → Buf (Elt Ideal) ℓ) (c : Dev nD) :
    Cert.InReferenceIdeal.Value.res_main_v98 m c = qR (pr m c) := by
  unfold Cert.InReferenceIdeal.Value.res_main_v98 qR ropeQ pr prj nrm ang
  rfl

/-- The reference's keys and values are the turned keys and the values of the projected rows. -/
theorem kv_eq (m : (ℓ : Loc nD τ sig) → Buf (Elt Ideal) ℓ) (c : Dev nD) :
    Cert.InReferenceIdeal.Value.res_main_v99 m c = kvR (pr m c) := by
  unfold Cert.InReferenceIdeal.Value.res_main_v99 kvR ropeK pr prj nrm ang
  rfl

end Cert.InReferenceIdeal.Row
end
-- ==== Proof.InHost.lean ====
module

public import proofs.«01_k».proof.Proof.Gen.InKernelIdeal.Frame
public import proofs.«01_k».proof.Proof.InRef

@[expose] public section

set_option maxRecDepth 16384

noncomputable section

namespace Cert.InKernelIdeal.Value2

open Cert.InKernelIdeal Cert.InKernelIdeal.Gen Idealize.ShloMosaic Idealize.ShloMosaic.TcCoe Idealize.SL.Sem
open Idealize.ShloMosaic.Pipeline (Dat)
open Facts

variable (m : (ℓ : Loc nD τ sig) → Buf (Elt Ideal) ℓ)

/-- A slice of the input weights the region finds, by element. -/
theorem V_v1 (c : Dev nD) (x : Fin 1024) (y : Fin 1024) :
    V m c main_v1 (ix2 x y) = m ((c : Thread nD τ).loc main_arg2) (ix2 x (⟨y.val, by omega⟩ : Fin 4896)) := by
  have e : (V m c main_v1 : FVec Ideal S1024x1024 .bf16) = extractStridedSlice S1024x1024 ![0, 0] (truncf (F := Ideal) (φ := .f32) .bf16 (m ((c : Thread nD τ).loc main_arg2)) bitsLt_bf16_f32) slices_S1024x4896_S1024x1024_0_0 := by
    unfold V
    simp only [hostOps0, hostOps0_1, hostOps0_2, List.flatten_cons, List.flatten_nil, List.append_nil, List.cons_append, List.nil_append]
    after_results <;> rfl
  rw [e]
  pointwise

/-- A slice of the input weights the region finds, by element. -/
theorem V_v2 (c : Dev nD) (x : Fin 1024) (y : Fin 1536) :
    V m c main_v2 (ix2 x y) = m ((c : Thread nD τ).loc main_arg2) (ix2 x (⟨1024 + y.val, by omega⟩ : Fin 4896)) := by
  have e : (V m c main_v2 : FVec Ideal S1024x1536 .bf16) = extractStridedSlice S1024x1536 ![0, 1024] (truncf (F := Ideal) (φ := .f32) .bf16 (m ((c : Thread nD τ).loc main_arg2)) bitsLt_bf16_f32) slices_S1024x4896_S1024x1536_0_1024 := by
    unfold V
    simp only [hostOps0, hostOps0_1, hostOps0_2, List.flatten_cons, List.flatten_nil, List.append_nil, List.cons_append, List.nil_append]
    after_results <;> rfl
  rw [e]
  pointwise

/-- A slice of the input weights the region finds, by element. -/
theorem V_v4 (c : Dev nD) (x : Fin 1024) (y : Fin 512) :
    V m c main_v4 (ix2 x y) = m ((c : Thread nD τ).loc main_arg2) (ix2 x (⟨2592 + y.val, by omega⟩ : Fin 4896)) := by
  have e : (V m c main_v4 : FVec Ideal S1024x512 .bf16) = extractStridedSlice S1024x512 ![0, 2592] (truncf (F := Ideal) (φ := .f32) .bf16 (m ((c : Thread nD τ).loc main_arg2)) bitsLt_bf16_f32) slices_S1024x4896_S1024x512_0_2592 := by
    unfold V
    simp only [hostOps0, hostOps0_1, hostOps0_2, List.flatten_cons, List.flatten_nil, List.append_nil, List.cons_append, List.nil_append]
    after_results <;> rfl
  rw [e]
  pointwise

/-- A slice of the input weights the region finds, by element. -/
theorem V_v5 (c : Dev nD) (x : Fin 1024) (y : Fin 256) :
    V m c main_v5 (ix2 x y) = m ((c : Thread nD τ).loc main_arg2) (ix2 x (⟨3104 + y.val, by omega⟩ : Fin 4896)) := by
  have e : (V m c main_v5 : FVec Ideal S1024x256 .bf16) = extractStridedSlice S1024x256 ![0, 3104] (truncf (F := Ideal) (φ := .f32) .bf16 (m ((c : Thread nD τ).loc main_arg2)) bitsLt_bf16_f32) slices_S1024x4896_S1024x256_0_3104 := by
    unfold V
    simp only [hostOps0, hostOps0_1, hostOps0_2, List.flatten_cons, List.flatten_nil, List.append_nil, List.cons_append, List.nil_append]
    after_results <;> rfl
  rw [e]
  pointwise

/-- A slice of the input weights the region finds, by element. -/
theorem V_v6 (c : Dev nD) (x : Fin 1024) (y : Fin 512) :
    V m c main_v6 (ix2 x y) = m ((c : Thread nD τ).loc main_arg2) (ix2 x (⟨3360 + y.val, by omega⟩ : Fin 4896)) := by
  have e : (V m c main_v6 : FVec Ideal S1024x512 .bf16) = extractStridedSlice S1024x512 ![0, 3360] (truncf (F := Ideal) (φ := .f32) .bf16 (m ((c : Thread nD τ).loc main_arg2)) bitsLt_bf16_f32) slices_S1024x4896_S1024x512_0_3360 := by
    unfold V
    simp only [hostOps0, hostOps0_1, hostOps0_2, List.flatten_cons, List.flatten_nil, List.append_nil, List.cons_append, List.nil_append]
    after_results <;> rfl
  rw [e]
  pointwise

/-- A slice of the input weights the region finds, by element. -/
theorem V_v7 (c : Dev nD) (x : Fin 1024) (y : Fin 512) :
    V m c main_v7 (ix2 x y) = m ((c : Thread nD τ).loc main_arg2) (ix2 x (⟨3872 + y.val, by omega⟩ : Fin 4896)) := by
  have e : (V m c main_v7 : FVec Ideal S1024x512 .bf16) = extractStridedSlice S1024x512 ![0, 3872] (truncf (F := Ideal) (φ := .f32) .bf16 (m ((c : Thread nD τ).loc main_arg2)) bitsLt_bf16_f32) slices_S1024x4896_S1024x512_0_3872 := by
    unfold V
    simp only [hostOps0, hostOps0_1, hostOps0_2, List.flatten_cons, List.flatten_nil, List.append_nil, List.cons_append, List.nil_append]
    after_results <;> rfl
  rw [e]
  pointwise

/-- A slice of the input weights the region finds, by element. -/
theorem V_v8 (c : Dev nD) (x : Fin 1024) (y : Fin 512) :
    V m c main_v8 (ix2 x y) = m ((c : Thread nD τ).loc main_arg2) (ix2 x (⟨4384 + y.val, by omega⟩ : Fin 4896)) := by
  have e : (V m c main_v8 : FVec Ideal S1024x512 .bf16) = extractStridedSlice S1024x512 ![0, 4384] (truncf (F := Ideal) (φ := .f32) .bf16 (m ((c : Thread nD τ).loc main_arg2)) bitsLt_bf16_f32) slices_S1024x4896_S1024x512_0_4384 := by
    unfold V
    simp only [hostOps0, hostOps0_1, hostOps0_2, List.flatten_cons, List.flatten_nil, List.append_nil, List.cons_append, List.nil_append]
    after_results <;> rfl
  rw [e]
  pointwise

/-- The normalisation weights the region finds, by element. -/
theorem V_v10 (c : Dev nD) (y : Fin 1024) :
    V m c main_v10 (ix2 0 y) = m ((c : Thread nD τ).loc main_arg1) (ix1 y) := by
  have e : (V m c main_v10 : FVec Ideal S1x1024 .f32) = shapeCast S1x1024 (m ((c : Thread nD τ).loc main_arg1) : FVec Ideal S1024 .f32) shapeCasts_S1024_S1x1024 := by
    unfold V
    simp only [hostOps0, hostOps0_1, hostOps0_2, List.flatten_cons, List.flatten_nil, List.append_nil, List.cons_append, List.nil_append]
    after_results <;> rfl
  rw [e]
  pointwise

/-- The step-size weights the region finds, padded with zeros to 128 lanes, by element. -/
theorem V_v9 (c : Dev nD) (x : Fin 1024) (y : Fin 128) :
    V m c main_v9 (ix2 x y) = if h : y.val < 32 then (m ((c : Thread nD τ).loc main_arg2) : FVec Ideal S1024x4896 .f32) (ix2 x (⟨2560 + y.val, by omega⟩ : Fin 4896)) else (0 : EReal) := by
  have e : (V m c main_v9 : FVec Ideal S1024x128 .bf16) = pad S1024x128 ![0, 0] ![0, 96] ![0, 0] (extractStridedSlice S1024x32 ![0, 2560] (truncf (F := Ideal) (φ := .f32) .bf16 (m ((c : Thread nD τ).loc main_arg2)) bitsLt_bf16_f32) slices_S1024x4896_S1024x32_0_2560) (sitofp (F := Ideal) .bf16 (constantI S_ 32 0#32)) pads_S1024x32_S1024x128_000_0960 h_S_ := by
    unfold V
    simp only [hostOps0, hostOps0_1, hostOps0_2, List.flatten_cons, List.flatten_nil, List.append_nil, List.cons_append, List.nil_append]
    simp only [StableHlo.TRef.binary, StableHlo.TRef.unary, StableHlo.TRef.toBuf, StableHlo.TRef.ofBuf, cast_eq]
    after_results <;> rfl
  have e2 : ∀ w : FVec Ideal S1024x4896 .f32, pad S1024x128 ![0, 0] ![0, 96] ![0, 0] (extractStridedSlice S1024x32 ![0, 2560] (truncf (F := Ideal) (φ := .f32) .bf16 w bitsLt_bf16_f32) slices_S1024x4896_S1024x32_0_2560) (sitofp (F := Ideal) .bf16 (constantI S_ 32 0#32)) pads_S1024x32_S1024x128_000_0960 h_S_ (ix2 x y)
      = if h : y.val < 32 then w (ix2 x (⟨2560 + y.val, by omega⟩ : Fin 4896)) else FloatOps.sitofp (F := Ideal) .bf16 0#32 := by
    intro w
    pointwise
  have z : (FloatOps.sitofp (F := Ideal) .bf16 0#32 : EReal) = 0 := by
    show (((0#32).toInt : ℝ) : EReal) = 0
    simp
  rw [e, e2]
  by_cases h : y.val < 32
  · rw [dif_pos h, dif_pos h]
  · rw [dif_neg h, dif_neg h]
    exact z

variable [Cert.InReferenceIdeal.Facts]

/-- Three runs of 8, 8 and 48 lanes side by side, repeated to 128 lanes. -/
def tile (a b : FVec Ideal S4224x8 .f32) (r : FVec Ideal S4224x48 .f32) : FVec Ideal S4224x128 .f32 :=
  shapeCast S4224x128 (broadcastInDim S1x4224x2x64 ![0, 1, 2, 3] bcast_S1x4224x1x64_S1x4224x2x64_0_1_2_3
    (shapeCast S1x4224x1x64 (concatenate S4224x64 1 [⟨S4224x8, a⟩, ⟨S4224x8, b⟩, ⟨S4224x48, r⟩] concatenates_S4224x8_S4224x8_S4224x48_S4224x64_d1) shapeCasts_S4224x64_S1x4224x1x64))
    shapeCasts_S1x4224x2x64_S4224x128

/-- The repeated runs, by element. -/
theorem tile_ix (a b : FVec Ideal S4224x8 .f32) (r : FVec Ideal S4224x48 .f32) (i : Fin 4224) (l : Fin 128) :
    tile a b r (ix2 i l) = if h : l.val % 64 < 8 then a (ix2 i (⟨l.val % 64, h⟩ : Fin 8))
      else if h' : l.val % 64 - 8 < 8 then b (ix2 i (⟨l.val % 64 - 8, h'⟩ : Fin 8)) else r (ix2 i (⟨l.val % 64 - 8 - 8, by omega⟩ : Fin 48)) := by
  refine (shapeCast_apply _ _ (ix2 i l) (ix4 0 i (⟨l.val / 64, by omega⟩ : Fin 2) (⟨l.val % 64, by omega⟩ : Fin 64)) ?_).trans ?_
  · rw [Shape.rowMajor_val_two, Shape.rowMajor_val_four]
    show (((0 : ℕ) * 4224 + i.val) * 2 + l.val / 64) * 64 + l.val % 64 = i.val * 128 + l.val
    omega
  generalize (⟨l.val / 64, by omega⟩ : Fin 2) = g
  generalize hd : (⟨l.val % 64, by omega⟩ : Fin 64) = d
  have hd' : l.val % 64 = d.val := congrArg Fin.val hd
  have e : ∀ x : FVec Ideal S1x4224x1x64 .f32, broadcastInDim S1x4224x2x64 ![0, 1, 2, 3] bcast_S1x4224x1x64_S1x4224x2x64_0_1_2_3 x (ix4 0 i g d) = x (ix4 0 i 0 d) := by
    intro x
    pointwise
  rw [e]
  refine (shapeCast_apply _ _ (ix4 0 i 0 d) (ix2 i d) ?_).trans ?_
  · rw [Shape.rowMajor_val_two, Shape.rowMajor_val_four]
    show i.val * 64 + d.val = (((0 : ℕ) * 4224 + i.val) * 1 + 0) * 64 + d.val
    omega
  simp only [hd']
  pointwise

/-- The table of the cosines the region finds. -/
theorem V_v39 (c : Dev nD) : (V m c main_v39 : FVec Ideal S4224x128 .f32) = tile (Host.cos Cert.InReferenceIdeal.Row.ang) (Host.cos Cert.InReferenceIdeal.Row.ang) (broadcastInDim S4224x48 ![] bcast_S_S4224x48 (constant (F := Ideal) S_ .f32 0x3F800000#32)) := by
  unfold V
  simp only [hostOps0, hostOps0_1, hostOps0_2, List.flatten_cons, List.flatten_nil, List.append_nil, List.cons_append, List.nil_append]
  after_results <;> rfl

/-- The table of the negated sines, for the lanes read from the right the region finds. -/
theorem V_v42 (c : Dev nD) : (V m c main_v42 : FVec Ideal S4224x128 .f32) = tile (Host.negf (Host.sin Cert.InReferenceIdeal.Row.ang)) (broadcastInDim S4224x8 ![] bcast_S_S4224x8 (constant (F := Ideal) S_ .f32 0x00000000#32)) (broadcastInDim S4224x48 ![] bcast_S_S4224x48 (constant (F := Ideal) S_ .f32 0x00000000#32)) := by
  unfold V
  simp only [hostOps0, hostOps0_1, hostOps0_2, List.flatten_cons, List.flatten_nil, List.append_nil, List.cons_append, List.nil_append]
  after_results <;> rfl

/-- The table of the sines, for the lanes read from the left the region finds. -/
theorem V_v45 (c : Dev nD) : (V m c main_v45 : FVec Ideal S4224x128 .f32) = tile (broadcastInDim S4224x8 ![] bcast_S_S4224x8 (constant (F := Ideal) S_ .f32 0x00000000#32)) (Host.sin Cert.InReferenceIdeal.Row.ang) (broadcastInDim S4224x48 ![] bcast_S_S4224x48 (constant (F := Ideal) S_ .f32 0x00000000#32)) := by
  unfold V
  simp only [hostOps0, hostOps0_1, hostOps0_2, List.flatten_cons, List.flatten_nil, List.append_nil, List.cons_append, List.nil_append]
  after_results <;> rfl

end Cert.InKernelIdeal.Value2
end
-- ==== Proof.InPay.lean ====
module

public import proofs.«01_k».proof.Proof.Gen.InKernelIdeal.Frame
public import proofs.«01_k».proof.Proof.InRef

@[expose] public section

set_option maxRecDepth 16384

noncomputable section

namespace Cert.InKernelIdeal.Value2

open Cert.InKernelIdeal Cert.InKernelIdeal.Gen Idealize.ShloMosaic Idealize.ShloMosaic.TcCoe Idealize.SL.Sem
open Idealize.ShloMosaic.Pipeline (Dat)
open Facts

/-- The normalised rows of a block, by element. -/
theorem pay3_ix (v0 : Vec Ideal S1x384x1024 .f32) (v2 : Vec Ideal S1x1024 .f32) (r : Fin 384) (x : Fin 1024) :
    k0_pay3 v0 v2 (ix2 r x) = v0 (ix3 0 r x) * Rows.rs (fun y => v0 (ix3 0 r y)) * v2 (ix2 0 x) := by
  unfold Rows.rs
  pointwise [k0_pay3]

/-- Rows times weights: the entry at a lane. -/
def dotAt {n : ℕ} (a : FVec Ideal S384x1024 .bf16) (w : FVec Ideal (⟨2, ![1024, n]⟩ : Shape) .bf16) (r : Fin 384) (l : Fin n) : EReal :=
  ∑ x : Fin 1024, a (ix2 r x) * w (ix2 x l)

/-- The block written into window 13 at a point, by element. -/
theorem out13_ix (x0 : Vec Ideal S1x384x1024 .f32) (x1 : Vec Ideal S1x1024 .f32) (x2 : Vec Ideal S1024x1024 .bf16) (x3 : Vec Ideal S1024x1536 .bf16) (x4 : Vec Ideal S1024x128 .bf16) (x5 : Vec Ideal S1024x512 .bf16) (x6 : Vec Ideal S1024x256 .bf16) (x7 : Vec Ideal S1024x512 .bf16) (x8 : Vec Ideal S1024x512 .bf16) (x9 : Vec Ideal S1024x512 .bf16) (x10 : Vec Ideal S384x128 .f32) (x11 : Vec Ideal S384x128 .f32) (x12 : Vec Ideal S384x128 .f32) (r : Fin 384) (l : Fin 1024) :
    out0_13 (F := Ideal) x0 x1 x2 x3 x4 x5 x6 x7 x8 x9 x10 x11 x12 (ix3 0 r l) = dotAt (n := 1024) (k0_pay3 x0 x1) x2 r l := by
  unfold out0_13 dotAt
  try unfold k0_pay21
  frame_out
  pointwise [k0_pay4]

/-- The block written into window 14 at a point, by element. -/
theorem out14_ix (x0 : Vec Ideal S1x384x1024 .f32) (x1 : Vec Ideal S1x1024 .f32) (x2 : Vec Ideal S1024x1024 .bf16) (x3 : Vec Ideal S1024x1536 .bf16) (x4 : Vec Ideal S1024x128 .bf16) (x5 : Vec Ideal S1024x512 .bf16) (x6 : Vec Ideal S1024x256 .bf16) (x7 : Vec Ideal S1024x512 .bf16) (x8 : Vec Ideal S1024x512 .bf16) (x9 : Vec Ideal S1024x512 .bf16) (x10 : Vec Ideal S384x128 .f32) (x11 : Vec Ideal S384x128 .f32) (x12 : Vec Ideal S384x128 .f32) (r : Fin 384) (l : Fin 1536) :
    out0_14 (F := Ideal) x0 x1 x2 x3 x4 x5 x6 x7 x8 x9 x10 x11 x12 (ix3 0 r l) = dotAt (n := 1536) (k0_pay3 x0 x1) x3 r l := by
  unfold out0_14 dotAt
  try unfold k0_pay21
  frame_out
  pointwise [k0_pay5]

/-- The block written into window 15 at a point, by element. -/
theorem out15_ix (x0 : Vec Ideal S1x384x1024 .f32) (x1 : Vec Ideal S1x1024 .f32) (x2 : Vec Ideal S1024x1024 .bf16) (x3 : Vec Ideal S1024x1536 .bf16) (x4 : Vec Ideal S1024x128 .bf16) (x5 : Vec Ideal S1024x512 .bf16) (x6 : Vec Ideal S1024x256 .bf16) (x7 : Vec Ideal S1024x512 .bf16) (x8 : Vec Ideal S1024x512 .bf16) (x9 : Vec Ideal S1024x512 .bf16) (x10 : Vec Ideal S384x128 .f32) (x11 : Vec Ideal S384x128 .f32) (x12 : Vec Ideal S384x128 .f32) (r : Fin 384) (l : Fin 128) :
    out0_15 (F := Ideal) x0 x1 x2 x3 x4 x5 x6 x7 x8 x9 x10 x11 x12 (ix3 0 r l) = dotAt (n := 128) (k0_pay3 x0 x1) x4 r l := by
  unfold out0_15 dotAt
  try unfold k0_pay21
  frame_out
  pointwise [k0_pay6, k0_pay7]

/-- The block written into window 18 at a point, by element. -/
theorem out18_ix (x0 : Vec Ideal S1x384x1024 .f32) (x1 : Vec Ideal S1x1024 .f32) (x2 : Vec Ideal S1024x1024 .bf16) (x3 : Vec Ideal S1024x1536 .bf16) (x4 : Vec Ideal S1024x128 .bf16) (x5 : Vec Ideal S1024x512 .bf16) (x6 : Vec Ideal S1024x256 .bf16) (x7 : Vec Ideal S1024x512 .bf16) (x8 : Vec Ideal S1024x512 .bf16) (x9 : Vec Ideal S1024x512 .bf16) (x10 : Vec Ideal S384x128 .f32) (x11 : Vec Ideal S384x128 .f32) (x12 : Vec Ideal S384x128 .f32) (r : Fin 384) (l : Fin 512) :
    out0_18 (F := Ideal) x0 x1 x2 x3 x4 x5 x6 x7 x8 x9 x10 x11 x12 (ix3 0 r l) = dotAt (n := 512) (k0_pay3 x0 x1) x7 r l * Ideal.ofBits .f32 0x3E000000#32 := by
  unfold out0_18 dotAt
  try unfold k0_pay21
  frame_out
  pointwise [k0_pay20]

/-- The block written into window 19 at a point, by element. -/
theorem out19_ix (x0 : Vec Ideal S1x384x1024 .f32) (x1 : Vec Ideal S1x1024 .f32) (x2 : Vec Ideal S1024x1024 .bf16) (x3 : Vec Ideal S1024x1536 .bf16) (x4 : Vec Ideal S1024x128 .bf16) (x5 : Vec Ideal S1024x512 .bf16) (x6 : Vec Ideal S1024x256 .bf16) (x7 : Vec Ideal S1024x512 .bf16) (x8 : Vec Ideal S1024x512 .bf16) (x9 : Vec Ideal S1024x512 .bf16) (x10 : Vec Ideal S384x128 .f32) (x11 : Vec Ideal S384x128 .f32) (x12 : Vec Ideal S384x128 .f32) (r : Fin 384) (l : Fin 512) :
    out0_19 (F := Ideal) x0 x1 x2 x3 x4 x5 x6 x7 x8 x9 x10 x11 x12 (ix3 0 r l) = dotAt (n := 512) (k0_pay3 x0 x1) x8 r l := by
  unfold out0_19 dotAt
  try unfold k0_pay21
  frame_out
  pointwise [k0_pay1]

/-- The block written into window 20 at a point, by element. -/
theorem out20_ix (x0 : Vec Ideal S1x384x1024 .f32) (x1 : Vec Ideal S1x1024 .f32) (x2 : Vec Ideal S1024x1024 .bf16) (x3 : Vec Ideal S1024x1536 .bf16) (x4 : Vec Ideal S1024x128 .bf16) (x5 : Vec Ideal S1024x512 .bf16) (x6 : Vec Ideal S1024x256 .bf16) (x7 : Vec Ideal S1024x512 .bf16) (x8 : Vec Ideal S1024x512 .bf16) (x9 : Vec Ideal S1024x512 .bf16) (x10 : Vec Ideal S384x128 .f32) (x11 : Vec Ideal S384x128 .f32) (x12 : Vec Ideal S384x128 .f32) (r : Fin 384) (l : Fin 512) :
    out0_20 (F := Ideal) x0 x1 x2 x3 x4 x5 x6 x7 x8 x9 x10 x11 x12 (ix3 0 r l) = dotAt (n := 512) (k0_pay3 x0 x1) x9 r l := by
  unfold out0_20 dotAt
  try unfold k0_pay21
  frame_out
  pointwise [k0_pay2]

/-- One run of 128 lanes turned with three tables, entry by entry: the lane itself, the lane 8 to its right and the
    lane 8 to its left. -/
def turnK (f c p q : Fin 128 → EReal) (l : Fin 128) : EReal :=
  f l * c l + f ⟨(l.val + 128 - 120) % 128, by omega⟩ * p l + f ⟨(l.val + 128 - 8) % 128, by omega⟩ * q l

/-- Lanes `k + e` of the product, for an offset `k` of 0, 128, 256 or 384, turned. -/
def qAt (a : FVec Ideal S384x1024 .bf16) (w : FVec Ideal S1024x512 .bf16) (c p q : FVec Ideal S384x128 .f32) (r : Fin 384)
    (k : ℕ) (hk : k + 128 ≤ 512) (e : Fin 128) : EReal :=
  turnK (fun y => dotAt (n := 512) a w r ⟨k + y.val, by omega⟩) (fun y => c (ix2 r y)) (fun y => p (ix2 r y)) (fun y => q (ix2 r y)) e

/-- The run of 128 lanes of the queries at 0, turned, by element. -/
theorem pay12_ix (a : FVec Ideal S384x1024 .bf16) (w : FVec Ideal S1024x512 .bf16) (c p q : FVec Ideal S384x128 .f32) (r : Fin 384) (e : Fin 128) :
    k0_pay12 a c p q w (ix2 r e) = qAt a w c p q r 0 (by decide) e := by
  unfold qAt turnK dotAt
  simp only [Nat.zero_add]
  pointwise [k0_pay12, k0_pay8, k0_pay9, k0_pay10, k0_pay11]

/-- The run of 128 lanes of the queries at 128, turned, by element. -/
theorem pay13_ix (a : FVec Ideal S384x1024 .bf16) (w : FVec Ideal S1024x512 .bf16) (c p q : FVec Ideal S384x128 .f32) (r : Fin 384) (e : Fin 128) :
    k0_pay13 a c p q w (ix2 r e) = qAt a w c p q r 128 (by decide) e := by
  unfold qAt turnK dotAt
  pointwise [k0_pay13, k0_pay8, k0_pay9, k0_pay10, k0_pay11]

/-- The run of 128 lanes of the queries at 256, turned, by element. -/
theorem pay14_ix (a : FVec Ideal S384x1024 .bf16) (w : FVec Ideal S1024x512 .bf16) (c p q : FVec Ideal S384x128 .f32) (r : Fin 384) (e : Fin 128) :
    k0_pay14 a c p q w (ix2 r e) = qAt a w c p q r 256 (by decide) e := by
  unfold qAt turnK dotAt
  pointwise [k0_pay14, k0_pay8, k0_pay9, k0_pay10, k0_pay11]

/-- The last run of 128 lanes of the queries before it is turned, by element. -/
theorem pay15_ix (a : FVec Ideal S384x1024 .bf16) (w : FVec Ideal S1024x512 .bf16) (r : Fin 384) (e : Fin 128) :
    k0_pay15 a w (ix2 r e) = dotAt (n := 512) a w r ⟨384 + e.val, by omega⟩ := by
  unfold dotAt
  pointwise [k0_pay15, k0_pay11]

/-- The four runs side by side, scaled, by element. -/
theorem pay18_cat (v40 v42 v53 v61 v69 v70 v71 v72 : FVec Ideal S384x128 .f32) (r : Fin 384) (l : Fin 512) :
    k0_pay18 v40 v42 v53 v61 v69 v70 v71 v72 (ix3 0 r l) =
      (if h : l.val < 128 then v53 (ix2 r ⟨l.val, h⟩) else if h : l.val - 128 < 128 then v61 (ix2 r ⟨l.val - 128, h⟩)
        else if h : l.val - 128 - 128 < 128 then v69 (ix2 r ⟨l.val - 128 - 128, h⟩)
        else v71 (ix2 r ⟨l.val - 128 - 128 - 128, by omega⟩) + v72 (ix2 r ⟨l.val - 128 - 128 - 128, by omega⟩) * v40 (ix2 r ⟨l.val - 128 - 128 - 128, by omega⟩)
          + v70 (ix2 r ⟨(l.val - 128 - 128 - 128 + 128 - 8) % 128, by omega⟩) * v42 (ix2 r ⟨l.val - 128 - 128 - 128, by omega⟩)) * Ideal.ofBits .f32 0x3E000000#32 := by
  pointwise [k0_pay18]

/-- The queries a point writes, by element. -/
theorem pay18_ix (a : FVec Ideal S384x1024 .bf16) (w : FVec Ideal S1024x512 .bf16) (c p q : FVec Ideal S384x128 .f32) (r : Fin 384) (l : Fin 512) :
    k0_pay18 (k0_pay9 p) (k0_pay10 q) (k0_pay12 a c p q w) (k0_pay13 a c p q w) (k0_pay14 a c p q w) (k0_pay15 a w) (k0_pay16 a c w) (k0_pay17 a w) (ix3 0 r l)
      = qAt a w c p q r (l.val / 128 * 128) (by omega) ⟨l.val % 128, by omega⟩ * Ideal.ofBits .f32 0x3E000000#32 := by
  have key : ∀ (k : ℕ) (hk : k + 128 ≤ 512) (e : Fin 128), l.val = k + e.val → k % 128 = 0 →
      qAt a w c p q r k hk e = qAt a w c p q r (l.val / 128 * 128) (by omega) ⟨l.val % 128, by omega⟩ := by
    intro k hk e h h0
    have he : e = ⟨l.val % 128, by omega⟩ := Fin.ext (by simp only; omega)
    obtain rfl : k = l.val / 128 * 128 := by omega
    exact congrArg (qAt a w c p q r _ _) he
  rw [pay18_cat]
  refine congrArg (· * Ideal.ofBits .f32 0x3E000000#32) ?_
  by_cases h1 : l.val < 128
  · rw [dif_pos h1, pay12_ix]
    exact key _ _ _ (by simp only; omega) (by decide)
  by_cases h2 : l.val - 128 < 128
  · rw [dif_neg h1, dif_pos h2, pay13_ix]
    exact key _ _ _ (by simp only; omega) (by decide)
  by_cases h3 : l.val - 128 - 128 < 128
  · rw [dif_neg h1, dif_neg h2, dif_pos h3, pay14_ix]
    exact key _ _ _ (by simp only; omega) (by decide)
  rw [dif_neg h1, dif_neg h2, dif_neg h3]
  refine Eq.trans ?_ (key 384 (by decide) ⟨l.val - 128 - 128 - 128, by omega⟩ (by simp only; omega) (by decide))
  unfold qAt turnK dotAt
  pointwise [k0_pay16, k0_pay17, k0_pay8, k0_pay9, k0_pay10, k0_pay15, k0_pay11]

/-- The turned keys a point writes, by element. -/
theorem pay19_cat (a : FVec Ideal S384x1024 .bf16) (w : FVec Ideal S1024x256 .bf16) (c p q : FVec Ideal S384x128 .f32) (r : Fin 384) (l : Fin 256) :
    k0_pay19 a (k0_pay8 c) (k0_pay9 p) (k0_pay10 q) w (ix3 0 r l) =
      if h : l.val < 128 then turnK (fun y => dotAt (n := 256) a w r ⟨y.val, by omega⟩) (fun y => c (ix2 r y)) (fun y => p (ix2 r y)) (fun y => q (ix2 r y)) ⟨l.val, h⟩
      else dotAt (n := 256) a w r ⟨128 + (l.val - 128), by omega⟩ := by
  unfold turnK dotAt
  pointwise [k0_pay19, k0_pay8, k0_pay9, k0_pay10]

/-- The block of queries written at a point, by element. -/
theorem out16_ix (x0 : Vec Ideal S1x384x1024 .f32) (x1 : Vec Ideal S1x1024 .f32) (x2 : Vec Ideal S1024x1024 .bf16) (x3 : Vec Ideal S1024x1536 .bf16) (x4 : Vec Ideal S1024x128 .bf16) (x5 : Vec Ideal S1024x512 .bf16) (x6 : Vec Ideal S1024x256 .bf16) (x7 : Vec Ideal S1024x512 .bf16) (x8 : Vec Ideal S1024x512 .bf16) (x9 : Vec Ideal S1024x512 .bf16) (x10 : Vec Ideal S384x128 .f32) (x11 : Vec Ideal S384x128 .f32) (x12 : Vec Ideal S384x128 .f32) (r : Fin 384) (l : Fin 512) :
    out0_16 (F := Ideal) x0 x1 x2 x3 x4 x5 x6 x7 x8 x9 x10 x11 x12 (ix3 0 r l) = qAt (k0_pay3 x0 x1) x5 x10 x11 x12 r (l.val / 128 * 128) (by omega) ⟨l.val % 128, by omega⟩ * Ideal.ofBits .f32 0x3E000000#32 := by
  rw [← pay18_ix]
  unfold out0_16 k0_pay23 k0_pay22 k0_pay21
  frame_out

/-- The block of keys and values written at a point, by element. -/
theorem out17_ix (x0 : Vec Ideal S1x384x1024 .f32) (x1 : Vec Ideal S1x1024 .f32) (x2 : Vec Ideal S1024x1024 .bf16) (x3 : Vec Ideal S1024x1536 .bf16) (x4 : Vec Ideal S1024x128 .bf16) (x5 : Vec Ideal S1024x512 .bf16) (x6 : Vec Ideal S1024x256 .bf16) (x7 : Vec Ideal S1024x512 .bf16) (x8 : Vec Ideal S1024x512 .bf16) (x9 : Vec Ideal S1024x512 .bf16) (x10 : Vec Ideal S384x128 .f32) (x11 : Vec Ideal S384x128 .f32) (x12 : Vec Ideal S384x128 .f32) (r : Fin 384) (l : Fin 256) :
    out0_17 (F := Ideal) x0 x1 x2 x3 x4 x5 x6 x7 x8 x9 x10 x11 x12 (ix3 0 r l) =
      if h : l.val < 128 then turnK (fun y => dotAt (n := 256) (k0_pay3 x0 x1) x6 r ⟨y.val, by omega⟩) (fun y => x10 (ix2 r y)) (fun y => x11 (ix2 r y)) (fun y => x12 (ix2 r y)) ⟨l.val, h⟩
      else dotAt (n := 256) (k0_pay3 x0 x1) x6 r ⟨128 + (l.val - 128), by omega⟩ := by
  rw [← pay19_cat]
  unfold out0_17 k0_pay23 k0_pay22 k0_pay21
  frame_out

end Cert.InKernelIdeal.Value2
end
-- ==== Proof.InValue.lean ====
module

public import proofs.«01_k».proof.Proof.Gen.InKernelIdeal.Value
public import proofs.«01_k».proof.Proof.InHost
public import proofs.«01_k».proof.Proof.InPay
public import Idealize.ShloMosaic.Lib.Pipeline.Covers

@[expose] public section

set_option maxRecDepth 16384

noncomputable section

namespace Cert.InKernelIdeal.Value2

open Cert.InKernelIdeal Cert.InKernelIdeal.Gen Idealize.ShloMosaic Idealize.ShloMosaic.TcCoe Idealize.SL.Sem
open Idealize.ShloMosaic.Pipeline (Dat)
open Facts

variable (m : (ℓ : Loc nD τ sig) → Buf (Elt Ideal) ℓ)

/-- Which block of its array each window reads or writes at a point. -/
theorem index_facts : ∀ t : Fin cfg0.N,
    ((cfg0.win 0).index t 0 = t.val / 11 ∧ (cfg0.win 0).index t 1 = t.val % 11 ∧ (cfg0.win 0).index t 2 = 0)
    ∧ ((cfg0.win 1).index t 0 = 0 ∧ (cfg0.win 1).index t 1 = 0)
    ∧ ((cfg0.win 2).index t 0 = 0 ∧ (cfg0.win 2).index t 1 = 0)
    ∧ ((cfg0.win 3).index t 0 = 0 ∧ (cfg0.win 3).index t 1 = 0)
    ∧ ((cfg0.win 4).index t 0 = 0 ∧ (cfg0.win 4).index t 1 = 0)
    ∧ ((cfg0.win 5).index t 0 = 0 ∧ (cfg0.win 5).index t 1 = 0)
    ∧ ((cfg0.win 6).index t 0 = 0 ∧ (cfg0.win 6).index t 1 = 0)
    ∧ ((cfg0.win 7).index t 0 = 0 ∧ (cfg0.win 7).index t 1 = 0)
    ∧ ((cfg0.win 8).index t 0 = 0 ∧ (cfg0.win 8).index t 1 = 0)
    ∧ ((cfg0.win 9).index t 0 = 0 ∧ (cfg0.win 9).index t 1 = 0)
    ∧ ((cfg0.win 10).index t 0 = t.val % 11 ∧ (cfg0.win 10).index t 1 = 0)
    ∧ ((cfg0.win 11).index t 0 = t.val % 11 ∧ (cfg0.win 11).index t 1 = 0)
    ∧ ((cfg0.win 12).index t 0 = t.val % 11 ∧ (cfg0.win 12).index t 1 = 0) := by
  decide +kernel

/-- Which block of its result each window writes at a point. -/
theorem index_out : ∀ t : Fin cfg0.N,
    ((cfg0.win 13).index t 0 = t.val / 11 ∧ (cfg0.win 13).index t 1 = t.val % 11 ∧ (cfg0.win 13).index t 2 = 0)
    ∧ ((cfg0.win 14).index t 0 = t.val / 11 ∧ (cfg0.win 14).index t 1 = t.val % 11 ∧ (cfg0.win 14).index t 2 = 0)
    ∧ ((cfg0.win 15).index t 0 = t.val / 11 ∧ (cfg0.win 15).index t 1 = t.val % 11 ∧ (cfg0.win 15).index t 2 = 0)
    ∧ ((cfg0.win 16).index t 0 = t.val / 11 ∧ (cfg0.win 16).index t 1 = t.val % 11 ∧ (cfg0.win 16).index t 2 = 0)
    ∧ ((cfg0.win 17).index t 0 = t.val / 11 ∧ (cfg0.win 17).index t 1 = t.val % 11 ∧ (cfg0.win 17).index t 2 = 0)
    ∧ ((cfg0.win 18).index t 0 = t.val / 11 ∧ (cfg0.win 18).index t 1 = t.val % 11 ∧ (cfg0.win 18).index t 2 = 0)
    ∧ ((cfg0.win 19).index t 0 = t.val / 11 ∧ (cfg0.win 19).index t 1 = t.val % 11 ∧ (cfg0.win 19).index t 2 = 0)
    ∧ ((cfg0.win 20).index t 0 = t.val / 11 ∧ (cfg0.win 20).index t 1 = t.val % 11 ∧ (cfg0.win 20).index t 2 = 0) := by
  decide +kernel

/-- The number of grid points. -/
theorem N_eq : cfg0.N = 88 := by decide

/-- The block of rows at a point, by element. -/
theorem iblk0 (c : Dev nD) (t : Fin cfg0.N) (y : Fin 384) (z : Fin 1024) (i : S8x4224x1024.Idx)
    (h0 : (i 0).val = t.val / 11) (h1 : (i 1).val = (t.val % 11) * 384 + y.val) (h2 : (i 2).val = z.val) :
    iblk m c 0 t (ix3 0 y z) = V m c main_arg0 i := by
  obtain ⟨f0, f1, f2⟩ := (index_facts t).1
  blk_simp [iblk]
  show V m c main_arg0 _ = _
  refine congrArg (V m c main_arg0) (funext fun a => Fin.ext ?_)
  refine (Pipeline.Window.rect_emb_val (cfg0.win 0) t (ix3 0 y z) a).trans ?_
  match a with
  | ⟨0, _⟩ => show (cfg0.win 0).index t 0 * 1 + 0 = (i 0).val; rw [f0, h0]; try omega
  | ⟨1, _⟩ => show (cfg0.win 0).index t 1 * 384 + y.val = (i 1).val; rw [f1, h1]; try omega
  | ⟨2, _⟩ => show (cfg0.win 0).index t 2 * 1024 + z.val = (i 2).val; rw [f2, h2]; try omega

/-- The block of a window that is its whole array. -/
theorem iblk1 (c : Dev nD) (t : Fin cfg0.N) (y : Fin 1024) (i : S1x1024.Idx)
    (h0 : (i 0).val = 0) (h1 : (i 1).val = y.val) :
    iblk m c 1 t (ix2 0 y) = V m c main_v10 i := by
  obtain ⟨f0, f1⟩ := (index_facts t).2.1
  blk_simp [iblk]
  show V m c main_v10 _ = _
  refine congrArg (V m c main_v10) (funext fun a => Fin.ext ?_)
  refine (Pipeline.Window.rect_emb_val (cfg0.win 1) t (ix2 0 y) a).trans ?_
  match a with
  | ⟨0, _⟩ => show (cfg0.win 1).index t 0 * 1 + 0 = (i 0).val; rw [f0, h0]; try omega
  | ⟨1, _⟩ => show (cfg0.win 1).index t 1 * 1024 + y.val = (i 1).val; rw [f1, h1]; try omega

/-- The block of a window that is its whole array. -/
theorem iblk2 (c : Dev nD) (t : Fin cfg0.N) (x : Fin 1024) (y : Fin 1024) (i : S1024x1024.Idx)
    (h0 : (i 0).val = x.val) (h1 : (i 1).val = y.val) :
    iblk m c 2 t (ix2 x y) = V m c main_v1 i := by
  obtain ⟨f0, f1⟩ := (index_facts t).2.2.1
  blk_simp [iblk]
  show V m c main_v1 _ = _
  refine congrArg (V m c main_v1) (funext fun a => Fin.ext ?_)
  refine (Pipeline.Window.rect_emb_val (cfg0.win 2) t (ix2 x y) a).trans ?_
  match a with
  | ⟨0, _⟩ => show (cfg0.win 2).index t 0 * 1024 + x.val = (i 0).val; rw [f0, h0]; try omega
  | ⟨1, _⟩ => show (cfg0.win 2).index t 1 * 1024 + y.val = (i 1).val; rw [f1, h1]; try omega

/-- The block of a window that is its whole array. -/
theorem iblk3 (c : Dev nD) (t : Fin cfg0.N) (x : Fin 1024) (y : Fin 1536) (i : S1024x1536.Idx)
    (h0 : (i 0).val = x.val) (h1 : (i 1).val = y.val) :
    iblk m c 3 t (ix2 x y) = V m c main_v2 i := by
  obtain ⟨f0, f1⟩ := (index_facts t).2.2.2.1
  blk_simp [iblk]
  show V m c main_v2 _ = _
  refine congrArg (V m c main_v2) (funext fun a => Fin.ext ?_)
  refine (Pipeline.Window.rect_emb_val (cfg0.win 3) t (ix2 x y) a).trans ?_
  match a with
  | ⟨0, _⟩ => show (cfg0.win 3).index t 0 * 1024 + x.val = (i 0).val; rw [f0, h0]; try omega
  | ⟨1, _⟩ => show (cfg0.win 3).index t 1 * 1536 + y.val = (i 1).val; rw [f1, h1]; try omega

/-- The block of a window that is its whole array. -/
theorem iblk4 (c : Dev nD) (t : Fin cfg0.N) (x : Fin 1024) (y : Fin 128) (i : S1024x128.Idx)
    (h0 : (i 0).val = x.val) (h1 : (i 1).val = y.val) :
    iblk m c 4 t (ix2 x y) = V m c main_v9 i := by
  obtain ⟨f0, f1⟩ := (index_facts t).2.2.2.2.1
  blk_simp [iblk]
  show V m c main_v9 _ = _
  refine congrArg (V m c main_v9) (funext fun a => Fin.ext ?_)
  refine (Pipeline.Window.rect_emb_val (cfg0.win 4) t (ix2 x y) a).trans ?_
  match a with
  | ⟨0, _⟩ => show (cfg0.win 4).index t 0 * 1024 + x.val = (i 0).val; rw [f0, h0]; try omega
  | ⟨1, _⟩ => show (cfg0.win 4).index t 1 * 128 + y.val = (i 1).val; rw [f1, h1]; try omega

/-- The block of a window that is its whole array. -/
theorem iblk5 (c : Dev nD) (t : Fin cfg0.N) (x : Fin 1024) (y : Fin 512) (i : S1024x512.Idx)
    (h0 : (i 0).val = x.val) (h1 : (i 1).val = y.val) :
    iblk m c 5 t (ix2 x y) = V m c main_v4 i := by
  obtain ⟨f0, f1⟩ := (index_facts t).2.2.2.2.2.1
  blk_simp [iblk]
  show V m c main_v4 _ = _
  refine congrArg (V m c main_v4) (funext fun a => Fin.ext ?_)
  refine (Pipeline.Window.rect_emb_val (cfg0.win 5) t (ix2 x y) a).trans ?_
  match a with
  | ⟨0, _⟩ => show (cfg0.win 5).index t 0 * 1024 + x.val = (i 0).val; rw [f0, h0]; try omega
  | ⟨1, _⟩ => show (cfg0.win 5).index t 1 * 512 + y.val = (i 1).val; rw [f1, h1]; try omega

/-- The block of a window that is its whole array. -/
theorem iblk6 (c : Dev nD) (t : Fin cfg0.N) (x : Fin 1024) (y : Fin 256) (i : S1024x256.Idx)
    (h0 : (i 0).val = x.val) (h1 : (i 1).val = y.val) :
    iblk m c 6 t (ix2 x y) = V m c main_v5 i := by
  obtain ⟨f0, f1⟩ := (index_facts t).2.2.2.2.2.2.1
  blk_simp [iblk]
  show V m c main_v5 _ = _
  refine congrArg (V m c main_v5) (funext fun a => Fin.ext ?_)
  refine (Pipeline.Window.rect_emb_val (cfg0.win 6) t (ix2 x y) a).trans ?_
  match a with
  | ⟨0, _⟩ => show (cfg0.win 6).index t 0 * 1024 + x.val = (i 0).val; rw [f0, h0]; try omega
  | ⟨1, _⟩ => show (cfg0.win 6).index t 1 * 256 + y.val = (i 1).val; rw [f1, h1]; try omega

/-- The block of a window that is its whole array. -/
theorem iblk7 (c : Dev nD) (t : Fin cfg0.N) (x : Fin 1024) (y : Fin 512) (i : S1024x512.Idx)
    (h0 : (i 0).val = x.val) (h1 : (i 1).val = y.val) :
    iblk m c 7 t (ix2 x y) = V m c main_v6 i := by
  obtain ⟨f0, f1⟩ := (index_facts t).2.2.2.2.2.2.2.1
  blk_simp [iblk]
  show V m c main_v6 _ = _
  refine congrArg (V m c main_v6) (funext fun a => Fin.ext ?_)
  refine (Pipeline.Window.rect_emb_val (cfg0.win 7) t (ix2 x y) a).trans ?_
  match a with
  | ⟨0, _⟩ => show (cfg0.win 7).index t 0 * 1024 + x.val = (i 0).val; rw [f0, h0]; try omega
  | ⟨1, _⟩ => show (cfg0.win 7).index t 1 * 512 + y.val = (i 1).val; rw [f1, h1]; try omega

/-- The block of a window that is its whole array. -/
theorem iblk8 (c : Dev nD) (t : Fin cfg0.N) (x : Fin 1024) (y : Fin 512) (i : S1024x512.Idx)
    (h0 : (i 0).val = x.val) (h1 : (i 1).val = y.val) :
    iblk m c 8 t (ix2 x y) = V m c main_v7 i := by
  obtain ⟨f0, f1⟩ := (index_facts t).2.2.2.2.2.2.2.2.1
  blk_simp [iblk]
  show V m c main_v7 _ = _
  refine congrArg (V m c main_v7) (funext fun a => Fin.ext ?_)
  refine (Pipeline.Window.rect_emb_val (cfg0.win 8) t (ix2 x y) a).trans ?_
  match a with
  | ⟨0, _⟩ => show (cfg0.win 8).index t 0 * 1024 + x.val = (i 0).val; rw [f0, h0]; try omega
  | ⟨1, _⟩ => show (cfg0.win 8).index t 1 * 512 + y.val = (i 1).val; rw [f1, h1]; try omega

/-- The block of a window that is its whole array. -/
theorem iblk9 (c : Dev nD) (t : Fin cfg0.N) (x : Fin 1024) (y : Fin 512) (i : S1024x512.Idx)
    (h0 : (i 0).val = x.val) (h1 : (i 1).val = y.val) :
    iblk m c 9 t (ix2 x y) = V m c main_v8 i := by
  obtain ⟨f0, f1⟩ := (index_facts t).2.2.2.2.2.2.2.2.2.1
  blk_simp [iblk]
  show V m c main_v8 _ = _
  refine congrArg (V m c main_v8) (funext fun a => Fin.ext ?_)
  refine (Pipeline.Window.rect_emb_val (cfg0.win 9) t (ix2 x y) a).trans ?_
  match a with
  | ⟨0, _⟩ => show (cfg0.win 9).index t 0 * 1024 + x.val = (i 0).val; rw [f0, h0]; try omega
  | ⟨1, _⟩ => show (cfg0.win 9).index t 1 * 512 + y.val = (i 1).val; rw [f1, h1]; try omega

/-- The block of a table at a point, by element. -/
theorem iblk10 (c : Dev nD) (t : Fin cfg0.N) (x : Fin 384) (y : Fin 128) (i : S4224x128.Idx)
    (h0 : (i 0).val = (t.val % 11) * 384 + x.val) (h1 : (i 1).val = y.val) :
    iblk m c 10 t (ix2 x y) = V m c main_v39 i := by
  obtain ⟨f0, f1⟩ := (index_facts t).2.2.2.2.2.2.2.2.2.2.1
  blk_simp [iblk]
  show V m c main_v39 _ = _
  refine congrArg (V m c main_v39) (funext fun a => Fin.ext ?_)
  refine (Pipeline.Window.rect_emb_val (cfg0.win 10) t (ix2 x y) a).trans ?_
  match a with
  | ⟨0, _⟩ => show (cfg0.win 10).index t 0 * 384 + x.val = (i 0).val; rw [f0, h0]; try omega
  | ⟨1, _⟩ => show (cfg0.win 10).index t 1 * 128 + y.val = (i 1).val; rw [f1, h1]; try omega

/-- The block of a table at a point, by element. -/
theorem iblk11 (c : Dev nD) (t : Fin cfg0.N) (x : Fin 384) (y : Fin 128) (i : S4224x128.Idx)
    (h0 : (i 0).val = (t.val % 11) * 384 + x.val) (h1 : (i 1).val = y.val) :
    iblk m c 11 t (ix2 x y) = V m c main_v42 i := by
  obtain ⟨f0, f1⟩ := (index_facts t).2.2.2.2.2.2.2.2.2.2.2.1
  blk_simp [iblk]
  show V m c main_v42 _ = _
  refine congrArg (V m c main_v42) (funext fun a => Fin.ext ?_)
  refine (Pipeline.Window.rect_emb_val (cfg0.win 11) t (ix2 x y) a).trans ?_
  match a with
  | ⟨0, _⟩ => show (cfg0.win 11).index t 0 * 384 + x.val = (i 0).val; rw [f0, h0]; try omega
  | ⟨1, _⟩ => show (cfg0.win 11).index t 1 * 128 + y.val = (i 1).val; rw [f1, h1]; try omega

/-- The block of a table at a point, by element. -/
theorem iblk12 (c : Dev nD) (t : Fin cfg0.N) (x : Fin 384) (y : Fin 128) (i : S4224x128.Idx)
    (h0 : (i 0).val = (t.val % 11) * 384 + x.val) (h1 : (i 1).val = y.val) :
    iblk m c 12 t (ix2 x y) = V m c main_v45 i := by
  obtain ⟨f0, f1⟩ := (index_facts t).2.2.2.2.2.2.2.2.2.2.2.2
  blk_simp [iblk]
  show V m c main_v45 _ = _
  refine congrArg (V m c main_v45) (funext fun a => Fin.ext ?_)
  refine (Pipeline.Window.rect_emb_val (cfg0.win 12) t (ix2 x y) a).trans ?_
  match a with
  | ⟨0, _⟩ => show (cfg0.win 12).index t 0 * 384 + x.val = (i 0).val; rw [f0, h0]; try omega
  | ⟨1, _⟩ => show (cfg0.win 12).index t 1 * 128 + y.val = (i 1).val; rw [f1, h1]; try omega

variable [Cert.InReferenceIdeal.Facts]

/-- The reference's projected rows of what a launch starts from. -/
abbrev prjAt (c : Dev nD) : FVec Ideal Cert.InReferenceIdeal.S8x4224x4896 .f32 :=
  Cert.InReferenceIdeal.Row.prj (Cert.InReferenceIdeal.Row.nrm (m ((c : Thread nD τ).loc main_arg0)) (m ((c : Thread nD τ).loc main_arg1))) (m ((c : Thread nD τ).loc main_arg2) : FVec Ideal S1024x4896 .f32)

/-- A point's product with a slice of the weights is the reference's projection at those columns. -/
theorem dot_at (c : Dev nD) (t : Fin cfg0.N) {n : ℕ} (w : FVec Ideal (⟨2, ![1024, n]⟩ : Shape) .bf16) (r : Fin 384) (l : Fin n)
    (b : Fin 8) (i : Fin 4224) (k : Fin 4896) (hb : b.val = t.val / 11) (hi : i.val = t.val % 11 * 384 + r.val)
    (hw : ∀ x, w (ix2 x l) = (m ((c : Thread nD τ).loc main_arg2) : FVec Ideal S1024x4896 .f32) (ix2 x k)) :
    dotAt (k0_pay3 (iblk m c 0 t) (iblk m c 1 t)) w r l = prjAt m c (ix3 b i k) := by
  unfold dotAt
  rw [prjAt, Cert.InReferenceIdeal.Row.prj_ix]
  refine Finset.sum_congr rfl fun x _ => ?_
  rw [hw, pay3_ix, Cert.InReferenceIdeal.Row.nrm_ix, iblk1 m c t x (ix2 0 x) rfl rfl, V_v10]
  have h0 : ∀ y, iblk m c 0 t (ix3 0 r y) = (m ((c : Thread nD τ).loc main_arg0) : FVec Ideal S8x4224x1024 .f32) (ix3 b i y) := by
    intro y
    rw [iblk0 m c t r y (ix3 b i y) hb hi rfl, V_main_arg0]
  rw [h0, show (fun y => iblk m c 0 t (ix3 0 r y)) = _ from funext h0]

/-- The block written into window 13 at a point is the reference's array there. -/
theorem out13_at (c : Dev nD) (t : Fin cfg0.N) (r : Fin 384) (l : Fin 1024) (b : Fin 8) (i : Fin 4224)
    (hb : b.val = t.val / 11) (hi : i.val = t.val % 11 * 384 + r.val) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r l) = Cert.InReferenceIdeal.Row.zR (prjAt m c) (ix3 b i l) := by
  rw [out13_ix, Cert.InReferenceIdeal.Row.zR_ix]
  exact dot_at m c t (n := 1024) (iblk m c 2 t) r l b i ⟨l.val, by omega⟩ hb hi (fun x => by rw [iblk2 m c t x l (ix2 x l) rfl rfl, V_v1])

/-- The block written into window 14 at a point is the reference's array there. -/
theorem out14_at (c : Dev nD) (t : Fin cfg0.N) (r : Fin 384) (l : Fin 1536) (b : Fin 8) (i : Fin 4224)
    (hb : b.val = t.val / 11) (hi : i.val = t.val % 11 * 384 + r.val) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r l) = Cert.InReferenceIdeal.Row.xbcR (prjAt m c) (ix3 b i l) := by
  rw [out14_ix, Cert.InReferenceIdeal.Row.xbcR_ix]
  exact dot_at m c t (n := 1536) (iblk m c 3 t) r l b i ⟨1024 + l.val, by omega⟩ hb hi (fun x => by rw [iblk3 m c t x l (ix2 x l) rfl rfl, V_v2])

/-- The block written into window 18 at a point is the reference's array there. -/
theorem out18_at (c : Dev nD) (t : Fin cfg0.N) (r : Fin 384) (l : Fin 512) (b : Fin 8) (i : Fin 4224)
    (hb : b.val = t.val / 11) (hi : i.val = t.val % 11 * 384 + r.val) :
    out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r l) = Cert.InReferenceIdeal.Row.nqR (prjAt m c) (ix3 b i l) := by
  rw [out18_ix, Cert.InReferenceIdeal.Row.nqR_ix]
  exact congrArg (· * Ideal.ofBits .f32 0x3E000000#32) (dot_at m c t (n := 512) (iblk m c 7 t) r l b i ⟨3360 + l.val, by omega⟩ hb hi (fun x => by rw [iblk7 m c t x l (ix2 x l) rfl rfl, V_v6]))

/-- The block written into window 19 at a point is the reference's array there. -/
theorem out19_at (c : Dev nD) (t : Fin cfg0.N) (r : Fin 384) (l : Fin 512) (b : Fin 8) (i : Fin 4224)
    (hb : b.val = t.val / 11) (hi : i.val = t.val % 11 * 384 + r.val) :
    out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r l) = Cert.InReferenceIdeal.Row.nkR (prjAt m c) (ix3 b i l) := by
  rw [out19_ix, Cert.InReferenceIdeal.Row.nkR_ix]
  exact dot_at m c t (n := 512) (iblk m c 8 t) r l b i ⟨3872 + l.val, by omega⟩ hb hi (fun x => by rw [iblk8 m c t x l (ix2 x l) rfl rfl, V_v7])

/-- The block written into window 20 at a point is the reference's array there. -/
theorem out20_at (c : Dev nD) (t : Fin cfg0.N) (r : Fin 384) (l : Fin 512) (b : Fin 8) (i : Fin 4224)
    (hb : b.val = t.val / 11) (hi : i.val = t.val % 11 * 384 + r.val) :
    out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r l) = Cert.InReferenceIdeal.Row.nvR (prjAt m c) (ix3 b i l) := by
  rw [out20_ix, Cert.InReferenceIdeal.Row.nvR_ix]
  exact dot_at m c t (n := 512) (iblk m c 9 t) r l b i ⟨4384 + l.val, by omega⟩ hb hi (fun x => by rw [iblk9 m c t x l (ix2 x l) rfl rfl, V_v8])

/-- The block of step sizes written at a point is the reference's array there. -/
theorem out15_at (c : Dev nD) (t : Fin cfg0.N) (r : Fin 384) (l : Fin 128) (b : Fin 8) (i : Fin 4224)
    (hb : b.val = t.val / 11) (hi : i.val = t.val % 11 * 384 + r.val) :
    out0_15 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r l) = Cert.InReferenceIdeal.Row.dtR (prjAt m c) (ix3 b i l) := by
  rw [out15_ix, Cert.InReferenceIdeal.Row.dtR_ix]
  by_cases h : l.val < 32
  · rw [dif_pos h]
    exact dot_at m c t (n := 128) (iblk m c 4 t) r l b i ⟨2560 + l.val, by omega⟩ hb hi (fun x => by rw [iblk4 m c t x l (ix2 x l) rfl rfl, V_v9, dif_pos h])
  · rw [dif_neg h]
    unfold dotAt
    refine Finset.sum_eq_zero fun x _ => ?_
    rw [iblk4 m c t x l (ix2 x l) rfl rfl, V_v9, dif_neg h]
    exact mul_zero _

/-- The one pattern is one. -/
theorem ofBits_one : (Ideal.ofBits .f32 0x3F800000#32 : EReal) = 1 := by
  simp [Ideal.ofBits, Ideal.ieee]
  rw [← EReal.coe_mul]
  norm_num

/-- A run of 128 lanes turned with the three tables is its two heads turned by the angles. -/
theorem turn_eq (i : Fin 4224) (f C P Q : Fin 128 → EReal) (g : Fin 64 → EReal) (l : Fin 128)
    (hC : ∀ y, C y = tile (Host.cos Cert.InReferenceIdeal.Row.ang) (Host.cos Cert.InReferenceIdeal.Row.ang) (broadcastInDim S4224x48 ![] bcast_S_S4224x48 (constant (F := Ideal) S_ .f32 0x3F800000#32)) (ix2 i y))
    (hP : ∀ y, P y = tile (Host.negf (Host.sin Cert.InReferenceIdeal.Row.ang)) (broadcastInDim S4224x8 ![] bcast_S_S4224x8 (constant (F := Ideal) S_ .f32 0x00000000#32)) (broadcastInDim S4224x48 ![] bcast_S_S4224x48 (constant (F := Ideal) S_ .f32 0x00000000#32)) (ix2 i y))
    (hQ : ∀ y, Q y = tile (broadcastInDim S4224x8 ![] bcast_S_S4224x8 (constant (F := Ideal) S_ .f32 0x00000000#32)) (Host.sin Cert.InReferenceIdeal.Row.ang) (broadcastInDim S4224x48 ![] bcast_S_S4224x48 (constant (F := Ideal) S_ .f32 0x00000000#32)) (ix2 i y))
    (hg : ∀ (y : Fin 128) (d : Fin 64), y.val = l.val / 64 * 64 + d.val → f y = g d) :
    turnK f C P Q l = Cert.InReferenceIdeal.Row.turn g (fun e => Ideal.cos (Cert.InReferenceIdeal.Row.ang (ix2 i e)))
      (fun e => Ideal.sin (Cert.InReferenceIdeal.Row.ang (ix2 i e))) ⟨l.val % 64, by omega⟩ := by
  unfold turnK Cert.InReferenceIdeal.Row.turn
  rw [hC, hP, hQ, tile_ix, tile_ix, tile_ix]
  have z8 : ∀ j, broadcastInDim S4224x8 ![] bcast_S_S4224x8 (constant (F := Ideal) S_ .f32 0x00000000#32) j = (0 : EReal) := fun _ => Rows.ofBits_zero
  have z48 : ∀ j, broadcastInDim S4224x48 ![] bcast_S_S4224x48 (constant (F := Ideal) S_ .f32 0x00000000#32) j = (0 : EReal) := fun _ => Rows.ofBits_zero
  have o48 : ∀ j, broadcastInDim S4224x48 ![] bcast_S_S4224x48 (constant (F := Ideal) S_ .f32 0x3F800000#32) j = (1 : EReal) := fun _ => ofBits_one
  simp only [z8, z48, o48]
  by_cases h1 : l.val % 64 < 8
  · simp only [dif_pos h1]
    rw [hg l ⟨l.val % 64, by omega⟩ (by simp only; omega), hg ⟨(l.val + 128 - 120) % 128, by omega⟩ ⟨8 + l.val % 64, by omega⟩ (by simp only; omega)]
    show _ * Ideal.cos _ + _ * (-Ideal.sin _) + _ * (0 : EReal) = _ * Ideal.cos _ - _ * Ideal.sin _
    rw [mul_zero, add_zero, mul_neg, sub_eq_add_neg]
  by_cases h2 : l.val % 64 - 8 < 8
  · simp only [dif_neg h1, dif_pos h2]
    rw [hg l ⟨8 + (l.val % 64 - 8), by omega⟩ (by simp only; omega), hg ⟨(l.val + 128 - 8) % 128, by omega⟩ ⟨l.val % 64 - 8, by omega⟩ (by simp only; omega)]
    show _ * Ideal.cos _ + _ * (0 : EReal) + _ * Ideal.sin _ = _ * Ideal.cos _ + _ * Ideal.sin _
    rw [mul_zero, add_zero]
  · simp only [dif_neg h1, dif_neg h2]
    rw [hg l ⟨16 + (l.val % 64 - 8 - 8), by omega⟩ (by simp only; omega), mul_one, mul_zero, mul_zero, add_zero, add_zero]

/-- The tables' blocks at a point, by element. -/
theorem table_at (c : Dev nD) (t : Fin cfg0.N) (r : Fin 384) (i : Fin 4224) (hi : i.val = t.val % 11 * 384 + r.val) (y : Fin 128) :
    (iblk m c 10 t (ix2 r y) = V m c main_v39 (ix2 i y)) ∧ (iblk m c 11 t (ix2 r y) = V m c main_v42 (ix2 i y))
      ∧ iblk m c 12 t (ix2 r y) = V m c main_v45 (ix2 i y) :=
  ⟨iblk10 m c t r y (ix2 i y) hi rfl, iblk11 m c t r y (ix2 i y) hi rfl, iblk12 m c t r y (ix2 i y) hi rfl⟩

/-- The block of queries written at a point is the reference's array there. -/
theorem out16_at (c : Dev nD) (t : Fin cfg0.N) (r : Fin 384) (l : Fin 512) (b : Fin 8) (i : Fin 4224)
    (hb : b.val = t.val / 11) (hi : i.val = t.val % 11 * 384 + r.val) :
    out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r l) = Cert.InReferenceIdeal.Row.qR (prjAt m c) (ix3 b i l) := by
  rw [out16_ix, Cert.InReferenceIdeal.Row.qR_ix]
  refine congrArg (· * Ideal.ofBits .f32 0x3E000000#32) ?_
  unfold qAt
  refine (turn_eq i _ _ _ _ (fun e => prjAt m c (ix3 b i (⟨2592 + (l.val / 64 * 64 + e.val), by omega⟩ : Fin 4896))) _
    (fun y => ((table_at m c t r i hi y).1).trans (congrFun (V_v39 m c) _)) (fun y => ((table_at m c t r i hi y).2.1).trans (congrFun (V_v42 m c) _))
    (fun y => ((table_at m c t r i hi y).2.2).trans (congrFun (V_v45 m c) _)) fun y d h => ?_).trans ?_
  · refine dot_at m c t (n := 512) (iblk m c 5 t) r _ b i _ hb hi (fun x => ?_)
    rw [iblk5 m c t x (⟨l.val / 128 * 128 + y.val, by omega⟩ : Fin 512) (ix2 x (⟨l.val / 128 * 128 + y.val, by omega⟩ : Fin 512)) rfl rfl, V_v4]
    simp only at h
    exact congrArg _ (congrArg (ix2 x) (Fin.ext (by simp only; omega)))
  · exact congrArg (Cert.InReferenceIdeal.Row.turn _ _ _) (Fin.ext (by show l.val % 128 % 64 = l.val % 64; omega))

/-- The block of keys and values written at a point is the reference's array there. -/
theorem out17_at (c : Dev nD) (t : Fin cfg0.N) (r : Fin 384) (l : Fin 256) (b : Fin 8) (i : Fin 4224)
    (hb : b.val = t.val / 11) (hi : i.val = t.val % 11 * 384 + r.val) :
    out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 r l) = Cert.InReferenceIdeal.Row.kvR (prjAt m c) (ix3 b i l) := by
  rw [out17_ix]
  by_cases hl : l.val < 128
  · rw [dif_pos hl, Cert.InReferenceIdeal.Row.kvR_lo _ _ _ _ hl]
    refine turn_eq i _ _ _ _ (fun e => prjAt m c (ix3 b i (⟨3104 + (l.val / 64 * 64 + e.val), by omega⟩ : Fin 4896))) _
      (fun y => ((table_at m c t r i hi y).1).trans (congrFun (V_v39 m c) _)) (fun y => ((table_at m c t r i hi y).2.1).trans (congrFun (V_v42 m c) _))
      (fun y => ((table_at m c t r i hi y).2.2).trans (congrFun (V_v45 m c) _)) fun y d h => ?_
    refine dot_at m c t (n := 256) (iblk m c 6 t) r _ b i _ hb hi (fun x => ?_)
    rw [iblk6 m c t x (⟨y.val, by omega⟩ : Fin 256) (ix2 x (⟨y.val, by omega⟩ : Fin 256)) rfl rfl, V_v5]
    simp only at h
    exact congrArg _ (congrArg (ix2 x) (Fin.ext (by simp only; omega)))
  · rw [dif_neg hl, Cert.InReferenceIdeal.Row.kvR_hi _ _ _ _ hl]
    refine dot_at m c t (n := 256) (iblk m c 6 t) r _ b i _ hb hi (fun x => ?_)
    rw [iblk6 m c t x (⟨128 + (l.val - 128), by omega⟩ : Fin 256) (ix2 x l) rfl (by show l.val = 128 + (l.val - 128); omega), V_v5]

/-- The array the call writes through window 13, when every point has been run, is the reference's. -/
theorem final13 (c : Dev nD) : (dats m 0 c).arrAt 13 cfg0.N = Cert.InReferenceIdeal.Row.zR (prjAt m c) := by
  refine (dats m 0 c).arrAt_eq_of_covers 13 _ ((cfg0.win 13).covers_of_indexMap_surj rfl (by decide) fun β => ?_) fun t hf y => ?_
  · have b0 : (β ⟨0, by decide⟩).val < 8 := lt_of_lt_of_eq (β ⟨0, by decide⟩).isLt (by decide : (cfg0.win 13).nblk ⟨0, by decide⟩ = 8)
    have b1 : (β ⟨1, by decide⟩).val < 11 := lt_of_lt_of_eq (β ⟨1, by decide⟩).isLt (by decide : (cfg0.win 13).nblk ⟨1, by decide⟩ = 11)
    have b2 : (β ⟨2, by decide⟩).val < 1 := lt_of_lt_of_eq (β ⟨2, by decide⟩).isLt (by decide : (cfg0.win 13).nblk ⟨2, by decide⟩ = 1)
    have hn : (β ⟨0, by decide⟩).val * 11 + (β ⟨1, by decide⟩).val < cfg0.N := by rw [N_eq]; omega
    obtain ⟨f0, f1, f2⟩ := (index_out ⟨_, hn⟩).1
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_13]
    have ht : t.val < 88 := N_eq ▸ t.isLt
    obtain ⟨f0, f1, f2⟩ := (index_out t).1
    idx_vars y
    obtain rfl : y0 = 0 := Subsingleton.elim _ _
    have e : ((View.whole main_v46_0).slice (win0_13.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 13) t (ix3 0 y1 y2) a).trans ?_
      match a with
      | ⟨0, _⟩ => show (cfg0.win 13).index t 0 * 1 + 0 = t.val / 11; rw [show (cfg0.win 13).index t 0 = _ from f0]; omega
      | ⟨1, _⟩ => show (cfg0.win 13).index t 1 * 384 + y1.val = t.val % 11 * 384 + y1.val; rw [show (cfg0.win 13).index t 1 = _ from f1]
      | ⟨2, _⟩ => show (cfg0.win 13).index t 2 * 1024 + y2.val = y2.val; rw [show (cfg0.win 13).index t 2 = _ from f2]; omega
    rw [e]
    exact out13_at m c t y1 y2 _ _ rfl rfl

/-- The array the call writes through window 14, when every point has been run, is the reference's. -/
theorem final14 (c : Dev nD) : (dats m 0 c).arrAt 14 cfg0.N = Cert.InReferenceIdeal.Row.xbcR (prjAt m c) := by
  refine (dats m 0 c).arrAt_eq_of_covers 14 _ ((cfg0.win 14).covers_of_indexMap_surj rfl (by decide) fun β => ?_) fun t hf y => ?_
  · have b0 : (β ⟨0, by decide⟩).val < 8 := lt_of_lt_of_eq (β ⟨0, by decide⟩).isLt (by decide : (cfg0.win 14).nblk ⟨0, by decide⟩ = 8)
    have b1 : (β ⟨1, by decide⟩).val < 11 := lt_of_lt_of_eq (β ⟨1, by decide⟩).isLt (by decide : (cfg0.win 14).nblk ⟨1, by decide⟩ = 11)
    have b2 : (β ⟨2, by decide⟩).val < 1 := lt_of_lt_of_eq (β ⟨2, by decide⟩).isLt (by decide : (cfg0.win 14).nblk ⟨2, by decide⟩ = 1)
    have hn : (β ⟨0, by decide⟩).val * 11 + (β ⟨1, by decide⟩).val < cfg0.N := by rw [N_eq]; omega
    obtain ⟨f0, f1, f2⟩ := (index_out ⟨_, hn⟩).2.1
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_14]
    have ht : t.val < 88 := N_eq ▸ t.isLt
    obtain ⟨f0, f1, f2⟩ := (index_out t).2.1
    idx_vars y
    obtain rfl : y0 = 0 := Subsingleton.elim _ _
    have e : ((View.whole main_v46_1).slice (win0_14.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 14) t (ix3 0 y1 y2) a).trans ?_
      match a with
      | ⟨0, _⟩ => show (cfg0.win 14).index t 0 * 1 + 0 = t.val / 11; rw [show (cfg0.win 14).index t 0 = _ from f0]; omega
      | ⟨1, _⟩ => show (cfg0.win 14).index t 1 * 384 + y1.val = t.val % 11 * 384 + y1.val; rw [show (cfg0.win 14).index t 1 = _ from f1]
      | ⟨2, _⟩ => show (cfg0.win 14).index t 2 * 1536 + y2.val = y2.val; rw [show (cfg0.win 14).index t 2 = _ from f2]; omega
    rw [e]
    exact out14_at m c t y1 y2 _ _ rfl rfl

/-- The array the call writes through window 15, when every point has been run, is the reference's. -/
theorem final15 (c : Dev nD) : (dats m 0 c).arrAt 15 cfg0.N = Cert.InReferenceIdeal.Row.dtR (prjAt m c) := by
  refine (dats m 0 c).arrAt_eq_of_covers 15 _ ((cfg0.win 15).covers_of_indexMap_surj rfl (by decide) fun β => ?_) fun t hf y => ?_
  · have b0 : (β ⟨0, by decide⟩).val < 8 := lt_of_lt_of_eq (β ⟨0, by decide⟩).isLt (by decide : (cfg0.win 15).nblk ⟨0, by decide⟩ = 8)
    have b1 : (β ⟨1, by decide⟩).val < 11 := lt_of_lt_of_eq (β ⟨1, by decide⟩).isLt (by decide : (cfg0.win 15).nblk ⟨1, by decide⟩ = 11)
    have b2 : (β ⟨2, by decide⟩).val < 1 := lt_of_lt_of_eq (β ⟨2, by decide⟩).isLt (by decide : (cfg0.win 15).nblk ⟨2, by decide⟩ = 1)
    have hn : (β ⟨0, by decide⟩).val * 11 + (β ⟨1, by decide⟩).val < cfg0.N := by rw [N_eq]; omega
    obtain ⟨f0, f1, f2⟩ := (index_out ⟨_, hn⟩).2.2.1
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_15]
    have ht : t.val < 88 := N_eq ▸ t.isLt
    obtain ⟨f0, f1, f2⟩ := (index_out t).2.2.1
    idx_vars y
    obtain rfl : y0 = 0 := Subsingleton.elim _ _
    have e : ((View.whole main_v46_2).slice (win0_15.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 15) t (ix3 0 y1 y2) a).trans ?_
      match a with
      | ⟨0, _⟩ => show (cfg0.win 15).index t 0 * 1 + 0 = t.val / 11; rw [show (cfg0.win 15).index t 0 = _ from f0]; omega
      | ⟨1, _⟩ => show (cfg0.win 15).index t 1 * 384 + y1.val = t.val % 11 * 384 + y1.val; rw [show (cfg0.win 15).index t 1 = _ from f1]
      | ⟨2, _⟩ => show (cfg0.win 15).index t 2 * 128 + y2.val = y2.val; rw [show (cfg0.win 15).index t 2 = _ from f2]; omega
    rw [e]
    exact out15_at m c t y1 y2 _ _ rfl rfl

/-- The array the call writes through window 16, when every point has been run, is the reference's. -/
theorem final16 (c : Dev nD) : (dats m 0 c).arrAt 16 cfg0.N = Cert.InReferenceIdeal.Row.qR (prjAt m c) := by
  refine (dats m 0 c).arrAt_eq_of_covers 16 _ ((cfg0.win 16).covers_of_indexMap_surj rfl (by decide) fun β => ?_) fun t hf y => ?_
  · have b0 : (β ⟨0, by decide⟩).val < 8 := lt_of_lt_of_eq (β ⟨0, by decide⟩).isLt (by decide : (cfg0.win 16).nblk ⟨0, by decide⟩ = 8)
    have b1 : (β ⟨1, by decide⟩).val < 11 := lt_of_lt_of_eq (β ⟨1, by decide⟩).isLt (by decide : (cfg0.win 16).nblk ⟨1, by decide⟩ = 11)
    have b2 : (β ⟨2, by decide⟩).val < 1 := lt_of_lt_of_eq (β ⟨2, by decide⟩).isLt (by decide : (cfg0.win 16).nblk ⟨2, by decide⟩ = 1)
    have hn : (β ⟨0, by decide⟩).val * 11 + (β ⟨1, by decide⟩).val < cfg0.N := by rw [N_eq]; omega
    obtain ⟨f0, f1, f2⟩ := (index_out ⟨_, hn⟩).2.2.2.1
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_16]
    have ht : t.val < 88 := N_eq ▸ t.isLt
    obtain ⟨f0, f1, f2⟩ := (index_out t).2.2.2.1
    idx_vars y
    obtain rfl : y0 = 0 := Subsingleton.elim _ _
    have e : ((View.whole main_v46_3).slice (win0_16.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 16) t (ix3 0 y1 y2) a).trans ?_
      match a with
      | ⟨0, _⟩ => show (cfg0.win 16).index t 0 * 1 + 0 = t.val / 11; rw [show (cfg0.win 16).index t 0 = _ from f0]; omega
      | ⟨1, _⟩ => show (cfg0.win 16).index t 1 * 384 + y1.val = t.val % 11 * 384 + y1.val; rw [show (cfg0.win 16).index t 1 = _ from f1]
      | ⟨2, _⟩ => show (cfg0.win 16).index t 2 * 512 + y2.val = y2.val; rw [show (cfg0.win 16).index t 2 = _ from f2]; omega
    rw [e]
    exact out16_at m c t y1 y2 _ _ rfl rfl

/-- The array the call writes through window 17, when every point has been run, is the reference's. -/
theorem final17 (c : Dev nD) : (dats m 0 c).arrAt 17 cfg0.N = Cert.InReferenceIdeal.Row.kvR (prjAt m c) := by
  refine (dats m 0 c).arrAt_eq_of_covers 17 _ ((cfg0.win 17).covers_of_indexMap_surj rfl (by decide) fun β => ?_) fun t hf y => ?_
  · have b0 : (β ⟨0, by decide⟩).val < 8 := lt_of_lt_of_eq (β ⟨0, by decide⟩).isLt (by decide : (cfg0.win 17).nblk ⟨0, by decide⟩ = 8)
    have b1 : (β ⟨1, by decide⟩).val < 11 := lt_of_lt_of_eq (β ⟨1, by decide⟩).isLt (by decide : (cfg0.win 17).nblk ⟨1, by decide⟩ = 11)
    have b2 : (β ⟨2, by decide⟩).val < 1 := lt_of_lt_of_eq (β ⟨2, by decide⟩).isLt (by decide : (cfg0.win 17).nblk ⟨2, by decide⟩ = 1)
    have hn : (β ⟨0, by decide⟩).val * 11 + (β ⟨1, by decide⟩).val < cfg0.N := by rw [N_eq]; omega
    obtain ⟨f0, f1, f2⟩ := (index_out ⟨_, hn⟩).2.2.2.2.1
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_17]
    have ht : t.val < 88 := N_eq ▸ t.isLt
    obtain ⟨f0, f1, f2⟩ := (index_out t).2.2.2.2.1
    idx_vars y
    obtain rfl : y0 = 0 := Subsingleton.elim _ _
    have e : ((View.whole main_v46_4).slice (win0_17.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 17) t (ix3 0 y1 y2) a).trans ?_
      match a with
      | ⟨0, _⟩ => show (cfg0.win 17).index t 0 * 1 + 0 = t.val / 11; rw [show (cfg0.win 17).index t 0 = _ from f0]; omega
      | ⟨1, _⟩ => show (cfg0.win 17).index t 1 * 384 + y1.val = t.val % 11 * 384 + y1.val; rw [show (cfg0.win 17).index t 1 = _ from f1]
      | ⟨2, _⟩ => show (cfg0.win 17).index t 2 * 256 + y2.val = y2.val; rw [show (cfg0.win 17).index t 2 = _ from f2]; omega
    rw [e]
    exact out17_at m c t y1 y2 _ _ rfl rfl

/-- The array the call writes through window 18, when every point has been run, is the reference's. -/
theorem final18 (c : Dev nD) : (dats m 0 c).arrAt 18 cfg0.N = Cert.InReferenceIdeal.Row.nqR (prjAt m c) := by
  refine (dats m 0 c).arrAt_eq_of_covers 18 _ ((cfg0.win 18).covers_of_indexMap_surj rfl (by decide) fun β => ?_) fun t hf y => ?_
  · have b0 : (β ⟨0, by decide⟩).val < 8 := lt_of_lt_of_eq (β ⟨0, by decide⟩).isLt (by decide : (cfg0.win 18).nblk ⟨0, by decide⟩ = 8)
    have b1 : (β ⟨1, by decide⟩).val < 11 := lt_of_lt_of_eq (β ⟨1, by decide⟩).isLt (by decide : (cfg0.win 18).nblk ⟨1, by decide⟩ = 11)
    have b2 : (β ⟨2, by decide⟩).val < 1 := lt_of_lt_of_eq (β ⟨2, by decide⟩).isLt (by decide : (cfg0.win 18).nblk ⟨2, by decide⟩ = 1)
    have hn : (β ⟨0, by decide⟩).val * 11 + (β ⟨1, by decide⟩).val < cfg0.N := by rw [N_eq]; omega
    obtain ⟨f0, f1, f2⟩ := (index_out ⟨_, hn⟩).2.2.2.2.2.1
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_18]
    have ht : t.val < 88 := N_eq ▸ t.isLt
    obtain ⟨f0, f1, f2⟩ := (index_out t).2.2.2.2.2.1
    idx_vars y
    obtain rfl : y0 = 0 := Subsingleton.elim _ _
    have e : ((View.whole main_v46_5).slice (win0_18.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 18) t (ix3 0 y1 y2) a).trans ?_
      match a with
      | ⟨0, _⟩ => show (cfg0.win 18).index t 0 * 1 + 0 = t.val / 11; rw [show (cfg0.win 18).index t 0 = _ from f0]; omega
      | ⟨1, _⟩ => show (cfg0.win 18).index t 1 * 384 + y1.val = t.val % 11 * 384 + y1.val; rw [show (cfg0.win 18).index t 1 = _ from f1]
      | ⟨2, _⟩ => show (cfg0.win 18).index t 2 * 512 + y2.val = y2.val; rw [show (cfg0.win 18).index t 2 = _ from f2]; omega
    rw [e]
    exact out18_at m c t y1 y2 _ _ rfl rfl

/-- The array the call writes through window 19, when every point has been run, is the reference's. -/
theorem final19 (c : Dev nD) : (dats m 0 c).arrAt 19 cfg0.N = Cert.InReferenceIdeal.Row.nkR (prjAt m c) := by
  refine (dats m 0 c).arrAt_eq_of_covers 19 _ ((cfg0.win 19).covers_of_indexMap_surj rfl (by decide) fun β => ?_) fun t hf y => ?_
  · have b0 : (β ⟨0, by decide⟩).val < 8 := lt_of_lt_of_eq (β ⟨0, by decide⟩).isLt (by decide : (cfg0.win 19).nblk ⟨0, by decide⟩ = 8)
    have b1 : (β ⟨1, by decide⟩).val < 11 := lt_of_lt_of_eq (β ⟨1, by decide⟩).isLt (by decide : (cfg0.win 19).nblk ⟨1, by decide⟩ = 11)
    have b2 : (β ⟨2, by decide⟩).val < 1 := lt_of_lt_of_eq (β ⟨2, by decide⟩).isLt (by decide : (cfg0.win 19).nblk ⟨2, by decide⟩ = 1)
    have hn : (β ⟨0, by decide⟩).val * 11 + (β ⟨1, by decide⟩).val < cfg0.N := by rw [N_eq]; omega
    obtain ⟨f0, f1, f2⟩ := (index_out ⟨_, hn⟩).2.2.2.2.2.2.1
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_19]
    have ht : t.val < 88 := N_eq ▸ t.isLt
    obtain ⟨f0, f1, f2⟩ := (index_out t).2.2.2.2.2.2.1
    idx_vars y
    obtain rfl : y0 = 0 := Subsingleton.elim _ _
    have e : ((View.whole main_v46_6).slice (win0_19.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 19) t (ix3 0 y1 y2) a).trans ?_
      match a with
      | ⟨0, _⟩ => show (cfg0.win 19).index t 0 * 1 + 0 = t.val / 11; rw [show (cfg0.win 19).index t 0 = _ from f0]; omega
      | ⟨1, _⟩ => show (cfg0.win 19).index t 1 * 384 + y1.val = t.val % 11 * 384 + y1.val; rw [show (cfg0.win 19).index t 1 = _ from f1]
      | ⟨2, _⟩ => show (cfg0.win 19).index t 2 * 512 + y2.val = y2.val; rw [show (cfg0.win 19).index t 2 = _ from f2]; omega
    rw [e]
    exact out19_at m c t y1 y2 _ _ rfl rfl

/-- The array the call writes through window 20, when every point has been run, is the reference's. -/
theorem final20 (c : Dev nD) : (dats m 0 c).arrAt 20 cfg0.N = Cert.InReferenceIdeal.Row.nvR (prjAt m c) := by
  refine (dats m 0 c).arrAt_eq_of_covers 20 _ ((cfg0.win 20).covers_of_indexMap_surj rfl (by decide) fun β => ?_) fun t hf y => ?_
  · have b0 : (β ⟨0, by decide⟩).val < 8 := lt_of_lt_of_eq (β ⟨0, by decide⟩).isLt (by decide : (cfg0.win 20).nblk ⟨0, by decide⟩ = 8)
    have b1 : (β ⟨1, by decide⟩).val < 11 := lt_of_lt_of_eq (β ⟨1, by decide⟩).isLt (by decide : (cfg0.win 20).nblk ⟨1, by decide⟩ = 11)
    have b2 : (β ⟨2, by decide⟩).val < 1 := lt_of_lt_of_eq (β ⟨2, by decide⟩).isLt (by decide : (cfg0.win 20).nblk ⟨2, by decide⟩ = 1)
    have hn : (β ⟨0, by decide⟩).val * 11 + (β ⟨1, by decide⟩).val < cfg0.N := by rw [N_eq]; omega
    obtain ⟨f0, f1, f2⟩ := (index_out ⟨_, hn⟩).2.2.2.2.2.2.2
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_20]
    have ht : t.val < 88 := N_eq ▸ t.isLt
    obtain ⟨f0, f1, f2⟩ := (index_out t).2.2.2.2.2.2.2
    idx_vars y
    obtain rfl : y0 = 0 := Subsingleton.elim _ _
    have e : ((View.whole main_v46_7).slice (win0_20.rect t)).emb (ix3 0 y1 y2)
        = ix3 (⟨t.val / 11, by omega⟩ : Fin 8) (⟨t.val % 11 * 384 + y1.val, by omega⟩ : Fin 4224) y2 := by
      refine funext fun a => Fin.ext ?_
      refine (Pipeline.Window.rect_emb_val (cfg0.win 20) t (ix3 0 y1 y2) a).trans ?_
      match a with
      | ⟨0, _⟩ => show (cfg0.win 20).index t 0 * 1 + 0 = t.val / 11; rw [show (cfg0.win 20).index t 0 = _ from f0]; omega
      | ⟨1, _⟩ => show (cfg0.win 20).index t 1 * 384 + y1.val = t.val % 11 * 384 + y1.val; rw [show (cfg0.win 20).index t 1 = _ from f1]
      | ⟨2, _⟩ => show (cfg0.win 20).index t 2 * 512 + y2.val = y2.val; rw [show (cfg0.win 20).index t 2 = _ from f2]; omega
    rw [e]
    exact out20_at m c t y1 y2 _ _ rfl rfl

end Cert.InKernelIdeal.Value2
end
-- ==== Proof.InClaim.lean ====
module

public import proofs.«01_k».proof.Proof.InValue
public import proofs.«01_k».proof.Proof.Gen.InKernel.Frame
public import proofs.«01_k».proof.Defs

@[expose] public section

set_option maxRecDepth 16384

noncomputable section

namespace Cert.Proof.InClaims

open Idealize.ShloMosaic Idealize.ShloMosaic.TcCoe Idealize.SL.Sem

/-- The kernel's frame over bit values. -/
theorem frame_bits [Cert.InKernel.Facts] : Cert.quiescent_InKernel := fun m ρ _ => Cert.InKernel.Gen.frame m ρ

/-- The kernel's frame over the extended reals. -/
theorem frame_ideal [Cert.InKernelIdeal.Facts] : Cert.quiescent_InKernelIdeal := fun m ρ _ => Cert.InKernelIdeal.Gen.frame m ρ

variable [Cert.InKernelIdeal.Facts] [Cert.InReferenceIdeal.Facts]

/-- The reference ends, and leaves its arguments and every semaphore as it should. -/
theorem frame_ref : Cert.quiescent_InReferenceIdeal := fun m ρ _ =>
  (θ_run Cert.InReferenceIdeal.defs _ _).mono (fun r h => ⟨fun c => (h c).2.2.2.2.2.2.2.2,
      Idealize.ShloMosaic.sem_eq_zero_of_no_sems (by decide) r.2⟩)
    (Cert.InReferenceIdeal.Value.run (F := Ideal) m ρ)

/-- Over the extended reals the input projection kernel and the plain input projection end with equal arrays: the
    gate, the scan input, the padded step sizes, the turned queries, the turned keys and values, and the neighbourhood
    queries, keys and values. -/
theorem algebraic : Cert.algebraic_InKernelIdeal_InReferenceIdeal := by
  intro m ρ m' ρ' _ hagree
  refine ⟨fun c => Cert.InReferenceIdeal.Row.zR (Cert.InKernelIdeal.Value2.prjAt m c), fun c => Cert.InReferenceIdeal.Row.xbcR (Cert.InKernelIdeal.Value2.prjAt m c), fun c => Cert.InReferenceIdeal.Row.dtR (Cert.InKernelIdeal.Value2.prjAt m c), fun c => Cert.InReferenceIdeal.Row.qR (Cert.InKernelIdeal.Value2.prjAt m c), fun c => Cert.InReferenceIdeal.Row.kvR (Cert.InKernelIdeal.Value2.prjAt m c), fun c => Cert.InReferenceIdeal.Row.nqR (Cert.InKernelIdeal.Value2.prjAt m c), fun c => Cert.InReferenceIdeal.Row.nkR (Cert.InKernelIdeal.Value2.prjAt m c), fun c => Cert.InReferenceIdeal.Row.nvR (Cert.InKernelIdeal.Value2.prjAt m c), ?_, ?_⟩
  · refine (θ_run Cert.InKernelIdeal.defs _ _).mono (fun _ h c => ?_) (Cert.InKernelIdeal.Value.run_blocks (F := Ideal) m ρ)
    obtain ⟨h0, h1, h2, h3, h4, h5, h6, h7, h8⟩ := h c
    exact ⟨h0.trans (Cert.InKernelIdeal.Value2.final13 m c), h1.trans (Cert.InKernelIdeal.Value2.final14 m c), h2.trans (Cert.InKernelIdeal.Value2.final15 m c), h3.trans (Cert.InKernelIdeal.Value2.final16 m c), h4.trans (Cert.InKernelIdeal.Value2.final17 m c), h5.trans (Cert.InKernelIdeal.Value2.final18 m c), h6.trans (Cert.InKernelIdeal.Value2.final19 m c), h7.trans (Cert.InKernelIdeal.Value2.final20 m c), h8⟩
  · refine (θ_run Cert.InReferenceIdeal.defs _ _).mono (fun _ h c => ?_) (Cert.InReferenceIdeal.Value.run (F := Ideal) m' ρ')
    obtain ⟨h0, h1, h2, h3, h4, h5, h6, h7, h8⟩ := h c
    obtain ⟨a0, a1, a2⟩ := hagree c
    have u : Cert.InReferenceIdeal.Row.pr m' c = Cert.InKernelIdeal.Value2.prjAt m c := by
      unfold Cert.InReferenceIdeal.Row.pr
      rw [a0, a1, a2]
    exact ⟨h0.trans (congrArg Cert.InReferenceIdeal.Row.zR u), h1.trans (congrArg Cert.InReferenceIdeal.Row.xbcR u), h2.trans (congrArg Cert.InReferenceIdeal.Row.dtR u),
      h3.trans ((Cert.InReferenceIdeal.Row.q_eq m' c).trans (congrArg Cert.InReferenceIdeal.Row.qR u)),
      h4.trans ((Cert.InReferenceIdeal.Row.kv_eq m' c).trans (congrArg Cert.InReferenceIdeal.Row.kvR u)),
      h5.trans (congrArg Cert.InReferenceIdeal.Row.nqR u), h6.trans (congrArg Cert.InReferenceIdeal.Row.nkR u), h7.trans (congrArg Cert.InReferenceIdeal.Row.nvR u), h8⟩

end Cert.Proof.InClaims

end
-- ==== Proof.FfnSampleIdealBody.lean ====
module

public import proofs.«01_k».proof.Proof.Gen.FfnSampleKernelIdeal.Skeleton
public import proofs.«01_k».proof.Proof.Gen.FfnSampleKernelIdeal.Frame
public import Idealize.ShloMosaic.Lib.Exec
public import Idealize.ShloMosaic.Lib.Pipeline.Value

@[expose] public section

set_option maxRecDepth 16384
set_option maxHeartbeats 4000000

noncomputable section

namespace Cert.FfnSampleKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnSampleKernelIdeal Cert.FfnSampleKernelIdeal.Facts Cert.FfnSampleKernelIdeal.Gen

variable {F : FTy → Type} [FloatOps F]

/-- The resource algebra of the runs. -/
local notation "𝕄" => MT nD τ sig Unit (Elt F) ℕ (UR sig nD τ) ℕ

/-- What the gate's scratch holds in a trip: the products of all 400 rows with the chunk's columns, the last 8 rows
    scaled by the tail's factor. -/
def gtile (f : FVec F S400x1024 .bf16) (tl : F .f32) (w : Vec F S1x1024x256 .bf16) : S400x256.Idx → Elt F .f32 :=
  View.canon (Val := Elt F) (s := S400x256) (e := .f32)
    [⟨Rect.unit (s := S400x256) ![392, 0] S8x256.size inb_S400x256_S8x256_392_0, k0_pay4 f tl w⟩,
     ⟨Rect.unit (s := S400x256) ![0, 0] S400x256.size inb_S400x256_S400x256_0_0, k0_pay3 f w⟩]

/-- What the up half's scratch holds in a trip. -/
def utile (f : FVec F S400x1024 .bf16) (tl : F .f32) (w : Vec F S1x1024x256 .bf16) : S400x256.Idx → Elt F .f32 :=
  View.canon (Val := Elt F) (s := S400x256) (e := .f32)
    [⟨Rect.unit (s := S400x256) ![392, 0] S8x256.size inb_S400x256_S8x256_392_0, k0_pay10 f tl w⟩,
     ⟨Rect.unit (s := S400x256) ![0, 0] S400x256.size inb_S400x256_S400x256_0_0, k0_pay9 f w⟩]

/-- ONE TRIP on the accumulator: chunk `k` of the gate and of the up half, each through its three tap convolution, the
    gated products times the chunk's rows of the down matrix, added to what the accumulator held. -/
def step (f : FVec F S400x1024 .bf16) (tl : F .f32) (W6 : Vec F S22x1024x256 .bf16) (W7 : Vec F S22x3x256 .f32) (W8 : Vec F S22x1x256 .f32) (W9 : Vec F S11x256x1024 .bf16) (k : Fin k0_t1_loop.trips) (a : Vec F S384x1024 .f32) : Vec F S384x1024 .f32 :=
  k0_pay21
    (k0_pay7 (k0_pay5 (View.ld (Val := Elt F) (gtile f tl (View.ld (Val := Elt F) W6 (Rect.unit (s := S22x1024x256) (k0_off1 k) S1x1024x256.size (k0_off1_inb k)))) (Rect.unit (s := S400x256) ![7, 0] S384x256.size inb_S400x256_S384x256_7_0)) (View.ld (Val := Elt F) W7 (Rect.unit (s := S22x3x256) (k0_off2 k) S1x1x256.size (k0_off2_inb k))) (View.ld (Val := Elt F) W8 (Rect.unit (s := S22x1x256) (k0_off3 k) S1x1x256.size (k0_off3_inb k)))
        (View.ld (Val := Elt F) (gtile f tl (View.ld (Val := Elt F) W6 (Rect.unit (s := S22x1024x256) (k0_off1 k) S1x1024x256.size (k0_off1_inb k)))) (Rect.unit (s := S400x256) ![8, 0] S384x256.size inb_S400x256_S384x256_8_0)) (View.ld (Val := Elt F) W7 (Rect.unit (s := S22x3x256) (k0_off4 k) S1x1x256.size (k0_off4_inb k))))
      (View.ld (Val := Elt F) (gtile f tl (View.ld (Val := Elt F) W6 (Rect.unit (s := S22x1024x256) (k0_off1 k) S1x1024x256.size (k0_off1_inb k)))) (Rect.unit (s := S400x256) ![9, 0] S384x256.size inb_S400x256_S384x256_9_0)) (k0_pay6 (View.ld (Val := Elt F) W7 (Rect.unit (s := S22x3x256) (k0_off5 k) S1x1x256.size (k0_off5_inb k)))))
    (k0_pay11 (View.ld (Val := Elt F) (utile f tl (View.ld (Val := Elt F) W6 (Rect.unit (s := S22x1024x256) (k0_off6 k) S1x1024x256.size (k0_off6_inb k)))) (Rect.unit (s := S400x256) ![7, 0] S384x256.size inb_S400x256_S384x256_7_0)) (View.ld (Val := Elt F) W7 (Rect.unit (s := S22x3x256) (k0_off7 k) S1x1x256.size (k0_off7_inb k))) (View.ld (Val := Elt F) W8 (Rect.unit (s := S22x1x256) (k0_off8 k) S1x1x256.size (k0_off8_inb k)))
        (View.ld (Val := Elt F) (utile f tl (View.ld (Val := Elt F) W6 (Rect.unit (s := S22x1024x256) (k0_off6 k) S1x1024x256.size (k0_off6_inb k)))) (Rect.unit (s := S400x256) ![8, 0] S384x256.size inb_S400x256_S384x256_8_0)) (View.ld (Val := Elt F) W7 (Rect.unit (s := S22x3x256) (k0_off9 k) S1x1x256.size (k0_off9_inb k))))
    (View.ld (Val := Elt F) (utile f tl (View.ld (Val := Elt F) W6 (Rect.unit (s := S22x1024x256) (k0_off6 k) S1x1024x256.size (k0_off6_inb k)))) (Rect.unit (s := S400x256) ![9, 0] S384x256.size inb_S400x256_S384x256_9_0))
    (View.ld (Val := Elt F) W7 (Rect.unit (s := S22x3x256) (k0_off10 k) S1x1x256.size (k0_off10_inb k))) a (View.ld (Val := Elt F) W9 (Rect.unit (s := S11x256x1024) (k0_off11 k) S1x256x1024.size (k0_off11_inb k)))

/-- The accumulator before trip `k`, from `a` before the first. -/
def accAt (f : FVec F S400x1024 .bf16) (tl : F .f32) (W6 : Vec F S22x1024x256 .bf16) (W7 : Vec F S22x3x256 .f32) (W8 : Vec F S22x1x256 .f32) (W9 : Vec F S11x256x1024 .bf16) (a : Vec F S384x1024 .f32) : ℕ → Vec F S384x1024 .f32
  | 0 => a
  | k + 1 => if h : k < k0_t1_loop.trips then step f tl W6 W7 W8 W9 ⟨k, h⟩ (accAt f tl W6 W7 W8 W9 a k) else accAt f tl W6 W7 W8 W9 a k

/-- Trip `k` is one step. -/
theorem accAt_succ (f : FVec F S400x1024 .bf16) (tl : F .f32) (W6 : Vec F S22x1024x256 .bf16) (W7 : Vec F S22x3x256 .f32) (W8 : Vec F S22x1x256 .f32) (W9 : Vec F S11x256x1024 .bf16) (a : Vec F S384x1024 .f32) (k : Fin k0_t1_loop.trips) :
    accAt f tl W6 W7 W8 W9 a (k.val + 1) = step f tl W6 W7 W8 W9 k (accAt f tl W6 W7 W8 W9 a k.val) := by
  rw [accAt.eq_2]; exact dif_pos k.isLt

/-- What a trip reads and writes: the weights at their contents, the two scratch buffers at some, the accumulator. -/
abbrev Res (c : Dev nD) (arg6 : Memref sig .tc .vmem S22x1024x256 .bf16) (arg7 : Memref sig .tc .vmem S22x3x256 .f32) (arg8 : Memref sig .tc .vmem S22x1x256 .f32) (arg9 : Memref sig .tc .vmem S11x256x1024 .bf16) (arg12 : Memref sig .tc .vmem S400x256 .f32) (arg13 : Memref sig .tc .vmem S400x256 .f32) (arg14 : Memref sig .tc .vmem S384x1024 .f32) (X6 : BufTy.Contents (Elt F) arg6.view.ty) (X7 : BufTy.Contents (Elt F) arg7.view.ty) (X8 : BufTy.Contents (Elt F) arg8.view.ty) (X9 : BufTy.Contents (Elt F) arg9.view.ty) (P : Vec F S384x1024 .f32) : sProp 𝕄 :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9)
    ∗ (∃ f, arg12.view.loc (c : Thread nD τ) ↦[arg12.view.set]{fullShare} f) ∗ (∃ f, arg13.view.loc (c : Thread nD τ) ↦[arg13.view.set]{fullShare} f)
    ∗ (∃ f, (arg14.view.loc (c : Thread nD τ) ↦[arg14.view.set]{fullShare} f) ∗ ⌜arg14.view.read (Elt F) f = P⌝))

/-- A load of what stores cover reads them. -/
theorem rc {S : Shape} {e : EltTy} (v : View sig .tc .vmem S e) (L : List (View.Piece (Elt F) S e)) (r : Rect S) :
    v.readCov L r.toLoadRect = View.ld (View.canon L) r := View.readCov_eq_canon' v L r.toLoadRect

/-- One store of the whole leaves what was stored. -/
theorem read_whole {S : Shape} {e : EltTy} (v : View sig .tc .vmem S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_cons_self, View.mem_set_unit_zero h inb y⟩)).trans
    (View.canon_cons_unit_zero h inb w [])

/-- A trip takes the accumulator one step on. -/
theorem trip (c : Dev nD) (i : grid0.Coords) (arg2 : Memref sig .tc .vmem S1x384x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x3x256 .f32) (harg7 : arg7.IsWhole) (arg8 : Memref sig .tc .vmem S22x1x256 .f32) (harg8 : arg8.IsWhole) (arg9 : Memref sig .tc .vmem S11x256x1024 .bf16) (harg9 : arg9.IsWhole) (arg10 : Memref sig .tc .vmem S1x1024 .f32) (harg10 : arg10.IsWhole) (arg11 : Memref sig .tc .vmem S1x384x1024 .f32) (harg11 : arg11.IsWhole) (arg12 : Memref sig .tc .vmem S400x256 .f32) (harg12 : arg12.IsWhole) (arg13 : Memref sig .tc .vmem S400x256 .f32) (harg13 : arg13.IsWhole) (arg14 : Memref sig .tc .vmem S384x1024 .f32) (harg14 : arg14.IsWhole) (arg1 : BitVec 32) (v1 : FVec F S1x1024 .f32) (v15 : FVec F S8x1024 .f32) (v29 : FVec F S384x1024 .f32) (v31 : FVec F S8x1024 .f32) (v36 : FVec F S8x1 .f32) (v37 : FVec F S8x1 .f32) (X6 : BufTy.Contents (Elt F) arg6.view.ty) (X7 : BufTy.Contents (Elt F) arg7.view.ty) (X8 : BufTy.Contents (Elt F) arg8.view.ty) (X9 : BufTy.Contents (Elt F) arg9.view.ty) (E : Set ℕ) (k : Fin k0_t1_loop.trips) (a : Vec F S384x1024 .f32) :
      Res (F := F) c arg6 arg7 arg8 arg9 arg12 arg13 arg14 X6 X7 X8 X9 a
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg13 harg13 arg14 harg14 arg1 v1 v15 v29 v31 v36 v37 k PUnit.unit)
          (fun _ => Res (F := F) c arg6 arg7 arg8 arg9 arg12 arg13 arg14 X6 X7 X8 X9
            (step (k0_pay18 v1 v15 v29 v31 v36 v37) (k0_pay19 (F := F) arg1) (arg6.view.read (Elt F) X6) (arg7.view.read (Elt F) X7) (arg8.view.read (Elt F) X8) (arg9.view.read (Elt F) X9) k a)) := by
  have hk : k.val < 11 := Nat.lt_of_lt_of_le k.isLt k0_t1_abs.2.1
  unfold k0_t1_body
  iintro ⟨H6, H7, H8, H9, ⟨%f12, H12⟩, ⟨%f13, H13⟩, ⟨%f14, H14, %h14⟩⟩
  sl_exec
  sl_step
  isplitl [H6]; · iexact H6
  isplitl [H7]; · iexact H7
  isplitl [H8]; · iexact H8
  isplitl [H9]; · iexact H9
  isplitl [H12]; · iexists _; iexact H12
  isplitl [H13]; · iexists _; iexact H13
  iexists _
  isplitl [H14]; · iexact H14
  ipureintro
  have h0 : (![0, 0] : Fin 2 → ℕ) = fun _ => 0 := by funext i; fin_cases i <;> rfl
  refine (read_whole arg14.view f14 h0 inb_S384x1024_S384x1024_0_0 _).trans ?_
  subst h14
  sl_unfold_words
  simp only [rc, View.readAt_eq_ld]
  unfold step gtile utile
  exact congrArg (fun z => k0_pay21 _ _ _ _ z _) (View.ld_unit_zero (S := S384x1024) h0 inb_S384x1024_S384x1024_0_0 _)

set_option warn.classDefReducibility false in
/-- THE LOOP BY ITS INVARIANT: before trip `k` the accumulator holds `accAt … k` of what it held at entry. -/
@[sl_loop] def loopInv (c : Dev nD) (E : Set ℕ) (i : grid0.Coords) (arg2 : Memref sig .tc .vmem S1x384x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x3x256 .f32) (harg7 : arg7.IsWhole) (arg8 : Memref sig .tc .vmem S22x1x256 .f32) (harg8 : arg8.IsWhole) (arg9 : Memref sig .tc .vmem S11x256x1024 .bf16) (harg9 : arg9.IsWhole) (arg10 : Memref sig .tc .vmem S1x1024 .f32) (harg10 : arg10.IsWhole) (arg11 : Memref sig .tc .vmem S1x384x1024 .f32) (harg11 : arg11.IsWhole) (arg12 : Memref sig .tc .vmem S400x256 .f32) (harg12 : arg12.IsWhole) (arg13 : Memref sig .tc .vmem S400x256 .f32) (harg13 : arg13.IsWhole) (arg14 : Memref sig .tc .vmem S384x1024 .f32) (harg14 : arg14.IsWhole) (arg1 : BitVec 32) (v1 : FVec F S1x1024 .f32) (v15 : FVec F S8x1024 .f32) (v29 : FVec F S384x1024 .f32) (v31 : FVec F S8x1024 .f32) (v36 : FVec F S8x1 .f32) (v37 : FVec F S8x1 .f32) (X6 : BufTy.Contents (Elt F) arg6.view.ty) (X7 : BufTy.Contents (Elt F) arg7.view.ty) (X8 : BufTy.Contents (Elt F) arg8.view.ty) (X9 : BufTy.Contents (Elt F) arg9.view.ty) (G14 : BufTy.Contents (Elt F) arg14.view.ty) :
    Idealize.ShloMosaic.LoopInv (M := 𝕄) Idealize.ShloMosaic.frame (wpE defs₀ Variants.none (c : Thread nD τ) none) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg1 v1 v15 v29 v31 v36 v37) where
  inv k _ := Res (F := F) c arg6 arg7 arg8 arg9 arg12 arg13 arg14 X6 X7 X8 X9
    (accAt (k0_pay18 v1 v15 v29 v31 v36 v37) (k0_pay19 (F := F) arg1) (arg6.view.read (Elt F) X6) (arg7.view.read (Elt F) X7) (arg8.view.read (Elt F) X8) (arg9.view.read (Elt F) X9) (arg14.view.read (Elt F) G14) k)
  step k acc := by
    rw [accAt_succ]
    exact trip c i arg2 harg2 arg3 harg3 arg4 harg4 arg5 harg5 arg6 harg6 arg7 harg7 arg8 harg8 arg9 harg9 arg10 harg10 arg11 harg11 arg12 harg12 arg13 harg13 arg14 harg14 arg1 v1 v15 v29 v31 v36 v37 X6 X7 X8 X9 E k _

end Cert.FfnSampleKernelIdeal.Body

end
-- ==== Proof.FfnSampleIdealKernel.lean ====
module

public import proofs.«01_k».proof.Proof.FfnSampleIdealBody
public import Idealize.ShloMosaic.Lib.Exec

@[expose] public section

set_option maxRecDepth 16384
set_option maxHeartbeats 4000000

noncomputable section

namespace Cert.FfnSampleKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnSampleKernelIdeal Cert.FfnSampleKernelIdeal.Facts Cert.FfnSampleKernelIdeal.Gen

variable {F : FTy → Type} [FloatOps F]

/-- The resource algebra of the runs. -/
local notation "𝕄" => MT nD τ sig Unit (Elt F) ℕ (UR sig nD τ) ℕ

/-- The accumulator after the loop at grid point `i`, from the blocks. -/
def accEnd (i : grid0.Coords) (x0 : Vec F S1x384x1024 .f32) (x1 : Vec F S1x8x1024 .f32) (x2 : Vec F S1x8x1024 .f32) (x3 : Vec F S1x1024 .f32) (x4 : Vec F S22x1024x256 .bf16) (x5 : Vec F S22x3x256 .f32) (x6 : Vec F S22x1x256 .f32) (x7 : Vec F S11x256x1024 .bf16) (x8 : Vec F S1x1024 .f32) : Vec F S384x1024 .f32 :=
  accAt (k0_pay18 (k0_pay12 x3) (k0_pay13 x3 x1) (k0_pay14 x3 x0) (k0_pay15 x2) (k0_pay16 x2) (k0_pay17 (F := F)))
    (k0_pay19 (F := F) (BitVec.ofNat 32 (i 1).val)) x4 x5 x6 x7 (k0_pay20 (F := F)) k0_t1_loop.trips

/-- What the body leaves in the output's buffer at grid point `i`, from the blocks. -/
def out9 (i : grid0.Coords) (x0 : Vec F S1x384x1024 .f32) (x1 : Vec F S1x8x1024 .f32) (x2 : Vec F S1x8x1024 .f32) (x3 : Vec F S1x1024 .f32) (x4 : Vec F S22x1024x256 .bf16) (x5 : Vec F S22x3x256 .f32) (x6 : Vec F S22x1x256 .f32) (x7 : Vec F S11x256x1024 .bf16) (x8 : Vec F S1x1024 .f32) : Vec F S1x384x1024 .f32 :=
  k0_pay1 (k0_pay22 x0 (accEnd i x0 x1 x2 x3 x4 x5 x6 x7 x8) x8) (k0_pay23 (BitVec.ofNat 32 (i 1).val))

/-- A load of a whole buffer through its own box reads the buffer. -/
theorem rw0 {S : Shape} {e : EltTy} (v : View sig .tc .vmem S e) (f : v.ty.Contents (Elt F)) {off : Fin S.rank → Nat}
    (h : off = fun _ => 0) (inb : ∀ a, off a + S.size a ≤ S.size a) :
    v.readAt (Elt F) (Rect.unit off S.size inb).toLoadRect f = v.read (Elt F) f := View.ld_unit_zero h inb _

/-- The body on its buffers: the inputs keep their blocks, the output's buffer ends at `out9`. -/
theorem sound_kernel (c : Dev nD) (E : Set ℕ) (i : grid0.Coords) (arg2 : Memref sig .tc .vmem S1x384x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S22x1024x256 .bf16) (harg6 : arg6.IsWhole) (arg7 : Memref sig .tc .vmem S22x3x256 .f32) (harg7 : arg7.IsWhole) (arg8 : Memref sig .tc .vmem S22x1x256 .f32) (harg8 : arg8.IsWhole) (arg9 : Memref sig .tc .vmem S11x256x1024 .bf16) (harg9 : arg9.IsWhole) (arg10 : Memref sig .tc .vmem S1x1024 .f32) (harg10 : arg10.IsWhole) (arg11 : Memref sig .tc .vmem S1x384x1024 .f32) (harg11 : arg11.IsWhole) (arg12 : Memref sig .tc .vmem S400x256 .f32) (harg12 : arg12.IsWhole) (arg13 : Memref sig .tc .vmem S400x256 .f32) (harg13 : arg13.IsWhole) (arg14 : Memref sig .tc .vmem S384x1024 .f32) (harg14 : arg14.IsWhole)
    (x0 : Vec F S1x384x1024 .f32) (x1 : Vec F S1x8x1024 .f32) (x2 : Vec F S1x8x1024 .f32) (x3 : Vec F S1x1024 .f32) (x4 : Vec F S22x1024x256 .bf16) (x5 : Vec F S22x3x256 .f32) (x6 : Vec F S22x1x256 .f32) (x7 : Vec F S11x256x1024 .bf16) (x8 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (out9 i x0 x1 x2 x3 x4 x5 x6 x7 x8) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K := by
  simp only [cc0_ffn_eq_skeleton]; unfold cc0_ffn_skel
  simp only [k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    have h3 : (![0, 0, 0] : Fin 3 → ℕ) = fun _ => 0 := by funext a; fin_cases a <;> rfl
    have h2 : (![0, 0] : Fin 2 → ℕ) = fun _ => 0 := by funext a; fin_cases a <;> rfl
    refine (read_whole (S := S1x384x1024) arg11.view f9 h3 inb_S1x384x1024_S1x384x1024_0_0_0 _).trans ?_
    have ht : Scf.trips k0_t1_loop.lb k0_t1_loop.ub k0_t1_loop.st = k0_t1_loop.trips := rfl
    rw [ht] at hL7
    have hz : View.read (Elt F) arg14.view (arg14.view.writes (Elt F) arg14.view.junk sound_kernel.sl.H12_1) = k0_pay20 (F := F) :=
      read_whole (S := S384x1024) arg14.view _ h2 inb_S384x1024_S384x1024_0_0 _
    rw [hz] at hL7
    have e3 := rw0 (S := S1x1024) arg5.view f3 h2 inb_S1x1024_S1x1024_0_0
    have e1 := rw0 (S := S1x8x1024) arg3.view f1 h3 inb_S1x8x1024_S1x8x1024_0_0_0
    have e0 := rw0 (S := S1x384x1024) arg2.view f0 h3 inb_S1x384x1024_S1x384x1024_0_0_0
    have e2 := rw0 (S := S1x8x1024) arg4.view f2 h3 inb_S1x8x1024_S1x8x1024_0_0_0
    have e8 := rw0 (S := S1x1024) arg10.view f8 h2 inb_S1x1024_S1x1024_0_0
    have e14 := (rw0 (S := S384x1024) arg14.view fL2 h2 inb_S384x1024_S384x1024_0_0).trans hL7
    unfold out9 accEnd
    rw [← e3, ← e1, ← e0, ← e2, ← e8]
    exact congrArg (fun z => k0_pay1 (k0_pay22 _ z _) _) e14
  isplitl [H10]
  · iexists _; iexists _; isplitr
    swap; · iexact H10
    ipureintro; rfl
  isplitl [H11]
  · iexists _; iexists _; isplitr
    swap; · iexact H11
    ipureintro; rfl
  · iexists _; iexists _; isplitr
    swap; · iexact H12
    ipureintro; rfl

end Cert.FfnSampleKernelIdeal.Body

end
-- ==== Proof.FfnSampleIdealFrame.lean ====
module

public import proofs.«01_k».proof.Proof.FfnSampleIdealKernel
public import Idealize.ShloMosaic.Lib.Exec
public import Idealize.ShloMosaic.Lib.Claim

@[expose] public section

set_option maxRecDepth 16384
set_option maxHeartbeats 4000000

noncomputable section

namespace Cert.FfnSampleKernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnSampleKernelIdeal Cert.FfnSampleKernelIdeal.Facts Cert.FfnSampleKernelIdeal.Gen

open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The resource algebra of the runs. -/
local notation "𝕄" => MT nD τ sig Unit (Elt F) ℕ (UR sig nD τ) ℕ

/-- The proof data: the arrays as the region finds them, each input's buffer at its block after the body, the output's at
    `out9` of the blocks; windows of one array each hold their share of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (grid0.coords t) (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := Pipeline.shareOf spec0 w
  owed _ := 0

/-- The arrays are the region's. -/
theorem A_eq (c : Dev nD) (w : Fin cfg0.W) : (dats m 0 c).A w = V m c (Pipeline.arrRef spec0 w) := by
  dsimp only [dats]

/-- What the body leaves in window 0. -/
theorem after_0 (c : Dev nD) (t : Fin cfg0.N) : (dats m 0 c).after 0 t = iblk m c 0 t := by dsimp only [dats]
/-- What the body finds in window 0. -/
theorem before_0 (c : Dev nD) (t : Fin cfg0.N) (d) : (dats m 0 c).before 0 t d = iblk m c 0 t :=
  before0_0_of m (dats m 0 c) (A_eq m c 0) (after_0 m c) t d
/-- What the body leaves in window 1. -/
theorem after_1 (c : Dev nD) (t : Fin cfg0.N) : (dats m 0 c).after 1 t = iblk m c 1 t := by dsimp only [dats]
/-- What the body finds in window 1. -/
theorem before_1 (c : Dev nD) (t : Fin cfg0.N) (d) : (dats m 0 c).before 1 t d = iblk m c 1 t :=
  before0_1_of m (dats m 0 c) (A_eq m c 1) (after_1 m c) t d
/-- What the body leaves in window 2. -/
theorem after_2 (c : Dev nD) (t : Fin cfg0.N) : (dats m 0 c).after 2 t = iblk m c 2 t := by dsimp only [dats]
/-- What the body finds in window 2. -/
theorem before_2 (c : Dev nD) (t : Fin cfg0.N) (d) : (dats m 0 c).before 2 t d = iblk m c 2 t :=
  before0_2_of m (dats m 0 c) (A_eq m c 2) (after_2 m c) t d
/-- What the body leaves in window 3. -/
theorem after_3 (c : Dev nD) (t : Fin cfg0.N) : (dats m 0 c).after 3 t = iblk m c 3 t := by dsimp only [dats]
/-- What the body finds in window 3. -/
theorem before_3 (c : Dev nD) (t : Fin cfg0.N) (d) : (dats m 0 c).before 3 t d = iblk m c 3 t :=
  before0_3_of m (dats m 0 c) (A_eq m c 3) (after_3 m c) t d
/-- What the body leaves in window 4. -/
theorem after_4 (c : Dev nD) (t : Fin cfg0.N) : (dats m 0 c).after 4 t = iblk m c 4 t := by dsimp only [dats]
/-- What the body finds in window 4. -/
theorem before_4 (c : Dev nD) (t : Fin cfg0.N) (d) : (dats m 0 c).before 4 t d = iblk m c 4 t :=
  before0_4_of m (dats m 0 c) (A_eq m c 4) (after_4 m c) t d
/-- What the body leaves in window 5. -/
theorem after_5 (c : Dev nD) (t : Fin cfg0.N) : (dats m 0 c).after 5 t = iblk m c 5 t := by dsimp only [dats]
/-- What the body finds in window 5. -/
theorem before_5 (c : Dev nD) (t : Fin cfg0.N) (d) : (dats m 0 c).before 5 t d = iblk m c 5 t :=
  before0_5_of m (dats m 0 c) (A_eq m c 5) (after_5 m c) t d
/-- What the body leaves in window 6. -/
theorem after_6 (c : Dev nD) (t : Fin cfg0.N) : (dats m 0 c).after 6 t = iblk m c 6 t := by dsimp only [dats]
/-- What the body finds in window 6. -/
theorem before_6 (c : Dev nD) (t : Fin cfg0.N) (d) : (dats m 0 c).before 6 t d = iblk m c 6 t :=
  before0_6_of m (dats m 0 c) (A_eq m c 6) (after_6 m c) t d
/-- What the body leaves in window 7. -/
theorem after_7 (c : Dev nD) (t : Fin cfg0.N) : (dats m 0 c).after 7 t = iblk m c 7 t := by dsimp only [dats]
/-- What the body finds in window 7. -/
theorem before_7 (c : Dev nD) (t : Fin cfg0.N) (d) : (dats m 0 c).before 7 t d = iblk m c 7 t :=
  before0_7_of m (dats m 0 c) (A_eq m c 7) (after_7 m c) t d
/-- What the body leaves in window 8. -/
theorem after_8 (c : Dev nD) (t : Fin cfg0.N) : (dats m 0 c).after 8 t = iblk m c 8 t := by dsimp only [dats]
/-- What the body finds in window 8. -/
theorem before_8 (c : Dev nD) (t : Fin cfg0.N) (d) : (dats m 0 c).before 8 t d = iblk m c 8 t :=
  before0_8_of m (dats m 0 c) (A_eq m c 8) (after_8 m c) t d
/-- What the body leaves in the output's window. -/
theorem after_9 (c : Dev nD) (t : Fin cfg0.N) : (dats m 0 c).after 9 t = out9 (grid0.coords t) (iblk m c 0 t) (iblk m c 1 t) (iblk m c 2 t) (iblk m c 3 t) (iblk m c 4 t) (iblk m c 5 t) (iblk m c 6 t) (iblk m c 7 t) (iblk m c 8 t) := by dsimp only [dats]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at point `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9]
  unfold Pipeline.ΦA
  rw [scopedRest0_eq]
  iintro ⟨⟨⟨⟨%s0, S0⟩, ⟨%s1, S1⟩, ⟨%s2, S2⟩⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexists s0; rw [owns_whole]; iexact S0
  isplitl [S1]; · iexists s1; rw [owns_whole]; iexact S1
  isplitl [S2]; · iexists s2; rw [owns_whole]; iexact S2
  iintro ⟨H0, H1, H2, H3, H4, H5, H6, H7, H8, H9, ⟨%r0, S0⟩, ⟨%r1, S1⟩, ⟨%r2, S2⟩⟩
  isplitl [S0 S1 S2 HP]
  · isplitl [S0 S1 S2]
    · isplitl [S0]; · iexists r0; rw [owns_whole]; exact .rfl
      isplitl [S1]; · iexists r1; rw [owns_whole]; exact .rfl
      iexists r2; rw [owns_whole]; exact .rfl
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the run ends, the arguments unchanged and every semaphore at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.FfnSampleKernelIdeal.Body

end
-- ==== Proof.FfnSampleRef.lean ====
module

public import proofs.«01_k».proof.Proof.Gen.FfnSampleReferenceIdeal.Run
public import proofs.«01_k».proof.Proof.Rows
public import Idealize.ShloMosaic.Lib.Pointwise
public import Idealize.ShloMosaic.Lib.Tactic

@[expose] public section

set_option maxRecDepth 16384

noncomputable section

namespace Cert.FfnSampleReferenceIdeal.Row

open Cert.FfnSampleReferenceIdeal Idealize.ShloMosaic Idealize.ShloMosaic.TcCoe Idealize.SL.Sem
open Cert.FfnSampleReferenceIdeal.Facts Cert.FfnSampleReferenceIdeal.Gen

/-- The gate's curve at a number: the tanh form of the Gaussian error unit. -/
def gl (g : EReal) : EReal :=
  g * (Ideal.ofBits .f32 0x3F000000#32 * (Ideal.ofBits .f32 0x3F800000#32 + Ideal.tanh (Ideal.ofBits .f32 0x3F4C422A#32 * (g + Ideal.ofBits .f32 0x3D372713#32 * (g * g * g)))))

/-- The normalised rows. -/
def nrm (h : FVec Ideal S2x16400x1024 .f32) (nw : FVec Ideal S1024 .f32) : FVec Ideal S2x16400x1024 .f32 :=
  mulf (mulf h (broadcastInDim S2x16400x1024 ![0, 1, 2] bcast_S2x16400x1_S2x16400x1024_0_1_2 (Host.rsqrt (addf (Host.divf (broadcastInDim S2x16400x1 ![0, 1] bcast_S2x16400_S2x16400x1_0_1 (Host.reduceAdd (mulf h h) (constant S_ .f32 0x00000000#32) reducesTo_S2x16400x1024_S2x16400_d2 h_S_)) (broadcastInDim S2x16400x1 ![] bcast_S_S2x16400x1 (constant S_ .f32 0x44800000#32))) (broadcastInDim S2x16400x1 ![] bcast_S_S2x16400x1 (constant S_ .f32 0x358637BD#32)))))) (broadcastInDim S2x16400x1024 ![0, 1, 2] bcast_S1x1x1024_S2x16400x1024_0_1_2 (broadcastInDim S1x1x1024 ![2] bcast_S1024_S1x1x1024_2 nw))

/-- The normalised rows times the first weights. -/
def up (n : FVec Ideal S2x16400x1024 .f32) (w : FVec Ideal S1024x5632 .f32) : FVec Ideal S2x16400x5632 .f32 :=
  Host.dotGeneral dot_S2x16400x1024_S1024x5632_S2x16400x5632_2_0_01_1_n_n none n w

/-- One zero row before and one after. -/
def pd (u : FVec Ideal S2x16400x5632 .f32) : FVec Ideal S2x16402x5632 .f32 :=
  pad S2x16402x5632 ![0, 1, 0] ![0, 1, 0] ![0, 0, 0] u (sitofp .f32 (constantI S_ 32 0#32)) pads_S2x16400x5632_S2x16402x5632_000_110_000 h_S_

/-- The convolution over three rows. -/
def cv (p : FVec Ideal S2x16402x5632 .f32) (cw : FVec Ideal S3x5632 .f32) (cb : FVec Ideal S5632 .f32) : FVec Ideal S2x16400x5632 .f32 :=
  addf (addf (addf (mulf (extractStridedSlice S2x16400x5632 ![0, 0, 0] p slices_S2x16402x5632_S2x16400x5632_0_0_0) (broadcastInDim S2x16400x5632 ![0, 1, 2] bcast_S1x1x5632_S2x16400x5632_0_1_2 (broadcastInDim S1x1x5632 ![2] bcast_S5632_S1x1x5632_2 (shapeCast _ (extractStridedSlice S1x5632 ![0, 0] cw slices_S3x5632_S1x5632_0_0) shapeCasts_S1x5632_S5632)))) (broadcastInDim S2x16400x5632 ![0, 1, 2] bcast_S1x1x5632_S2x16400x5632_0_1_2 (broadcastInDim S1x1x5632 ![2] bcast_S5632_S1x1x5632_2 cb))) (mulf (extractStridedSlice S2x16400x5632 ![0, 1, 0] p slices_S2x16402x5632_S2x16400x5632_0_1_0) (broadcastInDim S2x16400x5632 ![0, 1, 2] bcast_S1x1x5632_S2x16400x5632_0_1_2 (broadcastInDim S1x1x5632 ![2] bcast_S5632_S1x1x5632_2 (shapeCast _ (extractStridedSlice S1x5632 ![1, 0] cw slices_S3x5632_S1x5632_1_0) shapeCasts_S1x5632_S5632))))) (mulf (extractStridedSlice S2x16400x5632 ![0, 2, 0] p slices_S2x16402x5632_S2x16400x5632_0_2_0) (broadcastInDim S2x16400x5632 ![0, 1, 2] bcast_S1x1x5632_S2x16400x5632_0_1_2 (broadcastInDim S1x1x5632 ![2] bcast_S5632_S1x1x5632_2 (shapeCast _ (extractStridedSlice S1x5632 ![2, 0] cw slices_S3x5632_S1x5632_2_0) shapeCasts_S1x5632_S5632))))

/-- The curve of the gate half times the other half. -/
def act (q : FVec Ideal S2x16400x5632 .f32) : FVec Ideal S2x16400x2816 .f32 :=
  mulf (mulf (extractStridedSlice S2x16400x2816 ![0, 0, 0] q slices_S2x16400x5632_S2x16400x2816_0_0_0) (mulf (broadcastInDim S2x16400x2816 ![] bcast_S_S2x16400x2816 (constant S_ .f32 0x3F000000#32)) (addf (broadcastInDim S2x16400x2816 ![] bcast_S_S2x16400x2816 (constant S_ .f32 0x3F800000#32)) (Host.tanh (mulf (broadcastInDim S2x16400x2816 ![] bcast_S_S2x16400x2816 (constant S_ .f32 0x3F4C422A#32)) (addf (extractStridedSlice S2x16400x2816 ![0, 0, 0] q slices_S2x16400x5632_S2x16400x2816_0_0_0) (mulf (broadcastInDim S2x16400x2816 ![] bcast_S_S2x16400x2816 (constant S_ .f32 0x3D372713#32)) (mulf (mulf (extractStridedSlice S2x16400x2816 ![0, 0, 0] q slices_S2x16400x5632_S2x16400x2816_0_0_0) (extractStridedSlice S2x16400x2816 ![0, 0, 0] q slices_S2x16400x5632_S2x16400x2816_0_0_0)) (extractStridedSlice S2x16400x2816 ![0, 0, 0] q slices_S2x16400x5632_S2x16400x2816_0_0_0))))))))) (extractStridedSlice S2x16400x2816 ![0, 0, 2816] q slices_S2x16400x5632_S2x16400x2816_0_0_2816)

/-- The product with the second weights. -/
def dn (a : FVec Ideal S2x16400x2816 .f32) (w : FVec Ideal S2816x1024 .f32) : FVec Ideal S2x16400x1024 .f32 :=
  Host.dotGeneral dot_S2x16400x2816_S2816x1024_S2x16400x1024_2_0_01_1_n_n none a w

/-- The residual of the normalised rows, behind 112 zero rows. -/
def fin (h d : FVec Ideal S2x16400x1024 .f32) (nw : FVec Ideal S1024 .f32) : FVec Ideal S2x16512x1024 .f32 :=
  concatenate S2x16512x1024 1 [⟨S2x112x1024, (broadcastInDim S2x112x1024 ![] bcast_S_S2x112x1024 (constant S_ .f32 0x00000000#32))⟩, ⟨S2x16400x1024, (addf h (mulf (mulf d (broadcastInDim S2x16400x1024 ![0, 1, 2] bcast_S2x16400x1_S2x16400x1024_0_1_2 (Host.rsqrt (addf (Host.divf (broadcastInDim S2x16400x1 ![0, 1] bcast_S2x16400_S2x16400x1_0_1 (Host.reduceAdd (mulf d d) (constant S_ .f32 0x00000000#32) reducesTo_S2x16400x1024_S2x16400_d2 h_S_)) (broadcastInDim S2x16400x1 ![] bcast_S_S2x16400x1 (constant S_ .f32 0x44800000#32))) (broadcastInDim S2x16400x1 ![] bcast_S_S2x16400x1 (constant S_ .f32 0x358637BD#32)))))) (broadcastInDim S2x16400x1024 ![0, 1, 2] bcast_S1x1x1024_S2x16400x1024_0_1_2 (broadcastInDim S1x1x1024 ![2] bcast_S1024_S1x1x1024_2 nw))))⟩] concatenates_S2x112x1024_S2x16400x1024_S2x16512x1024_d1

theorem nrm_ix (h : FVec Ideal S2x16400x1024 .f32) (nw : FVec Ideal S1024 .f32) (b : Fin 2) (t : Fin 16400) (x : Fin 1024) :
    nrm h nw (ix3 b t x) = h (ix3 b t x) * Rows.rs (fun y => h (ix3 b t y)) * nw (ix1 x) := by
  unfold Rows.rs
  pointwise [nrm]

theorem up_ix (n : FVec Ideal S2x16400x1024 .f32) (w : FVec Ideal S1024x5632 .f32) (b : Fin 2) (t : Fin 16400) (j : Fin 5632) :
    up n w (ix3 b t j) = ∑ x : Fin 1024, n (ix3 b t x) * w (ix2 x j) := by
  pointwise [up]

theorem pd_ix (u : FVec Ideal S2x16400x5632 .f32) (b : Fin 2) (t : Fin 16402) (j : Fin 5632) :
    pd u (ix3 b t j) = if h : 1 ≤ t.val ∧ t.val - 1 < 16400 then u (ix3 b ⟨t.val - 1, h.2⟩ j) else 0 := by
  have e : (FloatOps.sitofp (F := Ideal) FTy.f32 0#32 : EReal) = 0 := by
    show (((0#32 : BitVec 32).toInt : ℝ) : EReal) = 0
    simp
  pointwise [pd]
  rw [e]

theorem cv_ix (p : FVec Ideal S2x16402x5632 .f32) (cw : FVec Ideal S3x5632 .f32) (cb : FVec Ideal S5632 .f32) (b : Fin 2) (t : Fin 16400) (j : Fin 5632) :
    cv p cw cb (ix3 b t j) = p (ix3 b ⟨t.val, by omega⟩ j) * cw (ix2 0 j) + cb (ix1 j)
      + p (ix3 b ⟨1 + t.val, by omega⟩ j) * cw (ix2 1 j) + p (ix3 b ⟨2 + t.val, by omega⟩ j) * cw (ix2 2 j) := by
  pointwise [cv]

theorem act_ix (q : FVec Ideal S2x16400x5632 .f32) (b : Fin 2) (t : Fin 16400) (j : Fin 2816) :
    act q (ix3 b t j) = gl (q (ix3 b t ⟨j.val, by omega⟩)) * q (ix3 b t ⟨2816 + j.val, by omega⟩) := by
  unfold gl
  pointwise [act]

theorem dn_ix (a : FVec Ideal S2x16400x2816 .f32) (w : FVec Ideal S2816x1024 .f32) (b : Fin 2) (t : Fin 16400) (l : Fin 1024) :
    dn a w (ix3 b t l) = ∑ j : Fin 2816, a (ix3 b t j) * w (ix2 j l) := by
  pointwise [dn]

theorem fin_ix (h d : FVec Ideal S2x16400x1024 .f32) (nw : FVec Ideal S1024 .f32) (b : Fin 2) (i : Fin 16512) (l : Fin 1024) :
    fin h d nw (ix3 b i l) = if hi : 112 ≤ i.val then
      h (ix3 b ⟨i.val - 112, by omega⟩ l) + d (ix3 b ⟨i.val - 112, by omega⟩ l) * Rows.rs (fun y => d (ix3 b ⟨i.val - 112, by omega⟩ y)) * nw (ix1 l) else 0 := by
  unfold Rows.rs
  pointwise [fin]
  by_cases hi : i.val < 112
  · rw [dif_pos hi, dif_neg (by omega)]
  · rw [dif_neg hi, dif_pos (by omega)]

/-- The reference's result is the residual of the blocks above. -/
theorem res_eq (m : (ℓ : Loc nD τ sig) → Buf (Elt Ideal) ℓ) (c : Dev nD) :
    Cert.FfnSampleReferenceIdeal.Value.res_main_v70 m c
      = fin (m ((c : Thread nD τ).loc main_arg0)) (dn (act (cv (pd (up (nrm (m ((c : Thread nD τ).loc main_arg0)) (m ((c : Thread nD τ).loc main_arg1)))
          (m ((c : Thread nD τ).loc main_arg2)))) (m ((c : Thread nD τ).loc main_arg3)) (m ((c : Thread nD τ).loc main_arg4)))) (m ((c : Thread nD τ).loc main_arg5)))
        (m ((c : Thread nD τ).loc main_arg6)) := rfl

end Cert.FfnSampleReferenceIdeal.Row
end
-- ==== Proof.FfnSampleTrip.lean ====
module

public import proofs.«01_k».proof.Proof.FfnSampleIdealBody
public import proofs.«01_k».proof.Proof.FfnSampleIdealKernel
public import proofs.«01_k».proof.Proof.Rows
public import proofs.«01_k».proof.Proof.WinMath
public import proofs.«01_k».proof.Proof.FfnSampleRef
public import Idealize.ShloMosaic.Lib.Pointwise
public import Idealize.ShloMosaic.Lib.Tactic

@[expose] public section

set_option maxRecDepth 16384

noncomputable section

namespace Cert.FfnSampleKernelIdeal.Body

open Cert.FfnSampleKernelIdeal Cert.FfnSampleKernelIdeal.Gen Idealize.ShloMosaic Idealize.ShloMosaic.TcCoe Idealize.SL.Sem
open Facts
open Cert.FfnSampleReferenceIdeal.Row (gl)

/-- The loop runs once for each of the 11 chunks. -/
theorem trips_eq : k0_t1_loop.trips = 11 := by decide +kernel

/-- Where the loads of a trip start. -/
theorem offs : ∀ k : Fin k0_t1_loop.trips,
    (k0_off1 k = ![k.val, 0, 0] ∧ k0_off2 k = ![k.val, 0, 0] ∧ k0_off3 k = ![k.val, 0, 0] ∧ k0_off4 k = ![k.val, 1, 0] ∧ k0_off5 k = ![k.val, 2, 0])
    ∧ (k0_off6 k = ![11 + k.val, 0, 0] ∧ k0_off7 k = ![11 + k.val, 0, 0] ∧ k0_off8 k = ![11 + k.val, 0, 0] ∧ k0_off9 k = ![11 + k.val, 1, 0] ∧ k0_off10 k = ![11 + k.val, 2, 0])
    ∧ k0_off11 k = ![k.val, 0, 0] := by
  decide +kernel

theorem ld1 (W : Vec Ideal S22x1024x256 .bf16) (k : Fin k0_t1_loop.trips) (i : Fin 22) (hi : i.val = k.val) (y : Fin 1024) (z : Fin 256) :
    View.ld (Val := Elt Ideal) W (Rect.unit (s := S22x1024x256) (k0_off1 k) S1x1024x256.size (k0_off1_inb k)) (ix3 0 y z) = W (ix3 i y z) := by
  have h : k0_off1 k = ![k.val, 0, 0] := (offs k).1.1
  refine congrArg W (funext fun a => Fin.ext ?_)
  match a with
  | ⟨0, _⟩ => show k0_off1 k 0 + 1 * 0 = i.val; rw [h, hi]; rfl
  | ⟨1, _⟩ => show k0_off1 k 1 + 1 * y.val = y.val; rw [h]; show 0 + 1 * _ = _; omega
  | ⟨2, _⟩ => show k0_off1 k 2 + 1 * z.val = z.val; rw [h]; show 0 + 1 * _ = _; omega

theorem ld2 (W : Vec Ideal S22x3x256 .f32) (k : Fin k0_t1_loop.trips) (i : Fin 22) (hi : i.val = k.val) (z : Fin 256) :
    View.ld (Val := Elt Ideal) W (Rect.unit (s := S22x3x256) (k0_off2 k) S1x1x256.size (k0_off2_inb k)) (ix3 0 0 z) = W (ix3 i 0 z) := by
  have h : k0_off2 k = ![k.val, 0, 0] := (offs k).1.2.1
  refine congrArg W (funext fun a => Fin.ext ?_)
  match a with
  | ⟨0, _⟩ => show k0_off2 k 0 + 1 * 0 = i.val; rw [h, hi]; rfl
  | ⟨1, _⟩ => show k0_off2 k 1 + 1 * 0 = 0; rw [h]; show 0 + 1 * _ = _; omega
  | ⟨2, _⟩ => show k0_off2 k 2 + 1 * z.val = z.val; rw [h]; show 0 + 1 * _ = _; omega

theorem ld3 (W : Vec Ideal S22x1x256 .f32) (k : Fin k0_t1_loop.trips) (i : Fin 22) (hi : i.val = k.val) (z : Fin 256) :
    View.ld (Val := Elt Ideal) W (Rect.unit (s := S22x1x256) (k0_off3 k) S1x1x256.size (k0_off3_inb k)) (ix3 0 0 z) = W (ix3 i 0 z) := by
  have h : k0_off3 k = ![k.val, 0, 0] := (offs k).1.2.2.1
  refine congrArg W (funext fun a => Fin.ext ?_)
  match a with
  | ⟨0, _⟩ => show k0_off3 k 0 + 1 * 0 = i.val; rw [h, hi]; rfl
  | ⟨1, _⟩ => show k0_off3 k 1 + 1 * 0 = 0; rw [h]; show 0 + 1 * _ = _; omega
  | ⟨2, _⟩ => show k0_off3 k 2 + 1 * z.val = z.val; rw [h]; show 0 + 1 * _ = _; omega

theorem ld4 (W : Vec Ideal S22x3x256 .f32) (k : Fin k0_t1_loop.trips) (i : Fin 22) (hi : i.val = k.val) (z : Fin 256) :
    View.ld (Val := Elt Ideal) W (Rect.unit (s := S22x3x256) (k0_off4 k) S1x1x256.size (k0_off4_inb k)) (ix3 0 0 z) = W (ix3 i 1 z) := by
  have h : k0_off4 k = ![k.val, 1, 0] := (offs k).1.2.2.2.1
  refine congrArg W (funext fun a => Fin.ext ?_)
  match a with
  | ⟨0, _⟩ => show k0_off4 k 0 + 1 * 0 = i.val; rw [h, hi]; rfl
  | ⟨1, _⟩ => show k0_off4 k 1 + 1 * 0 = 1; rw [h]; show 1 + 1 * _ = _; omega
  | ⟨2, _⟩ => show k0_off4 k 2 + 1 * z.val = z.val; rw [h]; show 0 + 1 * _ = _; omega

theorem ld5 (W : Vec Ideal S22x3x256 .f32) (k : Fin k0_t1_loop.trips) (i : Fin 22) (hi : i.val = k.val) (z : Fin 256) :
    View.ld (Val := Elt Ideal) W (Rect.unit (s := S22x3x256) (k0_off5 k) S1x1x256.size (k0_off5_inb k)) (ix3 0 0 z) = W (ix3 i 2 z) := by
  have h : k0_off5 k = ![k.val, 2, 0] := (offs k).1.2.2.2.2
  refine congrArg W (funext fun a => Fin.ext ?_)
  match a with
  | ⟨0, _⟩ => show k0_off5 k 0 + 1 * 0 = i.val; rw [h, hi]; rfl
  | ⟨1, _⟩ => show k0_off5 k 1 + 1 * 0 = 2; rw [h]; show 2 + 1 * _ = _; omega
  | ⟨2, _⟩ => show k0_off5 k 2 + 1 * z.val = z.val; rw [h]; show 0 + 1 * _ = _; omega

theorem ld6 (W : Vec Ideal S22x1024x256 .bf16) (k : Fin k0_t1_loop.trips) (i : Fin 22) (hi : i.val = 11 + k.val) (y : Fin 1024) (z : Fin 256) :
    View.ld (Val := Elt Ideal) W (Rect.unit (s := S22x1024x256) (k0_off6 k) S1x1024x256.size (k0_off6_inb k)) (ix3 0 y z) = W (ix3 i y z) := by
  have h : k0_off6 k = ![11 + k.val, 0, 0] := (offs k).2.1.1
  refine congrArg W (funext fun a => Fin.ext ?_)
  match a with
  | ⟨0, _⟩ => show k0_off6 k 0 + 1 * 0 = i.val; rw [h, hi]; rfl
  | ⟨1, _⟩ => show k0_off6 k 1 + 1 * y.val = y.val; rw [h]; show 0 + 1 * _ = _; omega
  | ⟨2, _⟩ => show k0_off6 k 2 + 1 * z.val = z.val; rw [h]; show 0 + 1 * _ = _; omega

theorem ld7 (W : Vec Ideal S22x3x256 .f32) (k : Fin k0_t1_loop.trips) (i : Fin 22) (hi : i.val = 11 + k.val) (z : Fin 256) :
    View.ld (Val := Elt Ideal) W (Rect.unit (s := S22x3x256) (k0_off7 k) S1x1x256.size (k0_off7_inb k)) (ix3 0 0 z) = W (ix3 i 0 z) := by
  have h : k0_off7 k = ![11 + k.val, 0, 0] := (offs k).2.1.2.1
  refine congrArg W (funext fun a => Fin.ext ?_)
  match a with
  | ⟨0, _⟩ => show k0_off7 k 0 + 1 * 0 = i.val; rw [h, hi]; rfl
  | ⟨1, _⟩ => show k0_off7 k 1 + 1 * 0 = 0; rw [h]; show 0 + 1 * _ = _; omega
  | ⟨2, _⟩ => show k0_off7 k 2 + 1 * z.val = z.val; rw [h]; show 0 + 1 * _ = _; omega

theorem ld8 (W : Vec Ideal S22x1x256 .f32) (k : Fin k0_t1_loop.trips) (i : Fin 22) (hi : i.val = 11 + k.val) (z : Fin 256) :
    View.ld (Val := Elt Ideal) W (Rect.unit (s := S22x1x256) (k0_off8 k) S1x1x256.size (k0_off8_inb k)) (ix3 0 0 z) = W (ix3 i 0 z) := by
  have h : k0_off8 k = ![11 + k.val, 0, 0] := (offs k).2.1.2.2.1
  refine congrArg W (funext fun a => Fin.ext ?_)
  match a with
  | ⟨0, _⟩ => show k0_off8 k 0 + 1 * 0 = i.val; rw [h, hi]; rfl
  | ⟨1, _⟩ => show k0_off8 k 1 + 1 * 0 = 0; rw [h]; show 0 + 1 * _ = _; omega
  | ⟨2, _⟩ => show k0_off8 k 2 + 1 * z.val = z.val; rw [h]; show 0 + 1 * _ = _; omega

theorem ld9 (W : Vec Ideal S22x3x256 .f32) (k : Fin k0_t1_loop.trips) (i : Fin 22) (hi : i.val = 11 + k.val) (z : Fin 256) :
    View.ld (Val := Elt Ideal) W (Rect.unit (s := S22x3x256) (k0_off9 k) S1x1x256.size (k0_off9_inb k)) (ix3 0 0 z) = W (ix3 i 1 z) := by
  have h : k0_off9 k = ![11 + k.val, 1, 0] := (offs k).2.1.2.2.2.1
  refine congrArg W (funext fun a => Fin.ext ?_)
  match a with
  | ⟨0, _⟩ => show k0_off9 k 0 + 1 * 0 = i.val; rw [h, hi]; rfl
  | ⟨1, _⟩ => show k0_off9 k 1 + 1 * 0 = 1; rw [h]; show 1 + 1 * _ = _; omega
  | ⟨2, _⟩ => show k0_off9 k 2 + 1 * z.val = z.val; rw [h]; show 0 + 1 * _ = _; omega

theorem ld10 (W : Vec Ideal S22x3x256 .f32) (k : Fin k0_t1_loop.trips) (i : Fin 22) (hi : i.val = 11 + k.val) (z : Fin 256) :
    View.ld (Val := Elt Ideal) W (Rect.unit (s := S22x3x256) (k0_off10 k) S1x1x256.size (k0_off10_inb k)) (ix3 0 0 z) = W (ix3 i 2 z) := by
  have h : k0_off10 k = ![11 + k.val, 2, 0] := (offs k).2.1.2.2.2.2
  refine congrArg W (funext fun a => Fin.ext ?_)
  match a with
  | ⟨0, _⟩ => show k0_off10 k 0 + 1 * 0 = i.val; rw [h, hi]; rfl
  | ⟨1, _⟩ => show k0_off10 k 1 + 1 * 0 = 2; rw [h]; show 2 + 1 * _ = _; omega
  | ⟨2, _⟩ => show k0_off10 k 2 + 1 * z.val = z.val; rw [h]; show 0 + 1 * _ = _; omega

theorem ld11 (W : Vec Ideal S11x256x1024 .bf16) (k : Fin k0_t1_loop.trips) (i : Fin 11) (hi : i.val = k.val) (y : Fin 256) (z : Fin 1024) :
    View.ld (Val := Elt Ideal) W (Rect.unit (s := S11x256x1024) (k0_off11 k) S1x256x1024.size (k0_off11_inb k)) (ix3 0 y z) = W (ix3 i y z) := by
  have h : k0_off11 k = ![k.val, 0, 0] := (offs k).2.2
  refine congrArg W (funext fun a => Fin.ext ?_)
  match a with
  | ⟨0, _⟩ => show k0_off11 k 0 + 1 * 0 = i.val; rw [h, hi]; rfl
  | ⟨1, _⟩ => show k0_off11 k 1 + 1 * y.val = y.val; rw [h]; show 0 + 1 * _ = _; omega
  | ⟨2, _⟩ => show k0_off11 k 2 + 1 * z.val = z.val; rw [h]; show 0 + 1 * _ = _; omega

/-- The 384 rows of a scratch buffer from row 7. -/
theorem row7 (X : Vec Ideal S400x256 .f32) (r : Fin 384) (s : Fin 400) (hs : s.val = r.val + 7) (j : Fin 256) :
    View.ld (Val := Elt Ideal) X (Rect.unit (s := S400x256) ![7, 0] S384x256.size inb_S400x256_S384x256_7_0) (ix2 r j) = X (ix2 s j) := by
  refine congrArg X (funext fun a => Fin.ext ?_)
  match a with
  | ⟨0, _⟩ => show 7 + 1 * r.val = s.val; omega
  | ⟨1, _⟩ => show 0 + 1 * j.val = j.val; omega

/-- The 384 rows of a scratch buffer from row 8. -/
theorem row8 (X : Vec Ideal S400x256 .f32) (r : Fin 384) (s : Fin 400) (hs : s.val = r.val + 8) (j : Fin 256) :
    View.ld (Val := Elt Ideal) X (Rect.unit (s := S400x256) ![8, 0] S384x256.size inb_S400x256_S384x256_8_0) (ix2 r j) = X (ix2 s j) := by
  refine congrArg X (funext fun a => Fin.ext ?_)
  match a with
  | ⟨0, _⟩ => show 8 + 1 * r.val = s.val; omega
  | ⟨1, _⟩ => show 0 + 1 * j.val = j.val; omega

/-- The 384 rows of a scratch buffer from row 9. -/
theorem row9 (X : Vec Ideal S400x256 .f32) (r : Fin 384) (s : Fin 400) (hs : s.val = r.val + 9) (j : Fin 256) :
    View.ld (Val := Elt Ideal) X (Rect.unit (s := S400x256) ![9, 0] S384x256.size inb_S400x256_S384x256_9_0) (ix2 r j) = X (ix2 s j) := by
  refine congrArg X (funext fun a => Fin.ext ?_)
  match a with
  | ⟨0, _⟩ => show 9 + 1 * r.val = s.val; omega
  | ⟨1, _⟩ => show 0 + 1 * j.val = j.val; omega

/-- A scratch buffer stored whole and then in its last 8 rows: there it holds the second store. -/
theorem two_last (p : Vec Ideal S8x256 .f32) (w : Vec Ideal S400x256 .f32) (q : Fin 8) (j : Fin 256) :
    View.canon (Val := Elt Ideal) (s := S400x256) (e := .f32)
      [⟨Rect.unit (s := S400x256) ![392, 0] S8x256.size inb_S400x256_S8x256_392_0, p⟩,
       ⟨Rect.unit (s := S400x256) ![0, 0] S400x256.size inb_S400x256_S400x256_0_0, w⟩]
      ((Rect.unit (s := S400x256) ![392, 0] S8x256.size inb_S400x256_S8x256_392_0).emb (ix2 q j)) = p (ix2 q j) :=
  View.canon_cons_emb (Val := Elt Ideal) (s := S400x256) (e := .f32) (Rect.unit (s := S400x256) ![392, 0] S8x256.size inb_S400x256_S8x256_392_0) p
    [⟨Rect.unit (s := S400x256) ![0, 0] S400x256.size inb_S400x256_S400x256_0_0, w⟩] (ix2 q j)

/-- In the rows before, it holds the first. -/
theorem two_first (p : Vec Ideal S8x256 .f32) (w : Vec Ideal S400x256 .f32) (s : Fin 400) (h : ¬ 392 ≤ s.val) (j : Fin 256) :
    View.canon (Val := Elt Ideal) (s := S400x256) (e := .f32)
      [⟨Rect.unit (s := S400x256) ![392, 0] S8x256.size inb_S400x256_S8x256_392_0, p⟩,
       ⟨Rect.unit (s := S400x256) ![0, 0] S400x256.size inb_S400x256_S400x256_0_0, w⟩] (ix2 s j) = w (ix2 s j) := by
  have hn : (ix2 s j : S400x256.Idx) ∉ (Rect.unit (s := S400x256) ![392, 0] S8x256.size inb_S400x256_S8x256_392_0).set :=
    fun hm => h ((Rect.mem_set_unit.1 hm) 0).1
  have h0 : (![0, 0] : Fin 2 → ℕ) = fun _ => 0 := by funext i; fin_cases i <;> rfl
  refine (View.canon_cons_of_not_mem (Val := Elt Ideal) (s := S400x256) (e := .f32)
    ⟨Rect.unit (s := S400x256) ![392, 0] S8x256.size inb_S400x256_S8x256_392_0, p⟩
    [⟨Rect.unit (s := S400x256) ![0, 0] S400x256.size inb_S400x256_S400x256_0_0, w⟩] hn).trans ?_
  exact congrFun (View.canon_cons_unit_zero (Val := Elt Ideal) (S := S400x256) (e := .f32) h0 inb_S400x256_S400x256_0_0 w []) (ix2 s j)

/-- What a scratch buffer holds at a row and a column of a chunk. -/
def tileS (f : FVec Ideal S400x1024 .bf16) (tl : EReal) (w : Fin 1024 → EReal) (s : Fin 400) : EReal :=
  if 392 ≤ s.val then (∑ x : Fin 1024, f (ix2 s x) * w x) * tl else ∑ x : Fin 1024, f (ix2 s x) * w x

/-- The scratch buffer, by element. -/
theorem gtile_ix (f : FVec Ideal S400x1024 .bf16) (tl : EReal) (w : Vec Ideal S1x1024x256 .bf16) (s : Fin 400) (j : Fin 256) :
    gtile (F := Ideal) f tl w (ix2 s j) = tileS f tl (fun x => w (ix3 0 x j)) s := by
  have hp : ∀ s' : Fin 400, k0_pay3 (F := Ideal) f w (ix2 s' j) = ∑ x : Fin 1024, f (ix2 s' x) * w (ix3 0 x j) := by
    intro s'
    pointwise [k0_pay3, k0_pay2]
  unfold gtile tileS
  by_cases h : 392 ≤ s.val
  · rw [if_pos h]
    have e : (ix2 s j : S400x256.Idx) = (Rect.unit (s := S400x256) ![392, 0] S8x256.size inb_S400x256_S8x256_392_0).emb
        (ix2 (⟨s.val - 392, by omega⟩ : Fin 8) j) := by
      refine funext fun a => Fin.ext ?_
      match a with
      | ⟨0, _⟩ => show s.val = 392 + 1 * (s.val - 392); omega
      | ⟨1, _⟩ => show j.val = 0 + 1 * j.val; omega
    have hl : ∀ q : Fin 8, k0_pay4 (F := Ideal) f tl w (ix2 q j) = (∑ x : Fin 1024, f (ix2 (⟨392 + q.val, by omega⟩ : Fin 400) x) * w (ix3 0 x j)) * tl := by
      intro q
      pointwise [k0_pay4, k0_pay2]
    have hs : (⟨392 + (s.val - 392), by omega⟩ : Fin 400) = s := Fin.ext (by simp only; omega)
    refine (congrArg _ e).trans ((two_last _ _ _ j).trans ((hl _).trans ?_))
    rw [hs]
  · rw [if_neg h]
    exact (two_first _ _ s h j).trans (hp s)

/-- The scratch buffer, by element. -/
theorem utile_ix (f : FVec Ideal S400x1024 .bf16) (tl : EReal) (w : Vec Ideal S1x1024x256 .bf16) (s : Fin 400) (j : Fin 256) :
    utile (F := Ideal) f tl w (ix2 s j) = tileS f tl (fun x => w (ix3 0 x j)) s := by
  have hp : ∀ s' : Fin 400, k0_pay9 (F := Ideal) f w (ix2 s' j) = ∑ x : Fin 1024, f (ix2 s' x) * w (ix3 0 x j) := by
    intro s'
    pointwise [k0_pay9, k0_pay8]
  unfold utile tileS
  by_cases h : 392 ≤ s.val
  · rw [if_pos h]
    have e : (ix2 s j : S400x256.Idx) = (Rect.unit (s := S400x256) ![392, 0] S8x256.size inb_S400x256_S8x256_392_0).emb
        (ix2 (⟨s.val - 392, by omega⟩ : Fin 8) j) := by
      refine funext fun a => Fin.ext ?_
      match a with
      | ⟨0, _⟩ => show s.val = 392 + 1 * (s.val - 392); omega
      | ⟨1, _⟩ => show j.val = 0 + 1 * j.val; omega
    have hl : ∀ q : Fin 8, k0_pay10 (F := Ideal) f tl w (ix2 q j) = (∑ x : Fin 1024, f (ix2 (⟨392 + q.val, by omega⟩ : Fin 400) x) * w (ix3 0 x j)) * tl := by
      intro q
      pointwise [k0_pay10, k0_pay8]
    have hs : (⟨392 + (s.val - 392), by omega⟩ : Fin 400) = s := Fin.ext (by simp only; omega)
    refine (congrArg _ e).trans ((two_last _ _ _ j).trans ((hl _).trans ?_))
    rw [hs]
  · rw [if_neg h]
    exact (two_first _ _ s h j).trans (hp s)

/-- A chunk's column through the three taps, at an output row. -/
def cvS (f : FVec Ideal S400x1024 .bf16) (tl : EReal) (W6 : Vec Ideal S22x1024x256 .bf16) (W7 : Vec Ideal S22x3x256 .f32) (W8 : Vec Ideal S22x1x256 .f32)
    (c : Fin 22) (r : Fin 384) (j : Fin 256) : EReal :=
  tileS f tl (fun x => W6 (ix3 c x j)) ⟨r.val + 7, by omega⟩ * W7 (ix3 c 0 j) + W8 (ix3 c 0 j)
    + tileS f tl (fun x => W6 (ix3 c x j)) ⟨r.val + 8, by omega⟩ * W7 (ix3 c 1 j)
    + tileS f tl (fun x => W6 (ix3 c x j)) ⟨r.val + 9, by omega⟩ * W7 (ix3 c 2 j)

theorem pay21_ix (g u r9 : FVec Ideal S384x256 .f32) (w : Vec Ideal S1x1x256 .f32) (a : Vec Ideal S384x1024 .f32) (wd : Vec Ideal S1x256x1024 .bf16)
    (r : Fin 384) (l : Fin 1024) :
    k0_pay21 (F := Ideal) g u r9 w a wd (ix2 r l) = a (ix2 r l)
      + ∑ j : Fin 256, gl (g (ix2 r j)) * (u (ix2 r j) + r9 (ix2 r j) * w (ix3 0 0 j)) * wd (ix3 0 j l) := by
  have hg : ∀ j, gl (g (ix2 r j)) = g (ix2 r j) * (Ideal.ofBits .f32 0x3F000000#32 * (Ideal.ofBits .f32 0x3F800000#32 + Ideal.tanh (Ideal.ofBits .f32 0x3F4C422A#32 * (g (ix2 r j) + Ideal.ofBits .f32 0x3D372713#32 * (g (ix2 r j) * (g (ix2 r j) * g (ix2 r j))))))) := by
    intro j
    unfold gl
    rw [mul_comm (g (ix2 r j) * g (ix2 r j)) (g (ix2 r j))]
  simp only [hg]
  pointwise [k0_pay21]

/-- One trip, by element. -/
theorem step_ix (f : FVec Ideal S400x1024 .bf16) (tl : EReal) (W6 : Vec Ideal S22x1024x256 .bf16) (W7 : Vec Ideal S22x3x256 .f32) (W8 : Vec Ideal S22x1x256 .f32) (W9 : Vec Ideal S11x256x1024 .bf16)
    (k : Fin k0_t1_loop.trips) (k' : Fin 11) (hk : k.val = k'.val) (a : Vec Ideal S384x1024 .f32) (r : Fin 384) (l : Fin 1024) :
    step (F := Ideal) f tl W6 W7 W8 W9 k a (ix2 r l) = a (ix2 r l)
      + ∑ j : Fin 256, gl (cvS f tl W6 W7 W8 ⟨k'.val, by omega⟩ r j) * cvS f tl W6 W7 W8 ⟨11 + k'.val, by omega⟩ r j * W9 (ix3 k' j l) := by
  have h5 : ∀ (a7 : Vec Ideal S384x256 .f32) (w0 b0 : Vec Ideal S1x1x256 .f32) (a8 : Vec Ideal S384x256 .f32) (w1 : Vec Ideal S1x1x256 .f32) (a9 : Vec Ideal S384x256 .f32) (w2 : Vec Ideal S1x1x256 .f32) (j : Fin 256),
      k0_pay7 (F := Ideal) (k0_pay5 a7 w0 b0 a8 w1) a9 (k0_pay6 w2) (ix2 r j)
        = a7 (ix2 r j) * w0 (ix3 0 0 j) + b0 (ix3 0 0 j) + a8 (ix2 r j) * w1 (ix3 0 0 j) + a9 (ix2 r j) * w2 (ix3 0 0 j) := by
    intros; pointwise [k0_pay7, k0_pay5, k0_pay6]
  have h11 : ∀ (a7 : Vec Ideal S384x256 .f32) (w0 b0 : Vec Ideal S1x1x256 .f32) (a8 : Vec Ideal S384x256 .f32) (w1 : Vec Ideal S1x1x256 .f32) (j : Fin 256),
      k0_pay11 (F := Ideal) a7 w0 b0 a8 w1 (ix2 r j)
        = a7 (ix2 r j) * w0 (ix3 0 0 j) + b0 (ix3 0 0 j) + a8 (ix2 r j) * w1 (ix3 0 0 j) := by
    intros; pointwise [k0_pay11]
  unfold step
  rw [pay21_ix]
  refine congrArg (_ + ·) (Finset.sum_congr rfl fun j _ => ?_)
  rw [h5, h11, ld11 W9 k k' hk.symm]
  rw [row7 _ r ⟨r.val + 7, by omega⟩ rfl, row8 _ r ⟨r.val + 8, by omega⟩ rfl, row9 _ r ⟨r.val + 9, by omega⟩ rfl,
    row7 _ r ⟨r.val + 7, by omega⟩ rfl, row8 _ r ⟨r.val + 8, by omega⟩ rfl, row9 _ r ⟨r.val + 9, by omega⟩ rfl]
  simp only [gtile_ix, utile_ix]
  have e0 : (⟨k'.val, by omega⟩ : Fin 22).val = k.val := hk.symm
  have e1 : (⟨11 + k'.val, by omega⟩ : Fin 22).val = 11 + k.val := by simp only [hk]
  simp only [ld1 W6 k _ e0, ld2 W7 k _ e0, ld3 W8 k _ e0, ld4 W7 k _ e0, ld5 W7 k _ e0, ld6 W6 k _ e1, ld7 W7 k _ e1, ld8 W8 k _ e1, ld9 W7 k _ e1, ld10 W7 k _ e1]
  rfl

/-- The accumulator before trip `k` of an array that starts at `a`, by element: a sum over the chunks so far. -/
theorem accAt_ix (f : FVec Ideal S400x1024 .bf16) (tl : EReal) (W6 : Vec Ideal S22x1024x256 .bf16) (W7 : Vec Ideal S22x3x256 .f32) (W8 : Vec Ideal S22x1x256 .f32) (W9 : Vec Ideal S11x256x1024 .bf16)
    (a : Vec Ideal S384x1024 .f32) (r : Fin 384) (l : Fin 1024) : ∀ k : ℕ, k ≤ 11 →
    accAt (F := Ideal) f tl W6 W7 W8 W9 a k (ix2 r l) = a (ix2 r l)
      + ∑ c ∈ Finset.range k, (fun c => if h : c < 11 then ∑ j : Fin 256, gl (cvS f tl W6 W7 W8 ⟨c, by omega⟩ r j) * cvS f tl W6 W7 W8 ⟨11 + c, by omega⟩ r j * W9 (ix3 ⟨c, h⟩ j l) else 0) c := by
  intro k
  induction k with
  | zero => intro _; rw [Finset.range_zero, Finset.sum_empty, add_zero]; rfl
  | succ k ih =>
    intro hk
    have hk' : k < k0_t1_loop.trips := by rw [trips_eq]; omega
    rw [accAt_succ f tl W6 W7 W8 W9 a ⟨k, hk'⟩, step_ix f tl W6 W7 W8 W9 ⟨k, hk'⟩ ⟨k, by omega⟩ rfl, ih (by omega),
      Finset.sum_range_succ, add_assoc]
    refine congrArg (_ + ·) (congrArg (_ + ·) ?_)
    show _ = dite (k < 11) _ _
    rw [dif_pos (show k < 11 by omega)]

/-- A sum over 2816 columns, chunk by chunk. -/
theorem sum_chunks (f : Fin 2816 → EReal) :
    ∑ c : Fin 11, ∑ j : Fin 256, f ⟨c.val * 256 + j.val, by omega⟩ = ∑ x, f x := by
  rw [← (finProdFinEquiv (m := 11) (n := 256)).sum_comp (fun x => f x), Fintype.sum_prod_type]
  refine Finset.sum_congr rfl fun c _ => Finset.sum_congr rfl fun j _ => congrArg f (Fin.ext ?_)
  show c.val * 256 + j.val = j.val + 256 * c.val
  omega

/-- The accumulator after the last trip, from zero, by element. -/
theorem accAll_ix (f : FVec Ideal S400x1024 .bf16) (tl : EReal) (W6 : Vec Ideal S22x1024x256 .bf16) (W7 : Vec Ideal S22x3x256 .f32) (W8 : Vec Ideal S22x1x256 .f32) (W9 : Vec Ideal S11x256x1024 .bf16)
    (r : Fin 384) (l : Fin 1024) :
    accAt (F := Ideal) f tl W6 W7 W8 W9 (k0_pay20 (F := Ideal)) k0_t1_loop.trips (ix2 r l)
      = ∑ c : Fin 11, ∑ j : Fin 256, gl (cvS f tl W6 W7 W8 ⟨c.val, by omega⟩ r j) * cvS f tl W6 W7 W8 ⟨11 + c.val, by omega⟩ r j * W9 (ix3 c j l) := by
  have h0 : k0_pay20 (F := Ideal) (ix2 r l) = 0 := by
    have e : k0_pay20 (F := Ideal) (ix2 r l) = Ideal.ofBits .f32 0#32 := by pointwise [k0_pay20]
    rw [e, Rows.ofBits_zero]
  rw [trips_eq, accAt_ix f tl W6 W7 W8 W9 _ r l 11 (le_refl _), h0, zero_add, Finset.sum_range]
  exact Finset.sum_congr rfl fun c _ => dif_pos c.isLt

/-- The 400 normalised rows of a point, by element. -/
theorem rows_ix (x0 : Vec Ideal S1x384x1024 .f32) (x1 x2 : Vec Ideal S1x8x1024 .f32) (x3 : Vec Ideal S1x1024 .f32) (s : Fin 400) (x : Fin 1024) :
    k0_pay18 (F := Ideal) (k0_pay12 x3) (k0_pay13 x3 x1) (k0_pay14 x3 x0) (k0_pay15 x2) (k0_pay16 x2) (k0_pay17 (F := Ideal)) (ix2 s x)
      = if h : s.val < 8 then x1 (ix3 0 ⟨s.val, h⟩ x) * Rows.rs (fun y => x1 (ix3 0 ⟨s.val, h⟩ y)) * x3 (ix2 0 x)
        else if h : s.val - 8 < 384 then x0 (ix3 0 ⟨s.val - 8, h⟩ x) * Rows.rs (fun y => x0 (ix3 0 ⟨s.val - 8, h⟩ y)) * x3 (ix2 0 x)
        else x2 (ix3 0 ⟨s.val - 8 - 384, by omega⟩ x) * Rows.rs (fun y => x2 (ix3 0 ⟨s.val - 8 - 384, by omega⟩ y)) * x3 (ix2 0 x) := by
  unfold Rows.rs
  pointwise [k0_pay18, k0_pay12, k0_pay13, k0_pay14, k0_pay15, k0_pay16, k0_pay17]

/-- The tail's factor is one before the last row block and zero at it. -/
theorem tail_ix (n : ℕ) (hn : n < 43) :
    k0_pay19 (F := Ideal) (BitVec.ofNat 32 n) = if n < 42 then Ideal.ofBits .f32 0x3F800000#32 else 0 := by
  have h : Scalar.cmpi CmpIPredicate.slt (BitVec.ofNat 32 n) 42#32 = if n < 42 then 1#1 else 0#1 := by
    interval_cases n <;> rfl
  show Scalar.select (Scalar.cmpi CmpIPredicate.slt (BitVec.ofNat 32 n) 42#32) (Ideal.ofBits .f32 0x3F800000#32) (Ideal.ofBits .f32 0#32) = _
  rw [h, Rows.select_if, Rows.ofBits_zero]

/-- The block written at a point, by element, from the accumulator. -/
theorem out9_ix (i : grid0.Coords) (n : ℕ) (hn : n < 43) (hi : (i 1).val = n) (x0 x1 x2 x3 x4 x5 x6 x7 x8) (r : Fin 384) (l : Fin 1024) :
    out9 (F := Ideal) i x0 x1 x2 x3 x4 x5 x6 x7 x8 (ix3 0 r l)
      = if 112 ≤ n * 384 + r.val then
          x0 (ix3 0 r l) + accEnd (F := Ideal) i x0 x1 x2 x3 x4 x5 x6 x7 x8 (ix2 r l)
            * Rows.rs (fun y => accEnd (F := Ideal) i x0 x1 x2 x3 x4 x5 x6 x7 x8 (ix2 r y)) * x8 (ix2 0 l) else 0 := by
  unfold out9
  generalize accEnd (F := Ideal) i x0 x1 x2 x3 x4 x5 x6 x7 x8 = a
  have e : k0_pay1 (F := Ideal) (k0_pay22 x0 a x8) (k0_pay23 (BitVec.ofNat 32 (i 1).val)) (ix3 0 r l) = Scalar.select
      (IntOp.cmpi CmpIPredicate.sge (IntOp.addi (Scalar.muli (BitVec.ofNat 32 (i 1).val) 384#32) (BitVec.ofNat 32 r.val))
        112#32) (x0 (ix3 0 r l) + a (ix2 r l) * Rows.rs (fun y => a (ix2 r y)) * x8 (ix2 0 l)) 0 := by
    unfold Rows.rs
    pointwise [k0_pay1, k0_pay22, k0_pay23]
  have w : IntOp.addi (Scalar.muli (BitVec.ofNat 32 n) 384#32) (BitVec.ofNat 32 r.val) = BitVec.ofNat 32 (n * 384 + r.val) := by
    rw [BitVec.ofNat_add, BitVec.ofNat_mul]; rfl
  rw [e, hi, w, WinMath.sge_nat _ 112 (by omega) (by omega), Rows.select_if]

end Cert.FfnSampleKernelIdeal.Body
end
-- ==== Proof.FfnSampleValue.lean ====
module

public import proofs.«01_k».proof.Proof.FfnSampleIdealFrame
public import proofs.«01_k».proof.Proof.FfnSampleTrip
public import Idealize.ShloMosaic.Lib.Pipeline.Covers

@[expose] public section

set_option maxRecDepth 16384

noncomputable section

namespace Cert.FfnSampleKernelIdeal.Value2

open Cert.FfnSampleKernelIdeal Cert.FfnSampleKernelIdeal.Gen Idealize.ShloMosaic Idealize.ShloMosaic.TcCoe Idealize.SL.Sem
open Idealize.ShloMosaic.Pipeline (Dat)
open Facts Cert.FfnSampleKernelIdeal.Body
open Cert.FfnSampleReferenceIdeal.Row (gl nrm up pd cv act dn fin nrm_ix up_ix pd_ix cv_ix act_ix dn_ix fin_ix)

variable (m : (ℓ : Loc nD τ sig) → Buf (Elt Ideal) ℓ)

/-- Which block of its array each window reads or writes at a point. -/
theorem index_facts : ∀ t : Fin cfg0.N,
    ((cfg0.win 0).index t 0 = t.val / 43 ∧ (cfg0.win 0).index t 1 = t.val % 43 ∧ (cfg0.win 0).index t 2 = 0)
    ∧ ((cfg0.win 1).index t 0 = t.val / 43 ∧ (cfg0.win 1).index t 1 = 48 * (t.val % 43) - 1 ∧ (cfg0.win 1).index t 2 = 0)
    ∧ ((cfg0.win 2).index t 0 = t.val / 43 ∧ (cfg0.win 2).index t 1 = min (48 * (t.val % 43) + 48) 2063 ∧ (cfg0.win 2).index t 2 = 0)
    ∧ ((cfg0.win 3).index t 0 = 0 ∧ (cfg0.win 3).index t 1 = 0)
    ∧ ((cfg0.win 4).index t 0 = 0 ∧ (cfg0.win 4).index t 1 = 0 ∧ (cfg0.win 4).index t 2 = 0)
    ∧ ((cfg0.win 5).index t 0 = 0 ∧ (cfg0.win 5).index t 1 = 0 ∧ (cfg0.win 5).index t 2 = 0)
    ∧ ((cfg0.win 6).index t 0 = 0 ∧ (cfg0.win 6).index t 1 = 0 ∧ (cfg0.win 6).index t 2 = 0)
    ∧ ((cfg0.win 7).index t 0 = 0 ∧ (cfg0.win 7).index t 1 = 0 ∧ (cfg0.win 7).index t 2 = 0)
    ∧ ((cfg0.win 8).index t 0 = 0 ∧ (cfg0.win 8).index t 1 = 0)
    ∧ ((cfg0.win 9).index t 0 = t.val / 43 ∧ (cfg0.win 9).index t 1 = t.val % 43 ∧ (cfg0.win 9).index t 2 = 0) := by
  decide +kernel

/-- The second grid coordinate of a point: the row block. -/
theorem coords_facts : ∀ t : Fin cfg0.N, (grid0.coords t 1).val = t.val % 43 := by
  decide +kernel

/-- The number of grid points. -/
theorem N_eq : cfg0.N = 86 := by decide

/-- A block of the padded residual at a point, by element. -/
theorem iblk0 (c : Dev nD) (t : Fin cfg0.N) (y : Fin 384) (z : Fin 1024) (i : S2x16512x1024.Idx)
    (h0 : (i 0).val = t.val / 43) (h1 : (i 1).val = (t.val % 43) * 384 + y.val) (h2 : (i 2).val = z.val) :
    iblk m c 0 t (ix3 0 y z) = V m c main_v1 i := by
  obtain ⟨f0, f1, f2⟩ := (index_facts t).1
  blk_simp [iblk]
  show V m c main_v1 _ = _
  refine congrArg (V m c main_v1) (funext fun a => Fin.ext ?_)
  refine (Pipeline.Window.rect_emb_val (cfg0.win 0) t (ix3 0 y z) a).trans ?_
  match a with
  | ⟨0, _⟩ => show (cfg0.win 0).index t 0 * 1 + 0 = (i 0).val; rw [f0, h0]; try omega
  | ⟨1, _⟩ => show (cfg0.win 0).index t 1 * 384 + y.val = (i 1).val; rw [f1, h1]; try omega
  | ⟨2, _⟩ => show (cfg0.win 0).index t 2 * 1024 + z.val = (i 2).val; rw [f2, h2]; try omega

/-- A block of the padded residual at a point, by element. -/
theorem iblk1 (c : Dev nD) (t : Fin cfg0.N) (y : Fin 8) (z : Fin 1024) (i : S2x16512x1024.Idx)
    (h0 : (i 0).val = t.val / 43) (h1 : (i 1).val = (48 * (t.val % 43) - 1) * 8 + y.val) (h2 : (i 2).val = z.val) :
    iblk m c 1 t (ix3 0 y z) = V m c main_v1 i := by
  obtain ⟨f0, f1, f2⟩ := (index_facts t).2.1
  blk_simp [iblk]
  show V m c main_v1 _ = _
  refine congrArg (V m c main_v1) (funext fun a => Fin.ext ?_)
  refine (Pipeline.Window.rect_emb_val (cfg0.win 1) t (ix3 0 y z) a).trans ?_
  match a with
  | ⟨0, _⟩ => show (cfg0.win 1).index t 0 * 1 + 0 = (i 0).val; rw [f0, h0]; try omega
  | ⟨1, _⟩ => show (cfg0.win 1).index t 1 * 8 + y.val = (i 1).val; rw [f1, h1]; try omega
  | ⟨2, _⟩ => show (cfg0.win 1).index t 2 * 1024 + z.val = (i 2).val; rw [f2, h2]; try omega

/-- A block of the padded residual at a point, by element. -/
theorem iblk2 (c : Dev nD) (t : Fin cfg0.N) (y : Fin 8) (z : Fin 1024) (i : S2x16512x1024.Idx)
    (h0 : (i 0).val = t.val / 43) (h1 : (i 1).val = (min (48 * (t.val % 43) + 48) 2063) * 8 + y.val) (h2 : (i 2).val = z.val) :
    iblk m c 2 t (ix3 0 y z) = V m c main_v1 i := by
  obtain ⟨f0, f1, f2⟩ := (index_facts t).2.2.1
  blk_simp [iblk]
  show V m c main_v1 _ = _
  refine congrArg (V m c main_v1) (funext fun a => Fin.ext ?_)
  refine (Pipeline.Window.rect_emb_val (cfg0.win 2) t (ix3 0 y z) a).trans ?_
  match a with
  | ⟨0, _⟩ => show (cfg0.win 2).index t 0 * 1 + 0 = (i 0).val; rw [f0, h0]; try omega
  | ⟨1, _⟩ => show (cfg0.win 2).index t 1 * 8 + y.val = (i 1).val; rw [f1, h1]; try omega
  | ⟨2, _⟩ => show (cfg0.win 2).index t 2 * 1024 + z.val = (i 2).val; rw [f2, h2]; try omega

/-- The block of a window that is its whole array. -/
theorem iblk3 (c : Dev nD) (t : Fin cfg0.N) (y : Fin 1024) (i : S1x1024.Idx)
    (h0 : (i 0).val = 0) (h1 : (i 1).val = y.val) :
    iblk m c 3 t (ix2 0 y) = V m c main_v2 i := by
  obtain ⟨f0, f1⟩ := (index_facts t).2.2.2.1
  blk_simp [iblk]
  show V m c main_v2 _ = _
  refine congrArg (V m c main_v2) (funext fun a => Fin.ext ?_)
  refine (Pipeline.Window.rect_emb_val (cfg0.win 3) t (ix2 0 y) a).trans ?_
  match a with
  | ⟨0, _⟩ => show (cfg0.win 3).index t 0 * 1 + 0 = (i 0).val; rw [f0, h0]; try omega
  | ⟨1, _⟩ => show (cfg0.win 3).index t 1 * 1024 + y.val = (i 1).val; rw [f1, h1]; try omega

/-- The block of a window that is its whole array. -/
theorem iblk4 (c : Dev nD) (t : Fin cfg0.N) (x : Fin 22) (y : Fin 1024) (z : Fin 256) (i : S22x1024x256.Idx)
    (h0 : (i 0).val = x.val) (h1 : (i 1).val = y.val) (h2 : (i 2).val = z.val) :
    iblk m c 4 t (ix3 x y z) = V m c main_v5 i := by
  obtain ⟨f0, f1, f2⟩ := (index_facts t).2.2.2.2.1
  blk_simp [iblk]
  show V m c main_v5 _ = _
  refine congrArg (V m c main_v5) (funext fun a => Fin.ext ?_)
  refine (Pipeline.Window.rect_emb_val (cfg0.win 4) t (ix3 x y z) a).trans ?_
  match a with
  | ⟨0, _⟩ => show (cfg0.win 4).index t 0 * 22 + x.val = (i 0).val; rw [f0, h0]; try omega
  | ⟨1, _⟩ => show (cfg0.win 4).index t 1 * 1024 + y.val = (i 1).val; rw [f1, h1]; try omega
  | ⟨2, _⟩ => show (cfg0.win 4).index t 2 * 256 + z.val = (i 2).val; rw [f2, h2]; try omega

/-- The block of a window that is its whole array. -/
theorem iblk5 (c : Dev nD) (t : Fin cfg0.N) (x : Fin 22) (y : Fin 3) (z : Fin 256) (i : S22x3x256.Idx)
    (h0 : (i 0).val = x.val) (h1 : (i 1).val = y.val) (h2 : (i 2).val = z.val) :
    iblk m c 5 t (ix3 x y z) = V m c main_v7 i := by
  obtain ⟨f0, f1, f2⟩ := (index_facts t).2.2.2.2.2.1
  blk_simp [iblk]
  show V m c main_v7 _ = _
  refine congrArg (V m c main_v7) (funext fun a => Fin.ext ?_)
  refine (Pipeline.Window.rect_emb_val (cfg0.win 5) t (ix3 x y z) a).trans ?_
  match a with
  | ⟨0, _⟩ => show (cfg0.win 5).index t 0 * 22 + x.val = (i 0).val; rw [f0, h0]; try omega
  | ⟨1, _⟩ => show (cfg0.win 5).index t 1 * 3 + y.val = (i 1).val; rw [f1, h1]; try omega
  | ⟨2, _⟩ => show (cfg0.win 5).index t 2 * 256 + z.val = (i 2).val; rw [f2, h2]; try omega

/-- The block of a window that is its whole array. -/
theorem iblk6 (c : Dev nD) (t : Fin cfg0.N) (x : Fin 22) (z : Fin 256) (i : S22x1x256.Idx)
    (h0 : (i 0).val = x.val) (h1 : (i 1).val = 0) (h2 : (i 2).val = z.val) :
    iblk m c 6 t (ix3 x 0 z) = V m c main_v10 i := by
  obtain ⟨f0, f1, f2⟩ := (index_facts t).2.2.2.2.2.2.1
  blk_simp [iblk]
  show V m c main_v10 _ = _
  refine congrArg (V m c main_v10) (funext fun a => Fin.ext ?_)
  refine (Pipeline.Window.rect_emb_val (cfg0.win 6) t (ix3 x 0 z) a).trans ?_
  match a with
  | ⟨0, _⟩ => show (cfg0.win 6).index t 0 * 22 + x.val = (i 0).val; rw [f0, h0]; try omega
  | ⟨1, _⟩ => show (cfg0.win 6).index t 1 * 1 + 0 = (i 1).val; rw [f1, h1]; try omega
  | ⟨2, _⟩ => show (cfg0.win 6).index t 2 * 256 + z.val = (i 2).val; rw [f2, h2]; try omega

/-- The block of a window that is its whole array. -/
theorem iblk7 (c : Dev nD) (t : Fin cfg0.N) (x : Fin 11) (y : Fin 256) (z : Fin 1024) (i : S11x256x1024.Idx)
    (h0 : (i 0).val = x.val) (h1 : (i 1).val = y.val) (h2 : (i 2).val = z.val) :
    iblk m c 7 t (ix3 x y z) = V m c main_v12 i := by
  obtain ⟨f0, f1, f2⟩ := (index_facts t).2.2.2.2.2.2.2.1
  blk_simp [iblk]
  show V m c main_v12 _ = _
  refine congrArg (V m c main_v12) (funext fun a => Fin.ext ?_)
  refine (Pipeline.Window.rect_emb_val (cfg0.win 7) t (ix3 x y z) a).trans ?_
  match a with
  | ⟨0, _⟩ => show (cfg0.win 7).index t 0 * 11 + x.val = (i 0).val; rw [f0, h0]; try omega
  | ⟨1, _⟩ => show (cfg0.win 7).index t 1 * 256 + y.val = (i 1).val; rw [f1, h1]; try omega
  | ⟨2, _⟩ => show (cfg0.win 7).index t 2 * 1024 + z.val = (i 2).val; rw [f2, h2]; try omega

/-- The block of a window that is its whole array. -/
theorem iblk8 (c : Dev nD) (t : Fin cfg0.N) (y : Fin 1024) (i : S1x1024.Idx)
    (h0 : (i 0).val = 0) (h1 : (i 1).val = y.val) :
    iblk m c 8 t (ix2 0 y) = V m c main_v13 i := by
  obtain ⟨f0, f1⟩ := (index_facts t).2.2.2.2.2.2.2.2.1
  blk_simp [iblk]
  show V m c main_v13 _ = _
  refine congrArg (V m c main_v13) (funext fun a => Fin.ext ?_)
  refine (Pipeline.Window.rect_emb_val (cfg0.win 8) t (ix2 0 y) a).trans ?_
  match a with
  | ⟨0, _⟩ => show (cfg0.win 8).index t 0 * 1 + 0 = (i 0).val; rw [f0, h0]; try omega
  | ⟨1, _⟩ => show (cfg0.win 8).index t 1 * 1024 + y.val = (i 1).val; rw [f1, h1]; try omega

/-- The padded residual the region finds, by element. -/
theorem V_v1 (c : Dev nD) (b : Fin 2) (i : Fin 16512) (x : Fin 1024) :
    V m c main_v1 (ix3 b i x) = if h : i.val < 112 then (0 : EReal) else m ((c : Thread nD τ).loc main_arg0) (ix3 b ⟨i.val - 112, by omega⟩ x) := by
  have e : (V m c main_v1 : FVec Ideal S2x16512x1024 .f32) = concatenate S2x16512x1024 1 [⟨S2x112x1024, broadcastInDim S2x112x1024 ![] bcast_S_S2x112x1024 (constant (F := Ideal) S_ .f32 0x00000000#32)⟩, ⟨S2x16400x1024, (m ((c : Thread nD τ).loc main_arg0) : FVec Ideal S2x16400x1024 .f32)⟩] concatenates_S2x112x1024_S2x16400x1024_S2x16512x1024_d1 := by
    unfold V
    simp only [hostOps0]
    after_results <;> rfl
  rw [e]
  pointwise

/-- The first normalisation weights the region finds, by element. -/
theorem V_v2 (c : Dev nD) (y : Fin 1024) :
    V m c main_v2 (ix2 0 y) = m ((c : Thread nD τ).loc main_arg1) (ix1 y) := by
  have e : (V m c main_v2 : FVec Ideal S1x1024 .f32) = shapeCast S1x1024 (m ((c : Thread nD τ).loc main_arg1) : FVec Ideal S1024 .f32) shapeCasts_S1024_S1x1024 := by
    unfold V
    simp only [hostOps0]
    after_results <;> rfl
  rw [e]
  pointwise

/-- The second normalisation weights the region finds, by element. -/
theorem V_v13 (c : Dev nD) (y : Fin 1024) :
    V m c main_v13 (ix2 0 y) = m ((c : Thread nD τ).loc main_arg6) (ix1 y) := by
  have e : (V m c main_v13 : FVec Ideal S1x1024 .f32) = shapeCast S1x1024 (m ((c : Thread nD τ).loc main_arg6) : FVec Ideal S1024 .f32) shapeCasts_S1024_S1x1024 := by
    unfold V
    simp only [hostOps0]
    after_results <;> rfl
  rw [e]
  pointwise

/-- The first weights the region finds, by element. -/
theorem V_v5 (c : Dev nD) (q : Fin 22) (x : Fin 1024) (j : Fin 256) :
    V m c main_v5 (ix3 q x j) = m ((c : Thread nD τ).loc main_arg2) (ix2 x (⟨q.val * 256 + j.val, by omega⟩ : Fin 5632)) := by
  have e : (V m c main_v5 : FVec Ideal S22x1024x256 .bf16) = transpose S22x1024x256 [1, 0, 2] (shapeCast S1024x22x256 (truncf (F := Ideal) (φ := .f32) .bf16 (m ((c : Thread nD τ).loc main_arg2)) bitsLt_bf16_f32) shapeCasts_S1024x5632_S1024x22x256) transposes_S1024x22x256_S22x1024x256_1_0_2 := by
    unfold V
    simp only [hostOps0]
    after_results <;> rfl
  rw [e]
  pointwise

/-- The taps the region finds, by element. -/
theorem V_v7 (c : Dev nD) (q : Fin 22) (x : Fin 3) (j : Fin 256) :
    V m c main_v7 (ix3 q x j) = m ((c : Thread nD τ).loc main_arg3) (ix2 x (⟨q.val * 256 + j.val, by omega⟩ : Fin 5632)) := by
  have e : (V m c main_v7 : FVec Ideal S22x3x256 .f32) = transpose S22x3x256 [1, 0, 2] (shapeCast S3x22x256 (m ((c : Thread nD τ).loc main_arg3) : FVec Ideal S3x5632 .f32) shapeCasts_S3x5632_S3x22x256) transposes_S3x22x256_S22x3x256_1_0_2 := by
    unfold V
    simp only [hostOps0]
    after_results <;> rfl
  rw [e]
  pointwise

/-- The convolution's bias the region finds, by element. -/
theorem V_v10 (c : Dev nD) (q : Fin 22) (j : Fin 256) :
    V m c main_v10 (ix3 q 0 j) = m ((c : Thread nD τ).loc main_arg4) (ix1 (⟨q.val * 256 + j.val, by omega⟩ : Fin 5632)) := by
  have e : (V m c main_v10 : FVec Ideal S22x1x256 .f32) = transpose S22x1x256 [1, 0, 2] (shapeCast S1x22x256 (shapeCast S1x5632 (m ((c : Thread nD τ).loc main_arg4) : FVec Ideal S5632 .f32) shapeCasts_S5632_S1x5632) shapeCasts_S1x5632_S1x22x256) transposes_S1x22x256_S22x1x256_1_0_2 := by
    unfold V
    simp only [hostOps0]
    after_results <;> rfl
  rw [e]
  refine (transpose_apply _ _ _ (ix3 q 0 j) (ix3 0 q j) ?_).trans ((shapeCast_apply _ _ (ix3 0 q j) (ix2 0 (⟨q.val * 256 + j.val, by omega⟩ : Fin 5632)) ?_).trans
    (shapeCast_apply _ _ (ix2 0 (⟨q.val * 256 + j.val, by omega⟩ : Fin 5632)) (ix1 (⟨q.val * 256 + j.val, by omega⟩ : Fin 5632)) ?_))
  · intro b
    fin_cases b <;> rfl
  · rw [Shape.rowMajor_val_two, Shape.rowMajor_val_three]
    show 0 * 5632 + (q.val * 256 + j.val) = (0 * 22 + q.val) * 256 + j.val
    omega
  · rw [Shape.rowMajor_val_two, Shape.rowMajor_val_one]
    show q.val * 256 + j.val = 0 * 5632 + (q.val * 256 + j.val)
    omega

/-- The second weights the region finds, by element. -/
theorem V_v12 (c : Dev nD) (q : Fin 11) (j : Fin 256) (l : Fin 1024) :
    V m c main_v12 (ix3 q j l) = m ((c : Thread nD τ).loc main_arg5) (ix2 (⟨q.val * 256 + j.val, by omega⟩ : Fin 2816) l) := by
  have e : (V m c main_v12 : FVec Ideal S11x256x1024 .bf16) = shapeCast S11x256x1024 (truncf (F := Ideal) (φ := .f32) .bf16 (m ((c : Thread nD τ).loc main_arg5)) bitsLt_bf16_f32) shapeCasts_S2816x1024_S11x256x1024 := by
    unfold V
    simp only [hostOps0]
    after_results <;> rfl
  rw [e]
  refine (shapeCast_apply _ _ (ix3 q j l) (ix2 (⟨q.val * 256 + j.val, by omega⟩ : Fin 2816) l) ?_).trans rfl
  rw [Shape.rowMajor_val_two, Shape.rowMajor_val_three]
  rfl

/-- The 400 normalised rows of a point. -/
abbrev rowsAt (c : Dev nD) (t : Fin cfg0.N) : FVec Ideal S400x1024 .bf16 :=
  k0_pay18 (F := Ideal) (k0_pay12 (iblk m c 3 t)) (k0_pay13 (iblk m c 3 t) (iblk m c 1 t)) (k0_pay14 (iblk m c 3 t) (iblk m c 0 t)) (k0_pay15 (iblk m c 2 t)) (k0_pay16 (iblk m c 2 t)) (k0_pay17 (F := Ideal))

/-- A row of a point is a row of the padded residual, normalised. -/
theorem rows_at (c : Dev nD) (t : Fin cfg0.N) (s : Fin 400) (b : Fin 2) (g : Fin 16512)
    (hb : b.val = t.val / 43) (hg : g.val + 8 = 384 * (t.val % 43) + s.val) (f nw : Fin 1024 → EReal)
    (hf : ∀ y, V m c main_v1 (ix3 b g y) = f y) (hnw : ∀ y, (m ((c : Thread nD τ).loc main_arg1)) (ix1 y) = nw y) (x : Fin 1024) :
    rowsAt m c t (ix2 s x) = f x * Rows.rs f * nw x := by
  have hn : iblk m c 3 t (ix2 0 x) = nw x := by
    rw [iblk3 m c t x (ix2 0 x) rfl (by show x.val = _; omega), V_v2, hnw]
  refine (rows_ix _ _ _ _ s x).trans ?_
  have hg4 := g.isLt
  by_cases h : s.val < 8
  · rw [dif_pos h, hn]
    have e : ∀ y, iblk m c 1 t (ix3 0 ⟨s.val, h⟩ y) = f y := fun y =>
      (iblk1 m c t ⟨s.val, h⟩ y (ix3 b g y) hb (by show g.val = (48 * (t.val % 43) - 1) * 8 + s.val; omega) rfl).trans (hf y)
    simp only [e]
  · rw [dif_neg h]
    by_cases h' : s.val - 8 < 384
    · rw [dif_pos h', hn]
      have e : ∀ y, iblk m c 0 t (ix3 0 ⟨s.val - 8, h'⟩ y) = f y := fun y =>
        (iblk0 m c t ⟨s.val - 8, h'⟩ y (ix3 b g y) hb (by show g.val = t.val % 43 * 384 + (s.val - 8); omega) rfl).trans (hf y)
      simp only [e]
    · rw [dif_neg h', hn]
      have e : ∀ y, iblk m c 2 t (ix3 0 ⟨s.val - 8 - 384, by omega⟩ y) = f y := fun y =>
        (iblk2 m c t ⟨s.val - 8 - 384, by omega⟩ y (ix3 b g y) hb (by show g.val = min (48 * (t.val % 43) + 48) 2063 * 8 + (s.val - 8 - 384); omega) rfl).trans (hf y)
      simp only [e]

variable [Cert.FfnSampleReferenceIdeal.Facts]

/-- The reference's padded products of what a launch starts from. -/
abbrev prods (c : Dev nD) : FVec Ideal Cert.FfnSampleReferenceIdeal.S2x16402x5632 .f32 := pd (up (nrm (m ((c : Thread nD τ).loc main_arg0)) (m ((c : Thread nD τ).loc main_arg1))) (m ((c : Thread nD τ).loc main_arg2)))

/-- A scratch buffer of a point holds the reference's padded products. -/
theorem tile_at (c : Dev nD) (t : Fin cfg0.N) (s : Fin 400) (b : Fin 2) (u : Fin 16402) (q : Fin 22) (j : Fin 256)
    (hb : b.val = t.val / 43) (hu : u.val + 119 = 384 * (t.val % 43) + s.val) :
    tileS (rowsAt m c t) (k0_pay19 (F := Ideal) (BitVec.ofNat 32 (grid0.coords t 1).val)) (fun x => iblk m c 4 t (ix3 q x j)) s
      = prods m c (ix3 b u ⟨q.val * 256 + j.val, by omega⟩) := by
  have hw : ∀ x, iblk m c 4 t (ix3 q x j) = (m ((c : Thread nD τ).loc main_arg2)) (ix2 x (⟨q.val * 256 + j.val, by omega⟩ : Fin 5632)) := by
    intro x
    rw [iblk4 m c t q x j (ix3 q x j) (by show q.val = _; omega) (by show x.val = _; omega) (by show j.val = _; omega), V_v5]
  have hone : (Ideal.ofBits .f32 0x3F800000#32 : EReal) = 1 := by
    simp [Ideal.ofBits, Ideal.ieee]
    rw [← EReal.coe_mul]
    norm_num
  rw [prods, pd_ix, coords_facts, tail_ix _ (by omega : t.val % 43 < 43)]
  unfold tileS
  have hu4 := u.isLt
  have hs4 := s.isLt
  by_cases h0 : u.val = 0
  · rw [dif_neg (by omega)]
    have hz : ∑ x : Fin 1024, rowsAt m c t (ix2 s x) * iblk m c 4 t (ix3 q x j) = 0 := by
      refine Finset.sum_eq_zero fun x _ => ?_
      rw [rows_at m c t s b ⟨111, by omega⟩ hb (by show 111 + 8 = _; omega) (fun _ => 0) (fun y => (m ((c : Thread nD τ).loc main_arg1)) (ix1 y)) (fun y => by rw [V_v1, dif_pos (by show 111 < 112; omega)]) (fun _ => rfl) x, zero_mul, zero_mul, zero_mul]
    rw [hz, zero_mul, ite_self]
  · by_cases h1 : u.val = 16401
    · rw [dif_neg (by omega), if_pos (by omega), if_neg (by omega), mul_zero]
    · have hu2 : 1 ≤ u.val ∧ u.val - 1 < 16400 := by omega
      rw [dif_pos hu2, up_ix]
      have hz : ∑ x : Fin 1024, rowsAt m c t (ix2 s x) * iblk m c 4 t (ix3 q x j)
          = ∑ x : Fin 1024, nrm (m ((c : Thread nD τ).loc main_arg0)) (m ((c : Thread nD τ).loc main_arg1)) (ix3 b ⟨u.val - 1, hu2.2⟩ x) * (m ((c : Thread nD τ).loc main_arg2)) (ix2 x (⟨q.val * 256 + j.val, by omega⟩ : Fin 5632)) := by
        refine Finset.sum_congr rfl fun x _ => ?_
        have hv : ∀ y, V m c main_v1 (ix3 b (⟨u.val + 111, by omega⟩ : Fin 16512) y) = (m ((c : Thread nD τ).loc main_arg0)) (ix3 b ⟨u.val - 1, hu2.2⟩ y) := by
          intro y
          rw [V_v1, dif_neg (by simp only; omega)]
          exact congrArg _ (congrArg (fun z => ix3 b z y) (Fin.ext (by simp only; omega)))
        rw [rows_at m c t s b ⟨u.val + 111, by omega⟩ hb (by show u.val + 111 + 8 = _; omega) (fun y => (m ((c : Thread nD τ).loc main_arg0)) (ix3 b ⟨u.val - 1, hu2.2⟩ y)) (fun y => (m ((c : Thread nD τ).loc main_arg1)) (ix1 y)) hv (fun _ => rfl) x, hw, nrm_ix]
      rw [hz]
      by_cases hs : 392 ≤ s.val
      · rw [if_pos hs, if_pos (by omega), hone, mul_one]
      · rw [if_neg hs]

/-- The reference's convolution of what a launch starts from. -/
abbrev convs (c : Dev nD) : FVec Ideal Cert.FfnSampleReferenceIdeal.S2x16400x5632 .f32 := cv (prods m c) (m ((c : Thread nD τ).loc main_arg3)) (m ((c : Thread nD τ).loc main_arg4))

/-- A chunk's column through the taps is the reference's convolution. -/
theorem conv_at (c : Dev nD) (t : Fin cfg0.N) (r : Fin 384) (b : Fin 2) (i : Fin 16400) (q : Fin 22) (j : Fin 256)
    (hb : b.val = t.val / 43) (hi : i.val + 112 = 384 * (t.val % 43) + r.val) :
    cvS (rowsAt m c t) (k0_pay19 (F := Ideal) (BitVec.ofNat 32 (grid0.coords t 1).val)) (iblk m c 4 t) (iblk m c 5 t) (iblk m c 6 t) q r j
      = convs m c (ix3 b i ⟨q.val * 256 + j.val, by omega⟩) := by
  have hc : ∀ d : Fin 3, iblk m c 5 t (ix3 q d j) = (m ((c : Thread nD τ).loc main_arg3)) (ix2 d (⟨q.val * 256 + j.val, by omega⟩ : Fin 5632)) := by
    intro d
    rw [iblk5 m c t q d j (ix3 q d j) (by show q.val = _; omega) (by show d.val = _; omega) (by show j.val = _; omega), V_v7]
  have hd : iblk m c 6 t (ix3 q 0 j) = (m ((c : Thread nD τ).loc main_arg4)) (ix1 (⟨q.val * 256 + j.val, by omega⟩ : Fin 5632)) := by
    rw [iblk6 m c t q j (ix3 q 0 j) (by show q.val = _; omega) rfl (by show j.val = _; omega), V_v10]
  unfold cvS
  rw [convs, cv_ix, hc, hc, hc, hd,
    tile_at m c t ⟨r.val + 7, by omega⟩ b ⟨i.val, by omega⟩ q j hb (by simp only; omega),
    tile_at m c t ⟨r.val + 8, by omega⟩ b ⟨1 + i.val, by omega⟩ q j hb (by simp only; omega),
    tile_at m c t ⟨r.val + 9, by omega⟩ b ⟨2 + i.val, by omega⟩ q j hb (by simp only; omega)]

/-- The reference's product with the second weights, of what a launch starts from. -/
abbrev downs (c : Dev nD) : FVec Ideal Cert.FfnSampleReferenceIdeal.S2x16400x1024 .f32 := dn (act (convs m c)) (m ((c : Thread nD τ).loc main_arg5))

/-- The accumulator of a point after the last chunk is the reference's product with the second weights. -/
theorem acc_at (c : Dev nD) (t : Fin cfg0.N) (r : Fin 384) (b : Fin 2) (i : Fin 16400) (l : Fin 1024)
    (hb : b.val = t.val / 43) (hi : i.val + 112 = 384 * (t.val % 43) + r.val) :
    accEnd (F := Ideal) (grid0.coords t) (iblk m c 0 t) (iblk m c 1 t) (iblk m c 2 t) (iblk m c 3 t) (iblk m c 4 t) (iblk m c 5 t) (iblk m c 6 t) (iblk m c 7 t) (iblk m c 8 t) (ix2 r l)
      = downs m c (ix3 b i l) := by
  refine (accAll_ix (rowsAt m c t) _ _ _ _ _ r l).trans ?_
  rw [downs, dn_ix, ← sum_chunks]
  refine Finset.sum_congr rfl fun q _ => Finset.sum_congr rfl fun j _ => ?_
  have hw : iblk m c 7 t (ix3 q j l) = (m ((c : Thread nD τ).loc main_arg5)) (ix2 (⟨q.val * 256 + j.val, by omega⟩ : Fin 2816) l) := by
    rw [iblk7 m c t q j l (ix3 q j l) (by show q.val = _; omega) (by show j.val = _; omega) (by show l.val = _; omega), V_v12]
  have e : (⟨(11 + q.val) * 256 + j.val, by omega⟩ : Fin 5632) = ⟨2816 + (q.val * 256 + j.val), by omega⟩ := Fin.ext (by simp only; omega)
  rw [hw, act_ix, conv_at m c t r b i ⟨q.val, by omega⟩ j hb hi, conv_at m c t r b i ⟨11 + q.val, by omega⟩ j hb hi]
  simp only [e]

/-- The reference's array of what a launch starts from. -/
abbrev goal (c : Dev nD) : S2x16512x1024.Idx → EReal := fin (m ((c : Thread nD τ).loc main_arg0)) (downs m c) (m ((c : Thread nD τ).loc main_arg6))

/-- The block written at a point is the reference's array there. -/
theorem out_at (c : Dev nD) (t : Fin cfg0.N) (r : Fin 384) (l : Fin 1024) (b : Fin 2) (i : Fin 16512)
    (hb : b.val = t.val / 43) (hi : i.val = t.val % 43 * 384 + r.val) :
    out9 (F := Ideal) (grid0.coords t) (iblk m c 0 t) (iblk m c 1 t) (iblk m c 2 t) (iblk m c 3 t) (iblk m c 4 t) (iblk m c 5 t) (iblk m c 6 t) (iblk m c 7 t) (iblk m c 8 t) (ix3 0 r l)
      = goal m c (ix3 b i l) := by
  rw [out9_ix (grid0.coords t) (t.val % 43) (by omega) (coords_facts t), goal, fin_ix]
  by_cases h : 112 ≤ i.val
  · rw [if_pos (by omega), dif_pos h]
    have ha : ∀ y, accEnd (F := Ideal) (grid0.coords t) (iblk m c 0 t) (iblk m c 1 t) (iblk m c 2 t) (iblk m c 3 t) (iblk m c 4 t) (iblk m c 5 t) (iblk m c 6 t) (iblk m c 7 t) (iblk m c 8 t) (ix2 r y)
        = downs m c (ix3 b ⟨i.val - 112, by omega⟩ y) := fun y => acc_at m c t r b ⟨i.val - 112, by omega⟩ y hb (by simp only; omega)
    simp only [ha]
    rw [iblk0 m c t r l (ix3 b i l) hb hi rfl, V_v1, dif_neg (by omega), iblk8 m c t l (ix2 0 l) rfl (by show l.val = _; omega), V_v13]
  · rw [if_neg (by omega), dif_neg h]

/-- The array the call writes, when every point has been run, is the reference's array of the arguments. -/
theorem final (c : Dev nD) : (dats m 0 c).arrAt 9 cfg0.N = goal m c := by
  refine (dats m 0 c).arrAt_eq_of_covers 9 _ ((cfg0.win 9).covers_of_indexMap_surj rfl (by decide) fun β => ?_) fun t hf y => ?_
  · have b0 : (β ⟨0, by decide⟩).val < 2 := lt_of_lt_of_eq (β ⟨0, by decide⟩).isLt (by decide : (cfg0.win 9).nblk ⟨0, by decide⟩ = 2)
    have b1 : (β ⟨1, by decide⟩).val < 43 := lt_of_lt_of_eq (β ⟨1, by decide⟩).isLt (by decide : (cfg0.win 9).nblk ⟨1, by decide⟩ = 43)
    have b2 : (β ⟨2, by decide⟩).val < 1 := lt_of_lt_of_eq (β ⟨2, by decide⟩).isLt (by decide : (cfg0.win 9).nblk ⟨2, by decide⟩ = 1)
    have hn : (β ⟨0, by decide⟩).val * 43 + (β ⟨1, by decide⟩).val < cfg0.N := by rw [N_eq]; omega
    obtain ⟨f0, f1, f2⟩ := (index_facts ⟨_, hn⟩).2.2.2.2.2.2.2.2.2
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after_9]
    have ht : t.val < 86 := N_eq ▸ t.isLt
    obtain ⟨f0, f1, f2⟩ := (index_facts t).2.2.2.2.2.2.2.2.2
    idx_vars y
    obtain rfl : y0 = 0 := Subsingleton.elim _ _
    have e : ((View.whole main_v14).slice (win0_9.rect t)).emb (ix3 0 y1 y2)
        = ix3 (⟨t.val / 43, by omega⟩ : Fin 2) (⟨t.val % 43 * 384 + y1.val, by omega⟩ : Fin 16512) y2 := by
      refine funext fun a => Fin.ext ?_
      refine (Pipeline.Window.rect_emb_val (cfg0.win 9) t (ix3 0 y1 y2) a).trans ?_
      match a with
      | ⟨0, _⟩ => show (cfg0.win 9).index t 0 * 1 + 0 = t.val / 43; rw [show (cfg0.win 9).index t 0 = _ from f0]; omega
      | ⟨1, _⟩ => show (cfg0.win 9).index t 1 * 384 + y1.val = t.val % 43 * 384 + y1.val; rw [show (cfg0.win 9).index t 1 = _ from f1]
      | ⟨2, _⟩ => show (cfg0.win 9).index t 2 * 1024 + y2.val = y2.val; rw [show (cfg0.win 9).index t 2 = _ from f2]; omega
    rw [e]
    exact out_at m c t y1 y2 _ _ rfl rfl

end Cert.FfnSampleKernelIdeal.Value2
end
-- ==== Proof.FfnSampleClaim.lean ====
module

public import proofs.«01_k».proof.Proof.FfnSampleValue
public import proofs.«01_k».proof.Proof.FfnSampleBitsFrame
public import proofs.«01_k».proof.Defs

@[expose] public section

set_option maxRecDepth 16384

noncomputable section

namespace Cert.Proof.FfnSampleClaims

open Idealize.ShloMosaic Idealize.ShloMosaic.TcCoe Idealize.SL.Sem

/-- The kernel's frame over bit values. -/
theorem frame_bits [Cert.FfnSampleKernel.Facts] : Cert.quiescent_FfnSampleKernel := fun m ρ _ => Cert.FfnSampleKernel.Body.frame_all m ρ

/-- The kernel's frame over the extended reals. -/
theorem frame_ideal [Cert.FfnSampleKernelIdeal.Facts] : Cert.quiescent_FfnSampleKernelIdeal := fun m ρ _ => Cert.FfnSampleKernelIdeal.Body.frame_all m ρ

variable [Cert.FfnSampleKernelIdeal.Facts] [Cert.FfnSampleReferenceIdeal.Facts]

/-- The reference ends, and leaves its arguments and every semaphore as it should. -/
theorem frame_ref : Cert.quiescent_FfnSampleReferenceIdeal := fun m ρ _ =>
  (θ_run Cert.FfnSampleReferenceIdeal.defs _ _).mono (fun r h => ⟨fun c => (h c).2,
      Idealize.ShloMosaic.sem_eq_zero_of_no_sems (by decide) r.2⟩)
    (Cert.FfnSampleReferenceIdeal.Value.run (F := Ideal) m ρ)

/-- Over the extended reals the feed-forward kernel and the plain feed-forward half end with equal arrays. -/
theorem algebraic : Cert.algebraic_FfnSampleKernelIdeal_FfnSampleReferenceIdeal := by
  intro m ρ m' ρ' _ hagree
  refine ⟨fun c => Cert.FfnSampleKernelIdeal.Value2.goal m c, ?_, ?_⟩
  · refine (θ_run Cert.FfnSampleKernelIdeal.defs _ _).mono (fun r h c => ?_)
      (θ_run_and (Cert.FfnSampleKernelIdeal.Body.unchanged m ρ) (Cert.FfnSampleKernelIdeal.Body.run_main m ρ))
    exact ⟨((h.2 c).1 9).trans (Cert.FfnSampleKernelIdeal.Value2.final m c), h.1 c⟩
  · refine (θ_run Cert.FfnSampleReferenceIdeal.defs _ _).mono (fun _ h c => ?_) (Cert.FfnSampleReferenceIdeal.Value.run (F := Ideal) m' ρ')
    refine ⟨(h c).1.trans ?_, (h c).2⟩
    rw [Cert.FfnSampleReferenceIdeal.Row.res_eq]
    obtain ⟨a0, a1, a2, a3, a4, a5, a6⟩ := hagree c
    rw [a0, a1, a2, a3, a4, a5, a6]

end Cert.Proof.FfnSampleClaims

end
-- ==== Proof.NaIdealRun.lean ====
module

public import proofs.«01_k».proof.Proof.Gen.NaKernelIdeal.Frame.RunA

@[expose] public section

set_option maxRecDepth 16384

noncomputable section

namespace Cert.NaKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 8000000 in
/-- The pieces the kernel writes at a point of the second case, with the proof that its body writes them. -/
noncomputable def kernelRun0_B (c : Dev nD) (i : grid0.Coords) (arg2 : Memref sig .tc .vmem S1x128x512 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S8x14x64x128 .f32) (harg5 : arg5.IsWhole) (arg6 : Memref sig .tc .vmem S8x16 .f32) (harg6 : arg6.IsWhole) (arg7 : Memref sig .tc .vmem S1x128x512 .bf16) (harg7 : arg7.IsWhole) (hc0 : ¬cond0_0 i) (hc1 : cond0_1 i)
    (x0 : Vec F S1x128x512 .bf16) (x1 : Vec F S1x4224x512 .bf16) (x2 : Vec F S1x4224x512 .bf16) (x3 : Vec F S8x14x64x128 .f32) (x4 : Vec F S8x16 .f32) :
    { L5 : List (View.Piece (Elt F) S1x128x512 .bf16) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5)) -∗ K ⟨⟩))
          ⊢ wp frame (wpE (defs₀ (F := F)) Variants.none c none) E (cc0_na_attn i arg2 harg2 arg3 harg3 arg4 harg4 arg5 harg5 arg6 harg6 arg7 harg7) K } := by
  refine ⟨?_, fun E K => ?run⟩
  case run =>
    simp only [cc0_na_attn_eq_skeleton]; unfold cc0_na_attn_skel
    rw [k0_part64_eq_skeleton]; unfold k0_part64_skel
    rw [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

end Cert.NaKernelIdeal.Gen

end
-- ==== Proof.NaIdealFrame.lean ====
module

public import proofs.«01_k».proof.Proof.NaIdealRun
public import Idealize.ShloMosaic.Lib.Claim

@[expose] public section

set_option maxRecDepth 16384

noncomputable section

namespace Cert.NaKernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
theorem cover0_A_5 (c : Dev nD) (i : grid0.Coords) (arg2 : Memref sig .tc .vmem S1x128x512 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S8x14x64x128 .f32) (harg5 : arg5.IsWhole) (arg6 : Memref sig .tc .vmem S8x16 .f32) (harg6 : arg6.IsWhole) (arg7 : Memref sig .tc .vmem S1x128x512 .bf16) (harg7 : arg7.IsWhole) (hc0 : cond0_0 i) (hc1 : ¬cond0_1 i)
    (x0 : Vec F S1x128x512 .bf16) (x1 : Vec F S1x4224x512 .bf16) (x2 : Vec F S1x4224x512 .bf16) (x3 : Vec F S8x14x64x128 .f32) (x4 : Vec F S8x16 .f32) (y : S1x128x512.Idx) :
    ∃ pc ∈ (kernelRun0_A c i arg2 harg2 arg3 harg3 arg4 harg4 arg5 harg5 arg6 harg6 arg7 harg7 hc0 hc1 x0 x1 x2 x3 x4).1, y ∈ pc.1.set :=
  View.cover_of_tiledBy (kernelRun0_A c i arg2 harg2 arg3 harg3 arg4 harg4 arg5 harg5 arg6 harg6 arg7 harg7 hc0 hc1 x0 x1 x2 x3 x4).1 ![1, 16, 512] (by sl_kernel_rfl) y

def out0_A_5 (c : Dev nD) (i : grid0.Coords) (arg2 : Memref sig .tc .vmem S1x128x512 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S8x14x64x128 .f32) (harg5 : arg5.IsWhole) (arg6 : Memref sig .tc .vmem S8x16 .f32) (harg6 : arg6.IsWhole) (arg7 : Memref sig .tc .vmem S1x128x512 .bf16) (harg7 : arg7.IsWhole) (hc0 : cond0_0 i) (hc1 : ¬cond0_1 i)
    (x0 : Vec F S1x128x512 .bf16) (x1 : Vec F S1x4224x512 .bf16) (x2 : Vec F S1x4224x512 .bf16) (x3 : Vec F S8x14x64x128 .f32) (x4 : Vec F S8x16 .f32) : Vec F S1x128x512 .bf16 :=
  VO0_5.read (Elt F) (VO0_5.writes (Elt F) VO0_5.junk (kernelRun0_A c i arg2 harg2 arg3 harg3 arg4 harg4 arg5 harg5 arg6 harg6 arg7 harg7 hc0 hc1 x0 x1 x2 x3 x4).1)

theorem cover0_B_5 (c : Dev nD) (i : grid0.Coords) (arg2 : Memref sig .tc .vmem S1x128x512 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S8x14x64x128 .f32) (harg5 : arg5.IsWhole) (arg6 : Memref sig .tc .vmem S8x16 .f32) (harg6 : arg6.IsWhole) (arg7 : Memref sig .tc .vmem S1x128x512 .bf16) (harg7 : arg7.IsWhole) (hc0 : ¬cond0_0 i) (hc1 : cond0_1 i)
    (x0 : Vec F S1x128x512 .bf16) (x1 : Vec F S1x4224x512 .bf16) (x2 : Vec F S1x4224x512 .bf16) (x3 : Vec F S8x14x64x128 .f32) (x4 : Vec F S8x16 .f32) (y : S1x128x512.Idx) :
    ∃ pc ∈ (kernelRun0_B c i arg2 harg2 arg3 harg3 arg4 harg4 arg5 harg5 arg6 harg6 arg7 harg7 hc0 hc1 x0 x1 x2 x3 x4).1, y ∈ pc.1.set :=
  View.cover_of_tiledL (kernelRun0_B c i arg2 harg2 arg3 harg3 arg4 harg4 arg5 harg5 arg6 harg6 arg7 harg7 hc0 hc1 x0 x1 x2 x3 x4).1 S1x64x512.size (by sl_kernel_rfl) y

def out0_B_5 (c : Dev nD) (i : grid0.Coords) (arg2 : Memref sig .tc .vmem S1x128x512 .bf16) (harg2 : arg2.IsWhole) (arg3 : Memref sig .tc .vmem S1x4224x512 .bf16) (harg3 : arg3.IsWhole) (arg4 : Memref sig .tc .vmem S1x4224x512 .bf16) (harg4 : arg4.IsWhole) (arg5 : Memref sig .tc .vmem S8x14x64x128 .f32) (harg5 : arg5.IsWhole) (arg6 : Memref sig .tc .vmem S8x16 .f32) (harg6 : arg6.IsWhole) (arg7 : Memref sig .tc .vmem S1x128x512 .bf16) (harg7 : arg7.IsWhole) (hc0 : ¬cond0_0 i) (hc1 : cond0_1 i)
    (x0 : Vec F S1x128x512 .bf16) (x1 : Vec F S1x4224x512 .bf16) (x2 : Vec F S1x4224x512 .bf16) (x3 : Vec F S8x14x64x128 .f32) (x4 : Vec F S8x16 .f32) : Vec F S1x128x512 .bf16 :=
  VO0_5.read (Elt F) (VO0_5.writes (Elt F) VO0_5.junk (kernelRun0_B c i arg2 harg2 arg3 harg3 arg4 harg4 arg5 harg5 arg6 harg6 arg7 harg7 hc0 hc1 x0 x1 x2 x3 x4).1)

def outsAt0 (c : Dev nD) : (n : ℕ) → n < cfg0.N → Vec F S1x128x512 .bf16
  | 0, hn => out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩)
  | n + 1, hn =>
    if h0 : (n + 1) % 33 = 0 then
      if h1 : 1 ≤ (n + 1) % 33 then
        False.elim (by have hN : n + 1 < 264 := lt_of_lt_of_eq hn (show cfg0.N = 264 from N_0); omega)
      else
        out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩)
    else
      if h1 : 1 ≤ (n + 1) % 33 then
        out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩)
      else
        False.elim (by have hN : n + 1 < 264 := lt_of_lt_of_eq hn (show cfg0.N = 264 from N_0); omega)

theorem outsAt0_A (c : Dev nD) (t : Fin cfg0.N) (h0 : t.val % 33 = 0) (h1 : ¬1 ≤ t.val % 33) :
    outsAt0 m c t.val t.isLt = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t) (iblk m c 4 t) := by
  obtain ⟨n, hn⟩ := t
  cases n with
  | zero => exact rfl
  | succ n => exact (dif_pos h0).trans ((dif_neg h1).trans rfl)

theorem outsAt0_B (c : Dev nD) (t : Fin cfg0.N) (h0 : ¬t.val % 33 = 0) (h1 : 1 ≤ t.val % 33) :
    outsAt0 m c t.val t.isLt = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (iblk m c 4 t) := by
  obtain ⟨n, hn⟩ := t
  cases n with
  | zero => exact (by exfalso; (try dsimp only at h0); exact absurd (Nat.zero_mod _) h0)
  | succ n => exact (dif_neg h0).trans ((dif_pos h1).trans rfl)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 264 := lt_of_lt_of_eq t.isLt (show cfg0.N = 264 from N_0)
  by_cases h0 : t.val % 33 = 0
  · by_cases h1 : 1 ≤ t.val % 33
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h))], after0_5]
      rw [outsAt0_A m c t h0 h1]
      unfold out0_A_5
      iintro ⟨HΦ, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_A_5 c _ _ _ _ _ _ _ _ _ _ _ _ _ _ _ _ _ _ _ _)
  · by_cases h1 : 1 ≤ t.val % 33
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
      rw [outsAt0_B m c t h0 h1]
      unfold out0_B_5
      iintro ⟨HΦ, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ (fun h => h0 ((hcond0_0 t).mp h)) ((hcond0_1 t).mpr h1) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_B_5 c _ _ _ _ _ _ _ _ _ _ _ _ _ _ _ _ _ _ _ _)
    · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.NaKernelIdeal.Gen

end
-- ==== Proof.NaIdealValue.lean ====
module

public import proofs.«01_k».proof.Proof.NaIdealFrame
public import Idealize.ShloMosaic.Lib.Pipeline.Value

@[expose] public section

noncomputable section

namespace Cert.NaKernelIdeal.Value

open Cert.NaKernelIdeal Cert.NaKernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem flushed5 (c : Dev nD) (t : Fin cfg0.N) :
    (dats m 0 c).flushed 5 t = (cfg0.win 5).cut (grid0.coords t) (outsAt0 m c t.val t.isLt) := by
  show (cfg0.win 5).cut (grid0.coords t) ((dats m 0 c).after 5 t) = _
  rw [after0_5]

theorem flushed5_A (c : Dev nD) (t : Fin cfg0.N) (h0 : t.val % 33 = 0) (h1 : ¬1 ≤ t.val % 33) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (fun h => h1 ((hcond0_1 t).mp h)) (iblk m c 0 t) (iblk m c 1 t) (iblk m c 2 t) (iblk m c 3 t) (iblk m c 4 t)) := by
  simp only [flushed5, outsAt0_A m c t h0 h1]

theorem flushed5_B (c : Dev nD) (t : Fin cfg0.N) (h0 : ¬t.val % 33 = 0) (h1 : 1 ≤ t.val % 33) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) ((hcond0_1 t).mpr h1) (iblk m c 0 t) (iblk m c 1 t) (iblk m c 2 t) (iblk m c 3 t) (iblk m c 4 t)) := by
  simp only [flushed5, outsAt0_B m c t h0 h1]

theorem entry5 (c : Dev nD) (i : S8x4224x512.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

theorem post5 (r : PUnit × MemSt nD τ sig (Elt F)) (h : Pipeline.FramePost cfgs (dats m) 0 (V m) r) (c : Dev nD) :
    r.2.mem ((c : Thread nD τ).loc main_v10) = (dats m 0 c).arrAt 5 cfg0.N :=
  (h c).1 5

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

theorem run_blocks : θ_run defs (onTc (τ := τ) (main (F := F))) ⟨m, fun _ => 0, ρ⟩ fun r => ∀ c : Dev nD,
      r.2.mem ((c : Thread nD τ).loc main_v10) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.NaKernelIdeal.Value

end
-- ==== Proof.NaMath.lean ====
module

public import proofs.«01_k».proof.Proof.WinMath

@[expose] public section

noncomputable section

open Idealize.ShloMosaic

namespace Cert.NaMath

/-- The softmax over 512 window keys with scores `s` and 16 meta keys with scores `sm`, applied to their values. -/
def soft (s : Fin 512 → EReal) (sm : Fin 16 → EReal) (v : Fin 512 → EReal) (vm : Fin 16 → EReal) : EReal :=
  (∑ k, v k * Ideal.div (Ideal.exp (s k - max (Finset.univ.sup s) (Finset.univ.sup sm)))
      ((∑ k, Ideal.exp (s k - max (Finset.univ.sup s) (Finset.univ.sup sm)))
        + ∑ k, Ideal.exp (sm k - max (Finset.univ.sup s) (Finset.univ.sup sm))))
    + ∑ k, vm k * Ideal.div (Ideal.exp (sm k - max (Finset.univ.sup s) (Finset.univ.sup sm)))
      ((∑ k, Ideal.exp (s k - max (Finset.univ.sup s) (Finset.univ.sup sm)))
        + ∑ k, Ideal.exp (sm k - max (Finset.univ.sup s) (Finset.univ.sup sm)))

theorem add_ne_top {a b : EReal} (ha : a ≠ ⊤) (hb : b ≠ ⊤) : a + b ≠ ⊤ := (EReal.add_lt_top ha hb).ne

/-- A sum of products of real numbers plus a real number is real. -/
theorem dot_add_real {ι : Type} [Fintype ι] (a b : ι → EReal) (c : EReal) (ha : ∀ k, ∃ y : ℝ, a k = y)
    (hb : ∀ k, ∃ y : ℝ, b k = y) (hc : ∃ y : ℝ, c = y) : ∃ y : ℝ, (∑ k, a k * b k) + c = y := by
  choose f hf using ha
  choose g hg using hb
  obtain ⟨z, hz⟩ := hc
  simp only [hf, hg, hz, ← EReal.coe_mul]
  rw [WinMath.sum_coe, ← EReal.coe_add]
  exact ⟨_, rfl⟩

/-- A supremum over two ranges side by side. -/
theorem sup_add {m n : ℕ} (f : Fin (m + n) → EReal) :
    Finset.univ.sup f = max (Finset.univ.sup fun k => f (Fin.castAdd n k)) (Finset.univ.sup fun k => f (Fin.natAdd m k)) := by
  apply le_antisymm
  · refine Finset.sup_le fun k _ => ?_
    refine Fin.addCases (fun i => ?_) (fun i => ?_) k
    · exact le_max_of_le_left (Finset.le_sup (f := fun k => f (Fin.castAdd n k)) (Finset.mem_univ i))
    · exact le_max_of_le_right (Finset.le_sup (f := fun k => f (Fin.natAdd m k)) (Finset.mem_univ i))
  · exact max_le (Finset.sup_le fun i _ => Finset.le_sup (Finset.mem_univ _)) (Finset.sup_le fun i _ => Finset.le_sup (Finset.mem_univ _))

/-- A sum over 512 in four parts of 128. -/
theorem sum_four (f : Fin 512 → EReal) : ∑ k, f k = (((∑ x : Fin 128, f ⟨0 + x.val, by omega⟩) + ∑ x : Fin 128, f ⟨128 + x.val, by omega⟩)
    + ∑ x : Fin 128, f ⟨256 + x.val, by omega⟩) + ∑ x : Fin 128, f ⟨384 + x.val, by omega⟩ := by
  have e : ∀ x : Fin 128, f ⟨0 + x.val, by omega⟩ = f ⟨x.val, by omega⟩ := fun x => congrArg f (Fin.ext (Nat.zero_add _))
  simp only [e]
  refine (Fin.sum_univ_add (a := 384) (b := 128) f).trans ?_
  refine congrArg₂ (· + ·) ?_ rfl
  refine (Fin.sum_univ_add (a := 256) (b := 128) _).trans ?_
  refine congrArg₂ (· + ·) ?_ rfl
  exact Fin.sum_univ_add (a := 128) (b := 128) _

/-- A supremum over 512 in four parts of 128. -/
theorem sup_four (f : Fin 512 → EReal) : Finset.univ.sup f = max (max (max (Finset.univ.sup fun x : Fin 128 => f ⟨0 + x.val, by omega⟩)
    (Finset.univ.sup fun x : Fin 128 => f ⟨128 + x.val, by omega⟩)) (Finset.univ.sup fun x : Fin 128 => f ⟨256 + x.val, by omega⟩))
    (Finset.univ.sup fun x : Fin 128 => f ⟨384 + x.val, by omega⟩) := by
  have e : ∀ x : Fin 128, f ⟨0 + x.val, by omega⟩ = f ⟨x.val, by omega⟩ := fun x => congrArg f (Fin.ext (Nat.zero_add _))
  simp only [e]
  refine (sup_add (m := 384) (n := 128) f).trans ?_
  refine congrArg₂ max ?_ rfl
  refine (sup_add (m := 256) (n := 128) _).trans ?_
  refine congrArg₂ max ?_ rfl
  exact sup_add (m := 128) (n := 128) _

/-- Weighted values over the weights' sum is the softmax, when no window score is plus infinity and the meta scores are real. -/
theorem soft_eq (s v : Fin 512 → EReal) (sm vm : Fin 16 → EReal) (hs : ∀ k, s k ≠ ⊤) (hm : ∀ k, ∃ y : ℝ, sm k = y) (mx : EReal)
    (hmx : mx = max (Finset.univ.sup s) (Finset.univ.sup sm)) :
    Ideal.div ((∑ k, Ideal.exp (s k - mx) * v k) + ∑ k, Ideal.exp (sm k - mx) * vm k)
      ((∑ k, Ideal.exp (s k - mx)) + ∑ k, Ideal.exp (sm k - mx)) = soft s sm v vm := by
  unfold soft
  rw [← hmx]
  have hmt : ∀ k, sm k ≠ ⊤ := fun k => by obtain ⟨y, hy⟩ := hm k; rw [hy]; exact EReal.coe_ne_top y
  obtain ⟨μ, hμ⟩ : ∃ μ : ℝ, mx = μ := by
    refine WinMath.exists_real ?_ ?_
    · obtain ⟨y, hy⟩ := hm 0
      refine ne_bot_of_le_ne_bot (EReal.coe_ne_bot y) (hmx ▸ le_max_of_le_right ?_)
      rw [← hy]; exact Finset.le_sup (Finset.mem_univ 0)
    · rw [hmx]
      exact (max_lt ((Finset.sup_lt_iff bot_lt_top).2 fun k _ => lt_top_iff_ne_top.2 (hs k))
        ((Finset.sup_lt_iff bot_lt_top).2 fun k _ => lt_top_iff_ne_top.2 (hmt k))).ne
  rw [hμ]
  choose g hg0 hg using fun k => WinMath.exp_sub_real (s k) (hs k) μ
  choose t ht using hm
  have hg' : ∀ k, Ideal.exp (sm k - μ) = (Real.exp (t k - μ) : ℝ) := fun k => by rw [ht, ← EReal.coe_sub, Ideal.exp_coe]
  simp only [hg, hg']
  rw [WinMath.sum_coe, WinMath.sum_coe, ← EReal.coe_add]
  have hD : 0 < ∑ k, g k + ∑ k, Real.exp (t k - μ) :=
    add_pos_of_nonneg_of_pos (Finset.sum_nonneg fun k _ => hg0 k) (Finset.sum_pos (fun k _ => Real.exp_pos _) ⟨0, Finset.mem_univ _⟩)
  generalize ∑ k, g k + ∑ k, Real.exp (t k - μ) = D at hD
  have hne : ((D : ℝ) : EReal) ≠ 0 := by simpa using hD.ne'
  simp only [Ideal.div, if_neg hne]
  have c0 : 0 ≤ ((D : ℝ) : EReal)⁻¹ := EReal.inv_nonneg_of_nonneg (EReal.coe_nonneg.2 hD.le)
  have ct : ((D : ℝ) : EReal)⁻¹ ≠ ⊤ := by rw [← EReal.coe_inv]; exact EReal.coe_ne_top _
  rw [mul_comm, EReal.left_distrib_of_nonneg_of_ne_top c0 ct, mul_comm, WinMath.sum_mul_const _ _ _ c0 ct, mul_comm, WinMath.sum_mul_const _ _ _ c0 ct]
  exact congrArg₂ (· + ·) (Finset.sum_congr rfl fun k _ => by rw [mul_comm (↑(g k) : EReal) (v k), mul_assoc])
    (Finset.sum_congr rfl fun k _ => by rw [mul_comm (_ : EReal) (vm k), mul_assoc])

/-- The kernel's row, in four parts, is the softmax. -/
theorem row_eq (s v : Fin 512 → EReal) (sm vm : Fin 16 → EReal) (hs : ∀ k, s k ≠ ⊤) (hm : ∀ k, ∃ y : ℝ, sm k = y) :
    (fun mx : EReal => Ideal.div
      (((((∑ x : Fin 128, Ideal.exp (s ⟨0 + x.val, by omega⟩ - mx) * v ⟨0 + x.val, by omega⟩)
        + ∑ x : Fin 128, Ideal.exp (s ⟨128 + x.val, by omega⟩ - mx) * v ⟨128 + x.val, by omega⟩)
        + ∑ x : Fin 128, Ideal.exp (s ⟨256 + x.val, by omega⟩ - mx) * v ⟨256 + x.val, by omega⟩)
        + ∑ x : Fin 128, Ideal.exp (s ⟨384 + x.val, by omega⟩ - mx) * v ⟨384 + x.val, by omega⟩)
        + ∑ x, Ideal.exp (sm x - mx) * vm x)
      (((((∑ x : Fin 128, Ideal.exp (s ⟨0 + x.val, by omega⟩ - mx)) + ∑ x : Fin 128, Ideal.exp (s ⟨128 + x.val, by omega⟩ - mx))
        + ∑ x : Fin 128, Ideal.exp (s ⟨256 + x.val, by omega⟩ - mx)) + ∑ x : Fin 128, Ideal.exp (s ⟨384 + x.val, by omega⟩ - mx))
        + ∑ x, Ideal.exp (sm x - mx)))
      (max (max (max (max (Finset.univ.sup fun x : Fin 128 => s ⟨0 + x.val, by omega⟩) (Finset.univ.sup fun x : Fin 128 => s ⟨128 + x.val, by omega⟩))
        (Finset.univ.sup fun x : Fin 128 => s ⟨256 + x.val, by omega⟩)) (Finset.univ.sup fun x : Fin 128 => s ⟨384 + x.val, by omega⟩)) (Finset.univ.sup sm))
      = soft s sm v vm := by
  rw [← sup_four s]
  show Ideal.div _ _ = _
  rw [← soft_eq s v sm vm hs hm _ rfl, sum_four (fun k => Ideal.exp (s k - _) * v k), sum_four (fun k => Ideal.exp (s k - _))]

end Cert.NaMath
end
-- ==== Proof.NaHead.lean ====
module

public import proofs.«01_k».proof.Proof.Gen.NaKernelIdeal.Skeleton
public import proofs.«01_k».proof.Proof.NaMath
public import Idealize.ShloMosaic.Lib.Pointwise
public import Idealize.ShloMosaic.Lib.Pipeline.ValueKit
public import Idealize.ShloMosaic.Lib.Tactic

@[expose] public section

set_option maxRecDepth 16384

noncomputable section

namespace Cert.NaKernelIdeal.Head

open Cert.NaKernelIdeal Cert.NaKernelIdeal.Gen Idealize.ShloMosaic Idealize.ShloMosaic.TcCoe Idealize.SL.Sem
open Facts

/-- 128 of a window's 512 value rows. -/
def vpart (o : ℕ) (h : S512x64.Slices ![o, 0] S128x64) (v : FVec Ideal S512x64 .bf16) : FVec Ideal S128x64 .bf16 :=
  extractStridedSlice S128x64 ![o, 0] v h

theorem vpart_ix (o : ℕ) (h) (v : FVec Ideal S512x64 .bf16) (x : Fin 128) (d : Fin 64) (y : Fin 512) (hy : y.val = o + x.val) :
    vpart o h v (ix2 x d) = v (ix2 y d) := by
  unfold vpart extractStridedSlice
  refine congrArg v (funext fun a => Fin.ext ?_)
  match a with
  | ⟨0, _⟩ => exact hy.symm
  | ⟨1, _⟩ => exact Nat.zero_add _

/-- The scores of 64 queries against the 512 keys of a window. -/
def dots64 (q : FVec Ideal S64x64 .bf16) (k : FVec Ideal S512x64 .bf16) : FVec Ideal S64x512 .f32 :=
  matmul dot_S64x64_S512x64_S64x512_1_1_0_0_n_n none q k (constant S64x512 .f32 0x00000000#32)

/-- 128 of the 512 scores, with their bias. -/
def piece64 (o : ℕ) (h : S64x512.Slices ![0, o] S64x128) (s : FVec Ideal S64x512 .f32) (b : FVec Ideal S64x128 .f32) :
    FVec Ideal S64x128 .f32 := addf (extractStridedSlice S64x128 ![0, o] s h) b

/-- The scores against the 16 meta keys, with their bias. -/
def meta64 (q : FVec Ideal S64x64 .bf16) (k : FVec Ideal S16x64 .bf16) (b : FVec Ideal S1x16 .f32) : FVec Ideal S64x16 .f32 :=
  addf (matmul dot_S64x64_S16x64_S64x16_1_1_0_0_n_n none q k (constant S64x16 .f32 0x00000000#32))
    (broadcastTo S64x16 b broadcasts_S1x16_S64x16)

/-- The largest score of each row. -/
def top64 (s : FVec Ideal S64x128 .f32) : FVec Ideal S64x1 .f32 :=
  shapeCast S64x1 (multiReduction .maximumf [1] S64 s 0xFF800000#32 reduces_S64x128_S64 (.inl rfl) rfl) shapeCasts_S64_S64x1

/-- The largest of all scores of each row. -/
def peak64 (s0 s1 s2 s3 : FVec Ideal S64x128 .f32) (sm : FVec Ideal S64x16 .f32) : FVec Ideal S64x1 .f32 :=
  maximumf (maximumf (maximumf (maximumf (top64 s0) (top64 s1)) (top64 s2)) (top64 s3))
    (shapeCast S64x1 (multiReduction .maximumf [1] S64 sm 0xFF800000#32 reduces_S64x16_S64 (.inl rfl) rfl) shapeCasts_S64_S64x1)

/-- The exponentials of scores less the row's maximum. -/
def weigh64 (s : FVec Ideal S64x128 .f32) (mx : FVec Ideal S64x1 .f32) : FVec Ideal S64x128 .f32 :=
  exp (subf s (broadcastTo S64x128 mx broadcasts_S64x1_S64x128))

/-- The same for the meta keys. -/
def weighM64 (s : FVec Ideal S64x16 .f32) (mx : FVec Ideal S64x1 .f32) : FVec Ideal S64x16 .f32 :=
  exp (subf s (broadcastTo S64x16 mx broadcasts_S64x1_S64x16))

/-- The sum of each row. -/
def total64 (p : FVec Ideal S64x128 .f32) : FVec Ideal S64x1 .f32 :=
  shapeCast S64x1 (multiReduction .add [1] S64 p 0x00000000#32 reduces_S64x128_S64 (.inl rfl) rfl) shapeCasts_S64_S64x1

/-- Weights times values. -/
def mix64 (p : FVec Ideal S64x128 .f32) (v : FVec Ideal S128x64 .bf16) : FVec Ideal S64x64 .f32 :=
  matmul dot_S64x128_S128x64_S64x64_1_0_0_1_n_n none (truncf .bf16 p bitsLt_bf16_f32) v (constant S64x64 .f32 0x00000000#32)

/-- Weighted values over the weights' sum. -/
def soft64 (s0 s1 s2 s3 : FVec Ideal S64x128 .f32) (sm : FVec Ideal S64x16 .f32) (v0 v1 v2 v3 : FVec Ideal S128x64 .bf16)
    (vm : FVec Ideal S16x64 .bf16) (mx : FVec Ideal S64x1 .f32) : FVec Ideal S64x64 .f32 :=
  divf (addf (addf (addf (addf (mix64 (weigh64 s0 mx) v0) (mix64 (weigh64 s1 mx) v1)) (mix64 (weigh64 s2 mx) v2)) (mix64 (weigh64 s3 mx) v3))
      (matmul dot_S64x16_S16x64_S64x64_1_0_0_1_n_n none (truncf .bf16 (weighM64 sm mx) bitsLt_bf16_f32) vm (constant S64x64 .f32 0x00000000#32)))
    (broadcastTo S64x64 (addf (addf (addf (addf (total64 (weigh64 s0 mx)) (total64 (weigh64 s1 mx))) (total64 (weigh64 s2 mx))) (total64 (weigh64 s3 mx)))
      (shapeCast S64x1 (multiReduction .add [1] S64 (weighM64 sm mx) 0x00000000#32 reduces_S64x16_S64 (.inl rfl) rfl) shapeCasts_S64_S64x1))
      broadcasts_S64x1_S64x64)

/-- One head's output for 64 queries. -/
def attend64 (q : FVec Ideal S64x64 .bf16) (kw vw : FVec Ideal S512x64 .bf16) (km vm : FVec Ideal S16x64 .bf16)
    (b0 b1 b2 b3 : FVec Ideal S64x128 .f32) (mb : FVec Ideal S1x16 .f32) : FVec Ideal S64x64 .f32 :=
  soft64 (piece64 0 slices_S64x512_o0_0_S64x128 (dots64 q kw) b0) (piece64 128 slices_S64x512_o0_128_S64x128 (dots64 q kw) b1)
    (piece64 256 slices_S64x512_o0_256_S64x128 (dots64 q kw) b2) (piece64 384 slices_S64x512_o0_384_S64x128 (dots64 q kw) b3)
    (meta64 q km mb) (vpart 0 slices_S512x64_o0_0_S128x64 vw) (vpart 128 slices_S512x64_o128_0_S128x64 vw)
    (vpart 256 slices_S512x64_o256_0_S128x64 vw) (vpart 384 slices_S512x64_o384_0_S128x64 vw) vm
    (peak64 (piece64 0 slices_S64x512_o0_0_S64x128 (dots64 q kw) b0) (piece64 128 slices_S64x512_o0_128_S64x128 (dots64 q kw) b1)
      (piece64 256 slices_S64x512_o0_256_S64x128 (dots64 q kw) b2) (piece64 384 slices_S64x512_o0_384_S64x128 (dots64 q kw) b3)
      (meta64 q km mb))

theorem dots64_ix (q : FVec Ideal S64x64 .bf16) (k : FVec Ideal S512x64 .bf16) (r : Fin 64) (s : Fin 512) :
    dots64 q k (ix2 r s) = ∑ d : Fin 64, q (ix2 r d) * k (ix2 s d) := by
  pointwise [dots64]

theorem piece64_ix (o : ℕ) (h) (s : FVec Ideal S64x512 .f32) (b : FVec Ideal S64x128 .f32) (r : Fin 64) (x : Fin 128)
    (y : Fin 512) (hy : y.val = o + x.val) : piece64 o h s b (ix2 r x) = s (ix2 r y) + b (ix2 r x) := by
  unfold piece64 extractStridedSlice
  refine congrArg (fun z : EReal => z + b (ix2 r x)) (congrArg s (funext fun a => Fin.ext ?_))
  match a with
  | ⟨0, _⟩ => exact Nat.zero_add _
  | ⟨1, _⟩ => exact hy.symm

theorem meta64_ix (q : FVec Ideal S64x64 .bf16) (k : FVec Ideal S16x64 .bf16) (b : FVec Ideal S1x16 .f32) (r : Fin 64) (s : Fin 16) :
    meta64 q k b (ix2 r s) = (∑ d : Fin 64, q (ix2 r d) * k (ix2 s d)) + b (ix2 0 s) := by
  pointwise [meta64]

theorem soft64_ix (s0 s1 s2 s3 : FVec Ideal S64x128 .f32) (sm : FVec Ideal S64x16 .f32) (v0 v1 v2 v3 : FVec Ideal S128x64 .bf16)
    (vm : FVec Ideal S16x64 .bf16) (mx : FVec Ideal S64x1 .f32) (r : Fin 64) (d : Fin 64) :
    soft64 s0 s1 s2 s3 sm v0 v1 v2 v3 vm mx (ix2 r d) = Ideal.div
      (∑ x, Ideal.exp (s0 (ix2 r x) - mx (ix2 r 0)) * v0 (ix2 x d) + ∑ x, Ideal.exp (s1 (ix2 r x) - mx (ix2 r 0)) * v1 (ix2 x d)
        + ∑ x, Ideal.exp (s2 (ix2 r x) - mx (ix2 r 0)) * v2 (ix2 x d) + ∑ x, Ideal.exp (s3 (ix2 r x) - mx (ix2 r 0)) * v3 (ix2 x d)
        + ∑ x, Ideal.exp (sm (ix2 r x) - mx (ix2 r 0)) * vm (ix2 x d))
      (∑ x, Ideal.exp (s0 (ix2 r x) - mx (ix2 r 0)) + ∑ x, Ideal.exp (s1 (ix2 r x) - mx (ix2 r 0))
        + ∑ x, Ideal.exp (s2 (ix2 r x) - mx (ix2 r 0)) + ∑ x, Ideal.exp (s3 (ix2 r x) - mx (ix2 r 0))
        + ∑ x, Ideal.exp (sm (ix2 r x) - mx (ix2 r 0))) := by
  pointwise [soft64, mix64, total64, weigh64, weighM64]

theorem peak64_ix (s0 s1 s2 s3 : FVec Ideal S64x128 .f32) (sm : FVec Ideal S64x16 .f32) (r : Fin 64) :
    peak64 s0 s1 s2 s3 sm (ix2 r 0) = max (max (max (max (Finset.univ.sup fun x => s0 (ix2 r x))
      (Finset.univ.sup fun x => s1 (ix2 r x))) (Finset.univ.sup fun x => s2 (ix2 r x)))
      (Finset.univ.sup fun x => s3 (ix2 r x))) (Finset.univ.sup fun x => sm (ix2 r x)) := by
  pointwise [peak64, top64]
  simp only [WinMath.ofBits_neg_inf, WinMath.fold_max]

/-- One head's output at row `r` and column `d`: the softmax over the window's 512 keys and the 16 meta keys. -/
theorem attend64_ix (q : FVec Ideal S64x64 .bf16) (kw vw : FVec Ideal S512x64 .bf16) (km vm : FVec Ideal S16x64 .bf16)
    (b0 b1 b2 b3 : FVec Ideal S64x128 .f32) (mb : FVec Ideal S1x16 .f32) (r : Fin 64) (d : Fin 64)
    (Q : Fin 64 → EReal) (K V : Fin 512 → Fin 64 → EReal) (Km Vm : Fin 16 → Fin 64 → EReal) (B : Fin 512 → EReal) (M : Fin 16 → EReal)
    (hq : ∀ e, q (ix2 r e) = Q e) (hk : ∀ x e, kw (ix2 x e) = K x e) (hv : ∀ x e, vw (ix2 x e) = V x e)
    (hkm : ∀ x e, km (ix2 x e) = Km x e) (hvm : ∀ x e, vm (ix2 x e) = Vm x e)
    (h0 : ∀ x : Fin 128, b0 (ix2 r x) = B ⟨0 + x.val, by omega⟩) (h1 : ∀ x : Fin 128, b1 (ix2 r x) = B ⟨128 + x.val, by omega⟩)
    (h2 : ∀ x : Fin 128, b2 (ix2 r x) = B ⟨256 + x.val, by omega⟩) (h3 : ∀ x : Fin 128, b3 (ix2 r x) = B ⟨384 + x.val, by omega⟩)
    (hM : ∀ x, mb (ix2 0 x) = M x)
    (hQ : ∀ e, ∃ y : ℝ, Q e = y) (hK : ∀ x e, ∃ y : ℝ, K x e = y) (hKm : ∀ x e, ∃ y : ℝ, Km x e = y)
    (hB : ∀ x, B x ≠ ⊤) (hMr : ∀ x, ∃ y : ℝ, M x = y) :
    attend64 q kw vw km vm b0 b1 b2 b3 mb (ix2 r d) = NaMath.soft (fun x => (∑ e, Q e * K x e) + B x)
      (fun x => (∑ e, Q e * Km x e) + M x) (fun x => V x d) (fun x => Vm x d) := by
  unfold attend64
  rw [soft64_ix, peak64_ix]
  simp only [fun x : Fin 128 => piece64_ix 0 slices_S64x512_o0_0_S64x128 (dots64 q kw) b0 r x ⟨0 + x.val, by omega⟩ rfl,
    fun x : Fin 128 => piece64_ix 128 slices_S64x512_o0_128_S64x128 (dots64 q kw) b1 r x ⟨128 + x.val, by omega⟩ rfl,
    fun x : Fin 128 => piece64_ix 256 slices_S64x512_o0_256_S64x128 (dots64 q kw) b2 r x ⟨256 + x.val, by omega⟩ rfl,
    fun x : Fin 128 => piece64_ix 384 slices_S64x512_o0_384_S64x128 (dots64 q kw) b3 r x ⟨384 + x.val, by omega⟩ rfl,
    fun x : Fin 128 => vpart_ix 0 slices_S512x64_o0_0_S128x64 vw x d ⟨0 + x.val, by omega⟩ rfl,
    fun x : Fin 128 => vpart_ix 128 slices_S512x64_o128_0_S128x64 vw x d ⟨128 + x.val, by omega⟩ rfl,
    fun x : Fin 128 => vpart_ix 256 slices_S512x64_o256_0_S128x64 vw x d ⟨256 + x.val, by omega⟩ rfl,
    fun x : Fin 128 => vpart_ix 384 slices_S512x64_o384_0_S128x64 vw x d ⟨384 + x.val, by omega⟩ rfl,
    dots64_ix, meta64_ix, hq, hk, hv, hkm, hvm, h0, h1, h2, h3, hM]
  exact NaMath.row_eq (fun x => (∑ e, Q e * K x e) + B x) (fun x => V x d) (fun x => (∑ e, Q e * Km x e) + M x) (fun x => Vm x d)
    (fun x => NaMath.add_ne_top (WinMath.dot_ne_top _ _ hQ (hK x)) (hB x)) (fun x => NaMath.dot_add_real _ _ _ hQ (hKm x) (hMr x))

/-- The scores of 16 queries against the 512 keys of a window. -/
def dots16 (q : FVec Ideal S16x64 .bf16) (k : FVec Ideal S512x64 .bf16) : FVec Ideal S16x512 .f32 :=
  matmul dot_S16x64_S512x64_S16x512_1_1_0_0_n_n none q k (constant S16x512 .f32 0x00000000#32)

/-- 128 of the 512 scores, with their bias. -/
def piece16 (o : ℕ) (h : S16x512.Slices ![0, o] S16x128) (s : FVec Ideal S16x512 .f32) (b : FVec Ideal S16x128 .f32) :
    FVec Ideal S16x128 .f32 := addf (extractStridedSlice S16x128 ![0, o] s h) b

/-- The scores against the 16 meta keys, with their bias. -/
def meta16 (q : FVec Ideal S16x64 .bf16) (k : FVec Ideal S16x64 .bf16) (b : FVec Ideal S1x16 .f32) : FVec Ideal S16x16 .f32 :=
  addf (matmul dot_S16x64_S16x64_S16x16_1_1_0_0_n_n none q k (constant S16x16 .f32 0x00000000#32))
    (broadcastTo S16x16 b broadcasts_S1x16_S16x16)

/-- The largest score of each row. -/
def top16 (s : FVec Ideal S16x128 .f32) : FVec Ideal S16x1 .f32 :=
  shapeCast S16x1 (multiReduction .maximumf [1] S16 s 0xFF800000#32 reduces_S16x128_S16 (.inl rfl) rfl) shapeCasts_S16_S16x1

/-- The largest of all scores of each row. -/
def peak16 (s0 s1 s2 s3 : FVec Ideal S16x128 .f32) (sm : FVec Ideal S16x16 .f32) : FVec Ideal S16x1 .f32 :=
  maximumf (maximumf (maximumf (maximumf (top16 s0) (top16 s1)) (top16 s2)) (top16 s3))
    (shapeCast S16x1 (multiReduction .maximumf [1] S16 sm 0xFF800000#32 reduces_S16x16_S16 (.inl rfl) rfl) shapeCasts_S16_S16x1)

/-- The exponentials of scores less the row's maximum. -/
def weigh16 (s : FVec Ideal S16x128 .f32) (mx : FVec Ideal S16x1 .f32) : FVec Ideal S16x128 .f32 :=
  exp (subf s (broadcastTo S16x128 mx broadcasts_S16x1_S16x128))

/-- The same for the meta keys. -/
def weighM16 (s : FVec Ideal S16x16 .f32) (mx : FVec Ideal S16x1 .f32) : FVec Ideal S16x16 .f32 :=
  exp (subf s (broadcastTo S16x16 mx broadcasts_S16x1_S16x16))

/-- The sum of each row. -/
def total16 (p : FVec Ideal S16x128 .f32) : FVec Ideal S16x1 .f32 :=
  shapeCast S16x1 (multiReduction .add [1] S16 p 0x00000000#32 reduces_S16x128_S16 (.inl rfl) rfl) shapeCasts_S16_S16x1

/-- Weights times values. -/
def mix16 (p : FVec Ideal S16x128 .f32) (v : FVec Ideal S128x64 .bf16) : FVec Ideal S16x64 .f32 :=
  matmul dot_S16x128_S128x64_S16x64_1_0_0_1_n_n none (truncf .bf16 p bitsLt_bf16_f32) v (constant S16x64 .f32 0x00000000#32)

/-- Weighted values over the weights' sum. -/
def soft16 (s0 s1 s2 s3 : FVec Ideal S16x128 .f32) (sm : FVec Ideal S16x16 .f32) (v0 v1 v2 v3 : FVec Ideal S128x64 .bf16)
    (vm : FVec Ideal S16x64 .bf16) (mx : FVec Ideal S16x1 .f32) : FVec Ideal S16x64 .f32 :=
  divf (addf (addf (addf (addf (mix16 (weigh16 s0 mx) v0) (mix16 (weigh16 s1 mx) v1)) (mix16 (weigh16 s2 mx) v2)) (mix16 (weigh16 s3 mx) v3))
      (matmul dot_S16x16_S16x64_S16x64_1_0_0_1_n_n none (truncf .bf16 (weighM16 sm mx) bitsLt_bf16_f32) vm (constant S16x64 .f32 0x00000000#32)))
    (broadcastTo S16x64 (addf (addf (addf (addf (total16 (weigh16 s0 mx)) (total16 (weigh16 s1 mx))) (total16 (weigh16 s2 mx))) (total16 (weigh16 s3 mx)))
      (shapeCast S16x1 (multiReduction .add [1] S16 (weighM16 sm mx) 0x00000000#32 reduces_S16x16_S16 (.inl rfl) rfl) shapeCasts_S16_S16x1))
      broadcasts_S16x1_S16x64)

/-- One head's output for 16 queries. -/
def attend16 (q : FVec Ideal S16x64 .bf16) (kw vw : FVec Ideal S512x64 .bf16) (km vm : FVec Ideal S16x64 .bf16)
    (b0 b1 b2 b3 : FVec Ideal S16x128 .f32) (mb : FVec Ideal S1x16 .f32) : FVec Ideal S16x64 .f32 :=
  soft16 (piece16 0 slices_S16x512_o0_0_S16x128 (dots16 q kw) b0) (piece16 128 slices_S16x512_o0_128_S16x128 (dots16 q kw) b1)
    (piece16 256 slices_S16x512_o0_256_S16x128 (dots16 q kw) b2) (piece16 384 slices_S16x512_o0_384_S16x128 (dots16 q kw) b3)
    (meta16 q km mb) (vpart 0 slices_S512x64_o0_0_S128x64 vw) (vpart 128 slices_S512x64_o128_0_S128x64 vw)
    (vpart 256 slices_S512x64_o256_0_S128x64 vw) (vpart 384 slices_S512x64_o384_0_S128x64 vw) vm
    (peak16 (piece16 0 slices_S16x512_o0_0_S16x128 (dots16 q kw) b0) (piece16 128 slices_S16x512_o0_128_S16x128 (dots16 q kw) b1)
      (piece16 256 slices_S16x512_o0_256_S16x128 (dots16 q kw) b2) (piece16 384 slices_S16x512_o0_384_S16x128 (dots16 q kw) b3)
      (meta16 q km mb))

theorem dots16_ix (q : FVec Ideal S16x64 .bf16) (k : FVec Ideal S512x64 .bf16) (r : Fin 16) (s : Fin 512) :
    dots16 q k (ix2 r s) = ∑ d : Fin 64, q (ix2 r d) * k (ix2 s d) := by
  pointwise [dots16]

theorem piece16_ix (o : ℕ) (h) (s : FVec Ideal S16x512 .f32) (b : FVec Ideal S16x128 .f32) (r : Fin 16) (x : Fin 128)
    (y : Fin 512) (hy : y.val = o + x.val) : piece16 o h s b (ix2 r x) = s (ix2 r y) + b (ix2 r x) := by
  unfold piece16 extractStridedSlice
  refine congrArg (fun z : EReal => z + b (ix2 r x)) (congrArg s (funext fun a => Fin.ext ?_))
  match a with
  | ⟨0, _⟩ => exact Nat.zero_add _
  | ⟨1, _⟩ => exact hy.symm

theorem meta16_ix (q : FVec Ideal S16x64 .bf16) (k : FVec Ideal S16x64 .bf16) (b : FVec Ideal S1x16 .f32) (r : Fin 16) (s : Fin 16) :
    meta16 q k b (ix2 r s) = (∑ d : Fin 64, q (ix2 r d) * k (ix2 s d)) + b (ix2 0 s) := by
  pointwise [meta16]

theorem soft16_ix (s0 s1 s2 s3 : FVec Ideal S16x128 .f32) (sm : FVec Ideal S16x16 .f32) (v0 v1 v2 v3 : FVec Ideal S128x64 .bf16)
    (vm : FVec Ideal S16x64 .bf16) (mx : FVec Ideal S16x1 .f32) (r : Fin 16) (d : Fin 64) :
    soft16 s0 s1 s2 s3 sm v0 v1 v2 v3 vm mx (ix2 r d) = Ideal.div
      (∑ x, Ideal.exp (s0 (ix2 r x) - mx (ix2 r 0)) * v0 (ix2 x d) + ∑ x, Ideal.exp (s1 (ix2 r x) - mx (ix2 r 0)) * v1 (ix2 x d)
        + ∑ x, Ideal.exp (s2 (ix2 r x) - mx (ix2 r 0)) * v2 (ix2 x d) + ∑ x, Ideal.exp (s3 (ix2 r x) - mx (ix2 r 0)) * v3 (ix2 x d)
        + ∑ x, Ideal.exp (sm (ix2 r x) - mx (ix2 r 0)) * vm (ix2 x d))
      (∑ x, Ideal.exp (s0 (ix2 r x) - mx (ix2 r 0)) + ∑ x, Ideal.exp (s1 (ix2 r x) - mx (ix2 r 0))
        + ∑ x, Ideal.exp (s2 (ix2 r x) - mx (ix2 r 0)) + ∑ x, Ideal.exp (s3 (ix2 r x) - mx (ix2 r 0))
        + ∑ x, Ideal.exp (sm (ix2 r x) - mx (ix2 r 0))) := by
  pointwise [soft16, mix16, total16, weigh16, weighM16]

theorem peak16_ix (s0 s1 s2 s3 : FVec Ideal S16x128 .f32) (sm : FVec Ideal S16x16 .f32) (r : Fin 16) :
    peak16 s0 s1 s2 s3 sm (ix2 r 0) = max (max (max (max (Finset.univ.sup fun x => s0 (ix2 r x))
      (Finset.univ.sup fun x => s1 (ix2 r x))) (Finset.univ.sup fun x => s2 (ix2 r x)))
      (Finset.univ.sup fun x => s3 (ix2 r x))) (Finset.univ.sup fun x => sm (ix2 r x)) := by
  pointwise [peak16, top16]
  simp only [WinMath.ofBits_neg_inf, WinMath.fold_max]

/-- One head's output at row `r` and column `d`: the softmax over the window's 512 keys and the 16 meta keys. -/
theorem attend16_ix (q : FVec Ideal S16x64 .bf16) (kw vw : FVec Ideal S512x64 .bf16) (km vm : FVec Ideal S16x64 .bf16)
    (b0 b1 b2 b3 : FVec Ideal S16x128 .f32) (mb : FVec Ideal S1x16 .f32) (r : Fin 16) (d : Fin 64)
    (Q : Fin 64 → EReal) (K V : Fin 512 → Fin 64 → EReal) (Km Vm : Fin 16 → Fin 64 → EReal) (B : Fin 512 → EReal) (M : Fin 16 → EReal)
    (hq : ∀ e, q (ix2 r e) = Q e) (hk : ∀ x e, kw (ix2 x e) = K x e) (hv : ∀ x e, vw (ix2 x e) = V x e)
    (hkm : ∀ x e, km (ix2 x e) = Km x e) (hvm : ∀ x e, vm (ix2 x e) = Vm x e)
    (h0 : ∀ x : Fin 128, b0 (ix2 r x) = B ⟨0 + x.val, by omega⟩) (h1 : ∀ x : Fin 128, b1 (ix2 r x) = B ⟨128 + x.val, by omega⟩)
    (h2 : ∀ x : Fin 128, b2 (ix2 r x) = B ⟨256 + x.val, by omega⟩) (h3 : ∀ x : Fin 128, b3 (ix2 r x) = B ⟨384 + x.val, by omega⟩)
    (hM : ∀ x, mb (ix2 0 x) = M x)
    (hQ : ∀ e, ∃ y : ℝ, Q e = y) (hK : ∀ x e, ∃ y : ℝ, K x e = y) (hKm : ∀ x e, ∃ y : ℝ, Km x e = y)
    (hB : ∀ x, B x ≠ ⊤) (hMr : ∀ x, ∃ y : ℝ, M x = y) :
    attend16 q kw vw km vm b0 b1 b2 b3 mb (ix2 r d) = NaMath.soft (fun x => (∑ e, Q e * K x e) + B x)
      (fun x => (∑ e, Q e * Km x e) + M x) (fun x => V x d) (fun x => Vm x d) := by
  unfold attend16
  rw [soft16_ix, peak16_ix]
  simp only [fun x : Fin 128 => piece16_ix 0 slices_S16x512_o0_0_S16x128 (dots16 q kw) b0 r x ⟨0 + x.val, by omega⟩ rfl,
    fun x : Fin 128 => piece16_ix 128 slices_S16x512_o0_128_S16x128 (dots16 q kw) b1 r x ⟨128 + x.val, by omega⟩ rfl,
    fun x : Fin 128 => piece16_ix 256 slices_S16x512_o0_256_S16x128 (dots16 q kw) b2 r x ⟨256 + x.val, by omega⟩ rfl,
    fun x : Fin 128 => piece16_ix 384 slices_S16x512_o0_384_S16x128 (dots16 q kw) b3 r x ⟨384 + x.val, by omega⟩ rfl,
    fun x : Fin 128 => vpart_ix 0 slices_S512x64_o0_0_S128x64 vw x d ⟨0 + x.val, by omega⟩ rfl,
    fun x : Fin 128 => vpart_ix 128 slices_S512x64_o128_0_S128x64 vw x d ⟨128 + x.val, by omega⟩ rfl,
    fun x : Fin 128 => vpart_ix 256 slices_S512x64_o256_0_S128x64 vw x d ⟨256 + x.val, by omega⟩ rfl,
    fun x : Fin 128 => vpart_ix 384 slices_S512x64_o384_0_S128x64 vw x d ⟨384 + x.val, by omega⟩ rfl,
    dots16_ix, meta16_ix, hq, hk, hv, hkm, hvm, h0, h1, h2, h3, hM]
  exact NaMath.row_eq (fun x => (∑ e, Q e * K x e) + B x) (fun x => V x d) (fun x => (∑ e, Q e * Km x e) + M x) (fun x => Vm x d)
    (fun x => NaMath.add_ne_top (WinMath.dot_ne_top _ _ hQ (hK x)) (hB x)) (fun x => NaMath.dot_add_real _ _ _ hQ (hKm x) (hMr x))

end Cert.NaKernelIdeal.Head
end
-- ==== Proof.NaBlock.lean ====
module

public import proofs.«01_k».proof.Proof.NaIdealValue
public import proofs.«01_k».proof.Proof.NaHead
public import Idealize.ShloMosaic.Lib.Pointwise
public import Idealize.ShloMosaic.Lib.Pipeline.ValueKit
public import Idealize.ShloMosaic.Lib.Tactic

@[expose] public section

set_option maxRecDepth 16384

noncomputable section

namespace Cert.NaKernelIdeal.Block

open Cert.NaKernelIdeal Cert.NaKernelIdeal.Gen Cert.NaKernelIdeal.Head Idealize.ShloMosaic Idealize.ShloMosaic.TcCoe Idealize.SL.Sem
open Idealize.ShloMosaic.Pipeline (Dat)
open Facts

variable (m : (ℓ : Loc nD τ sig) → Buf (Elt Ideal) ℓ)

/-- 64 rows and 64 columns of a block of queries. -/
def qs64 (X : Vec Ideal S1x128x512 .bf16) (a o : ℕ) (h : ∀ e, (![0, a, o] : Fin 3 → Nat) e + S1x64x64.size e ≤ S1x128x512.size e) :
    FVec Ideal S64x64 .bf16 :=
  shapeCast S64x64 (View.ld X (Rect.unit (s := S1x128x512) ![0, a, o] S1x64x64.size h)) shapeCasts_S1x64x64_S64x64

theorem qs64_ix (X : Vec Ideal S1x128x512 .bf16) (a o : ℕ) (h) (r : Fin 64) (d : Fin 64) (k : Fin 128) (l : Fin 512)
    (hk : k.val = a + r.val) (hl : l.val = o + d.val) : qs64 X a o h (ix2 r d) = X (ix3 0 k l) := by
  have e : ∀ Y : FVec Ideal S1x64x64 .bf16, shapeCast S64x64 Y shapeCasts_S1x64x64_S64x64 (ix2 r d) = Y (ix3 0 r d) := fun Y => by pointwise
  unfold qs64
  rw [e]
  refine congrArg X (funext fun b => Fin.ext ?_)
  match b with
  | ⟨0, _⟩ => rfl
  | ⟨1, _⟩ => exact (congrArg (a + ·) (Nat.one_mul _)).trans hk.symm
  | ⟨2, _⟩ => exact (congrArg (o + ·) (Nat.one_mul _)).trans hl.symm

/-- 64 queries' eight heads side by side are one block. -/
theorem cat64_ix (a0 a1 a2 a3 a4 a5 a6 a7 : FVec Ideal S64x64 .f32) (r : Fin 64) (l : Fin 512) :
    shapeCast S1x64x512 (truncf .bf16 (concatenate S64x512 1 [⟨S64x64, a0⟩, ⟨S64x64, a1⟩, ⟨S64x64, a2⟩, ⟨S64x64, a3⟩, ⟨S64x64, a4⟩, ⟨S64x64, a5⟩, ⟨S64x64, a6⟩, ⟨S64x64, a7⟩] concatenates_S64x64_S64x64_S64x64_S64x64_S64x64_S64x64_S64x64_S64x64_S64x512_d1) bitsLt_bf16_f32) shapeCasts_S64x512_S1x64x512 (ix3 0 r l)
      = (if h : l.val < 64 then a0 (ix2 r ⟨l.val, h⟩) else if h : l.val - 64 < 64 then a1 (ix2 r ⟨l.val - 64, h⟩)
        else if h : l.val - 64 - 64 < 64 then a2 (ix2 r ⟨l.val - 64 - 64, h⟩)
        else if h : l.val - 64 - 64 - 64 < 64 then a3 (ix2 r ⟨l.val - 64 - 64 - 64, h⟩)
        else if h : l.val - 64 - 64 - 64 - 64 < 64 then a4 (ix2 r ⟨l.val - 64 - 64 - 64 - 64, h⟩)
        else if h : l.val - 64 - 64 - 64 - 64 - 64 < 64 then a5 (ix2 r ⟨l.val - 64 - 64 - 64 - 64 - 64, h⟩)
        else if h : l.val - 64 - 64 - 64 - 64 - 64 - 64 < 64 then a6 (ix2 r ⟨l.val - 64 - 64 - 64 - 64 - 64 - 64, h⟩)
        else a7 (ix2 r ⟨l.val - 64 - 64 - 64 - 64 - 64 - 64 - 64, by omega⟩)) := by
  pointwise

/-- 16 rows and 64 columns of a block of queries. -/
def qs16 (X : Vec Ideal S1x128x512 .bf16) (a o : ℕ) (h : ∀ e, (![0, a, o] : Fin 3 → Nat) e + S1x16x64.size e ≤ S1x128x512.size e) :
    FVec Ideal S16x64 .bf16 :=
  shapeCast S16x64 (View.ld X (Rect.unit (s := S1x128x512) ![0, a, o] S1x16x64.size h)) shapeCasts_S1x16x64_S16x64

theorem qs16_ix (X : Vec Ideal S1x128x512 .bf16) (a o : ℕ) (h) (r : Fin 16) (d : Fin 64) (k : Fin 128) (l : Fin 512)
    (hk : k.val = a + r.val) (hl : l.val = o + d.val) : qs16 X a o h (ix2 r d) = X (ix3 0 k l) := by
  have e : ∀ Y : FVec Ideal S1x16x64 .bf16, shapeCast S16x64 Y shapeCasts_S1x16x64_S16x64 (ix2 r d) = Y (ix3 0 r d) := fun Y => by pointwise
  unfold qs16
  rw [e]
  refine congrArg X (funext fun b => Fin.ext ?_)
  match b with
  | ⟨0, _⟩ => rfl
  | ⟨1, _⟩ => exact (congrArg (a + ·) (Nat.one_mul _)).trans hk.symm
  | ⟨2, _⟩ => exact (congrArg (o + ·) (Nat.one_mul _)).trans hl.symm

/-- 16 queries' eight heads side by side are one block. -/
theorem cat16_ix (a0 a1 a2 a3 a4 a5 a6 a7 : FVec Ideal S16x64 .f32) (r : Fin 16) (l : Fin 512) :
    shapeCast S1x16x512 (truncf .bf16 (concatenate S16x512 1 [⟨S16x64, a0⟩, ⟨S16x64, a1⟩, ⟨S16x64, a2⟩, ⟨S16x64, a3⟩, ⟨S16x64, a4⟩, ⟨S16x64, a5⟩, ⟨S16x64, a6⟩, ⟨S16x64, a7⟩] concatenates_S16x64_S16x64_S16x64_S16x64_S16x64_S16x64_S16x64_S16x64_S16x512_d1) bitsLt_bf16_f32) shapeCasts_S16x512_S1x16x512 (ix3 0 r l)
      = (if h : l.val < 64 then a0 (ix2 r ⟨l.val, h⟩) else if h : l.val - 64 < 64 then a1 (ix2 r ⟨l.val - 64, h⟩)
        else if h : l.val - 64 - 64 < 64 then a2 (ix2 r ⟨l.val - 64 - 64, h⟩)
        else if h : l.val - 64 - 64 - 64 < 64 then a3 (ix2 r ⟨l.val - 64 - 64 - 64, h⟩)
        else if h : l.val - 64 - 64 - 64 - 64 < 64 then a4 (ix2 r ⟨l.val - 64 - 64 - 64 - 64, h⟩)
        else if h : l.val - 64 - 64 - 64 - 64 - 64 < 64 then a5 (ix2 r ⟨l.val - 64 - 64 - 64 - 64 - 64, h⟩)
        else if h : l.val - 64 - 64 - 64 - 64 - 64 - 64 < 64 then a6 (ix2 r ⟨l.val - 64 - 64 - 64 - 64 - 64 - 64, h⟩)
        else a7 (ix2 r ⟨l.val - 64 - 64 - 64 - 64 - 64 - 64 - 64, by omega⟩)) := by
  pointwise

/-- The 512 rows of a window, 64 columns. -/
def ws (X : Vec Ideal S1x4224x512 .bf16) (off : Fin 3 → ℕ) (h : ∀ e, off e + S1x512x64.size e ≤ S1x4224x512.size e) :
    FVec Ideal S512x64 .bf16 :=
  shapeCast S512x64 (View.ld X (Rect.unit (s := S1x4224x512) off S1x512x64.size h)) shapeCasts_S1x512x64_S512x64

theorem ws_ix (X : Vec Ideal S1x4224x512 .bf16) (off : Fin 3 → ℕ) (h) (r : Fin 512) (d : Fin 64) (k : Fin 4224) (l : Fin 512)
    (h0 : off 0 = 0) (hk : k.val = off 1 + r.val) (hl : l.val = off 2 + d.val) : ws X off h (ix2 r d) = X (ix3 0 k l) := by
  have e : ∀ Y : FVec Ideal S1x512x64 .bf16, shapeCast S512x64 Y shapeCasts_S1x512x64_S512x64 (ix2 r d) = Y (ix3 0 r d) := fun Y => by pointwise
  unfold ws
  rw [e]
  refine congrArg X (funext fun b => Fin.ext ?_)
  match b with
  | ⟨0, _⟩ => exact (congrArg (off 0 + ·) (Nat.one_mul _)).trans h0
  | ⟨1, _⟩ => exact (congrArg (off 1 + ·) (Nat.one_mul _)).trans hk.symm
  | ⟨2, _⟩ => exact (congrArg (off 2 + ·) (Nat.one_mul _)).trans hl.symm

/-- The meta rows, 64 columns. -/
def ms (X : Vec Ideal S1x4224x512 .bf16) (o : ℕ) (h : ∀ e, (![0, 112, o] : Fin 3 → Nat) e + S1x16x64.size e ≤ S1x4224x512.size e) :
    FVec Ideal S16x64 .bf16 :=
  shapeCast S16x64 (View.ld X (Rect.unit (s := S1x4224x512) ![0, 112, o] S1x16x64.size h)) shapeCasts_S1x16x64_S16x64

theorem ms_ix (X : Vec Ideal S1x4224x512 .bf16) (o : ℕ) (h) (r : Fin 16) (d : Fin 64) (k : Fin 4224) (l : Fin 512)
    (hk : k.val = 112 + r.val) (hl : l.val = o + d.val) : ms X o h (ix2 r d) = X (ix3 0 k l) := by
  have e : ∀ Y : FVec Ideal S1x16x64 .bf16, shapeCast S16x64 Y shapeCasts_S1x16x64_S16x64 (ix2 r d) = Y (ix3 0 r d) := fun Y => by pointwise
  unfold ms
  rw [e]
  refine congrArg X (funext fun b => Fin.ext ?_)
  match b with
  | ⟨0, _⟩ => rfl
  | ⟨1, _⟩ => exact (congrArg (112 + ·) (Nat.one_mul _)).trans hk.symm
  | ⟨2, _⟩ => exact (congrArg (o + ·) (Nat.one_mul _)).trans hl.symm

/-- One row difference's bias block. -/
def bs (X : Vec Ideal S8x14x64x128 .f32) (off : Fin 4 → ℕ) (h : ∀ e, off e + S1x1x64x128.size e ≤ S8x14x64x128.size e) :
    FVec Ideal S64x128 .f32 :=
  shapeCast S64x128 (View.ld X (Rect.unit (s := S8x14x64x128) off S1x1x64x128.size h)) shapeCasts_S1x1x64x128_S64x128

theorem bs_ix (X : Vec Ideal S8x14x64x128 .f32) (off : Fin 4 → ℕ) (h) (r : Fin 64) (x : Fin 128) (g : Fin 8) (a : Fin 14)
    (hg : off 0 = g.val) (ha : off 1 = a.val) (h2 : off 2 = 0) (h3 : off 3 = 0) : bs X off h (ix2 r x) = X (ix4 g a r x) := by
  have e : ∀ Y : FVec Ideal S1x1x64x128 .f32, shapeCast S64x128 Y shapeCasts_S1x1x64x128_S64x128 (ix2 r x) = Y (ix4 0 0 r x) := fun Y => by pointwise
  unfold bs
  rw [e]
  refine congrArg X (funext fun b => Fin.ext ?_)
  match b with
  | ⟨0, _⟩ => exact hg
  | ⟨1, _⟩ => exact ha
  | ⟨2, _⟩ => exact (congrArg₂ (· + ·) h2 (Nat.one_mul _)).trans (Nat.zero_add _)
  | ⟨3, _⟩ => exact (congrArg₂ (· + ·) h3 (Nat.one_mul _)).trans (Nat.zero_add _)

/-- The first row of a bias block, for each of the 16 meta queries. -/
def first (b : FVec Ideal S64x128 .f32) : FVec Ideal S16x128 .f32 :=
  broadcastTo S16x128 (extractStridedSlice S1x128 ![0, 0] b slices_S64x128_o0_0_S1x128) broadcasts_S1x128_S16x128

theorem first_ix (b : FVec Ideal S64x128 .f32) (r : Fin 16) (x : Fin 128) : first b (ix2 r x) = b (ix2 0 x) := by
  pointwise [first]

/-- One head's meta biases. -/
def mbs (X : Vec Ideal S8x16 .f32) (o : ℕ) (h : ∀ e, (![o, 0] : Fin 2 → Nat) e + S1x16.size e ≤ S8x16.size e) : FVec Ideal S1x16 .f32 :=
  View.ld X (Rect.unit (s := S8x16) ![o, 0] S1x16.size h)

theorem mbs_ix (X : Vec Ideal S8x16 .f32) (o : ℕ) (h) (x : Fin 16) (g : Fin 8) (hg : o = g.val) : mbs X o h (ix2 0 x) = X (ix2 g x) := by
  unfold mbs
  refine congrArg X (funext fun b => Fin.ext ?_)
  match b with
  | ⟨0, _⟩ => exact hg
  | ⟨1, _⟩ => exact (Nat.zero_add _).trans (Nat.one_mul _)

/-- What the kernel writes for grid row 0 of a block. -/
def rowB0 (c : Dev nD) (t : Fin cfg0.N) (hc : k0_cond2 (grid0.coords t) = 1#1) : FVec Ideal S1x64x512 .bf16 :=
  shapeCast S1x64x512 (truncf .bf16 (concatenate S64x512 1 [
      ⟨S64x64, attend64 (qs64 (iblk m c 0 t) 0 0 inb_S1x128x512_S1x64x64_0_0_0)
        (ws (iblk m c 1 t) (k0_off1 (grid0.coords t) 0#32) (k0_off1_inb (grid0.coords t) hc 0)) (ws (iblk m c 2 t) (k0_off1 (grid0.coords t) 0#32) (k0_off1_inb (grid0.coords t) hc 0))
        (ms (iblk m c 1 t) 0 inb_S1x4224x512_S1x16x64_0_112_0) (ms (iblk m c 2 t) 0 inb_S1x4224x512_S1x16x64_0_112_0)
        (bs (iblk m c 3 t) (k0_off2 (grid0.coords t) 0#32 0#32) (k0_off2_inb (grid0.coords t) hc 0 0)) (bs (iblk m c 3 t) (k0_off2 (grid0.coords t) 0#32 2#32) (k0_off2_inb (grid0.coords t) hc 0 1)) (bs (iblk m c 3 t) (k0_off2 (grid0.coords t) 0#32 4#32) (k0_off2_inb (grid0.coords t) hc 0 2)) (bs (iblk m c 3 t) (k0_off2 (grid0.coords t) 0#32 6#32) (k0_off2_inb (grid0.coords t) hc 0 3))
        (mbs (iblk m c 4 t) 0 inb_S8x16_S1x16_0_0)⟩,
      ⟨S64x64, attend64 (qs64 (iblk m c 0 t) 0 64 inb_S1x128x512_S1x64x64_0_0_64)
        (ws (iblk m c 1 t) (k0_off3 (grid0.coords t) 0#32) (k0_off3_inb (grid0.coords t) hc 0)) (ws (iblk m c 2 t) (k0_off3 (grid0.coords t) 0#32) (k0_off3_inb (grid0.coords t) hc 0))
        (ms (iblk m c 1 t) 64 inb_S1x4224x512_S1x16x64_0_112_64) (ms (iblk m c 2 t) 64 inb_S1x4224x512_S1x16x64_0_112_64)
        (bs (iblk m c 3 t) (k0_off4 (grid0.coords t) 0#32 0#32) (k0_off4_inb (grid0.coords t) hc 0 0)) (bs (iblk m c 3 t) (k0_off4 (grid0.coords t) 0#32 2#32) (k0_off4_inb (grid0.coords t) hc 0 1)) (bs (iblk m c 3 t) (k0_off4 (grid0.coords t) 0#32 4#32) (k0_off4_inb (grid0.coords t) hc 0 2)) (bs (iblk m c 3 t) (k0_off4 (grid0.coords t) 0#32 6#32) (k0_off4_inb (grid0.coords t) hc 0 3))
        (mbs (iblk m c 4 t) 1 inb_S8x16_S1x16_1_0)⟩,
      ⟨S64x64, attend64 (qs64 (iblk m c 0 t) 0 128 inb_S1x128x512_S1x64x64_0_0_128)
        (ws (iblk m c 1 t) (k0_off5 (grid0.coords t) 0#32) (k0_off5_inb (grid0.coords t) hc 0)) (ws (iblk m c 2 t) (k0_off5 (grid0.coords t) 0#32) (k0_off5_inb (grid0.coords t) hc 0))
        (ms (iblk m c 1 t) 128 inb_S1x4224x512_S1x16x64_0_112_128) (ms (iblk m c 2 t) 128 inb_S1x4224x512_S1x16x64_0_112_128)
        (bs (iblk m c 3 t) (k0_off6 (grid0.coords t) 0#32 0#32) (k0_off6_inb (grid0.coords t) hc 0 0)) (bs (iblk m c 3 t) (k0_off6 (grid0.coords t) 0#32 2#32) (k0_off6_inb (grid0.coords t) hc 0 1)) (bs (iblk m c 3 t) (k0_off6 (grid0.coords t) 0#32 4#32) (k0_off6_inb (grid0.coords t) hc 0 2)) (bs (iblk m c 3 t) (k0_off6 (grid0.coords t) 0#32 6#32) (k0_off6_inb (grid0.coords t) hc 0 3))
        (mbs (iblk m c 4 t) 2 inb_S8x16_S1x16_2_0)⟩,
      ⟨S64x64, attend64 (qs64 (iblk m c 0 t) 0 192 inb_S1x128x512_S1x64x64_0_0_192)
        (ws (iblk m c 1 t) (k0_off7 (grid0.coords t) 0#32) (k0_off7_inb (grid0.coords t) hc 0)) (ws (iblk m c 2 t) (k0_off7 (grid0.coords t) 0#32) (k0_off7_inb (grid0.coords t) hc 0))
        (ms (iblk m c 1 t) 192 inb_S1x4224x512_S1x16x64_0_112_192) (ms (iblk m c 2 t) 192 inb_S1x4224x512_S1x16x64_0_112_192)
        (bs (iblk m c 3 t) (k0_off8 (grid0.coords t) 0#32 0#32) (k0_off8_inb (grid0.coords t) hc 0 0)) (bs (iblk m c 3 t) (k0_off8 (grid0.coords t) 0#32 2#32) (k0_off8_inb (grid0.coords t) hc 0 1)) (bs (iblk m c 3 t) (k0_off8 (grid0.coords t) 0#32 4#32) (k0_off8_inb (grid0.coords t) hc 0 2)) (bs (iblk m c 3 t) (k0_off8 (grid0.coords t) 0#32 6#32) (k0_off8_inb (grid0.coords t) hc 0 3))
        (mbs (iblk m c 4 t) 3 inb_S8x16_S1x16_3_0)⟩,
      ⟨S64x64, attend64 (qs64 (iblk m c 0 t) 0 256 inb_S1x128x512_S1x64x64_0_0_256)
        (ws (iblk m c 1 t) (k0_off9 (grid0.coords t) 0#32) (k0_off9_inb (grid0.coords t) hc 0)) (ws (iblk m c 2 t) (k0_off9 (grid0.coords t) 0#32) (k0_off9_inb (grid0.coords t) hc 0))
        (ms (iblk m c 1 t) 256 inb_S1x4224x512_S1x16x64_0_112_256) (ms (iblk m c 2 t) 256 inb_S1x4224x512_S1x16x64_0_112_256)
        (bs (iblk m c 3 t) (k0_off10 (grid0.coords t) 0#32 0#32) (k0_off10_inb (grid0.coords t) hc 0 0)) (bs (iblk m c 3 t) (k0_off10 (grid0.coords t) 0#32 2#32) (k0_off10_inb (grid0.coords t) hc 0 1)) (bs (iblk m c 3 t) (k0_off10 (grid0.coords t) 0#32 4#32) (k0_off10_inb (grid0.coords t) hc 0 2)) (bs (iblk m c 3 t) (k0_off10 (grid0.coords t) 0#32 6#32) (k0_off10_inb (grid0.coords t) hc 0 3))
        (mbs (iblk m c 4 t) 4 inb_S8x16_S1x16_4_0)⟩,
      ⟨S64x64, attend64 (qs64 (iblk m c 0 t) 0 320 inb_S1x128x512_S1x64x64_0_0_320)
        (ws (iblk m c 1 t) (k0_off11 (grid0.coords t) 0#32) (k0_off11_inb (grid0.coords t) hc 0)) (ws (iblk m c 2 t) (k0_off11 (grid0.coords t) 0#32) (k0_off11_inb (grid0.coords t) hc 0))
        (ms (iblk m c 1 t) 320 inb_S1x4224x512_S1x16x64_0_112_320) (ms (iblk m c 2 t) 320 inb_S1x4224x512_S1x16x64_0_112_320)
        (bs (iblk m c 3 t) (k0_off12 (grid0.coords t) 0#32 0#32) (k0_off12_inb (grid0.coords t) hc 0 0)) (bs (iblk m c 3 t) (k0_off12 (grid0.coords t) 0#32 2#32) (k0_off12_inb (grid0.coords t) hc 0 1)) (bs (iblk m c 3 t) (k0_off12 (grid0.coords t) 0#32 4#32) (k0_off12_inb (grid0.coords t) hc 0 2)) (bs (iblk m c 3 t) (k0_off12 (grid0.coords t) 0#32 6#32) (k0_off12_inb (grid0.coords t) hc 0 3))
        (mbs (iblk m c 4 t) 5 inb_S8x16_S1x16_5_0)⟩,
      ⟨S64x64, attend64 (qs64 (iblk m c 0 t) 0 384 inb_S1x128x512_S1x64x64_0_0_384)
        (ws (iblk m c 1 t) (k0_off13 (grid0.coords t) 0#32) (k0_off13_inb (grid0.coords t) hc 0)) (ws (iblk m c 2 t) (k0_off13 (grid0.coords t) 0#32) (k0_off13_inb (grid0.coords t) hc 0))
        (ms (iblk m c 1 t) 384 inb_S1x4224x512_S1x16x64_0_112_384) (ms (iblk m c 2 t) 384 inb_S1x4224x512_S1x16x64_0_112_384)
        (bs (iblk m c 3 t) (k0_off14 (grid0.coords t) 0#32 0#32) (k0_off14_inb (grid0.coords t) hc 0 0)) (bs (iblk m c 3 t) (k0_off14 (grid0.coords t) 0#32 2#32) (k0_off14_inb (grid0.coords t) hc 0 1)) (bs (iblk m c 3 t) (k0_off14 (grid0.coords t) 0#32 4#32) (k0_off14_inb (grid0.coords t) hc 0 2)) (bs (iblk m c 3 t) (k0_off14 (grid0.coords t) 0#32 6#32) (k0_off14_inb (grid0.coords t) hc 0 3))
        (mbs (iblk m c 4 t) 6 inb_S8x16_S1x16_6_0)⟩,
      ⟨S64x64, attend64 (qs64 (iblk m c 0 t) 0 448 inb_S1x128x512_S1x64x64_0_0_448)
        (ws (iblk m c 1 t) (k0_off15 (grid0.coords t) 0#32) (k0_off15_inb (grid0.coords t) hc 0)) (ws (iblk m c 2 t) (k0_off15 (grid0.coords t) 0#32) (k0_off15_inb (grid0.coords t) hc 0))
        (ms (iblk m c 1 t) 448 inb_S1x4224x512_S1x16x64_0_112_448) (ms (iblk m c 2 t) 448 inb_S1x4224x512_S1x16x64_0_112_448)
        (bs (iblk m c 3 t) (k0_off16 (grid0.coords t) 0#32 0#32) (k0_off16_inb (grid0.coords t) hc 0 0)) (bs (iblk m c 3 t) (k0_off16 (grid0.coords t) 0#32 2#32) (k0_off16_inb (grid0.coords t) hc 0 1)) (bs (iblk m c 3 t) (k0_off16 (grid0.coords t) 0#32 4#32) (k0_off16_inb (grid0.coords t) hc 0 2)) (bs (iblk m c 3 t) (k0_off16 (grid0.coords t) 0#32 6#32) (k0_off16_inb (grid0.coords t) hc 0 3))
        (mbs (iblk m c 4 t) 7 inb_S8x16_S1x16_7_0)⟩] concatenates_S64x64_S64x64_S64x64_S64x64_S64x64_S64x64_S64x64_S64x64_S64x512_d1) bitsLt_bf16_f32) shapeCasts_S64x512_S1x64x512

/-- What the kernel writes for grid row 1 of a block. -/
def rowB1 (c : Dev nD) (t : Fin cfg0.N) (hc : k0_cond2 (grid0.coords t) = 1#1) : FVec Ideal S1x64x512 .bf16 :=
  shapeCast S1x64x512 (truncf .bf16 (concatenate S64x512 1 [
      ⟨S64x64, attend64 (qs64 (iblk m c 0 t) 64 0 inb_S1x128x512_S1x64x64_0_64_0)
        (ws (iblk m c 1 t) (k0_off1 (grid0.coords t) 1#32) (k0_off1_inb (grid0.coords t) hc 1)) (ws (iblk m c 2 t) (k0_off1 (grid0.coords t) 1#32) (k0_off1_inb (grid0.coords t) hc 1))
        (ms (iblk m c 1 t) 0 inb_S1x4224x512_S1x16x64_0_112_0) (ms (iblk m c 2 t) 0 inb_S1x4224x512_S1x16x64_0_112_0)
        (bs (iblk m c 3 t) (k0_off2 (grid0.coords t) 1#32 0#32) (k0_off2_inb (grid0.coords t) hc 1 0)) (bs (iblk m c 3 t) (k0_off2 (grid0.coords t) 1#32 2#32) (k0_off2_inb (grid0.coords t) hc 1 1)) (bs (iblk m c 3 t) (k0_off2 (grid0.coords t) 1#32 4#32) (k0_off2_inb (grid0.coords t) hc 1 2)) (bs (iblk m c 3 t) (k0_off2 (grid0.coords t) 1#32 6#32) (k0_off2_inb (grid0.coords t) hc 1 3))
        (mbs (iblk m c 4 t) 0 inb_S8x16_S1x16_0_0)⟩,
      ⟨S64x64, attend64 (qs64 (iblk m c 0 t) 64 64 inb_S1x128x512_S1x64x64_0_64_64)
        (ws (iblk m c 1 t) (k0_off3 (grid0.coords t) 1#32) (k0_off3_inb (grid0.coords t) hc 1)) (ws (iblk m c 2 t) (k0_off3 (grid0.coords t) 1#32) (k0_off3_inb (grid0.coords t) hc 1))
        (ms (iblk m c 1 t) 64 inb_S1x4224x512_S1x16x64_0_112_64) (ms (iblk m c 2 t) 64 inb_S1x4224x512_S1x16x64_0_112_64)
        (bs (iblk m c 3 t) (k0_off4 (grid0.coords t) 1#32 0#32) (k0_off4_inb (grid0.coords t) hc 1 0)) (bs (iblk m c 3 t) (k0_off4 (grid0.coords t) 1#32 2#32) (k0_off4_inb (grid0.coords t) hc 1 1)) (bs (iblk m c 3 t) (k0_off4 (grid0.coords t) 1#32 4#32) (k0_off4_inb (grid0.coords t) hc 1 2)) (bs (iblk m c 3 t) (k0_off4 (grid0.coords t) 1#32 6#32) (k0_off4_inb (grid0.coords t) hc 1 3))
        (mbs (iblk m c 4 t) 1 inb_S8x16_S1x16_1_0)⟩,
      ⟨S64x64, attend64 (qs64 (iblk m c 0 t) 64 128 inb_S1x128x512_S1x64x64_0_64_128)
        (ws (iblk m c 1 t) (k0_off5 (grid0.coords t) 1#32) (k0_off5_inb (grid0.coords t) hc 1)) (ws (iblk m c 2 t) (k0_off5 (grid0.coords t) 1#32) (k0_off5_inb (grid0.coords t) hc 1))
        (ms (iblk m c 1 t) 128 inb_S1x4224x512_S1x16x64_0_112_128) (ms (iblk m c 2 t) 128 inb_S1x4224x512_S1x16x64_0_112_128)
        (bs (iblk m c 3 t) (k0_off6 (grid0.coords t) 1#32 0#32) (k0_off6_inb (grid0.coords t) hc 1 0)) (bs (iblk m c 3 t) (k0_off6 (grid0.coords t) 1#32 2#32) (k0_off6_inb (grid0.coords t) hc 1 1)) (bs (iblk m c 3 t) (k0_off6 (grid0.coords t) 1#32 4#32) (k0_off6_inb (grid0.coords t) hc 1 2)) (bs (iblk m c 3 t) (k0_off6 (grid0.coords t) 1#32 6#32) (k0_off6_inb (grid0.coords t) hc 1 3))
        (mbs (iblk m c 4 t) 2 inb_S8x16_S1x16_2_0)⟩,
      ⟨S64x64, attend64 (qs64 (iblk m c 0 t) 64 192 inb_S1x128x512_S1x64x64_0_64_192)
        (ws (iblk m c 1 t) (k0_off7 (grid0.coords t) 1#32) (k0_off7_inb (grid0.coords t) hc 1)) (ws (iblk m c 2 t) (k0_off7 (grid0.coords t) 1#32) (k0_off7_inb (grid0.coords t) hc 1))
        (ms (iblk m c 1 t) 192 inb_S1x4224x512_S1x16x64_0_112_192) (ms (iblk m c 2 t) 192 inb_S1x4224x512_S1x16x64_0_112_192)
        (bs (iblk m c 3 t) (k0_off8 (grid0.coords t) 1#32 0#32) (k0_off8_inb (grid0.coords t) hc 1 0)) (bs (iblk m c 3 t) (k0_off8 (grid0.coords t) 1#32 2#32) (k0_off8_inb (grid0.coords t) hc 1 1)) (bs (iblk m c 3 t) (k0_off8 (grid0.coords t) 1#32 4#32) (k0_off8_inb (grid0.coords t) hc 1 2)) (bs (iblk m c 3 t) (k0_off8 (grid0.coords t) 1#32 6#32) (k0_off8_inb (grid0.coords t) hc 1 3))
        (mbs (iblk m c 4 t) 3 inb_S8x16_S1x16_3_0)⟩,
      ⟨S64x64, attend64 (qs64 (iblk m c 0 t) 64 256 inb_S1x128x512_S1x64x64_0_64_256)
        (ws (iblk m c 1 t) (k0_off9 (grid0.coords t) 1#32) (k0_off9_inb (grid0.coords t) hc 1)) (ws (iblk m c 2 t) (k0_off9 (grid0.coords t) 1#32) (k0_off9_inb (grid0.coords t) hc 1))
        (ms (iblk m c 1 t) 256 inb_S1x4224x512_S1x16x64_0_112_256) (ms (iblk m c 2 t) 256 inb_S1x4224x512_S1x16x64_0_112_256)
        (bs (iblk m c 3 t) (k0_off10 (grid0.coords t) 1#32 0#32) (k0_off10_inb (grid0.coords t) hc 1 0)) (bs (iblk m c 3 t) (k0_off10 (grid0.coords t) 1#32 2#32) (k0_off10_inb (grid0.coords t) hc 1 1)) (bs (iblk m c 3 t) (k0_off10 (grid0.coords t) 1#32 4#32) (k0_off10_inb (grid0.coords t) hc 1 2)) (bs (iblk m c 3 t) (k0_off10 (grid0.coords t) 1#32 6#32) (k0_off10_inb (grid0.coords t) hc 1 3))
        (mbs (iblk m c 4 t) 4 inb_S8x16_S1x16_4_0)⟩,
      ⟨S64x64, attend64 (qs64 (iblk m c 0 t) 64 320 inb_S1x128x512_S1x64x64_0_64_320)
        (ws (iblk m c 1 t) (k0_off11 (grid0.coords t) 1#32) (k0_off11_inb (grid0.coords t) hc 1)) (ws (iblk m c 2 t) (k0_off11 (grid0.coords t) 1#32) (k0_off11_inb (grid0.coords t) hc 1))
        (ms (iblk m c 1 t) 320 inb_S1x4224x512_S1x16x64_0_112_320) (ms (iblk m c 2 t) 320 inb_S1x4224x512_S1x16x64_0_112_320)
        (bs (iblk m c 3 t) (k0_off12 (grid0.coords t) 1#32 0#32) (k0_off12_inb (grid0.coords t) hc 1 0)) (bs (iblk m c 3 t) (k0_off12 (grid0.coords t) 1#32 2#32) (k0_off12_inb (grid0.coords t) hc 1 1)) (bs (iblk m c 3 t) (k0_off12 (grid0.coords t) 1#32 4#32) (k0_off12_inb (grid0.coords t) hc 1 2)) (bs (iblk m c 3 t) (k0_off12 (grid0.coords t) 1#32 6#32) (k0_off12_inb (grid0.coords t) hc 1 3))
        (mbs (iblk m c 4 t) 5 inb_S8x16_S1x16_5_0)⟩,
      ⟨S64x64, attend64 (qs64 (iblk m c 0 t) 64 384 inb_S1x128x512_S1x64x64_0_64_384)
        (ws (iblk m c 1 t) (k0_off13 (grid0.coords t) 1#32) (k0_off13_inb (grid0.coords t) hc 1)) (ws (iblk m c 2 t) (k0_off13 (grid0.coords t) 1#32) (k0_off13_inb (grid0.coords t) hc 1))
        (ms (iblk m c 1 t) 384 inb_S1x4224x512_S1x16x64_0_112_384) (ms (iblk m c 2 t) 384 inb_S1x4224x512_S1x16x64_0_112_384)
        (bs (iblk m c 3 t) (k0_off14 (grid0.coords t) 1#32 0#32) (k0_off14_inb (grid0.coords t) hc 1 0)) (bs (iblk m c 3 t) (k0_off14 (grid0.coords t) 1#32 2#32) (k0_off14_inb (grid0.coords t) hc 1 1)) (bs (iblk m c 3 t) (k0_off14 (grid0.coords t) 1#32 4#32) (k0_off14_inb (grid0.coords t) hc 1 2)) (bs (iblk m c 3 t) (k0_off14 (grid0.coords t) 1#32 6#32) (k0_off14_inb (grid0.coords t) hc 1 3))
        (mbs (iblk m c 4 t) 6 inb_S8x16_S1x16_6_0)⟩,
      ⟨S64x64, attend64 (qs64 (iblk m c 0 t) 64 448 inb_S1x128x512_S1x64x64_0_64_448)
        (ws (iblk m c 1 t) (k0_off15 (grid0.coords t) 1#32) (k0_off15_inb (grid0.coords t) hc 1)) (ws (iblk m c 2 t) (k0_off15 (grid0.coords t) 1#32) (k0_off15_inb (grid0.coords t) hc 1))
        (ms (iblk m c 1 t) 448 inb_S1x4224x512_S1x16x64_0_112_448) (ms (iblk m c 2 t) 448 inb_S1x4224x512_S1x16x64_0_112_448)
        (bs (iblk m c 3 t) (k0_off16 (grid0.coords t) 1#32 0#32) (k0_off16_inb (grid0.coords t) hc 1 0)) (bs (iblk m c 3 t) (k0_off16 (grid0.coords t) 1#32 2#32) (k0_off16_inb (grid0.coords t) hc 1 1)) (bs (iblk m c 3 t) (k0_off16 (grid0.coords t) 1#32 4#32) (k0_off16_inb (grid0.coords t) hc 1 2)) (bs (iblk m c 3 t) (k0_off16 (grid0.coords t) 1#32 6#32) (k0_off16_inb (grid0.coords t) hc 1 3))
        (mbs (iblk m c 4 t) 7 inb_S8x16_S1x16_7_0)⟩] concatenates_S64x64_S64x64_S64x64_S64x64_S64x64_S64x64_S64x64_S64x64_S64x512_d1) bitsLt_bf16_f32) shapeCasts_S64x512_S1x64x512

/-- What the kernel writes for the meta queries. -/
def rowA (c : Dev nD) (t : Fin cfg0.N) : FVec Ideal S1x16x512 .bf16 :=
  shapeCast S1x16x512 (truncf .bf16 (concatenate S16x512 1 [
      ⟨S16x64, attend16 (qs16 (iblk m c 0 t) 112 0 inb_S1x128x512_S1x16x64_0_112_0)
        (ws (iblk m c 1 t) ![0, 128, 0] inb_S1x4224x512_S1x512x64_0_128_0) (ws (iblk m c 2 t) ![0, 128, 0] inb_S1x4224x512_S1x512x64_0_128_0)
        (ms (iblk m c 1 t) 0 inb_S1x4224x512_S1x16x64_0_112_0) (ms (iblk m c 2 t) 0 inb_S1x4224x512_S1x16x64_0_112_0)
        (first (bs (iblk m c 3 t) ![0, 7, 0, 0] inb_S8x14x64x128_S1x1x64x128_0_7_0_0)) (first (bs (iblk m c 3 t) ![0, 9, 0, 0] inb_S8x14x64x128_S1x1x64x128_0_9_0_0)) (first (bs (iblk m c 3 t) ![0, 11, 0, 0] inb_S8x14x64x128_S1x1x64x128_0_11_0_0)) (first (bs (iblk m c 3 t) ![0, 13, 0, 0] inb_S8x14x64x128_S1x1x64x128_0_13_0_0))
        (mbs (iblk m c 4 t) 0 inb_S8x16_S1x16_0_0)⟩,
      ⟨S16x64, attend16 (qs16 (iblk m c 0 t) 112 64 inb_S1x128x512_S1x16x64_0_112_64)
        (ws (iblk m c 1 t) ![0, 128, 64] inb_S1x4224x512_S1x512x64_0_128_64) (ws (iblk m c 2 t) ![0, 128, 64] inb_S1x4224x512_S1x512x64_0_128_64)
        (ms (iblk m c 1 t) 64 inb_S1x4224x512_S1x16x64_0_112_64) (ms (iblk m c 2 t) 64 inb_S1x4224x512_S1x16x64_0_112_64)
        (first (bs (iblk m c 3 t) ![1, 7, 0, 0] inb_S8x14x64x128_S1x1x64x128_1_7_0_0)) (first (bs (iblk m c 3 t) ![1, 9, 0, 0] inb_S8x14x64x128_S1x1x64x128_1_9_0_0)) (first (bs (iblk m c 3 t) ![1, 11, 0, 0] inb_S8x14x64x128_S1x1x64x128_1_11_0_0)) (first (bs (iblk m c 3 t) ![1, 13, 0, 0] inb_S8x14x64x128_S1x1x64x128_1_13_0_0))
        (mbs (iblk m c 4 t) 1 inb_S8x16_S1x16_1_0)⟩,
      ⟨S16x64, attend16 (qs16 (iblk m c 0 t) 112 128 inb_S1x128x512_S1x16x64_0_112_128)
        (ws (iblk m c 1 t) ![0, 128, 128] inb_S1x4224x512_S1x512x64_0_128_128) (ws (iblk m c 2 t) ![0, 128, 128] inb_S1x4224x512_S1x512x64_0_128_128)
        (ms (iblk m c 1 t) 128 inb_S1x4224x512_S1x16x64_0_112_128) (ms (iblk m c 2 t) 128 inb_S1x4224x512_S1x16x64_0_112_128)
        (first (bs (iblk m c 3 t) ![2, 7, 0, 0] inb_S8x14x64x128_S1x1x64x128_2_7_0_0)) (first (bs (iblk m c 3 t) ![2, 9, 0, 0] inb_S8x14x64x128_S1x1x64x128_2_9_0_0)) (first (bs (iblk m c 3 t) ![2, 11, 0, 0] inb_S8x14x64x128_S1x1x64x128_2_11_0_0)) (first (bs (iblk m c 3 t) ![2, 13, 0, 0] inb_S8x14x64x128_S1x1x64x128_2_13_0_0))
        (mbs (iblk m c 4 t) 2 inb_S8x16_S1x16_2_0)⟩,
      ⟨S16x64, attend16 (qs16 (iblk m c 0 t) 112 192 inb_S1x128x512_S1x16x64_0_112_192)
        (ws (iblk m c 1 t) ![0, 128, 192] inb_S1x4224x512_S1x512x64_0_128_192) (ws (iblk m c 2 t) ![0, 128, 192] inb_S1x4224x512_S1x512x64_0_128_192)
        (ms (iblk m c 1 t) 192 inb_S1x4224x512_S1x16x64_0_112_192) (ms (iblk m c 2 t) 192 inb_S1x4224x512_S1x16x64_0_112_192)
        (first (bs (iblk m c 3 t) ![3, 7, 0, 0] inb_S8x14x64x128_S1x1x64x128_3_7_0_0)) (first (bs (iblk m c 3 t) ![3, 9, 0, 0] inb_S8x14x64x128_S1x1x64x128_3_9_0_0)) (first (bs (iblk m c 3 t) ![3, 11, 0, 0] inb_S8x14x64x128_S1x1x64x128_3_11_0_0)) (first (bs (iblk m c 3 t) ![3, 13, 0, 0] inb_S8x14x64x128_S1x1x64x128_3_13_0_0))
        (mbs (iblk m c 4 t) 3 inb_S8x16_S1x16_3_0)⟩,
      ⟨S16x64, attend16 (qs16 (iblk m c 0 t) 112 256 inb_S1x128x512_S1x16x64_0_112_256)
        (ws (iblk m c 1 t) ![0, 128, 256] inb_S1x4224x512_S1x512x64_0_128_256) (ws (iblk m c 2 t) ![0, 128, 256] inb_S1x4224x512_S1x512x64_0_128_256)
        (ms (iblk m c 1 t) 256 inb_S1x4224x512_S1x16x64_0_112_256) (ms (iblk m c 2 t) 256 inb_S1x4224x512_S1x16x64_0_112_256)
        (first (bs (iblk m c 3 t) ![4, 7, 0, 0] inb_S8x14x64x128_S1x1x64x128_4_7_0_0)) (first (bs (iblk m c 3 t) ![4, 9, 0, 0] inb_S8x14x64x128_S1x1x64x128_4_9_0_0)) (first (bs (iblk m c 3 t) ![4, 11, 0, 0] inb_S8x14x64x128_S1x1x64x128_4_11_0_0)) (first (bs (iblk m c 3 t) ![4, 13, 0, 0] inb_S8x14x64x128_S1x1x64x128_4_13_0_0))
        (mbs (iblk m c 4 t) 4 inb_S8x16_S1x16_4_0)⟩,
      ⟨S16x64, attend16 (qs16 (iblk m c 0 t) 112 320 inb_S1x128x512_S1x16x64_0_112_320)
        (ws (iblk m c 1 t) ![0, 128, 320] inb_S1x4224x512_S1x512x64_0_128_320) (ws (iblk m c 2 t) ![0, 128, 320] inb_S1x4224x512_S1x512x64_0_128_320)
        (ms (iblk m c 1 t) 320 inb_S1x4224x512_S1x16x64_0_112_320) (ms (iblk m c 2 t) 320 inb_S1x4224x512_S1x16x64_0_112_320)
        (first (bs (iblk m c 3 t) ![5, 7, 0, 0] inb_S8x14x64x128_S1x1x64x128_5_7_0_0)) (first (bs (iblk m c 3 t) ![5, 9, 0, 0] inb_S8x14x64x128_S1x1x64x128_5_9_0_0)) (first (bs (iblk m c 3 t) ![5, 11, 0, 0] inb_S8x14x64x128_S1x1x64x128_5_11_0_0)) (first (bs (iblk m c 3 t) ![5, 13, 0, 0] inb_S8x14x64x128_S1x1x64x128_5_13_0_0))
        (mbs (iblk m c 4 t) 5 inb_S8x16_S1x16_5_0)⟩,
      ⟨S16x64, attend16 (qs16 (iblk m c 0 t) 112 384 inb_S1x128x512_S1x16x64_0_112_384)
        (ws (iblk m c 1 t) ![0, 128, 384] inb_S1x4224x512_S1x512x64_0_128_384) (ws (iblk m c 2 t) ![0, 128, 384] inb_S1x4224x512_S1x512x64_0_128_384)
        (ms (iblk m c 1 t) 384 inb_S1x4224x512_S1x16x64_0_112_384) (ms (iblk m c 2 t) 384 inb_S1x4224x512_S1x16x64_0_112_384)
        (first (bs (iblk m c 3 t) ![6, 7, 0, 0] inb_S8x14x64x128_S1x1x64x128_6_7_0_0)) (first (bs (iblk m c 3 t) ![6, 9, 0, 0] inb_S8x14x64x128_S1x1x64x128_6_9_0_0)) (first (bs (iblk m c 3 t) ![6, 11, 0, 0] inb_S8x14x64x128_S1x1x64x128_6_11_0_0)) (first (bs (iblk m c 3 t) ![6, 13, 0, 0] inb_S8x14x64x128_S1x1x64x128_6_13_0_0))
        (mbs (iblk m c 4 t) 6 inb_S8x16_S1x16_6_0)⟩,
      ⟨S16x64, attend16 (qs16 (iblk m c 0 t) 112 448 inb_S1x128x512_S1x16x64_0_112_448)
        (ws (iblk m c 1 t) ![0, 128, 448] inb_S1x4224x512_S1x512x64_0_128_448) (ws (iblk m c 2 t) ![0, 128, 448] inb_S1x4224x512_S1x512x64_0_128_448)
        (ms (iblk m c 1 t) 448 inb_S1x4224x512_S1x16x64_0_112_448) (ms (iblk m c 2 t) 448 inb_S1x4224x512_S1x16x64_0_112_448)
        (first (bs (iblk m c 3 t) ![7, 7, 0, 0] inb_S8x14x64x128_S1x1x64x128_7_7_0_0)) (first (bs (iblk m c 3 t) ![7, 9, 0, 0] inb_S8x14x64x128_S1x1x64x128_7_9_0_0)) (first (bs (iblk m c 3 t) ![7, 11, 0, 0] inb_S8x14x64x128_S1x1x64x128_7_11_0_0)) (first (bs (iblk m c 3 t) ![7, 13, 0, 0] inb_S8x14x64x128_S1x1x64x128_7_13_0_0))
        (mbs (iblk m c 4 t) 7 inb_S8x16_S1x16_7_0)⟩] concatenates_S16x64_S16x64_S16x64_S16x64_S16x64_S16x64_S16x64_S16x64_S16x512_d1) bitsLt_bf16_f32) shapeCasts_S16x512_S1x16x512

/-- What the kernel writes at a point of the first kind: 112 zero rows, then the meta queries. -/
theorem out_A (c : Dev nD) (t : Fin cfg0.N) (h0 : t.val % 33 = 0) (h1 : ¬1 ≤ t.val % 33)
    (y : S1x128x512.Idx) :
    outsAt0 m c t.val t.isLt y = if h : (y 1).val < 112 then (0 : EReal)
      else rowA m c t (ix3 0 ⟨(y 1).val - 112, by have : (y 1).val < 128 := (y 1).isLt; omega⟩ (y 2)) := by
  rw [outsAt0_A m c t h0 h1]
  frame_out
  canon_tiles x h using (View.cover_of_tiledBy _ ![1, 16, 512] (by sl_kernel_rfl) y)
  · rw [dif_neg (by omega)]
    have e : (ix3 0 ⟨(y 1).val - 112, by have : (y 1).val < 128 := (y 1).isLt; omega⟩ (y 2) : S1x16x512.Idx) = x := by
      funext a
      match a with
      | ⟨0, _⟩ => exact Fin.ext (by show 0 = (x 0).val; omega)
      | ⟨1, _⟩ => exact Fin.ext (by show (y 1).val - 112 = (x 1).val; omega)
      | ⟨2, _⟩ => exact Fin.ext h2
    rw [e]
    rfl
  · rw [dif_pos (by omega)]
    pointwise [k0_pay2]

/-- What the kernel writes at a point of the second kind: two rows of the grid. -/
theorem out_B (c : Dev nD) (t : Fin cfg0.N) (h0 : ¬t.val % 33 = 0) (h1 : 1 ≤ t.val % 33) (hc : k0_cond2 (grid0.coords t) = 1#1)
    (y : S1x128x512.Idx) :
    outsAt0 m c t.val t.isLt y = if h : (y 1).val < 64 then rowB0 m c t hc (ix3 0 ⟨(y 1).val, h⟩ (y 2))
      else rowB1 m c t hc (ix3 0 ⟨(y 1).val - 64, by have : (y 1).val < 128 := (y 1).isLt; omega⟩ (y 2)) := by
  rw [outsAt0_B m c t h0 h1]
  frame_out
  canon_tiles x h
  · rw [dif_neg (by omega)]
    have e : (ix3 0 ⟨(y 1).val - 64, by have : (y 1).val < 128 := (y 1).isLt; omega⟩ (y 2) : S1x64x512.Idx) = x := by
      funext a
      match a with
      | ⟨0, _⟩ => exact Fin.ext (by show 0 = (x 0).val; omega)
      | ⟨1, _⟩ => exact Fin.ext (by show (y 1).val - 64 = (x 1).val; omega)
      | ⟨2, _⟩ => exact Fin.ext h2
    rw [e]
    rfl
  · rw [dif_pos (by omega)]
    have e : (ix3 0 ⟨(y 1).val, by omega⟩ (y 2) : S1x64x512.Idx) = x := by
      funext a
      match a with
      | ⟨0, _⟩ => exact Fin.ext (by show 0 = (x 0).val; omega)
      | ⟨1, _⟩ => exact Fin.ext h1
      | ⟨2, _⟩ => exact Fin.ext h2
    rw [e]
    rfl

end Cert.NaKernelIdeal.Block
end
-- ==== Proof.NaRef.lean ====
module

public import proofs.«01_k».proof.Proof.Gen.NaReferenceIdeal.Run
public import proofs.«01_k».proof.Proof.NaMath
public import proofs.«01_k».proof.Proof.WinRef
public import Idealize.ShloMosaic.Lib.Pointwise
public import Idealize.ShloMosaic.Lib.Tactic

@[expose] public section

set_option maxRecDepth 16384

noncomputable section

namespace Cert.NaReferenceIdeal.Row

open Cert.NaReferenceIdeal Idealize.ShloMosaic Idealize.ShloMosaic.TcCoe Idealize.SL.Sem
open Cert.NaReferenceIdeal.Facts Cert.NaReferenceIdeal.Gen

variable (q k v : FVec Ideal S8x4224x512 .bf16) (rpb : FVec Ideal S8x15x31 .f32) (mb : FVec Ideal S8x16 .f32)

/-- The biases by row difference and columns. -/
def table  : FVec Ideal S8x15x64x64 .f32 :=
  (select (broadcastInDim S8x15x64x64 ![0, 1, 2, 3] bcast_S1x1x64x64_S8x15x64x64_0_1_2_3 (broadcastInDim S1x1x64x64 ![2, 3] bcast_S64x64_S1x1x64x64_2_3 ((fun i => lit0 (S64x64.rowMajor i))))) (Host.gather gather_S8x15x31_S64x64x1_S8x15x64x64_01_2_n_n_2_2_8151 rpb (broadcastInDim S64x64x1 ![0, 1] bcast_S64x64_S64x64x1_0_1 (select (constantI S64x64 1 0#1) (addi ((fun i => lit1 (S64x64.rowMajor i))) (broadcastInDim S64x64 ![] bcast_S_S64x64 (constantI S_ 32 31#32))) ((fun i => lit1 (S64x64.rowMajor i)))))) (broadcastInDim S8x15x64x64 ![] bcast_S_S8x15x64x64 (id (constant S_ .f32 0xFF800000#32))))

/-- The key rows each grid row attends to. -/
def idx0  : IVec S64x8x1 32 :=
  (broadcastInDim S64x8x1 ![0, 1] bcast_S64x8_S64x8x1_0_1 (select (cmpi .slt (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![] bcast_S_S64x8 (constantI S_ 32 0#32))) (addi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![] bcast_S_S64x8 (constantI S_ 32 64#32))) (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0))))))

/-- The row differences of those key rows. -/
def idx1  : IVec S64x8x1 32 :=
  (broadcastInDim S64x8x1 ![0, 1] bcast_S64x8_S64x8x1_0_1 (select (cmpi .slt (subi (addi (subi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![0, 1] bcast_S64x1_S64x8_0_1 (broadcastInDim S64x1 ![0] bcast_S64_S64x1_0 (iotaInDim S64 32 0)))) (broadcastInDim S64x8 ![] bcast_S_S64x8 (constantI S_ 32 8#32))) (broadcastInDim S64x8 ![] bcast_S_S64x8 (constantI S_ 32 1#32))) (broadcastInDim S64x8 ![] bcast_S_S64x8 (constantI S_ 32 0#32))) (addi (subi (addi (subi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![0, 1] bcast_S64x1_S64x8_0_1 (broadcastInDim S64x1 ![0] bcast_S64_S64x1_0 (iotaInDim S64 32 0)))) (broadcastInDim S64x8 ![] bcast_S_S64x8 (constantI S_ 32 8#32))) (broadcastInDim S64x8 ![] bcast_S_S64x8 (constantI S_ 32 1#32))) (broadcastInDim S64x8 ![] bcast_S_S64x8 (constantI S_ 32 15#32))) (subi (addi (subi (addi (broadcastInDim S64x8 ![0, 1] bcast_S64x1_S64x8_0_1 (broadcastInDim S64x1 ![0] bcast_S64_S64x1_0 (minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))))) (broadcastInDim S64x8 ![0, 1] bcast_S1x8_S64x8_0_1 (broadcastInDim S1x8 ![1] bcast_S8_S1x8_1 (iotaInDim S8 32 0)))) (broadcastInDim S64x8 ![0, 1] bcast_S64x1_S64x8_0_1 (broadcastInDim S64x1 ![0] bcast_S64_S64x1_0 (iotaInDim S64 32 0)))) (broadcastInDim S64x8 ![] bcast_S_S64x8 (constantI S_ 32 8#32))) (broadcastInDim S64x8 ![] bcast_S_S64x8 (constantI S_ 32 1#32)))))

/-- The grid of an array, by heads. -/
def grid (x : FVec Ideal S8x4224x512 .bf16) : FVec Ideal S8x64x64x8x64 .f32 :=
  (shapeCast _ (shapeCast _ (extf .f32 (extractStridedSlice S8x4096x512 ![0, 128, 0] x slices_S8x4224x512_S8x4096x512_0_128_0) bitsLt_bf16_f32) shapeCasts_S8x4096x512_S8x4096x8x64) shapeCasts_S8x4096x8x64_S8x64x64x8x64)

/-- The rows each grid row attends to. -/
def near (x : FVec Ideal S8x4224x512 .bf16) : FVec Ideal S8x64x8x64x8x64 .f32 :=
  Host.gather gather_S8x64x64x8x64_S64x8x1_S8x64x8x64x8x64_0345_1_n_n_1_2_8164864 (grid x) idx0

/-- The biases of those rows. -/
def apart  : FVec Ideal S8x64x8x64x64 .f32 :=
  Host.gather gather_S8x15x64x64_S64x8x1_S8x64x8x64x64_034_1_n_n_1_2_816464 (table rpb) idx1

/-- The meta queries' scores against the first window. -/
def sA  : FVec Ideal S8x8x16x512 .f32 :=
  (addf (Host.dotGeneral dot_S8x16x8x64_S8x512x8x64_S8x8x16x512_3_3_1_1_02_02 none (shapeCast _ (extf .f32 (extractStridedSlice S8x16x512 ![0, 112, 0] q slices_S8x4224x512_S8x16x512_0_112_0) bitsLt_bf16_f32) shapeCasts_S8x16x512_S8x16x8x64) (shapeCast _ (extf .f32 (extractStridedSlice S8x512x512 ![0, 128, 0] k slices_S8x4224x512_S8x512x512_0_128_0) bitsLt_bf16_f32) shapeCasts_S8x512x512_S8x512x8x64)) (broadcastInDim S8x8x16x512 ![0, 1, 2, 3] bcast_S1x8x1x512_S8x8x16x512_0_1_2_3 (broadcastInDim S1x8x1x512 ![1, 3] bcast_S8x512_S1x8x1x512_1_3 (shapeCast _ (shapeCast _ (extractStridedSlice S8x8x1x64 ![0, 7, 0, 0] (table rpb) slices_S8x15x64x64_S8x8x1x64_0_7_0_0) shapeCasts_S8x8x1x64_S8x8x64) shapeCasts_S8x8x64_S8x512))))

/-- The meta queries' scores against the meta keys. -/
def mA  : FVec Ideal S8x8x16x16 .f32 :=
  (addf (Host.dotGeneral dot_S8x16x8x64_S8x16x8x64_S8x8x16x16_3_3_1_1_02_02 none (shapeCast _ (extf .f32 (extractStridedSlice S8x16x512 ![0, 112, 0] q slices_S8x4224x512_S8x16x512_0_112_0) bitsLt_bf16_f32) shapeCasts_S8x16x512_S8x16x8x64) (shapeCast _ (extf .f32 (extractStridedSlice S8x16x512 ![0, 112, 0] k slices_S8x4224x512_S8x16x512_0_112_0) bitsLt_bf16_f32) shapeCasts_S8x16x512_S8x16x8x64)) (broadcastInDim S8x8x16x16 ![0, 1, 2, 3] bcast_S1x8x1x16_S8x8x16x16_0_1_2_3 (broadcastInDim S1x8x1x16 ![1, 3] bcast_S8x16_S1x8x1x16_1_3 mb)))

/-- All the meta queries' scores. -/
def cA  : FVec Ideal S8x8x16x528 .f32 :=
  (concatenate S8x8x16x528 3 [⟨S8x8x16x512, (sA q k rpb)⟩, ⟨S8x8x16x16, (mA q k mb)⟩] concatenates_S8x8x16x512_S8x8x16x16_S8x8x16x528_d3)

/-- The grid queries' scores against their windows. -/
def sB  : FVec Ideal S8x8x64x64x512 .f32 :=
  (shapeCast _ (addf (Host.dotGeneral dot_S8x64x64x8x64_S8x64x8x64x8x64_S8x8x64x64x8x64_4_5_2_23_031_041 none (grid q) (near k)) (broadcastInDim S8x8x64x64x8x64 ![0, 1, 2, 3, 4, 5] bcast_S1x8x64x64x8x64_S8x8x64x64x8x64_0_1_2_3_4_5 (broadcastInDim S1x8x64x64x8x64 ![1, 2, 3, 4, 5] bcast_S8x64x64x8x64_S1x8x64x64x8x64_1_2_3_4_5 (transpose S8x64x64x8x64 [0, 1, 3, 2, 4] (apart rpb) transposes_S8x64x8x64x64_S8x64x64x8x64_0_1_3_2_4)))) shapeCasts_S8x8x64x64x8x64_S8x8x64x64x512)

/-- The grid queries' scores against the meta keys. -/
def mB  : FVec Ideal S8x8x64x64x16 .f32 :=
  (addf (Host.dotGeneral dot_S8x64x64x8x64_S8x16x8x64_S8x8x64x64x16_4_3_12_1_03_02 none (grid q) (shapeCast _ (extf .f32 (extractStridedSlice S8x16x512 ![0, 112, 0] k slices_S8x4224x512_S8x16x512_0_112_0) bitsLt_bf16_f32) shapeCasts_S8x16x512_S8x16x8x64)) (broadcastInDim S8x8x64x64x16 ![0, 1, 2, 3, 4] bcast_S1x8x1x1x16_S8x8x64x64x16_0_1_2_3_4 (broadcastInDim S1x8x1x1x16 ![1, 4] bcast_S8x16_S1x8x1x1x16_1_4 mb)))

/-- All the grid queries' scores. -/
def cB  : FVec Ideal S8x8x64x64x528 .f32 :=
  (concatenate S8x8x64x64x528 4 [⟨S8x8x64x64x512, (sB q k rpb)⟩, ⟨S8x8x64x64x16, (mB q k mb)⟩] concatenates_S8x8x64x64x512_S8x8x64x64x16_S8x8x64x64x528_d4)

/-- The largest score of the meta queries. -/
def uA (s : FVec Ideal S8x8x16x528 .f32) : FVec Ideal S8x8x16 .f32 :=
  (maximumf (broadcastInDim S8x8x16 ![] bcast_S_S8x8x16 (constant S_ .f32 0xFF800000#32)) (Host.reduce FloatOps.maximumf s (constant S_ .f32 0xFF800000#32) reducesTo_S8x8x16x528_S8x8x16_d3 h_S_))

/-- The exponentials of the meta queries' scores less their maximum. -/
def wA (s : FVec Ideal S8x8x16x528 .f32) (u : FVec Ideal S8x8x16 .f32) : FVec Ideal S8x8x16x528 .f32 :=
  (Host.exp (subf s (broadcastInDim S8x8x16x528 ![0, 1, 2, 3] bcast_S8x8x16x1_S8x8x16x528_0_1_2_3 (broadcastInDim S8x8x16x1 ![0, 1, 2] bcast_S8x8x16_S8x8x16x1_0_1_2 u))))

/-- The softmax of the meta queries from its weights. -/
def pA (w : FVec Ideal S8x8x16x528 .f32) : FVec Ideal S8x8x16x528 .f32 :=
  (Host.divf w (broadcastInDim S8x8x16x528 ![0, 1, 2, 3] bcast_S8x8x16x1_S8x8x16x528_0_1_2_3 (broadcastInDim S8x8x16x1 ![0, 1, 2] bcast_S8x8x16_S8x8x16x1_0_1_2 (Host.reduceAdd w (constant S_ .f32 0x00000000#32) reducesTo_S8x8x16x528_S8x8x16_d3 h_S_))))

/-- The largest score of the grid queries. -/
def uB (s : FVec Ideal S8x8x64x64x528 .f32) : FVec Ideal S8x8x64x64 .f32 :=
  (maximumf (broadcastInDim S8x8x64x64 ![] bcast_S_S8x8x64x64 (constant S_ .f32 0xFF800000#32)) (Host.reduce FloatOps.maximumf s (constant S_ .f32 0xFF800000#32) reducesTo_S8x8x64x64x528_S8x8x64x64_d4 h_S_))

/-- The exponentials of the grid queries' scores less their maximum. -/
def wB (s : FVec Ideal S8x8x64x64x528 .f32) (u : FVec Ideal S8x8x64x64 .f32) : FVec Ideal S8x8x64x64x528 .f32 :=
  (Host.exp (subf s (broadcastInDim S8x8x64x64x528 ![0, 1, 2, 3, 4] bcast_S8x8x64x64x1_S8x8x64x64x528_0_1_2_3_4 (broadcastInDim S8x8x64x64x1 ![0, 1, 2, 3] bcast_S8x8x64x64_S8x8x64x64x1_0_1_2_3 u))))

/-- The softmax of the grid queries from its weights. -/
def pB (w : FVec Ideal S8x8x64x64x528 .f32) : FVec Ideal S8x8x64x64x528 .f32 :=
  (Host.divf w (broadcastInDim S8x8x64x64x528 ![0, 1, 2, 3, 4] bcast_S8x8x64x64x1_S8x8x64x64x528_0_1_2_3_4 (broadcastInDim S8x8x64x64x1 ![0, 1, 2, 3] bcast_S8x8x64x64_S8x8x64x64x1_0_1_2_3 (Host.reduceAdd w (constant S_ .f32 0x00000000#32) reducesTo_S8x8x64x64x528_S8x8x64x64_d4 h_S_))))

/-- The meta queries' results from their softmax. -/
def oA (p : FVec Ideal S8x8x16x528 .f32) : FVec Ideal S8x16x512 .bf16 :=
  (truncf .bf16 (shapeCast _ (addf (transpose S8x16x8x64 [0, 3, 1, 2] (Host.dotGeneral dot_S8x512x8x64_S8x8x16x512_S8x8x64x16_1_3_3_2_02_01 none (shapeCast _ (extf .f32 (extractStridedSlice S8x512x512 ![0, 128, 0] v slices_S8x4224x512_S8x512x512_0_128_0) bitsLt_bf16_f32) shapeCasts_S8x512x512_S8x512x8x64) (extractStridedSlice S8x8x16x512 ![0, 0, 0, 0] p slices_S8x8x16x528_S8x8x16x512_0_0_0_0)) transposes_S8x8x64x16_S8x16x8x64_0_3_1_2) (transpose S8x16x8x64 [0, 3, 1, 2] (Host.dotGeneral dot_S8x16x8x64_S8x8x16x16_S8x8x64x16_1_3_3_2_02_01 none (shapeCast _ (extf .f32 (extractStridedSlice S8x16x512 ![0, 112, 0] v slices_S8x4224x512_S8x16x512_0_112_0) bitsLt_bf16_f32) shapeCasts_S8x16x512_S8x16x8x64) (extractStridedSlice S8x8x16x16 ![0, 0, 0, 512] p slices_S8x8x16x528_S8x8x16x16_0_0_0_512)) transposes_S8x8x64x16_S8x16x8x64_0_3_1_2)) shapeCasts_S8x16x8x64_S8x16x512) bitsLt_bf16_f32)

/-- The grid queries' results from their softmax. -/
def oB (p : FVec Ideal S8x8x64x64x528 .f32) : FVec Ideal S8x4096x512 .bf16 :=
  (truncf .bf16 (shapeCast _ (addf (transpose S8x64x64x8x64 [0, 1, 4, 2, 3] (Host.dotGeneral dot_S8x64x512x8x64_S8x8x64x64x512_S8x64x8x64x64_2_4_4_3_013_021 none (shapeCast _ (near v) shapeCasts_S8x64x8x64x8x64_S8x64x512x8x64) (extractStridedSlice S8x8x64x64x512 ![0, 0, 0, 0, 0] p slices_S8x8x64x64x528_S8x8x64x64x512_0_0_0_0_0)) transposes_S8x64x8x64x64_S8x64x64x8x64_0_1_4_2_3) (transpose S8x64x64x8x64 [0, 3, 4, 1, 2] (Host.dotGeneral dot_S8x16x8x64_S8x8x64x64x16_S8x8x64x64x64_1_4_3_23_02_01 none (shapeCast _ (extf .f32 (extractStridedSlice S8x16x512 ![0, 112, 0] v slices_S8x4224x512_S8x16x512_0_112_0) bitsLt_bf16_f32) shapeCasts_S8x16x512_S8x16x8x64) (extractStridedSlice S8x8x64x64x16 ![0, 0, 0, 0, 512] p slices_S8x8x64x64x528_S8x8x64x64x16_0_0_0_0_512)) transposes_S8x8x64x64x64_S8x64x64x8x64_0_3_4_1_2)) shapeCasts_S8x64x64x8x64_S8x4096x512) bitsLt_bf16_f32)

/-- The rows before the meta rows. -/
def zeros  : FVec Ideal S8x112x512 .bf16 :=
  broadcastInDim S8x112x512 ![] bcast_S_S8x112x512 (constant S_ .bf16 0x0000#16)

/-- The reference's result. -/
def out  : FVec Ideal S8x4224x512 .bf16 :=
  (concatenate S8x4224x512 1 [⟨S8x112x512, zeros⟩, ⟨S8x16x512, ((oA v (pA (wA (cA q k rpb mb) (uA (cA q k rpb mb))))))⟩, ⟨S8x4096x512, ((oB v (pB (wB (cB q k rpb mb) (uB (cB q k rpb mb))))))⟩] concatenates_S8x112x512_S8x16x512_S8x4096x512_S8x4224x512_d1)

theorem res_eq (m : (ℓ : Loc nD τ sig) → Buf (Elt Ideal) ℓ) (c : Dev nD) :
    Value.res_main_v138 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  with_unfolding_all rfl

theorem grid_ix (x : FVec Ideal S8x4224x512 .bf16) (b : Fin 8) (r c : Fin 64) (h : Fin 8) (d : Fin 64) :
    grid x (ix5 b r c h d) = x (ix3 b ⟨128 + (r.val * 64 + c.val), by omega⟩ ⟨h.val * 64 + d.val, by omega⟩) := by
  pointwise [grid]

theorem sA_ix (b h : Fin 8) (i : Fin 16) (x : Fin 512) :
    sA q k rpb (ix4 b h i x) = (∑ d : Fin 64, q (ix3 b ⟨112 + i.val, by omega⟩ ⟨h.val * 64 + d.val, by omega⟩)
        * k (ix3 b ⟨128 + x.val, by omega⟩ ⟨h.val * 64 + d.val, by omega⟩))
      + table rpb (ix4 h ⟨7 + x.val / 64, by omega⟩ 0 ⟨x.val % 64, by omega⟩) := by
  pointwise [sA]

theorem mA_ix (b h : Fin 8) (i x : Fin 16) :
    mA q k mb (ix4 b h i x) = (∑ d : Fin 64, q (ix3 b ⟨112 + i.val, by omega⟩ ⟨h.val * 64 + d.val, by omega⟩)
        * k (ix3 b ⟨112 + x.val, by omega⟩ ⟨h.val * 64 + d.val, by omega⟩)) + mb (ix2 h x) := by
  pointwise [mA]

theorem mB_ix (b h : Fin 8) (r c : Fin 64) (x : Fin 16) :
    mB q k mb (ix5 b h r c x) = (∑ d : Fin 64, q (ix3 b ⟨128 + (r.val * 64 + c.val), by omega⟩ ⟨h.val * 64 + d.val, by omega⟩)
        * k (ix3 b ⟨112 + x.val, by omega⟩ ⟨h.val * 64 + d.val, by omega⟩)) + mb (ix2 h x) := by
  pointwise [mB, grid]

theorem wA_ix (s : FVec Ideal S8x8x16x528 .f32) (u : FVec Ideal S8x8x16 .f32) (b h : Fin 8) (i : Fin 16) (x : Fin 528) :
    wA s u (ix4 b h i x) = Ideal.exp (s (ix4 b h i x) - u (ix3 b h i)) := by
  pointwise [wA]

theorem wB_ix (s : FVec Ideal S8x8x64x64x528 .f32) (u : FVec Ideal S8x8x64x64 .f32) (b h : Fin 8) (r c : Fin 64) (x : Fin 528) :
    wB s u (ix5 b h r c x) = Ideal.exp (s (ix5 b h r c x) - u (ix4 b h r c)) := by
  pointwise [wB]

theorem pA_ix (w : FVec Ideal S8x8x16x528 .f32) (b h : Fin 8) (i : Fin 16) (x : Fin 528) :
    pA w (ix4 b h i x) = Ideal.div (w (ix4 b h i x)) (∑ y, w (ix4 b h i y)) := by
  pointwise [pA]

theorem pB_ix (w : FVec Ideal S8x8x64x64x528 .f32) (b h : Fin 8) (r c : Fin 64) (x : Fin 528) :
    pB w (ix5 b h r c x) = Ideal.div (w (ix5 b h r c x)) (∑ y, w (ix5 b h r c y)) := by
  pointwise [pB]

theorem oA_ix (p : FVec Ideal S8x8x16x528 .f32) (b : Fin 8) (i : Fin 16) (l : Fin 512) :
    oA v p (ix3 b i l) = (∑ x : Fin 512, v (ix3 b ⟨128 + x.val, by omega⟩ l) * p (ix4 b ⟨l.val / 64, by omega⟩ i ⟨x.val, by omega⟩))
      + ∑ x : Fin 16, v (ix3 b ⟨112 + x.val, by omega⟩ l) * p (ix4 b ⟨l.val / 64, by omega⟩ i ⟨512 + x.val, by omega⟩) := by
  pointwise [oA]

theorem cA_ix (b h : Fin 8) (i : Fin 16) (x : Fin 528) :
    cA q k rpb mb (ix4 b h i x) = if e : x.val < 512 then sA q k rpb (ix4 b h i ⟨x.val, e⟩)
      else mA q k mb (ix4 b h i ⟨x.val - 512, by omega⟩) := by
  pointwise [cA]

theorem cB_ix (b h : Fin 8) (r c : Fin 64) (x : Fin 528) :
    cB q k rpb mb (ix5 b h r c x) = if e : x.val < 512 then sB q k rpb (ix5 b h r c ⟨x.val, e⟩)
      else mB q k mb (ix5 b h r c ⟨x.val - 512, by omega⟩) := by
  pointwise [cB]

/-- The first key row of the window of grid row `r`. -/
def lo (r : ℕ) : ℕ := min (r - 4) 56

theorem idx0_ix : ∀ (r : Fin 64) (j : Fin 8), min (idx0 (ix3 r j 0)).toInt.toNat 63 = lo r.val + j.val := by
  decide +kernel

theorem idx1_ix : ∀ (r : Fin 64) (j : Fin 8), min (idx1 (ix3 r j 0)).toInt.toNat 14 = lo r.val + j.val + 7 - r.val := by
  decide +kernel

theorem lo_le (r : Fin 64) (j : Fin 8) : lo r.val + j.val < 64 ∧ lo r.val + j.val + 7 - r.val < 15 ∧ r.val ≤ lo r.val + j.val + 7 := by
  unfold lo; omega

theorem near_ix (x : FVec Ideal S8x4224x512 .bf16) (b : Fin 8) (r : Fin 64) (j : Fin 8) (c : Fin 64) (h : Fin 8) (d : Fin 64) :
    near x (ix6 b r j c h d) = grid x (ix5 b ⟨lo r.val + j.val, (lo_le r j).1⟩ c h d) := by
  unfold near Host.gather
  refine congrArg (grid x) (funext fun a => Fin.ext ?_)
  have e : ∀ k, gather_S8x64x64x8x64_S64x8x1_S8x64x8x64x8x64_0345_1_n_n_1_2_8164864.siIdx (ix6 b r j c h d) k = ix3 r j 0 := by
    intro k
    funext a
    match a with
    | ⟨0, _⟩ => rfl
    | ⟨1, _⟩ => rfl
    | ⟨2, _⟩ => exact Subsingleton.elim (α := Fin 1) _ _
  match a with
  | ⟨0, _⟩ => exact Nat.zero_add _
  | ⟨1, _⟩ =>
    show min (idx0 (gather_S8x64x64x8x64_S64x8x1_S8x64x8x64x8x64_0345_1_n_n_1_2_8164864.siIdx (ix6 b r j c h d) _)).toInt.toNat 63 = lo r.val + j.val
    rw [e, idx0_ix]
  | ⟨2, _⟩ => exact Nat.zero_add _
  | ⟨3, _⟩ => exact Nat.zero_add _
  | ⟨4, _⟩ => exact Nat.zero_add _

theorem apart_gen (X : FVec Ideal S8x15x64x64 .f32) (idx : IVec S64x8x1 32) (h : Fin 8) (r : Fin 64) (j : Fin 8) (c x : Fin 64) (n : Fin 15)
    (hn : min (idx (ix3 r j 0)).toInt.toNat 14 = n.val) :
    Host.gather gather_S8x15x64x64_S64x8x1_S8x64x8x64x64_034_1_n_n_1_2_816464 X idx (ix5 h r j c x) = X (ix4 h n c x) := by
  unfold Host.gather
  refine congrArg X (funext fun a => Fin.ext ?_)
  have e : ∀ k, gather_S8x15x64x64_S64x8x1_S8x64x8x64x64_034_1_n_n_1_2_816464.siIdx (ix5 h r j c x) k = ix3 r j 0 := by
    intro k
    funext a
    match a with
    | ⟨0, _⟩ => rfl
    | ⟨1, _⟩ => rfl
    | ⟨2, _⟩ => exact Subsingleton.elim (α := Fin 1) _ _
  match a with
  | ⟨0, _⟩ => exact Nat.zero_add _
  | ⟨1, _⟩ =>
    show min (idx (gather_S8x15x64x64_S64x8x1_S8x64x8x64x64_034_1_n_n_1_2_816464.siIdx (ix5 h r j c x) _)).toInt.toNat 14 = n.val
    rw [e, hn]
  | ⟨2, _⟩ => exact Nat.zero_add _
  | ⟨3, _⟩ => exact Nat.zero_add _

theorem apart_ix (h : Fin 8) (r : Fin 64) (j : Fin 8) (c x : Fin 64) :
    apart rpb (ix5 h r j c x) = table rpb (ix4 h ⟨lo r.val + j.val + 7 - r.val, (lo_le r j).2.1⟩ c x) :=
  apart_gen _ _ h r j c x _ (idx1_ix r j)

theorem sB_ix (b h : Fin 8) (r c : Fin 64) (x : Fin 512) :
    sB q k rpb (ix5 b h r c x) = (∑ d : Fin 64, q (ix3 b ⟨128 + (r.val * 64 + c.val), by omega⟩ ⟨h.val * 64 + d.val, by omega⟩)
        * k (ix3 b ⟨128 + (lo r.val * 64 + x.val), by unfold lo; omega⟩ ⟨h.val * 64 + d.val, by omega⟩))
      + table rpb (ix4 h ⟨lo r.val + x.val / 64 + 7 - r.val, (lo_le r ⟨x.val / 64, by omega⟩).2.1⟩ c ⟨x.val % 64, by omega⟩) := by
  pointwise [sB]
  rw [apart_ix]
  refine congrArg₂ (· + ·) (Finset.sum_congr rfl fun d _ => ?_) rfl
  rw [near_ix, grid_ix, grid_ix]
  refine congrArg₂ (· * ·) rfl (congrArg k (congrArg (ix3 b · _) (Fin.ext ?_)))
  show 128 + ((lo r.val + x.val / 64) * 64 + x.val % 64) = 128 + (lo r.val * 64 + x.val)
  omega

theorem oB_ix (p : FVec Ideal S8x8x64x64x528 .f32) (b : Fin 8) (i : Fin 4096) (l : Fin 512) :
    oB v p (ix3 b i l) = (∑ x : Fin 512, v (ix3 b ⟨128 + (lo (i.val / 64) * 64 + x.val), by unfold lo; omega⟩ l)
          * p (ix5 b ⟨l.val / 64, by omega⟩ ⟨i.val / 64, by omega⟩ ⟨i.val % 64, by omega⟩ ⟨x.val, by omega⟩))
      + ∑ x : Fin 16, v (ix3 b ⟨112 + x.val, by omega⟩ l)
          * p (ix5 b ⟨l.val / 64, by omega⟩ ⟨i.val / 64, by omega⟩ ⟨i.val % 64, by omega⟩ ⟨512 + x.val, by omega⟩) := by
  pointwise [oB]
  refine congrArg₂ (· + ·) (Finset.sum_congr rfl fun x _ => congrArg₂ (· * ·) ?_ rfl) rfl
  rw [near_ix, grid_ix]
  refine congrArg v (congrArg₂ (ix3 b) (Fin.ext ?_) (Fin.ext ?_))
  · show 128 + ((lo (i.val / 64) + x.val / 64) * 64 + x.val % 64) = 128 + (lo (i.val / 64) * 64 + x.val)
    omega
  · show l.val / 64 * 64 + l.val % 64 = l.val
    omega

theorem zeros_ix (j : S8x112x512.Idx) : zeros j = (0 : EReal) := by
  pointwise [zeros]

theorem out_ix (b : Fin 8) (i : Fin 4224) (l : Fin 512) : out q k v rpb mb (ix3 b i l) =
    if h : i.val < 112 then (0 : EReal) else if h : i.val - 112 < 16 then oA v (pA (wA (cA q k rpb mb) (uA (cA q k rpb mb)))) (ix3 b ⟨i.val - 112, h⟩ l)
    else oB v (pB (wB (cB q k rpb mb) (uB (cB q k rpb mb)))) (ix3 b ⟨i.val - 112 - 16, by omega⟩ l) := by
  pointwise [out]
  split_ifs <;> first | rfl | exact zeros_ix _

/-- A maximum over the last of four axes from minus infinity, against a floor of minus infinity. -/
theorem max_last {n0 n1 n2 n3 : ℕ} {u : Shape} (s : FVec Ideal ⟨4, ![n0, n1, n2, n3]⟩ .f32) (c : FVec Ideal u .f32)
    (hc : ∀ j, c j = (⊥ : EReal)) (w : FVec Ideal ⟨3, ![n0, n1, n2]⟩ .f32) (hw : ∀ j, w j = (⊥ : EReal))
    (h : (⟨4, ![n0, n1, n2, n3]⟩ : Shape).ReducesTo [3] ⟨3, ![n0, n1, n2]⟩) (hu : 0 < u.numel)
    (a : Fin n0) (b : Fin n1) (d : Fin n2) :
    maximumf w (Host.reduce FloatOps.maximumf s c h hu) (ix3 a b d) = max ⊥ (Finset.univ.sup fun k : Fin n3 => s (ix4 a b d k)) := by
  rw [← WinMath.fold_max]
  refine congrArg₂ max (hw _) ?_
  rw [Host.reduce_eq_fold, Shape.ReducesTo.fold_fiber_r4_a3, hc]
  rfl

/-- The constant minus infinity. -/
theorem low (j : S_.Idx) : (constant S_ .f32 0xFF800000#32 : FVec Ideal S_ .f32) j = (⊥ : EReal) := by
  unfold constant
  exact WinMath.ofBits_neg_inf

theorem uA_ix (s : FVec Ideal S8x8x16x528 .f32) (b h : Fin 8) (i : Fin 16) :
    uA s (ix3 b h i) = max ⊥ (Finset.univ.sup fun k : Fin 528 => s (ix4 b h i k)) := by
  unfold uA
  exact max_last s _ low _ (fun j => low _) _ _ b h i

theorem uB_ix (s : FVec Ideal S8x8x64x64x528 .f32) (b h : Fin 8) (r c : Fin 64) :
    uB s (ix4 b h r c) = max ⊥ (Finset.univ.sup fun k : Fin 528 => s (ix5 b h r c k)) := by
  unfold uB
  exact Cert.WinReferenceIdeal.Row.hostMax_last s _ low _ (fun j => low _) _ _ b h r c

/-- The softmax over 528 scores is the softmax over 512 and 16 of them. -/
theorem soft_cat (f : Fin 528 → EReal) (s : Fin 512 → EReal) (sm : Fin 16 → EReal) (hs : ∀ x : Fin 512, f ⟨x.val, by omega⟩ = s x)
    (hm : ∀ x : Fin 16, f ⟨512 + x.val, by omega⟩ = sm x) (w : Fin 512 → EReal) (wm : Fin 16 → EReal) :
    (∑ x : Fin 512, w x * Ideal.div (Ideal.exp (f ⟨x.val, by omega⟩ - max ⊥ (Finset.univ.sup f))) (∑ y, Ideal.exp (f y - max ⊥ (Finset.univ.sup f))))
      + (∑ x : Fin 16, wm x * Ideal.div (Ideal.exp (f ⟨512 + x.val, by omega⟩ - max ⊥ (Finset.univ.sup f))) (∑ y, Ideal.exp (f y - max ⊥ (Finset.univ.sup f))))
      = NaMath.soft s sm w wm := by
  have e1 : max ⊥ (Finset.univ.sup f) = max (Finset.univ.sup s) (Finset.univ.sup sm) := by
    refine (bot_sup_eq _).trans ((NaMath.sup_add (m := 512) (n := 16) f).trans ?_)
    exact congrArg₂ max (congrArg _ (funext hs)) (congrArg _ (funext hm))
  have e2 : ∀ M : EReal, (∑ y, Ideal.exp (f y - M)) = (∑ x, Ideal.exp (s x - M)) + ∑ x, Ideal.exp (sm x - M) := by
    intro M
    refine (Fin.sum_univ_add (a := 512) (b := 16) _).trans ?_
    exact congrArg₂ (· + ·) (Finset.sum_congr rfl fun x _ => by rw [← hs]; rfl) (Finset.sum_congr rfl fun x _ => by rw [← hm]; rfl)
  rw [e1, e2]
  simp only [hs, hm]
  rfl

/-- A meta query's result. -/
theorem rowA (b : Fin 8) (i : Fin 16) (l : Fin 512) :
    oA v (pA (wA (cA q k rpb mb) (uA (cA q k rpb mb)))) (ix3 b i l)
      = NaMath.soft (fun x => sA q k rpb (ix4 b ⟨l.val / 64, by omega⟩ i x)) (fun x => mA q k mb (ix4 b ⟨l.val / 64, by omega⟩ i x))
        (fun x => v (ix3 b ⟨128 + x.val, by omega⟩ l)) (fun x => v (ix3 b ⟨112 + x.val, by omega⟩ l)) := by
  rw [oA_ix]
  simp only [pA_ix, wA_ix, uA_ix]
  refine soft_cat (fun y => cA q k rpb mb (ix4 b ⟨l.val / 64, by omega⟩ i y)) _ _ (fun x => ?_) (fun x => ?_) _ _
  · show cA q k rpb mb (ix4 b ⟨l.val / 64, by omega⟩ i ⟨x.val, by omega⟩) = _
    rw [cA_ix, dif_pos x.isLt]
  · show cA q k rpb mb (ix4 b ⟨l.val / 64, by omega⟩ i ⟨512 + x.val, by omega⟩) = _
    rw [cA_ix, dif_neg (by simp)]
    exact congrArg (mA q k mb) (congrArg (ix4 b _ i) (Fin.ext (Nat.add_sub_cancel_left 512 x.val)))

/-- A grid query's result. -/
theorem rowB (b : Fin 8) (i : Fin 4096) (l : Fin 512) :
    oB v (pB (wB (cB q k rpb mb) (uB (cB q k rpb mb)))) (ix3 b i l)
      = NaMath.soft (fun x => sB q k rpb (ix5 b ⟨l.val / 64, by omega⟩ ⟨i.val / 64, by omega⟩ ⟨i.val % 64, by omega⟩ x))
        (fun x => mB q k mb (ix5 b ⟨l.val / 64, by omega⟩ ⟨i.val / 64, by omega⟩ ⟨i.val % 64, by omega⟩ x))
        (fun x => v (ix3 b ⟨128 + (lo (i.val / 64) * 64 + x.val), by unfold lo; omega⟩ l)) (fun x => v (ix3 b ⟨112 + x.val, by omega⟩ l)) := by
  rw [oB_ix]
  simp only [pB_ix, wB_ix, uB_ix]
  refine soft_cat (fun y => cB q k rpb mb (ix5 b ⟨l.val / 64, by omega⟩ ⟨i.val / 64, by omega⟩ ⟨i.val % 64, by omega⟩ y)) _ _ (fun x => ?_) (fun x => ?_) _ _
  · show cB q k rpb mb (ix5 b ⟨l.val / 64, by omega⟩ ⟨i.val / 64, by omega⟩ ⟨i.val % 64, by omega⟩ ⟨x.val, by omega⟩) = _
    rw [cB_ix, dif_pos x.isLt]
  · show cB q k rpb mb (ix5 b ⟨l.val / 64, by omega⟩ ⟨i.val / 64, by omega⟩ ⟨i.val % 64, by omega⟩ ⟨512 + x.val, by omega⟩) = _
    rw [cB_ix, dif_neg (by simp)]
    exact congrArg (mB q k mb) (congrArg (ix5 b _ _ _) (Fin.ext (Nat.add_sub_cancel_left 512 x.val)))

end Cert.NaReferenceIdeal.Row

end
-- ==== Proof.NaValue.lean ====
module

public import proofs.«01_k».proof.Proof.NaIdealValue
public import proofs.«01_k».proof.Proof.NaRef
public import Idealize.ShloMosaic.Lib.Pointwise
public import Idealize.ShloMosaic.Lib.Pipeline.ValueKit
public import Idealize.ShloMosaic.Lib.Pipeline.Covers
public import Idealize.ShloMosaic.Lib.Tactic

@[expose] public section

set_option maxRecDepth 16384

noncomputable section

namespace Cert.NaKernelIdeal.Value2

open Cert.NaKernelIdeal Cert.NaKernelIdeal.Gen Idealize.ShloMosaic Idealize.ShloMosaic.TcCoe Idealize.SL.Sem
open Idealize.ShloMosaic.Pipeline (Dat)
open Facts
open Cert.NaReferenceIdeal.Row (lo)

variable (m : (ℓ : Loc nD τ sig) → Buf (Elt Ideal) ℓ)

/-- The two grid coordinates of a point: the batch and the row block. -/
theorem coords_facts : ∀ t : Fin cfg0.N, (grid0.coords t 0).val = t.val / 33 ∧ (grid0.coords t 1).val = t.val % 33 := by
  decide +kernel

/-- Which block of its array each window reads or writes at a point. -/
theorem index_facts : ∀ t : Fin cfg0.N,
    ((cfg0.win 0).index t 0 = t.val / 33 ∧ (cfg0.win 0).index t 1 = t.val % 33 ∧ (cfg0.win 0).index t 2 = 0)
    ∧ ((cfg0.win 1).index t 0 = t.val / 33 ∧ (cfg0.win 1).index t 1 = 0 ∧ (cfg0.win 1).index t 2 = 0)
    ∧ ((cfg0.win 2).index t 0 = t.val / 33 ∧ (cfg0.win 2).index t 1 = 0 ∧ (cfg0.win 2).index t 2 = 0)
    ∧ ((cfg0.win 3).index t 0 = 0 ∧ (cfg0.win 3).index t 1 = 0 ∧ (cfg0.win 3).index t 2 = 0 ∧ (cfg0.win 3).index t 3 = 0)
    ∧ ((cfg0.win 4).index t 0 = 0 ∧ (cfg0.win 4).index t 1 = 0)
    ∧ ((cfg0.win 5).index t 0 = t.val / 33 ∧ (cfg0.win 5).index t 1 = t.val % 33 ∧ (cfg0.win 5).index t 2 = 0) := by
  decide +kernel

/-- The number of grid points. -/
theorem N_eq : cfg0.N = 264 := by decide

/-- The block of the queries at a point, by element. -/
theorem iblk0 (c : Dev nD) (t : Fin cfg0.N) (r : Fin 128) (l : Fin 512) (i : S8x4224x512.Idx)
    (h0 : (i 0).val = t.val / 33) (h1 : (i 1).val = t.val % 33 * 128 + r.val) (h2 : (i 2).val = l.val) :
    iblk m c 0 t (ix3 0 r l) = m ((c : Thread nD τ).loc main_arg0) i := by
  obtain ⟨f0, f1, f2⟩ := (index_facts t).1
  blk_simp [iblk]
  show V m c main_arg0 _ = _
  rw [V_main_arg0]
  refine congrArg (m ((c : Thread nD τ).loc main_arg0)) (funext fun a => Fin.ext ?_)
  refine (Pipeline.Window.rect_emb_val (cfg0.win 0) t (ix3 0 r l) a).trans ?_
  match a with
  | ⟨0, _⟩ => show (cfg0.win 0).index t 0 * 1 + 0 = (i 0).val; rw [f0, h0]; omega
  | ⟨1, _⟩ => show (cfg0.win 0).index t 1 * 128 + r.val = (i 1).val; rw [f1, h1]
  | ⟨2, _⟩ => show (cfg0.win 0).index t 2 * 512 + l.val = (i 2).val; rw [f2, h2]; omega

/-- The keys a point reads, by element. -/
theorem iblk1 (c : Dev nD) (t : Fin cfg0.N) (r : Fin 4224) (l : Fin 512) (b : Fin 8) (h0 : b.val = t.val / 33) :
    iblk m c 1 t (ix3 0 r l) = m ((c : Thread nD τ).loc main_arg1) (ix3 b r l) := by
  obtain ⟨f0, f1, f2⟩ := (index_facts t).2.1
  blk_simp [iblk]
  show V m c main_arg1 _ = _
  rw [V_main_arg1]
  refine congrArg (m ((c : Thread nD τ).loc main_arg1)) (funext fun a => Fin.ext ?_)
  refine (Pipeline.Window.rect_emb_val (cfg0.win 1) t (ix3 0 r l) a).trans ?_
  match a with
  | ⟨0, _⟩ => show (cfg0.win 1).index t 0 * 1 + 0 = b.val; rw [f0, h0]; omega
  | ⟨1, _⟩ => show (cfg0.win 1).index t 1 * 4224 + r.val = r.val; rw [f1]; omega
  | ⟨2, _⟩ => show (cfg0.win 1).index t 2 * 512 + l.val = l.val; rw [f2]; omega

/-- The values a point reads, by element. -/
theorem iblk2 (c : Dev nD) (t : Fin cfg0.N) (r : Fin 4224) (l : Fin 512) (b : Fin 8) (h0 : b.val = t.val / 33) :
    iblk m c 2 t (ix3 0 r l) = m ((c : Thread nD τ).loc main_arg2) (ix3 b r l) := by
  obtain ⟨f0, f1, f2⟩ := (index_facts t).2.2.1
  blk_simp [iblk]
  show V m c main_arg2 _ = _
  rw [V_main_arg2]
  refine congrArg (m ((c : Thread nD τ).loc main_arg2)) (funext fun a => Fin.ext ?_)
  refine (Pipeline.Window.rect_emb_val (cfg0.win 2) t (ix3 0 r l) a).trans ?_
  match a with
  | ⟨0, _⟩ => show (cfg0.win 2).index t 0 * 1 + 0 = b.val; rw [f0, h0]; omega
  | ⟨1, _⟩ => show (cfg0.win 2).index t 1 * 4224 + r.val = r.val; rw [f1]; omega
  | ⟨2, _⟩ => show (cfg0.win 2).index t 2 * 512 + l.val = l.val; rw [f2]; omega

/-- The meta biases a point reads, by element. -/
theorem iblk4 (c : Dev nD) (t : Fin cfg0.N) (h : Fin 8) (x : Fin 16) :
    iblk m c 4 t (ix2 h x) = m ((c : Thread nD τ).loc main_arg4) (ix2 h x) := by
  obtain ⟨f0, f1⟩ := (index_facts t).2.2.2.2.1
  blk_simp [iblk]
  show V m c main_arg4 _ = _
  rw [V_main_arg4]
  refine congrArg (m ((c : Thread nD τ).loc main_arg4)) (funext fun a => Fin.ext ?_)
  refine (Pipeline.Window.rect_emb_val (cfg0.win 4) t (ix2 h x) a).trans ?_
  match a with
  | ⟨0, _⟩ => show (cfg0.win 4).index t 0 * 8 + h.val = h.val; rw [f0]; omega
  | ⟨1, _⟩ => show (cfg0.win 4).index t 1 * 16 + x.val = x.val; rw [f1]; omega

/-- The biases by row difference and columns, as the kernel's host program builds them. -/
def ktable (rpb : FVec Ideal S8x15x31 .f32) : FVec Ideal S8x15x64x64 .f32 :=
  select (broadcastInDim S8x15x64x64 ![0, 1, 2, 3] bcast_S1x1x64x64_S8x15x64x64_0_1_2_3 (broadcastInDim S1x1x64x64 ![2, 3] bcast_S64x64_S1x1x64x64_2_3 ((fun i => lit0 (S64x64.rowMajor i))))) (Host.gather gather_S8x15x31_S64x64x1_S8x15x64x64_01_2_n_n_2_2_8151 rpb (broadcastInDim S64x64x1 ![0, 1] bcast_S64x64_S64x64x1_0_1 (select (constantI S64x64 1 0#1) (addi ((fun i => lit1 (S64x64.rowMajor i))) (broadcastInDim S64x64 ![] bcast_S_S64x64 (constantI S_ 32 31#32))) ((fun i => lit1 (S64x64.rowMajor i)))))) (broadcastInDim S8x15x64x64 ![] bcast_S_S8x15x64x64 (id (constant S_ .f32 0xFF800000#32)))

theorem mask_eq : (lit0 : Fin 4096 → BitVec 1) = Cert.NaReferenceIdeal.lit0 := by
  have h : ∀ i : Fin 4096, lit0 i = Cert.NaReferenceIdeal.lit0 i := by decide +kernel
  exact funext h

theorem cols_eq : (lit1 : Fin 4096 → BitVec 32) = Cert.NaReferenceIdeal.lit1 := by
  have h : ∀ i : Fin 4096, lit1 i = Cert.NaReferenceIdeal.lit1 i := by decide +kernel
  exact funext h

variable [Cert.NaReferenceIdeal.Facts]

theorem ktable_eq (rpb : FVec Ideal S8x15x31 .f32) : ktable rpb = Cert.NaReferenceIdeal.Row.table rpb := by
  unfold ktable Cert.NaReferenceIdeal.Row.table
  rw [mask_eq, cols_eq]
  rfl

/-- No bias is plus infinity where the bias parameters are real numbers. -/
theorem table_ne (rpb : FVec Ideal S8x15x31 .f32) (h : ∀ j, ∃ y : ℝ, rpb j = y) (j : S8x15x64x64.Idx) :
    Cert.NaReferenceIdeal.Row.table rpb j ≠ (⊤ : EReal) := by
  unfold Cert.NaReferenceIdeal.Row.table select Scalar.select
  dsimp only
  split
  · obtain ⟨y, hy⟩ := h (GatherDims.operandIdx Cert.NaReferenceIdeal.gather_S8x15x31_S64x64x1_S8x15x64x64_01_2_n_n_2_2_8151 j _)
    exact fun e => EReal.coe_ne_top y (hy.symm.trans e)
  · exact fun e => bot_ne_top ((Cert.NaReferenceIdeal.Row.low (fun a => Fin.elim0 a)).symm.trans e)

/-- The bias array the region finds: two neighbouring row differences side by side. -/
theorem V_v9 (c : Dev nD) (h : Fin 8) (a : Fin 14) (q : Fin 64) (x : Fin 128) :
    V m c main_v9 (ix4 h a q x) = if e : x.val < 64
      then ktable (m ((c : Thread nD τ).loc main_arg3)) (ix4 h ⟨a.val, by omega⟩ q ⟨x.val, e⟩)
      else ktable (m ((c : Thread nD τ).loc main_arg3)) (ix4 h ⟨1 + a.val, by omega⟩ q ⟨x.val - 64, by omega⟩) := by
  have e : (V m c main_v9 : FVec Ideal S8x14x64x128 .f32) = concatenate S8x14x64x128 3 [⟨S8x14x64x64, extractStridedSlice S8x14x64x64 ![0, 0, 0, 0] (ktable (m ((c : Thread nD τ).loc main_arg3))) slices_S8x15x64x64_S8x14x64x64_0_0_0_0⟩, ⟨S8x14x64x64, extractStridedSlice S8x14x64x64 ![0, 1, 0, 0] (ktable (m ((c : Thread nD τ).loc main_arg3))) slices_S8x15x64x64_S8x14x64x64_0_1_0_0⟩] concatenates_S8x14x64x64_S8x14x64x64_S8x14x64x128_d3 := by
    unfold V
    simp only [hostOps0, hostOps0_1, hostOps0_2, List.flatten_cons, List.flatten_nil, List.append_nil, List.cons_append, List.nil_append]
    simp only [StableHlo.TRef.ternary, StableHlo.TRef.unary, StableHlo.TRef.binary, StableHlo.TRef.toBuf, StableHlo.TRef.ofBuf, cast_eq]
    after_results <;> rfl
  rw [e]
  pointwise

/-- The bias block at a point, by element. -/
theorem iblk3 (c : Dev nD) (t : Fin cfg0.N) (h : Fin 8) (a : Fin 14) (q : Fin 64) (x : Fin 128) :
    iblk m c 3 t (ix4 h a q x) = V m c main_v9 (ix4 h a q x) := by
  obtain ⟨f0, f1, f2, f3⟩ := (index_facts t).2.2.2.1
  blk_simp [iblk]
  show V m c main_v9 _ = _
  refine congrArg (V m c main_v9) (funext fun a' => Fin.ext ?_)
  refine (Pipeline.Window.rect_emb_val (cfg0.win 3) t (ix4 h a q x) a').trans ?_
  match a' with
  | ⟨0, _⟩ => show (cfg0.win 3).index t 0 * 8 + h.val = h.val; rw [f0]; omega
  | ⟨1, _⟩ => show (cfg0.win 3).index t 1 * 14 + a.val = a.val; rw [f1]; omega
  | ⟨2, _⟩ => show (cfg0.win 3).index t 2 * 64 + q.val = q.val; rw [f2]; omega
  | ⟨3, _⟩ => show (cfg0.win 3).index t 3 * 128 + x.val = x.val; rw [f3]; omega

/-- The bias block's element for key `x` of a window, where row difference `a` is the first one. -/
theorem bias_ix (c : Dev nD) (t : Fin cfg0.N) (h : Fin 8) (q : Fin 64) (a : Fin 14) (x : Fin 128) (n : Fin 15) (z : Fin 64)
    (hn : n.val = a.val + x.val / 64) (hz : z.val = x.val % 64) :
    iblk m c 3 t (ix4 h a q x) = Cert.NaReferenceIdeal.Row.table (m ((c : Thread nD τ).loc main_arg3)) (ix4 h n q z) := by
  rw [iblk3, V_v9]
  split_ifs with e
  · rw [ktable_eq]
    refine congrArg _ (congrArg₂ (ix4 h · q ·) (Fin.ext ?_) (Fin.ext ?_))
    · simp only; omega
    · simp only; omega
  · rw [ktable_eq]
    refine congrArg _ (congrArg₂ (ix4 h · q ·) (Fin.ext ?_) (Fin.ext ?_))
    · simp only; omega
    · simp only; omega

end Cert.NaKernelIdeal.Value2
end
-- ==== Proof.NaOffsets.lean ====
module

public import proofs.«01_k».proof.Proof.NaIdealValue
public import proofs.«01_k».proof.Proof.NaRef

@[expose] public section

set_option maxRecDepth 16384

noncomputable section

/-! Where the kernel's window of keys and its bias blocks begin at each point, for each of the eight heads. -/

namespace Cert.NaKernelIdeal.Offsets

open Cert.NaKernelIdeal Cert.NaKernelIdeal.Gen Idealize.ShloMosaic
open Cert.NaReferenceIdeal.Row (lo)

theorem offW0 : ∀ t : Fin cfg0.N, 1 ≤ t.val % 33 → ∀ j : Fin 2,
    k0_off1 (grid0.coords t) (BitVec.ofNat 32 j.val) 0 = 0
    ∧ k0_off1 (grid0.coords t) (BitVec.ofNat 32 j.val) 1 = 128 + lo (2 * (t.val % 33 - 1) + j.val) * 64
    ∧ k0_off1 (grid0.coords t) (BitVec.ofNat 32 j.val) 2 = 0 := by
  decide +kernel

theorem offB0 : ∀ t : Fin cfg0.N, 1 ≤ t.val % 33 → ∀ j : Fin 2, ∀ k : Fin 4,
    k0_off2 (grid0.coords t) (BitVec.ofNat 32 j.val) (BitVec.ofNat 32 (2 * k.val)) 0 = 0
    ∧ k0_off2 (grid0.coords t) (BitVec.ofNat 32 j.val) (BitVec.ofNat 32 (2 * k.val)) 1
      = lo (2 * (t.val % 33 - 1) + j.val) + 7 - (2 * (t.val % 33 - 1) + j.val) + 2 * k.val
    ∧ k0_off2 (grid0.coords t) (BitVec.ofNat 32 j.val) (BitVec.ofNat 32 (2 * k.val)) 2 = 0
    ∧ k0_off2 (grid0.coords t) (BitVec.ofNat 32 j.val) (BitVec.ofNat 32 (2 * k.val)) 3 = 0 := by
  decide +kernel

theorem offW1 : ∀ t : Fin cfg0.N, 1 ≤ t.val % 33 → ∀ j : Fin 2,
    k0_off3 (grid0.coords t) (BitVec.ofNat 32 j.val) 0 = 0
    ∧ k0_off3 (grid0.coords t) (BitVec.ofNat 32 j.val) 1 = 128 + lo (2 * (t.val % 33 - 1) + j.val) * 64
    ∧ k0_off3 (grid0.coords t) (BitVec.ofNat 32 j.val) 2 = 64 := by
  decide +kernel

theorem offB1 : ∀ t : Fin cfg0.N, 1 ≤ t.val % 33 → ∀ j : Fin 2, ∀ k : Fin 4,
    k0_off4 (grid0.coords t) (BitVec.ofNat 32 j.val) (BitVec.ofNat 32 (2 * k.val)) 0 = 1
    ∧ k0_off4 (grid0.coords t) (BitVec.ofNat 32 j.val) (BitVec.ofNat 32 (2 * k.val)) 1
      = lo (2 * (t.val % 33 - 1) + j.val) + 7 - (2 * (t.val % 33 - 1) + j.val) + 2 * k.val
    ∧ k0_off4 (grid0.coords t) (BitVec.ofNat 32 j.val) (BitVec.ofNat 32 (2 * k.val)) 2 = 0
    ∧ k0_off4 (grid0.coords t) (BitVec.ofNat 32 j.val) (BitVec.ofNat 32 (2 * k.val)) 3 = 0 := by
  decide +kernel

theorem offW2 : ∀ t : Fin cfg0.N, 1 ≤ t.val % 33 → ∀ j : Fin 2,
    k0_off5 (grid0.coords t) (BitVec.ofNat 32 j.val) 0 = 0
    ∧ k0_off5 (grid0.coords t) (BitVec.ofNat 32 j.val) 1 = 128 + lo (2 * (t.val % 33 - 1) + j.val) * 64
    ∧ k0_off5 (grid0.coords t) (BitVec.ofNat 32 j.val) 2 = 128 := by
  decide +kernel

theorem offB2 : ∀ t : Fin cfg0.N, 1 ≤ t.val % 33 → ∀ j : Fin 2, ∀ k : Fin 4,
    k0_off6 (grid0.coords t) (BitVec.ofNat 32 j.val) (BitVec.ofNat 32 (2 * k.val)) 0 = 2
    ∧ k0_off6 (grid0.coords t) (BitVec.ofNat 32 j.val) (BitVec.ofNat 32 (2 * k.val)) 1
      = lo (2 * (t.val % 33 - 1) + j.val) + 7 - (2 * (t.val % 33 - 1) + j.val) + 2 * k.val
    ∧ k0_off6 (grid0.coords t) (BitVec.ofNat 32 j.val) (BitVec.ofNat 32 (2 * k.val)) 2 = 0
    ∧ k0_off6 (grid0.coords t) (BitVec.ofNat 32 j.val) (BitVec.ofNat 32 (2 * k.val)) 3 = 0 := by
  decide +kernel

theorem offW3 : ∀ t : Fin cfg0.N, 1 ≤ t.val % 33 → ∀ j : Fin 2,
    k0_off7 (grid0.coords t) (BitVec.ofNat 32 j.val) 0 = 0
    ∧ k0_off7 (grid0.coords t) (BitVec.ofNat 32 j.val) 1 = 128 + lo (2 * (t.val % 33 - 1) + j.val) * 64
    ∧ k0_off7 (grid0.coords t) (BitVec.ofNat 32 j.val) 2 = 192 := by
  decide +kernel

theorem offB3 : ∀ t : Fin cfg0.N, 1 ≤ t.val % 33 → ∀ j : Fin 2, ∀ k : Fin 4,
    k0_off8 (grid0.coords t) (BitVec.ofNat 32 j.val) (BitVec.ofNat 32 (2 * k.val)) 0 = 3
    ∧ k0_off8 (grid0.coords t) (BitVec.ofNat 32 j.val) (BitVec.ofNat 32 (2 * k.val)) 1
      = lo (2 * (t.val % 33 - 1) + j.val) + 7 - (2 * (t.val % 33 - 1) + j.val) + 2 * k.val
    ∧ k0_off8 (grid0.coords t) (BitVec.ofNat 32 j.val) (BitVec.ofNat 32 (2 * k.val)) 2 = 0
    ∧ k0_off8 (grid0.coords t) (BitVec.ofNat 32 j.val) (BitVec.ofNat 32 (2 * k.val)) 3 = 0 := by
  decide +kernel

theorem offW4 : ∀ t : Fin cfg0.N, 1 ≤ t.val % 33 → ∀ j : Fin 2,
    k0_off9 (grid0.coords t) (BitVec.ofNat 32 j.val) 0 = 0
    ∧ k0_off9 (grid0.coords t) (BitVec.ofNat 32 j.val) 1 = 128 + lo (2 * (t.val % 33 - 1) + j.val) * 64
    ∧ k0_off9 (grid0.coords t) (BitVec.ofNat 32 j.val) 2 = 256 := by
  decide +kernel

theorem offB4 : ∀ t : Fin cfg0.N, 1 ≤ t.val % 33 → ∀ j : Fin 2, ∀ k : Fin 4,
    k0_off10 (grid0.coords t) (BitVec.ofNat 32 j.val) (BitVec.ofNat 32 (2 * k.val)) 0 = 4
    ∧ k0_off10 (grid0.coords t) (BitVec.ofNat 32 j.val) (BitVec.ofNat 32 (2 * k.val)) 1
      = lo (2 * (t.val % 33 - 1) + j.val) + 7 - (2 * (t.val % 33 - 1) + j.val) + 2 * k.val
    ∧ k0_off10 (grid0.coords t) (BitVec.ofNat 32 j.val) (BitVec.ofNat 32 (2 * k.val)) 2 = 0
    ∧ k0_off10 (grid0.coords t) (BitVec.ofNat 32 j.val) (BitVec.ofNat 32 (2 * k.val)) 3 = 0 := by
  decide +kernel

theorem offW5 : ∀ t : Fin cfg0.N, 1 ≤ t.val % 33 → ∀ j : Fin 2,
    k0_off11 (grid0.coords t) (BitVec.ofNat 32 j.val) 0 = 0
    ∧ k0_off11 (grid0.coords t) (BitVec.ofNat 32 j.val) 1 = 128 + lo (2 * (t.val % 33 - 1) + j.val) * 64
    ∧ k0_off11 (grid0.coords t) (BitVec.ofNat 32 j.val) 2 = 320 := by
  decide +kernel

theorem offB5 : ∀ t : Fin cfg0.N, 1 ≤ t.val % 33 → ∀ j : Fin 2, ∀ k : Fin 4,
    k0_off12 (grid0.coords t) (BitVec.ofNat 32 j.val) (BitVec.ofNat 32 (2 * k.val)) 0 = 5
    ∧ k0_off12 (grid0.coords t) (BitVec.ofNat 32 j.val) (BitVec.ofNat 32 (2 * k.val)) 1
      = lo (2 * (t.val % 33 - 1) + j.val) + 7 - (2 * (t.val % 33 - 1) + j.val) + 2 * k.val
    ∧ k0_off12 (grid0.coords t) (BitVec.ofNat 32 j.val) (BitVec.ofNat 32 (2 * k.val)) 2 = 0
    ∧ k0_off12 (grid0.coords t) (BitVec.ofNat 32 j.val) (BitVec.ofNat 32 (2 * k.val)) 3 = 0 := by
  decide +kernel

theorem offW6 : ∀ t : Fin cfg0.N, 1 ≤ t.val % 33 → ∀ j : Fin 2,
    k0_off13 (grid0.coords t) (BitVec.ofNat 32 j.val) 0 = 0
    ∧ k0_off13 (grid0.coords t) (BitVec.ofNat 32 j.val) 1 = 128 + lo (2 * (t.val % 33 - 1) + j.val) * 64
    ∧ k0_off13 (grid0.coords t) (BitVec.ofNat 32 j.val) 2 = 384 := by
  decide +kernel

theorem offB6 : ∀ t : Fin cfg0.N, 1 ≤ t.val % 33 → ∀ j : Fin 2, ∀ k : Fin 4,
    k0_off14 (grid0.coords t) (BitVec.ofNat 32 j.val) (BitVec.ofNat 32 (2 * k.val)) 0 = 6
    ∧ k0_off14 (grid0.coords t) (BitVec.ofNat 32 j.val) (BitVec.ofNat 32 (2 * k.val)) 1
      = lo (2 * (t.val % 33 - 1) + j.val) + 7 - (2 * (t.val % 33 - 1) + j.val) + 2 * k.val
    ∧ k0_off14 (grid0.coords t) (BitVec.ofNat 32 j.val) (BitVec.ofNat 32 (2 * k.val)) 2 = 0
    ∧ k0_off14 (grid0.coords t) (BitVec.ofNat 32 j.val) (BitVec.ofNat 32 (2 * k.val)) 3 = 0 := by
  decide +kernel

theorem offW7 : ∀ t : Fin cfg0.N, 1 ≤ t.val % 33 → ∀ j : Fin 2,
    k0_off15 (grid0.coords t) (BitVec.ofNat 32 j.val) 0 = 0
    ∧ k0_off15 (grid0.coords t) (BitVec.ofNat 32 j.val) 1 = 128 + lo (2 * (t.val % 33 - 1) + j.val) * 64
    ∧ k0_off15 (grid0.coords t) (BitVec.ofNat 32 j.val) 2 = 448 := by
  decide +kernel

theorem offB7 : ∀ t : Fin cfg0.N, 1 ≤ t.val % 33 → ∀ j : Fin 2, ∀ k : Fin 4,
    k0_off16 (grid0.coords t) (BitVec.ofNat 32 j.val) (BitVec.ofNat 32 (2 * k.val)) 0 = 7
    ∧ k0_off16 (grid0.coords t) (BitVec.ofNat 32 j.val) (BitVec.ofNat 32 (2 * k.val)) 1
      = lo (2 * (t.val % 33 - 1) + j.val) + 7 - (2 * (t.val % 33 - 1) + j.val) + 2 * k.val
    ∧ k0_off16 (grid0.coords t) (BitVec.ofNat 32 j.val) (BitVec.ofNat 32 (2 * k.val)) 2 = 0
    ∧ k0_off16 (grid0.coords t) (BitVec.ofNat 32 j.val) (BitVec.ofNat 32 (2 * k.val)) 3 = 0 := by
  decide +kernel

end Cert.NaKernelIdeal.Offsets
end
-- ==== Proof.NaOut.lean ====
module

public import proofs.«01_k».proof.Proof.NaBlock
public import proofs.«01_k».proof.Proof.NaValue
public import proofs.«01_k».proof.Proof.NaOffsets

@[expose] public section

set_option maxRecDepth 16384

noncomputable section

namespace Cert.NaKernelIdeal.Value2

open Cert.NaKernelIdeal Cert.NaKernelIdeal.Gen Cert.NaKernelIdeal.Head Cert.NaKernelIdeal.Block Idealize.ShloMosaic Idealize.ShloMosaic.TcCoe Idealize.SL.Sem
open Idealize.ShloMosaic.Pipeline (Dat)
open Facts
open Cert.NaReferenceIdeal.Row (lo table)

variable (m : (ℓ : Loc nD τ sig) → Buf (Elt Ideal) ℓ)

/-- The queries, keys, values and bias parameters a launch starts from. -/
abbrev qA (c : Dev nD) : S8x4224x512.Idx → EReal := m ((c : Thread nD τ).loc main_arg0)
abbrev kA (c : Dev nD) : S8x4224x512.Idx → EReal := m ((c : Thread nD τ).loc main_arg1)
abbrev vA (c : Dev nD) : S8x4224x512.Idx → EReal := m ((c : Thread nD τ).loc main_arg2)
abbrev tA (c : Dev nD) : S8x15x31.Idx → EReal := m ((c : Thread nD τ).loc main_arg3)
abbrev mA (c : Dev nD) : S8x16.Idx → EReal := m ((c : Thread nD τ).loc main_arg4)

variable [Cert.NaReferenceIdeal.Facts]

/-- The reference's attention of what a launch starts from. -/
abbrev goal (c : Dev nD) : S8x4224x512.Idx → EReal :=
  Cert.NaReferenceIdeal.Row.out (qA m c) (kA m c) (vA m c) (tA m c) (mA m c)

theorem lo_bd (R : ℕ) (h : R < 64) : lo R ≤ R ∧ R ≤ lo R + 7 ∧ lo R ≤ 56 := by
  unfold lo; omega

theorem head_lt (l : Fin 512) : l.val / 64 < 8 := by omega

theorem row_lt (i : Fin 4224) : (i.val - 112 - 16) / 64 < 64 := by omega

/-- The reference's row of a grid query. -/
theorem goalB (c : Dev nD) (b : Fin 8) (i : Fin 4224) (l : Fin 512) (R : Fin 64) (q : Fin 64) (hi : i.val = 128 + (R.val * 64 + q.val))
    (g : Fin 8) (hg : l.val / 64 = g.val) :
    goal m c (ix3 b i l) = NaMath.soft
      (fun x : Fin 512 => (∑ e : Fin 64, qA m c (ix3 b i ⟨g.val * 64 + e.val, by omega⟩)
          * kA m c (ix3 b ⟨128 + (lo R.val * 64 + x.val), by unfold lo; omega⟩ ⟨g.val * 64 + e.val, by omega⟩))
        + table (tA m c) (ix4 g ⟨lo R.val + x.val / 64 + 7 - R.val, by unfold lo; omega⟩ q ⟨x.val % 64, by omega⟩))
      (fun x : Fin 16 => (∑ e : Fin 64, qA m c (ix3 b i ⟨g.val * 64 + e.val, by omega⟩)
          * kA m c (ix3 b ⟨112 + x.val, by omega⟩ ⟨g.val * 64 + e.val, by omega⟩)) + mA m c (ix2 g x))
      (fun x : Fin 512 => vA m c (ix3 b ⟨128 + (lo R.val * 64 + x.val), by unfold lo; omega⟩ l))
      (fun x : Fin 16 => vA m c (ix3 b ⟨112 + x.val, by omega⟩ l)) := by
  obtain rfl : g = ⟨l.val / 64, head_lt l⟩ := Fin.ext hg.symm
  have hn : i.val - 112 - 16 = R.val * 64 + q.val := by omega
  obtain rfl : R = ⟨(i.val - 112 - 16) / 64, row_lt i⟩ := Fin.ext (by simp only; omega)
  obtain rfl : q = ⟨(i.val - 112 - 16) % 64, Nat.mod_lt _ (by decide)⟩ := Fin.ext (by simp only at hn ⊢; omega)
  rw [goal, Cert.NaReferenceIdeal.Row.out_ix, dif_neg (by omega), dif_neg (by omega), Cert.NaReferenceIdeal.Row.rowB]
  simp only [Cert.NaReferenceIdeal.Row.sB_ix, Cert.NaReferenceIdeal.Row.mB_ix]
  have e : (⟨128 + ((i.val - 112 - 16) / 64 * 64 + (i.val - 112 - 16) % 64), by omega⟩ : Fin 4224) = i := Fin.ext (by simp only; omega)
  rw [e]

/-- The reference's row of a meta query. -/
theorem goalA (c : Dev nD) (b : Fin 8) (i : Fin 4224) (l : Fin 512) (h0 : 112 ≤ i.val) (h1 : i.val < 128)
    (g : Fin 8) (hg : l.val / 64 = g.val) :
    goal m c (ix3 b i l) = NaMath.soft
      (fun x : Fin 512 => (∑ e : Fin 64, qA m c (ix3 b i ⟨g.val * 64 + e.val, by omega⟩)
          * kA m c (ix3 b ⟨128 + x.val, by omega⟩ ⟨g.val * 64 + e.val, by omega⟩))
        + table (tA m c) (ix4 g ⟨7 + x.val / 64, by omega⟩ 0 ⟨x.val % 64, by omega⟩))
      (fun x : Fin 16 => (∑ e : Fin 64, qA m c (ix3 b i ⟨g.val * 64 + e.val, by omega⟩)
          * kA m c (ix3 b ⟨112 + x.val, by omega⟩ ⟨g.val * 64 + e.val, by omega⟩)) + mA m c (ix2 g x))
      (fun x : Fin 512 => vA m c (ix3 b ⟨128 + x.val, by omega⟩ l))
      (fun x : Fin 16 => vA m c (ix3 b ⟨112 + x.val, by omega⟩ l)) := by
  obtain rfl : g = ⟨l.val / 64, head_lt l⟩ := Fin.ext hg.symm
  rw [goal, Cert.NaReferenceIdeal.Row.out_ix, dif_neg (by omega), dif_pos (by omega), Cert.NaReferenceIdeal.Row.rowA]
  simp only [Cert.NaReferenceIdeal.Row.sA_ix, Cert.NaReferenceIdeal.Row.mA_ix]
  have e : (⟨112 + (i.val - 112), by omega⟩ : Fin 4224) = i := Fin.ext (by simp only; omega)
  rw [e]

/-- One head of one grid row is the reference's attention there. -/
theorem headB (c : Dev nD) (t : Fin cfg0.N) (hq : ∀ i, ∃ y : ℝ, qA m c i = y) (hk : ∀ i, ∃ y : ℝ, kA m c i = y)
    (hT : ∀ j, ∃ y : ℝ, tA m c j = y) (hM : ∀ j, ∃ y : ℝ, mA m c j = y) (h1 : 1 ≤ t.val % 33) (j : Fin 2)
    (r : Fin 64) (l : Fin 512) (d : Fin 64) (g : Fin 8) (ao qo mo : ℕ) (wo : Fin 3 → ℕ) (bo0 bo1 bo2 bo3 : Fin 4 → ℕ)
    (p1 p2 p4 p5 p6 p7 p8 p9)
    (hw : wo 0 = 0 ∧ wo 1 = 128 + lo (2 * (t.val % 33 - 1) + j.val) * 64 ∧ wo 2 = qo)
    (hb0 : bo0 0 = g.val ∧ bo0 1 = lo (2 * (t.val % 33 - 1) + j.val) + 7 - (2 * (t.val % 33 - 1) + j.val) + 2 * (0 : Fin 4).val ∧ bo0 2 = 0 ∧ bo0 3 = 0)
    (hb1 : bo1 0 = g.val ∧ bo1 1 = lo (2 * (t.val % 33 - 1) + j.val) + 7 - (2 * (t.val % 33 - 1) + j.val) + 2 * (1 : Fin 4).val ∧ bo1 2 = 0 ∧ bo1 3 = 0)
    (hb2 : bo2 0 = g.val ∧ bo2 1 = lo (2 * (t.val % 33 - 1) + j.val) + 7 - (2 * (t.val % 33 - 1) + j.val) + 2 * (2 : Fin 4).val ∧ bo2 2 = 0 ∧ bo2 3 = 0)
    (hb3 : bo3 0 = g.val ∧ bo3 1 = lo (2 * (t.val % 33 - 1) + j.val) + 7 - (2 * (t.val % 33 - 1) + j.val) + 2 * (3 : Fin 4).val ∧ bo3 2 = 0 ∧ bo3 3 = 0)
    (hmo : mo = g.val) (hao : ao = j.val * 64) (hqo : qo = g.val * 64) (hl : l.val = qo + d.val)
    (b : Fin 8) (i : Fin 4224) (hb : b.val = t.val / 33) (hi : i.val = t.val % 33 * 128 + (j.val * 64 + r.val)) :
    attend64 (qs64 (iblk m c 0 t) ao qo p1) (ws (iblk m c 1 t) wo p2) (ws (iblk m c 2 t) wo p2) (ms (iblk m c 1 t) qo p4) (ms (iblk m c 2 t) qo p4)
        (bs (iblk m c 3 t) bo0 p5) (bs (iblk m c 3 t) bo1 p6) (bs (iblk m c 3 t) bo2 p7) (bs (iblk m c 3 t) bo3 p8) (mbs (iblk m c 4 t) mo p9) (ix2 r d)
      = goal m c (ix3 b i l) := by
  have ht : t.val < 264 := N_eq ▸ t.isLt
  have hR : 2 * (t.val % 33 - 1) + j.val < 64 := by omega
  obtain ⟨R, hRe⟩ : ∃ R : Fin 64, R.val = 2 * (t.val % 33 - 1) + j.val := ⟨⟨_, hR⟩, rfl⟩
  rw [← hRe] at hw hb0 hb1 hb2 hb3
  have hlo := lo_bd R.val R.isLt
  have hbn : ∀ x : Fin 512, lo R.val + x.val / 64 + 7 - R.val < 15 := fun x => by omega
  rw [goalB m c b i l R r (by omega) g (by omega)]
  refine (attend64_ix _ _ _ _ _ _ _ _ _ _ r d
    (fun e => qA m c (ix3 b i ⟨g.val * 64 + e.val, by omega⟩))
    (fun x e => kA m c (ix3 b ⟨128 + (lo R.val * 64 + x.val), by omega⟩ ⟨g.val * 64 + e.val, by omega⟩))
    (fun x e => vA m c (ix3 b ⟨128 + (lo R.val * 64 + x.val), by omega⟩ ⟨g.val * 64 + e.val, by omega⟩))
    (fun x e => kA m c (ix3 b ⟨112 + x.val, by omega⟩ ⟨g.val * 64 + e.val, by omega⟩))
    (fun x e => vA m c (ix3 b ⟨112 + x.val, by omega⟩ ⟨g.val * 64 + e.val, by omega⟩))
    (fun x => table (tA m c) (ix4 g ⟨lo R.val + x.val / 64 + 7 - R.val, hbn x⟩ r ⟨x.val % 64, by omega⟩))
    (fun x => mA m c (ix2 g x))
    ?a ?b ?c ?d ?e ?f0 ?f1 ?f2 ?f3 ?g (fun e => hq _) (fun x e => hk _) (fun x e => hk _) (fun x => table_ne _ hT _) (fun x => hM _)).trans ?_
  case a =>
    exact fun e => (qs64_ix _ _ _ _ _ _ ⟨j.val * 64 + r.val, by omega⟩ ⟨g.val * 64 + e.val, by omega⟩ (by simp only; omega) (by simp only; omega)).trans
      (iblk0 m c t _ _ (ix3 b i ⟨g.val * 64 + e.val, by omega⟩) hb hi rfl)
  case b =>
    exact fun x e => (ws_ix _ _ _ _ _ ⟨128 + (lo R.val * 64 + x.val), by omega⟩ ⟨g.val * 64 + e.val, by omega⟩ hw.1
      (by rw [hw.2.1]; simp only; omega) (by rw [hw.2.2]; simp only; omega)).trans (iblk1 m c t _ _ b hb)
  case c =>
    exact fun x e => (ws_ix _ _ _ _ _ ⟨128 + (lo R.val * 64 + x.val), by omega⟩ ⟨g.val * 64 + e.val, by omega⟩ hw.1
      (by rw [hw.2.1]; simp only; omega) (by rw [hw.2.2]; simp only; omega)).trans (iblk2 m c t _ _ b hb)
  case d =>
    exact fun x e => (ms_ix _ _ _ _ _ ⟨112 + x.val, by omega⟩ ⟨g.val * 64 + e.val, by omega⟩ rfl (by simp only; omega)).trans (iblk1 m c t _ _ b hb)
  case e =>
    exact fun x e => (ms_ix _ _ _ _ _ ⟨112 + x.val, by omega⟩ ⟨g.val * 64 + e.val, by omega⟩ rfl (by simp only; omega)).trans (iblk2 m c t _ _ b hb)
  case f0 =>
    exact fun x => (bs_ix _ _ _ r x g ⟨lo R.val + 7 - R.val + 0, by omega⟩ hb0.1 hb0.2.1 hb0.2.2.1 hb0.2.2.2).trans
      (bias_ix m c t g r _ x _ _ (by simp only; omega) (by simp only; omega))
  case f1 =>
    exact fun x => (bs_ix _ _ _ r x g ⟨lo R.val + 7 - R.val + 2, by omega⟩ hb1.1 hb1.2.1 hb1.2.2.1 hb1.2.2.2).trans
      (bias_ix m c t g r _ x _ _ (by simp only; omega) (by simp only; omega))
  case f2 =>
    exact fun x => (bs_ix _ _ _ r x g ⟨lo R.val + 7 - R.val + 4, by omega⟩ hb2.1 hb2.2.1 hb2.2.2.1 hb2.2.2.2).trans
      (bias_ix m c t g r _ x _ _ (by simp only; omega) (by simp only; omega))
  case f3 =>
    exact fun x => (bs_ix _ _ _ r x g ⟨lo R.val + 7 - R.val + 6, by omega⟩ hb3.1 hb3.2.1 hb3.2.2.1 hb3.2.2.2).trans
      (bias_ix m c t g r _ x _ _ (by simp only; omega) (by simp only; omega))
  case g => exact fun x => (mbs_ix _ _ _ x g hmo).trans (iblk4 m c t g x)
  have el : (⟨g.val * 64 + d.val, by omega⟩ : Fin 512) = l := Fin.ext (by simp only; omega)
  rw [el]

/-- One head of the meta rows is the reference's attention there. -/
theorem headA (c : Dev nD) (t : Fin cfg0.N) (hq : ∀ i, ∃ y : ℝ, qA m c i = y) (hk : ∀ i, ∃ y : ℝ, kA m c i = y)
    (hT : ∀ j, ∃ y : ℝ, tA m c j = y) (hM : ∀ j, ∃ y : ℝ, mA m c j = y) (h0 : t.val % 33 = 0)
    (r : Fin 16) (l : Fin 512) (d : Fin 64) (g : Fin 8) (qo mo : ℕ) (wo : Fin 3 → ℕ) (bo0 bo1 bo2 bo3 : Fin 4 → ℕ)
    (p1 p2 p4 p5 p6 p7 p8 p9)
    (hw : wo 0 = 0 ∧ wo 1 = 128 ∧ wo 2 = qo)
    (hb0 : bo0 0 = g.val ∧ bo0 1 = 7 ∧ bo0 2 = 0 ∧ bo0 3 = 0) (hb1 : bo1 0 = g.val ∧ bo1 1 = 9 ∧ bo1 2 = 0 ∧ bo1 3 = 0)
    (hb2 : bo2 0 = g.val ∧ bo2 1 = 11 ∧ bo2 2 = 0 ∧ bo2 3 = 0) (hb3 : bo3 0 = g.val ∧ bo3 1 = 13 ∧ bo3 2 = 0 ∧ bo3 3 = 0)
    (hmo : mo = g.val) (hqo : qo = g.val * 64) (hl : l.val = qo + d.val)
    (b : Fin 8) (i : Fin 4224) (hb : b.val = t.val / 33) (hi : i.val = 112 + r.val) :
    attend16 (qs16 (iblk m c 0 t) 112 qo p1) (ws (iblk m c 1 t) wo p2) (ws (iblk m c 2 t) wo p2) (ms (iblk m c 1 t) qo p4) (ms (iblk m c 2 t) qo p4)
        (first (bs (iblk m c 3 t) bo0 p5)) (first (bs (iblk m c 3 t) bo1 p6)) (first (bs (iblk m c 3 t) bo2 p7)) (first (bs (iblk m c 3 t) bo3 p8))
        (mbs (iblk m c 4 t) mo p9) (ix2 r d)
      = goal m c (ix3 b i l) := by
  have ht : t.val < 264 := N_eq ▸ t.isLt
  rw [goalA m c b i l (by omega) (by omega) g (by omega)]
  refine (attend16_ix _ _ _ _ _ _ _ _ _ _ r d
    (fun e => qA m c (ix3 b i ⟨g.val * 64 + e.val, by omega⟩))
    (fun x e => kA m c (ix3 b ⟨128 + x.val, by omega⟩ ⟨g.val * 64 + e.val, by omega⟩))
    (fun x e => vA m c (ix3 b ⟨128 + x.val, by omega⟩ ⟨g.val * 64 + e.val, by omega⟩))
    (fun x e => kA m c (ix3 b ⟨112 + x.val, by omega⟩ ⟨g.val * 64 + e.val, by omega⟩))
    (fun x e => vA m c (ix3 b ⟨112 + x.val, by omega⟩ ⟨g.val * 64 + e.val, by omega⟩))
    (fun x => table (tA m c) (ix4 g ⟨7 + x.val / 64, by omega⟩ 0 ⟨x.val % 64, by omega⟩))
    (fun x => mA m c (ix2 g x))
    ?a ?b ?c ?d ?e ?f0 ?f1 ?f2 ?f3 ?g (fun e => hq _) (fun x e => hk _) (fun x e => hk _) (fun x => table_ne _ hT _) (fun x => hM _)).trans ?_
  case a =>
    exact fun e => (qs16_ix _ _ _ _ _ _ ⟨112 + r.val, by omega⟩ ⟨g.val * 64 + e.val, by omega⟩ rfl (by simp only; omega)).trans
      (iblk0 m c t _ _ (ix3 b i ⟨g.val * 64 + e.val, by omega⟩) hb (by show i.val = t.val % 33 * 128 + (112 + r.val); omega) rfl)
  case b =>
    exact fun x e => (ws_ix _ _ _ _ _ ⟨128 + x.val, by omega⟩ ⟨g.val * 64 + e.val, by omega⟩ hw.1
      (by rw [hw.2.1]) (by rw [hw.2.2]; simp only; omega)).trans (iblk1 m c t _ _ b hb)
  case c =>
    exact fun x e => (ws_ix _ _ _ _ _ ⟨128 + x.val, by omega⟩ ⟨g.val * 64 + e.val, by omega⟩ hw.1
      (by rw [hw.2.1]) (by rw [hw.2.2]; simp only; omega)).trans (iblk2 m c t _ _ b hb)
  case d =>
    exact fun x e => (ms_ix _ _ _ _ _ ⟨112 + x.val, by omega⟩ ⟨g.val * 64 + e.val, by omega⟩ rfl (by simp only; omega)).trans (iblk1 m c t _ _ b hb)
  case e =>
    exact fun x e => (ms_ix _ _ _ _ _ ⟨112 + x.val, by omega⟩ ⟨g.val * 64 + e.val, by omega⟩ rfl (by simp only; omega)).trans (iblk2 m c t _ _ b hb)
  case f0 =>
    exact fun x => (first_ix _ r x).trans ((bs_ix _ _ _ 0 x g ⟨7, by omega⟩ hb0.1 hb0.2.1 hb0.2.2.1 hb0.2.2.2).trans
      (bias_ix m c t g 0 _ x _ _ (by simp only; omega) (by simp only; omega)))
  case f1 =>
    exact fun x => (first_ix _ r x).trans ((bs_ix _ _ _ 0 x g ⟨9, by omega⟩ hb1.1 hb1.2.1 hb1.2.2.1 hb1.2.2.2).trans
      (bias_ix m c t g 0 _ x _ _ (by simp only; omega) (by simp only; omega)))
  case f2 =>
    exact fun x => (first_ix _ r x).trans ((bs_ix _ _ _ 0 x g ⟨11, by omega⟩ hb2.1 hb2.2.1 hb2.2.2.1 hb2.2.2.2).trans
      (bias_ix m c t g 0 _ x _ _ (by simp only; omega) (by simp only; omega)))
  case f3 =>
    exact fun x => (first_ix _ r x).trans ((bs_ix _ _ _ 0 x g ⟨13, by omega⟩ hb3.1 hb3.2.1 hb3.2.2.1 hb3.2.2.2).trans
      (bias_ix m c t g 0 _ x _ _ (by simp only; omega) (by simp only; omega)))
  case g => exact fun x => (mbs_ix _ _ _ x g hmo).trans (iblk4 m c t g x)
  have el : (⟨g.val * 64 + d.val, by omega⟩ : Fin 512) = l := Fin.ext (by simp only; omega)
  rw [el]

/-- What the kernel writes for the first grid row of a point. -/
theorem row0 (c : Dev nD) (t : Fin cfg0.N) (hq : ∀ i, ∃ y : ℝ, qA m c i = y) (hk : ∀ i, ∃ y : ℝ, kA m c i = y)
    (hT : ∀ j, ∃ y : ℝ, tA m c j = y) (hM : ∀ j, ∃ y : ℝ, mA m c j = y) (h1 : 1 ≤ t.val % 33) (hc) (r : Fin 64) (l : Fin 512)
    (b : Fin 8) (i : Fin 4224) (hb : b.val = t.val / 33) (hi : i.val = t.val % 33 * 128 + ((0 : Fin 2).val * 64 + r.val)) :
    rowB0 m c t hc (ix3 0 r l) = goal m c (ix3 b i l) := by
  rw [rowB0, cat64_ix]
  have hl := l.isLt
  split_ifs
  · exact headB m c t hq hk hT hM h1 0 r l _ 0 _ _ _ _ _ _ _ _ _ _ _ _ _ _ _ _ (Offsets.offW0 t h1 0) (Offsets.offB0 t h1 0 0)
      (Offsets.offB0 t h1 0 1) (Offsets.offB0 t h1 0 2) (Offsets.offB0 t h1 0 3) rfl rfl (by omega) (by simp only; omega) b i hb hi
  · exact headB m c t hq hk hT hM h1 0 r l _ 1 _ _ _ _ _ _ _ _ _ _ _ _ _ _ _ _ (Offsets.offW1 t h1 0) (Offsets.offB1 t h1 0 0)
      (Offsets.offB1 t h1 0 1) (Offsets.offB1 t h1 0 2) (Offsets.offB1 t h1 0 3) rfl rfl (by omega) (by simp only; omega) b i hb hi
  · exact headB m c t hq hk hT hM h1 0 r l _ 2 _ _ _ _ _ _ _ _ _ _ _ _ _ _ _ _ (Offsets.offW2 t h1 0) (Offsets.offB2 t h1 0 0)
      (Offsets.offB2 t h1 0 1) (Offsets.offB2 t h1 0 2) (Offsets.offB2 t h1 0 3) rfl rfl (by omega) (by simp only; omega) b i hb hi
  · exact headB m c t hq hk hT hM h1 0 r l _ 3 _ _ _ _ _ _ _ _ _ _ _ _ _ _ _ _ (Offsets.offW3 t h1 0) (Offsets.offB3 t h1 0 0)
      (Offsets.offB3 t h1 0 1) (Offsets.offB3 t h1 0 2) (Offsets.offB3 t h1 0 3) rfl rfl (by omega) (by simp only; omega) b i hb hi
  · exact headB m c t hq hk hT hM h1 0 r l _ 4 _ _ _ _ _ _ _ _ _ _ _ _ _ _ _ _ (Offsets.offW4 t h1 0) (Offsets.offB4 t h1 0 0)
      (Offsets.offB4 t h1 0 1) (Offsets.offB4 t h1 0 2) (Offsets.offB4 t h1 0 3) rfl rfl (by omega) (by simp only; omega) b i hb hi
  · exact headB m c t hq hk hT hM h1 0 r l _ 5 _ _ _ _ _ _ _ _ _ _ _ _ _ _ _ _ (Offsets.offW5 t h1 0) (Offsets.offB5 t h1 0 0)
      (Offsets.offB5 t h1 0 1) (Offsets.offB5 t h1 0 2) (Offsets.offB5 t h1 0 3) rfl rfl (by omega) (by simp only; omega) b i hb hi
  · exact headB m c t hq hk hT hM h1 0 r l _ 6 _ _ _ _ _ _ _ _ _ _ _ _ _ _ _ _ (Offsets.offW6 t h1 0) (Offsets.offB6 t h1 0 0)
      (Offsets.offB6 t h1 0 1) (Offsets.offB6 t h1 0 2) (Offsets.offB6 t h1 0 3) rfl rfl (by omega) (by simp only; omega) b i hb hi
  · exact headB m c t hq hk hT hM h1 0 r l _ 7 _ _ _ _ _ _ _ _ _ _ _ _ _ _ _ _ (Offsets.offW7 t h1 0) (Offsets.offB7 t h1 0 0)
      (Offsets.offB7 t h1 0 1) (Offsets.offB7 t h1 0 2) (Offsets.offB7 t h1 0 3) rfl rfl (by omega) (by simp only; omega) b i hb hi

/-- What the kernel writes for the second grid row of a point. -/
theorem row1 (c : Dev nD) (t : Fin cfg0.N) (hq : ∀ i, ∃ y : ℝ, qA m c i = y) (hk : ∀ i, ∃ y : ℝ, kA m c i = y)
    (hT : ∀ j, ∃ y : ℝ, tA m c j = y) (hM : ∀ j, ∃ y : ℝ, mA m c j = y) (h1 : 1 ≤ t.val % 33) (hc) (r : Fin 64) (l : Fin 512)
    (b : Fin 8) (i : Fin 4224) (hb : b.val = t.val / 33) (hi : i.val = t.val % 33 * 128 + ((1 : Fin 2).val * 64 + r.val)) :
    rowB1 m c t hc (ix3 0 r l) = goal m c (ix3 b i l) := by
  rw [rowB1, cat64_ix]
  have hl := l.isLt
  split_ifs
  · exact headB m c t hq hk hT hM h1 1 r l _ 0 _ _ _ _ _ _ _ _ _ _ _ _ _ _ _ _ (Offsets.offW0 t h1 1) (Offsets.offB0 t h1 1 0)
      (Offsets.offB0 t h1 1 1) (Offsets.offB0 t h1 1 2) (Offsets.offB0 t h1 1 3) rfl rfl (by omega) (by simp only; omega) b i hb hi
  · exact headB m c t hq hk hT hM h1 1 r l _ 1 _ _ _ _ _ _ _ _ _ _ _ _ _ _ _ _ (Offsets.offW1 t h1 1) (Offsets.offB1 t h1 1 0)
      (Offsets.offB1 t h1 1 1) (Offsets.offB1 t h1 1 2) (Offsets.offB1 t h1 1 3) rfl rfl (by omega) (by simp only; omega) b i hb hi
  · exact headB m c t hq hk hT hM h1 1 r l _ 2 _ _ _ _ _ _ _ _ _ _ _ _ _ _ _ _ (Offsets.offW2 t h1 1) (Offsets.offB2 t h1 1 0)
      (Offsets.offB2 t h1 1 1) (Offsets.offB2 t h1 1 2) (Offsets.offB2 t h1 1 3) rfl rfl (by omega) (by simp only; omega) b i hb hi
  · exact headB m c t hq hk hT hM h1 1 r l _ 3 _ _ _ _ _ _ _ _ _ _ _ _ _ _ _ _ (Offsets.offW3 t h1 1) (Offsets.offB3 t h1 1 0)
      (Offsets.offB3 t h1 1 1) (Offsets.offB3 t h1 1 2) (Offsets.offB3 t h1 1 3) rfl rfl (by omega) (by simp only; omega) b i hb hi
  · exact headB m c t hq hk hT hM h1 1 r l _ 4 _ _ _ _ _ _ _ _ _ _ _ _ _ _ _ _ (Offsets.offW4 t h1 1) (Offsets.offB4 t h1 1 0)
      (Offsets.offB4 t h1 1 1) (Offsets.offB4 t h1 1 2) (Offsets.offB4 t h1 1 3) rfl rfl (by omega) (by simp only; omega) b i hb hi
  · exact headB m c t hq hk hT hM h1 1 r l _ 5 _ _ _ _ _ _ _ _ _ _ _ _ _ _ _ _ (Offsets.offW5 t h1 1) (Offsets.offB5 t h1 1 0)
      (Offsets.offB5 t h1 1 1) (Offsets.offB5 t h1 1 2) (Offsets.offB5 t h1 1 3) rfl rfl (by omega) (by simp only; omega) b i hb hi
  · exact headB m c t hq hk hT hM h1 1 r l _ 6 _ _ _ _ _ _ _ _ _ _ _ _ _ _ _ _ (Offsets.offW6 t h1 1) (Offsets.offB6 t h1 1 0)
      (Offsets.offB6 t h1 1 1) (Offsets.offB6 t h1 1 2) (Offsets.offB6 t h1 1 3) rfl rfl (by omega) (by simp only; omega) b i hb hi
  · exact headB m c t hq hk hT hM h1 1 r l _ 7 _ _ _ _ _ _ _ _ _ _ _ _ _ _ _ _ (Offsets.offW7 t h1 1) (Offsets.offB7 t h1 1 0)
      (Offsets.offB7 t h1 1 1) (Offsets.offB7 t h1 1 2) (Offsets.offB7 t h1 1 3) rfl rfl (by omega) (by simp only; omega) b i hb hi

/-- What the kernel writes for the meta queries. -/
theorem rowMeta (c : Dev nD) (t : Fin cfg0.N) (hq : ∀ i, ∃ y : ℝ, qA m c i = y) (hk : ∀ i, ∃ y : ℝ, kA m c i = y)
    (hT : ∀ j, ∃ y : ℝ, tA m c j = y) (hM : ∀ j, ∃ y : ℝ, mA m c j = y) (h0 : t.val % 33 = 0) (r : Fin 16) (l : Fin 512)
    (b : Fin 8) (i : Fin 4224) (hb : b.val = t.val / 33) (hi : i.val = 112 + r.val) :
    rowA m c t (ix3 0 r l) = goal m c (ix3 b i l) := by
  rw [rowA, cat16_ix]
  have hl := l.isLt
  split_ifs
  · exact headA m c t hq hk hT hM h0 r l _ 0 0 0 ![0, 128, 0] ![0, 7, 0, 0] ![0, 9, 0, 0] ![0, 11, 0, 0] ![0, 13, 0, 0] _ _ _ _ _ _ _ _ ⟨rfl, rfl, rfl⟩ ⟨rfl, rfl, rfl, rfl⟩
      ⟨rfl, rfl, rfl, rfl⟩ ⟨rfl, rfl, rfl, rfl⟩ ⟨rfl, rfl, rfl, rfl⟩ rfl (by omega) (by simp only; omega) b i hb hi
  · exact headA m c t hq hk hT hM h0 r l _ 1 64 1 ![0, 128, 64] ![1, 7, 0, 0] ![1, 9, 0, 0] ![1, 11, 0, 0] ![1, 13, 0, 0] _ _ _ _ _ _ _ _ ⟨rfl, rfl, rfl⟩ ⟨rfl, rfl, rfl, rfl⟩
      ⟨rfl, rfl, rfl, rfl⟩ ⟨rfl, rfl, rfl, rfl⟩ ⟨rfl, rfl, rfl, rfl⟩ rfl (by omega) (by simp only; omega) b i hb hi
  · exact headA m c t hq hk hT hM h0 r l _ 2 128 2 ![0, 128, 128] ![2, 7, 0, 0] ![2, 9, 0, 0] ![2, 11, 0, 0] ![2, 13, 0, 0] _ _ _ _ _ _ _ _ ⟨rfl, rfl, rfl⟩ ⟨rfl, rfl, rfl, rfl⟩
      ⟨rfl, rfl, rfl, rfl⟩ ⟨rfl, rfl, rfl, rfl⟩ ⟨rfl, rfl, rfl, rfl⟩ rfl (by omega) (by simp only; omega) b i hb hi
  · exact headA m c t hq hk hT hM h0 r l _ 3 192 3 ![0, 128, 192] ![3, 7, 0, 0] ![3, 9, 0, 0] ![3, 11, 0, 0] ![3, 13, 0, 0] _ _ _ _ _ _ _ _ ⟨rfl, rfl, rfl⟩ ⟨rfl, rfl, rfl, rfl⟩
      ⟨rfl, rfl, rfl, rfl⟩ ⟨rfl, rfl, rfl, rfl⟩ ⟨rfl, rfl, rfl, rfl⟩ rfl (by omega) (by simp only; omega) b i hb hi
  · exact headA m c t hq hk hT hM h0 r l _ 4 256 4 ![0, 128, 256] ![4, 7, 0, 0] ![4, 9, 0, 0] ![4, 11, 0, 0] ![4, 13, 0, 0] _ _ _ _ _ _ _ _ ⟨rfl, rfl, rfl⟩ ⟨rfl, rfl, rfl, rfl⟩
      ⟨rfl, rfl, rfl, rfl⟩ ⟨rfl, rfl, rfl, rfl⟩ ⟨rfl, rfl, rfl, rfl⟩ rfl (by omega) (by simp only; omega) b i hb hi
  · exact headA m c t hq hk hT hM h0 r l _ 5 320 5 ![0, 128, 320] ![5, 7, 0, 0] ![5, 9, 0, 0] ![5, 11, 0, 0] ![5, 13, 0, 0] _ _ _ _ _ _ _ _ ⟨rfl, rfl, rfl⟩ ⟨rfl, rfl, rfl, rfl⟩
      ⟨rfl, rfl, rfl, rfl⟩ ⟨rfl, rfl, rfl, rfl⟩ ⟨rfl, rfl, rfl, rfl⟩ rfl (by omega) (by simp only; omega) b i hb hi
  · exact headA m c t hq hk hT hM h0 r l _ 6 384 6 ![0, 128, 384] ![6, 7, 0, 0] ![6, 9, 0, 0] ![6, 11, 0, 0] ![6, 13, 0, 0] _ _ _ _ _ _ _ _ ⟨rfl, rfl, rfl⟩ ⟨rfl, rfl, rfl, rfl⟩
      ⟨rfl, rfl, rfl, rfl⟩ ⟨rfl, rfl, rfl, rfl⟩ ⟨rfl, rfl, rfl, rfl⟩ rfl (by omega) (by simp only; omega) b i hb hi
  · exact headA m c t hq hk hT hM h0 r l _ 7 448 7 ![0, 128, 448] ![7, 7, 0, 0] ![7, 9, 0, 0] ![7, 11, 0, 0] ![7, 13, 0, 0] _ _ _ _ _ _ _ _ ⟨rfl, rfl, rfl⟩ ⟨rfl, rfl, rfl, rfl⟩
      ⟨rfl, rfl, rfl, rfl⟩ ⟨rfl, rfl, rfl, rfl⟩ ⟨rfl, rfl, rfl, rfl⟩ rfl (by omega) (by simp only; omega) b i hb hi

/-- The block written at a point is the reference's attention there. -/
theorem out_at (c : Dev nD) (t : Fin cfg0.N) (hq : ∀ i, ∃ y : ℝ, qA m c i = y) (hk : ∀ i, ∃ y : ℝ, kA m c i = y)
    (hT : ∀ j, ∃ y : ℝ, tA m c j = y) (hM : ∀ j, ∃ y : ℝ, mA m c j = y) (r : Fin 128) (l : Fin 512)
    (b : Fin 8) (i : Fin 4224) (hb : b.val = t.val / 33) (hi : i.val = t.val % 33 * 128 + r.val) :
    outsAt0 m c t.val t.isLt (ix3 0 r l) = goal m c (ix3 b i l) := by
  by_cases h0 : t.val % 33 = 0
  · refine (out_A m c t h0 (by omega) (ix3 0 r l)).trans ?_
    show (if h : r.val < 112 then (0 : EReal) else rowA m c t (ix3 0 ⟨r.val - 112, by omega⟩ l)) = _
    split_ifs with h
    · rw [goal, Cert.NaReferenceIdeal.Row.out_ix, dif_pos (by omega)]
    · exact rowMeta m c t hq hk hT hM h0 _ l b i hb (by simp only; omega)
  · have h1 : 1 ≤ t.val % 33 := by omega
    have hc : k0_cond2 (grid0.coords t) = 1#1 := (hcond0_1 t).mpr h1
    refine (out_B m c t h0 h1 hc (ix3 0 r l)).trans ?_
    show (if h : r.val < 64 then rowB0 m c t hc (ix3 0 ⟨r.val, h⟩ l) else rowB1 m c t hc (ix3 0 ⟨r.val - 64, by omega⟩ l)) = _
    split_ifs with h
    · exact row0 m c t hq hk hT hM h1 hc _ l b i hb (by simp only [Fin.val_zero]; omega)
    · exact row1 m c t hq hk hT hM h1 hc _ l b i hb (by simp only [Fin.val_one]; omega)

/-- The array the call writes, when every point has been run, is the reference's attention of the arguments. -/
theorem final (c : Dev nD) (hq : ∀ i, ∃ y : ℝ, qA m c i = y) (hk : ∀ i, ∃ y : ℝ, kA m c i = y)
    (hT : ∀ j, ∃ y : ℝ, tA m c j = y) (hM : ∀ j, ∃ y : ℝ, mA m c j = y) :
    (dats m 0 c).arrAt 5 cfg0.N = goal m c := by
  refine (dats m 0 c).arrAt_eq_of_covers 5 _ ((cfg0.win 5).covers_of_indexMap_surj rfl (by decide) fun β => ?_) fun t hf y => ?_
  · have b0 : (β ⟨0, by decide⟩).val < 8 := lt_of_lt_of_eq (β ⟨0, by decide⟩).isLt (by decide : (cfg0.win 5).nblk ⟨0, by decide⟩ = 8)
    have b1 : (β ⟨1, by decide⟩).val < 33 := lt_of_lt_of_eq (β ⟨1, by decide⟩).isLt (by decide : (cfg0.win 5).nblk ⟨1, by decide⟩ = 33)
    have b2 : (β ⟨2, by decide⟩).val < 1 := lt_of_lt_of_eq (β ⟨2, by decide⟩).isLt (by decide : (cfg0.win 5).nblk ⟨2, by decide⟩ = 1)
    have hn : (β ⟨0, by decide⟩).val * 33 + (β ⟨1, by decide⟩).val < cfg0.N := by rw [N_eq]; omega
    obtain ⟨f0, f1, f2⟩ := (index_facts ⟨_, hn⟩).2.2.2.2.2
    refine ⟨grid0.coords ⟨_, hn⟩, fun a => ?_⟩
    match a with
    | ⟨0, _⟩ => exact f0.trans (by simp only; omega)
    | ⟨1, _⟩ => exact f1.trans (by simp only; omega)
    | ⟨2, _⟩ => exact f2.trans (by omega)
  · blk_simp
    rw [after0_5]
    have ht : t.val < 264 := N_eq ▸ t.isLt
    obtain ⟨f0, f1, f2⟩ := (index_facts t).2.2.2.2.2
    idx_vars y
    obtain rfl : y0 = 0 := Subsingleton.elim _ _
    have e : ((View.whole main_v10).slice (win0_5.rect t)).emb (ix3 0 y1 y2)
        = ix3 (⟨t.val / 33, by omega⟩ : Fin 8) (⟨t.val % 33 * 128 + y1.val, by omega⟩ : Fin 4224) y2 := by
      refine funext fun a => Fin.ext ?_
      refine (Pipeline.Window.rect_emb_val (cfg0.win 5) t (ix3 0 y1 y2) a).trans ?_
      match a with
      | ⟨0, _⟩ => show (cfg0.win 5).index t 0 * 1 + 0 = t.val / 33; rw [show (cfg0.win 5).index t 0 = _ from f0]; omega
      | ⟨1, _⟩ => show (cfg0.win 5).index t 1 * 128 + y1.val = t.val % 33 * 128 + y1.val; rw [show (cfg0.win 5).index t 1 = _ from f1]
      | ⟨2, _⟩ => show (cfg0.win 5).index t 2 * 512 + y2.val = y2.val; rw [show (cfg0.win 5).index t 2 = _ from f2]; omega
    rw [e]
    exact out_at m c t hq hk hT hM y1 y2 _ _ rfl rfl

end Cert.NaKernelIdeal.Value2
end
-- ==== Proof.NaClaim.lean ====
module

public import proofs.«01_k».proof.Proof.WinClaim
public import proofs.«01_k».proof.Proof.NaOut
public import proofs.«01_k».proof.Proof.NaBitsFrame
public import proofs.«01_k».proof.Defs
public import Idealize.ShloMosaic.Lib.ReduceAll
public import Idealize.ShloMosaic.Lib.Affine

@[expose] public section

set_option maxRecDepth 16384

noncomputable section

namespace Cert.Proof.NaClaims

open Idealize.ShloMosaic Idealize.ShloMosaic.TcCoe Idealize.SL.Sem

section Decode

open Cert.Pre_na_finite Cert.Pre_na_finite.Facts

open Cert.Proof.WinClaims (real_of_lt)

variable [Cert.Pre_na_finite.Facts]

/-- The precondition says that the queries, the keys and the biases are real numbers. -/
theorem decode (q k v : FVec Ideal S8x4224x512 .bf16) (rpb : FVec Ideal S8x15x31 .f32) (mb : FVec Ideal S8x16 .f32) (j)
    (h : Cert.Pre_na_finite.fn (F := Ideal) q k v rpb mb j = 1#1) :
    (∀ i, ∃ y : ℝ, q i = y) ∧ (∀ i, ∃ y : ℝ, k i = y) ∧ (∀ i, ∃ y : ℝ, rpb i = y) ∧ ∀ i, ∃ y : ℝ, mb i = y := by
  haveI : Subsingleton S_.Idx := ⟨fun a b => funext fun i => i.elim0⟩
  dsimp only [Cert.Pre_na_finite.fn, Cert.Pre_na_finite.fn_part1] at h
  obtain ⟨h, h4⟩ := IntOp.andi_eq_one.1 h
  obtain ⟨h, h3⟩ := IntOp.andi_eq_one.1 h
  obtain ⟨h1, h2⟩ := IntOp.andi_eq_one.1 h
  refine ⟨fun i => real_of_lt _ ?_, fun i => real_of_lt _ ?_, fun i => real_of_lt _ ?_, fun i => real_of_lt _ ?_⟩
  · exact Host.reduce_andi_all _ _ _ _ _ h1 i
  · exact Host.reduce_andi_all _ _ _ _ _ h2 i
  · exact Host.reduce_andi_all _ _ _ _ _ h3 i
  · exact Host.reduce_andi_all _ _ _ _ _ h4 i

end Decode

/-- The kernel's frame over bit values. -/
theorem frame_bits [Cert.NaKernel.Facts] : Cert.quiescent_NaKernel := fun m ρ _ => Cert.NaKernel.Gen.frame m ρ

/-- The kernel's frame over the extended reals. -/
theorem frame_ideal [Cert.NaKernelIdeal.Facts] : Cert.quiescent_NaKernelIdeal := fun m ρ _ => Cert.NaKernelIdeal.Gen.frame m ρ

variable [Cert.Pre_na_finite.Facts] [Cert.NaKernelIdeal.Facts] [Cert.NaReferenceIdeal.Facts]

/-- The kernel's frame where the precondition holds. -/
theorem frame_pre : Cert.quiescent_NaKernelIdeal_pre_na_finite := fun m ρ _ => Cert.NaKernelIdeal.Gen.frame m ρ

/-- The reference ends, and leaves its arguments and every semaphore as it should. -/
theorem frame_ref : Cert.quiescent_NaReferenceIdeal := fun m ρ _ =>
  (θ_run Cert.NaReferenceIdeal.defs _ _).mono (fun r h => ⟨fun c => (h c).2,
      Idealize.ShloMosaic.sem_eq_zero_of_no_sems (by decide) r.2⟩)
    (Cert.NaReferenceIdeal.Value.run (F := Ideal) m ρ)

/-- The same where the precondition holds. -/
theorem frame_ref_pre : Cert.quiescent_NaReferenceIdeal_pre_na_finite := fun m ρ _ => frame_ref m ρ trivial

/-- Over the extended reals the neighbourhood attention kernel and the plain neighbourhood attention end with equal arrays,
    wherever the queries, the keys and the biases are real numbers. -/
theorem algebraic : Cert.algebraic_NaKernelIdeal_NaReferenceIdeal_pre_na_finite := by
  intro m ρ m' ρ' hpre hagree
  refine ⟨fun c => Cert.NaKernelIdeal.Value2.goal m c, ?_, ?_⟩
  · refine (θ_run Cert.NaKernelIdeal.defs _ _).mono (fun _ h c => ?_) (Cert.NaKernelIdeal.Value.run_blocks (F := Ideal) m ρ)
    obtain ⟨hq, hk, hT, hM⟩ := decode _ _ _ _ _ _ (congrFun (hpre c) (fun a => a.elim0))
    exact ⟨(h c).1.trans (Cert.NaKernelIdeal.Value2.final m c hq hk hT hM), (h c).2⟩
  · refine (θ_run Cert.NaReferenceIdeal.defs _ _).mono (fun _ h c => ?_) (Cert.NaReferenceIdeal.Value.run (F := Ideal) m' ρ')
    refine ⟨(h c).1.trans ?_, (h c).2⟩
    rw [Cert.NaReferenceIdeal.Row.res_eq]
    obtain ⟨a0, a1, a2, a3, a4⟩ := hagree c
    rw [a0, a1, a2, a3, a4]

end Cert.Proof.NaClaims

end
-- ==== Proof.lean ====
/-
  The certificate of this directory: what `Cert.Claim` (Defs.lean) says of each program, put together from the modules
  under `Proof/`.
-/
module

public import proofs.«01_k».proof.Defs
public import proofs.«01_k».proof.Proof.WinClaim
public import proofs.«01_k».proof.Proof.OutClaim
public import proofs.«01_k».proof.Proof.FfnClaim
public import proofs.«01_k».proof.Proof.InClaim
public import proofs.«01_k».proof.Proof.FfnSampleClaim
public import proofs.«01_k».proof.Proof.NaClaim
public import proofs.«01_k».proof.Proof.Gen.Pre_win_finite
public import proofs.«01_k».proof.Proof.Gen.Pre_na_finite
public import Idealize.ShloMosaic.Adequacy
public import Idealize.ShloMosaic.Init

@[expose] public section

noncomputable section

namespace Cert.Proof

/-- Every claim of the certificate. -/
theorem claim : Cert.Claim :=
  letI hWinKernel : Cert.WinKernel.Facts := Cert.WinKernel.Gen.facts
  letI hWinKernelIdeal : Cert.WinKernelIdeal.Facts := Cert.WinKernelIdeal.Gen.facts
  letI hWinReferenceIdeal : Cert.WinReferenceIdeal.Facts := Cert.WinReferenceIdeal.Gen.facts
  letI hOutKernel : Cert.OutKernel.Facts := Cert.OutKernel.Gen.facts
  letI hOutKernelIdeal : Cert.OutKernelIdeal.Facts := Cert.OutKernelIdeal.Gen.facts
  letI hOutReferenceIdeal : Cert.OutReferenceIdeal.Facts := Cert.OutReferenceIdeal.Gen.facts
  letI hFfnKernel : Cert.FfnKernel.Facts := Cert.FfnKernel.Gen.facts
  letI hFfnKernelIdeal : Cert.FfnKernelIdeal.Facts := Cert.FfnKernelIdeal.Gen.facts
  letI hFfnReferenceIdeal : Cert.FfnReferenceIdeal.Facts := Cert.FfnReferenceIdeal.Gen.facts
  letI hInKernel : Cert.InKernel.Facts := Cert.InKernel.Gen.facts
  letI hInKernelIdeal : Cert.InKernelIdeal.Facts := Cert.InKernelIdeal.Gen.facts
  letI hInReferenceIdeal : Cert.InReferenceIdeal.Facts := Cert.InReferenceIdeal.Gen.facts
  letI hFfnSampleKernel : Cert.FfnSampleKernel.Facts := Cert.FfnSampleKernel.Gen.facts
  letI hFfnSampleKernelIdeal : Cert.FfnSampleKernelIdeal.Facts := Cert.FfnSampleKernelIdeal.Gen.facts
  letI hFfnSampleReferenceIdeal : Cert.FfnSampleReferenceIdeal.Facts := Cert.FfnSampleReferenceIdeal.Gen.facts
  letI hNaKernel : Cert.NaKernel.Facts := Cert.NaKernel.Gen.facts
  letI hNaKernelIdeal : Cert.NaKernelIdeal.Facts := Cert.NaKernelIdeal.Gen.facts
  letI hNaReferenceIdeal : Cert.NaReferenceIdeal.Facts := Cert.NaReferenceIdeal.Gen.facts
  letI hPre : Cert.Pre_win_finite.Facts := Cert.Pre_win_finite.Gen.facts
  letI hPreNa : Cert.Pre_na_finite.Facts := Cert.Pre_na_finite.Gen.facts
  ⟨hWinKernel, hWinKernelIdeal, hWinReferenceIdeal, hOutKernel, hOutKernelIdeal, hOutReferenceIdeal, hFfnKernel, hFfnKernelIdeal, hFfnReferenceIdeal, hInKernel, hInKernelIdeal, hInReferenceIdeal, hFfnSampleKernel, hFfnSampleKernelIdeal, hFfnSampleReferenceIdeal, hNaKernel, hNaKernelIdeal, hNaReferenceIdeal, hPre, hPreNa, WinClaims.frame_bits, WinClaims.frame_ideal, WinClaims.frame_pre, WinClaims.frame_ref, WinClaims.frame_ref_pre, OutClaims.frame_bits, OutClaims.frame_ideal, OutClaims.frame_ref, FfnClaims.frame_bits, FfnClaims.frame_ideal, FfnClaims.frame_ref, InClaims.frame_bits, InClaims.frame_ideal, InClaims.frame_ref, FfnSampleClaims.frame_bits, FfnSampleClaims.frame_ideal, FfnSampleClaims.frame_ref, NaClaims.frame_bits, NaClaims.frame_ideal, NaClaims.frame_pre, NaClaims.frame_ref, NaClaims.frame_ref_pre, trivial, WinClaims.algebraic, trivial, OutClaims.algebraic, trivial, FfnClaims.algebraic, trivial, InClaims.algebraic, trivial, FfnSampleClaims.algebraic, trivial, NaClaims.algebraic⟩

end Cert.Proof

end
